-- ==== Defs.lean ====
def Pre_DhKernel (m : (ℓ : Loc Cert.DhKernel.nD Cert.DhKernel.τ Cert.DhKernel.sig) → Buf (Elt Bits) ℓ) : Prop :=
  True

def Pre_DhKernelIdeal (m : (ℓ : Loc Cert.DhKernelIdeal.nD Cert.DhKernelIdeal.τ Cert.DhKernelIdeal.sig) → Buf (Elt Ideal) ℓ) : Prop :=
  True

def Pre_DhKernelIdeal_dh_finite [hPre_dh_finite : Cert.Pre_dh_finite.Facts] (m : (ℓ : Loc Cert.DhKernelIdeal.nD Cert.DhKernelIdeal.τ Cert.DhKernelIdeal.sig) → Buf (Elt Ideal) ℓ) : Prop :=
  ∀ c : Dev Cert.DhKernelIdeal.nD,
    (Cert.Pre_dh_finite.fn (F := Ideal) (m ((c.tc : Thread Cert.DhKernelIdeal.nD Cert.DhKernelIdeal.τ).loc Cert.DhKernelIdeal.main_arg0)) (m ((c.tc : Thread Cert.DhKernelIdeal.nD Cert.DhKernelIdeal.τ).loc Cert.DhKernelIdeal.main_arg1)) (m ((c.tc : Thread Cert.DhKernelIdeal.nD Cert.DhKernelIdeal.τ).loc Cert.DhKernelIdeal.main_arg2)) (m ((c.tc : Thread Cert.DhKernelIdeal.nD Cert.DhKernelIdeal.τ).loc Cert.DhKernelIdeal.main_arg3)) (m ((c.tc : Thread Cert.DhKernelIdeal.nD Cert.DhKernelIdeal.τ).loc Cert.DhKernelIdeal.main_arg4)) (m ((c.tc : Thread Cert.DhKernelIdeal.nD Cert.DhKernelIdeal.τ).loc Cert.DhKernelIdeal.main_arg5)) (m ((c.tc : Thread Cert.DhKernelIdeal.nD Cert.DhKernelIdeal.τ).loc Cert.DhKernelIdeal.main_arg6))) = (fun _ => 1#1)

def Pre_DhReferenceIdeal (m : (ℓ : Loc Cert.DhReferenceIdeal.nD Cert.DhReferenceIdeal.τ Cert.DhReferenceIdeal.sig) → Buf (Elt Ideal) ℓ) : Prop :=
  True

def Pre_DhReferenceIdeal_dh_finite [hPre_dh_finite : Cert.Pre_dh_finite.Facts] (m : (ℓ : Loc Cert.DhReferenceIdeal.nD Cert.DhReferenceIdeal.τ Cert.DhReferenceIdeal.sig) → Buf (Elt Ideal) ℓ) : Prop :=
  ∀ c : Dev Cert.DhReferenceIdeal.nD,
    (Cert.Pre_dh_finite.fn (F := Ideal) (m ((c.tc : Thread Cert.DhReferenceIdeal.nD Cert.DhReferenceIdeal.τ).loc Cert.DhReferenceIdeal.main_arg0)) (m ((c.tc : Thread Cert.DhReferenceIdeal.nD Cert.DhReferenceIdeal.τ).loc Cert.DhReferenceIdeal.main_arg1)) (m ((c.tc : Thread Cert.DhReferenceIdeal.nD Cert.DhReferenceIdeal.τ).loc Cert.DhReferenceIdeal.main_arg2)) (m ((c.tc : Thread Cert.DhReferenceIdeal.nD Cert.DhReferenceIdeal.τ).loc Cert.DhReferenceIdeal.main_arg3)) (m ((c.tc : Thread Cert.DhReferenceIdeal.nD Cert.DhReferenceIdeal.τ).loc Cert.DhReferenceIdeal.main_arg4)) (m ((c.tc : Thread Cert.DhReferenceIdeal.nD Cert.DhReferenceIdeal.τ).loc Cert.DhReferenceIdeal.main_arg5)) (m ((c.tc : Thread Cert.DhReferenceIdeal.nD Cert.DhReferenceIdeal.τ).loc Cert.DhReferenceIdeal.main_arg6))) = (fun _ => 1#1)

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeKernelIdeal_merge_finite [hPre_merge_finite : Cert.Pre_merge_finite.Facts] (m : (ℓ : Loc Cert.MergeKernelIdeal.nD Cert.MergeKernelIdeal.τ Cert.MergeKernelIdeal.sig) → Buf (Elt Ideal) ℓ) : Prop :=
  ∀ c : Dev Cert.MergeKernelIdeal.nD,
    (Cert.Pre_merge_finite.fn (F := Ideal) (m ((c.tc : Thread Cert.MergeKernelIdeal.nD Cert.MergeKernelIdeal.τ).loc Cert.MergeKernelIdeal.main_arg0)) (m ((c.tc : Thread Cert.MergeKernelIdeal.nD Cert.MergeKernelIdeal.τ).loc Cert.MergeKernelIdeal.main_arg1)) (m ((c.tc : Thread Cert.MergeKernelIdeal.nD Cert.MergeKernelIdeal.τ).loc Cert.MergeKernelIdeal.main_arg2)) (m ((c.tc : Thread Cert.MergeKernelIdeal.nD Cert.MergeKernelIdeal.τ).loc Cert.MergeKernelIdeal.main_arg3)) (m ((c.tc : Thread Cert.MergeKernelIdeal.nD Cert.MergeKernelIdeal.τ).loc Cert.MergeKernelIdeal.main_arg4)) (m ((c.tc : Thread Cert.MergeKernelIdeal.nD Cert.MergeKernelIdeal.τ).loc Cert.MergeKernelIdeal.main_arg5)) (m ((c.tc : Thread Cert.MergeKernelIdeal.nD Cert.MergeKernelIdeal.τ).loc Cert.MergeKernelIdeal.main_arg6)) (m ((c.tc : Thread Cert.MergeKernelIdeal.nD Cert.MergeKernelIdeal.τ).loc Cert.MergeKernelIdeal.main_arg7)) (m ((c.tc : Thread Cert.MergeKernelIdeal.nD Cert.MergeKernelIdeal.τ).loc Cert.MergeKernelIdeal.main_arg8)) (m ((c.tc : Thread Cert.MergeKernelIdeal.nD Cert.MergeKernelIdeal.τ).loc Cert.MergeKernelIdeal.main_arg9))) = (fun _ => 1#1)

def Pre_MergeReferenceIdeal (m : (ℓ : Loc Cert.MergeReferenceIdeal.nD Cert.MergeReferenceIdeal.τ Cert.MergeReferenceIdeal.sig) → Buf (Elt Ideal) ℓ) : Prop :=
  True

def Pre_MergeReferenceIdeal_merge_finite [hPre_merge_finite : Cert.Pre_merge_finite.Facts] (m : (ℓ : Loc Cert.MergeReferenceIdeal.nD Cert.MergeReferenceIdeal.τ Cert.MergeReferenceIdeal.sig) → Buf (Elt Ideal) ℓ) : Prop :=
  ∀ c : Dev Cert.MergeReferenceIdeal.nD,
    (Cert.Pre_merge_finite.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6)) (m ((c.tc : Thread Cert.MergeReferenceIdeal.nD Cert.MergeReferenceIdeal.τ).loc Cert.MergeReferenceIdeal.main_arg7)) (m ((c.tc : Thread Cert.MergeReferenceIdeal.nD Cert.MergeReferenceIdeal.τ).loc Cert.MergeReferenceIdeal.main_arg8)) (m ((c.tc : Thread Cert.MergeReferenceIdeal.nD Cert.MergeReferenceIdeal.τ).loc Cert.MergeReferenceIdeal.main_arg9))) = (fun _ => 1#1)

def Pre_HgrnFwd (m : (ℓ : Loc Cert.HgrnFwd.nD Cert.HgrnFwd.τ Cert.HgrnFwd.sig) → Buf (Elt Bits) ℓ) : Prop :=
  True

def Pre_HgrnFwdIdeal (m : (ℓ : Loc Cert.HgrnFwdIdeal.nD Cert.HgrnFwdIdeal.τ Cert.HgrnFwdIdeal.sig) → Buf (Elt Ideal) ℓ) : Prop :=
  True

def Pre_HgrnFwdIdeal_hgrn_fwd_pre [hPre_hgrn_fwd_pre : Cert.Pre_hgrn_fwd_pre.Facts] (m : (ℓ : Loc Cert.HgrnFwdIdeal.nD Cert.HgrnFwdIdeal.τ Cert.HgrnFwdIdeal.sig) → Buf (Elt Ideal) ℓ) : Prop :=
  ∀ c : Dev Cert.HgrnFwdIdeal.nD,
    (Cert.Pre_hgrn_fwd_pre.fn (F := Ideal) (m ((c.tc : Thread Cert.HgrnFwdIdeal.nD Cert.HgrnFwdIdeal.τ).loc Cert.HgrnFwdIdeal.main_arg0)) (m ((c.tc : Thread Cert.HgrnFwdIdeal.nD Cert.HgrnFwdIdeal.τ).loc Cert.HgrnFwdIdeal.main_arg1)) (m ((c.tc : Thread Cert.HgrnFwdIdeal.nD Cert.HgrnFwdIdeal.τ).loc Cert.HgrnFwdIdeal.main_arg2))) = (fun _ => 1#1)

def Pre_HgrnFwdReferenceIdeal (m : (ℓ : Loc Cert.HgrnFwdReferenceIdeal.nD Cert.HgrnFwdReferenceIdeal.τ Cert.HgrnFwdReferenceIdeal.sig) → Buf (Elt Ideal) ℓ) : Prop :=
  True

def Pre_HgrnFwdReferenceIdeal_hgrn_fwd_pre [hPre_hgrn_fwd_pre : Cert.Pre_hgrn_fwd_pre.Facts] (m : (ℓ : Loc Cert.HgrnFwdReferenceIdeal.nD Cert.HgrnFwdReferenceIdeal.τ Cert.HgrnFwdReferenceIdeal.sig) → Buf (Elt Ideal) ℓ) : Prop :=
  ∀ c : Dev Cert.HgrnFwdReferenceIdeal.nD,
    (Cert.Pre_hgrn_fwd_pre.fn (F := Ideal) (m ((c.tc : Thread Cert.HgrnFwdReferenceIdeal.nD Cert.HgrnFwdReferenceIdeal.τ).loc Cert.HgrnFwdReferenceIdeal.main_arg0)) (m ((c.tc : Thread Cert.HgrnFwdReferenceIdeal.nD Cert.HgrnFwdReferenceIdeal.τ).loc Cert.HgrnFwdReferenceIdeal.main_arg1)) (m ((c.tc : Thread Cert.HgrnFwdReferenceIdeal.nD Cert.HgrnFwdReferenceIdeal.τ).loc Cert.HgrnFwdReferenceIdeal.main_arg2))) = (fun _ => 1#1)

def Pre_HgrnBwd (m : (ℓ : Loc Cert.HgrnBwd.nD Cert.HgrnBwd.τ Cert.HgrnBwd.sig) → Buf (Elt Bits) ℓ) : Prop :=
  True

def Pre_HgrnBwdIdeal (m : (ℓ : Loc Cert.HgrnBwdIdeal.nD Cert.HgrnBwdIdeal.τ Cert.HgrnBwdIdeal.sig) → Buf (Elt Ideal) ℓ) : Prop :=
  True

def Pre_ModKernel (m : (ℓ : Loc Cert.ModKernel.nD Cert.ModKernel.τ Cert.ModKernel.sig) → Buf (Elt Bits) ℓ) : Prop :=
  True

def Pre_ModKernelIdeal (m : (ℓ : Loc Cert.ModKernelIdeal.nD Cert.ModKernelIdeal.τ Cert.ModKernelIdeal.sig) → Buf (Elt Ideal) ℓ) : Prop :=
  True

def Pre_ModReferenceIdeal (m : (ℓ : Loc Cert.ModReferenceIdeal.nD Cert.ModReferenceIdeal.τ Cert.ModReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_Dw3Kernel (m : (ℓ : Loc Cert.Dw3Kernel.nD Cert.Dw3Kernel.τ Cert.Dw3Kernel.sig) → Buf (Elt Bits) ℓ) : Prop :=
  True

def Pre_Dw3KernelIdeal (m : (ℓ : Loc Cert.Dw3KernelIdeal.nD Cert.Dw3KernelIdeal.τ Cert.Dw3KernelIdeal.sig) → Buf (Elt Ideal) ℓ) : Prop :=
  True

def Pre_Dw3ReferenceIdeal (m : (ℓ : Loc Cert.Dw3ReferenceIdeal.nD Cert.Dw3ReferenceIdeal.τ Cert.Dw3ReferenceIdeal.sig) → Buf (Elt Ideal) ℓ) : Prop :=
  True

def Pre_DwinKernel (m : (ℓ : Loc Cert.DwinKernel.nD Cert.DwinKernel.τ Cert.DwinKernel.sig) → Buf (Elt Bits) ℓ) : Prop :=
  True

def Pre_DwinKernelIdeal (m : (ℓ : Loc Cert.DwinKernelIdeal.nD Cert.DwinKernelIdeal.τ Cert.DwinKernelIdeal.sig) → Buf (Elt Ideal) ℓ) : Prop :=
  True

def Pre_DwinReferenceIdeal (m : (ℓ : Loc Cert.DwinReferenceIdeal.nD Cert.DwinReferenceIdeal.τ Cert.DwinReferenceIdeal.sig) → Buf (Elt Ideal) ℓ) : Prop :=
  True

def Pre_AdaKernel (m : (ℓ : Loc Cert.AdaKernel.nD Cert.AdaKernel.τ Cert.AdaKernel.sig) → Buf (Elt Bits) ℓ) : Prop :=
  True

def Pre_AdaKernelIdeal (m : (ℓ : Loc Cert.AdaKernelIdeal.nD Cert.AdaKernelIdeal.τ Cert.AdaKernelIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def Pre_AdamwKernel (m : (ℓ : Loc Cert.AdamwKernel.nD Cert.AdamwKernel.τ Cert.AdamwKernel.sig) → Buf (Elt Bits) ℓ) : Prop :=
  True

def Pre_AdamwKernelIdeal (m : (ℓ : Loc Cert.AdamwKernelIdeal.nD Cert.AdamwKernelIdeal.τ Cert.AdamwKernelIdeal.sig) → Buf (Elt Ideal) ℓ) : Prop :=
  True

def Pre_AdamwReferenceIdeal (m : (ℓ : Loc Cert.AdamwReferenceIdeal.nD Cert.AdamwReferenceIdeal.τ Cert.AdamwReferenceIdeal.sig) → Buf (Elt Ideal) ℓ) : Prop :=
  True

def Pre_Sum8Kernel (m : (ℓ : Loc Cert.Sum8Kernel.nD Cert.Sum8Kernel.τ Cert.Sum8Kernel.sig) → Buf (Elt Bits) ℓ) : Prop :=
  True

def Pre_Sum8KernelIdeal (m : (ℓ : Loc Cert.Sum8KernelIdeal.nD Cert.Sum8KernelIdeal.τ Cert.Sum8KernelIdeal.sig) → Buf (Elt Ideal) ℓ) : Prop :=
  True

def Pre_Sum8ReferenceIdeal (m : (ℓ : Loc Cert.Sum8ReferenceIdeal.nD Cert.Sum8ReferenceIdeal.τ Cert.Sum8ReferenceIdeal.sig) → Buf (Elt Ideal) ℓ) : Prop :=
  True

def Pre_ManyKernel (m : (ℓ : Loc Cert.ManyKernel.nD Cert.ManyKernel.τ Cert.ManyKernel.sig) → Buf (Elt Bits) ℓ) : Prop :=
  True

def Pre_ManyKernelIdeal (m : (ℓ : Loc Cert.ManyKernelIdeal.nD Cert.ManyKernelIdeal.τ Cert.ManyKernelIdeal.sig) → Buf (Elt Ideal) ℓ) : Prop :=
  True

def Pre_ManyReferenceIdeal (m : (ℓ : Loc Cert.ManyReferenceIdeal.nD Cert.ManyReferenceIdeal.τ Cert.ManyReferenceIdeal.sig) → Buf (Elt Ideal) ℓ) : Prop :=
  True

def Pre_HalfKernel (m : (ℓ : Loc Cert.HalfKernel.nD Cert.HalfKernel.τ Cert.HalfKernel.sig) → Buf (Elt Bits) ℓ) : Prop :=
  True

def Pre_HalfKernelIdeal (m : (ℓ : Loc Cert.HalfKernelIdeal.nD Cert.HalfKernelIdeal.τ Cert.HalfKernelIdeal.sig) → Buf (Elt Ideal) ℓ) : Prop :=
  True

def Pre_HalfReferenceIdeal (m : (ℓ : Loc Cert.HalfReferenceIdeal.nD Cert.HalfReferenceIdeal.τ Cert.HalfReferenceIdeal.sig) → Buf (Elt Ideal) ℓ) : Prop :=
  True

def Pre_CastKernel (m : (ℓ : Loc Cert.CastKernel.nD Cert.CastKernel.τ Cert.CastKernel.sig) → Buf (Elt Bits) ℓ) : Prop :=
  True

def Pre_CastKernelIdeal (m : (ℓ : Loc Cert.CastKernelIdeal.nD Cert.CastKernelIdeal.τ Cert.CastKernelIdeal.sig) → Buf (Elt Ideal) ℓ) : Prop :=
  True

def Pre_CastReferenceIdeal (m : (ℓ : Loc Cert.CastReferenceIdeal.nD Cert.CastReferenceIdeal.τ Cert.CastReferenceIdeal.sig) → Buf (Elt Ideal) ℓ) : Prop :=
  True

def quiescent_DhKernel [hDhKernel : Cert.DhKernel.Facts] : Prop :=
  ∀ (m : (ℓ : Loc Cert.DhKernel.nD Cert.DhKernel.τ Cert.DhKernel.sig) → Buf (Elt Bits) ℓ) (g : Dev Cert.DhKernel.nD → PrngReg), Pre_DhKernel m →
    θ_run (Cert.DhKernel.defs (F := Bits)) (onTc (τ := Cert.DhKernel.τ) (Cert.DhKernel.main (F := Bits))) ⟨m, fun _ => 0, g⟩ (fun r => (∀ c : Dev Cert.DhKernel.nD,
      r.2.mem ((c.tc : Thread Cert.DhKernel.nD Cert.DhKernel.τ).loc Cert.DhKernel.main_arg0) = m ((c.tc : Thread Cert.DhKernel.nD Cert.DhKernel.τ).loc Cert.DhKernel.main_arg0)
      ∧ r.2.mem ((c.tc : Thread Cert.DhKernel.nD Cert.DhKernel.τ).loc Cert.DhKernel.main_arg1) = m ((c.tc : Thread Cert.DhKernel.nD Cert.DhKernel.τ).loc Cert.DhKernel.main_arg1)
      ∧ r.2.mem ((c.tc : Thread Cert.DhKernel.nD Cert.DhKernel.τ).loc Cert.DhKernel.main_arg2) = m ((c.tc : Thread Cert.DhKernel.nD Cert.DhKernel.τ).loc Cert.DhKernel.main_arg2)
      ∧ r.2.mem ((c.tc : Thread Cert.DhKernel.nD Cert.DhKernel.τ).loc Cert.DhKernel.main_arg3) = m ((c.tc : Thread Cert.DhKernel.nD Cert.DhKernel.τ).loc Cert.DhKernel.main_arg3)
      ∧ r.2.mem ((c.tc : Thread Cert.DhKernel.nD Cert.DhKernel.τ).loc Cert.DhKernel.main_arg4) = m ((c.tc : Thread Cert.DhKernel.nD Cert.DhKernel.τ).loc Cert.DhKernel.main_arg4)
      ∧ r.2.mem ((c.tc : Thread Cert.DhKernel.nD Cert.DhKernel.τ).loc Cert.DhKernel.main_arg5) = m ((c.tc : Thread Cert.DhKernel.nD Cert.DhKernel.τ).loc Cert.DhKernel.main_arg5)
      ∧ r.2.mem ((c.tc : Thread Cert.DhKernel.nD Cert.DhKernel.τ).loc Cert.DhKernel.main_arg6) = m ((c.tc : Thread Cert.DhKernel.nD Cert.DhKernel.τ).loc Cert.DhKernel.main_arg6))
      ∧ r.2.sem = fun _ => 0)

def quiescent_DhKernelIdeal [hDhKernelIdeal : Cert.DhKernelIdeal.Facts] : Prop :=
  ∀ (m : (ℓ : Loc Cert.DhKernelIdeal.nD Cert.DhKernelIdeal.τ Cert.DhKernelIdeal.sig) → Buf (Elt Ideal) ℓ) (g : Dev Cert.DhKernelIdeal.nD → PrngReg), Pre_DhKernelIdeal m →
    θ_run (Cert.DhKernelIdeal.defs (F := Ideal)) (onTc (τ := Cert.DhKernelIdeal.τ) (Cert.DhKernelIdeal.main (F := Ideal))) ⟨m, fun _ => 0, g⟩ (fun r => (∀ c : Dev Cert.DhKernelIdeal.nD,
      r.2.mem ((c.tc : Thread Cert.DhKernelIdeal.nD Cert.DhKernelIdeal.τ).loc Cert.DhKernelIdeal.main_arg0) = m ((c.tc : Thread Cert.DhKernelIdeal.nD Cert.DhKernelIdeal.τ).loc Cert.DhKernelIdeal.main_arg0)
      ∧ r.2.mem ((c.tc : Thread Cert.DhKernelIdeal.nD Cert.DhKernelIdeal.τ).loc Cert.DhKernelIdeal.main_arg1) = m ((c.tc : Thread Cert.DhKernelIdeal.nD Cert.DhKernelIdeal.τ).loc Cert.DhKernelIdeal.main_arg1)
      ∧ r.2.mem ((c.tc : Thread Cert.DhKernelIdeal.nD Cert.DhKernelIdeal.τ).loc Cert.DhKernelIdeal.main_arg2) = m ((c.tc : Thread Cert.DhKernelIdeal.nD Cert.DhKernelIdeal.τ).loc Cert.DhKernelIdeal.main_arg2)
      ∧ r.2.mem ((c.tc : Thread Cert.DhKernelIdeal.nD Cert.DhKernelIdeal.τ).loc Cert.DhKernelIdeal.main_arg3) = m ((c.tc : Thread Cert.DhKernelIdeal.nD Cert.DhKernelIdeal.τ).loc Cert.DhKernelIdeal.main_arg3)
      ∧ r.2.mem ((c.tc : Thread Cert.DhKernelIdeal.nD Cert.DhKernelIdeal.τ).loc Cert.DhKernelIdeal.main_arg4) = m ((c.tc : Thread Cert.DhKernelIdeal.nD Cert.DhKernelIdeal.τ).loc Cert.DhKernelIdeal.main_arg4)
      ∧ r.2.mem ((c.tc : Thread Cert.DhKernelIdeal.nD Cert.DhKernelIdeal.τ).loc Cert.DhKernelIdeal.main_arg5) = m ((c.tc : Thread Cert.DhKernelIdeal.nD Cert.DhKernelIdeal.τ).loc Cert.DhKernelIdeal.main_arg5)
      ∧ r.2.mem ((c.tc : Thread Cert.DhKernelIdeal.nD Cert.DhKernelIdeal.τ).loc Cert.DhKernelIdeal.main_arg6) = m ((c.tc : Thread Cert.DhKernelIdeal.nD Cert.DhKernelIdeal.τ).loc Cert.DhKernelIdeal.main_arg6))
      ∧ r.2.sem = fun _ => 0)

def quiescent_DhKernelIdeal_pre_dh_finite [hDhKernelIdeal : Cert.DhKernelIdeal.Facts] [hPre_dh_finite : Cert.Pre_dh_finite.Facts] : Prop :=
  ∀ (m : (ℓ : Loc Cert.DhKernelIdeal.nD Cert.DhKernelIdeal.τ Cert.DhKernelIdeal.sig) → Buf (Elt Ideal) ℓ) (g : Dev Cert.DhKernelIdeal.nD → PrngReg), Pre_DhKernelIdeal_dh_finite m →
    θ_run (Cert.DhKernelIdeal.defs (F := Ideal)) (onTc (τ := Cert.DhKernelIdeal.τ) (Cert.DhKernelIdeal.main (F := Ideal))) ⟨m, fun _ => 0, g⟩ (fun r => (∀ c : Dev Cert.DhKernelIdeal.nD,
      r.2.mem ((c.tc : Thread Cert.DhKernelIdeal.nD Cert.DhKernelIdeal.τ).loc Cert.DhKernelIdeal.main_arg0) = m ((c.tc : Thread Cert.DhKernelIdeal.nD Cert.DhKernelIdeal.τ).loc Cert.DhKernelIdeal.main_arg0)
      ∧ r.2.mem ((c.tc : Thread Cert.DhKernelIdeal.nD Cert.DhKernelIdeal.τ).loc Cert.DhKernelIdeal.main_arg1) = m ((c.tc : Thread Cert.DhKernelIdeal.nD Cert.DhKernelIdeal.τ).loc Cert.DhKernelIdeal.main_arg1)
      ∧ r.2.mem ((c.tc : Thread Cert.DhKernelIdeal.nD Cert.DhKernelIdeal.τ).loc Cert.DhKernelIdeal.main_arg2) = m ((c.tc : Thread Cert.DhKernelIdeal.nD Cert.DhKernelIdeal.τ).loc Cert.DhKernelIdeal.main_arg2)
      ∧ r.2.mem ((c.tc : Thread Cert.DhKernelIdeal.nD Cert.DhKernelIdeal.τ).loc Cert.DhKernelIdeal.main_arg3) = m ((c.tc : Thread Cert.DhKernelIdeal.nD Cert.DhKernelIdeal.τ).loc Cert.DhKernelIdeal.main_arg3)
      ∧ r.2.mem ((c.tc : Thread Cert.DhKernelIdeal.nD Cert.DhKernelIdeal.τ).loc Cert.DhKernelIdeal.main_arg4) = m ((c.tc : Thread Cert.DhKernelIdeal.nD Cert.DhKernelIdeal.τ).loc Cert.DhKernelIdeal.main_arg4)
      ∧ r.2.mem ((c.tc : Thread Cert.DhKernelIdeal.nD Cert.DhKernelIdeal.τ).loc Cert.DhKernelIdeal.main_arg5) = m ((c.tc : Thread Cert.DhKernelIdeal.nD Cert.DhKernelIdeal.τ).loc Cert.DhKernelIdeal.main_arg5)
      ∧ r.2.mem ((c.tc : Thread Cert.DhKernelIdeal.nD Cert.DhKernelIdeal.τ).loc Cert.DhKernelIdeal.main_arg6) = m ((c.tc : Thread Cert.DhKernelIdeal.nD Cert.DhKernelIdeal.τ).loc Cert.DhKernelIdeal.main_arg6))
      ∧ r.2.sem = fun _ => 0)

def quiescent_DhReferenceIdeal [hDhReferenceIdeal : Cert.DhReferenceIdeal.Facts] : Prop :=
  ∀ (m : (ℓ : Loc Cert.DhReferenceIdeal.nD Cert.DhReferenceIdeal.τ Cert.DhReferenceIdeal.sig) → Buf (Elt Ideal) ℓ) (g : Dev Cert.DhReferenceIdeal.nD → PrngReg), Pre_DhReferenceIdeal m →
    θ_run (Cert.DhReferenceIdeal.defs (F := Ideal)) (onTc (τ := Cert.DhReferenceIdeal.τ) (Cert.DhReferenceIdeal.main (F := Ideal))) ⟨m, fun _ => 0, g⟩ (fun r => (∀ c : Dev Cert.DhReferenceIdeal.nD,
      r.2.mem ((c.tc : Thread Cert.DhReferenceIdeal.nD Cert.DhReferenceIdeal.τ).loc Cert.DhReferenceIdeal.main_arg0) = m ((c.tc : Thread Cert.DhReferenceIdeal.nD Cert.DhReferenceIdeal.τ).loc Cert.DhReferenceIdeal.main_arg0)
      ∧ r.2.mem ((c.tc : Thread Cert.DhReferenceIdeal.nD Cert.DhReferenceIdeal.τ).loc Cert.DhReferenceIdeal.main_arg1) = m ((c.tc : Thread Cert.DhReferenceIdeal.nD Cert.DhReferenceIdeal.τ).loc Cert.DhReferenceIdeal.main_arg1)
      ∧ r.2.mem ((c.tc : Thread Cert.DhReferenceIdeal.nD Cert.DhReferenceIdeal.τ).loc Cert.DhReferenceIdeal.main_arg2) = m ((c.tc : Thread Cert.DhReferenceIdeal.nD Cert.DhReferenceIdeal.τ).loc Cert.DhReferenceIdeal.main_arg2)
      ∧ r.2.mem ((c.tc : Thread Cert.DhReferenceIdeal.nD Cert.DhReferenceIdeal.τ).loc Cert.DhReferenceIdeal.main_arg3) = m ((c.tc : Thread Cert.DhReferenceIdeal.nD Cert.DhReferenceIdeal.τ).loc Cert.DhReferenceIdeal.main_arg3)
      ∧ r.2.mem ((c.tc : Thread Cert.DhReferenceIdeal.nD Cert.DhReferenceIdeal.τ).loc Cert.DhReferenceIdeal.main_arg4) = m ((c.tc : Thread Cert.DhReferenceIdeal.nD Cert.DhReferenceIdeal.τ).loc Cert.DhReferenceIdeal.main_arg4)
      ∧ r.2.mem ((c.tc : Thread Cert.DhReferenceIdeal.nD Cert.DhReferenceIdeal.τ).loc Cert.DhReferenceIdeal.main_arg5) = m ((c.tc : Thread Cert.DhReferenceIdeal.nD Cert.DhReferenceIdeal.τ).loc Cert.DhReferenceIdeal.main_arg5)
      ∧ r.2.mem ((c.tc : Thread Cert.DhReferenceIdeal.nD Cert.DhReferenceIdeal.τ).loc Cert.DhReferenceIdeal.main_arg6) = m ((c.tc : Thread Cert.DhReferenceIdeal.nD Cert.DhReferenceIdeal.τ).loc Cert.DhReferenceIdeal.main_arg6))
      ∧ r.2.sem = fun _ => 0)

def quiescent_DhReferenceIdeal_pre_dh_finite [hDhReferenceIdeal : Cert.DhReferenceIdeal.Facts] [hPre_dh_finite : Cert.Pre_dh_finite.Facts] : Prop :=
  ∀ (m : (ℓ : Loc Cert.DhReferenceIdeal.nD Cert.DhReferenceIdeal.τ Cert.DhReferenceIdeal.sig) → Buf (Elt Ideal) ℓ) (g : Dev Cert.DhReferenceIdeal.nD → PrngReg), Pre_DhReferenceIdeal_dh_finite m →
    θ_run (Cert.DhReferenceIdeal.defs (F := Ideal)) (onTc (τ := Cert.DhReferenceIdeal.τ) (Cert.DhReferenceIdeal.main (F := Ideal))) ⟨m, fun _ => 0, g⟩ (fun r => (∀ c : Dev Cert.DhReferenceIdeal.nD,
      r.2.mem ((c.tc : Thread Cert.DhReferenceIdeal.nD Cert.DhReferenceIdeal.τ).loc Cert.DhReferenceIdeal.main_arg0) = m ((c.tc : Thread Cert.DhReferenceIdeal.nD Cert.DhReferenceIdeal.τ).loc Cert.DhReferenceIdeal.main_arg0)
      ∧ r.2.mem ((c.tc : Thread Cert.DhReferenceIdeal.nD Cert.DhReferenceIdeal.τ).loc Cert.DhReferenceIdeal.main_arg1) = m ((c.tc : Thread Cert.DhReferenceIdeal.nD Cert.DhReferenceIdeal.τ).loc Cert.DhReferenceIdeal.main_arg1)
      ∧ r.2.mem ((c.tc : Thread Cert.DhReferenceIdeal.nD Cert.DhReferenceIdeal.τ).loc Cert.DhReferenceIdeal.main_arg2) = m ((c.tc : Thread Cert.DhReferenceIdeal.nD Cert.DhReferenceIdeal.τ).loc Cert.DhReferenceIdeal.main_arg2)
      ∧ r.2.mem ((c.tc : Thread Cert.DhReferenceIdeal.nD Cert.DhReferenceIdeal.τ).loc Cert.DhReferenceIdeal.main_arg3) = m ((c.tc : Thread Cert.DhReferenceIdeal.nD Cert.DhReferenceIdeal.τ).loc Cert.DhReferenceIdeal.main_arg3)
      ∧ r.2.mem ((c.tc : Thread Cert.DhReferenceIdeal.nD Cert.DhReferenceIdeal.τ).loc Cert.DhReferenceIdeal.main_arg4) = m ((c.tc : Thread Cert.DhReferenceIdeal.nD Cert.DhReferenceIdeal.τ).loc Cert.DhReferenceIdeal.main_arg4)
      ∧ r.2.mem ((c.tc : Thread Cert.DhReferenceIdeal.nD Cert.DhReferenceIdeal.τ).loc Cert.DhReferenceIdeal.main_arg5) = m ((c.tc : Thread Cert.DhReferenceIdeal.nD Cert.DhReferenceIdeal.τ).loc Cert.DhReferenceIdeal.main_arg5)
      ∧ r.2.mem ((c.tc : Thread Cert.DhReferenceIdeal.nD Cert.DhReferenceIdeal.τ).loc Cert.DhReferenceIdeal.main_arg6) = m ((c.tc : Thread Cert.DhReferenceIdeal.nD Cert.DhReferenceIdeal.τ).loc Cert.DhReferenceIdeal.main_arg6))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6)
      ∧ r.2.mem ((c.tc : Thread Cert.MergeKernel.nD Cert.MergeKernel.τ).loc Cert.MergeKernel.main_arg7) = m ((c.tc : Thread Cert.MergeKernel.nD Cert.MergeKernel.τ).loc Cert.MergeKernel.main_arg7)
      ∧ r.2.mem ((c.tc : Thread Cert.MergeKernel.nD Cert.MergeKernel.τ).loc Cert.MergeKernel.main_arg8) = m ((c.tc : Thread Cert.MergeKernel.nD Cert.MergeKernel.τ).loc Cert.MergeKernel.main_arg8)
      ∧ r.2.mem ((c.tc : Thread Cert.MergeKernel.nD Cert.MergeKernel.τ).loc Cert.MergeKernel.main_arg9) = m ((c.tc : Thread Cert.MergeKernel.nD Cert.MergeKernel.τ).loc Cert.MergeKernel.main_arg9))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
      ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
      ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
      ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9))
      ∧ r.2.sem = fun _ => 0)

def quiescent_MergeKernelIdeal_pre_merge_finite [hMergeKernelIdeal : Cert.MergeKernelIdeal.Facts] [hPre_merge_finite : Cert.Pre_merge_finite.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal_merge_finite m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
      ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
      ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
      ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9))
      ∧ r.2.sem = fun _ => 0)

def quiescent_MergeReferenceIdeal_pre_merge_finite [hMergeReferenceIdeal : Cert.MergeReferenceIdeal.Facts] [hPre_merge_finite : Cert.Pre_merge_finite.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal_merge_finite m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9))
      ∧ r.2.sem = fun _ => 0)

def quiescent_HgrnFwd [hHgrnFwd : Cert.HgrnFwd.Facts] : Prop :=
  ∀ (m : (ℓ : Loc Cert.HgrnFwd.nD Cert.HgrnFwd.τ Cert.HgrnFwd.sig) → Buf (Elt Bits) ℓ) (g : Dev Cert.HgrnFwd.nD → PrngReg), Pre_HgrnFwd m →
    θ_run (Cert.HgrnFwd.defs (F := Bits)) (onTc (τ := Cert.HgrnFwd.τ) (Cert.HgrnFwd.main (F := Bits))) ⟨m, fun _ => 0, g⟩ (fun r => (∀ c : Dev Cert.HgrnFwd.nD,
      r.2.mem ((c.tc : Thread Cert.HgrnFwd.nD Cert.HgrnFwd.τ).loc Cert.HgrnFwd.main_arg0) = m ((c.tc : Thread Cert.HgrnFwd.nD Cert.HgrnFwd.τ).loc Cert.HgrnFwd.main_arg0)
      ∧ r.2.mem ((c.tc : Thread Cert.HgrnFwd.nD Cert.HgrnFwd.τ).loc Cert.HgrnFwd.main_arg1) = m ((c.tc : Thread Cert.HgrnFwd.nD Cert.HgrnFwd.τ).loc Cert.HgrnFwd.main_arg1)
      ∧ r.2.mem ((c.tc : Thread Cert.HgrnFwd.nD Cert.HgrnFwd.τ).loc Cert.HgrnFwd.main_arg2) = m ((c.tc : Thread Cert.HgrnFwd.nD Cert.HgrnFwd.τ).loc Cert.HgrnFwd.main_arg2))
      ∧ r.2.sem = fun _ => 0)

def quiescent_HgrnFwdIdeal [hHgrnFwdIdeal : Cert.HgrnFwdIdeal.Facts] : Prop :=
  ∀ (m : (ℓ : Loc Cert.HgrnFwdIdeal.nD Cert.HgrnFwdIdeal.τ Cert.HgrnFwdIdeal.sig) → Buf (Elt Ideal) ℓ) (g : Dev Cert.HgrnFwdIdeal.nD → PrngReg), Pre_HgrnFwdIdeal m →
    θ_run (Cert.HgrnFwdIdeal.defs (F := Ideal)) (onTc (τ := Cert.HgrnFwdIdeal.τ) (Cert.HgrnFwdIdeal.main (F := Ideal))) ⟨m, fun _ => 0, g⟩ (fun r => (∀ c : Dev Cert.HgrnFwdIdeal.nD,
      r.2.mem ((c.tc : Thread Cert.HgrnFwdIdeal.nD Cert.HgrnFwdIdeal.τ).loc Cert.HgrnFwdIdeal.main_arg0) = m ((c.tc : Thread Cert.HgrnFwdIdeal.nD Cert.HgrnFwdIdeal.τ).loc Cert.HgrnFwdIdeal.main_arg0)
      ∧ r.2.mem ((c.tc : Thread Cert.HgrnFwdIdeal.nD Cert.HgrnFwdIdeal.τ).loc Cert.HgrnFwdIdeal.main_arg1) = m ((c.tc : Thread Cert.HgrnFwdIdeal.nD Cert.HgrnFwdIdeal.τ).loc Cert.HgrnFwdIdeal.main_arg1)
      ∧ r.2.mem ((c.tc : Thread Cert.HgrnFwdIdeal.nD Cert.HgrnFwdIdeal.τ).loc Cert.HgrnFwdIdeal.main_arg2) = m ((c.tc : Thread Cert.HgrnFwdIdeal.nD Cert.HgrnFwdIdeal.τ).loc Cert.HgrnFwdIdeal.main_arg2))
      ∧ r.2.sem = fun _ => 0)

def quiescent_HgrnFwdIdeal_pre_hgrn_fwd_pre [hHgrnFwdIdeal : Cert.HgrnFwdIdeal.Facts] [hPre_hgrn_fwd_pre : Cert.Pre_hgrn_fwd_pre.Facts] : Prop :=
  ∀ (m : (ℓ : Loc Cert.HgrnFwdIdeal.nD Cert.HgrnFwdIdeal.τ Cert.HgrnFwdIdeal.sig) → Buf (Elt Ideal) ℓ) (g : Dev Cert.HgrnFwdIdeal.nD → PrngReg), Pre_HgrnFwdIdeal_hgrn_fwd_pre m →
    θ_run (Cert.HgrnFwdIdeal.defs (F := Ideal)) (onTc (τ := Cert.HgrnFwdIdeal.τ) (Cert.HgrnFwdIdeal.main (F := Ideal))) ⟨m, fun _ => 0, g⟩ (fun r => (∀ c : Dev Cert.HgrnFwdIdeal.nD,
      r.2.mem ((c.tc : Thread Cert.HgrnFwdIdeal.nD Cert.HgrnFwdIdeal.τ).loc Cert.HgrnFwdIdeal.main_arg0) = m ((c.tc : Thread Cert.HgrnFwdIdeal.nD Cert.HgrnFwdIdeal.τ).loc Cert.HgrnFwdIdeal.main_arg0)
      ∧ r.2.mem ((c.tc : Thread Cert.HgrnFwdIdeal.nD Cert.HgrnFwdIdeal.τ).loc Cert.HgrnFwdIdeal.main_arg1) = m ((c.tc : Thread Cert.HgrnFwdIdeal.nD Cert.HgrnFwdIdeal.τ).loc Cert.HgrnFwdIdeal.main_arg1)
      ∧ r.2.mem ((c.tc : Thread Cert.HgrnFwdIdeal.nD Cert.HgrnFwdIdeal.τ).loc Cert.HgrnFwdIdeal.main_arg2) = m ((c.tc : Thread Cert.HgrnFwdIdeal.nD Cert.HgrnFwdIdeal.τ).loc Cert.HgrnFwdIdeal.main_arg2))
      ∧ r.2.sem = fun _ => 0)

def quiescent_HgrnFwdReferenceIdeal [hHgrnFwdReferenceIdeal : Cert.HgrnFwdReferenceIdeal.Facts] : Prop :=
  ∀ (m : (ℓ : Loc Cert.HgrnFwdReferenceIdeal.nD Cert.HgrnFwdReferenceIdeal.τ Cert.HgrnFwdReferenceIdeal.sig) → Buf (Elt Ideal) ℓ) (g : Dev Cert.HgrnFwdReferenceIdeal.nD → PrngReg), Pre_HgrnFwdReferenceIdeal m →
    θ_run (Cert.HgrnFwdReferenceIdeal.defs (F := Ideal)) (onTc (τ := Cert.HgrnFwdReferenceIdeal.τ) (Cert.HgrnFwdReferenceIdeal.main (F := Ideal))) ⟨m, fun _ => 0, g⟩ (fun r => (∀ c : Dev Cert.HgrnFwdReferenceIdeal.nD,
      r.2.mem ((c.tc : Thread Cert.HgrnFwdReferenceIdeal.nD Cert.HgrnFwdReferenceIdeal.τ).loc Cert.HgrnFwdReferenceIdeal.main_arg0) = m ((c.tc : Thread Cert.HgrnFwdReferenceIdeal.nD Cert.HgrnFwdReferenceIdeal.τ).loc Cert.HgrnFwdReferenceIdeal.main_arg0)
      ∧ r.2.mem ((c.tc : Thread Cert.HgrnFwdReferenceIdeal.nD Cert.HgrnFwdReferenceIdeal.τ).loc Cert.HgrnFwdReferenceIdeal.main_arg1) = m ((c.tc : Thread Cert.HgrnFwdReferenceIdeal.nD Cert.HgrnFwdReferenceIdeal.τ).loc Cert.HgrnFwdReferenceIdeal.main_arg1)
      ∧ r.2.mem ((c.tc : Thread Cert.HgrnFwdReferenceIdeal.nD Cert.HgrnFwdReferenceIdeal.τ).loc Cert.HgrnFwdReferenceIdeal.main_arg2) = m ((c.tc : Thread Cert.HgrnFwdReferenceIdeal.nD Cert.HgrnFwdReferenceIdeal.τ).loc Cert.HgrnFwdReferenceIdeal.main_arg2))
      ∧ r.2.sem = fun _ => 0)

def quiescent_HgrnFwdReferenceIdeal_pre_hgrn_fwd_pre [hHgrnFwdReferenceIdeal : Cert.HgrnFwdReferenceIdeal.Facts] [hPre_hgrn_fwd_pre : Cert.Pre_hgrn_fwd_pre.Facts] : Prop :=
  ∀ (m : (ℓ : Loc Cert.HgrnFwdReferenceIdeal.nD Cert.HgrnFwdReferenceIdeal.τ Cert.HgrnFwdReferenceIdeal.sig) → Buf (Elt Ideal) ℓ) (g : Dev Cert.HgrnFwdReferenceIdeal.nD → PrngReg), Pre_HgrnFwdReferenceIdeal_hgrn_fwd_pre m →
    θ_run (Cert.HgrnFwdReferenceIdeal.defs (F := Ideal)) (onTc (τ := Cert.HgrnFwdReferenceIdeal.τ) (Cert.HgrnFwdReferenceIdeal.main (F := Ideal))) ⟨m, fun _ => 0, g⟩ (fun r => (∀ c : Dev Cert.HgrnFwdReferenceIdeal.nD,
      r.2.mem ((c.tc : Thread Cert.HgrnFwdReferenceIdeal.nD Cert.HgrnFwdReferenceIdeal.τ).loc Cert.HgrnFwdReferenceIdeal.main_arg0) = m ((c.tc : Thread Cert.HgrnFwdReferenceIdeal.nD Cert.HgrnFwdReferenceIdeal.τ).loc Cert.HgrnFwdReferenceIdeal.main_arg0)
      ∧ r.2.mem ((c.tc : Thread Cert.HgrnFwdReferenceIdeal.nD Cert.HgrnFwdReferenceIdeal.τ).loc Cert.HgrnFwdReferenceIdeal.main_arg1) = m ((c.tc : Thread Cert.HgrnFwdReferenceIdeal.nD Cert.HgrnFwdReferenceIdeal.τ).loc Cert.HgrnFwdReferenceIdeal.main_arg1)
      ∧ r.2.mem ((c.tc : Thread Cert.HgrnFwdReferenceIdeal.nD Cert.HgrnFwdReferenceIdeal.τ).loc Cert.HgrnFwdReferenceIdeal.main_arg2) = m ((c.tc : Thread Cert.HgrnFwdReferenceIdeal.nD Cert.HgrnFwdReferenceIdeal.τ).loc Cert.HgrnFwdReferenceIdeal.main_arg2))
      ∧ r.2.sem = fun _ => 0)

def quiescent_HgrnBwd [hHgrnBwd : Cert.HgrnBwd.Facts] : Prop :=
  ∀ (m : (ℓ : Loc Cert.HgrnBwd.nD Cert.HgrnBwd.τ Cert.HgrnBwd.sig) → Buf (Elt Bits) ℓ) (g : Dev Cert.HgrnBwd.nD → PrngReg), Pre_HgrnBwd m →
    θ_run (Cert.HgrnBwd.defs (F := Bits)) (onTc (τ := Cert.HgrnBwd.τ) (Cert.HgrnBwd.main (F := Bits))) ⟨m, fun _ => 0, g⟩ (fun r => (∀ c : Dev Cert.HgrnBwd.nD,
      r.2.mem ((c.tc : Thread Cert.HgrnBwd.nD Cert.HgrnBwd.τ).loc Cert.HgrnBwd.main_arg0) = m ((c.tc : Thread Cert.HgrnBwd.nD Cert.HgrnBwd.τ).loc Cert.HgrnBwd.main_arg0)
      ∧ r.2.mem ((c.tc : Thread Cert.HgrnBwd.nD Cert.HgrnBwd.τ).loc Cert.HgrnBwd.main_arg1) = m ((c.tc : Thread Cert.HgrnBwd.nD Cert.HgrnBwd.τ).loc Cert.HgrnBwd.main_arg1)
      ∧ r.2.mem ((c.tc : Thread Cert.HgrnBwd.nD Cert.HgrnBwd.τ).loc Cert.HgrnBwd.main_arg2) = m ((c.tc : Thread Cert.HgrnBwd.nD Cert.HgrnBwd.τ).loc Cert.HgrnBwd.main_arg2)
      ∧ r.2.mem ((c.tc : Thread Cert.HgrnBwd.nD Cert.HgrnBwd.τ).loc Cert.HgrnBwd.main_arg3) = m ((c.tc : Thread Cert.HgrnBwd.nD Cert.HgrnBwd.τ).loc Cert.HgrnBwd.main_arg3)
      ∧ r.2.mem ((c.tc : Thread Cert.HgrnBwd.nD Cert.HgrnBwd.τ).loc Cert.HgrnBwd.main_arg4) = m ((c.tc : Thread Cert.HgrnBwd.nD Cert.HgrnBwd.τ).loc Cert.HgrnBwd.main_arg4)
      ∧ r.2.mem ((c.tc : Thread Cert.HgrnBwd.nD Cert.HgrnBwd.τ).loc Cert.HgrnBwd.main_arg5) = m ((c.tc : Thread Cert.HgrnBwd.nD Cert.HgrnBwd.τ).loc Cert.HgrnBwd.main_arg5))
      ∧ r.2.sem = fun _ => 0)

def quiescent_HgrnBwdIdeal [hHgrnBwdIdeal : Cert.HgrnBwdIdeal.Facts] : Prop :=
  ∀ (m : (ℓ : Loc Cert.HgrnBwdIdeal.nD Cert.HgrnBwdIdeal.τ Cert.HgrnBwdIdeal.sig) → Buf (Elt Ideal) ℓ) (g : Dev Cert.HgrnBwdIdeal.nD → PrngReg), Pre_HgrnBwdIdeal m →
    θ_run (Cert.HgrnBwdIdeal.defs (F := Ideal)) (onTc (τ := Cert.HgrnBwdIdeal.τ) (Cert.HgrnBwdIdeal.main (F := Ideal))) ⟨m, fun _ => 0, g⟩ (fun r => (∀ c : Dev Cert.HgrnBwdIdeal.nD,
      r.2.mem ((c.tc : Thread Cert.HgrnBwdIdeal.nD Cert.HgrnBwdIdeal.τ).loc Cert.HgrnBwdIdeal.main_arg0) = m ((c.tc : Thread Cert.HgrnBwdIdeal.nD Cert.HgrnBwdIdeal.τ).loc Cert.HgrnBwdIdeal.main_arg0)
      ∧ r.2.mem ((c.tc : Thread Cert.HgrnBwdIdeal.nD Cert.HgrnBwdIdeal.τ).loc Cert.HgrnBwdIdeal.main_arg1) = m ((c.tc : Thread Cert.HgrnBwdIdeal.nD Cert.HgrnBwdIdeal.τ).loc Cert.HgrnBwdIdeal.main_arg1)
      ∧ r.2.mem ((c.tc : Thread Cert.HgrnBwdIdeal.nD Cert.HgrnBwdIdeal.τ).loc Cert.HgrnBwdIdeal.main_arg2) = m ((c.tc : Thread Cert.HgrnBwdIdeal.nD Cert.HgrnBwdIdeal.τ).loc Cert.HgrnBwdIdeal.main_arg2)
      ∧ r.2.mem ((c.tc : Thread Cert.HgrnBwdIdeal.nD Cert.HgrnBwdIdeal.τ).loc Cert.HgrnBwdIdeal.main_arg3) = m ((c.tc : Thread Cert.HgrnBwdIdeal.nD Cert.HgrnBwdIdeal.τ).loc Cert.HgrnBwdIdeal.main_arg3)
      ∧ r.2.mem ((c.tc : Thread Cert.HgrnBwdIdeal.nD Cert.HgrnBwdIdeal.τ).loc Cert.HgrnBwdIdeal.main_arg4) = m ((c.tc : Thread Cert.HgrnBwdIdeal.nD Cert.HgrnBwdIdeal.τ).loc Cert.HgrnBwdIdeal.main_arg4)
      ∧ r.2.mem ((c.tc : Thread Cert.HgrnBwdIdeal.nD Cert.HgrnBwdIdeal.τ).loc Cert.HgrnBwdIdeal.main_arg5) = m ((c.tc : Thread Cert.HgrnBwdIdeal.nD Cert.HgrnBwdIdeal.τ).loc Cert.HgrnBwdIdeal.main_arg5))
      ∧ r.2.sem = fun _ => 0)

def quiescent_ModKernel [hModKernel : Cert.ModKernel.Facts] : Prop :=
  ∀ (m : (ℓ : Loc Cert.ModKernel.nD Cert.ModKernel.τ Cert.ModKernel.sig) → Buf (Elt Bits) ℓ) (g : Dev Cert.ModKernel.nD → PrngReg), Pre_ModKernel m →
    θ_run (Cert.ModKernel.defs (F := Bits)) (onTc (τ := Cert.ModKernel.τ) (Cert.ModKernel.main (F := Bits))) ⟨m, fun _ => 0, g⟩ (fun r => (∀ c : Dev Cert.ModKernel.nD,
      r.2.mem ((c.tc : Thread Cert.ModKernel.nD Cert.ModKernel.τ).loc Cert.ModKernel.main_arg0) = m ((c.tc : Thread Cert.ModKernel.nD Cert.ModKernel.τ).loc Cert.ModKernel.main_arg0)
      ∧ r.2.mem ((c.tc : Thread Cert.ModKernel.nD Cert.ModKernel.τ).loc Cert.ModKernel.main_arg1) = m ((c.tc : Thread Cert.ModKernel.nD Cert.ModKernel.τ).loc Cert.ModKernel.main_arg1)
      ∧ r.2.mem ((c.tc : Thread Cert.ModKernel.nD Cert.ModKernel.τ).loc Cert.ModKernel.main_arg2) = m ((c.tc : Thread Cert.ModKernel.nD Cert.ModKernel.τ).loc Cert.ModKernel.main_arg2))
      ∧ r.2.sem = fun _ => 0)

def quiescent_ModKernelIdeal [hModKernelIdeal : Cert.ModKernelIdeal.Facts] : Prop :=
  ∀ (m : (ℓ : Loc Cert.ModKernelIdeal.nD Cert.ModKernelIdeal.τ Cert.ModKernelIdeal.sig) → Buf (Elt Ideal) ℓ) (g : Dev Cert.ModKernelIdeal.nD → PrngReg), Pre_ModKernelIdeal m →
    θ_run (Cert.ModKernelIdeal.defs (F := Ideal)) (onTc (τ := Cert.ModKernelIdeal.τ) (Cert.ModKernelIdeal.main (F := Ideal))) ⟨m, fun _ => 0, g⟩ (fun r => (∀ c : Dev Cert.ModKernelIdeal.nD,
      r.2.mem ((c.tc : Thread Cert.ModKernelIdeal.nD Cert.ModKernelIdeal.τ).loc Cert.ModKernelIdeal.main_arg0) = m ((c.tc : Thread Cert.ModKernelIdeal.nD Cert.ModKernelIdeal.τ).loc Cert.ModKernelIdeal.main_arg0)
      ∧ r.2.mem ((c.tc : Thread Cert.ModKernelIdeal.nD Cert.ModKernelIdeal.τ).loc Cert.ModKernelIdeal.main_arg1) = m ((c.tc : Thread Cert.ModKernelIdeal.nD Cert.ModKernelIdeal.τ).loc Cert.ModKernelIdeal.main_arg1)
      ∧ r.2.mem ((c.tc : Thread Cert.ModKernelIdeal.nD Cert.ModKernelIdeal.τ).loc Cert.ModKernelIdeal.main_arg2) = m ((c.tc : Thread Cert.ModKernelIdeal.nD Cert.ModKernelIdeal.τ).loc Cert.ModKernelIdeal.main_arg2))
      ∧ r.2.sem = fun _ => 0)

def quiescent_ModReferenceIdeal [hModReferenceIdeal : Cert.ModReferenceIdeal.Facts] : Prop :=
  ∀ (m : (ℓ : Loc Cert.ModReferenceIdeal.nD Cert.ModReferenceIdeal.τ Cert.ModReferenceIdeal.sig) → Buf (Elt Ideal) ℓ) (g : Dev Cert.ModReferenceIdeal.nD → PrngReg), Pre_ModReferenceIdeal m →
    θ_run (Cert.ModReferenceIdeal.defs (F := Ideal)) (onTc (τ := Cert.ModReferenceIdeal.τ) (Cert.ModReferenceIdeal.main (F := Ideal))) ⟨m, fun _ => 0, g⟩ (fun r => (∀ c : Dev Cert.ModReferenceIdeal.nD,
      r.2.mem ((c.tc : Thread Cert.ModReferenceIdeal.nD Cert.ModReferenceIdeal.τ).loc Cert.ModReferenceIdeal.main_arg0) = m ((c.tc : Thread Cert.ModReferenceIdeal.nD Cert.ModReferenceIdeal.τ).loc Cert.ModReferenceIdeal.main_arg0)
      ∧ r.2.mem ((c.tc : Thread Cert.ModReferenceIdeal.nD Cert.ModReferenceIdeal.τ).loc Cert.ModReferenceIdeal.main_arg1) = m ((c.tc : Thread Cert.ModReferenceIdeal.nD Cert.ModReferenceIdeal.τ).loc Cert.ModReferenceIdeal.main_arg1)
      ∧ r.2.mem ((c.tc : Thread Cert.ModReferenceIdeal.nD Cert.ModReferenceIdeal.τ).loc Cert.ModReferenceIdeal.main_arg2) = m ((c.tc : Thread Cert.ModReferenceIdeal.nD Cert.ModReferenceIdeal.τ).loc Cert.ModReferenceIdeal.main_arg2))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2)
      ∧ r.2.mem ((c.tc : Thread Cert.ProjKernel.nD Cert.ProjKernel.τ).loc Cert.ProjKernel.main_arg3) = m ((c.tc : Thread Cert.ProjKernel.nD Cert.ProjKernel.τ).loc Cert.ProjKernel.main_arg3)
      ∧ r.2.mem ((c.tc : Thread Cert.ProjKernel.nD Cert.ProjKernel.τ).loc Cert.ProjKernel.main_arg4) = m ((c.tc : Thread Cert.ProjKernel.nD Cert.ProjKernel.τ).loc Cert.ProjKernel.main_arg4))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
      ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_Dw3Kernel [hDw3Kernel : Cert.Dw3Kernel.Facts] : Prop :=
  ∀ (m : (ℓ : Loc Cert.Dw3Kernel.nD Cert.Dw3Kernel.τ Cert.Dw3Kernel.sig) → Buf (Elt Bits) ℓ) (g : Dev Cert.Dw3Kernel.nD → PrngReg), Pre_Dw3Kernel m →
    θ_run (Cert.Dw3Kernel.defs (F := Bits)) (onTc (τ := Cert.Dw3Kernel.τ) (Cert.Dw3Kernel.main (F := Bits))) ⟨m, fun _ => 0, g⟩ (fun r => (∀ c : Dev Cert.Dw3Kernel.nD,
      r.2.mem ((c.tc : Thread Cert.Dw3Kernel.nD Cert.Dw3Kernel.τ).loc Cert.Dw3Kernel.main_arg0) = m ((c.tc : Thread Cert.Dw3Kernel.nD Cert.Dw3Kernel.τ).loc Cert.Dw3Kernel.main_arg0)
      ∧ r.2.mem ((c.tc : Thread Cert.Dw3Kernel.nD Cert.Dw3Kernel.τ).loc Cert.Dw3Kernel.main_arg1) = m ((c.tc : Thread Cert.Dw3Kernel.nD Cert.Dw3Kernel.τ).loc Cert.Dw3Kernel.main_arg1)
      ∧ r.2.mem ((c.tc : Thread Cert.Dw3Kernel.nD Cert.Dw3Kernel.τ).loc Cert.Dw3Kernel.main_arg2) = m ((c.tc : Thread Cert.Dw3Kernel.nD Cert.Dw3Kernel.τ).loc Cert.Dw3Kernel.main_arg2)
      ∧ r.2.mem ((c.tc : Thread Cert.Dw3Kernel.nD Cert.Dw3Kernel.τ).loc Cert.Dw3Kernel.main_arg3) = m ((c.tc : Thread Cert.Dw3Kernel.nD Cert.Dw3Kernel.τ).loc Cert.Dw3Kernel.main_arg3)
      ∧ r.2.mem ((c.tc : Thread Cert.Dw3Kernel.nD Cert.Dw3Kernel.τ).loc Cert.Dw3Kernel.main_arg4) = m ((c.tc : Thread Cert.Dw3Kernel.nD Cert.Dw3Kernel.τ).loc Cert.Dw3Kernel.main_arg4)
      ∧ r.2.mem ((c.tc : Thread Cert.Dw3Kernel.nD Cert.Dw3Kernel.τ).loc Cert.Dw3Kernel.main_arg5) = m ((c.tc : Thread Cert.Dw3Kernel.nD Cert.Dw3Kernel.τ).loc Cert.Dw3Kernel.main_arg5))
      ∧ r.2.sem = fun _ => 0)

def quiescent_Dw3KernelIdeal [hDw3KernelIdeal : Cert.Dw3KernelIdeal.Facts] : Prop :=
  ∀ (m : (ℓ : Loc Cert.Dw3KernelIdeal.nD Cert.Dw3KernelIdeal.τ Cert.Dw3KernelIdeal.sig) → Buf (Elt Ideal) ℓ) (g : Dev Cert.Dw3KernelIdeal.nD → PrngReg), Pre_Dw3KernelIdeal m →
    θ_run (Cert.Dw3KernelIdeal.defs (F := Ideal)) (onTc (τ := Cert.Dw3KernelIdeal.τ) (Cert.Dw3KernelIdeal.main (F := Ideal))) ⟨m, fun _ => 0, g⟩ (fun r => (∀ c : Dev Cert.Dw3KernelIdeal.nD,
      r.2.mem ((c.tc : Thread Cert.Dw3KernelIdeal.nD Cert.Dw3KernelIdeal.τ).loc Cert.Dw3KernelIdeal.main_arg0) = m ((c.tc : Thread Cert.Dw3KernelIdeal.nD Cert.Dw3KernelIdeal.τ).loc Cert.Dw3KernelIdeal.main_arg0)
      ∧ r.2.mem ((c.tc : Thread Cert.Dw3KernelIdeal.nD Cert.Dw3KernelIdeal.τ).loc Cert.Dw3KernelIdeal.main_arg1) = m ((c.tc : Thread Cert.Dw3KernelIdeal.nD Cert.Dw3KernelIdeal.τ).loc Cert.Dw3KernelIdeal.main_arg1)
      ∧ r.2.mem ((c.tc : Thread Cert.Dw3KernelIdeal.nD Cert.Dw3KernelIdeal.τ).loc Cert.Dw3KernelIdeal.main_arg2) = m ((c.tc : Thread Cert.Dw3KernelIdeal.nD Cert.Dw3KernelIdeal.τ).loc Cert.Dw3KernelIdeal.main_arg2)
      ∧ r.2.mem ((c.tc : Thread Cert.Dw3KernelIdeal.nD Cert.Dw3KernelIdeal.τ).loc Cert.Dw3KernelIdeal.main_arg3) = m ((c.tc : Thread Cert.Dw3KernelIdeal.nD Cert.Dw3KernelIdeal.τ).loc Cert.Dw3KernelIdeal.main_arg3)
      ∧ r.2.mem ((c.tc : Thread Cert.Dw3KernelIdeal.nD Cert.Dw3KernelIdeal.τ).loc Cert.Dw3KernelIdeal.main_arg4) = m ((c.tc : Thread Cert.Dw3KernelIdeal.nD Cert.Dw3KernelIdeal.τ).loc Cert.Dw3KernelIdeal.main_arg4)
      ∧ r.2.mem ((c.tc : Thread Cert.Dw3KernelIdeal.nD Cert.Dw3KernelIdeal.τ).loc Cert.Dw3KernelIdeal.main_arg5) = m ((c.tc : Thread Cert.Dw3KernelIdeal.nD Cert.Dw3KernelIdeal.τ).loc Cert.Dw3KernelIdeal.main_arg5))
      ∧ r.2.sem = fun _ => 0)

def quiescent_Dw3ReferenceIdeal [hDw3ReferenceIdeal : Cert.Dw3ReferenceIdeal.Facts] : Prop :=
  ∀ (m : (ℓ : Loc Cert.Dw3ReferenceIdeal.nD Cert.Dw3ReferenceIdeal.τ Cert.Dw3ReferenceIdeal.sig) → Buf (Elt Ideal) ℓ) (g : Dev Cert.Dw3ReferenceIdeal.nD → PrngReg), Pre_Dw3ReferenceIdeal m →
    θ_run (Cert.Dw3ReferenceIdeal.defs (F := Ideal)) (onTc (τ := Cert.Dw3ReferenceIdeal.τ) (Cert.Dw3ReferenceIdeal.main (F := Ideal))) ⟨m, fun _ => 0, g⟩ (fun r => (∀ c : Dev Cert.Dw3ReferenceIdeal.nD,
      r.2.mem ((c.tc : Thread Cert.Dw3ReferenceIdeal.nD Cert.Dw3ReferenceIdeal.τ).loc Cert.Dw3ReferenceIdeal.main_arg0) = m ((c.tc : Thread Cert.Dw3ReferenceIdeal.nD Cert.Dw3ReferenceIdeal.τ).loc Cert.Dw3ReferenceIdeal.main_arg0)
      ∧ r.2.mem ((c.tc : Thread Cert.Dw3ReferenceIdeal.nD Cert.Dw3ReferenceIdeal.τ).loc Cert.Dw3ReferenceIdeal.main_arg1) = m ((c.tc : Thread Cert.Dw3ReferenceIdeal.nD Cert.Dw3ReferenceIdeal.τ).loc Cert.Dw3ReferenceIdeal.main_arg1)
      ∧ r.2.mem ((c.tc : Thread Cert.Dw3ReferenceIdeal.nD Cert.Dw3ReferenceIdeal.τ).loc Cert.Dw3ReferenceIdeal.main_arg2) = m ((c.tc : Thread Cert.Dw3ReferenceIdeal.nD Cert.Dw3ReferenceIdeal.τ).loc Cert.Dw3ReferenceIdeal.main_arg2)
      ∧ r.2.mem ((c.tc : Thread Cert.Dw3ReferenceIdeal.nD Cert.Dw3ReferenceIdeal.τ).loc Cert.Dw3ReferenceIdeal.main_arg3) = m ((c.tc : Thread Cert.Dw3ReferenceIdeal.nD Cert.Dw3ReferenceIdeal.τ).loc Cert.Dw3ReferenceIdeal.main_arg3)
      ∧ r.2.mem ((c.tc : Thread Cert.Dw3ReferenceIdeal.nD Cert.Dw3ReferenceIdeal.τ).loc Cert.Dw3ReferenceIdeal.main_arg4) = m ((c.tc : Thread Cert.Dw3ReferenceIdeal.nD Cert.Dw3ReferenceIdeal.τ).loc Cert.Dw3ReferenceIdeal.main_arg4)
      ∧ r.2.mem ((c.tc : Thread Cert.Dw3ReferenceIdeal.nD Cert.Dw3ReferenceIdeal.τ).loc Cert.Dw3ReferenceIdeal.main_arg5) = m ((c.tc : Thread Cert.Dw3ReferenceIdeal.nD Cert.Dw3ReferenceIdeal.τ).loc Cert.Dw3ReferenceIdeal.main_arg5))
      ∧ r.2.sem = fun _ => 0)

def quiescent_DwinKernel [hDwinKernel : Cert.DwinKernel.Facts] : Prop :=
  ∀ (m : (ℓ : Loc Cert.DwinKernel.nD Cert.DwinKernel.τ Cert.DwinKernel.sig) → Buf (Elt Bits) ℓ) (g : Dev Cert.DwinKernel.nD → PrngReg), Pre_DwinKernel m →
    θ_run (Cert.DwinKernel.defs (F := Bits)) (onTc (τ := Cert.DwinKernel.τ) (Cert.DwinKernel.main (F := Bits))) ⟨m, fun _ => 0, g⟩ (fun r => (∀ c : Dev Cert.DwinKernel.nD,
      r.2.mem ((c.tc : Thread Cert.DwinKernel.nD Cert.DwinKernel.τ).loc Cert.DwinKernel.main_arg0) = m ((c.tc : Thread Cert.DwinKernel.nD Cert.DwinKernel.τ).loc Cert.DwinKernel.main_arg0)
      ∧ r.2.mem ((c.tc : Thread Cert.DwinKernel.nD Cert.DwinKernel.τ).loc Cert.DwinKernel.main_arg1) = m ((c.tc : Thread Cert.DwinKernel.nD Cert.DwinKernel.τ).loc Cert.DwinKernel.main_arg1))
      ∧ r.2.sem = fun _ => 0)

def quiescent_DwinKernelIdeal [hDwinKernelIdeal : Cert.DwinKernelIdeal.Facts] : Prop :=
  ∀ (m : (ℓ : Loc Cert.DwinKernelIdeal.nD Cert.DwinKernelIdeal.τ Cert.DwinKernelIdeal.sig) → Buf (Elt Ideal) ℓ) (g : Dev Cert.DwinKernelIdeal.nD → PrngReg), Pre_DwinKernelIdeal m →
    θ_run (Cert.DwinKernelIdeal.defs (F := Ideal)) (onTc (τ := Cert.DwinKernelIdeal.τ) (Cert.DwinKernelIdeal.main (F := Ideal))) ⟨m, fun _ => 0, g⟩ (fun r => (∀ c : Dev Cert.DwinKernelIdeal.nD,
      r.2.mem ((c.tc : Thread Cert.DwinKernelIdeal.nD Cert.DwinKernelIdeal.τ).loc Cert.DwinKernelIdeal.main_arg0) = m ((c.tc : Thread Cert.DwinKernelIdeal.nD Cert.DwinKernelIdeal.τ).loc Cert.DwinKernelIdeal.main_arg0)
      ∧ r.2.mem ((c.tc : Thread Cert.DwinKernelIdeal.nD Cert.DwinKernelIdeal.τ).loc Cert.DwinKernelIdeal.main_arg1) = m ((c.tc : Thread Cert.DwinKernelIdeal.nD Cert.DwinKernelIdeal.τ).loc Cert.DwinKernelIdeal.main_arg1))
      ∧ r.2.sem = fun _ => 0)

def quiescent_DwinReferenceIdeal [hDwinReferenceIdeal : Cert.DwinReferenceIdeal.Facts] : Prop :=
  ∀ (m : (ℓ : Loc Cert.DwinReferenceIdeal.nD Cert.DwinReferenceIdeal.τ Cert.DwinReferenceIdeal.sig) → Buf (Elt Ideal) ℓ) (g : Dev Cert.DwinReferenceIdeal.nD → PrngReg), Pre_DwinReferenceIdeal m →
    θ_run (Cert.DwinReferenceIdeal.defs (F := Ideal)) (onTc (τ := Cert.DwinReferenceIdeal.τ) (Cert.DwinReferenceIdeal.main (F := Ideal))) ⟨m, fun _ => 0, g⟩ (fun r => (∀ c : Dev Cert.DwinReferenceIdeal.nD,
      r.2.mem ((c.tc : Thread Cert.DwinReferenceIdeal.nD Cert.DwinReferenceIdeal.τ).loc Cert.DwinReferenceIdeal.main_arg0) = m ((c.tc : Thread Cert.DwinReferenceIdeal.nD Cert.DwinReferenceIdeal.τ).loc Cert.DwinReferenceIdeal.main_arg0)
      ∧ r.2.mem ((c.tc : Thread Cert.DwinReferenceIdeal.nD Cert.DwinReferenceIdeal.τ).loc Cert.DwinReferenceIdeal.main_arg1) = m ((c.tc : Thread Cert.DwinReferenceIdeal.nD Cert.DwinReferenceIdeal.τ).loc Cert.DwinReferenceIdeal.main_arg1))
      ∧ r.2.sem = fun _ => 0)

def quiescent_AdaKernel [hAdaKernel : Cert.AdaKernel.Facts] : Prop :=
  ∀ (m : (ℓ : Loc Cert.AdaKernel.nD Cert.AdaKernel.τ Cert.AdaKernel.sig) → Buf (Elt Bits) ℓ) (g : Dev Cert.AdaKernel.nD → PrngReg), Pre_AdaKernel m →
    θ_run (Cert.AdaKernel.defs (F := Bits)) (onTc (τ := Cert.AdaKernel.τ) (Cert.AdaKernel.main (F := Bits))) ⟨m, fun _ => 0, g⟩ (fun r => (∀ c : Dev Cert.AdaKernel.nD,
      r.2.mem ((c.tc : Thread Cert.AdaKernel.nD Cert.AdaKernel.τ).loc Cert.AdaKernel.main_arg0) = m ((c.tc : Thread Cert.AdaKernel.nD Cert.AdaKernel.τ).loc Cert.AdaKernel.main_arg0)
      ∧ r.2.mem ((c.tc : Thread Cert.AdaKernel.nD Cert.AdaKernel.τ).loc Cert.AdaKernel.main_arg1) = m ((c.tc : Thread Cert.AdaKernel.nD Cert.AdaKernel.τ).loc Cert.AdaKernel.main_arg1)
      ∧ r.2.mem ((c.tc : Thread Cert.AdaKernel.nD Cert.AdaKernel.τ).loc Cert.AdaKernel.main_arg2) = m ((c.tc : Thread Cert.AdaKernel.nD Cert.AdaKernel.τ).loc Cert.AdaKernel.main_arg2)
      ∧ r.2.mem ((c.tc : Thread Cert.AdaKernel.nD Cert.AdaKernel.τ).loc Cert.AdaKernel.main_arg3) = m ((c.tc : Thread Cert.AdaKernel.nD Cert.AdaKernel.τ).loc Cert.AdaKernel.main_arg3)
      ∧ r.2.mem ((c.tc : Thread Cert.AdaKernel.nD Cert.AdaKernel.τ).loc Cert.AdaKernel.main_arg4) = m ((c.tc : Thread Cert.AdaKernel.nD Cert.AdaKernel.τ).loc Cert.AdaKernel.main_arg4))
      ∧ r.2.sem = fun _ => 0)

def quiescent_AdaKernelIdeal [hAdaKernelIdeal : Cert.AdaKernelIdeal.Facts] : Prop :=
  ∀ (m : (ℓ : Loc Cert.AdaKernelIdeal.nD Cert.AdaKernelIdeal.τ Cert.AdaKernelIdeal.sig) → Buf (Elt Ideal) ℓ) (g : Dev Cert.AdaKernelIdeal.nD → PrngReg), Pre_AdaKernelIdeal m →
    θ_run (Cert.AdaKernelIdeal.defs (F := Ideal)) (onTc (τ := Cert.AdaKernelIdeal.τ) (Cert.AdaKernelIdeal.main (F := Ideal))) ⟨m, fun _ => 0, g⟩ (fun r => (∀ c : Dev Cert.AdaKernelIdeal.nD,
      r.2.mem ((c.tc : Thread Cert.AdaKernelIdeal.nD Cert.AdaKernelIdeal.τ).loc Cert.AdaKernelIdeal.main_arg0) = m ((c.tc : Thread Cert.AdaKernelIdeal.nD Cert.AdaKernelIdeal.τ).loc Cert.AdaKernelIdeal.main_arg0)
      ∧ r.2.mem ((c.tc : Thread Cert.AdaKernelIdeal.nD Cert.AdaKernelIdeal.τ).loc Cert.AdaKernelIdeal.main_arg1) = m ((c.tc : Thread Cert.AdaKernelIdeal.nD Cert.AdaKernelIdeal.τ).loc Cert.AdaKernelIdeal.main_arg1)
      ∧ r.2.mem ((c.tc : Thread Cert.AdaKernelIdeal.nD Cert.AdaKernelIdeal.τ).loc Cert.AdaKernelIdeal.main_arg2) = m ((c.tc : Thread Cert.AdaKernelIdeal.nD Cert.AdaKernelIdeal.τ).loc Cert.AdaKernelIdeal.main_arg2)
      ∧ r.2.mem ((c.tc : Thread Cert.AdaKernelIdeal.nD Cert.AdaKernelIdeal.τ).loc Cert.AdaKernelIdeal.main_arg3) = m ((c.tc : Thread Cert.AdaKernelIdeal.nD Cert.AdaKernelIdeal.τ).loc Cert.AdaKernelIdeal.main_arg3)
      ∧ r.2.mem ((c.tc : Thread Cert.AdaKernelIdeal.nD Cert.AdaKernelIdeal.τ).loc Cert.AdaKernelIdeal.main_arg4) = m ((c.tc : Thread Cert.AdaKernelIdeal.nD Cert.AdaKernelIdeal.τ).loc Cert.AdaKernelIdeal.main_arg4))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2)
      ∧ r.2.mem ((c.tc : Thread Cert.AdaReferenceIdeal.nD Cert.AdaReferenceIdeal.τ).loc Cert.AdaReferenceIdeal.main_arg3) = m ((c.tc : Thread Cert.AdaReferenceIdeal.nD Cert.AdaReferenceIdeal.τ).loc Cert.AdaReferenceIdeal.main_arg3)
      ∧ r.2.mem ((c.tc : Thread Cert.AdaReferenceIdeal.nD Cert.AdaReferenceIdeal.τ).loc Cert.AdaReferenceIdeal.main_arg4) = m ((c.tc : Thread Cert.AdaReferenceIdeal.nD Cert.AdaReferenceIdeal.τ).loc Cert.AdaReferenceIdeal.main_arg4))
      ∧ r.2.sem = fun _ => 0)

def quiescent_AdamwKernel [hAdamwKernel : Cert.AdamwKernel.Facts] : Prop :=
  ∀ (m : (ℓ : Loc Cert.AdamwKernel.nD Cert.AdamwKernel.τ Cert.AdamwKernel.sig) → Buf (Elt Bits) ℓ) (g : Dev Cert.AdamwKernel.nD → PrngReg), Pre_AdamwKernel m →
    θ_run (Cert.AdamwKernel.defs (F := Bits)) (onTc (τ := Cert.AdamwKernel.τ) (Cert.AdamwKernel.main (F := Bits))) ⟨m, fun _ => 0, g⟩ (fun r => (∀ c : Dev Cert.AdamwKernel.nD,
      r.2.mem ((c.tc : Thread Cert.AdamwKernel.nD Cert.AdamwKernel.τ).loc Cert.AdamwKernel.main_arg0) = m ((c.tc : Thread Cert.AdamwKernel.nD Cert.AdamwKernel.τ).loc Cert.AdamwKernel.main_arg0)
      ∧ r.2.mem ((c.tc : Thread Cert.AdamwKernel.nD Cert.AdamwKernel.τ).loc Cert.AdamwKernel.main_arg1) = m ((c.tc : Thread Cert.AdamwKernel.nD Cert.AdamwKernel.τ).loc Cert.AdamwKernel.main_arg1)
      ∧ r.2.mem ((c.tc : Thread Cert.AdamwKernel.nD Cert.AdamwKernel.τ).loc Cert.AdamwKernel.main_arg2) = m ((c.tc : Thread Cert.AdamwKernel.nD Cert.AdamwKernel.τ).loc Cert.AdamwKernel.main_arg2)
      ∧ r.2.mem ((c.tc : Thread Cert.AdamwKernel.nD Cert.AdamwKernel.τ).loc Cert.AdamwKernel.main_arg3) = m ((c.tc : Thread Cert.AdamwKernel.nD Cert.AdamwKernel.τ).loc Cert.AdamwKernel.main_arg3))
      ∧ r.2.sem = fun _ => 0)

def quiescent_AdamwKernelIdeal [hAdamwKernelIdeal : Cert.AdamwKernelIdeal.Facts] : Prop :=
  ∀ (m : (ℓ : Loc Cert.AdamwKernelIdeal.nD Cert.AdamwKernelIdeal.τ Cert.AdamwKernelIdeal.sig) → Buf (Elt Ideal) ℓ) (g : Dev Cert.AdamwKernelIdeal.nD → PrngReg), Pre_AdamwKernelIdeal m →
    θ_run (Cert.AdamwKernelIdeal.defs (F := Ideal)) (onTc (τ := Cert.AdamwKernelIdeal.τ) (Cert.AdamwKernelIdeal.main (F := Ideal))) ⟨m, fun _ => 0, g⟩ (fun r => (∀ c : Dev Cert.AdamwKernelIdeal.nD,
      r.2.mem ((c.tc : Thread Cert.AdamwKernelIdeal.nD Cert.AdamwKernelIdeal.τ).loc Cert.AdamwKernelIdeal.main_arg0) = m ((c.tc : Thread Cert.AdamwKernelIdeal.nD Cert.AdamwKernelIdeal.τ).loc Cert.AdamwKernelIdeal.main_arg0)
      ∧ r.2.mem ((c.tc : Thread Cert.AdamwKernelIdeal.nD Cert.AdamwKernelIdeal.τ).loc Cert.AdamwKernelIdeal.main_arg1) = m ((c.tc : Thread Cert.AdamwKernelIdeal.nD Cert.AdamwKernelIdeal.τ).loc Cert.AdamwKernelIdeal.main_arg1)
      ∧ r.2.mem ((c.tc : Thread Cert.AdamwKernelIdeal.nD Cert.AdamwKernelIdeal.τ).loc Cert.AdamwKernelIdeal.main_arg2) = m ((c.tc : Thread Cert.AdamwKernelIdeal.nD Cert.AdamwKernelIdeal.τ).loc Cert.AdamwKernelIdeal.main_arg2)
      ∧ r.2.mem ((c.tc : Thread Cert.AdamwKernelIdeal.nD Cert.AdamwKernelIdeal.τ).loc Cert.AdamwKernelIdeal.main_arg3) = m ((c.tc : Thread Cert.AdamwKernelIdeal.nD Cert.AdamwKernelIdeal.τ).loc Cert.AdamwKernelIdeal.main_arg3))
      ∧ r.2.sem = fun _ => 0)

def quiescent_AdamwReferenceIdeal [hAdamwReferenceIdeal : Cert.AdamwReferenceIdeal.Facts] : Prop :=
  ∀ (m : (ℓ : Loc Cert.AdamwReferenceIdeal.nD Cert.AdamwReferenceIdeal.τ Cert.AdamwReferenceIdeal.sig) → Buf (Elt Ideal) ℓ) (g : Dev Cert.AdamwReferenceIdeal.nD → PrngReg), Pre_AdamwReferenceIdeal m →
    θ_run (Cert.AdamwReferenceIdeal.defs (F := Ideal)) (onTc (τ := Cert.AdamwReferenceIdeal.τ) (Cert.AdamwReferenceIdeal.main (F := Ideal))) ⟨m, fun _ => 0, g⟩ (fun r => (∀ c : Dev Cert.AdamwReferenceIdeal.nD,
      r.2.mem ((c.tc : Thread Cert.AdamwReferenceIdeal.nD Cert.AdamwReferenceIdeal.τ).loc Cert.AdamwReferenceIdeal.main_arg0) = m ((c.tc : Thread Cert.AdamwReferenceIdeal.nD Cert.AdamwReferenceIdeal.τ).loc Cert.AdamwReferenceIdeal.main_arg0)
      ∧ r.2.mem ((c.tc : Thread Cert.AdamwReferenceIdeal.nD Cert.AdamwReferenceIdeal.τ).loc Cert.AdamwReferenceIdeal.main_arg1) = m ((c.tc : Thread Cert.AdamwReferenceIdeal.nD Cert.AdamwReferenceIdeal.τ).loc Cert.AdamwReferenceIdeal.main_arg1)
      ∧ r.2.mem ((c.tc : Thread Cert.AdamwReferenceIdeal.nD Cert.AdamwReferenceIdeal.τ).loc Cert.AdamwReferenceIdeal.main_arg2) = m ((c.tc : Thread Cert.AdamwReferenceIdeal.nD Cert.AdamwReferenceIdeal.τ).loc Cert.AdamwReferenceIdeal.main_arg2)
      ∧ r.2.mem ((c.tc : Thread Cert.AdamwReferenceIdeal.nD Cert.AdamwReferenceIdeal.τ).loc Cert.AdamwReferenceIdeal.main_arg3) = m ((c.tc : Thread Cert.AdamwReferenceIdeal.nD Cert.AdamwReferenceIdeal.τ).loc Cert.AdamwReferenceIdeal.main_arg3))
      ∧ r.2.sem = fun _ => 0)

def quiescent_Sum8Kernel [hSum8Kernel : Cert.Sum8Kernel.Facts] : Prop :=
  ∀ (m : (ℓ : Loc Cert.Sum8Kernel.nD Cert.Sum8Kernel.τ Cert.Sum8Kernel.sig) → Buf (Elt Bits) ℓ) (g : Dev Cert.Sum8Kernel.nD → PrngReg), Pre_Sum8Kernel m →
    θ_run (Cert.Sum8Kernel.defs (F := Bits)) (onTc (τ := Cert.Sum8Kernel.τ) (Cert.Sum8Kernel.main (F := Bits))) ⟨m, fun _ => 0, g⟩ (fun r => (∀ c : Dev Cert.Sum8Kernel.nD,
      r.2.mem ((c.tc : Thread Cert.Sum8Kernel.nD Cert.Sum8Kernel.τ).loc Cert.Sum8Kernel.main_arg0) = m ((c.tc : Thread Cert.Sum8Kernel.nD Cert.Sum8Kernel.τ).loc Cert.Sum8Kernel.main_arg0))
      ∧ r.2.sem = fun _ => 0)

def quiescent_Sum8KernelIdeal [hSum8KernelIdeal : Cert.Sum8KernelIdeal.Facts] : Prop :=
  ∀ (m : (ℓ : Loc Cert.Sum8KernelIdeal.nD Cert.Sum8KernelIdeal.τ Cert.Sum8KernelIdeal.sig) → Buf (Elt Ideal) ℓ) (g : Dev Cert.Sum8KernelIdeal.nD → PrngReg), Pre_Sum8KernelIdeal m →
    θ_run (Cert.Sum8KernelIdeal.defs (F := Ideal)) (onTc (τ := Cert.Sum8KernelIdeal.τ) (Cert.Sum8KernelIdeal.main (F := Ideal))) ⟨m, fun _ => 0, g⟩ (fun r => (∀ c : Dev Cert.Sum8KernelIdeal.nD,
      r.2.mem ((c.tc : Thread Cert.Sum8KernelIdeal.nD Cert.Sum8KernelIdeal.τ).loc Cert.Sum8KernelIdeal.main_arg0) = m ((c.tc : Thread Cert.Sum8KernelIdeal.nD Cert.Sum8KernelIdeal.τ).loc Cert.Sum8KernelIdeal.main_arg0))
      ∧ r.2.sem = fun _ => 0)

def quiescent_Sum8ReferenceIdeal [hSum8ReferenceIdeal : Cert.Sum8ReferenceIdeal.Facts] : Prop :=
  ∀ (m : (ℓ : Loc Cert.Sum8ReferenceIdeal.nD Cert.Sum8ReferenceIdeal.τ Cert.Sum8ReferenceIdeal.sig) → Buf (Elt Ideal) ℓ) (g : Dev Cert.Sum8ReferenceIdeal.nD → PrngReg), Pre_Sum8ReferenceIdeal m →
    θ_run (Cert.Sum8ReferenceIdeal.defs (F := Ideal)) (onTc (τ := Cert.Sum8ReferenceIdeal.τ) (Cert.Sum8ReferenceIdeal.main (F := Ideal))) ⟨m, fun _ => 0, g⟩ (fun r => (∀ c : Dev Cert.Sum8ReferenceIdeal.nD,
      r.2.mem ((c.tc : Thread Cert.Sum8ReferenceIdeal.nD Cert.Sum8ReferenceIdeal.τ).loc Cert.Sum8ReferenceIdeal.main_arg0) = m ((c.tc : Thread Cert.Sum8ReferenceIdeal.nD Cert.Sum8ReferenceIdeal.τ).loc Cert.Sum8ReferenceIdeal.main_arg0))
      ∧ r.2.sem = fun _ => 0)

def quiescent_ManyKernel [hManyKernel : Cert.ManyKernel.Facts] : Prop :=
  ∀ (m : (ℓ : Loc Cert.ManyKernel.nD Cert.ManyKernel.τ Cert.ManyKernel.sig) → Buf (Elt Bits) ℓ) (g : Dev Cert.ManyKernel.nD → PrngReg), Pre_ManyKernel m →
    θ_run (Cert.ManyKernel.defs (F := Bits)) (onTc (τ := Cert.ManyKernel.τ) (Cert.ManyKernel.main (F := Bits))) ⟨m, fun _ => 0, g⟩ (fun r => (∀ c : Dev Cert.ManyKernel.nD,
      r.2.mem ((c.tc : Thread Cert.ManyKernel.nD Cert.ManyKernel.τ).loc Cert.ManyKernel.main_arg0) = m ((c.tc : Thread Cert.ManyKernel.nD Cert.ManyKernel.τ).loc Cert.ManyKernel.main_arg0)
      ∧ r.2.mem ((c.tc : Thread Cert.ManyKernel.nD Cert.ManyKernel.τ).loc Cert.ManyKernel.main_arg1) = m ((c.tc : Thread Cert.ManyKernel.nD Cert.ManyKernel.τ).loc Cert.ManyKernel.main_arg1)
      ∧ r.2.mem ((c.tc : Thread Cert.ManyKernel.nD Cert.ManyKernel.τ).loc Cert.ManyKernel.main_arg2) = m ((c.tc : Thread Cert.ManyKernel.nD Cert.ManyKernel.τ).loc Cert.ManyKernel.main_arg2)
      ∧ r.2.mem ((c.tc : Thread Cert.ManyKernel.nD Cert.ManyKernel.τ).loc Cert.ManyKernel.main_arg3) = m ((c.tc : Thread Cert.ManyKernel.nD Cert.ManyKernel.τ).loc Cert.ManyKernel.main_arg3)
      ∧ r.2.mem ((c.tc : Thread Cert.ManyKernel.nD Cert.ManyKernel.τ).loc Cert.ManyKernel.main_arg4) = m ((c.tc : Thread Cert.ManyKernel.nD Cert.ManyKernel.τ).loc Cert.ManyKernel.main_arg4)
      ∧ r.2.mem ((c.tc : Thread Cert.ManyKernel.nD Cert.ManyKernel.τ).loc Cert.ManyKernel.main_arg5) = m ((c.tc : Thread Cert.ManyKernel.nD Cert.ManyKernel.τ).loc Cert.ManyKernel.main_arg5)
      ∧ r.2.mem ((c.tc : Thread Cert.ManyKernel.nD Cert.ManyKernel.τ).loc Cert.ManyKernel.main_arg6) = m ((c.tc : Thread Cert.ManyKernel.nD Cert.ManyKernel.τ).loc Cert.ManyKernel.main_arg6)
      ∧ r.2.mem ((c.tc : Thread Cert.ManyKernel.nD Cert.ManyKernel.τ).loc Cert.ManyKernel.main_arg7) = m ((c.tc : Thread Cert.ManyKernel.nD Cert.ManyKernel.τ).loc Cert.ManyKernel.main_arg7)
      ∧ r.2.mem ((c.tc : Thread Cert.ManyKernel.nD Cert.ManyKernel.τ).loc Cert.ManyKernel.main_arg8) = m ((c.tc : Thread Cert.ManyKernel.nD Cert.ManyKernel.τ).loc Cert.ManyKernel.main_arg8)
      ∧ r.2.mem ((c.tc : Thread Cert.ManyKernel.nD Cert.ManyKernel.τ).loc Cert.ManyKernel.main_arg9) = m ((c.tc : Thread Cert.ManyKernel.nD Cert.ManyKernel.τ).loc Cert.ManyKernel.main_arg9)
      ∧ r.2.mem ((c.tc : Thread Cert.ManyKernel.nD Cert.ManyKernel.τ).loc Cert.ManyKernel.main_arg10) = m ((c.tc : Thread Cert.ManyKernel.nD Cert.ManyKernel.τ).loc Cert.ManyKernel.main_arg10)
      ∧ r.2.mem ((c.tc : Thread Cert.ManyKernel.nD Cert.ManyKernel.τ).loc Cert.ManyKernel.main_arg11) = m ((c.tc : Thread Cert.ManyKernel.nD Cert.ManyKernel.τ).loc Cert.ManyKernel.main_arg11))
      ∧ r.2.sem = fun _ => 0)

def quiescent_ManyKernelIdeal [hManyKernelIdeal : Cert.ManyKernelIdeal.Facts] : Prop :=
  ∀ (m : (ℓ : Loc Cert.ManyKernelIdeal.nD Cert.ManyKernelIdeal.τ Cert.ManyKernelIdeal.sig) → Buf (Elt Ideal) ℓ) (g : Dev Cert.ManyKernelIdeal.nD → PrngReg), Pre_ManyKernelIdeal m →
    θ_run (Cert.ManyKernelIdeal.defs (F := Ideal)) (onTc (τ := Cert.ManyKernelIdeal.τ) (Cert.ManyKernelIdeal.main (F := Ideal))) ⟨m, fun _ => 0, g⟩ (fun r => (∀ c : Dev Cert.ManyKernelIdeal.nD,
      r.2.mem ((c.tc : Thread Cert.ManyKernelIdeal.nD Cert.ManyKernelIdeal.τ).loc Cert.ManyKernelIdeal.main_arg0) = m ((c.tc : Thread Cert.ManyKernelIdeal.nD Cert.ManyKernelIdeal.τ).loc Cert.ManyKernelIdeal.main_arg0)
      ∧ r.2.mem ((c.tc : Thread Cert.ManyKernelIdeal.nD Cert.ManyKernelIdeal.τ).loc Cert.ManyKernelIdeal.main_arg1) = m ((c.tc : Thread Cert.ManyKernelIdeal.nD Cert.ManyKernelIdeal.τ).loc Cert.ManyKernelIdeal.main_arg1)
      ∧ r.2.mem ((c.tc : Thread Cert.ManyKernelIdeal.nD Cert.ManyKernelIdeal.τ).loc Cert.ManyKernelIdeal.main_arg2) = m ((c.tc : Thread Cert.ManyKernelIdeal.nD Cert.ManyKernelIdeal.τ).loc Cert.ManyKernelIdeal.main_arg2)
      ∧ r.2.mem ((c.tc : Thread Cert.ManyKernelIdeal.nD Cert.ManyKernelIdeal.τ).loc Cert.ManyKernelIdeal.main_arg3) = m ((c.tc : Thread Cert.ManyKernelIdeal.nD Cert.ManyKernelIdeal.τ).loc Cert.ManyKernelIdeal.main_arg3)
      ∧ r.2.mem ((c.tc : Thread Cert.ManyKernelIdeal.nD Cert.ManyKernelIdeal.τ).loc Cert.ManyKernelIdeal.main_arg4) = m ((c.tc : Thread Cert.ManyKernelIdeal.nD Cert.ManyKernelIdeal.τ).loc Cert.ManyKernelIdeal.main_arg4)
      ∧ r.2.mem ((c.tc : Thread Cert.ManyKernelIdeal.nD Cert.ManyKernelIdeal.τ).loc Cert.ManyKernelIdeal.main_arg5) = m ((c.tc : Thread Cert.ManyKernelIdeal.nD Cert.ManyKernelIdeal.τ).loc Cert.ManyKernelIdeal.main_arg5)
      ∧ r.2.mem ((c.tc : Thread Cert.ManyKernelIdeal.nD Cert.ManyKernelIdeal.τ).loc Cert.ManyKernelIdeal.main_arg6) = m ((c.tc : Thread Cert.ManyKernelIdeal.nD Cert.ManyKernelIdeal.τ).loc Cert.ManyKernelIdeal.main_arg6)
      ∧ r.2.mem ((c.tc : Thread Cert.ManyKernelIdeal.nD Cert.ManyKernelIdeal.τ).loc Cert.ManyKernelIdeal.main_arg7) = m ((c.tc : Thread Cert.ManyKernelIdeal.nD Cert.ManyKernelIdeal.τ).loc Cert.ManyKernelIdeal.main_arg7)
      ∧ r.2.mem ((c.tc : Thread Cert.ManyKernelIdeal.nD Cert.ManyKernelIdeal.τ).loc Cert.ManyKernelIdeal.main_arg8) = m ((c.tc : Thread Cert.ManyKernelIdeal.nD Cert.ManyKernelIdeal.τ).loc Cert.ManyKernelIdeal.main_arg8)
      ∧ r.2.mem ((c.tc : Thread Cert.ManyKernelIdeal.nD Cert.ManyKernelIdeal.τ).loc Cert.ManyKernelIdeal.main_arg9) = m ((c.tc : Thread Cert.ManyKernelIdeal.nD Cert.ManyKernelIdeal.τ).loc Cert.ManyKernelIdeal.main_arg9)
      ∧ r.2.mem ((c.tc : Thread Cert.ManyKernelIdeal.nD Cert.ManyKernelIdeal.τ).loc Cert.ManyKernelIdeal.main_arg10) = m ((c.tc : Thread Cert.ManyKernelIdeal.nD Cert.ManyKernelIdeal.τ).loc Cert.ManyKernelIdeal.main_arg10)
      ∧ r.2.mem ((c.tc : Thread Cert.ManyKernelIdeal.nD Cert.ManyKernelIdeal.τ).loc Cert.ManyKernelIdeal.main_arg11) = m ((c.tc : Thread Cert.ManyKernelIdeal.nD Cert.ManyKernelIdeal.τ).loc Cert.ManyKernelIdeal.main_arg11))
      ∧ r.2.sem = fun _ => 0)

def quiescent_ManyReferenceIdeal [hManyReferenceIdeal : Cert.ManyReferenceIdeal.Facts] : Prop :=
  ∀ (m : (ℓ : Loc Cert.ManyReferenceIdeal.nD Cert.ManyReferenceIdeal.τ Cert.ManyReferenceIdeal.sig) → Buf (Elt Ideal) ℓ) (g : Dev Cert.ManyReferenceIdeal.nD → PrngReg), Pre_ManyReferenceIdeal m →
    θ_run (Cert.ManyReferenceIdeal.defs (F := Ideal)) (onTc (τ := Cert.ManyReferenceIdeal.τ) (Cert.ManyReferenceIdeal.main (F := Ideal))) ⟨m, fun _ => 0, g⟩ (fun r => (∀ c : Dev Cert.ManyReferenceIdeal.nD,
      r.2.mem ((c.tc : Thread Cert.ManyReferenceIdeal.nD Cert.ManyReferenceIdeal.τ).loc Cert.ManyReferenceIdeal.main_arg0) = m ((c.tc : Thread Cert.ManyReferenceIdeal.nD Cert.ManyReferenceIdeal.τ).loc Cert.ManyReferenceIdeal.main_arg0)
      ∧ r.2.mem ((c.tc : Thread Cert.ManyReferenceIdeal.nD Cert.ManyReferenceIdeal.τ).loc Cert.ManyReferenceIdeal.main_arg1) = m ((c.tc : Thread Cert.ManyReferenceIdeal.nD Cert.ManyReferenceIdeal.τ).loc Cert.ManyReferenceIdeal.main_arg1)
      ∧ r.2.mem ((c.tc : Thread Cert.ManyReferenceIdeal.nD Cert.ManyReferenceIdeal.τ).loc Cert.ManyReferenceIdeal.main_arg2) = m ((c.tc : Thread Cert.ManyReferenceIdeal.nD Cert.ManyReferenceIdeal.τ).loc Cert.ManyReferenceIdeal.main_arg2)
      ∧ r.2.mem ((c.tc : Thread Cert.ManyReferenceIdeal.nD Cert.ManyReferenceIdeal.τ).loc Cert.ManyReferenceIdeal.main_arg3) = m ((c.tc : Thread Cert.ManyReferenceIdeal.nD Cert.ManyReferenceIdeal.τ).loc Cert.ManyReferenceIdeal.main_arg3)
      ∧ r.2.mem ((c.tc : Thread Cert.ManyReferenceIdeal.nD Cert.ManyReferenceIdeal.τ).loc Cert.ManyReferenceIdeal.main_arg4) = m ((c.tc : Thread Cert.ManyReferenceIdeal.nD Cert.ManyReferenceIdeal.τ).loc Cert.ManyReferenceIdeal.main_arg4)
      ∧ r.2.mem ((c.tc : Thread Cert.ManyReferenceIdeal.nD Cert.ManyReferenceIdeal.τ).loc Cert.ManyReferenceIdeal.main_arg5) = m ((c.tc : Thread Cert.ManyReferenceIdeal.nD Cert.ManyReferenceIdeal.τ).loc Cert.ManyReferenceIdeal.main_arg5)
      ∧ r.2.mem ((c.tc : Thread Cert.ManyReferenceIdeal.nD Cert.ManyReferenceIdeal.τ).loc Cert.ManyReferenceIdeal.main_arg6) = m ((c.tc : Thread Cert.ManyReferenceIdeal.nD Cert.ManyReferenceIdeal.τ).loc Cert.ManyReferenceIdeal.main_arg6)
      ∧ r.2.mem ((c.tc : Thread Cert.ManyReferenceIdeal.nD Cert.ManyReferenceIdeal.τ).loc Cert.ManyReferenceIdeal.main_arg7) = m ((c.tc : Thread Cert.ManyReferenceIdeal.nD Cert.ManyReferenceIdeal.τ).loc Cert.ManyReferenceIdeal.main_arg7)
      ∧ r.2.mem ((c.tc : Thread Cert.ManyReferenceIdeal.nD Cert.ManyReferenceIdeal.τ).loc Cert.ManyReferenceIdeal.main_arg8) = m ((c.tc : Thread Cert.ManyReferenceIdeal.nD Cert.ManyReferenceIdeal.τ).loc Cert.ManyReferenceIdeal.main_arg8)
      ∧ r.2.mem ((c.tc : Thread Cert.ManyReferenceIdeal.nD Cert.ManyReferenceIdeal.τ).loc Cert.ManyReferenceIdeal.main_arg9) = m ((c.tc : Thread Cert.ManyReferenceIdeal.nD Cert.ManyReferenceIdeal.τ).loc Cert.ManyReferenceIdeal.main_arg9)
      ∧ r.2.mem ((c.tc : Thread Cert.ManyReferenceIdeal.nD Cert.ManyReferenceIdeal.τ).loc Cert.ManyReferenceIdeal.main_arg10) = m ((c.tc : Thread Cert.ManyReferenceIdeal.nD Cert.ManyReferenceIdeal.τ).loc Cert.ManyReferenceIdeal.main_arg10)
      ∧ r.2.mem ((c.tc : Thread Cert.ManyReferenceIdeal.nD Cert.ManyReferenceIdeal.τ).loc Cert.ManyReferenceIdeal.main_arg11) = m ((c.tc : Thread Cert.ManyReferenceIdeal.nD Cert.ManyReferenceIdeal.τ).loc Cert.ManyReferenceIdeal.main_arg11))
      ∧ r.2.sem = fun _ => 0)

def quiescent_HalfKernel [hHalfKernel : Cert.HalfKernel.Facts] : Prop :=
  ∀ (m : (ℓ : Loc Cert.HalfKernel.nD Cert.HalfKernel.τ Cert.HalfKernel.sig) → Buf (Elt Bits) ℓ) (g : Dev Cert.HalfKernel.nD → PrngReg), Pre_HalfKernel m →
    θ_run (Cert.HalfKernel.defs (F := Bits)) (onTc (τ := Cert.HalfKernel.τ) (Cert.HalfKernel.main (F := Bits))) ⟨m, fun _ => 0, g⟩ (fun r => (∀ c : Dev Cert.HalfKernel.nD,
      r.2.mem ((c.tc : Thread Cert.HalfKernel.nD Cert.HalfKernel.τ).loc Cert.HalfKernel.main_arg0) = m ((c.tc : Thread Cert.HalfKernel.nD Cert.HalfKernel.τ).loc Cert.HalfKernel.main_arg0)
      ∧ r.2.mem ((c.tc : Thread Cert.HalfKernel.nD Cert.HalfKernel.τ).loc Cert.HalfKernel.main_arg1) = m ((c.tc : Thread Cert.HalfKernel.nD Cert.HalfKernel.τ).loc Cert.HalfKernel.main_arg1))
      ∧ r.2.sem = fun _ => 0)

def quiescent_HalfKernelIdeal [hHalfKernelIdeal : Cert.HalfKernelIdeal.Facts] : Prop :=
  ∀ (m : (ℓ : Loc Cert.HalfKernelIdeal.nD Cert.HalfKernelIdeal.τ Cert.HalfKernelIdeal.sig) → Buf (Elt Ideal) ℓ) (g : Dev Cert.HalfKernelIdeal.nD → PrngReg), Pre_HalfKernelIdeal m →
    θ_run (Cert.HalfKernelIdeal.defs (F := Ideal)) (onTc (τ := Cert.HalfKernelIdeal.τ) (Cert.HalfKernelIdeal.main (F := Ideal))) ⟨m, fun _ => 0, g⟩ (fun r => (∀ c : Dev Cert.HalfKernelIdeal.nD,
      r.2.mem ((c.tc : Thread Cert.HalfKernelIdeal.nD Cert.HalfKernelIdeal.τ).loc Cert.HalfKernelIdeal.main_arg0) = m ((c.tc : Thread Cert.HalfKernelIdeal.nD Cert.HalfKernelIdeal.τ).loc Cert.HalfKernelIdeal.main_arg0)
      ∧ r.2.mem ((c.tc : Thread Cert.HalfKernelIdeal.nD Cert.HalfKernelIdeal.τ).loc Cert.HalfKernelIdeal.main_arg1) = m ((c.tc : Thread Cert.HalfKernelIdeal.nD Cert.HalfKernelIdeal.τ).loc Cert.HalfKernelIdeal.main_arg1))
      ∧ r.2.sem = fun _ => 0)

def quiescent_HalfReferenceIdeal [hHalfReferenceIdeal : Cert.HalfReferenceIdeal.Facts] : Prop :=
  ∀ (m : (ℓ : Loc Cert.HalfReferenceIdeal.nD Cert.HalfReferenceIdeal.τ Cert.HalfReferenceIdeal.sig) → Buf (Elt Ideal) ℓ) (g : Dev Cert.HalfReferenceIdeal.nD → PrngReg), Pre_HalfReferenceIdeal m →
    θ_run (Cert.HalfReferenceIdeal.defs (F := Ideal)) (onTc (τ := Cert.HalfReferenceIdeal.τ) (Cert.HalfReferenceIdeal.main (F := Ideal))) ⟨m, fun _ => 0, g⟩ (fun r => (∀ c : Dev Cert.HalfReferenceIdeal.nD,
      r.2.mem ((c.tc : Thread Cert.HalfReferenceIdeal.nD Cert.HalfReferenceIdeal.τ).loc Cert.HalfReferenceIdeal.main_arg0) = m ((c.tc : Thread Cert.HalfReferenceIdeal.nD Cert.HalfReferenceIdeal.τ).loc Cert.HalfReferenceIdeal.main_arg0)
      ∧ r.2.mem ((c.tc : Thread Cert.HalfReferenceIdeal.nD Cert.HalfReferenceIdeal.τ).loc Cert.HalfReferenceIdeal.main_arg1) = m ((c.tc : Thread Cert.HalfReferenceIdeal.nD Cert.HalfReferenceIdeal.τ).loc Cert.HalfReferenceIdeal.main_arg1))
      ∧ r.2.sem = fun _ => 0)

def quiescent_CastKernel [hCastKernel : Cert.CastKernel.Facts] : Prop :=
  ∀ (m : (ℓ : Loc Cert.CastKernel.nD Cert.CastKernel.τ Cert.CastKernel.sig) → Buf (Elt Bits) ℓ) (g : Dev Cert.CastKernel.nD → PrngReg), Pre_CastKernel m →
    θ_run (Cert.CastKernel.defs (F := Bits)) (onTc (τ := Cert.CastKernel.τ) (Cert.CastKernel.main (F := Bits))) ⟨m, fun _ => 0, g⟩ (fun r => (∀ c : Dev Cert.CastKernel.nD,
      r.2.mem ((c.tc : Thread Cert.CastKernel.nD Cert.CastKernel.τ).loc Cert.CastKernel.main_arg0) = m ((c.tc : Thread Cert.CastKernel.nD Cert.CastKernel.τ).loc Cert.CastKernel.main_arg0))
      ∧ r.2.sem = fun _ => 0)

def quiescent_CastKernelIdeal [hCastKernelIdeal : Cert.CastKernelIdeal.Facts] : Prop :=
  ∀ (m : (ℓ : Loc Cert.CastKernelIdeal.nD Cert.CastKernelIdeal.τ Cert.CastKernelIdeal.sig) → Buf (Elt Ideal) ℓ) (g : Dev Cert.CastKernelIdeal.nD → PrngReg), Pre_CastKernelIdeal m →
    θ_run (Cert.CastKernelIdeal.defs (F := Ideal)) (onTc (τ := Cert.CastKernelIdeal.τ) (Cert.CastKernelIdeal.main (F := Ideal))) ⟨m, fun _ => 0, g⟩ (fun r => (∀ c : Dev Cert.CastKernelIdeal.nD,
      r.2.mem ((c.tc : Thread Cert.CastKernelIdeal.nD Cert.CastKernelIdeal.τ).loc Cert.CastKernelIdeal.main_arg0) = m ((c.tc : Thread Cert.CastKernelIdeal.nD Cert.CastKernelIdeal.τ).loc Cert.CastKernelIdeal.main_arg0))
      ∧ r.2.sem = fun _ => 0)

def quiescent_CastReferenceIdeal [hCastReferenceIdeal : Cert.CastReferenceIdeal.Facts] : Prop :=
  ∀ (m : (ℓ : Loc Cert.CastReferenceIdeal.nD Cert.CastReferenceIdeal.τ Cert.CastReferenceIdeal.sig) → Buf (Elt Ideal) ℓ) (g : Dev Cert.CastReferenceIdeal.nD → PrngReg), Pre_CastReferenceIdeal m →
    θ_run (Cert.CastReferenceIdeal.defs (F := Ideal)) (onTc (τ := Cert.CastReferenceIdeal.τ) (Cert.CastReferenceIdeal.main (F := Ideal))) ⟨m, fun _ => 0, g⟩ (fun r => (∀ c : Dev Cert.CastReferenceIdeal.nD,
      r.2.mem ((c.tc : Thread Cert.CastReferenceIdeal.nD Cert.CastReferenceIdeal.τ).loc Cert.CastReferenceIdeal.main_arg0) = m ((c.tc : Thread Cert.CastReferenceIdeal.nD Cert.CastReferenceIdeal.τ).loc Cert.CastReferenceIdeal.main_arg0))
      ∧ r.2.sem = fun _ => 0)

def preserves_DhKernel_DhKernelIdeal : Prop :=
  True

def algebraic_DhKernelIdeal_DhReferenceIdeal_pre_dh_finite [hDhKernelIdeal : Cert.DhKernelIdeal.Facts] [hDhReferenceIdeal : Cert.DhReferenceIdeal.Facts] [hPre_dh_finite : Cert.Pre_dh_finite.Facts] : Prop :=
  ∀ (m : (ℓ : Loc Cert.DhKernelIdeal.nD Cert.DhKernelIdeal.τ Cert.DhKernelIdeal.sig) → Buf (Elt Ideal) ℓ) (g : Dev Cert.DhKernelIdeal.nD → PrngReg)
    (m' : (ℓ : Loc Cert.DhReferenceIdeal.nD Cert.DhReferenceIdeal.τ Cert.DhReferenceIdeal.sig) → Buf (Elt Ideal) ℓ) (g' : Dev Cert.DhReferenceIdeal.nD → PrngReg), Pre_DhKernelIdeal_dh_finite m →
    (∀ c : Dev Cert.DhKernelIdeal.nD,
      m' ((c.tc : Thread Cert.DhReferenceIdeal.nD Cert.DhReferenceIdeal.τ).loc Cert.DhReferenceIdeal.main_arg0) = m ((c.tc : Thread Cert.DhKernelIdeal.nD Cert.DhKernelIdeal.τ).loc Cert.DhKernelIdeal.main_arg0)
      ∧ m' ((c.tc : Thread Cert.DhReferenceIdeal.nD Cert.DhReferenceIdeal.τ).loc Cert.DhReferenceIdeal.main_arg1) = m ((c.tc : Thread Cert.DhKernelIdeal.nD Cert.DhKernelIdeal.τ).loc Cert.DhKernelIdeal.main_arg1)
      ∧ m' ((c.tc : Thread Cert.DhReferenceIdeal.nD Cert.DhReferenceIdeal.τ).loc Cert.DhReferenceIdeal.main_arg2) = m ((c.tc : Thread Cert.DhKernelIdeal.nD Cert.DhKernelIdeal.τ).loc Cert.DhKernelIdeal.main_arg2)
      ∧ m' ((c.tc : Thread Cert.DhReferenceIdeal.nD Cert.DhReferenceIdeal.τ).loc Cert.DhReferenceIdeal.main_arg3) = m ((c.tc : Thread Cert.DhKernelIdeal.nD Cert.DhKernelIdeal.τ).loc Cert.DhKernelIdeal.main_arg3)
      ∧ m' ((c.tc : Thread Cert.DhReferenceIdeal.nD Cert.DhReferenceIdeal.τ).loc Cert.DhReferenceIdeal.main_arg4) = m ((c.tc : Thread Cert.DhKernelIdeal.nD Cert.DhKernelIdeal.τ).loc Cert.DhKernelIdeal.main_arg4)
      ∧ m' ((c.tc : Thread Cert.DhReferenceIdeal.nD Cert.DhReferenceIdeal.τ).loc Cert.DhReferenceIdeal.main_arg5) = m ((c.tc : Thread Cert.DhKernelIdeal.nD Cert.DhKernelIdeal.τ).loc Cert.DhKernelIdeal.main_arg5)
      ∧ m' ((c.tc : Thread Cert.DhReferenceIdeal.nD Cert.DhReferenceIdeal.τ).loc Cert.DhReferenceIdeal.main_arg6) = m ((c.tc : Thread Cert.DhKernelIdeal.nD Cert.DhKernelIdeal.τ).loc Cert.DhKernelIdeal.main_arg6)) →
    ∃ (v0 : (c : Dev Cert.DhKernelIdeal.nD) → Buf (Elt Ideal) ((c.tc : Thread Cert.DhKernelIdeal.nD Cert.DhKernelIdeal.τ).loc Cert.DhKernelIdeal.main_v19_0)) (v1 : (c : Dev Cert.DhKernelIdeal.nD) → Buf (Elt Ideal) ((c.tc : Thread Cert.DhKernelIdeal.nD Cert.DhKernelIdeal.τ).loc Cert.DhKernelIdeal.main_v19_1)),
      θ_run (Cert.DhKernelIdeal.defs (F := Ideal)) (onTc (τ := Cert.DhKernelIdeal.τ) (Cert.DhKernelIdeal.main (F := Ideal))) ⟨m, fun _ => 0, g⟩ (fun r => ∀ c : Dev Cert.DhKernelIdeal.nD,
          r.2.mem ((c.tc : Thread Cert.DhKernelIdeal.nD Cert.DhKernelIdeal.τ).loc Cert.DhKernelIdeal.main_v19_0) = v0 c
          ∧ r.2.mem ((c.tc : Thread Cert.DhKernelIdeal.nD Cert.DhKernelIdeal.τ).loc Cert.DhKernelIdeal.main_v19_1) = v1 c
          ∧ r.2.mem ((c.tc : Thread Cert.DhKernelIdeal.nD Cert.DhKernelIdeal.τ).loc Cert.DhKernelIdeal.main_arg0) = m ((c.tc : Thread Cert.DhKernelIdeal.nD Cert.DhKernelIdeal.τ).loc Cert.DhKernelIdeal.main_arg0)
          ∧ r.2.mem ((c.tc : Thread Cert.DhKernelIdeal.nD Cert.DhKernelIdeal.τ).loc Cert.DhKernelIdeal.main_arg1) = m ((c.tc : Thread Cert.DhKernelIdeal.nD Cert.DhKernelIdeal.τ).loc Cert.DhKernelIdeal.main_arg1)
          ∧ r.2.mem ((c.tc : Thread Cert.DhKernelIdeal.nD Cert.DhKernelIdeal.τ).loc Cert.DhKernelIdeal.main_arg2) = m ((c.tc : Thread Cert.DhKernelIdeal.nD Cert.DhKernelIdeal.τ).loc Cert.DhKernelIdeal.main_arg2)
          ∧ r.2.mem ((c.tc : Thread Cert.DhKernelIdeal.nD Cert.DhKernelIdeal.τ).loc Cert.DhKernelIdeal.main_arg3) = m ((c.tc : Thread Cert.DhKernelIdeal.nD Cert.DhKernelIdeal.τ).loc Cert.DhKernelIdeal.main_arg3)
          ∧ r.2.mem ((c.tc : Thread Cert.DhKernelIdeal.nD Cert.DhKernelIdeal.τ).loc Cert.DhKernelIdeal.main_arg4) = m ((c.tc : Thread Cert.DhKernelIdeal.nD Cert.DhKernelIdeal.τ).loc Cert.DhKernelIdeal.main_arg4)
          ∧ r.2.mem ((c.tc : Thread Cert.DhKernelIdeal.nD Cert.DhKernelIdeal.τ).loc Cert.DhKernelIdeal.main_arg5) = m ((c.tc : Thread Cert.DhKernelIdeal.nD Cert.DhKernelIdeal.τ).loc Cert.DhKernelIdeal.main_arg5)
          ∧ r.2.mem ((c.tc : Thread Cert.DhKernelIdeal.nD Cert.DhKernelIdeal.τ).loc Cert.DhKernelIdeal.main_arg6) = m ((c.tc : Thread Cert.DhKernelIdeal.nD Cert.DhKernelIdeal.τ).loc Cert.DhKernelIdeal.main_arg6))
      ∧ θ_run (Cert.DhReferenceIdeal.defs (F := Ideal)) (onTc (τ := Cert.DhReferenceIdeal.τ) (Cert.DhReferenceIdeal.main (F := Ideal))) ⟨m', fun _ => 0, g'⟩ (fun r => ∀ c : Dev Cert.DhReferenceIdeal.nD,
          r.2.mem ((c.tc : Thread Cert.DhReferenceIdeal.nD Cert.DhReferenceIdeal.τ).loc Cert.DhReferenceIdeal.main_v62) = v0 c
          ∧ r.2.mem ((c.tc : Thread Cert.DhReferenceIdeal.nD Cert.DhReferenceIdeal.τ).loc Cert.DhReferenceIdeal.main_v64) = v1 c
          ∧ r.2.mem ((c.tc : Thread Cert.DhReferenceIdeal.nD Cert.DhReferenceIdeal.τ).loc Cert.DhReferenceIdeal.main_arg0) = m' ((c.tc : Thread Cert.DhReferenceIdeal.nD Cert.DhReferenceIdeal.τ).loc Cert.DhReferenceIdeal.main_arg0)
          ∧ r.2.mem ((c.tc : Thread Cert.DhReferenceIdeal.nD Cert.DhReferenceIdeal.τ).loc Cert.DhReferenceIdeal.main_arg1) = m' ((c.tc : Thread Cert.DhReferenceIdeal.nD Cert.DhReferenceIdeal.τ).loc Cert.DhReferenceIdeal.main_arg1)
          ∧ r.2.mem ((c.tc : Thread Cert.DhReferenceIdeal.nD Cert.DhReferenceIdeal.τ).loc Cert.DhReferenceIdeal.main_arg2) = m' ((c.tc : Thread Cert.DhReferenceIdeal.nD Cert.DhReferenceIdeal.τ).loc Cert.DhReferenceIdeal.main_arg2)
          ∧ r.2.mem ((c.tc : Thread Cert.DhReferenceIdeal.nD Cert.DhReferenceIdeal.τ).loc Cert.DhReferenceIdeal.main_arg3) = m' ((c.tc : Thread Cert.DhReferenceIdeal.nD Cert.DhReferenceIdeal.τ).loc Cert.DhReferenceIdeal.main_arg3)
          ∧ r.2.mem ((c.tc : Thread Cert.DhReferenceIdeal.nD Cert.DhReferenceIdeal.τ).loc Cert.DhReferenceIdeal.main_arg4) = m' ((c.tc : Thread Cert.DhReferenceIdeal.nD Cert.DhReferenceIdeal.τ).loc Cert.DhReferenceIdeal.main_arg4)
          ∧ r.2.mem ((c.tc : Thread Cert.DhReferenceIdeal.nD Cert.DhReferenceIdeal.τ).loc Cert.DhReferenceIdeal.main_arg5) = m' ((c.tc : Thread Cert.DhReferenceIdeal.nD Cert.DhReferenceIdeal.τ).loc Cert.DhReferenceIdeal.main_arg5)
          ∧ r.2.mem ((c.tc : Thread Cert.DhReferenceIdeal.nD Cert.DhReferenceIdeal.τ).loc Cert.DhReferenceIdeal.main_arg6) = m' ((c.tc : Thread Cert.DhReferenceIdeal.nD Cert.DhReferenceIdeal.τ).loc Cert.DhReferenceIdeal.main_arg6))

def preserves_MergeKernel_MergeKernelIdeal : Prop :=
  True

def algebraic_MergeKernelIdeal_MergeReferenceIdeal_pre_merge_finite [hMergeKernelIdeal : Cert.MergeKernelIdeal.Facts] [hMergeReferenceIdeal : Cert.MergeReferenceIdeal.Facts] [hPre_merge_finite : Cert.Pre_merge_finite.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal_merge_finite m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)
      ∧ m' ((c.tc : Thread Cert.MergeReferenceIdeal.nD Cert.MergeReferenceIdeal.τ).loc Cert.MergeReferenceIdeal.main_arg7) = m ((c.tc : Thread Cert.MergeKernelIdeal.nD Cert.MergeKernelIdeal.τ).loc Cert.MergeKernelIdeal.main_arg7)
      ∧ m' ((c.tc : Thread Cert.MergeReferenceIdeal.nD Cert.MergeReferenceIdeal.τ).loc Cert.MergeReferenceIdeal.main_arg8) = m ((c.tc : Thread Cert.MergeKernelIdeal.nD Cert.MergeKernelIdeal.τ).loc Cert.MergeKernelIdeal.main_arg8)
      ∧ m' ((c.tc : Thread Cert.MergeReferenceIdeal.nD Cert.MergeReferenceIdeal.τ).loc Cert.MergeReferenceIdeal.main_arg9) = m ((c.tc : Thread Cert.MergeKernelIdeal.nD Cert.MergeKernelIdeal.τ).loc Cert.MergeKernelIdeal.main_arg9)) →
    ∃ (v0 : (c : Dev Cert.MergeKernelIdeal.nD) → Buf (Elt Ideal) ((c.tc : Thread Cert.MergeKernelIdeal.nD Cert.MergeKernelIdeal.τ).loc Cert.MergeKernelIdeal.main_v20_0)) (v1 : (c : Dev Cert.MergeKernelIdeal.nD) → Buf (Elt Ideal) ((c.tc : Thread Cert.MergeKernelIdeal.nD Cert.MergeKernelIdeal.τ).loc Cert.MergeKernelIdeal.main_v20_1)) (v2 : (c : Dev Cert.MergeKernelIdeal.nD) → Buf (Elt Ideal) ((c.tc : Thread Cert.MergeKernelIdeal.nD Cert.MergeKernelIdeal.τ).loc Cert.MergeKernelIdeal.main_v20_2)) (v3 : (c : Dev Cert.MergeKernelIdeal.nD) → Buf (Elt Ideal) ((c.tc : Thread Cert.MergeKernelIdeal.nD Cert.MergeKernelIdeal.τ).loc Cert.MergeKernelIdeal.main_v20_3)) (v4 : (c : Dev Cert.MergeKernelIdeal.nD) → Buf (Elt Ideal) ((c.tc : Thread Cert.MergeKernelIdeal.nD Cert.MergeKernelIdeal.τ).loc Cert.MergeKernelIdeal.main_v20_4)) (v5 : (c : Dev Cert.MergeKernelIdeal.nD) → Buf (Elt Ideal) ((c.tc : Thread Cert.MergeKernelIdeal.nD Cert.MergeKernelIdeal.τ).loc Cert.MergeKernelIdeal.main_v20_5)) (v6 : (c : Dev Cert.MergeKernelIdeal.nD) → Buf (Elt Ideal) ((c.tc : Thread Cert.MergeKernelIdeal.nD Cert.MergeKernelIdeal.τ).loc Cert.MergeKernelIdeal.main_v20_6)) (v7 : (c : Dev Cert.MergeKernelIdeal.nD) → Buf (Elt Ideal) ((c.tc : Thread Cert.MergeKernelIdeal.nD Cert.MergeKernelIdeal.τ).loc Cert.MergeKernelIdeal.main_v20_7)) (v8 : (c : Dev Cert.MergeKernelIdeal.nD) → Buf (Elt Ideal) ((c.tc : Thread Cert.MergeKernelIdeal.nD Cert.MergeKernelIdeal.τ).loc Cert.MergeKernelIdeal.main_v20_8)) (v9 : (c : Dev Cert.MergeKernelIdeal.nD) → Buf (Elt Ideal) ((c.tc : Thread Cert.MergeKernelIdeal.nD Cert.MergeKernelIdeal.τ).loc Cert.MergeKernelIdeal.main_v20_9)) (v10 : (c : Dev Cert.MergeKernelIdeal.nD) → Buf (Elt Ideal) ((c.tc : Thread Cert.MergeKernelIdeal.nD Cert.MergeKernelIdeal.τ).loc Cert.MergeKernelIdeal.main_v20_10)) (v11 : (c : Dev Cert.MergeKernelIdeal.nD) → Buf (Elt Ideal) ((c.tc : Thread Cert.MergeKernelIdeal.nD Cert.MergeKernelIdeal.τ).loc Cert.MergeKernelIdeal.main_v20_11)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v20_0) = v0 c
          ∧ r.2.mem ((c.tc : Thread Cert.MergeKernelIdeal.nD Cert.MergeKernelIdeal.τ).loc Cert.MergeKernelIdeal.main_v20_1) = v1 c
          ∧ r.2.mem ((c.tc : Thread Cert.MergeKernelIdeal.nD Cert.MergeKernelIdeal.τ).loc Cert.MergeKernelIdeal.main_v20_2) = v2 c
          ∧ r.2.mem ((c.tc : Thread Cert.MergeKernelIdeal.nD Cert.MergeKernelIdeal.τ).loc Cert.MergeKernelIdeal.main_v20_3) = v3 c
          ∧ r.2.mem ((c.tc : Thread Cert.MergeKernelIdeal.nD Cert.MergeKernelIdeal.τ).loc Cert.MergeKernelIdeal.main_v20_4) = v4 c
          ∧ r.2.mem ((c.tc : Thread Cert.MergeKernelIdeal.nD Cert.MergeKernelIdeal.τ).loc Cert.MergeKernelIdeal.main_v20_5) = v5 c
          ∧ r.2.mem ((c.tc : Thread Cert.MergeKernelIdeal.nD Cert.MergeKernelIdeal.τ).loc Cert.MergeKernelIdeal.main_v20_6) = v6 c
          ∧ r.2.mem ((c.tc : Thread Cert.MergeKernelIdeal.nD Cert.MergeKernelIdeal.τ).loc Cert.MergeKernelIdeal.main_v20_7) = v7 c
          ∧ r.2.mem ((c.tc : Thread Cert.MergeKernelIdeal.nD Cert.MergeKernelIdeal.τ).loc Cert.MergeKernelIdeal.main_v20_8) = v8 c
          ∧ r.2.mem ((c.tc : Thread Cert.MergeKernelIdeal.nD Cert.MergeKernelIdeal.τ).loc Cert.MergeKernelIdeal.main_v20_9) = v9 c
          ∧ r.2.mem ((c.tc : Thread Cert.MergeKernelIdeal.nD Cert.MergeKernelIdeal.τ).loc Cert.MergeKernelIdeal.main_v20_10) = v10 c
          ∧ r.2.mem ((c.tc : Thread Cert.MergeKernelIdeal.nD Cert.MergeKernelIdeal.τ).loc Cert.MergeKernelIdeal.main_v20_11) = v11 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
          ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
          ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
          ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v125) = v0 c
          ∧ r.2.mem ((c.tc : Thread Cert.MergeReferenceIdeal.nD Cert.MergeReferenceIdeal.τ).loc Cert.MergeReferenceIdeal.main_v126) = v1 c
          ∧ r.2.mem ((c.tc : Thread Cert.MergeReferenceIdeal.nD Cert.MergeReferenceIdeal.τ).loc Cert.MergeReferenceIdeal.main_v128) = v2 c
          ∧ r.2.mem ((c.tc : Thread Cert.MergeReferenceIdeal.nD Cert.MergeReferenceIdeal.τ).loc Cert.MergeReferenceIdeal.main_v130) = v3 c
          ∧ r.2.mem ((c.tc : Thread Cert.MergeReferenceIdeal.nD Cert.MergeReferenceIdeal.τ).loc Cert.MergeReferenceIdeal.main_v132) = v4 c
          ∧ r.2.mem ((c.tc : Thread Cert.MergeReferenceIdeal.nD Cert.MergeReferenceIdeal.τ).loc Cert.MergeReferenceIdeal.main_v135) = v5 c
          ∧ r.2.mem ((c.tc : Thread Cert.MergeReferenceIdeal.nD Cert.MergeReferenceIdeal.τ).loc Cert.MergeReferenceIdeal.main_v136) = v6 c
          ∧ r.2.mem ((c.tc : Thread Cert.MergeReferenceIdeal.nD Cert.MergeReferenceIdeal.τ).loc Cert.MergeReferenceIdeal.main_v137) = v7 c
          ∧ r.2.mem ((c.tc : Thread Cert.MergeReferenceIdeal.nD Cert.MergeReferenceIdeal.τ).loc Cert.MergeReferenceIdeal.main_v139) = v8 c
          ∧ r.2.mem ((c.tc : Thread Cert.MergeReferenceIdeal.nD Cert.MergeReferenceIdeal.τ).loc Cert.MergeReferenceIdeal.main_v140) = v9 c
          ∧ r.2.mem ((c.tc : Thread Cert.MergeReferenceIdeal.nD Cert.MergeReferenceIdeal.τ).loc Cert.MergeReferenceIdeal.main_v143) = v10 c
          ∧ r.2.mem ((c.tc : Thread Cert.MergeReferenceIdeal.nD Cert.MergeReferenceIdeal.τ).loc Cert.MergeReferenceIdeal.main_v145) = v11 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9))

def preserves_HgrnFwd_HgrnFwdIdeal : Prop :=
  True

def algebraic_HgrnFwdIdeal_HgrnFwdReferenceIdeal_pre_hgrn_fwd_pre [hHgrnFwdIdeal : Cert.HgrnFwdIdeal.Facts] [hHgrnFwdReferenceIdeal : Cert.HgrnFwdReferenceIdeal.Facts] [hPre_hgrn_fwd_pre : Cert.Pre_hgrn_fwd_pre.Facts] : Prop :=
  ∀ (m : (ℓ : Loc Cert.HgrnFwdIdeal.nD Cert.HgrnFwdIdeal.τ Cert.HgrnFwdIdeal.sig) → Buf (Elt Ideal) ℓ) (g : Dev Cert.HgrnFwdIdeal.nD → PrngReg)
    (m' : (ℓ : Loc Cert.HgrnFwdReferenceIdeal.nD Cert.HgrnFwdReferenceIdeal.τ Cert.HgrnFwdReferenceIdeal.sig) → Buf (Elt Ideal) ℓ) (g' : Dev Cert.HgrnFwdReferenceIdeal.nD → PrngReg), Pre_HgrnFwdIdeal_hgrn_fwd_pre m →
    (∀ c : Dev Cert.HgrnFwdIdeal.nD,
      m' ((c.tc : Thread Cert.HgrnFwdReferenceIdeal.nD Cert.HgrnFwdReferenceIdeal.τ).loc Cert.HgrnFwdReferenceIdeal.main_arg0) = m ((c.tc : Thread Cert.HgrnFwdIdeal.nD Cert.HgrnFwdIdeal.τ).loc Cert.HgrnFwdIdeal.main_arg0)
      ∧ m' ((c.tc : Thread Cert.HgrnFwdReferenceIdeal.nD Cert.HgrnFwdReferenceIdeal.τ).loc Cert.HgrnFwdReferenceIdeal.main_arg1) = m ((c.tc : Thread Cert.HgrnFwdIdeal.nD Cert.HgrnFwdIdeal.τ).loc Cert.HgrnFwdIdeal.main_arg1)
      ∧ m' ((c.tc : Thread Cert.HgrnFwdReferenceIdeal.nD Cert.HgrnFwdReferenceIdeal.τ).loc Cert.HgrnFwdReferenceIdeal.main_arg2) = m ((c.tc : Thread Cert.HgrnFwdIdeal.nD Cert.HgrnFwdIdeal.τ).loc Cert.HgrnFwdIdeal.main_arg2)) →
    ∃ (v0 : (c : Dev Cert.HgrnFwdIdeal.nD) → Buf (Elt Ideal) ((c.tc : Thread Cert.HgrnFwdIdeal.nD Cert.HgrnFwdIdeal.τ).loc Cert.HgrnFwdIdeal.main_v5_0)) (v1 : (c : Dev Cert.HgrnFwdIdeal.nD) → Buf (Elt Ideal) ((c.tc : Thread Cert.HgrnFwdIdeal.nD Cert.HgrnFwdIdeal.τ).loc Cert.HgrnFwdIdeal.main_v5_1)) (v2 : (c : Dev Cert.HgrnFwdIdeal.nD) → Buf (Elt Ideal) ((c.tc : Thread Cert.HgrnFwdIdeal.nD Cert.HgrnFwdIdeal.τ).loc Cert.HgrnFwdIdeal.main_v5_2)),
      θ_run (Cert.HgrnFwdIdeal.defs (F := Ideal)) (onTc (τ := Cert.HgrnFwdIdeal.τ) (Cert.HgrnFwdIdeal.main (F := Ideal))) ⟨m, fun _ => 0, g⟩ (fun r => ∀ c : Dev Cert.HgrnFwdIdeal.nD,
          r.2.mem ((c.tc : Thread Cert.HgrnFwdIdeal.nD Cert.HgrnFwdIdeal.τ).loc Cert.HgrnFwdIdeal.main_v5_0) = v0 c
          ∧ r.2.mem ((c.tc : Thread Cert.HgrnFwdIdeal.nD Cert.HgrnFwdIdeal.τ).loc Cert.HgrnFwdIdeal.main_v5_1) = v1 c
          ∧ r.2.mem ((c.tc : Thread Cert.HgrnFwdIdeal.nD Cert.HgrnFwdIdeal.τ).loc Cert.HgrnFwdIdeal.main_v5_2) = v2 c
          ∧ r.2.mem ((c.tc : Thread Cert.HgrnFwdIdeal.nD Cert.HgrnFwdIdeal.τ).loc Cert.HgrnFwdIdeal.main_arg0) = m ((c.tc : Thread Cert.HgrnFwdIdeal.nD Cert.HgrnFwdIdeal.τ).loc Cert.HgrnFwdIdeal.main_arg0)
          ∧ r.2.mem ((c.tc : Thread Cert.HgrnFwdIdeal.nD Cert.HgrnFwdIdeal.τ).loc Cert.HgrnFwdIdeal.main_arg1) = m ((c.tc : Thread Cert.HgrnFwdIdeal.nD Cert.HgrnFwdIdeal.τ).loc Cert.HgrnFwdIdeal.main_arg1)
          ∧ r.2.mem ((c.tc : Thread Cert.HgrnFwdIdeal.nD Cert.HgrnFwdIdeal.τ).loc Cert.HgrnFwdIdeal.main_arg2) = m ((c.tc : Thread Cert.HgrnFwdIdeal.nD Cert.HgrnFwdIdeal.τ).loc Cert.HgrnFwdIdeal.main_arg2))
      ∧ θ_run (Cert.HgrnFwdReferenceIdeal.defs (F := Ideal)) (onTc (τ := Cert.HgrnFwdReferenceIdeal.τ) (Cert.HgrnFwdReferenceIdeal.main (F := Ideal))) ⟨m', fun _ => 0, g'⟩ (fun r => ∀ c : Dev Cert.HgrnFwdReferenceIdeal.nD,
          r.2.mem ((c.tc : Thread Cert.HgrnFwdReferenceIdeal.nD Cert.HgrnFwdReferenceIdeal.τ).loc Cert.HgrnFwdReferenceIdeal.main_v58) = v0 c
          ∧ r.2.mem ((c.tc : Thread Cert.HgrnFwdReferenceIdeal.nD Cert.HgrnFwdReferenceIdeal.τ).loc Cert.HgrnFwdReferenceIdeal.main_v60) = v1 c
          ∧ r.2.mem ((c.tc : Thread Cert.HgrnFwdReferenceIdeal.nD Cert.HgrnFwdReferenceIdeal.τ).loc Cert.HgrnFwdReferenceIdeal.main_v63) = v2 c
          ∧ r.2.mem ((c.tc : Thread Cert.HgrnFwdReferenceIdeal.nD Cert.HgrnFwdReferenceIdeal.τ).loc Cert.HgrnFwdReferenceIdeal.main_arg0) = m' ((c.tc : Thread Cert.HgrnFwdReferenceIdeal.nD Cert.HgrnFwdReferenceIdeal.τ).loc Cert.HgrnFwdReferenceIdeal.main_arg0)
          ∧ r.2.mem ((c.tc : Thread Cert.HgrnFwdReferenceIdeal.nD Cert.HgrnFwdReferenceIdeal.τ).loc Cert.HgrnFwdReferenceIdeal.main_arg1) = m' ((c.tc : Thread Cert.HgrnFwdReferenceIdeal.nD Cert.HgrnFwdReferenceIdeal.τ).loc Cert.HgrnFwdReferenceIdeal.main_arg1)
          ∧ r.2.mem ((c.tc : Thread Cert.HgrnFwdReferenceIdeal.nD Cert.HgrnFwdReferenceIdeal.τ).loc Cert.HgrnFwdReferenceIdeal.main_arg2) = m' ((c.tc : Thread Cert.HgrnFwdReferenceIdeal.nD Cert.HgrnFwdReferenceIdeal.τ).loc Cert.HgrnFwdReferenceIdeal.main_arg2))

def preserves_HgrnBwd_HgrnBwdIdeal : Prop :=
  True

def preserves_ModKernel_ModKernelIdeal : Prop :=
  True

def algebraic_ModKernelIdeal_ModReferenceIdeal [hModKernelIdeal : Cert.ModKernelIdeal.Facts] [hModReferenceIdeal : Cert.ModReferenceIdeal.Facts] : Prop :=
  ∀ (m : (ℓ : Loc Cert.ModKernelIdeal.nD Cert.ModKernelIdeal.τ Cert.ModKernelIdeal.sig) → Buf (Elt Ideal) ℓ) (g : Dev Cert.ModKernelIdeal.nD → PrngReg)
    (m' : (ℓ : Loc Cert.ModReferenceIdeal.nD Cert.ModReferenceIdeal.τ Cert.ModReferenceIdeal.sig) → Buf (Elt Ideal) ℓ) (g' : Dev Cert.ModReferenceIdeal.nD → PrngReg), Pre_ModKernelIdeal m →
    (∀ c : Dev Cert.ModKernelIdeal.nD,
      m' ((c.tc : Thread Cert.ModReferenceIdeal.nD Cert.ModReferenceIdeal.τ).loc Cert.ModReferenceIdeal.main_arg0) = m ((c.tc : Thread Cert.ModKernelIdeal.nD Cert.ModKernelIdeal.τ).loc Cert.ModKernelIdeal.main_arg0)
      ∧ m' ((c.tc : Thread Cert.ModReferenceIdeal.nD Cert.ModReferenceIdeal.τ).loc Cert.ModReferenceIdeal.main_arg1) = m ((c.tc : Thread Cert.ModKernelIdeal.nD Cert.ModKernelIdeal.τ).loc Cert.ModKernelIdeal.main_arg1)
      ∧ m' ((c.tc : Thread Cert.ModReferenceIdeal.nD Cert.ModReferenceIdeal.τ).loc Cert.ModReferenceIdeal.main_arg2) = m ((c.tc : Thread Cert.ModKernelIdeal.nD Cert.ModKernelIdeal.τ).loc Cert.ModKernelIdeal.main_arg2)) →
    ∃ (v0 : (c : Dev Cert.ModKernelIdeal.nD) → Buf (Elt Ideal) ((c.tc : Thread Cert.ModKernelIdeal.nD Cert.ModKernelIdeal.τ).loc Cert.ModKernelIdeal.main_v1)),
      θ_run (Cert.ModKernelIdeal.defs (F := Ideal)) (onTc (τ := Cert.ModKernelIdeal.τ) (Cert.ModKernelIdeal.main (F := Ideal))) ⟨m, fun _ => 0, g⟩ (fun r => ∀ c : Dev Cert.ModKernelIdeal.nD,
          r.2.mem ((c.tc : Thread Cert.ModKernelIdeal.nD Cert.ModKernelIdeal.τ).loc Cert.ModKernelIdeal.main_v1) = v0 c
          ∧ r.2.mem ((c.tc : Thread Cert.ModKernelIdeal.nD Cert.ModKernelIdeal.τ).loc Cert.ModKernelIdeal.main_arg0) = m ((c.tc : Thread Cert.ModKernelIdeal.nD Cert.ModKernelIdeal.τ).loc Cert.ModKernelIdeal.main_arg0)
          ∧ r.2.mem ((c.tc : Thread Cert.ModKernelIdeal.nD Cert.ModKernelIdeal.τ).loc Cert.ModKernelIdeal.main_arg1) = m ((c.tc : Thread Cert.ModKernelIdeal.nD Cert.ModKernelIdeal.τ).loc Cert.ModKernelIdeal.main_arg1)
          ∧ r.2.mem ((c.tc : Thread Cert.ModKernelIdeal.nD Cert.ModKernelIdeal.τ).loc Cert.ModKernelIdeal.main_arg2) = m ((c.tc : Thread Cert.ModKernelIdeal.nD Cert.ModKernelIdeal.τ).loc Cert.ModKernelIdeal.main_arg2))
      ∧ θ_run (Cert.ModReferenceIdeal.defs (F := Ideal)) (onTc (τ := Cert.ModReferenceIdeal.τ) (Cert.ModReferenceIdeal.main (F := Ideal))) ⟨m', fun _ => 0, g'⟩ (fun r => ∀ c : Dev Cert.ModReferenceIdeal.nD,
          r.2.mem ((c.tc : Thread Cert.ModReferenceIdeal.nD Cert.ModReferenceIdeal.τ).loc Cert.ModReferenceIdeal.main_v6) = v0 c
          ∧ r.2.mem ((c.tc : Thread Cert.ModReferenceIdeal.nD Cert.ModReferenceIdeal.τ).loc Cert.ModReferenceIdeal.main_arg0) = m' ((c.tc : Thread Cert.ModReferenceIdeal.nD Cert.ModReferenceIdeal.τ).loc Cert.ModReferenceIdeal.main_arg0)
          ∧ r.2.mem ((c.tc : Thread Cert.ModReferenceIdeal.nD Cert.ModReferenceIdeal.τ).loc Cert.ModReferenceIdeal.main_arg1) = m' ((c.tc : Thread Cert.ModReferenceIdeal.nD Cert.ModReferenceIdeal.τ).loc Cert.ModReferenceIdeal.main_arg1)
          ∧ r.2.mem ((c.tc : Thread Cert.ModReferenceIdeal.nD Cert.ModReferenceIdeal.τ).loc Cert.ModReferenceIdeal.main_arg2) = m' ((c.tc : Thread Cert.ModReferenceIdeal.nD Cert.ModReferenceIdeal.τ).loc Cert.ModReferenceIdeal.main_arg2))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)
      ∧ m' ((c.tc : Thread Cert.ProjReferenceIdeal.nD Cert.ProjReferenceIdeal.τ).loc Cert.ProjReferenceIdeal.main_arg3) = m ((c.tc : Thread Cert.ProjKernelIdeal.nD Cert.ProjKernelIdeal.τ).loc Cert.ProjKernelIdeal.main_arg3)
      ∧ m' ((c.tc : Thread Cert.ProjReferenceIdeal.nD Cert.ProjReferenceIdeal.τ).loc Cert.ProjReferenceIdeal.main_arg4) = m ((c.tc : Thread Cert.ProjKernelIdeal.nD Cert.ProjKernelIdeal.τ).loc Cert.ProjKernelIdeal.main_arg4)) →
    ∃ (v0 : (c : Dev Cert.ProjKernelIdeal.nD) → Buf (Elt Ideal) ((c.tc : Thread Cert.ProjKernelIdeal.nD Cert.ProjKernelIdeal.τ).loc Cert.ProjKernelIdeal.main_v10)) (v1 : (c : Dev Cert.ProjKernelIdeal.nD) → Buf (Elt Ideal) ((c.tc : Thread Cert.ProjKernelIdeal.nD Cert.ProjKernelIdeal.τ).loc Cert.ProjKernelIdeal.main_v9_1)) (v2 : (c : Dev Cert.ProjKernelIdeal.nD) → Buf (Elt Ideal) ((c.tc : Thread Cert.ProjKernelIdeal.nD Cert.ProjKernelIdeal.τ).loc Cert.ProjKernelIdeal.main_v9_2)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v10) = v0 c
          ∧ r.2.mem ((c.tc : Thread Cert.ProjKernelIdeal.nD Cert.ProjKernelIdeal.τ).loc Cert.ProjKernelIdeal.main_v9_1) = v1 c
          ∧ r.2.mem ((c.tc : Thread Cert.ProjKernelIdeal.nD Cert.ProjKernelIdeal.τ).loc Cert.ProjKernelIdeal.main_v9_2) = v2 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
          ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
          ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v25) = v0 c
          ∧ r.2.mem ((c.tc : Thread Cert.ProjReferenceIdeal.nD Cert.ProjReferenceIdeal.τ).loc Cert.ProjReferenceIdeal.main_v27) = v1 c
          ∧ r.2.mem ((c.tc : Thread Cert.ProjReferenceIdeal.nD Cert.ProjReferenceIdeal.τ).loc Cert.ProjReferenceIdeal.main_v30) = v2 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4))

def preserves_AttnFwd_AttnFwdIdeal : Prop :=
  True

def preserves_Dw3Kernel_Dw3KernelIdeal : Prop :=
  True

def algebraic_Dw3KernelIdeal_Dw3ReferenceIdeal [hDw3KernelIdeal : Cert.Dw3KernelIdeal.Facts] [hDw3ReferenceIdeal : Cert.Dw3ReferenceIdeal.Facts] : Prop :=
  ∀ (m : (ℓ : Loc Cert.Dw3KernelIdeal.nD Cert.Dw3KernelIdeal.τ Cert.Dw3KernelIdeal.sig) → Buf (Elt Ideal) ℓ) (g : Dev Cert.Dw3KernelIdeal.nD → PrngReg)
    (m' : (ℓ : Loc Cert.Dw3ReferenceIdeal.nD Cert.Dw3ReferenceIdeal.τ Cert.Dw3ReferenceIdeal.sig) → Buf (Elt Ideal) ℓ) (g' : Dev Cert.Dw3ReferenceIdeal.nD → PrngReg), Pre_Dw3KernelIdeal m →
    (∀ c : Dev Cert.Dw3KernelIdeal.nD,
      m' ((c.tc : Thread Cert.Dw3ReferenceIdeal.nD Cert.Dw3ReferenceIdeal.τ).loc Cert.Dw3ReferenceIdeal.main_arg0) = m ((c.tc : Thread Cert.Dw3KernelIdeal.nD Cert.Dw3KernelIdeal.τ).loc Cert.Dw3KernelIdeal.main_arg0)
      ∧ m' ((c.tc : Thread Cert.Dw3ReferenceIdeal.nD Cert.Dw3ReferenceIdeal.τ).loc Cert.Dw3ReferenceIdeal.main_arg1) = m ((c.tc : Thread Cert.Dw3KernelIdeal.nD Cert.Dw3KernelIdeal.τ).loc Cert.Dw3KernelIdeal.main_arg1)
      ∧ m' ((c.tc : Thread Cert.Dw3ReferenceIdeal.nD Cert.Dw3ReferenceIdeal.τ).loc Cert.Dw3ReferenceIdeal.main_arg2) = m ((c.tc : Thread Cert.Dw3KernelIdeal.nD Cert.Dw3KernelIdeal.τ).loc Cert.Dw3KernelIdeal.main_arg2)
      ∧ m' ((c.tc : Thread Cert.Dw3ReferenceIdeal.nD Cert.Dw3ReferenceIdeal.τ).loc Cert.Dw3ReferenceIdeal.main_arg3) = m ((c.tc : Thread Cert.Dw3KernelIdeal.nD Cert.Dw3KernelIdeal.τ).loc Cert.Dw3KernelIdeal.main_arg3)
      ∧ m' ((c.tc : Thread Cert.Dw3ReferenceIdeal.nD Cert.Dw3ReferenceIdeal.τ).loc Cert.Dw3ReferenceIdeal.main_arg4) = m ((c.tc : Thread Cert.Dw3KernelIdeal.nD Cert.Dw3KernelIdeal.τ).loc Cert.Dw3KernelIdeal.main_arg4)
      ∧ m' ((c.tc : Thread Cert.Dw3ReferenceIdeal.nD Cert.Dw3ReferenceIdeal.τ).loc Cert.Dw3ReferenceIdeal.main_arg5) = m ((c.tc : Thread Cert.Dw3KernelIdeal.nD Cert.Dw3KernelIdeal.τ).loc Cert.Dw3KernelIdeal.main_arg5)) →
    ∃ (v0 : (c : Dev Cert.Dw3KernelIdeal.nD) → Buf (Elt Ideal) ((c.tc : Thread Cert.Dw3KernelIdeal.nD Cert.Dw3KernelIdeal.τ).loc Cert.Dw3KernelIdeal.main_v0_0)) (v1 : (c : Dev Cert.Dw3KernelIdeal.nD) → Buf (Elt Ideal) ((c.tc : Thread Cert.Dw3KernelIdeal.nD Cert.Dw3KernelIdeal.τ).loc Cert.Dw3KernelIdeal.main_v0_1)) (v2 : (c : Dev Cert.Dw3KernelIdeal.nD) → Buf (Elt Ideal) ((c.tc : Thread Cert.Dw3KernelIdeal.nD Cert.Dw3KernelIdeal.τ).loc Cert.Dw3KernelIdeal.main_v0_2)) (v3 : (c : Dev Cert.Dw3KernelIdeal.nD) → Buf (Elt Ideal) ((c.tc : Thread Cert.Dw3KernelIdeal.nD Cert.Dw3KernelIdeal.τ).loc Cert.Dw3KernelIdeal.main_v0_3)) (v4 : (c : Dev Cert.Dw3KernelIdeal.nD) → Buf (Elt Ideal) ((c.tc : Thread Cert.Dw3KernelIdeal.nD Cert.Dw3KernelIdeal.τ).loc Cert.Dw3KernelIdeal.main_v0_4)) (v5 : (c : Dev Cert.Dw3KernelIdeal.nD) → Buf (Elt Ideal) ((c.tc : Thread Cert.Dw3KernelIdeal.nD Cert.Dw3KernelIdeal.τ).loc Cert.Dw3KernelIdeal.main_v0_5)),
      θ_run (Cert.Dw3KernelIdeal.defs (F := Ideal)) (onTc (τ := Cert.Dw3KernelIdeal.τ) (Cert.Dw3KernelIdeal.main (F := Ideal))) ⟨m, fun _ => 0, g⟩ (fun r => ∀ c : Dev Cert.Dw3KernelIdeal.nD,
          r.2.mem ((c.tc : Thread Cert.Dw3KernelIdeal.nD Cert.Dw3KernelIdeal.τ).loc Cert.Dw3KernelIdeal.main_v0_0) = v0 c
          ∧ r.2.mem ((c.tc : Thread Cert.Dw3KernelIdeal.nD Cert.Dw3KernelIdeal.τ).loc Cert.Dw3KernelIdeal.main_v0_1) = v1 c
          ∧ r.2.mem ((c.tc : Thread Cert.Dw3KernelIdeal.nD Cert.Dw3KernelIdeal.τ).loc Cert.Dw3KernelIdeal.main_v0_2) = v2 c
          ∧ r.2.mem ((c.tc : Thread Cert.Dw3KernelIdeal.nD Cert.Dw3KernelIdeal.τ).loc Cert.Dw3KernelIdeal.main_v0_3) = v3 c
          ∧ r.2.mem ((c.tc : Thread Cert.Dw3KernelIdeal.nD Cert.Dw3KernelIdeal.τ).loc Cert.Dw3KernelIdeal.main_v0_4) = v4 c
          ∧ r.2.mem ((c.tc : Thread Cert.Dw3KernelIdeal.nD Cert.Dw3KernelIdeal.τ).loc Cert.Dw3KernelIdeal.main_v0_5) = v5 c
          ∧ r.2.mem ((c.tc : Thread Cert.Dw3KernelIdeal.nD Cert.Dw3KernelIdeal.τ).loc Cert.Dw3KernelIdeal.main_arg0) = m ((c.tc : Thread Cert.Dw3KernelIdeal.nD Cert.Dw3KernelIdeal.τ).loc Cert.Dw3KernelIdeal.main_arg0)
          ∧ r.2.mem ((c.tc : Thread Cert.Dw3KernelIdeal.nD Cert.Dw3KernelIdeal.τ).loc Cert.Dw3KernelIdeal.main_arg1) = m ((c.tc : Thread Cert.Dw3KernelIdeal.nD Cert.Dw3KernelIdeal.τ).loc Cert.Dw3KernelIdeal.main_arg1)
          ∧ r.2.mem ((c.tc : Thread Cert.Dw3KernelIdeal.nD Cert.Dw3KernelIdeal.τ).loc Cert.Dw3KernelIdeal.main_arg2) = m ((c.tc : Thread Cert.Dw3KernelIdeal.nD Cert.Dw3KernelIdeal.τ).loc Cert.Dw3KernelIdeal.main_arg2)
          ∧ r.2.mem ((c.tc : Thread Cert.Dw3KernelIdeal.nD Cert.Dw3KernelIdeal.τ).loc Cert.Dw3KernelIdeal.main_arg3) = m ((c.tc : Thread Cert.Dw3KernelIdeal.nD Cert.Dw3KernelIdeal.τ).loc Cert.Dw3KernelIdeal.main_arg3)
          ∧ r.2.mem ((c.tc : Thread Cert.Dw3KernelIdeal.nD Cert.Dw3KernelIdeal.τ).loc Cert.Dw3KernelIdeal.main_arg4) = m ((c.tc : Thread Cert.Dw3KernelIdeal.nD Cert.Dw3KernelIdeal.τ).loc Cert.Dw3KernelIdeal.main_arg4)
          ∧ r.2.mem ((c.tc : Thread Cert.Dw3KernelIdeal.nD Cert.Dw3KernelIdeal.τ).loc Cert.Dw3KernelIdeal.main_arg5) = m ((c.tc : Thread Cert.Dw3KernelIdeal.nD Cert.Dw3KernelIdeal.τ).loc Cert.Dw3KernelIdeal.main_arg5))
      ∧ θ_run (Cert.Dw3ReferenceIdeal.defs (F := Ideal)) (onTc (τ := Cert.Dw3ReferenceIdeal.τ) (Cert.Dw3ReferenceIdeal.main (F := Ideal))) ⟨m', fun _ => 0, g'⟩ (fun r => ∀ c : Dev Cert.Dw3ReferenceIdeal.nD,
          r.2.mem ((c.tc : Thread Cert.Dw3ReferenceIdeal.nD Cert.Dw3ReferenceIdeal.τ).loc Cert.Dw3ReferenceIdeal.main_v17) = v0 c
          ∧ r.2.mem ((c.tc : Thread Cert.Dw3ReferenceIdeal.nD Cert.Dw3ReferenceIdeal.τ).loc Cert.Dw3ReferenceIdeal.main_v18) = v1 c
          ∧ r.2.mem ((c.tc : Thread Cert.Dw3ReferenceIdeal.nD Cert.Dw3ReferenceIdeal.τ).loc Cert.Dw3ReferenceIdeal.main_v15) = v2 c
          ∧ r.2.mem ((c.tc : Thread Cert.Dw3ReferenceIdeal.nD Cert.Dw3ReferenceIdeal.τ).loc Cert.Dw3ReferenceIdeal.main_v19) = v3 c
          ∧ r.2.mem ((c.tc : Thread Cert.Dw3ReferenceIdeal.nD Cert.Dw3ReferenceIdeal.τ).loc Cert.Dw3ReferenceIdeal.main_v13) = v4 c
          ∧ r.2.mem ((c.tc : Thread Cert.Dw3ReferenceIdeal.nD Cert.Dw3ReferenceIdeal.τ).loc Cert.Dw3ReferenceIdeal.main_v20) = v5 c
          ∧ r.2.mem ((c.tc : Thread Cert.Dw3ReferenceIdeal.nD Cert.Dw3ReferenceIdeal.τ).loc Cert.Dw3ReferenceIdeal.main_arg0) = m' ((c.tc : Thread Cert.Dw3ReferenceIdeal.nD Cert.Dw3ReferenceIdeal.τ).loc Cert.Dw3ReferenceIdeal.main_arg0)
          ∧ r.2.mem ((c.tc : Thread Cert.Dw3ReferenceIdeal.nD Cert.Dw3ReferenceIdeal.τ).loc Cert.Dw3ReferenceIdeal.main_arg1) = m' ((c.tc : Thread Cert.Dw3ReferenceIdeal.nD Cert.Dw3ReferenceIdeal.τ).loc Cert.Dw3ReferenceIdeal.main_arg1)
          ∧ r.2.mem ((c.tc : Thread Cert.Dw3ReferenceIdeal.nD Cert.Dw3ReferenceIdeal.τ).loc Cert.Dw3ReferenceIdeal.main_arg2) = m' ((c.tc : Thread Cert.Dw3ReferenceIdeal.nD Cert.Dw3ReferenceIdeal.τ).loc Cert.Dw3ReferenceIdeal.main_arg2)
          ∧ r.2.mem ((c.tc : Thread Cert.Dw3ReferenceIdeal.nD Cert.Dw3ReferenceIdeal.τ).loc Cert.Dw3ReferenceIdeal.main_arg3) = m' ((c.tc : Thread Cert.Dw3ReferenceIdeal.nD Cert.Dw3ReferenceIdeal.τ).loc Cert.Dw3ReferenceIdeal.main_arg3)
          ∧ r.2.mem ((c.tc : Thread Cert.Dw3ReferenceIdeal.nD Cert.Dw3ReferenceIdeal.τ).loc Cert.Dw3ReferenceIdeal.main_arg4) = m' ((c.tc : Thread Cert.Dw3ReferenceIdeal.nD Cert.Dw3ReferenceIdeal.τ).loc Cert.Dw3ReferenceIdeal.main_arg4)
          ∧ r.2.mem ((c.tc : Thread Cert.Dw3ReferenceIdeal.nD Cert.Dw3ReferenceIdeal.τ).loc Cert.Dw3ReferenceIdeal.main_arg5) = m' ((c.tc : Thread Cert.Dw3ReferenceIdeal.nD Cert.Dw3ReferenceIdeal.τ).loc Cert.Dw3ReferenceIdeal.main_arg5))

def preserves_DwinKernel_DwinKernelIdeal : Prop :=
  True

def algebraic_DwinKernelIdeal_DwinReferenceIdeal [hDwinKernelIdeal : Cert.DwinKernelIdeal.Facts] [hDwinReferenceIdeal : Cert.DwinReferenceIdeal.Facts] : Prop :=
  ∀ (m : (ℓ : Loc Cert.DwinKernelIdeal.nD Cert.DwinKernelIdeal.τ Cert.DwinKernelIdeal.sig) → Buf (Elt Ideal) ℓ) (g : Dev Cert.DwinKernelIdeal.nD → PrngReg)
    (m' : (ℓ : Loc Cert.DwinReferenceIdeal.nD Cert.DwinReferenceIdeal.τ Cert.DwinReferenceIdeal.sig) → Buf (Elt Ideal) ℓ) (g' : Dev Cert.DwinReferenceIdeal.nD → PrngReg), Pre_DwinKernelIdeal m →
    (∀ c : Dev Cert.DwinKernelIdeal.nD,
      m' ((c.tc : Thread Cert.DwinReferenceIdeal.nD Cert.DwinReferenceIdeal.τ).loc Cert.DwinReferenceIdeal.main_arg0) = m ((c.tc : Thread Cert.DwinKernelIdeal.nD Cert.DwinKernelIdeal.τ).loc Cert.DwinKernelIdeal.main_arg0)
      ∧ m' ((c.tc : Thread Cert.DwinReferenceIdeal.nD Cert.DwinReferenceIdeal.τ).loc Cert.DwinReferenceIdeal.main_arg1) = m ((c.tc : Thread Cert.DwinKernelIdeal.nD Cert.DwinKernelIdeal.τ).loc Cert.DwinKernelIdeal.main_arg1)) →
    ∃ (v0 : (c : Dev Cert.DwinKernelIdeal.nD) → Buf (Elt Ideal) ((c.tc : Thread Cert.DwinKernelIdeal.nD Cert.DwinKernelIdeal.τ).loc Cert.DwinKernelIdeal.main_v11_0)) (v1 : (c : Dev Cert.DwinKernelIdeal.nD) → Buf (Elt Ideal) ((c.tc : Thread Cert.DwinKernelIdeal.nD Cert.DwinKernelIdeal.τ).loc Cert.DwinKernelIdeal.main_v11_1)),
      θ_run (Cert.DwinKernelIdeal.defs (F := Ideal)) (onTc (τ := Cert.DwinKernelIdeal.τ) (Cert.DwinKernelIdeal.main (F := Ideal))) ⟨m, fun _ => 0, g⟩ (fun r => ∀ c : Dev Cert.DwinKernelIdeal.nD,
          r.2.mem ((c.tc : Thread Cert.DwinKernelIdeal.nD Cert.DwinKernelIdeal.τ).loc Cert.DwinKernelIdeal.main_v11_0) = v0 c
          ∧ r.2.mem ((c.tc : Thread Cert.DwinKernelIdeal.nD Cert.DwinKernelIdeal.τ).loc Cert.DwinKernelIdeal.main_v11_1) = v1 c
          ∧ r.2.mem ((c.tc : Thread Cert.DwinKernelIdeal.nD Cert.DwinKernelIdeal.τ).loc Cert.DwinKernelIdeal.main_arg0) = m ((c.tc : Thread Cert.DwinKernelIdeal.nD Cert.DwinKernelIdeal.τ).loc Cert.DwinKernelIdeal.main_arg0)
          ∧ r.2.mem ((c.tc : Thread Cert.DwinKernelIdeal.nD Cert.DwinKernelIdeal.τ).loc Cert.DwinKernelIdeal.main_arg1) = m ((c.tc : Thread Cert.DwinKernelIdeal.nD Cert.DwinKernelIdeal.τ).loc Cert.DwinKernelIdeal.main_arg1))
      ∧ θ_run (Cert.DwinReferenceIdeal.defs (F := Ideal)) (onTc (τ := Cert.DwinReferenceIdeal.τ) (Cert.DwinReferenceIdeal.main (F := Ideal))) ⟨m', fun _ => 0, g'⟩ (fun r => ∀ c : Dev Cert.DwinReferenceIdeal.nD,
          r.2.mem ((c.tc : Thread Cert.DwinReferenceIdeal.nD Cert.DwinReferenceIdeal.τ).loc Cert.DwinReferenceIdeal.main_v7) = v0 c
          ∧ r.2.mem ((c.tc : Thread Cert.DwinReferenceIdeal.nD Cert.DwinReferenceIdeal.τ).loc Cert.DwinReferenceIdeal.main_v8) = v1 c
          ∧ r.2.mem ((c.tc : Thread Cert.DwinReferenceIdeal.nD Cert.DwinReferenceIdeal.τ).loc Cert.DwinReferenceIdeal.main_arg0) = m' ((c.tc : Thread Cert.DwinReferenceIdeal.nD Cert.DwinReferenceIdeal.τ).loc Cert.DwinReferenceIdeal.main_arg0)
          ∧ r.2.mem ((c.tc : Thread Cert.DwinReferenceIdeal.nD Cert.DwinReferenceIdeal.τ).loc Cert.DwinReferenceIdeal.main_arg1) = m' ((c.tc : Thread Cert.DwinReferenceIdeal.nD Cert.DwinReferenceIdeal.τ).loc Cert.DwinReferenceIdeal.main_arg1))

def preserves_AdaKernel_AdaKernelIdeal : Prop :=
  True

def algebraic_AdaKernelIdeal_AdaReferenceIdeal [hAdaKernelIdeal : Cert.AdaKernelIdeal.Facts] [hAdaReferenceIdeal : Cert.AdaReferenceIdeal.Facts] : Prop :=
  ∀ (m : (ℓ : Loc Cert.AdaKernelIdeal.nD Cert.AdaKernelIdeal.τ Cert.AdaKernelIdeal.sig) → Buf (Elt Ideal) ℓ) (g : Dev Cert.AdaKernelIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaKernelIdeal m →
    (∀ c : Dev Cert.AdaKernelIdeal.nD,
      m' ((c.tc : Thread Cert.AdaReferenceIdeal.nD Cert.AdaReferenceIdeal.τ).loc Cert.AdaReferenceIdeal.main_arg0) = m ((c.tc : Thread Cert.AdaKernelIdeal.nD Cert.AdaKernelIdeal.τ).loc Cert.AdaKernelIdeal.main_arg0)
      ∧ m' ((c.tc : Thread Cert.AdaReferenceIdeal.nD Cert.AdaReferenceIdeal.τ).loc Cert.AdaReferenceIdeal.main_arg1) = m ((c.tc : Thread Cert.AdaKernelIdeal.nD Cert.AdaKernelIdeal.τ).loc Cert.AdaKernelIdeal.main_arg1)
      ∧ m' ((c.tc : Thread Cert.AdaReferenceIdeal.nD Cert.AdaReferenceIdeal.τ).loc Cert.AdaReferenceIdeal.main_arg2) = m ((c.tc : Thread Cert.AdaKernelIdeal.nD Cert.AdaKernelIdeal.τ).loc Cert.AdaKernelIdeal.main_arg2)
      ∧ m' ((c.tc : Thread Cert.AdaReferenceIdeal.nD Cert.AdaReferenceIdeal.τ).loc Cert.AdaReferenceIdeal.main_arg3) = m ((c.tc : Thread Cert.AdaKernelIdeal.nD Cert.AdaKernelIdeal.τ).loc Cert.AdaKernelIdeal.main_arg3)
      ∧ m' ((c.tc : Thread Cert.AdaReferenceIdeal.nD Cert.AdaReferenceIdeal.τ).loc Cert.AdaReferenceIdeal.main_arg4) = m ((c.tc : Thread Cert.AdaKernelIdeal.nD Cert.AdaKernelIdeal.τ).loc Cert.AdaKernelIdeal.main_arg4)) →
    ∃ (v0 : (c : Dev Cert.AdaKernelIdeal.nD) → Buf (Elt Ideal) ((c.tc : Thread Cert.AdaKernelIdeal.nD Cert.AdaKernelIdeal.τ).loc Cert.AdaKernelIdeal.main_v11_0)) (v1 : (c : Dev Cert.AdaKernelIdeal.nD) → Buf (Elt Ideal) ((c.tc : Thread Cert.AdaKernelIdeal.nD Cert.AdaKernelIdeal.τ).loc Cert.AdaKernelIdeal.main_v11_1)) (v2 : (c : Dev Cert.AdaKernelIdeal.nD) → Buf (Elt Ideal) ((c.tc : Thread Cert.AdaKernelIdeal.nD Cert.AdaKernelIdeal.τ).loc Cert.AdaKernelIdeal.main_v11_2)) (v3 : (c : Dev Cert.AdaKernelIdeal.nD) → Buf (Elt Ideal) ((c.tc : Thread Cert.AdaKernelIdeal.nD Cert.AdaKernelIdeal.τ).loc Cert.AdaKernelIdeal.main_v11_3)),
      θ_run (Cert.AdaKernelIdeal.defs (F := Ideal)) (onTc (τ := Cert.AdaKernelIdeal.τ) (Cert.AdaKernelIdeal.main (F := Ideal))) ⟨m, fun _ => 0, g⟩ (fun r => ∀ c : Dev Cert.AdaKernelIdeal.nD,
          r.2.mem ((c.tc : Thread Cert.AdaKernelIdeal.nD Cert.AdaKernelIdeal.τ).loc Cert.AdaKernelIdeal.main_v11_0) = v0 c
          ∧ r.2.mem ((c.tc : Thread Cert.AdaKernelIdeal.nD Cert.AdaKernelIdeal.τ).loc Cert.AdaKernelIdeal.main_v11_1) = v1 c
          ∧ r.2.mem ((c.tc : Thread Cert.AdaKernelIdeal.nD Cert.AdaKernelIdeal.τ).loc Cert.AdaKernelIdeal.main_v11_2) = v2 c
          ∧ r.2.mem ((c.tc : Thread Cert.AdaKernelIdeal.nD Cert.AdaKernelIdeal.τ).loc Cert.AdaKernelIdeal.main_v11_3) = v3 c
          ∧ r.2.mem ((c.tc : Thread Cert.AdaKernelIdeal.nD Cert.AdaKernelIdeal.τ).loc Cert.AdaKernelIdeal.main_arg0) = m ((c.tc : Thread Cert.AdaKernelIdeal.nD Cert.AdaKernelIdeal.τ).loc Cert.AdaKernelIdeal.main_arg0)
          ∧ r.2.mem ((c.tc : Thread Cert.AdaKernelIdeal.nD Cert.AdaKernelIdeal.τ).loc Cert.AdaKernelIdeal.main_arg1) = m ((c.tc : Thread Cert.AdaKernelIdeal.nD Cert.AdaKernelIdeal.τ).loc Cert.AdaKernelIdeal.main_arg1)
          ∧ r.2.mem ((c.tc : Thread Cert.AdaKernelIdeal.nD Cert.AdaKernelIdeal.τ).loc Cert.AdaKernelIdeal.main_arg2) = m ((c.tc : Thread Cert.AdaKernelIdeal.nD Cert.AdaKernelIdeal.τ).loc Cert.AdaKernelIdeal.main_arg2)
          ∧ r.2.mem ((c.tc : Thread Cert.AdaKernelIdeal.nD Cert.AdaKernelIdeal.τ).loc Cert.AdaKernelIdeal.main_arg3) = m ((c.tc : Thread Cert.AdaKernelIdeal.nD Cert.AdaKernelIdeal.τ).loc Cert.AdaKernelIdeal.main_arg3)
          ∧ r.2.mem ((c.tc : Thread Cert.AdaKernelIdeal.nD Cert.AdaKernelIdeal.τ).loc Cert.AdaKernelIdeal.main_arg4) = m ((c.tc : Thread Cert.AdaKernelIdeal.nD Cert.AdaKernelIdeal.τ).loc Cert.AdaKernelIdeal.main_arg4))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v4) = v0 c
          ∧ r.2.mem ((c.tc : Thread Cert.AdaReferenceIdeal.nD Cert.AdaReferenceIdeal.τ).loc Cert.AdaReferenceIdeal.main_v31) = v1 c
          ∧ r.2.mem ((c.tc : Thread Cert.AdaReferenceIdeal.nD Cert.AdaReferenceIdeal.τ).loc Cert.AdaReferenceIdeal.main_v12) = v2 c
          ∧ r.2.mem ((c.tc : Thread Cert.AdaReferenceIdeal.nD Cert.AdaReferenceIdeal.τ).loc Cert.AdaReferenceIdeal.main_v18) = v3 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2)
          ∧ r.2.mem ((c.tc : Thread Cert.AdaReferenceIdeal.nD Cert.AdaReferenceIdeal.τ).loc Cert.AdaReferenceIdeal.main_arg3) = m' ((c.tc : Thread Cert.AdaReferenceIdeal.nD Cert.AdaReferenceIdeal.τ).loc Cert.AdaReferenceIdeal.main_arg3)
          ∧ r.2.mem ((c.tc : Thread Cert.AdaReferenceIdeal.nD Cert.AdaReferenceIdeal.τ).loc Cert.AdaReferenceIdeal.main_arg4) = m' ((c.tc : Thread Cert.AdaReferenceIdeal.nD Cert.AdaReferenceIdeal.τ).loc Cert.AdaReferenceIdeal.main_arg4))

def preserves_AdamwKernel_AdamwKernelIdeal : Prop :=
  True

def algebraic_AdamwKernelIdeal_AdamwReferenceIdeal [hAdamwKernelIdeal : Cert.AdamwKernelIdeal.Facts] [hAdamwReferenceIdeal : Cert.AdamwReferenceIdeal.Facts] : Prop :=
  ∀ (m : (ℓ : Loc Cert.AdamwKernelIdeal.nD Cert.AdamwKernelIdeal.τ Cert.AdamwKernelIdeal.sig) → Buf (Elt Ideal) ℓ) (g : Dev Cert.AdamwKernelIdeal.nD → PrngReg)
    (m' : (ℓ : Loc Cert.AdamwReferenceIdeal.nD Cert.AdamwReferenceIdeal.τ Cert.AdamwReferenceIdeal.sig) → Buf (Elt Ideal) ℓ) (g' : Dev Cert.AdamwReferenceIdeal.nD → PrngReg), Pre_AdamwKernelIdeal m →
    (∀ c : Dev Cert.AdamwKernelIdeal.nD,
      m' ((c.tc : Thread Cert.AdamwReferenceIdeal.nD Cert.AdamwReferenceIdeal.τ).loc Cert.AdamwReferenceIdeal.main_arg0) = m ((c.tc : Thread Cert.AdamwKernelIdeal.nD Cert.AdamwKernelIdeal.τ).loc Cert.AdamwKernelIdeal.main_arg0)
      ∧ m' ((c.tc : Thread Cert.AdamwReferenceIdeal.nD Cert.AdamwReferenceIdeal.τ).loc Cert.AdamwReferenceIdeal.main_arg1) = m ((c.tc : Thread Cert.AdamwKernelIdeal.nD Cert.AdamwKernelIdeal.τ).loc Cert.AdamwKernelIdeal.main_arg1)
      ∧ m' ((c.tc : Thread Cert.AdamwReferenceIdeal.nD Cert.AdamwReferenceIdeal.τ).loc Cert.AdamwReferenceIdeal.main_arg2) = m ((c.tc : Thread Cert.AdamwKernelIdeal.nD Cert.AdamwKernelIdeal.τ).loc Cert.AdamwKernelIdeal.main_arg2)
      ∧ m' ((c.tc : Thread Cert.AdamwReferenceIdeal.nD Cert.AdamwReferenceIdeal.τ).loc Cert.AdamwReferenceIdeal.main_arg3) = m ((c.tc : Thread Cert.AdamwKernelIdeal.nD Cert.AdamwKernelIdeal.τ).loc Cert.AdamwKernelIdeal.main_arg3)) →
    ∃ (v0 : (c : Dev Cert.AdamwKernelIdeal.nD) → Buf (Elt Ideal) ((c.tc : Thread Cert.AdamwKernelIdeal.nD Cert.AdamwKernelIdeal.τ).loc Cert.AdamwKernelIdeal.main_v3_0)) (v1 : (c : Dev Cert.AdamwKernelIdeal.nD) → Buf (Elt Ideal) ((c.tc : Thread Cert.AdamwKernelIdeal.nD Cert.AdamwKernelIdeal.τ).loc Cert.AdamwKernelIdeal.main_v3_1)) (v2 : (c : Dev Cert.AdamwKernelIdeal.nD) → Buf (Elt Ideal) ((c.tc : Thread Cert.AdamwKernelIdeal.nD Cert.AdamwKernelIdeal.τ).loc Cert.AdamwKernelIdeal.main_v3_2)) (v3 : (c : Dev Cert.AdamwKernelIdeal.nD) → Buf (Elt Ideal) ((c.tc : Thread Cert.AdamwKernelIdeal.nD Cert.AdamwKernelIdeal.τ).loc Cert.AdamwKernelIdeal.main_v3_3)),
      θ_run (Cert.AdamwKernelIdeal.defs (F := Ideal)) (onTc (τ := Cert.AdamwKernelIdeal.τ) (Cert.AdamwKernelIdeal.main (F := Ideal))) ⟨m, fun _ => 0, g⟩ (fun r => ∀ c : Dev Cert.AdamwKernelIdeal.nD,
          r.2.mem ((c.tc : Thread Cert.AdamwKernelIdeal.nD Cert.AdamwKernelIdeal.τ).loc Cert.AdamwKernelIdeal.main_v3_0) = v0 c
          ∧ r.2.mem ((c.tc : Thread Cert.AdamwKernelIdeal.nD Cert.AdamwKernelIdeal.τ).loc Cert.AdamwKernelIdeal.main_v3_1) = v1 c
          ∧ r.2.mem ((c.tc : Thread Cert.AdamwKernelIdeal.nD Cert.AdamwKernelIdeal.τ).loc Cert.AdamwKernelIdeal.main_v3_2) = v2 c
          ∧ r.2.mem ((c.tc : Thread Cert.AdamwKernelIdeal.nD Cert.AdamwKernelIdeal.τ).loc Cert.AdamwKernelIdeal.main_v3_3) = v3 c
          ∧ r.2.mem ((c.tc : Thread Cert.AdamwKernelIdeal.nD Cert.AdamwKernelIdeal.τ).loc Cert.AdamwKernelIdeal.main_arg0) = m ((c.tc : Thread Cert.AdamwKernelIdeal.nD Cert.AdamwKernelIdeal.τ).loc Cert.AdamwKernelIdeal.main_arg0)
          ∧ r.2.mem ((c.tc : Thread Cert.AdamwKernelIdeal.nD Cert.AdamwKernelIdeal.τ).loc Cert.AdamwKernelIdeal.main_arg1) = m ((c.tc : Thread Cert.AdamwKernelIdeal.nD Cert.AdamwKernelIdeal.τ).loc Cert.AdamwKernelIdeal.main_arg1)
          ∧ r.2.mem ((c.tc : Thread Cert.AdamwKernelIdeal.nD Cert.AdamwKernelIdeal.τ).loc Cert.AdamwKernelIdeal.main_arg2) = m ((c.tc : Thread Cert.AdamwKernelIdeal.nD Cert.AdamwKernelIdeal.τ).loc Cert.AdamwKernelIdeal.main_arg2)
          ∧ r.2.mem ((c.tc : Thread Cert.AdamwKernelIdeal.nD Cert.AdamwKernelIdeal.τ).loc Cert.AdamwKernelIdeal.main_arg3) = m ((c.tc : Thread Cert.AdamwKernelIdeal.nD Cert.AdamwKernelIdeal.τ).loc Cert.AdamwKernelIdeal.main_arg3))
      ∧ θ_run (Cert.AdamwReferenceIdeal.defs (F := Ideal)) (onTc (τ := Cert.AdamwReferenceIdeal.τ) (Cert.AdamwReferenceIdeal.main (F := Ideal))) ⟨m', fun _ => 0, g'⟩ (fun r => ∀ c : Dev Cert.AdamwReferenceIdeal.nD,
          r.2.mem ((c.tc : Thread Cert.AdamwReferenceIdeal.nD Cert.AdamwReferenceIdeal.τ).loc Cert.AdamwReferenceIdeal.main_arg1) = v0 c
          ∧ r.2.mem ((c.tc : Thread Cert.AdamwReferenceIdeal.nD Cert.AdamwReferenceIdeal.τ).loc Cert.AdamwReferenceIdeal.main_v26) = v1 c
          ∧ r.2.mem ((c.tc : Thread Cert.AdamwReferenceIdeal.nD Cert.AdamwReferenceIdeal.τ).loc Cert.AdamwReferenceIdeal.main_v7) = v2 c
          ∧ r.2.mem ((c.tc : Thread Cert.AdamwReferenceIdeal.nD Cert.AdamwReferenceIdeal.τ).loc Cert.AdamwReferenceIdeal.main_v13) = v3 c
          ∧ r.2.mem ((c.tc : Thread Cert.AdamwReferenceIdeal.nD Cert.AdamwReferenceIdeal.τ).loc Cert.AdamwReferenceIdeal.main_arg0) = m' ((c.tc : Thread Cert.AdamwReferenceIdeal.nD Cert.AdamwReferenceIdeal.τ).loc Cert.AdamwReferenceIdeal.main_arg0)
          ∧ r.2.mem ((c.tc : Thread Cert.AdamwReferenceIdeal.nD Cert.AdamwReferenceIdeal.τ).loc Cert.AdamwReferenceIdeal.main_arg1) = m' ((c.tc : Thread Cert.AdamwReferenceIdeal.nD Cert.AdamwReferenceIdeal.τ).loc Cert.AdamwReferenceIdeal.main_arg1)
          ∧ r.2.mem ((c.tc : Thread Cert.AdamwReferenceIdeal.nD Cert.AdamwReferenceIdeal.τ).loc Cert.AdamwReferenceIdeal.main_arg2) = m' ((c.tc : Thread Cert.AdamwReferenceIdeal.nD Cert.AdamwReferenceIdeal.τ).loc Cert.AdamwReferenceIdeal.main_arg2)
          ∧ r.2.mem ((c.tc : Thread Cert.AdamwReferenceIdeal.nD Cert.AdamwReferenceIdeal.τ).loc Cert.AdamwReferenceIdeal.main_arg3) = m' ((c.tc : Thread Cert.AdamwReferenceIdeal.nD Cert.AdamwReferenceIdeal.τ).loc Cert.AdamwReferenceIdeal.main_arg3))

def preserves_Sum8Kernel_Sum8KernelIdeal : Prop :=
  True

def algebraic_Sum8KernelIdeal_Sum8ReferenceIdeal [hSum8KernelIdeal : Cert.Sum8KernelIdeal.Facts] [hSum8ReferenceIdeal : Cert.Sum8ReferenceIdeal.Facts] : Prop :=
  ∀ (m : (ℓ : Loc Cert.Sum8KernelIdeal.nD Cert.Sum8KernelIdeal.τ Cert.Sum8KernelIdeal.sig) → Buf (Elt Ideal) ℓ) (g : Dev Cert.Sum8KernelIdeal.nD → PrngReg)
    (m' : (ℓ : Loc Cert.Sum8ReferenceIdeal.nD Cert.Sum8ReferenceIdeal.τ Cert.Sum8ReferenceIdeal.sig) → Buf (Elt Ideal) ℓ) (g' : Dev Cert.Sum8ReferenceIdeal.nD → PrngReg), Pre_Sum8KernelIdeal m →
    (∀ c : Dev Cert.Sum8KernelIdeal.nD,
      m' ((c.tc : Thread Cert.Sum8ReferenceIdeal.nD Cert.Sum8ReferenceIdeal.τ).loc Cert.Sum8ReferenceIdeal.main_arg0) = m ((c.tc : Thread Cert.Sum8KernelIdeal.nD Cert.Sum8KernelIdeal.τ).loc Cert.Sum8KernelIdeal.main_arg0)) →
    ∃ (v0 : (c : Dev Cert.Sum8KernelIdeal.nD) → Buf (Elt Ideal) ((c.tc : Thread Cert.Sum8KernelIdeal.nD Cert.Sum8KernelIdeal.τ).loc Cert.Sum8KernelIdeal.main_v0)),
      θ_run (Cert.Sum8KernelIdeal.defs (F := Ideal)) (onTc (τ := Cert.Sum8KernelIdeal.τ) (Cert.Sum8KernelIdeal.main (F := Ideal))) ⟨m, fun _ => 0, g⟩ (fun r => ∀ c : Dev Cert.Sum8KernelIdeal.nD,
          r.2.mem ((c.tc : Thread Cert.Sum8KernelIdeal.nD Cert.Sum8KernelIdeal.τ).loc Cert.Sum8KernelIdeal.main_v0) = v0 c
          ∧ r.2.mem ((c.tc : Thread Cert.Sum8KernelIdeal.nD Cert.Sum8KernelIdeal.τ).loc Cert.Sum8KernelIdeal.main_arg0) = m ((c.tc : Thread Cert.Sum8KernelIdeal.nD Cert.Sum8KernelIdeal.τ).loc Cert.Sum8KernelIdeal.main_arg0))
      ∧ θ_run (Cert.Sum8ReferenceIdeal.defs (F := Ideal)) (onTc (τ := Cert.Sum8ReferenceIdeal.τ) (Cert.Sum8ReferenceIdeal.main (F := Ideal))) ⟨m', fun _ => 0, g'⟩ (fun r => ∀ c : Dev Cert.Sum8ReferenceIdeal.nD,
          r.2.mem ((c.tc : Thread Cert.Sum8ReferenceIdeal.nD Cert.Sum8ReferenceIdeal.τ).loc Cert.Sum8ReferenceIdeal.main_v0) = v0 c
          ∧ r.2.mem ((c.tc : Thread Cert.Sum8ReferenceIdeal.nD Cert.Sum8ReferenceIdeal.τ).loc Cert.Sum8ReferenceIdeal.main_arg0) = m' ((c.tc : Thread Cert.Sum8ReferenceIdeal.nD Cert.Sum8ReferenceIdeal.τ).loc Cert.Sum8ReferenceIdeal.main_arg0))

def preserves_ManyKernel_ManyKernelIdeal : Prop :=
  True

def algebraic_ManyKernelIdeal_ManyReferenceIdeal [hManyKernelIdeal : Cert.ManyKernelIdeal.Facts] [hManyReferenceIdeal : Cert.ManyReferenceIdeal.Facts] : Prop :=
  ∀ (m : (ℓ : Loc Cert.ManyKernelIdeal.nD Cert.ManyKernelIdeal.τ Cert.ManyKernelIdeal.sig) → Buf (Elt Ideal) ℓ) (g : Dev Cert.ManyKernelIdeal.nD → PrngReg)
    (m' : (ℓ : Loc Cert.ManyReferenceIdeal.nD Cert.ManyReferenceIdeal.τ Cert.ManyReferenceIdeal.sig) → Buf (Elt Ideal) ℓ) (g' : Dev Cert.ManyReferenceIdeal.nD → PrngReg), Pre_ManyKernelIdeal m →
    (∀ c : Dev Cert.ManyKernelIdeal.nD,
      m' ((c.tc : Thread Cert.ManyReferenceIdeal.nD Cert.ManyReferenceIdeal.τ).loc Cert.ManyReferenceIdeal.main_arg0) = m ((c.tc : Thread Cert.ManyKernelIdeal.nD Cert.ManyKernelIdeal.τ).loc Cert.ManyKernelIdeal.main_arg0)
      ∧ m' ((c.tc : Thread Cert.ManyReferenceIdeal.nD Cert.ManyReferenceIdeal.τ).loc Cert.ManyReferenceIdeal.main_arg1) = m ((c.tc : Thread Cert.ManyKernelIdeal.nD Cert.ManyKernelIdeal.τ).loc Cert.ManyKernelIdeal.main_arg1)
      ∧ m' ((c.tc : Thread Cert.ManyReferenceIdeal.nD Cert.ManyReferenceIdeal.τ).loc Cert.ManyReferenceIdeal.main_arg2) = m ((c.tc : Thread Cert.ManyKernelIdeal.nD Cert.ManyKernelIdeal.τ).loc Cert.ManyKernelIdeal.main_arg2)
      ∧ m' ((c.tc : Thread Cert.ManyReferenceIdeal.nD Cert.ManyReferenceIdeal.τ).loc Cert.ManyReferenceIdeal.main_arg3) = m ((c.tc : Thread Cert.ManyKernelIdeal.nD Cert.ManyKernelIdeal.τ).loc Cert.ManyKernelIdeal.main_arg3)
      ∧ m' ((c.tc : Thread Cert.ManyReferenceIdeal.nD Cert.ManyReferenceIdeal.τ).loc Cert.ManyReferenceIdeal.main_arg4) = m ((c.tc : Thread Cert.ManyKernelIdeal.nD Cert.ManyKernelIdeal.τ).loc Cert.ManyKernelIdeal.main_arg4)
      ∧ m' ((c.tc : Thread Cert.ManyReferenceIdeal.nD Cert.ManyReferenceIdeal.τ).loc Cert.ManyReferenceIdeal.main_arg5) = m ((c.tc : Thread Cert.ManyKernelIdeal.nD Cert.ManyKernelIdeal.τ).loc Cert.ManyKernelIdeal.main_arg5)
      ∧ m' ((c.tc : Thread Cert.ManyReferenceIdeal.nD Cert.ManyReferenceIdeal.τ).loc Cert.ManyReferenceIdeal.main_arg6) = m ((c.tc : Thread Cert.ManyKernelIdeal.nD Cert.ManyKernelIdeal.τ).loc Cert.ManyKernelIdeal.main_arg6)
      ∧ m' ((c.tc : Thread Cert.ManyReferenceIdeal.nD Cert.ManyReferenceIdeal.τ).loc Cert.ManyReferenceIdeal.main_arg7) = m ((c.tc : Thread Cert.ManyKernelIdeal.nD Cert.ManyKernelIdeal.τ).loc Cert.ManyKernelIdeal.main_arg7)
      ∧ m' ((c.tc : Thread Cert.ManyReferenceIdeal.nD Cert.ManyReferenceIdeal.τ).loc Cert.ManyReferenceIdeal.main_arg8) = m ((c.tc : Thread Cert.ManyKernelIdeal.nD Cert.ManyKernelIdeal.τ).loc Cert.ManyKernelIdeal.main_arg8)
      ∧ m' ((c.tc : Thread Cert.ManyReferenceIdeal.nD Cert.ManyReferenceIdeal.τ).loc Cert.ManyReferenceIdeal.main_arg9) = m ((c.tc : Thread Cert.ManyKernelIdeal.nD Cert.ManyKernelIdeal.τ).loc Cert.ManyKernelIdeal.main_arg9)
      ∧ m' ((c.tc : Thread Cert.ManyReferenceIdeal.nD Cert.ManyReferenceIdeal.τ).loc Cert.ManyReferenceIdeal.main_arg10) = m ((c.tc : Thread Cert.ManyKernelIdeal.nD Cert.ManyKernelIdeal.τ).loc Cert.ManyKernelIdeal.main_arg10)
      ∧ m' ((c.tc : Thread Cert.ManyReferenceIdeal.nD Cert.ManyReferenceIdeal.τ).loc Cert.ManyReferenceIdeal.main_arg11) = m ((c.tc : Thread Cert.ManyKernelIdeal.nD Cert.ManyKernelIdeal.τ).loc Cert.ManyKernelIdeal.main_arg11)) →
    ∃ (v0 : (c : Dev Cert.ManyKernelIdeal.nD) → Buf (Elt Ideal) ((c.tc : Thread Cert.ManyKernelIdeal.nD Cert.ManyKernelIdeal.τ).loc Cert.ManyKernelIdeal.main_v9_0)) (v1 : (c : Dev Cert.ManyKernelIdeal.nD) → Buf (Elt Ideal) ((c.tc : Thread Cert.ManyKernelIdeal.nD Cert.ManyKernelIdeal.τ).loc Cert.ManyKernelIdeal.main_v9_1)) (v2 : (c : Dev Cert.ManyKernelIdeal.nD) → Buf (Elt Ideal) ((c.tc : Thread Cert.ManyKernelIdeal.nD Cert.ManyKernelIdeal.τ).loc Cert.ManyKernelIdeal.main_v9_2)) (v3 : (c : Dev Cert.ManyKernelIdeal.nD) → Buf (Elt Ideal) ((c.tc : Thread Cert.ManyKernelIdeal.nD Cert.ManyKernelIdeal.τ).loc Cert.ManyKernelIdeal.main_v9_3)) (v4 : (c : Dev Cert.ManyKernelIdeal.nD) → Buf (Elt Ideal) ((c.tc : Thread Cert.ManyKernelIdeal.nD Cert.ManyKernelIdeal.τ).loc Cert.ManyKernelIdeal.main_v9_4)) (v5 : (c : Dev Cert.ManyKernelIdeal.nD) → Buf (Elt Ideal) ((c.tc : Thread Cert.ManyKernelIdeal.nD Cert.ManyKernelIdeal.τ).loc Cert.ManyKernelIdeal.main_v9_5)) (v6 : (c : Dev Cert.ManyKernelIdeal.nD) → Buf (Elt Ideal) ((c.tc : Thread Cert.ManyKernelIdeal.nD Cert.ManyKernelIdeal.τ).loc Cert.ManyKernelIdeal.main_v9_6)) (v7 : (c : Dev Cert.ManyKernelIdeal.nD) → Buf (Elt Ideal) ((c.tc : Thread Cert.ManyKernelIdeal.nD Cert.ManyKernelIdeal.τ).loc Cert.ManyKernelIdeal.main_v9_7)) (v8 : (c : Dev Cert.ManyKernelIdeal.nD) → Buf (Elt Ideal) ((c.tc : Thread Cert.ManyKernelIdeal.nD Cert.ManyKernelIdeal.τ).loc Cert.ManyKernelIdeal.main_v9_8)) (v9 : (c : Dev Cert.ManyKernelIdeal.nD) → Buf (Elt Ideal) ((c.tc : Thread Cert.ManyKernelIdeal.nD Cert.ManyKernelIdeal.τ).loc Cert.ManyKernelIdeal.main_v9_9)) (v10 : (c : Dev Cert.ManyKernelIdeal.nD) → Buf (Elt Ideal) ((c.tc : Thread Cert.ManyKernelIdeal.nD Cert.ManyKernelIdeal.τ).loc Cert.ManyKernelIdeal.main_v9_10)) (v11 : (c : Dev Cert.ManyKernelIdeal.nD) → Buf (Elt Ideal) ((c.tc : Thread Cert.ManyKernelIdeal.nD Cert.ManyKernelIdeal.τ).loc Cert.ManyKernelIdeal.main_v9_11)),
      θ_run (Cert.ManyKernelIdeal.defs (F := Ideal)) (onTc (τ := Cert.ManyKernelIdeal.τ) (Cert.ManyKernelIdeal.main (F := Ideal))) ⟨m, fun _ => 0, g⟩ (fun r => ∀ c : Dev Cert.ManyKernelIdeal.nD,
          r.2.mem ((c.tc : Thread Cert.ManyKernelIdeal.nD Cert.ManyKernelIdeal.τ).loc Cert.ManyKernelIdeal.main_v9_0) = v0 c
          ∧ r.2.mem ((c.tc : Thread Cert.ManyKernelIdeal.nD Cert.ManyKernelIdeal.τ).loc Cert.ManyKernelIdeal.main_v9_1) = v1 c
          ∧ r.2.mem ((c.tc : Thread Cert.ManyKernelIdeal.nD Cert.ManyKernelIdeal.τ).loc Cert.ManyKernelIdeal.main_v9_2) = v2 c
          ∧ r.2.mem ((c.tc : Thread Cert.ManyKernelIdeal.nD Cert.ManyKernelIdeal.τ).loc Cert.ManyKernelIdeal.main_v9_3) = v3 c
          ∧ r.2.mem ((c.tc : Thread Cert.ManyKernelIdeal.nD Cert.ManyKernelIdeal.τ).loc Cert.ManyKernelIdeal.main_v9_4) = v4 c
          ∧ r.2.mem ((c.tc : Thread Cert.ManyKernelIdeal.nD Cert.ManyKernelIdeal.τ).loc Cert.ManyKernelIdeal.main_v9_5) = v5 c
          ∧ r.2.mem ((c.tc : Thread Cert.ManyKernelIdeal.nD Cert.ManyKernelIdeal.τ).loc Cert.ManyKernelIdeal.main_v9_6) = v6 c
          ∧ r.2.mem ((c.tc : Thread Cert.ManyKernelIdeal.nD Cert.ManyKernelIdeal.τ).loc Cert.ManyKernelIdeal.main_v9_7) = v7 c
          ∧ r.2.mem ((c.tc : Thread Cert.ManyKernelIdeal.nD Cert.ManyKernelIdeal.τ).loc Cert.ManyKernelIdeal.main_v9_8) = v8 c
          ∧ r.2.mem ((c.tc : Thread Cert.ManyKernelIdeal.nD Cert.ManyKernelIdeal.τ).loc Cert.ManyKernelIdeal.main_v9_9) = v9 c
          ∧ r.2.mem ((c.tc : Thread Cert.ManyKernelIdeal.nD Cert.ManyKernelIdeal.τ).loc Cert.ManyKernelIdeal.main_v9_10) = v10 c
          ∧ r.2.mem ((c.tc : Thread Cert.ManyKernelIdeal.nD Cert.ManyKernelIdeal.τ).loc Cert.ManyKernelIdeal.main_v9_11) = v11 c
          ∧ r.2.mem ((c.tc : Thread Cert.ManyKernelIdeal.nD Cert.ManyKernelIdeal.τ).loc Cert.ManyKernelIdeal.main_arg0) = m ((c.tc : Thread Cert.ManyKernelIdeal.nD Cert.ManyKernelIdeal.τ).loc Cert.ManyKernelIdeal.main_arg0)
          ∧ r.2.mem ((c.tc : Thread Cert.ManyKernelIdeal.nD Cert.ManyKernelIdeal.τ).loc Cert.ManyKernelIdeal.main_arg1) = m ((c.tc : Thread Cert.ManyKernelIdeal.nD Cert.ManyKernelIdeal.τ).loc Cert.ManyKernelIdeal.main_arg1)
          ∧ r.2.mem ((c.tc : Thread Cert.ManyKernelIdeal.nD Cert.ManyKernelIdeal.τ).loc Cert.ManyKernelIdeal.main_arg2) = m ((c.tc : Thread Cert.ManyKernelIdeal.nD Cert.ManyKernelIdeal.τ).loc Cert.ManyKernelIdeal.main_arg2)
          ∧ r.2.mem ((c.tc : Thread Cert.ManyKernelIdeal.nD Cert.ManyKernelIdeal.τ).loc Cert.ManyKernelIdeal.main_arg3) = m ((c.tc : Thread Cert.ManyKernelIdeal.nD Cert.ManyKernelIdeal.τ).loc Cert.ManyKernelIdeal.main_arg3)
          ∧ r.2.mem ((c.tc : Thread Cert.ManyKernelIdeal.nD Cert.ManyKernelIdeal.τ).loc Cert.ManyKernelIdeal.main_arg4) = m ((c.tc : Thread Cert.ManyKernelIdeal.nD Cert.ManyKernelIdeal.τ).loc Cert.ManyKernelIdeal.main_arg4)
          ∧ r.2.mem ((c.tc : Thread Cert.ManyKernelIdeal.nD Cert.ManyKernelIdeal.τ).loc Cert.ManyKernelIdeal.main_arg5) = m ((c.tc : Thread Cert.ManyKernelIdeal.nD Cert.ManyKernelIdeal.τ).loc Cert.ManyKernelIdeal.main_arg5)
          ∧ r.2.mem ((c.tc : Thread Cert.ManyKernelIdeal.nD Cert.ManyKernelIdeal.τ).loc Cert.ManyKernelIdeal.main_arg6) = m ((c.tc : Thread Cert.ManyKernelIdeal.nD Cert.ManyKernelIdeal.τ).loc Cert.ManyKernelIdeal.main_arg6)
          ∧ r.2.mem ((c.tc : Thread Cert.ManyKernelIdeal.nD Cert.ManyKernelIdeal.τ).loc Cert.ManyKernelIdeal.main_arg7) = m ((c.tc : Thread Cert.ManyKernelIdeal.nD Cert.ManyKernelIdeal.τ).loc Cert.ManyKernelIdeal.main_arg7)
          ∧ r.2.mem ((c.tc : Thread Cert.ManyKernelIdeal.nD Cert.ManyKernelIdeal.τ).loc Cert.ManyKernelIdeal.main_arg8) = m ((c.tc : Thread Cert.ManyKernelIdeal.nD Cert.ManyKernelIdeal.τ).loc Cert.ManyKernelIdeal.main_arg8)
          ∧ r.2.mem ((c.tc : Thread Cert.ManyKernelIdeal.nD Cert.ManyKernelIdeal.τ).loc Cert.ManyKernelIdeal.main_arg9) = m ((c.tc : Thread Cert.ManyKernelIdeal.nD Cert.ManyKernelIdeal.τ).loc Cert.ManyKernelIdeal.main_arg9)
          ∧ r.2.mem ((c.tc : Thread Cert.ManyKernelIdeal.nD Cert.ManyKernelIdeal.τ).loc Cert.ManyKernelIdeal.main_arg10) = m ((c.tc : Thread Cert.ManyKernelIdeal.nD Cert.ManyKernelIdeal.τ).loc Cert.ManyKernelIdeal.main_arg10)
          ∧ r.2.mem ((c.tc : Thread Cert.ManyKernelIdeal.nD Cert.ManyKernelIdeal.τ).loc Cert.ManyKernelIdeal.main_arg11) = m ((c.tc : Thread Cert.ManyKernelIdeal.nD Cert.ManyKernelIdeal.τ).loc Cert.ManyKernelIdeal.main_arg11))
      ∧ θ_run (Cert.ManyReferenceIdeal.defs (F := Ideal)) (onTc (τ := Cert.ManyReferenceIdeal.τ) (Cert.ManyReferenceIdeal.main (F := Ideal))) ⟨m', fun _ => 0, g'⟩ (fun r => ∀ c : Dev Cert.ManyReferenceIdeal.nD,
          r.2.mem ((c.tc : Thread Cert.ManyReferenceIdeal.nD Cert.ManyReferenceIdeal.τ).loc Cert.ManyReferenceIdeal.main_arg1) = v0 c
          ∧ r.2.mem ((c.tc : Thread Cert.ManyReferenceIdeal.nD Cert.ManyReferenceIdeal.τ).loc Cert.ManyReferenceIdeal.main_v26) = v1 c
          ∧ r.2.mem ((c.tc : Thread Cert.ManyReferenceIdeal.nD Cert.ManyReferenceIdeal.τ).loc Cert.ManyReferenceIdeal.main_v7) = v2 c
          ∧ r.2.mem ((c.tc : Thread Cert.ManyReferenceIdeal.nD Cert.ManyReferenceIdeal.τ).loc Cert.ManyReferenceIdeal.main_v13) = v3 c
          ∧ r.2.mem ((c.tc : Thread Cert.ManyReferenceIdeal.nD Cert.ManyReferenceIdeal.τ).loc Cert.ManyReferenceIdeal.main_arg5) = v4 c
          ∧ r.2.mem ((c.tc : Thread Cert.ManyReferenceIdeal.nD Cert.ManyReferenceIdeal.τ).loc Cert.ManyReferenceIdeal.main_v53) = v5 c
          ∧ r.2.mem ((c.tc : Thread Cert.ManyReferenceIdeal.nD Cert.ManyReferenceIdeal.τ).loc Cert.ManyReferenceIdeal.main_v34) = v6 c
          ∧ r.2.mem ((c.tc : Thread Cert.ManyReferenceIdeal.nD Cert.ManyReferenceIdeal.τ).loc Cert.ManyReferenceIdeal.main_v40) = v7 c
          ∧ r.2.mem ((c.tc : Thread Cert.ManyReferenceIdeal.nD Cert.ManyReferenceIdeal.τ).loc Cert.ManyReferenceIdeal.main_arg9) = v8 c
          ∧ r.2.mem ((c.tc : Thread Cert.ManyReferenceIdeal.nD Cert.ManyReferenceIdeal.τ).loc Cert.ManyReferenceIdeal.main_v80) = v9 c
          ∧ r.2.mem ((c.tc : Thread Cert.ManyReferenceIdeal.nD Cert.ManyReferenceIdeal.τ).loc Cert.ManyReferenceIdeal.main_v61) = v10 c
          ∧ r.2.mem ((c.tc : Thread Cert.ManyReferenceIdeal.nD Cert.ManyReferenceIdeal.τ).loc Cert.ManyReferenceIdeal.main_v67) = v11 c
          ∧ r.2.mem ((c.tc : Thread Cert.ManyReferenceIdeal.nD Cert.ManyReferenceIdeal.τ).loc Cert.ManyReferenceIdeal.main_arg0) = m' ((c.tc : Thread Cert.ManyReferenceIdeal.nD Cert.ManyReferenceIdeal.τ).loc Cert.ManyReferenceIdeal.main_arg0)
          ∧ r.2.mem ((c.tc : Thread Cert.ManyReferenceIdeal.nD Cert.ManyReferenceIdeal.τ).loc Cert.ManyReferenceIdeal.main_arg1) = m' ((c.tc : Thread Cert.ManyReferenceIdeal.nD Cert.ManyReferenceIdeal.τ).loc Cert.ManyReferenceIdeal.main_arg1)
          ∧ r.2.mem ((c.tc : Thread Cert.ManyReferenceIdeal.nD Cert.ManyReferenceIdeal.τ).loc Cert.ManyReferenceIdeal.main_arg2) = m' ((c.tc : Thread Cert.ManyReferenceIdeal.nD Cert.ManyReferenceIdeal.τ).loc Cert.ManyReferenceIdeal.main_arg2)
          ∧ r.2.mem ((c.tc : Thread Cert.ManyReferenceIdeal.nD Cert.ManyReferenceIdeal.τ).loc Cert.ManyReferenceIdeal.main_arg3) = m' ((c.tc : Thread Cert.ManyReferenceIdeal.nD Cert.ManyReferenceIdeal.τ).loc Cert.ManyReferenceIdeal.main_arg3)
          ∧ r.2.mem ((c.tc : Thread Cert.ManyReferenceIdeal.nD Cert.ManyReferenceIdeal.τ).loc Cert.ManyReferenceIdeal.main_arg4) = m' ((c.tc : Thread Cert.ManyReferenceIdeal.nD Cert.ManyReferenceIdeal.τ).loc Cert.ManyReferenceIdeal.main_arg4)
          ∧ r.2.mem ((c.tc : Thread Cert.ManyReferenceIdeal.nD Cert.ManyReferenceIdeal.τ).loc Cert.ManyReferenceIdeal.main_arg5) = m' ((c.tc : Thread Cert.ManyReferenceIdeal.nD Cert.ManyReferenceIdeal.τ).loc Cert.ManyReferenceIdeal.main_arg5)
          ∧ r.2.mem ((c.tc : Thread Cert.ManyReferenceIdeal.nD Cert.ManyReferenceIdeal.τ).loc Cert.ManyReferenceIdeal.main_arg6) = m' ((c.tc : Thread Cert.ManyReferenceIdeal.nD Cert.ManyReferenceIdeal.τ).loc Cert.ManyReferenceIdeal.main_arg6)
          ∧ r.2.mem ((c.tc : Thread Cert.ManyReferenceIdeal.nD Cert.ManyReferenceIdeal.τ).loc Cert.ManyReferenceIdeal.main_arg7) = m' ((c.tc : Thread Cert.ManyReferenceIdeal.nD Cert.ManyReferenceIdeal.τ).loc Cert.ManyReferenceIdeal.main_arg7)
          ∧ r.2.mem ((c.tc : Thread Cert.ManyReferenceIdeal.nD Cert.ManyReferenceIdeal.τ).loc Cert.ManyReferenceIdeal.main_arg8) = m' ((c.tc : Thread Cert.ManyReferenceIdeal.nD Cert.ManyReferenceIdeal.τ).loc Cert.ManyReferenceIdeal.main_arg8)
          ∧ r.2.mem ((c.tc : Thread Cert.ManyReferenceIdeal.nD Cert.ManyReferenceIdeal.τ).loc Cert.ManyReferenceIdeal.main_arg9) = m' ((c.tc : Thread Cert.ManyReferenceIdeal.nD Cert.ManyReferenceIdeal.τ).loc Cert.ManyReferenceIdeal.main_arg9)
          ∧ r.2.mem ((c.tc : Thread Cert.ManyReferenceIdeal.nD Cert.ManyReferenceIdeal.τ).loc Cert.ManyReferenceIdeal.main_arg10) = m' ((c.tc : Thread Cert.ManyReferenceIdeal.nD Cert.ManyReferenceIdeal.τ).loc Cert.ManyReferenceIdeal.main_arg10)
          ∧ r.2.mem ((c.tc : Thread Cert.ManyReferenceIdeal.nD Cert.ManyReferenceIdeal.τ).loc Cert.ManyReferenceIdeal.main_arg11) = m' ((c.tc : Thread Cert.ManyReferenceIdeal.nD Cert.ManyReferenceIdeal.τ).loc Cert.ManyReferenceIdeal.main_arg11))

def preserves_HalfKernel_HalfKernelIdeal : Prop :=
  True

def algebraic_HalfKernelIdeal_HalfReferenceIdeal [hHalfKernelIdeal : Cert.HalfKernelIdeal.Facts] [hHalfReferenceIdeal : Cert.HalfReferenceIdeal.Facts] : Prop :=
  ∀ (m : (ℓ : Loc Cert.HalfKernelIdeal.nD Cert.HalfKernelIdeal.τ Cert.HalfKernelIdeal.sig) → Buf (Elt Ideal) ℓ) (g : Dev Cert.HalfKernelIdeal.nD → PrngReg)
    (m' : (ℓ : Loc Cert.HalfReferenceIdeal.nD Cert.HalfReferenceIdeal.τ Cert.HalfReferenceIdeal.sig) → Buf (Elt Ideal) ℓ) (g' : Dev Cert.HalfReferenceIdeal.nD → PrngReg), Pre_HalfKernelIdeal m →
    (∀ c : Dev Cert.HalfKernelIdeal.nD,
      m' ((c.tc : Thread Cert.HalfReferenceIdeal.nD Cert.HalfReferenceIdeal.τ).loc Cert.HalfReferenceIdeal.main_arg0) = m ((c.tc : Thread Cert.HalfKernelIdeal.nD Cert.HalfKernelIdeal.τ).loc Cert.HalfKernelIdeal.main_arg0)
      ∧ m' ((c.tc : Thread Cert.HalfReferenceIdeal.nD Cert.HalfReferenceIdeal.τ).loc Cert.HalfReferenceIdeal.main_arg1) = m ((c.tc : Thread Cert.HalfKernelIdeal.nD Cert.HalfKernelIdeal.τ).loc Cert.HalfKernelIdeal.main_arg1)) →
    ∃ (v0 : (c : Dev Cert.HalfKernelIdeal.nD) → Buf (Elt Ideal) ((c.tc : Thread Cert.HalfKernelIdeal.nD Cert.HalfKernelIdeal.τ).loc Cert.HalfKernelIdeal.main_v0_0)) (v1 : (c : Dev Cert.HalfKernelIdeal.nD) → Buf (Elt Ideal) ((c.tc : Thread Cert.HalfKernelIdeal.nD Cert.HalfKernelIdeal.τ).loc Cert.HalfKernelIdeal.main_v0_1)),
      θ_run (Cert.HalfKernelIdeal.defs (F := Ideal)) (onTc (τ := Cert.HalfKernelIdeal.τ) (Cert.HalfKernelIdeal.main (F := Ideal))) ⟨m, fun _ => 0, g⟩ (fun r => ∀ c : Dev Cert.HalfKernelIdeal.nD,
          r.2.mem ((c.tc : Thread Cert.HalfKernelIdeal.nD Cert.HalfKernelIdeal.τ).loc Cert.HalfKernelIdeal.main_v0_0) = v0 c
          ∧ r.2.mem ((c.tc : Thread Cert.HalfKernelIdeal.nD Cert.HalfKernelIdeal.τ).loc Cert.HalfKernelIdeal.main_v0_1) = v1 c
          ∧ r.2.mem ((c.tc : Thread Cert.HalfKernelIdeal.nD Cert.HalfKernelIdeal.τ).loc Cert.HalfKernelIdeal.main_arg0) = m ((c.tc : Thread Cert.HalfKernelIdeal.nD Cert.HalfKernelIdeal.τ).loc Cert.HalfKernelIdeal.main_arg0)
          ∧ r.2.mem ((c.tc : Thread Cert.HalfKernelIdeal.nD Cert.HalfKernelIdeal.τ).loc Cert.HalfKernelIdeal.main_arg1) = m ((c.tc : Thread Cert.HalfKernelIdeal.nD Cert.HalfKernelIdeal.τ).loc Cert.HalfKernelIdeal.main_arg1))
      ∧ θ_run (Cert.HalfReferenceIdeal.defs (F := Ideal)) (onTc (τ := Cert.HalfReferenceIdeal.τ) (Cert.HalfReferenceIdeal.main (F := Ideal))) ⟨m', fun _ => 0, g'⟩ (fun r => ∀ c : Dev Cert.HalfReferenceIdeal.nD,
          r.2.mem ((c.tc : Thread Cert.HalfReferenceIdeal.nD Cert.HalfReferenceIdeal.τ).loc Cert.HalfReferenceIdeal.main_v2) = v0 c
          ∧ r.2.mem ((c.tc : Thread Cert.HalfReferenceIdeal.nD Cert.HalfReferenceIdeal.τ).loc Cert.HalfReferenceIdeal.main_v3) = v1 c
          ∧ r.2.mem ((c.tc : Thread Cert.HalfReferenceIdeal.nD Cert.HalfReferenceIdeal.τ).loc Cert.HalfReferenceIdeal.main_arg0) = m' ((c.tc : Thread Cert.HalfReferenceIdeal.nD Cert.HalfReferenceIdeal.τ).loc Cert.HalfReferenceIdeal.main_arg0)
          ∧ r.2.mem ((c.tc : Thread Cert.HalfReferenceIdeal.nD Cert.HalfReferenceIdeal.τ).loc Cert.HalfReferenceIdeal.main_arg1) = m' ((c.tc : Thread Cert.HalfReferenceIdeal.nD Cert.HalfReferenceIdeal.τ).loc Cert.HalfReferenceIdeal.main_arg1))

def preserves_CastKernel_CastKernelIdeal : Prop :=
  True

def algebraic_CastKernelIdeal_CastReferenceIdeal [hCastKernelIdeal : Cert.CastKernelIdeal.Facts] [hCastReferenceIdeal : Cert.CastReferenceIdeal.Facts] : Prop :=
  ∀ (m : (ℓ : Loc Cert.CastKernelIdeal.nD Cert.CastKernelIdeal.τ Cert.CastKernelIdeal.sig) → Buf (Elt Ideal) ℓ) (g : Dev Cert.CastKernelIdeal.nD → PrngReg)
    (m' : (ℓ : Loc Cert.CastReferenceIdeal.nD Cert.CastReferenceIdeal.τ Cert.CastReferenceIdeal.sig) → Buf (Elt Ideal) ℓ) (g' : Dev Cert.CastReferenceIdeal.nD → PrngReg), Pre_CastKernelIdeal m →
    (∀ c : Dev Cert.CastKernelIdeal.nD,
      m' ((c.tc : Thread Cert.CastReferenceIdeal.nD Cert.CastReferenceIdeal.τ).loc Cert.CastReferenceIdeal.main_arg0) = m ((c.tc : Thread Cert.CastKernelIdeal.nD Cert.CastKernelIdeal.τ).loc Cert.CastKernelIdeal.main_arg0)) →
    ∃ (v0 : (c : Dev Cert.CastKernelIdeal.nD) → Buf (Elt Ideal) ((c.tc : Thread Cert.CastKernelIdeal.nD Cert.CastKernelIdeal.τ).loc Cert.CastKernelIdeal.main_v1_1)),
      θ_run (Cert.CastKernelIdeal.defs (F := Ideal)) (onTc (τ := Cert.CastKernelIdeal.τ) (Cert.CastKernelIdeal.main (F := Ideal))) ⟨m, fun _ => 0, g⟩ (fun r => ∀ c : Dev Cert.CastKernelIdeal.nD,
          r.2.mem ((c.tc : Thread Cert.CastKernelIdeal.nD Cert.CastKernelIdeal.τ).loc Cert.CastKernelIdeal.main_v1_1) = v0 c
          ∧ r.2.mem ((c.tc : Thread Cert.CastKernelIdeal.nD Cert.CastKernelIdeal.τ).loc Cert.CastKernelIdeal.main_arg0) = m ((c.tc : Thread Cert.CastKernelIdeal.nD Cert.CastKernelIdeal.τ).loc Cert.CastKernelIdeal.main_arg0))
      ∧ θ_run (Cert.CastReferenceIdeal.defs (F := Ideal)) (onTc (τ := Cert.CastReferenceIdeal.τ) (Cert.CastReferenceIdeal.main (F := Ideal))) ⟨m', fun _ => 0, g'⟩ (fun r => ∀ c : Dev Cert.CastReferenceIdeal.nD,
          r.2.mem ((c.tc : Thread Cert.CastReferenceIdeal.nD Cert.CastReferenceIdeal.τ).loc Cert.CastReferenceIdeal.main_v1) = v0 c
          ∧ r.2.mem ((c.tc : Thread Cert.CastReferenceIdeal.nD Cert.CastReferenceIdeal.τ).loc Cert.CastReferenceIdeal.main_arg0) = m' ((c.tc : Thread Cert.CastReferenceIdeal.nD Cert.CastReferenceIdeal.τ).loc Cert.CastReferenceIdeal.main_arg0))

def Claim : Prop :=
  ∃ (hDhKernel : Cert.DhKernel.Facts) (hDhKernelIdeal : Cert.DhKernelIdeal.Facts) (hDhReferenceIdeal : Cert.DhReferenceIdeal.Facts) (hMergeKernel : Cert.MergeKernel.Facts) (hMergeKernelIdeal : Cert.MergeKernelIdeal.Facts) (hMergeReferenceIdeal : Cert.MergeReferenceIdeal.Facts) (hHgrnFwd : Cert.HgrnFwd.Facts) (hHgrnFwdIdeal : Cert.HgrnFwdIdeal.Facts) (hHgrnFwdReferenceIdeal : Cert.HgrnFwdReferenceIdeal.Facts) (hHgrnBwd : Cert.HgrnBwd.Facts) (hHgrnBwdIdeal : Cert.HgrnBwdIdeal.Facts) (hModKernel : Cert.ModKernel.Facts) (hModKernelIdeal : Cert.ModKernelIdeal.Facts) (hModReferenceIdeal : Cert.ModReferenceIdeal.Facts) (hProjKernel : Cert.ProjKernel.Facts) (hProjKernelIdeal : Cert.ProjKernelIdeal.Facts) (hProjReferenceIdeal : Cert.ProjReferenceIdeal.Facts) (hAttnFwd : Cert.AttnFwd.Facts) (hAttnFwdIdeal : Cert.AttnFwdIdeal.Facts) (hDw3Kernel : Cert.Dw3Kernel.Facts) (hDw3KernelIdeal : Cert.Dw3KernelIdeal.Facts) (hDw3ReferenceIdeal : Cert.Dw3ReferenceIdeal.Facts) (hDwinKernel : Cert.DwinKernel.Facts) (hDwinKernelIdeal : Cert.DwinKernelIdeal.Facts) (hDwinReferenceIdeal : Cert.DwinReferenceIdeal.Facts) (hAdaKernel : Cert.AdaKernel.Facts) (hAdaKernelIdeal : Cert.AdaKernelIdeal.Facts) (hAdaReferenceIdeal : Cert.AdaReferenceIdeal.Facts) (hAdamwKernel : Cert.AdamwKernel.Facts) (hAdamwKernelIdeal : Cert.AdamwKernelIdeal.Facts) (hAdamwReferenceIdeal : Cert.AdamwReferenceIdeal.Facts) (hSum8Kernel : Cert.Sum8Kernel.Facts) (hSum8KernelIdeal : Cert.Sum8KernelIdeal.Facts) (hSum8ReferenceIdeal : Cert.Sum8ReferenceIdeal.Facts) (hManyKernel : Cert.ManyKernel.Facts) (hManyKernelIdeal : Cert.ManyKernelIdeal.Facts) (hManyReferenceIdeal : Cert.ManyReferenceIdeal.Facts) (hHalfKernel : Cert.HalfKernel.Facts) (hHalfKernelIdeal : Cert.HalfKernelIdeal.Facts) (hHalfReferenceIdeal : Cert.HalfReferenceIdeal.Facts) (hCastKernel : Cert.CastKernel.Facts) (hCastKernelIdeal : Cert.CastKernelIdeal.Facts) (hCastReferenceIdeal : Cert.CastReferenceIdeal.Facts) (hPre_dh_finite : Cert.Pre_dh_finite.Facts) (hPre_merge_finite : Cert.Pre_merge_finite.Facts) (hPre_hgrn_fwd_pre : Cert.Pre_hgrn_fwd_pre.Facts),
    quiescent_DhKernel (hDhKernel := hDhKernel)
    ∧ quiescent_DhKernelIdeal (hDhKernelIdeal := hDhKernelIdeal)
    ∧ quiescent_DhKernelIdeal_pre_dh_finite (hDhKernelIdeal := hDhKernelIdeal) (hPre_dh_finite := hPre_dh_finite)
    ∧ quiescent_DhReferenceIdeal (hDhReferenceIdeal := hDhReferenceIdeal)
    ∧ quiescent_DhReferenceIdeal_pre_dh_finite (hDhReferenceIdeal := hDhReferenceIdeal) (hPre_dh_finite := hPre_dh_finite)
    ∧ quiescent_MergeKernel (hMergeKernel := hMergeKernel)
    ∧ quiescent_MergeKernelIdeal (hMergeKernelIdeal := hMergeKernelIdeal)
    ∧ quiescent_MergeKernelIdeal_pre_merge_finite (hMergeKernelIdeal := hMergeKernelIdeal) (hPre_merge_finite := hPre_merge_finite)
    ∧ quiescent_MergeReferenceIdeal (hMergeReferenceIdeal := hMergeReferenceIdeal)
    ∧ quiescent_MergeReferenceIdeal_pre_merge_finite (hMergeReferenceIdeal := hMergeReferenceIdeal) (hPre_merge_finite := hPre_merge_finite)
    ∧ quiescent_HgrnFwd (hHgrnFwd := hHgrnFwd)
    ∧ quiescent_HgrnFwdIdeal (hHgrnFwdIdeal := hHgrnFwdIdeal)
    ∧ quiescent_HgrnFwdIdeal_pre_hgrn_fwd_pre (hHgrnFwdIdeal := hHgrnFwdIdeal) (hPre_hgrn_fwd_pre := hPre_hgrn_fwd_pre)
    ∧ quiescent_HgrnFwdReferenceIdeal (hHgrnFwdReferenceIdeal := hHgrnFwdReferenceIdeal)
    ∧ quiescent_HgrnFwdReferenceIdeal_pre_hgrn_fwd_pre (hHgrnFwdReferenceIdeal := hHgrnFwdReferenceIdeal) (hPre_hgrn_fwd_pre := hPre_hgrn_fwd_pre)
    ∧ quiescent_HgrnBwd (hHgrnBwd := hHgrnBwd)
    ∧ quiescent_HgrnBwdIdeal (hHgrnBwdIdeal := hHgrnBwdIdeal)
    ∧ quiescent_ModKernel (hModKernel := hModKernel)
    ∧ quiescent_ModKernelIdeal (hModKernelIdeal := hModKernelIdeal)
    ∧ quiescent_ModReferenceIdeal (hModReferenceIdeal := hModReferenceIdeal)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_AttnFwd (hAttnFwd := hAttnFwd)
    ∧ quiescent_AttnFwdIdeal (hAttnFwdIdeal := hAttnFwdIdeal)
    ∧ quiescent_Dw3Kernel (hDw3Kernel := hDw3Kernel)
    ∧ quiescent_Dw3KernelIdeal (hDw3KernelIdeal := hDw3KernelIdeal)
    ∧ quiescent_Dw3ReferenceIdeal (hDw3ReferenceIdeal := hDw3ReferenceIdeal)
    ∧ quiescent_DwinKernel (hDwinKernel := hDwinKernel)
    ∧ quiescent_DwinKernelIdeal (hDwinKernelIdeal := hDwinKernelIdeal)
    ∧ quiescent_DwinReferenceIdeal (hDwinReferenceIdeal := hDwinReferenceIdeal)
    ∧ quiescent_AdaKernel (hAdaKernel := hAdaKernel)
    ∧ quiescent_AdaKernelIdeal (hAdaKernelIdeal := hAdaKernelIdeal)
    ∧ quiescent_AdaReferenceIdeal (hAdaReferenceIdeal := hAdaReferenceIdeal)
    ∧ quiescent_AdamwKernel (hAdamwKernel := hAdamwKernel)
    ∧ quiescent_AdamwKernelIdeal (hAdamwKernelIdeal := hAdamwKernelIdeal)
    ∧ quiescent_AdamwReferenceIdeal (hAdamwReferenceIdeal := hAdamwReferenceIdeal)
    ∧ quiescent_Sum8Kernel (hSum8Kernel := hSum8Kernel)
    ∧ quiescent_Sum8KernelIdeal (hSum8KernelIdeal := hSum8KernelIdeal)
    ∧ quiescent_Sum8ReferenceIdeal (hSum8ReferenceIdeal := hSum8ReferenceIdeal)
    ∧ quiescent_ManyKernel (hManyKernel := hManyKernel)
    ∧ quiescent_ManyKernelIdeal (hManyKernelIdeal := hManyKernelIdeal)
    ∧ quiescent_ManyReferenceIdeal (hManyReferenceIdeal := hManyReferenceIdeal)
    ∧ quiescent_HalfKernel (hHalfKernel := hHalfKernel)
    ∧ quiescent_HalfKernelIdeal (hHalfKernelIdeal := hHalfKernelIdeal)
    ∧ quiescent_HalfReferenceIdeal (hHalfReferenceIdeal := hHalfReferenceIdeal)
    ∧ quiescent_CastKernel (hCastKernel := hCastKernel)
    ∧ quiescent_CastKernelIdeal (hCastKernelIdeal := hCastKernelIdeal)
    ∧ quiescent_CastReferenceIdeal (hCastReferenceIdeal := hCastReferenceIdeal)
    ∧ preserves_DhKernel_DhKernelIdeal
    ∧ algebraic_DhKernelIdeal_DhReferenceIdeal_pre_dh_finite (hDhKernelIdeal := hDhKernelIdeal) (hDhReferenceIdeal := hDhReferenceIdeal) (hPre_dh_finite := hPre_dh_finite)
    ∧ preserves_MergeKernel_MergeKernelIdeal
    ∧ algebraic_MergeKernelIdeal_MergeReferenceIdeal_pre_merge_finite (hMergeKernelIdeal := hMergeKernelIdeal) (hMergeReferenceIdeal := hMergeReferenceIdeal) (hPre_merge_finite := hPre_merge_finite)
    ∧ preserves_HgrnFwd_HgrnFwdIdeal
    ∧ algebraic_HgrnFwdIdeal_HgrnFwdReferenceIdeal_pre_hgrn_fwd_pre (hHgrnFwdIdeal := hHgrnFwdIdeal) (hHgrnFwdReferenceIdeal := hHgrnFwdReferenceIdeal) (hPre_hgrn_fwd_pre := hPre_hgrn_fwd_pre)
    ∧ preserves_HgrnBwd_HgrnBwdIdeal
    ∧ preserves_ModKernel_ModKernelIdeal
    ∧ algebraic_ModKernelIdeal_ModReferenceIdeal (hModKernelIdeal := hModKernelIdeal) (hModReferenceIdeal := hModReferenceIdeal)
    ∧ preserves_ProjKernel_ProjKernelIdeal
    ∧ algebraic_ProjKernelIdeal_ProjReferenceIdeal (hProjKernelIdeal := hProjKernelIdeal) (hProjReferenceIdeal := hProjReferenceIdeal)
    ∧ preserves_AttnFwd_AttnFwdIdeal
    ∧ preserves_Dw3Kernel_Dw3KernelIdeal
    ∧ algebraic_Dw3KernelIdeal_Dw3ReferenceIdeal (hDw3KernelIdeal := hDw3KernelIdeal) (hDw3ReferenceIdeal := hDw3ReferenceIdeal)
    ∧ preserves_DwinKernel_DwinKernelIdeal
    ∧ algebraic_DwinKernelIdeal_DwinReferenceIdeal (hDwinKernelIdeal := hDwinKernelIdeal) (hDwinReferenceIdeal := hDwinReferenceIdeal)
    ∧ preserves_AdaKernel_AdaKernelIdeal
    ∧ algebraic_AdaKernelIdeal_AdaReferenceIdeal (hAdaKernelIdeal := hAdaKernelIdeal) (hAdaReferenceIdeal := hAdaReferenceIdeal)
    ∧ preserves_AdamwKernel_AdamwKernelIdeal
    ∧ algebraic_AdamwKernelIdeal_AdamwReferenceIdeal (hAdamwKernelIdeal := hAdamwKernelIdeal) (hAdamwReferenceIdeal := hAdamwReferenceIdeal)
    ∧ preserves_Sum8Kernel_Sum8KernelIdeal
    ∧ algebraic_Sum8KernelIdeal_Sum8ReferenceIdeal (hSum8KernelIdeal := hSum8KernelIdeal) (hSum8ReferenceIdeal := hSum8ReferenceIdeal)
    ∧ preserves_ManyKernel_ManyKernelIdeal
    ∧ algebraic_ManyKernelIdeal_ManyReferenceIdeal (hManyKernelIdeal := hManyKernelIdeal) (hManyReferenceIdeal := hManyReferenceIdeal)
    ∧ preserves_HalfKernel_HalfKernelIdeal
    ∧ algebraic_HalfKernelIdeal_HalfReferenceIdeal (hHalfKernelIdeal := hHalfKernelIdeal) (hHalfReferenceIdeal := hHalfReferenceIdeal)
    ∧ preserves_CastKernel_CastKernelIdeal
    ∧ algebraic_CastKernelIdeal_CastReferenceIdeal (hCastKernelIdeal := hCastKernelIdeal) (hCastReferenceIdeal := hCastReferenceIdeal)
-- ==== Pre_dh_finite.lean ====
abbrev S1x8192x1024 : Shape := ⟨3, ![1, 8192, 1024]⟩
abbrev S1x1024 : Shape := ⟨2, ![1, 1024]⟩
abbrev S1x1024x8192 : Shape := ⟨3, ![1, 1024, 8192]⟩
abbrev S1x8192x8192 : Shape := ⟨3, ![1, 8192, 8192]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x8192 : S_.BroadcastsInDim S1x1024x8192 (![] : Fin 0 → Fin S1x1024x8192.rank)
  reducesTo_S1x1024x8192_S_d0_1_2 : S1x1024x8192.ReducesTo [0, 1, 2] S_
  bcast_S_S1x8192x8192 : S_.BroadcastsInDim S1x8192x8192 (![] : Fin 0 → Fin S1x8192x8192.rank)
  reducesTo_S1x8192x8192_S_d0_1_2 : S1x8192x8192.ReducesTo [0, 1, 2] S_

variable [Facts]

def fn_part1 {F : FTy → Type} [FloatOps F] (main_arg5 : FVec F S1x8192x8192 .f32) (main_v13 : IVec S_ 1) (main_v16 : IVec S1x1024x8192 1) : IVec S_ 1 :=
  let main_c_5 : IVec S_ 1 := constantI S_ 1 1#1
  let main_v17 : IVec S_ 1 := (fun x v => Host.reduce IntOp.andi x v reducesTo_S1x1024x8192_S_d0_1_2 h_S_) main_v16 main_c_5
  let main_v18 : IVec S_ 1 := andi main_v13 main_v17
  let main_v19 : FVec F S1x8192x8192 .f32 := Host.absf main_arg5
  let main_cst_6 : FVec F S_ .f32 := constant S_ .f32 0x7F800000#32
  let main_v20 : FVec F S1x8192x8192 .f32 := broadcastInDim S1x8192x8192 ![] bcast_S_S1x8192x8192 main_cst_6
  let main_v21 : IVec S1x8192x8192 1 := cmpf .olt main_v19 main_v20
  let main_c_7 : IVec S_ 1 := constantI S_ 1 1#1
  let main_v22 : IVec S_ 1 := (fun x v => Host.reduce IntOp.andi x v reducesTo_S1x8192x8192_S_d0_1_2 h_S_) main_v21 main_c_7
  let main_v23 : IVec S_ 1 := andi main_v18 main_v22
  main_v23

def fn {F : FTy → Type} [FloatOps F] (main_arg0 : FVec F S1x8192x1024 .f32) (main_arg1 : FVec F S1x1024 .f32) (main_arg2 : FVec F S1x1024 .f32) (main_arg3 : FVec F S1x1024 .f32) (main_arg4 : FVec F S1x1024x8192 .f32) (main_arg5 : FVec F S1x8192x8192 .f32) (main_arg6 : FVec F S1x8192x1024 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024x8192 .f32 := Host.absf main_arg4
  let main_cst_4 : FVec F S_ .f32 := constant S_ .f32 0x7F800000#32
  let main_v15 : FVec F S1x1024x8192 .f32 := broadcastInDim S1x1024x8192 ![] bcast_S_S1x1024x8192 main_cst_4
  let main_v16 : IVec S1x1024x8192 1 := cmpf .olt main_v14 main_v15
  fn_part1 (F := F) main_arg5 main_v13 main_v16
-- ==== Pre_hgrn_fwd_pre.lean ====
abbrev S1x8192x8192 : Shape := ⟨3, ![1, 8192, 8192]⟩
abbrev S8x128 : Shape := ⟨2, ![8, 128]⟩
abbrev S1x128 : Shape := ⟨2, ![1, 128]⟩
abbrev S1x8192x1024 : Shape := ⟨3, ![1, 8192, 1024]⟩
abbrev S_ : Shape := ⟨0, ![]⟩

class Facts : Prop where
  slices_S1x8192x8192_S1x8192x1024_0_0_3072 : S1x8192x8192.Slices ![0, 0, 3072] S1x8192x1024
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S8x128 : S_.BroadcastsInDim S8x128 (![] : Fin 0 → Fin S8x128.rank)
  reducesTo_S8x128_S_d0_1 : S8x128.ReducesTo [0, 1] S_

variable [Facts]

def fn {F : FTy → Type} [FloatOps F] (main_arg0 : FVec F S1x8192x8192 .f32) (main_arg1 : FVec F S8x128 .f32) (main_arg2 : FVec F S1x128 .f32) : IVec S_ 1 :=
  let main_v0 : FVec F S1x8192x1024 .f32 := (extractStridedSlice S1x8192x1024 ![0, 0, 3072] · slices_S1x8192x8192_S1x8192x1024_0_0_3072) main_arg0
  let main_v1 : FVec F S1x8192x1024 .f32 := Host.absf main_v0
  let main_cst : FVec F S_ .f32 := constant S_ .f32 0x7F800000#32
  let main_v2 : FVec F S1x8192x1024 .f32 := broadcastInDim S1x8192x1024 ![] bcast_S_S1x8192x1024 main_cst
  let main_v3 : IVec S1x8192x1024 1 := cmpf .olt main_v1 main_v2
  let main_c : IVec S_ 1 := constantI S_ 1 1#1
  let main_v4 : IVec S_ 1 := (fun x v => Host.reduce IntOp.andi x v reducesTo_S1x8192x1024_S_d0_1_2 h_S_) main_v3 main_c
  let main_cst_0 : FVec F S_ .f32 := constant S_ .f32 0x00000000#32
  let main_v5 : FVec F S8x128 .f32 := broadcastInDim S8x128 ![] bcast_S_S8x128 main_cst_0
  let main_v6 : IVec S8x128 1 := cmpf .oge main_arg1 main_v5
  let main_c_1 : IVec S_ 1 := constantI S_ 1 1#1
  let main_v7 : IVec S_ 1 := (fun x v => Host.reduce IntOp.andi x v reducesTo_S8x128_S_d0_1 h_S_) main_v6 main_c_1
  let main_v8 : IVec S_ 1 := andi main_v4 main_v7
  main_v8
-- ==== Pre_merge_finite.lean ====
abbrev S1x8192x512 : Shape := ⟨3, ![1, 8192, 512]⟩
abbrev S1x8192x1024 : Shape := ⟨3, ![1, 8192, 1024]⟩
abbrev S1x8192x8192 : Shape := ⟨3, ![1, 8192, 8192]⟩
abbrev S1x1024 : Shape := ⟨2, ![1, 1024]⟩
abbrev S1024 : Shape := ⟨1, ![1024]⟩
abbrev S1x512x1024 : Shape := ⟨3, ![1, 512, 1024]⟩
abbrev S1x1024x1024 : Shape := ⟨3, ![1, 1024, 1024]⟩
abbrev S_ : Shape := ⟨0, ![]⟩

class Facts : Prop where
  bcast_S_S1x8192x512 : S_.BroadcastsInDim S1x8192x512 (![] : Fin 0 → Fin S1x8192x512.rank)
  reducesTo_S1x8192x512_S_d0_1_2 : S1x8192x512.ReducesTo [0, 1, 2] S_
  h_S_ : 0 < S_.numel
  bcast_S_S1x8192x1024 : S_.BroadcastsInDim S1x8192x1024 (![] : Fin 0 → Fin S1x8192x1024.rank)
  reducesTo_S1x8192x1024_S_d0_1_2 : S1x8192x1024.ReducesTo [0, 1, 2] S_
  slices_S1x8192x8192_S1x8192x512_0_0_1536 : S1x8192x8192.Slices ![0, 0, 1536] S1x8192x512
  bcast_S_S1x1024 : S_.BroadcastsInDim S1x1024 (![] : Fin 0 → Fin S1x1024.rank)
  reducesTo_S1x1024_S_d0_1 : S1x1024.ReducesTo [0, 1] S_
  bcast_S_S1024 : S_.BroadcastsInDim S1024 (![] : Fin 0 → Fin S1024.rank)
  reducesTo_S1024_S_d0 : S1024.ReducesTo [0] S_
  bcast_S_S1x512x1024 : S_.BroadcastsInDim S1x512x1024 (![] : Fin 0 → Fin S1x512x1024.rank)
  reducesTo_S1x512x1024_S_d0_1_2 : S1x512x1024.ReducesTo [0, 1, 2] S_
  bcast_S_S1x1024x1024 : S_.BroadcastsInDim S1x1024x1024 (![] : Fin 0 → Fin S1x1024x1024.rank)
  reducesTo_S1x1024x1024_S_d0_1_2 : S1x1024x1024.ReducesTo [0, 1, 2] S_

variable [Facts]

def fn_part2 {F : FTy → Type} [FloatOps F] (main_arg7 : FVec F S1x1024x1024 .f32) (main_arg8 : FVec F S1x1024x1024 .f32) (main_arg9 : FVec F S1x8192x1024 .f32) (main_v29 : IVec S_ 1) (main_v33 : IVec S_ 1) : IVec S_ 1 :=
  let main_v34 : IVec S_ 1 := andi main_v29 main_v33
  let main_v35 : FVec F S1x1024x1024 .f32 := Host.absf main_arg7
  let main_cst_12 : FVec F S_ .f32 := constant S_ .f32 0x7F800000#32
  let main_v36 : FVec F S1x1024x1024 .f32 := broadcastInDim S1x1024x1024 ![] bcast_S_S1x1024x1024 main_cst_12
  let main_v37 : IVec S1x1024x1024 1 := cmpf .olt main_v35 main_v36
  let main_c_13 : IVec S_ 1 := constantI S_ 1 1#1
  let main_v38 : IVec S_ 1 := (fun x v => Host.reduce IntOp.andi x v reducesTo_S1x1024x1024_S_d0_1_2 h_S_) main_v37 main_c_13
  let main_v39 : IVec S_ 1 := andi main_v34 main_v38
  let main_v40 : FVec F S1x1024x1024 .f32 := Host.absf main_arg8
  let main_cst_14 : FVec F S_ .f32 := constant S_ .f32 0x7F800000#32
  let main_v41 : FVec F S1x1024x1024 .f32 := broadcastInDim S1x1024x1024 ![] bcast_S_S1x1024x1024 main_cst_14
  let main_v42 : IVec S1x1024x1024 1 := cmpf .olt main_v40 main_v41
  let main_c_15 : IVec S_ 1 := constantI S_ 1 1#1
  let main_v43 : IVec S_ 1 := (fun x v => Host.reduce IntOp.andi x v reducesTo_S1x1024x1024_S_d0_1_2 h_S_) main_v42 main_c_15
  let main_v44 : IVec S_ 1 := andi main_v39 main_v43
  let main_v45 : FVec F S1x8192x1024 .f32 := Host.absf main_arg9
  let main_cst_16 : FVec F S_ .f32 := constant S_ .f32 0x7F800000#32
  let main_v46 : FVec F S1x8192x1024 .f32 := broadcastInDim S1x8192x1024 ![] bcast_S_S1x8192x1024 main_cst_16
  let main_v47 : IVec S1x8192x1024 1 := cmpf .olt main_v45 main_v46
  let main_c_17 : IVec S_ 1 := constantI S_ 1 1#1
  let main_v48 : IVec S_ 1 := (fun x v => Host.reduce IntOp.andi x v reducesTo_S1x8192x1024_S_d0_1_2 h_S_) main_v47 main_c_17
  let main_v49 : IVec S_ 1 := andi main_v44 main_v48
  main_v49

def fn_part1 {F : FTy → Type} [FloatOps F] (main_arg4 : FVec F S1x1024 .f32) (main_arg5 : FVec F S1024 .f32) (main_arg6 : FVec F S1x512x1024 .f32) (main_arg7 : FVec F S1x1024x1024 .f32) (main_arg8 : FVec F S1x1024x1024 .f32) (main_arg9 : FVec F S1x8192x1024 .f32) (main_v14 : IVec S_ 1) (main_v15 : FVec F S1x8192x1024 .f32) (main_v16 : FVec F S1x8192x1024 .f32) : IVec S_ 1 :=
  let main_v17 : IVec S1x8192x1024 1 := cmpf .olt main_v15 main_v16
  let main_c_5 : IVec S_ 1 := constantI S_ 1 1#1
  let main_v18 : IVec S_ 1 := (fun x v => Host.reduce IntOp.andi x v reducesTo_S1x8192x1024_S_d0_1_2 h_S_) main_v17 main_c_5
  let main_v19 : IVec S_ 1 := andi main_v14 main_v18
  let main_v20 : FVec F S1x1024 .f32 := Host.absf main_arg4
  let main_cst_6 : FVec F S_ .f32 := constant S_ .f32 0x7F800000#32
  let main_v21 : FVec F S1x1024 .f32 := broadcastInDim S1x1024 ![] bcast_S_S1x1024 main_cst_6
  let main_v22 : IVec S1x1024 1 := cmpf .olt main_v20 main_v21
  let main_c_7 : IVec S_ 1 := constantI S_ 1 1#1
  let main_v23 : IVec S_ 1 := (fun x v => Host.reduce IntOp.andi x v reducesTo_S1x1024_S_d0_1 h_S_) main_v22 main_c_7
  let main_v24 : IVec S_ 1 := andi main_v19 main_v23
  let main_v25 : FVec F S1024 .f32 := Host.absf main_arg5
  let main_cst_8 : FVec F S_ .f32 := constant S_ .f32 0x7F800000#32
  let main_v26 : FVec F S1024 .f32 := broadcastInDim S1024 ![] bcast_S_S1024 main_cst_8
  let main_v27 : IVec S1024 1 := cmpf .olt main_v25 main_v26
  let main_c_9 : IVec S_ 1 := constantI S_ 1 1#1
  let main_v28 : IVec S_ 1 := (fun x v => Host.reduce IntOp.andi x v reducesTo_S1024_S_d0 h_S_) main_v27 main_c_9
  let main_v29 : IVec S_ 1 := andi main_v24 main_v28
  let main_v30 : FVec F S1x512x1024 .f32 := Host.absf main_arg6
  let main_cst_10 : FVec F S_ .f32 := constant S_ .f32 0x7F800000#32
  let main_v31 : FVec F S1x512x1024 .f32 := broadcastInDim S1x512x1024 ![] bcast_S_S1x512x1024 main_cst_10
  let main_v32 : IVec S1x512x1024 1 := cmpf .olt main_v30 main_v31
  let main_c_11 : IVec S_ 1 := constantI S_ 1 1#1
  let main_v33 : IVec S_ 1 := (fun x v => Host.reduce IntOp.andi x v reducesTo_S1x512x1024_S_d0_1_2 h_S_) main_v32 main_c_11
  fn_part2 (F := F) main_arg7 main_arg8 main_arg9 main_v29 main_v33

def fn {F : FTy → Type} [FloatOps F] (main_arg0 : FVec F S1x8192x512 .f32) (main_arg1 : FVec F S1x8192x1024 .f32) (main_arg2 : FVec F S1x8192x8192 .f32) (main_arg3 : FVec F S1x8192x1024 .f32) (main_arg4 : FVec F S1x1024 .f32) (main_arg5 : FVec F S1024 .f32) (main_arg6 : FVec F S1x512x1024 .f32) (main_arg7 : FVec F S1x1024x1024 .f32) (main_arg8 : FVec F S1x1024x1024 .f32) (main_arg9 : FVec F S1x8192x1024 .f32) : IVec S_ 1 :=
  let main_v0 : FVec F S1x8192x512 .f32 := Host.absf main_arg0
  let main_cst : FVec F S_ .f32 := constant S_ .f32 0x7F800000#32
  let main_v1 : FVec F S1x8192x512 .f32 := broadcastInDim S1x8192x512 ![] bcast_S_S1x8192x512 main_cst
  let main_v2 : IVec S1x8192x512 1 := cmpf .olt main_v0 main_v1
  let main_c : IVec S_ 1 := constantI S_ 1 1#1
  let main_v3 : IVec S_ 1 := (fun x v => Host.reduce IntOp.andi x v reducesTo_S1x8192x512_S_d0_1_2 h_S_) main_v2 main_c
  let main_v4 : FVec F S1x8192x1024 .f32 := Host.absf main_arg1
  let main_cst_0 : FVec F S_ .f32 := constant S_ .f32 0x7F800000#32
  let main_v5 : FVec F S1x8192x1024 .f32 := broadcastInDim S1x8192x1024 ![] bcast_S_S1x8192x1024 main_cst_0
  let main_v6 : IVec S1x8192x1024 1 := cmpf .olt main_v4 main_v5
  let main_c_1 : IVec S_ 1 := constantI S_ 1 1#1
  let main_v7 : IVec S_ 1 := (fun x v => Host.reduce IntOp.andi x v reducesTo_S1x8192x1024_S_d0_1_2 h_S_) main_v6 main_c_1
  let main_v8 : IVec S_ 1 := andi main_v3 main_v7
  let main_v9 : FVec F S1x8192x512 .f32 := (extractStridedSlice S1x8192x512 ![0, 0, 1536] · slices_S1x8192x8192_S1x8192x512_0_0_1536) main_arg2
  let main_v10 : FVec F S1x8192x512 .f32 := Host.absf main_v9
  let main_cst_2 : FVec F S_ .f32 := constant S_ .f32 0x7F800000#32
  let main_v11 : FVec F S1x8192x512 .f32 := broadcastInDim S1x8192x512 ![] bcast_S_S1x8192x512 main_cst_2
  let main_v12 : IVec S1x8192x512 1 := cmpf .olt main_v10 main_v11
  let main_c_3 : IVec S_ 1 := constantI S_ 1 1#1
  let main_v13 : IVec S_ 1 := (fun x v => Host.reduce IntOp.andi x v reducesTo_S1x8192x512_S_d0_1_2 h_S_) main_v12 main_c_3
  let main_v14 : IVec S_ 1 := andi main_v8 main_v13
  let main_v15 : FVec F S1x8192x1024 .f32 := Host.absf main_arg3
  let main_cst_4 : FVec F S_ .f32 := constant S_ .f32 0x7F800000#32
  let main_v16 : FVec F S1x8192x1024 .f32 := broadcastInDim S1x8192x1024 ![] bcast_S_S1x8192x1024 main_cst_4
  fn_part1 (F := F) main_arg4 main_arg5 main_arg6 main_arg7 main_arg8 main_arg9 main_v14 main_v15 main_v16
-- ==== DhKernel.lean ====
abbrev S1x8192x1024 : Shape := ⟨3, ![1, 8192, 1024]⟩
abbrev S1x1024 : Shape := ⟨2, ![1, 1024]⟩
abbrev S1x1024x8192 : Shape := ⟨3, ![1, 1024, 8192]⟩
abbrev S1x8192x8192 : Shape := ⟨3, ![1, 8192, 8192]⟩
abbrev S_ : Shape := ⟨0, ![]⟩
abbrev S8192x8192 : Shape := ⟨2, ![8192, 8192]⟩
abbrev S8192x512 : Shape := ⟨2, ![8192, 512]⟩
abbrev S8192x4096 : Shape := ⟨2, ![8192, 4096]⟩
abbrev S8192x2048 : Shape := ⟨2, ![8192, 2048]⟩
abbrev S1024x8192 : Shape := ⟨2, ![1024, 8192]⟩
abbrev S8192x1024 : Shape := ⟨2, ![8192, 1024]⟩
abbrev S5x1024 : Shape := ⟨2, ![5, 1024]⟩
abbrev S8x1024 : Shape := ⟨2, ![8, 1024]⟩
abbrev S512x512 : Shape := ⟨2, ![512, 512]⟩
abbrev S512x4096 : Shape := ⟨2, ![512, 4096]⟩
abbrev S512x2048 : Shape := ⟨2, ![512, 2048]⟩
abbrev S512x1024 : Shape := ⟨2, ![512, 1024]⟩
abbrev S1024x512 : Shape := ⟨2, ![1024, 512]⟩
abbrev S1024x4096 : Shape := ⟨2, ![1024, 4096]⟩
abbrev S1024x2048 : Shape := ⟨2, ![1024, 2048]⟩
abbrev S512 : Shape := ⟨1, ![512]⟩
abbrev S512x1 : Shape := ⟨2, ![512, 1]⟩
abbrev S1024 : Shape := ⟨1, ![1024]⟩

abbrev nBuf : Space → Nat
  | .hbm => 31
  | .vmem => 21
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024x8192, .f32⟩
  | .hbm, ⟨5, _⟩ => ⟨S1x8192x8192, .f32⟩
  | .hbm, ⟨6, _⟩ => ⟨S1x8192x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S8192x8192, .f32⟩
  | .hbm, ⟨15, _⟩ => ⟨S8192x8192, .bf16⟩
  | .hbm, ⟨16, _⟩ => ⟨S8192x512, .bf16⟩
  | .hbm, ⟨17, _⟩ => ⟨S8192x512, .bf16⟩
  | .hbm, ⟨18, _⟩ => ⟨S8192x512, .bf16⟩
  | .hbm, ⟨19, _⟩ => ⟨S8192x512, .bf16⟩
  | .hbm, ⟨20, _⟩ => ⟨S8192x4096, .bf16⟩
  | .hbm, ⟨21, _⟩ => ⟨S8192x2048, .bf16⟩
  | .hbm, ⟨22, _⟩ => ⟨S1024x8192, .f32⟩
  | .hbm, ⟨23, _⟩ => ⟨S1024x8192, .bf16⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S5x1024, .f32⟩
  | .hbm, ⟨28, _⟩ => ⟨S8x1024, .f32⟩
  | .hbm, ⟨29, _⟩ => ⟨S8192x1024, .f32⟩
  | .hbm, ⟨30, _⟩ => ⟨S8x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x4096, .bf16⟩
  | .local _ .vmem, ⟨9, _⟩ => ⟨S512x4096, .bf16⟩
  | .local _ .vmem, ⟨10, _⟩ => ⟨S512x2048, .bf16⟩
  | .local _ .vmem, ⟨11, _⟩ => ⟨S512x2048, .bf16⟩
  | .local _ .vmem, ⟨12, _⟩ => ⟨S1024x8192, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S8x1024, .f32⟩
  | .local _ .vmem, ⟨18, _⟩ => ⟨S512x1024, .f32⟩
  | .local _ .vmem, ⟨19, _⟩ => ⟨S512x1024, .f32⟩
  | .local _ .vmem, ⟨20, _⟩ => ⟨S8x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19_0 : Ref sig .tc := ⟨.hbm, 29, rfl⟩
abbrev main_v19_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x8192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== DhReferenceIdeal.lean ====
abbrev S1x8192x1024 : Shape := ⟨3, ![1, 8192, 1024]⟩
abbrev S1x1024 : Shape := ⟨2, ![1, 1024]⟩
abbrev S1x1024x8192 : Shape := ⟨3, ![1, 1024, 8192]⟩
abbrev S1x8192x8192 : Shape := ⟨3, ![1, 8192, 8192]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x8192 : Shape := ⟨2, ![1024, 8192]⟩
abbrev S8192 : Shape := ⟨1, ![8192]⟩
abbrev S8192x1024 : Shape := ⟨2, ![8192, 1024]⟩
abbrev S5x1024 : Shape := ⟨2, ![5, 1024]⟩
abbrev S8x1024 : Shape := ⟨2, ![8, 1024]⟩

abbrev nBuf : Space → Nat
  | .hbm => 87
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024x8192, .f32⟩
  | .hbm, ⟨5, _⟩ => ⟨S1x8192x8192, .f32⟩
  | .hbm, ⟨6, _⟩ => ⟨S1x8192x1024, .f32⟩
  | .hbm, ⟨7, _⟩ => ⟨S1024, .f32⟩
  | .hbm, ⟨8, _⟩ => ⟨S1x8192x1024, .f32⟩
  | .hbm, ⟨9, _⟩ => ⟨S_, .f32⟩
  | .hbm, ⟨10, _⟩ => ⟨S1x8192, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S_, .f32⟩
  | .hbm, ⟨16, _⟩ => ⟨S1x8192x1, .f32⟩
  | .hbm, ⟨17, _⟩ => ⟨S1x8192x1, .f32⟩
  | .hbm, ⟨18, _⟩ => ⟨S1x8192x1, .f32⟩
  | .hbm, ⟨19, _⟩ => ⟨S1x8192x1, .f32⟩
  | .hbm, ⟨20, _⟩ => ⟨S_, .f32⟩
  | .hbm, ⟨21, _⟩ => ⟨S1x8192x1, .f32⟩
  | .hbm, ⟨22, _⟩ => ⟨S1x8192x1, .f32⟩
  | .hbm, ⟨23, _⟩ => ⟨S1x8192x1024, .f32⟩
  | .hbm, ⟨24, _⟩ => ⟨S1x8192x1024, .f32⟩
  | .hbm, ⟨25, _⟩ => ⟨S1x1x1024, .f32⟩
  | .hbm, ⟨26, _⟩ => ⟨S1x8192x1024, .f32⟩
  | .hbm, ⟨27, _⟩ => ⟨S1x8192x1024, .f32⟩
  | .hbm, ⟨28, _⟩ => ⟨S1x1x1024, .f32⟩
  | .hbm, ⟨29, _⟩ => ⟨S_, .f32⟩
  | .hbm, ⟨30, _⟩ => ⟨S1x1x1024, .f32⟩
  | .hbm, ⟨31, _⟩ => ⟨S1x1x1024, .f32⟩
  | .hbm, ⟨32, _⟩ => ⟨S1x8192x1024, .f32⟩
  | .hbm, ⟨33, _⟩ => ⟨S1x8192x1024, .f32⟩
  | .hbm, ⟨34, _⟩ => ⟨S1x1x1024, .f32⟩
  | .hbm, ⟨35, _⟩ => ⟨S1x8192x1024, .f32⟩
  | .hbm, ⟨36, _⟩ => ⟨S1x8192x1024, .f32⟩
  | .hbm, ⟨37, _⟩ => ⟨S1024x8192, .f32⟩
  | .hbm, ⟨38, _⟩ => ⟨S1x8192x8192, .f32⟩
  | .hbm, ⟨39, _⟩ => ⟨S1x8192x1024, .f32⟩
  | .hbm, ⟨40, _⟩ => ⟨S_, .f32⟩
  | .hbm, ⟨41, _⟩ => ⟨S1x1024, .f32⟩
  | .hbm, ⟨42, _⟩ => ⟨S1x1x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S1x8192x1024, .f32⟩
  | .hbm, ⟨47, _⟩ => ⟨S_, .f32⟩
  | .hbm, ⟨48, _⟩ => ⟨S1x1024, .f32⟩
  | .hbm, ⟨49, _⟩ => ⟨S1x1x1024, .f32⟩
  | .hbm, ⟨50, _⟩ => ⟨S1x8192x1024, .f32⟩
  | .hbm, ⟨51, _⟩ => ⟨S1x8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S1x8192x1024, .f32⟩
  | .hbm, ⟨56, _⟩ => ⟨S_, .f32⟩
  | .hbm, ⟨57, _⟩ => ⟨S1x1024, .f32⟩
  | .hbm, ⟨58, _⟩ => ⟨S1x1x1024, .f32⟩
  | .hbm, ⟨59, _⟩ => ⟨S1x8192x1024, .f32⟩
  | .hbm, ⟨60, _⟩ => ⟨S1x8192x1024, .f32⟩
  | .hbm, ⟨61, _⟩ => ⟨S_, .f32⟩
  | .hbm, ⟨62, _⟩ => ⟨S1024, .f32⟩
  | .hbm, ⟨63, _⟩ => ⟨S1x8192x1024, .f32⟩
  | .hbm, ⟨64, _⟩ => ⟨S_, .f32⟩
  | .hbm, ⟨65, _⟩ => ⟨S1x8192, .f32⟩
  | .hbm, ⟨66, _⟩ => ⟨S1x8192x1, .f32⟩
  | .hbm, ⟨67, _⟩ => ⟨S1x8192x1024, .f32⟩
  | .hbm, ⟨68, _⟩ => ⟨S1x8192x1024, .f32⟩
  | .hbm, ⟨69, _⟩ => ⟨S1x8192x1024, .f32⟩
  | .hbm, ⟨70, _⟩ => ⟨S1x8192x1, .f32⟩
  | .hbm, ⟨71, _⟩ => ⟨S_, .f32⟩
  | .hbm, ⟨72, _⟩ => ⟨S1x8192x1, .f32⟩
  | .hbm, ⟨73, _⟩ => ⟨S1x8192x1, .f32⟩
  | .hbm, ⟨74, _⟩ => ⟨S_, .f32⟩
  | .hbm, ⟨75, _⟩ => ⟨S8192, .f32⟩
  | .hbm, ⟨76, _⟩ => ⟨S1x8192, .f32⟩
  | .hbm, ⟨77, _⟩ => ⟨S1x8192x1024, .f32⟩
  | .hbm, ⟨78, _⟩ => ⟨S1x8192x1024, .f32⟩
  | .hbm, ⟨79, _⟩ => ⟨S1x8192x1024, .f32⟩
  | .hbm, ⟨80, _⟩ => ⟨S1x8192x1024, .f32⟩
  | .hbm, ⟨81, _⟩ => ⟨S1x8192x1024, .f32⟩
  | .hbm, ⟨82, _⟩ => ⟨S1x1024, .f32⟩
  | .hbm, ⟨83, _⟩ => ⟨S8192x1024, .f32⟩
  | .hbm, ⟨84, _⟩ => ⟨S_, .f32⟩
  | .hbm, ⟨85, _⟩ => ⟨S5x1024, .f32⟩
  | .hbm, ⟨86, _⟩ => ⟨S8x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_cst_12 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_13 : Ref sig .tc := ⟨.hbm, 84, rfl⟩
abbrev main_v63 : Ref sig .tc := ⟨.hbm, 85, rfl⟩
abbrev main_v64 : Ref sig .tc := ⟨.hbm, 86, rfl⟩

abbrev nD : Nat := 1
abbrev τ : Topo := Topo.v7x

variable {F : FTy → Type} [FloatOps F]
-- ==== MergeKernel.lean ====
abbrev S1x8192x512 : Shape := ⟨3, ![1, 8192, 512]⟩
abbrev S1x8192x1024 : Shape := ⟨3, ![1, 8192, 1024]⟩
abbrev S1x8192x8192 : Shape := ⟨3, ![1, 8192, 8192]⟩
abbrev S1x1024 : Shape := ⟨2, ![1, 1024]⟩
abbrev S1024 : Shape := ⟨1, ![1024]⟩
abbrev S1x512x1024 : Shape := ⟨3, ![1, 512, 1024]⟩
abbrev S1x1024x1024 : Shape := ⟨3, ![1, 1024, 1024]⟩
abbrev S8192x8192 : Shape := ⟨2, ![8192, 8192]⟩
abbrev S8192x512 : Shape := ⟨2, ![8192, 512]⟩
abbrev S_ : Shape := ⟨0, ![]⟩
abbrev S6x1024 : Shape := ⟨2, ![6, 1024]⟩
abbrev S8x1024 : Shape := ⟨2, ![8, 1024]⟩
abbrev S8192x1024 : Shape := ⟨2, ![8192, 1024]⟩
abbrev S512x1024 : Shape := ⟨2, ![512, 1024]⟩
abbrev S1024x1024 : Shape := ⟨2, ![1024, 1024]⟩
abbrev S8192x2048 : Shape := ⟨2, ![8192, 2048]⟩
abbrev S8x128 : Shape := ⟨2, ![8, 128]⟩
abbrev S256x512 : Shape := ⟨2, ![256, 512]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S1x256x1024 : Shape := ⟨3, ![1, 256, 1024]⟩
abbrev S1 : Shape := ⟨1, ![1]⟩
abbrev S1x1x1 : Shape := ⟨3, ![1, 1, 1]⟩
abbrev S512x512 : Shape := ⟨2, ![512, 512]⟩

abbrev nBuf : Space → Nat
  | .hbm => 51
  | .vmem => 42
  | .smem => 0
  | _ => 0

abbrev bufTy : (tb : Table) → Fin (tcTables nBuf tb) → BufTy
  | .hbm, ⟨0, _⟩ => ⟨S1x8192x512, .f32⟩
  | .hbm, ⟨1, _⟩ => ⟨S1x8192x1024, .f32⟩
  | .hbm, ⟨2, _⟩ => ⟨S1x8192x8192, .f32⟩
  | .hbm, ⟨3, _⟩ => ⟨S1x8192x1024, .f32⟩
  | .hbm, ⟨4, _⟩ => ⟨S1x1024, .f32⟩
  | .hbm, ⟨5, _⟩ => ⟨S1024, .f32⟩
  | .hbm, ⟨6, _⟩ => ⟨S1x512x1024, .f32⟩
  | .hbm, ⟨7, _⟩ => ⟨S1x1024x1024, .f32⟩
  | .hbm, ⟨8, _⟩ => ⟨S1x1024x1024, .f32⟩
  | .hbm, ⟨9, _⟩ => ⟨S1x8192x1024, .f32⟩
  | .hbm, ⟨10, _⟩ => ⟨S8192x8192, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S_, .f32⟩
  | .hbm, ⟨16, _⟩ => ⟨S8192x512, .f32⟩
  | .hbm, ⟨17, _⟩ => ⟨S8192x512, .f32⟩
  | .hbm, ⟨18, _⟩ => ⟨S_, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S8192x512, .bf16⟩
  | .hbm, ⟨24, _⟩ => ⟨S1x1024, .f32⟩
  | .hbm, ⟨25, _⟩ => ⟨S_, .f32⟩
  | .hbm, ⟨26, _⟩ => ⟨S6x1024, .f32⟩
  | .hbm, ⟨27, _⟩ => ⟨S8x1024, .f32⟩
  | .hbm, ⟨28, _⟩ => ⟨S8192x1024, .f32⟩
  | .hbm, ⟨29, _⟩ => ⟨S8192x1024, .bf16⟩
  | .hbm, ⟨30, _⟩ => ⟨S8192x1024, .f32⟩
  | .hbm, ⟨31, _⟩ => ⟨S8192x1024, .f32⟩
  | .hbm, ⟨32, _⟩ => ⟨S8192x512, .f32⟩
  | .hbm, ⟨33, _⟩ => ⟨S512x1024, .f32⟩
  | .hbm, ⟨34, _⟩ => ⟨S512x1024, .bf16⟩
  | .hbm, ⟨35, _⟩ => ⟨S1024x1024, .f32⟩
  | .hbm, ⟨36, _⟩ => ⟨S1024x1024, .bf16⟩
  | .hbm, ⟨37, _⟩ => ⟨S1024x1024, .f32⟩
  | .hbm, ⟨38, _⟩ => ⟨S1024x1024, .bf16⟩
  | .hbm, ⟨39, _⟩ => ⟨S8192x1024, .bf16⟩
  | .hbm, ⟨40, _⟩ => ⟨S8192x1024, .f32⟩
  | .hbm, ⟨41, _⟩ => ⟨S8192x1024, .bf16⟩
  | .hbm, ⟨42, _⟩ => ⟨S8192x1024, .bf16⟩
  | .hbm, ⟨43, _⟩ => ⟨S8192x1024, .bf16⟩
  | .hbm, ⟨44, _⟩ => ⟨S8192x2048, .bf16⟩
  | .hbm, ⟨45, _⟩ => ⟨S8192x512, .f32⟩
  | .hbm, ⟨46, _⟩ => ⟨S8192x512, .f32⟩
  | .hbm, ⟨47, _⟩ => ⟨S8192x512, .bf16⟩
  | .hbm, ⟨48, _⟩ => ⟨S8192x1024, .f32⟩
  | .hbm, ⟨49, _⟩ => ⟨S8x1024, .f32⟩
  | .hbm, ⟨50, _⟩ => ⟨S8x128, .f32⟩
  | .local _ .vmem, ⟨0, _⟩ => ⟨S256x512, .bf16⟩
  | .local _ .vmem, ⟨1, _⟩ => ⟨S256x512, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S8x1024, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S512x1024, .bf16⟩
  | .local _ .vmem, ⟨18, _⟩ => ⟨S1024x1024, .bf16⟩
  | .local _ .vmem, ⟨19, _⟩ => ⟨S1024x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .f32⟩
  | .local _ .vmem, ⟨23, _⟩ => ⟨S256x1024, .f32⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x2048, .bf16⟩
  | .local _ .vmem, ⟨31, _⟩ => ⟨S256x2048, .bf16⟩
  | .local _ .vmem, ⟨32, _⟩ => ⟨S256x512, .f32⟩
  | .local _ .vmem, ⟨33, _⟩ => ⟨S256x512, .f32⟩
  | .local _ .vmem, ⟨34, _⟩ => ⟨S256x512, .f32⟩
  | .local _ .vmem, ⟨35, _⟩ => ⟨S256x512, .f32⟩
  | .local _ .vmem, ⟨36, _⟩ => ⟨S256x512, .bf16⟩
  | .local _ .vmem, ⟨37, _⟩ => ⟨S256x512, .bf16⟩
  | .local _ .vmem, ⟨38, _⟩ => ⟨S256x1024, .f32⟩
  | .local _ .vmem, ⟨39, _⟩ => ⟨S256x1024, .f32⟩
  | .local _ .vmem, ⟨40, _⟩ => ⟨S8x1024, .f32⟩
  | .local _ .vmem, ⟨41, _⟩ => ⟨S8x128, .f32⟩
  | _, _ => ⟨S1x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20_0 : Ref sig .tc := ⟨.hbm, 39, rfl⟩
abbrev main_v20_1 : Ref sig .tc := ⟨.hbm, 40, rfl⟩
abbrev main_v20_2 : Ref sig .tc := ⟨.hbm, 41, rfl⟩
abbrev main_v20_3 : Ref sig .tc := ⟨.hbm, 42, rfl⟩
abbrev main_v20_4 : Ref sig .tc := ⟨.hbm, 43, rfl⟩
abbrev main_v20_5 : Ref sig .tc := ⟨.hbm, 44, rfl⟩
abbrev main_v20_6 : Ref sig .tc := ⟨.hbm, 45, rfl⟩
abbrev main_v20_7 : Ref sig .tc := ⟨.hbm, 46, rfl⟩
abbrev main_v20_8 : Ref sig .tc := ⟨.hbm, 47, rfl⟩
abbrev main_v20_9 : Ref sig .tc := ⟨.hbm, 48, rfl⟩
abbrev main_v20_10 : Ref sig .tc := ⟨.hbm, 49, rfl⟩
abbrev main_v20_11 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_stg21_0 : Ref sig .tc := ⟨.vmem, 38, rfl⟩
abbrev cc0_stg21_1 : Ref sig .tc := ⟨.vmem, 39, rfl⟩
abbrev cc0_stg22_0 : Ref sig .tc := ⟨.vmem, 40, rfl⟩
abbrev cc0_stg23_0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37
abbrev cc0_sem21_0 : DmaSem sig := 38
abbrev cc0_sem21_1 : DmaSem sig := 39
abbrev cc0_sem22_0 : DmaSem sig := 40
abbrev cc0_sem23_0 : DmaSem sig := 41

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S8x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S8x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]
-- ==== MergeReferenceIdeal.lean ====
abbrev S1x8192x512 : Shape := ⟨3, ![1, 8192, 512]⟩
abbrev S1x8192x1024 : Shape := ⟨3, ![1, 8192, 1024]⟩
abbrev S1x8192x8192 : Shape := ⟨3, ![1, 8192, 8192]⟩
abbrev S1x1024 : Shape := ⟨2, ![1, 1024]⟩
abbrev S1024 : Shape := ⟨1, ![1024]⟩
abbrev S1x512x1024 : Shape := ⟨3, ![1, 512, 1024]⟩
abbrev S1x1024x1024 : Shape := ⟨3, ![1, 1024, 1024]⟩
abbrev S_ : Shape := ⟨0, ![]⟩
abbrev S512x1024 : Shape := ⟨2, ![512, 1024]⟩
abbrev S1024x1024 : Shape := ⟨2, ![1024, 1024]⟩
abbrev S1x1x1024 : Shape := ⟨3, ![1, 1, 1024]⟩
abbrev S1x8192 : Shape := ⟨2, ![1, 8192]⟩
abbrev S1x8192x1 : Shape := ⟨3, ![1, 8192, 1]⟩
abbrev S8192 : Shape := ⟨1, ![8192]⟩
abbrev S1x8192x8x64 : Shape := ⟨4, ![1, 8192, 8, 64]⟩
abbrev S1x8192x8 : Shape := ⟨3, ![1, 8192, 8]⟩
abbrev S1x8192x8x1 : Shape := ⟨4, ![1, 8192, 8, 1]⟩
abbrev S8192x1024 : Shape := ⟨2, ![8192, 1024]⟩
abbrev S1x8192x2048 : Shape := ⟨3, ![1, 8192, 2048]⟩
abbrev S8192x2048 : Shape := ⟨2, ![8192, 2048]⟩
abbrev S8192x512 : Shape := ⟨2, ![8192, 512]⟩
abbrev S6x1024 : Shape := ⟨2, ![6, 1024]⟩
abbrev S8x1024 : Shape := ⟨2, ![8, 1024]⟩
abbrev S8x128 : Shape := ⟨2, ![8, 128]⟩

abbrev nBuf : Space → Nat
  | .hbm => 200
  | .vmem => 0
  | .smem => 0
  | _ => 0

abbrev hbmTy0_0 (i : Nat) : BufTy := match i % 128 with
  | 0 => ⟨S1x8192x512, .f32⟩
  | 1 => ⟨S1x8192x1024, .f32⟩
  | 2 => ⟨S1x8192x8192, .f32⟩
  | 3 => ⟨S1x8192x1024, .f32⟩
  | 4 => ⟨S1x1024, .f32⟩
  | 5 => ⟨S1024, .f32⟩
  | 6 => ⟨S1x512x1024, .f32⟩
  | 7 => ⟨S1x1024x1024, .f32⟩
  | 8 => ⟨S1x1024x1024, .f32⟩
  | 9 => ⟨S1x8192x1024, .f32⟩
  | 10 => ⟨S1x8192x512, .f32⟩
  | 11 => ⟨S1x8192x512, .f32⟩
  | 12 => ⟨S1x8192x512, .f32⟩
  | 13 => ⟨S1x8192x512, .f32⟩
  | 14 => ⟨S1x8192x1024, .f32⟩
  | 15 => ⟨S1x8192x1024, .f32⟩
  | 16 => ⟨S1x8192x1024, .f32⟩
  | 17 => ⟨S1x8192x1024, .f32⟩
  | 18 => ⟨S1x8192x1024, .f32⟩
  | 19 => ⟨S1x8192x1024, .f32⟩
  | 20 => ⟨S_, .f32⟩
  | 21 => ⟨S1x8192x1024, .f32⟩
  | 22 => ⟨S1x8192x512, .f32⟩
  | 23 => ⟨S1x8192x512, .f32⟩
  | 24 => ⟨S_, .f32⟩
  | 25 => ⟨S1x8192x512, .f32⟩
  | 26 => ⟨S1x8192x512, .f32⟩
  | 27 => ⟨S_, .f32⟩
  | 28 => ⟨S1x8192x512, .f32⟩
  | 29 => ⟨S1x8192x512, .f32⟩
  | 30 => ⟨S_, .f32⟩
  | 31 => ⟨S1x8192x512, .f32⟩
  | 32 => ⟨S1x8192x512, .f32⟩
  | 33 => ⟨S1x8192x512, .f32⟩
  | 34 => ⟨S1x8192x512, .f32⟩
  | 35 => ⟨S1x8192x512, .f32⟩
  | 36 => ⟨S512x1024, .f32⟩
  | 37 => ⟨S1x8192x1024, .f32⟩
  | 38 => ⟨S1x8192x1024, .f32⟩
  | 39 => ⟨S1024x1024, .f32⟩
  | 40 => ⟨S1x8192x1024, .f32⟩
  | 41 => ⟨S1x8192x1024, .f32⟩
  | 42 => ⟨S1x8192x1024, .f32⟩
  | 43 => ⟨S1x8192x1024, .f32⟩
  | 44 => ⟨S_, .f32⟩
  | 45 => ⟨S1x8192x1024, .f32⟩
  | 46 => ⟨S1x8192x1024, .f32⟩
  | 47 => ⟨S_, .f32⟩
  | 48 => ⟨S1x8192x1024, .f32⟩
  | 49 => ⟨S1x8192x1024, .f32⟩
  | 50 => ⟨S_, .f32⟩
  | 51 => ⟨S1x8192x1024, .f32⟩
  | 52 => ⟨S1x8192x1024, .f32⟩
  | 53 => ⟨S1x8192x1024, .f32⟩
  | 54 => ⟨S1x8192x1024, .f32⟩
  | 55 => ⟨S1x8192x1024, .f32⟩
  | 56 => ⟨S1x8192x1024, .f32⟩
  | 57 => ⟨S_, .f32⟩
  | 58 => ⟨S1x8192x1024, .f32⟩
  | 59 => ⟨S1x8192x1024, .f32⟩
  | 60 => ⟨S_, .f32⟩
  | 61 => ⟨S1x8192x1024, .f32⟩
  | 62 => ⟨S1x8192x1024, .f32⟩
  | 63 => ⟨S_, .f32⟩
  | 64 => ⟨S1x8192x1024, .f32⟩
  | 65 => ⟨S1x8192x1024, .f32⟩
  | 66 => ⟨S1x8192x1024, .f32⟩
  | 67 => ⟨S1x8192x1024, .f32⟩
  | 68 => ⟨S1x8192x1024, .f32⟩
  | 69 => ⟨S1x1x1024, .f32⟩
  | 70 => ⟨S1024x1024, .f32⟩
  | 71 => ⟨S1x8192x1024, .f32⟩
  | 72 => ⟨S1x8192x1024, .f32⟩
  | 73 => ⟨S1x8192x1024, .f32⟩
  | 74 => ⟨S1x8192x1024, .f32⟩
  | 75 => ⟨S1x8192x1024, .f32⟩
  | 76 => ⟨S1x8192x1024, .f32⟩
  | 77 => ⟨S_, .f32⟩
  | 78 => ⟨S1x8192, .f32⟩
  | 79 => ⟨S1x8192x1, .f32⟩
  | 80 => ⟨S_, .f32⟩
  | 81 => ⟨S1x8192x1, .f32⟩
  | 82 => ⟨S1x8192x1, .f32⟩
  | 83 => ⟨S_, .f32⟩
  | 84 => ⟨S1x8192x1, .f32⟩
  | 85 => ⟨S1x8192x1, .f32⟩
  | 86 => ⟨S1x8192x1, .f32⟩
  | 87 => ⟨S1x8192x1, .f32⟩
  | 88 => ⟨S_, .f32⟩
  | 89 => ⟨S1x8192x1, .f32⟩
  | 90 => ⟨S1x8192x1, .f32⟩
  | 91 => ⟨S1x8192x1024, .f32⟩
  | 92 => ⟨S1x8192x1024, .f32⟩
  | 93 => ⟨S1x1x1024, .f32⟩
  | 94 => ⟨S1x8192x1024, .f32⟩
  | 95 => ⟨S1x8192x1024, .f32⟩
  | 96 => ⟨S1x8192x1024, .f32⟩
  | 97 => ⟨S1x8192x1024, .f32⟩
  | 98 => ⟨S_, .f32⟩
  | 99 => ⟨S1x8192x1024, .f32⟩
  | 100 => ⟨S1x8192x1024, .f32⟩
  | 101 => ⟨S_, .f32⟩
  | 102 => ⟨S1x8192, .f32⟩
  | 103 => ⟨S_, .f32⟩
  | 104 => ⟨S1x8192, .f32⟩
  | 105 => ⟨S1x8192, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S1x8192, .f32⟩
  | 114 => ⟨S_, .f32⟩
  | 115 => ⟨S1x8192, .f32⟩
  | 116 => ⟨S1x8192, .f32⟩
  | 117 => ⟨S1x8192x1024, .f32⟩
  | 118 => ⟨S1x8192x1024, .f32⟩
  | 119 => ⟨S1x8192x1024, .f32⟩
  | 120 => ⟨S_, .f32⟩
  | 121 => ⟨S1x1024, .f32⟩
  | 122 => ⟨S1x1x1024, .f32⟩
  | 123 => ⟨S1x8192x1024, .f32⟩
  | 124 => ⟨S1x8192x1024, .f32⟩
  | 125 => ⟨S_, .f32⟩
  | 126 => ⟨S1024, .f32⟩
  | 127 => ⟨S1x8192x1024, .f32⟩
  | _ => ⟨S1x8192x512, .f32⟩

abbrev hbmTy0_1 (i : Nat) : BufTy := match i % 128 with
  | 0 => ⟨S_, .f32⟩
  | 1 => ⟨S1x8192, .f32⟩
  | 2 => ⟨S1x8192x1, .f32⟩
  | 3 => ⟨S1x8192x1024, .f32⟩
  | 4 => ⟨S1x8192x1024, .f32⟩
  | 5 => ⟨S1x8192x1, .f32⟩
  | 6 => ⟨S_, .f32⟩
  | 7 => ⟨S1x8192x1, .f32⟩
  | 8 => ⟨S1x8192x1, .f32⟩
  | 9 => ⟨S_, .f32⟩
  | 10 => ⟨S8192, .f32⟩
  | 11 => ⟨S1x8192, .f32⟩
  | 12 => ⟨S1x8192x1024, .f32⟩
  | 13 => ⟨S1x8192x1024, .f32⟩
  | 14 => ⟨S1x8192x1024, .f32⟩
  | 15 => ⟨S1x8192x1024, .f32⟩
  | 16 => ⟨S1x8192x1024, .f32⟩
  | 17 => ⟨S1x8192x1024, .f32⟩
  | 18 => ⟨S1x8192x1024, .f32⟩
  | 19 => ⟨S1x8192x1024, .f32⟩
  | 20 => ⟨S_, .f32⟩
  | 21 => ⟨S1x1024, .f32⟩
  | 22 => ⟨S1x1x1024, .f32⟩
  | 23 => ⟨S1x8192x1024, .f32⟩
  | 24 => ⟨S_, .f32⟩
  | 25 => ⟨S1024, .f32⟩
  | 26 => ⟨S1x1024, .f32⟩
  | 27 => ⟨S1x8192x1024, .f32⟩
  | 28 => ⟨S1x8192x1024, .f32⟩
  | 29 => ⟨S1x8192x1024, .f32⟩
  | 30 => ⟨S1x8192x1024, .f32⟩
  | 31 => ⟨S1x8192x1024, .f32⟩
  | 32 => ⟨S1x8192x1024, .f32⟩
  | 33 => ⟨S1x8192x1024, .f32⟩
  | 34 => ⟨S1x8192x512, .f32⟩
  | 35 => ⟨S1x8192x512, .f32⟩
  | 36 => ⟨S1x8192x512, .f32⟩
  | 37 => ⟨S1x8192x512, .f32⟩
  | 38 => ⟨S1x8192x512, .f32⟩
  | 39 => ⟨S1x8192x512, .f32⟩
  | 40 => ⟨S1x8192x512, .f32⟩
  | 41 => ⟨S1x8192x512, .f32⟩
  | 42 => ⟨S1x8192x8x64, .f32⟩
  | 43 => ⟨S_, .f32⟩
  | 44 => ⟨S1x8192x8, .f32⟩
  | 45 => ⟨S1x8192x8x1, .f32⟩
  | 46 => ⟨S1x8192x8x64, .f32⟩
  | 47 => ⟨S1x8192x512, .f32⟩
  | 48 => ⟨S8192x1024, .f32⟩
  | 49 => ⟨S8192x1024, .bf16⟩
  | 50 => ⟨S8192x1024, .f32⟩
  | 51 => ⟨S8192x1024, .f32⟩
  | 52 => ⟨S8192x1024, .bf16⟩
  | 53 => ⟨S8192x1024, .f32⟩
  | 54 => ⟨S8192x1024, .bf16⟩
  | 55 => ⟨S8192x1024, .f32⟩
  | 56 => ⟨S8192x1024, .bf16⟩
  | 57 => ⟨S1x8192x2048, .f32⟩
  | 58 => ⟨S8192x2048, .f32⟩
  | 59 => ⟨S8192x2048, .bf16⟩
  | 60 => ⟨S8192x512, .f32⟩
  | 61 => ⟨S8192x512, .f32⟩
  | 62 => ⟨S8192x512, .f32⟩
  | 63 => ⟨S8192x512, .bf16⟩
  | 64 => ⟨S8192x1024, .f32⟩
  | 65 => ⟨S1x1024, .f32⟩
  | 66 => ⟨S_, .f32⟩
  | 67 => ⟨S6x1024, .f32⟩
  | 68 => ⟨S8x1024, .f32⟩
  | 69 => ⟨S_, .f32⟩
  | 70 => ⟨S_, .f32⟩
  | 71 => ⟨S8x128, .f32⟩
  | _ => ⟨S1x8192x512, .f32⟩

abbrev hbmTy (i : Nat) : BufTy := match i / 128 with
  | 0 => hbmTy0_0 i
  | 1 => hbmTy0_1 i
  | _ => ⟨S1x8192x512, .f32⟩

abbrev bufTy : (tb : Table) → Fin (tcTables nBuf tb) → BufTy
  | .hbm, ⟨i, _⟩ => hbmTy i
  | _, _ => ⟨S1x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_v11_2 : Ref sig .tc := ⟨.hbm, 29, rfl⟩
abbrev main_call0_cst_1 : Ref sig .tc := ⟨.hbm, 30, rfl⟩
abbrev main_call0_v6 : Ref sig .tc := ⟨.hbm, 31, rfl⟩
abbrev main_call0_v7 : Ref sig .tc := ⟨.hbm, 32, rfl⟩
abbrev main_v11_1 : Ref sig .tc := ⟨.hbm, 33, rfl⟩
abbrev main_v11_0 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_0 : Ref sig .tc := ⟨.hbm, 44, rfl⟩
abbrev main_v21 : Ref sig .tc := ⟨.hbm, 45, rfl⟩
abbrev main_v22 : Ref sig .tc := ⟨.hbm, 46, rfl⟩
abbrev main_cst_1 : Ref sig .tc := ⟨.hbm, 47, rfl⟩
abbrev main_v23 : Ref sig .tc := ⟨.hbm, 48, rfl⟩
abbrev main_v24 : Ref sig .tc := ⟨.hbm, 49, rfl⟩
abbrev main_cst_2 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_3 : Ref sig .tc := ⟨.hbm, 57, rfl⟩
abbrev main_v31 : Ref sig .tc := ⟨.hbm, 58, rfl⟩
abbrev main_v32 : Ref sig .tc := ⟨.hbm, 59, rfl⟩
abbrev main_cst_4 : Ref sig .tc := ⟨.hbm, 60, rfl⟩
abbrev main_v33 : Ref sig .tc := ⟨.hbm, 61, rfl⟩
abbrev main_v34 : Ref sig .tc := ⟨.hbm, 62, rfl⟩
abbrev main_cst_5 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_6 : Ref sig .tc := ⟨.hbm, 77, rfl⟩
abbrev main_v48 : Ref sig .tc := ⟨.hbm, 78, rfl⟩
abbrev main_v49 : Ref sig .tc := ⟨.hbm, 79, rfl⟩
abbrev main_cst_7 : Ref sig .tc := ⟨.hbm, 80, rfl⟩
abbrev main_v50 : Ref sig .tc := ⟨.hbm, 81, rfl⟩
abbrev main_v51 : Ref sig .tc := ⟨.hbm, 82, rfl⟩
abbrev main_cst_8 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_9 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_10 : Ref sig .tc := ⟨.hbm, 98, rfl⟩
abbrev main_v65 : Ref sig .tc := ⟨.hbm, 99, rfl⟩
abbrev main_v66 : Ref sig .tc := ⟨.hbm, 100, rfl⟩
abbrev main_cst_11 : Ref sig .tc := ⟨.hbm, 101, rfl⟩
abbrev main_v67 : Ref sig .tc := ⟨.hbm, 102, rfl⟩
abbrev main_cst_12 : Ref sig .tc := ⟨.hbm, 103, rfl⟩
abbrev main_v68 : Ref sig .tc := ⟨.hbm, 104, rfl⟩
abbrev main_v69 : Ref sig .tc := ⟨.hbm, 105, rfl⟩
abbrev main_cst_13 : Ref sig .tc := ⟨.hbm, 106, rfl⟩
abbrev main_v70 : Ref sig .tc := ⟨.hbm, 107, rfl⟩
abbrev main_cst_14 : Ref sig .tc := ⟨.hbm, 108, rfl⟩
abbrev main_v71 : Ref sig .tc := ⟨.hbm, 109, rfl⟩
abbrev main_cst_15 : Ref sig .tc := ⟨.hbm, 110, rfl⟩
abbrev main_cst_16 : Ref sig .tc := ⟨.hbm, 111, rfl⟩
abbrev main_v72 : Ref sig .tc := ⟨.hbm, 112, rfl⟩
abbrev main_v73 : Ref sig .tc := ⟨.hbm, 113, rfl⟩
abbrev main_cst_17 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_cst_18 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_cst_19 : Ref sig .tc := ⟨.hbm, 125, rfl⟩
abbrev main_v83 : Ref sig .tc := ⟨.hbm, 126, rfl⟩
abbrev main_v84 : Ref sig .tc := ⟨.hbm, 127, rfl⟩
abbrev main_cst_20 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_cst_21 : Ref sig .tc := ⟨.hbm, 134, rfl⟩
abbrev main_v90 : Ref sig .tc := ⟨.hbm, 135, rfl⟩
abbrev main_v91 : Ref sig .tc := ⟨.hbm, 136, rfl⟩
abbrev main_cst_22 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_cst_23 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_cst_24 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_call1_v0 : Ref sig .tc := ⟨.hbm, 165, rfl⟩
abbrev main_call1_v1 : Ref sig .tc := ⟨.hbm, 166, rfl⟩
abbrev main_call1_v2 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_cst_25 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_cst_26 : Ref sig .tc := ⟨.hbm, 194, rfl⟩
abbrev main_v142 : Ref sig .tc := ⟨.hbm, 195, rfl⟩
abbrev main_v143 : Ref sig .tc := ⟨.hbm, 196, rfl⟩
abbrev main_cst_27 : Ref sig .tc := ⟨.hbm, 197, rfl⟩
abbrev main_v144 : Ref sig .tc := ⟨.hbm, 198, rfl⟩
abbrev main_v145 : Ref sig .tc := ⟨.hbm, 199, rfl⟩

abbrev nD : Nat := 1
abbrev τ : Topo := Topo.v7x

variable {F : FTy → Type} [FloatOps F]
-- ==== HgrnFwd.lean ====
abbrev S1x8192x8192 : Shape := ⟨3, ![1, 8192, 8192]⟩
abbrev S8x128 : Shape := ⟨2, ![8, 128]⟩
abbrev S1x128 : Shape := ⟨2, ![1, 128]⟩
abbrev S8192x8192 : Shape := ⟨2, ![8192, 8192]⟩
abbrev S1x1024 : Shape := ⟨2, ![1, 1024]⟩
abbrev S1x1x1x128 : Shape := ⟨4, ![1, 1, 1, 128]⟩
abbrev S1x1x8x128 : Shape := ⟨4, ![1, 1, 8, 128]⟩
abbrev S8192x1024 : Shape := ⟨2, ![8192, 1024]⟩
abbrev S128x1024x128 : Shape := ⟨3, ![128, 1024, 128]⟩
abbrev S512x1024 : Shape := ⟨2, ![512, 1024]⟩
abbrev S8x1024x128 : Shape := ⟨3, ![8, 1024, 128]⟩
abbrev S1024x128 : Shape := ⟨2, ![1024, 128]⟩
abbrev S64x64 : Shape := ⟨2, ![64, 64]⟩
abbrev S64x128 : Shape := ⟨2, ![64, 128]⟩
abbrev S64x1024 : Shape := ⟨2, ![64, 1024]⟩
abbrev S1x1024x128 : Shape := ⟨3, ![1, 1024, 128]⟩
abbrev S128x128 : Shape := ⟨2, ![128, 128]⟩
abbrev S64 : Shape := ⟨1, ![64]⟩
abbrev S64x1 : Shape := ⟨2, ![64, 1]⟩

abbrev nBuf : Space → Nat
  | .hbm => 11
  | .vmem => 17
  | .smem => 0
  | _ => 0

abbrev bufTy : (tb : Table) → Fin (tcTables nBuf tb) → BufTy
  | .hbm, ⟨0, _⟩ => ⟨S1x8192x8192, .f32⟩
  | .hbm, ⟨1, _⟩ => ⟨S8x128, .f32⟩
  | .hbm, ⟨2, _⟩ => ⟨S1x128, .f32⟩
  | .hbm, ⟨3, _⟩ => ⟨S8192x8192, .f32⟩
  | .hbm, ⟨4, _⟩ => ⟨S1x1024, .f32⟩
  | .hbm, ⟨5, _⟩ => ⟨S1x1x1x128, .f32⟩
  | .hbm, ⟨6, _⟩ => ⟨S1x1x8x128, .f32⟩
  | .hbm, ⟨7, _⟩ => ⟨S1x1024, .f32⟩
  | .hbm, ⟨8, _⟩ => ⟨S8192x1024, .f32⟩
  | .hbm, ⟨9, _⟩ => ⟨S8192x1024, .bf16⟩
  | .hbm, ⟨10, _⟩ => ⟨S128x1024x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S8x1024x128, .f32⟩
  | .local _ .vmem, ⟨15, _⟩ => ⟨S8x1024x128, .f32⟩
  | .local _ .vmem, ⟨16, _⟩ => ⟨S1024x128, .f32⟩
  | _, _ => ⟨S1x8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== HgrnFwdReferenceIdeal.lean ====
abbrev S1x8192x8192 : Shape := ⟨3, ![1, 8192, 8192]⟩
abbrev S8x128 : Shape := ⟨2, ![8, 128]⟩
abbrev S1x128 : Shape := ⟨2, ![1, 128]⟩
abbrev S1x8192x1024 : Shape := ⟨3, ![1, 8192, 1024]⟩
abbrev S1x8192x8x128 : Shape := ⟨4, ![1, 8192, 8, 128]⟩
abbrev S_ : Shape := ⟨0, ![]⟩
abbrev S1x1x8x128 : Shape := ⟨4, ![1, 1, 8, 128]⟩
abbrev S64x64 : Shape := ⟨2, ![64, 64]⟩
abbrev S1x8x128x128 : Shape := ⟨4, ![1, 8, 128, 128]⟩
abbrev S1x128x64x8x128 : Shape := ⟨5, ![1, 128, 64, 8, 128]⟩
abbrev S128x1x8x64x128 : Shape := ⟨5, ![128, 1, 8, 64, 128]⟩
abbrev S128x1x8x128x128 : Shape := ⟨5, ![128, 1, 8, 128, 128]⟩
abbrev S1x1x8x64x128 : Shape := ⟨5, ![1, 1, 8, 64, 128]⟩
abbrev S1x8x64x128 : Shape := ⟨4, ![1, 8, 64, 128]⟩
abbrev S1x8x64x1x128 : Shape := ⟨5, ![1, 8, 64, 1, 128]⟩
abbrev S1x8x1x64x128 : Shape := ⟨5, ![1, 8, 1, 64, 128]⟩
abbrev S1x8x64x64x128 : Shape := ⟨5, ![1, 8, 64, 64, 128]⟩
abbrev S64x64x1 : Shape := ⟨3, ![64, 64, 1]⟩
abbrev S1x8x64x64 : Shape := ⟨4, ![1, 8, 64, 64]⟩
abbrev S1x8x1x128 : Shape := ⟨4, ![1, 8, 1, 128]⟩
abbrev S1x8x128 : Shape := ⟨3, ![1, 8, 128]⟩
abbrev S1x8x128x1 : Shape := ⟨4, ![1, 8, 128, 1]⟩
abbrev S1x1x8x128x128 : Shape := ⟨5, ![1, 1, 8, 128, 128]⟩
abbrev S128 : Shape := ⟨1, ![128]⟩
abbrev S1x8192x8 : Shape := ⟨3, ![1, 8192, 8]⟩
abbrev S1x8192x8x1 : Shape := ⟨4, ![1, 8192, 8, 1]⟩
abbrev S1x1x1x128 : Shape := ⟨4, ![1, 1, 1, 128]⟩
abbrev S8192x1024 : Shape := ⟨2, ![8192, 1024]⟩
abbrev S128x8x128x128 : Shape := ⟨4, ![128, 8, 128, 128]⟩
abbrev S128x1024x128 : Shape := ⟨3, ![128, 1024, 128]⟩

abbrev nBuf : Space → Nat
  | .hbm => 191
  | .vmem => 0
  | .smem => 0
  | _ => 0

abbrev hbmTy0_0 (i : Nat) : BufTy := match i % 128 with
  | 0 => ⟨S1x8192x8192, .f32⟩
  | 1 => ⟨S8x128, .f32⟩
  | 2 => ⟨S1x128, .f32⟩
  | 3 => ⟨S1x8192x1024, .f32⟩
  | 4 => ⟨S1x8192x8x128, .f32⟩
  | 5 => ⟨S1x8192x1024, .f32⟩
  | 6 => ⟨S1x8192x8x128, .f32⟩
  | 7 => ⟨S1x8192x1024, .f32⟩
  | 8 => ⟨S1x8192x8x128, .f32⟩
  | 9 => ⟨S1x8192x8x128, .f32⟩
  | 10 => ⟨S1x8192x8x128, .f32⟩
  | 11 => ⟨S_, .f32⟩
  | 12 => ⟨S1x8192x8x128, .f32⟩
  | 13 => ⟨S1x8192x8x128, .f32⟩
  | 14 => ⟨S_, .f32⟩
  | 15 => ⟨S1x8192x8x128, .f32⟩
  | 16 => ⟨S1x8192x8x128, .f32⟩
  | 17 => ⟨S1x8192x8x128, .f32⟩
  | 18 => ⟨S_, .f32⟩
  | 19 => ⟨S8x128, .f32⟩
  | 20 => ⟨S8x128, .f32⟩
  | 21 => ⟨S1x8192x8x128, .f32⟩
  | 22 => ⟨S1x8192x8x128, .f32⟩
  | 23 => ⟨S_, .f32⟩
  | 24 => ⟨S1x8192x8x128, .f32⟩
  | 25 => ⟨S1x8192x8x128, .f32⟩
  | 26 => ⟨S_, .f32⟩
  | 27 => ⟨S1x8192x8x128, .f32⟩
  | 28 => ⟨S1x8192x8x128, .f32⟩
  | 29 => ⟨S1x1x8x128, .f32⟩
  | 30 => ⟨S1x8192x8x128, .f32⟩
  | 31 => ⟨S1x8192x8x128, .f32⟩
  | 32 => ⟨S1x1x8x128, .f32⟩
  | 33 => ⟨S1x8192x8x128, .f32⟩
  | 34 => ⟨S1x8192x8x128, .f32⟩
  | 35 => ⟨S1x8192x8x128, .f32⟩
  | 36 => ⟨S_, .f32⟩
  | 37 => ⟨S1x8192x8x128, .f32⟩
  | 38 => ⟨S1x8192x8x128, .f32⟩
  | 39 => ⟨S_, .i1⟩
  | 40 => ⟨S64x64, .i1⟩
  | 41 => ⟨S64x64, .i32⟩
  | 42 => ⟨S_, .i32⟩
  | 43 => ⟨S64x64, .i32⟩
  | 44 => ⟨S64x64, .i32⟩
  | 45 => ⟨S64x64, .i32⟩
  | 46 => ⟨S64x64, .i1⟩
  | 47 => ⟨S_, .i1⟩
  | 48 => ⟨S64x64, .i1⟩
  | 49 => ⟨S64x64, .i1⟩
  | 50 => ⟨S_, .f32⟩
  | 51 => ⟨S1x8x128x128, .f32⟩
  | 52 => ⟨S1x128x64x8x128, .f32⟩
  | 53 => ⟨S128x1x8x64x128, .f32⟩
  | 54 => ⟨S1x128x64x8x128, .f32⟩
  | 55 => ⟨S128x1x8x64x128, .f32⟩
  | 56 => ⟨S1x128x64x8x128, .f32⟩
  | 57 => ⟨S128x1x8x64x128, .f32⟩
  | 58 => ⟨S1x128x64x8x128, .f32⟩
  | 59 => ⟨S128x1x8x64x128, .f32⟩
  | 60 => ⟨S_, .f32⟩
  | 61 => ⟨S128x1x8x64x128, .f32⟩
  | 62 => ⟨S_, .f32⟩
  | 63 => ⟨S128x1x8x128x128, .f32⟩
  | 64 => ⟨S_, .i32⟩
  | 65 => ⟨S128x1x8x64x128, .f32⟩
  | 66 => ⟨S128x1x8x64x128, .f32⟩
  | 67 => ⟨S128x1x8x64x128, .f32⟩
  | 68 => ⟨S128x1x8x64x128, .f32⟩
  | 69 => ⟨S64x64, .i1⟩
  | 70 => ⟨S_, .i32⟩
  | 71 => ⟨S1x8x128x128, .f32⟩
  | 72 => ⟨S128x1x8x64x128, .f32⟩
  | 73 => ⟨S128x1x8x128x128, .f32⟩
  | 74 => ⟨S_, .i32⟩
  | 75 => ⟨S_, .i1⟩
  | 76 => ⟨S_, .i32⟩
  | 77 => ⟨S_, .i32⟩
  | 78 => ⟨S_, .i32⟩
  | 79 => ⟨S_, .i32⟩
  | 80 => ⟨S1x1x8x64x128, .f32⟩
  | 81 => ⟨S1x8x64x128, .f32⟩
  | 82 => ⟨S_, .i32⟩
  | 83 => ⟨S_, .i32⟩
  | 84 => ⟨S_, .i32⟩
  | 85 => ⟨S_, .i32⟩
  | 86 => ⟨S1x1x8x64x128, .f32⟩
  | 87 => ⟨S1x8x64x128, .f32⟩
  | 88 => ⟨S_, .i32⟩
  | 89 => ⟨S_, .i32⟩
  | 90 => ⟨S_, .i32⟩
  | 91 => ⟨S_, .i32⟩
  | 92 => ⟨S1x1x8x64x128, .f32⟩
  | 93 => ⟨S1x8x64x128, .f32⟩
  | 94 => ⟨S_, .i32⟩
  | 95 => ⟨S_, .i32⟩
  | 96 => ⟨S_, .i32⟩
  | 97 => ⟨S_, .i32⟩
  | 98 => ⟨S1x1x8x64x128, .f32⟩
  | 99 => ⟨S1x8x64x128, .f32⟩
  | 100 => ⟨S_, .f32⟩
  | 101 => ⟨S_, .f32⟩
  | 102 => ⟨S1x8x64x128, .f32⟩
  | 103 => ⟨S1x8x64x128, .f32⟩
  | 104 => ⟨S1x8x64x128, .f32⟩
  | 105 => ⟨S1x8x64x128, .f32⟩
  | 106 => ⟨S1x8x64x1x128, .f32⟩
  | 107 => ⟨S1x8x1x64x128, .f32⟩
  | 108 => ⟨S1x8x64x64x128, .f32⟩
  | 109 => ⟨S1x8x64x64x128, .f32⟩
  | 110 => ⟨S1x8x64x64x128, .f32⟩
  | 111 => ⟨S64x64x1, .i1⟩
  | 112 => ⟨S_, .f32⟩
  | 113 => ⟨S_, .f32⟩
  | 114 => ⟨S1x8x64x64x128, .i1⟩
  | 115 => ⟨S1x8x64x64x128, .f32⟩
  | 116 => ⟨S1x8x64x64x128, .f32⟩
  | 117 => ⟨S1x8x64x64x128, .f32⟩
  | 118 => ⟨S1x8x64x1x128, .f32⟩
  | 119 => ⟨S1x8x1x64x128, .f32⟩
  | 120 => ⟨S1x8x64x64x128, .f32⟩
  | 121 => ⟨S1x8x64x64x128, .f32⟩
  | 122 => ⟨S1x8x64x64x128, .f32⟩
  | 123 => ⟨S1x8x64x64x128, .f32⟩
  | 124 => ⟨S_, .f32⟩
  | 125 => ⟨S1x8x64x64, .f32⟩
  | 126 => ⟨S1x8x64x128, .f32⟩
  | 127 => ⟨S1x8x1x128, .f32⟩
  | _ => ⟨S1x8192x8192, .f32⟩

abbrev hbmTy0_1 (i : Nat) : BufTy := match i % 128 with
  | 0 => ⟨S1x8x128, .f32⟩
  | 1 => ⟨S1x8x128, .f32⟩
  | 2 => ⟨S1x8x128x1, .f32⟩
  | 3 => ⟨S1x8x128x128, .f32⟩
  | 4 => ⟨S1x8x128x128, .f32⟩
  | 5 => ⟨S1x8x64x128, .f32⟩
  | 6 => ⟨S1x8x64x128, .f32⟩
  | 7 => ⟨S1x8x64x128, .f32⟩
  | 8 => ⟨S1x8x64x128, .f32⟩
  | 9 => ⟨S1x8x128x128, .f32⟩
  | 10 => ⟨S1x8x128x128, .f32⟩
  | 11 => ⟨S1x8x64x128, .f32⟩
  | 12 => ⟨S1x1x8x64x128, .f32⟩
  | 13 => ⟨S_, .i32⟩
  | 14 => ⟨S_, .i32⟩
  | 15 => ⟨S_, .i32⟩
  | 16 => ⟨S_, .i32⟩
  | 17 => ⟨S128x1x8x64x128, .f32⟩
  | 18 => ⟨S1x1x8x128x128, .f32⟩
  | 19 => ⟨S_, .i32⟩
  | 20 => ⟨S_, .i32⟩
  | 21 => ⟨S_, .i32⟩
  | 22 => ⟨S_, .i32⟩
  | 23 => ⟨S128x1x8x128x128, .f32⟩
  | 24 => ⟨S_, .i32⟩
  | 25 => ⟨S_, .i32⟩
  | 26 => ⟨S1x128x64x8x128, .f32⟩
  | 27 => ⟨S1x8192x8x128, .f32⟩
  | 28 => ⟨S1x8192x1024, .f32⟩
  | 29 => ⟨S128, .f32⟩
  | 30 => ⟨S1x8192x8x128, .f32⟩
  | 31 => ⟨S_, .f32⟩
  | 32 => ⟨S1x8192x8, .f32⟩
  | 33 => ⟨S1x8192x8x1, .f32⟩
  | 34 => ⟨S_, .f32⟩
  | 35 => ⟨S1x8192x8x1, .f32⟩
  | 36 => ⟨S1x8192x8x1, .f32⟩
  | 37 => ⟨S_, .f32⟩
  | 38 => ⟨S1x8192x8x1, .f32⟩
  | 39 => ⟨S1x8192x8x1, .f32⟩
  | 40 => ⟨S1x8192x8x1, .f32⟩
  | 41 => ⟨S1x8192x8x128, .f32⟩
  | 42 => ⟨S1x8192x8x128, .f32⟩
  | 43 => ⟨S1x1x1x128, .f32⟩
  | 44 => ⟨S1x8192x8x128, .f32⟩
  | 45 => ⟨S1x8192x8x128, .f32⟩
  | 46 => ⟨S1x8192x1024, .f32⟩
  | 47 => ⟨S1x8192x1024, .f32⟩
  | 48 => ⟨S1x8192x1024, .f32⟩
  | 49 => ⟨S_, .f32⟩
  | 50 => ⟨S1x8192x1024, .f32⟩
  | 51 => ⟨S1x8192x1024, .f32⟩
  | 52 => ⟨S_, .f32⟩
  | 53 => ⟨S1x8192x1024, .f32⟩
  | 54 => ⟨S1x8192x1024, .f32⟩
  | 55 => ⟨S1x8192x1024, .f32⟩
  | 56 => ⟨S1x8192x1024, .f32⟩
  | 57 => ⟨S8192x1024, .f32⟩
  | 58 => ⟨S8192x1024, .f32⟩
  | 59 => ⟨S8192x1024, .bf16⟩
  | 60 => ⟨S128x8x128x128, .f32⟩
  | 61 => ⟨S128x8x128x128, .f32⟩
  | 62 => ⟨S128x1024x128, .f32⟩
  | _ => ⟨S1x8192x8192, .f32⟩

abbrev hbmTy (i : Nat) : BufTy := match i / 128 with
  | 0 => hbmTy0_0 i
  | 1 => hbmTy0_1 i
  | _ => ⟨S1x8192x8192, .f32⟩

abbrev bufTy : (tb : Table) → Fin (tcTables nBuf tb) → BufTy
  | .hbm, ⟨i, _⟩ => hbmTy i
  | _, _ => ⟨S1x8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_c : Ref sig .tc := ⟨.hbm, 39, rfl⟩
abbrev main_v24 : Ref sig .tc := ⟨.hbm, 40, rfl⟩
abbrev main_call1_v0 : Ref sig .tc := ⟨.hbm, 41, rfl⟩
abbrev main_call1_c : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_c_0 : Ref sig .tc := ⟨.hbm, 47, rfl⟩
abbrev main_call1_v5 : Ref sig .tc := ⟨.hbm, 48, rfl⟩
abbrev main_v25 : Ref sig .tc := ⟨.hbm, 49, rfl⟩
abbrev main_cst_3 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_4 : Ref sig .tc := ⟨.hbm, 60, rfl⟩
abbrev main_v35 : Ref sig .tc := ⟨.hbm, 61, rfl⟩
abbrev main_cst_5 : Ref sig .tc := ⟨.hbm, 62, rfl⟩
abbrev main_v36 : Ref sig .tc := ⟨.hbm, 63, rfl⟩
abbrev main_c_6 : Ref sig .tc := ⟨.hbm, 64, rfl⟩
abbrev main_v37_0 : Ref sig .tc := ⟨.hbm, 65, rfl⟩
abbrev main_v37_1 : Ref sig .tc := ⟨.hbm, 66, rfl⟩
abbrev main_v37_2 : Ref sig .tc := ⟨.hbm, 67, rfl⟩
abbrev main_v37_3 : Ref sig .tc := ⟨.hbm, 68, rfl⟩
abbrev main_v37_4 : Ref sig .tc := ⟨.hbm, 69, rfl⟩
abbrev main_v37_5 : Ref sig .tc := ⟨.hbm, 70, rfl⟩
abbrev main_v37_6 : Ref sig .tc := ⟨.hbm, 71, rfl⟩
abbrev main_v37_7 : Ref sig .tc := ⟨.hbm, 72, rfl⟩
abbrev main_v37_8 : Ref sig .tc := ⟨.hbm, 73, rfl⟩
abbrev main_while0c_c_18 : Ref sig .tc := ⟨.hbm, 74, rfl⟩
abbrev main_while0c_v64 : Ref sig .tc := ⟨.hbm, 75, rfl⟩
abbrev main_while0b_call2_c : Ref sig .tc := ⟨.hbm, 76, rfl⟩
abbrev main_while0b_call2_c_0 : Ref sig .tc := ⟨.hbm, 77, rfl⟩
abbrev main_while0b_call2_c_1 : Ref sig .tc := ⟨.hbm, 78, rfl⟩
abbrev main_while0b_call2_c_2 : Ref sig .tc := ⟨.hbm, 79, rfl⟩
abbrev main_while0b_call2_v0 : Ref sig .tc := ⟨.hbm, 80, rfl⟩
abbrev main_while0b_v64 : Ref sig .tc := ⟨.hbm, 81, rfl⟩
abbrev main_while0b_call3_c : Ref sig .tc := ⟨.hbm, 82, rfl⟩
abbrev main_while0b_call3_c_0 : Ref sig .tc := ⟨.hbm, 83, rfl⟩
abbrev main_while0b_call3_c_1 : Ref sig .tc := ⟨.hbm, 84, rfl⟩
abbrev main_while0b_call3_c_2 : Ref sig .tc := ⟨.hbm, 85, rfl⟩
abbrev main_while0b_call3_v0 : Ref sig .tc := ⟨.hbm, 86, rfl⟩
abbrev main_while0b_v65 : Ref sig .tc := ⟨.hbm, 87, rfl⟩
abbrev main_while0b_call4_c : Ref sig .tc := ⟨.hbm, 88, rfl⟩
abbrev main_while0b_call4_c_0 : Ref sig .tc := ⟨.hbm, 89, rfl⟩
abbrev main_while0b_call4_c_1 : Ref sig .tc := ⟨.hbm, 90, rfl⟩
abbrev main_while0b_call4_c_2 : Ref sig .tc := ⟨.hbm, 91, rfl⟩
abbrev main_while0b_call4_v0 : Ref sig .tc := ⟨.hbm, 92, rfl⟩
abbrev main_while0b_v66 : Ref sig .tc := ⟨.hbm, 93, rfl⟩
abbrev main_while0b_call5_c : Ref sig .tc := ⟨.hbm, 94, rfl⟩
abbrev main_while0b_call5_c_0 : Ref sig .tc := ⟨.hbm, 95, rfl⟩
abbrev main_while0b_call5_c_1 : Ref sig .tc := ⟨.hbm, 96, rfl⟩
abbrev main_while0b_call5_c_2 : Ref sig .tc := ⟨.hbm, 97, rfl⟩
abbrev main_while0b_call5_v0 : Ref sig .tc := ⟨.hbm, 98, rfl⟩
abbrev main_while0b_v67 : Ref sig .tc := ⟨.hbm, 99, rfl⟩
abbrev main_while0b_call6_call0_cst : Ref sig .tc := ⟨.hbm, 100, rfl⟩
abbrev main_while0b_call6_call0_v0 : Ref sig .tc := ⟨.hbm, 101, rfl⟩
abbrev main_while0b_v68 : Ref sig .tc := ⟨.hbm, 102, rfl⟩
abbrev main_while0b_v69 : Ref sig .tc := ⟨.hbm, 103, rfl⟩
abbrev main_while0b_v70 : Ref sig .tc := ⟨.hbm, 104, rfl⟩
abbrev main_while0b_v71 : Ref sig .tc := ⟨.hbm, 105, rfl⟩
abbrev main_while0b_v72 : Ref sig .tc := ⟨.hbm, 106, rfl⟩
abbrev main_while0b_v73 : Ref sig .tc := ⟨.hbm, 107, rfl⟩
abbrev main_while0b_v74 : Ref sig .tc := ⟨.hbm, 108, rfl⟩
abbrev main_while0b_v75 : Ref sig .tc := ⟨.hbm, 109, rfl⟩
abbrev main_while0b_v76 : Ref sig .tc := ⟨.hbm, 110, rfl⟩
abbrev main_while0b_v77 : Ref sig .tc := ⟨.hbm, 111, rfl⟩
abbrev main_while0b_cst_18 : Ref sig .tc := ⟨.hbm, 112, rfl⟩
abbrev main_while0b_call7_v0 : Ref sig .tc := ⟨.hbm, 113, rfl⟩
abbrev main_while0b_call7_v1 : Ref sig .tc := ⟨.hbm, 114, rfl⟩
abbrev main_while0b_call7_v2 : Ref sig .tc := ⟨.hbm, 115, rfl⟩
abbrev main_while0b_v78 : Ref sig .tc := ⟨.hbm, 116, rfl⟩
abbrev main_while0b_v79 : Ref sig .tc := ⟨.hbm, 117, rfl⟩
abbrev main_while0b_v80 : Ref sig .tc := ⟨.hbm, 118, rfl⟩
abbrev main_while0b_v81 : Ref sig .tc := ⟨.hbm, 119, rfl⟩
abbrev main_while0b_v82 : Ref sig .tc := ⟨.hbm, 120, rfl⟩
abbrev main_while0b_v83 : Ref sig .tc := ⟨.hbm, 121, rfl⟩
abbrev main_while0b_v84 : Ref sig .tc := ⟨.hbm, 122, rfl⟩
abbrev main_while0b_v85 : Ref sig .tc := ⟨.hbm, 123, rfl⟩
abbrev main_while0b_cst_19 : Ref sig .tc := ⟨.hbm, 124, rfl⟩
abbrev main_while0b_v86 : Ref sig .tc := ⟨.hbm, 125, rfl⟩
abbrev main_while0b_v87 : Ref sig .tc := ⟨.hbm, 126, rfl⟩
abbrev main_while0b_v88 : Ref sig .tc := ⟨.hbm, 127, rfl⟩
abbrev main_while0b_v89 : Ref sig .tc := ⟨.hbm, 128, rfl⟩
abbrev main_while0b_v90 : Ref sig .tc := ⟨.hbm, 129, rfl⟩
abbrev main_while0b_v91 : Ref sig .tc := ⟨.hbm, 130, rfl⟩
abbrev main_while0b_v92 : Ref sig .tc := ⟨.hbm, 131, rfl⟩
abbrev main_while0b_v93 : Ref sig .tc := ⟨.hbm, 132, rfl⟩
abbrev main_while0b_v94 : Ref sig .tc := ⟨.hbm, 133, rfl⟩
abbrev main_while0b_v95 : Ref sig .tc := ⟨.hbm, 134, rfl⟩
abbrev main_while0b_v96 : Ref sig .tc := ⟨.hbm, 135, rfl⟩
abbrev main_while0b_v97 : Ref sig .tc := ⟨.hbm, 136, rfl⟩
abbrev main_while0b_v98 : Ref sig .tc := ⟨.hbm, 137, rfl⟩
abbrev main_while0b_v99 : Ref sig .tc := ⟨.hbm, 138, rfl⟩
abbrev main_while0b_v100 : Ref sig .tc := ⟨.hbm, 139, rfl⟩
abbrev main_while0b_call8_v0 : Ref sig .tc := ⟨.hbm, 140, rfl⟩
abbrev main_while0b_call8_c : Ref sig .tc := ⟨.hbm, 141, rfl⟩
abbrev main_while0b_call8_c_0 : Ref sig .tc := ⟨.hbm, 142, rfl⟩
abbrev main_while0b_call8_c_1 : Ref sig .tc := ⟨.hbm, 143, rfl⟩
abbrev main_while0b_call8_c_2 : Ref sig .tc := ⟨.hbm, 144, rfl⟩
abbrev main_while0b_v101 : Ref sig .tc := ⟨.hbm, 145, rfl⟩
abbrev main_while0b_call9_v0 : Ref sig .tc := ⟨.hbm, 146, rfl⟩
abbrev main_while0b_call9_c : Ref sig .tc := ⟨.hbm, 147, rfl⟩
abbrev main_while0b_call9_c_0 : Ref sig .tc := ⟨.hbm, 148, rfl⟩
abbrev main_while0b_call9_c_1 : Ref sig .tc := ⟨.hbm, 149, rfl⟩
abbrev main_while0b_call9_c_2 : Ref sig .tc := ⟨.hbm, 150, rfl⟩
abbrev main_while0b_v102 : Ref sig .tc := ⟨.hbm, 151, rfl⟩
abbrev main_while0b_c_20 : Ref sig .tc := ⟨.hbm, 152, rfl⟩
abbrev main_while0b_v103 : Ref sig .tc := ⟨.hbm, 153, rfl⟩
abbrev main_v38 : Ref sig .tc := ⟨.hbm, 154, rfl⟩
abbrev main_v39 : Ref sig .tc := ⟨.hbm, 155, rfl⟩
abbrev main_v40 : Ref sig .tc := ⟨.hbm, 156, rfl⟩
abbrev main_v41 : Ref sig .tc := ⟨.hbm, 157, rfl⟩
abbrev main_v42 : Ref sig .tc := ⟨.hbm, 158, rfl⟩
abbrev main_cst_7 : Ref sig .tc := ⟨.hbm, 159, rfl⟩
abbrev main_v43 : Ref sig .tc := ⟨.hbm, 160, rfl⟩
abbrev main_v44 : Ref sig .tc := ⟨.hbm, 161, rfl⟩
abbrev main_cst_8 : Ref sig .tc := ⟨.hbm, 162, rfl⟩
abbrev main_v45 : Ref sig .tc := ⟨.hbm, 163, rfl⟩
abbrev main_v46 : Ref sig .tc := ⟨.hbm, 164, rfl⟩
abbrev main_cst_9 : Ref sig .tc := ⟨.hbm, 165, rfl⟩
abbrev main_v47 : Ref sig .tc := ⟨.hbm, 166, rfl⟩
abbrev main_v48 : Ref sig .tc := ⟨.hbm, 167, rfl⟩
abbrev main_v49 : Ref sig .tc := ⟨.hbm, 168, rfl⟩
abbrev main_v50 : Ref sig .tc := ⟨.hbm, 169, rfl⟩
abbrev main_v51 : Ref sig .tc := ⟨.hbm, 170, rfl⟩
abbrev main_v52 : Ref sig .tc := ⟨.hbm, 171, rfl⟩
abbrev main_v53 : Ref sig .tc := ⟨.hbm, 172, rfl⟩
abbrev main_v54 : Ref sig .tc := ⟨.hbm, 173, rfl⟩
abbrev main_v55 : Ref sig .tc := ⟨.hbm, 174, rfl⟩
abbrev main_call10_v0 : Ref sig .tc := ⟨.hbm, 175, rfl⟩
abbrev main_call10_v1 : Ref sig .tc := ⟨.hbm, 176, rfl⟩
abbrev main_call10_cst : Ref sig .tc := ⟨.hbm, 177, rfl⟩
abbrev main_call10_v2 : Ref sig .tc := ⟨.hbm, 178, rfl⟩
abbrev main_call10_v3 : Ref sig .tc := ⟨.hbm, 179, rfl⟩
abbrev main_call10_cst_0 : Ref sig .tc := ⟨.hbm, 180, rfl⟩
abbrev main_call10_v4 : Ref sig .tc := ⟨.hbm, 181, rfl⟩
abbrev main_call10_v5 : Ref sig .tc := ⟨.hbm, 182, rfl⟩
abbrev main_v56 : Ref sig .tc := ⟨.hbm, 183, rfl⟩
abbrev main_v57 : Ref sig .tc := ⟨.hbm, 184, rfl⟩
abbrev main_v58 : Ref sig .tc := ⟨.hbm, 185, rfl⟩
abbrev main_v59 : Ref sig .tc := ⟨.hbm, 186, rfl⟩
abbrev main_v60 : Ref sig .tc := ⟨.hbm, 187, rfl⟩
abbrev main_v61 : Ref sig .tc := ⟨.hbm, 188, rfl⟩
abbrev main_v62 : Ref sig .tc := ⟨.hbm, 189, rfl⟩
abbrev main_v63 : Ref sig .tc := ⟨.hbm, 190, rfl⟩

abbrev nD : Nat := 1
abbrev τ : Topo := Topo.v7x

variable {F : FTy → Type} [FloatOps F]

abbrev main_while0_count : Scf.Loop 32 := ⟨0#32, 128#32, 1#32⟩
-- ==== HgrnBwd.lean ====
abbrev S1x8192x8192 : Shape := ⟨3, ![1, 8192, 8192]⟩
abbrev S1x8192x1024 : Shape := ⟨3, ![1, 8192, 1024]⟩
abbrev S128x1024x128 : Shape := ⟨3, ![128, 1024, 128]⟩
abbrev S8x128 : Shape := ⟨2, ![8, 128]⟩
abbrev S1x128 : Shape := ⟨2, ![1, 128]⟩
abbrev S8192x8192 : Shape := ⟨2, ![8192, 8192]⟩
abbrev S8192x1024 : Shape := ⟨2, ![8192, 1024]⟩
abbrev S1x1024 : Shape := ⟨2, ![1, 1024]⟩
abbrev S1x1x1x128 : Shape := ⟨4, ![1, 1, 1, 128]⟩
abbrev S1x1x8x128 : Shape := ⟨4, ![1, 1, 8, 128]⟩
abbrev S8192x4096 : Shape := ⟨2, ![8192, 4096]⟩
abbrev S8x1024 : Shape := ⟨2, ![8, 1024]⟩
abbrev S512x1024 : Shape := ⟨2, ![512, 1024]⟩
abbrev S8x1024x128 : Shape := ⟨3, ![8, 1024, 128]⟩
abbrev S512x4096 : Shape := ⟨2, ![512, 4096]⟩
abbrev S1024x128 : Shape := ⟨2, ![1024, 128]⟩
abbrev S64x64 : Shape := ⟨2, ![64, 64]⟩
abbrev S64x128 : Shape := ⟨2, ![64, 128]⟩
abbrev S64 : Shape := ⟨1, ![64]⟩
abbrev S64x1 : Shape := ⟨2, ![64, 1]⟩
abbrev S128 : Shape := ⟨1, ![128]⟩
abbrev S64x1024 : Shape := ⟨2, ![64, 1024]⟩
abbrev S1x128x128 : Shape := ⟨3, ![1, 128, 128]⟩
abbrev S128x128 : Shape := ⟨2, ![128, 128]⟩

abbrev nBuf : Space → Nat
  | .hbm => 15
  | .vmem => 20
  | .smem => 0
  | _ => 0

abbrev bufTy : (tb : Table) → Fin (tcTables nBuf tb) → BufTy
  | .hbm, ⟨0, _⟩ => ⟨S1x8192x8192, .f32⟩
  | .hbm, ⟨1, _⟩ => ⟨S1x8192x1024, .f32⟩
  | .hbm, ⟨2, _⟩ => ⟨S1x8192x1024, .f32⟩
  | .hbm, ⟨3, _⟩ => ⟨S128x1024x128, .f32⟩
  | .hbm, ⟨4, _⟩ => ⟨S8x128, .f32⟩
  | .hbm, ⟨5, _⟩ => ⟨S1x128, .f32⟩
  | .hbm, ⟨6, _⟩ => ⟨S8192x8192, .f32⟩
  | .hbm, ⟨7, _⟩ => ⟨S8192x1024, .f32⟩
  | .hbm, ⟨8, _⟩ => ⟨S8192x1024, .f32⟩
  | .hbm, ⟨9, _⟩ => ⟨S1x1024, .f32⟩
  | .hbm, ⟨10, _⟩ => ⟨S1x1x1x128, .f32⟩
  | .hbm, ⟨11, _⟩ => ⟨S1x1x8x128, .f32⟩
  | .hbm, ⟨12, _⟩ => ⟨S1x1024, .f32⟩
  | .hbm, ⟨13, _⟩ => ⟨S8192x4096, .bf16⟩
  | .hbm, ⟨14, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S8x1024x128, .f32⟩
  | .local _ .vmem, ⟨13, _⟩ => ⟨S8x1024x128, .f32⟩
  | .local _ .vmem, ⟨14, _⟩ => ⟨S1x1024, .f32⟩
  | .local _ .vmem, ⟨15, _⟩ => ⟨S1x1024, .f32⟩
  | .local _ .vmem, ⟨16, _⟩ => ⟨S512x4096, .bf16⟩
  | .local _ .vmem, ⟨17, _⟩ => ⟨S512x4096, .bf16⟩
  | .local _ .vmem, ⟨18, _⟩ => ⟨S8x1024, .f32⟩
  | .local _ .vmem, ⟨19, _⟩ => ⟨S1024x128, .f32⟩
  | _, _ => ⟨S1x8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c2_i32 : BitVec 32 := 2#32
  let c0_i32 : BitVec 32 := 0#32
  ![v0.toNat, c2_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c3_i32 : BitVec 32 := 3#32
  let c0_i32 : BitVec 32 := 0#32
  ![v0.toNat, c3_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c4_i32 : BitVec 32 := 4#32
  let c0_i32 : BitVec 32 := 0#32
  ![v0.toNat, c4_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c5_i32 : BitVec 32 := 5#32
  let c0_i32 : BitVec 32 := 0#32
  ![v0.toNat, c5_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ModKernel.lean ====
abbrev S8x1024 : Shape := ⟨2, ![8, 1024]⟩
abbrev S1x1024x768 : Shape := ⟨3, ![1, 1024, 768]⟩
abbrev S1x768 : Shape := ⟨2, ![1, 768]⟩
abbrev S1024x768 : Shape := ⟨2, ![1024, 768]⟩
abbrev S8x768 : Shape := ⟨2, ![8, 768]⟩

abbrev nBuf : Space → Nat
  | .hbm => 5
  | .vmem => 4
  | .smem => 0
  | _ => 0

abbrev bufTy : (tb : Table) → Fin (tcTables nBuf tb) → BufTy
  | .hbm, ⟨0, _⟩ => ⟨S8x1024, .f32⟩
  | .hbm, ⟨1, _⟩ => ⟨S1x1024x768, .f32⟩
  | .hbm, ⟨2, _⟩ => ⟨S1x768, .f32⟩
  | .hbm, ⟨3, _⟩ => ⟨S1024x768, .f32⟩
  | .hbm, ⟨4, _⟩ => ⟨S8x768, .f32⟩
  | .local _ .vmem, ⟨0, _⟩ => ⟨S8x1024, .f32⟩
  | .local _ .vmem, ⟨1, _⟩ => ⟨S1024x768, .f32⟩
  | .local _ .vmem, ⟨2, _⟩ => ⟨S1x768, .f32⟩
  | .local _ .vmem, ⟨3, _⟩ => ⟨S8x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ModReferenceIdeal.lean ====
abbrev S8x1024 : Shape := ⟨2, ![8, 1024]⟩
abbrev S1x1024x768 : Shape := ⟨3, ![1, 1024, 768]⟩
abbrev S1x768 : Shape := ⟨2, ![1, 768]⟩
abbrev S_ : Shape := ⟨0, ![]⟩
abbrev S1024x768 : Shape := ⟨2, ![1024, 768]⟩
abbrev S8x768 : Shape := ⟨2, ![8, 768]⟩
abbrev S768 : Shape := ⟨1, ![768]⟩

abbrev nBuf : Space → Nat
  | .hbm => 18
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1x1024x768, .f32⟩
  | .hbm, ⟨2, _⟩ => ⟨S1x768, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1024x768, .f32⟩
  | .hbm, ⟨13, _⟩ => ⟨S8x768, .f32⟩
  | .hbm, ⟨14, _⟩ => ⟨S768, .f32⟩
  | .hbm, ⟨15, _⟩ => ⟨S1x768, .f32⟩
  | .hbm, ⟨16, _⟩ => ⟨S8x768, .f32⟩
  | .hbm, ⟨17, _⟩ => ⟨S8x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== ProjKernel.lean ====
abbrev S1x8192x1024 : Shape := ⟨3, ![1, 8192, 1024]⟩
abbrev S1x1024 : Shape := ⟨2, ![1, 1024]⟩
abbrev S1x1024x8192 : Shape := ⟨3, ![1, 1024, 8192]⟩
abbrev S_ : Shape := ⟨0, ![]⟩
abbrev S6x1024 : Shape := ⟨2, ![6, 1024]⟩
abbrev S8x1024 : Shape := ⟨2, ![8, 1024]⟩
abbrev S1024x8192 : Shape := ⟨2, ![1024, 8192]⟩
abbrev S8192x1024 : Shape := ⟨2, ![8192, 1024]⟩
abbrev S1024x2048 : Shape := ⟨2, ![1024, 2048]⟩
abbrev S8192x8192 : Shape := ⟨2, ![8192, 8192]⟩
abbrev S512x1024 : Shape := ⟨2, ![512, 1024]⟩
abbrev S512x2048 : Shape := ⟨2, ![512, 2048]⟩
abbrev S1024x512 : Shape := ⟨2, ![1024, 512]⟩
abbrev S512 : Shape := ⟨1, ![512]⟩
abbrev S512x1 : Shape := ⟨2, ![512, 1]⟩

abbrev nBuf : Space → Nat
  | .hbm => 20
  | .vmem => 16
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024x8192, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S6x1024, .f32⟩
  | .hbm, ⟨11, _⟩ => ⟨S8x1024, .f32⟩
  | .hbm, ⟨12, _⟩ => ⟨S1024x8192, .f32⟩
  | .hbm, ⟨13, _⟩ => ⟨S1024x8192, .bf16⟩
  | .hbm, ⟨14, _⟩ => ⟨S8192x1024, .f32⟩
  | .hbm, ⟨15, _⟩ => ⟨S1024x2048, .bf16⟩
  | .hbm, ⟨16, _⟩ => ⟨S8192x8192, .f32⟩
  | .hbm, ⟨17, _⟩ => ⟨S8192x1024, .bf16⟩
  | .hbm, ⟨18, _⟩ => ⟨S1024x8192, .bf16⟩
  | .hbm, ⟨19, _⟩ => ⟨S8192x8192, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S1024x2048, .bf16⟩
  | .local _ .vmem, ⟨4, _⟩ => ⟨S512x2048, .f32⟩
  | .local _ .vmem, ⟨5, _⟩ => ⟨S512x2048, .f32⟩
  | .local _ .vmem, ⟨6, _⟩ => ⟨S512x1024, .bf16⟩
  | .local _ .vmem, ⟨7, _⟩ => ⟨S512x1024, .bf16⟩
  | .local _ .vmem, ⟨8, _⟩ => ⟨S1024x512, .bf16⟩
  | .local _ .vmem, ⟨9, _⟩ => ⟨S1024x512, .bf16⟩
  | .local _ .vmem, ⟨10, _⟩ => ⟨S512x1024, .bf16⟩
  | .local _ .vmem, ⟨11, _⟩ => ⟨S512x1024, .bf16⟩
  | .local _ .vmem, ⟨12, _⟩ => ⟨S1024x2048, .bf16⟩
  | .local _ .vmem, ⟨13, _⟩ => ⟨S1024x2048, .bf16⟩
  | .local _ .vmem, ⟨14, _⟩ => ⟨S512x2048, .f32⟩
  | .local _ .vmem, ⟨15, _⟩ => ⟨S512x2048, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![3, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c4_i32 : BitVec 32 := 4#32
  let c0_i32 : BitVec 32 := 0#32
  let v1 : BitVec 1 := Scalar.cmpi .eq c4_i32 c0_i32
  let c1_i32_0 : BitVec 32 := 1#32
  let v2 : BitVec 32 := Scalar.select v1 c1_i32_0 c4_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let c0_i32_5 : BitVec 32 := 0#32
  ![c0_i32_4.toNat, v10.toNat]

def cc1_transform_3 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c4_i32 : BitVec 32 := 4#32
  let c0_i32 : BitVec 32 := 0#32
  let v1 : BitVec 1 := Scalar.cmpi .eq c4_i32 c0_i32
  let c1_i32_0 : BitVec 32 := 1#32
  let v2 : BitVec 32 := Scalar.select v1 c1_i32_0 c4_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  ![arg1.toNat, v10.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== ProjReferenceIdeal.lean ====
abbrev S1x8192x1024 : Shape := ⟨3, ![1, 8192, 1024]⟩
abbrev S1x1024 : Shape := ⟨2, ![1, 1024]⟩
abbrev S1x1024x8192 : Shape := ⟨3, ![1, 1024, 8192]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S8192x1024 : Shape := ⟨2, ![8192, 1024]⟩
abbrev S1024x8192 : Shape := ⟨2, ![1024, 8192]⟩
abbrev S8192x8192 : Shape := ⟨2, ![8192, 8192]⟩
abbrev S1x8192x8192 : Shape := ⟨3, ![1, 8192, 8192]⟩

abbrev nBuf : Space → Nat
  | .hbm => 40
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024x8192, .f32⟩
  | .hbm, ⟨5, _⟩ => ⟨S1x8192x1024, .f32⟩
  | .hbm, ⟨6, _⟩ => ⟨S_, .f32⟩
  | .hbm, ⟨7, _⟩ => ⟨S1x8192, .f32⟩
  | .hbm, ⟨8, _⟩ => ⟨S1x8192x1, .f32⟩
  | .hbm, ⟨9, _⟩ => ⟨S_, .f32⟩
  | .hbm, ⟨10, _⟩ => ⟨S1x8192x1, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S1x8192x1, .f32⟩
  | .hbm, ⟨16, _⟩ => ⟨S1x8192x1024, .f32⟩
  | .hbm, ⟨17, _⟩ => ⟨S1x8192x1024, .f32⟩
  | .hbm, ⟨18, _⟩ => ⟨S1x1x1024, .f32⟩
  | .hbm, ⟨19, _⟩ => ⟨S1x8192x1024, .f32⟩
  | .hbm, ⟨20, _⟩ => ⟨S1x8192x1024, .f32⟩
  | .hbm, ⟨21, _⟩ => ⟨S1x1x1024, .f32⟩
  | .hbm, ⟨22, _⟩ => ⟨S_, .f32⟩
  | .hbm, ⟨23, _⟩ => ⟨S1x1x1024, .f32⟩
  | .hbm, ⟨24, _⟩ => ⟨S1x1x1024, .f32⟩
  | .hbm, ⟨25, _⟩ => ⟨S1x8192x1024, .f32⟩
  | .hbm, ⟨26, _⟩ => ⟨S1x8192x1024, .f32⟩
  | .hbm, ⟨27, _⟩ => ⟨S1x1x1024, .f32⟩
  | .hbm, ⟨28, _⟩ => ⟨S1x8192x1024, .f32⟩
  | .hbm, ⟨29, _⟩ => ⟨S1x8192x1024, .f32⟩
  | .hbm, ⟨30, _⟩ => ⟨S8192x1024, .f32⟩
  | .hbm, ⟨31, _⟩ => ⟨S1024x8192, .f32⟩
  | .hbm, ⟨32, _⟩ => ⟨S8192x8192, .f32⟩
  | .hbm, ⟨33, _⟩ => ⟨S1x8192x8192, .f32⟩
  | .hbm, ⟨34, _⟩ => ⟨S8192x8192, .f32⟩
  | .hbm, ⟨35, _⟩ => ⟨S8192x1024, .f32⟩
  | .hbm, ⟨36, _⟩ => ⟨S8192x1024, .bf16⟩
  | .hbm, ⟨37, _⟩ => ⟨S8192x1024, .f32⟩
  | .hbm, ⟨38, _⟩ => ⟨S1024x8192, .f32⟩
  | .hbm, ⟨39, _⟩ => ⟨S1024x8192, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== AttnFwd.lean ====
abbrev S1x8192x8192 : Shape := ⟨3, ![1, 8192, 8192]⟩
abbrev S3x8x128x256 : Shape := ⟨4, ![3, 8, 128, 256]⟩
abbrev S8192x8192 : Shape := ⟨2, ![8192, 8192]⟩
abbrev S8192x512 : Shape := ⟨2, ![8192, 512]⟩
abbrev S2048x128 : Shape := ⟨2, ![2048, 128]⟩
abbrev S3x2x128x256 : Shape := ⟨4, ![3, 2, 128, 256]⟩
abbrev S4096x128 : Shape := ⟨2, ![4096, 128]⟩
abbrev S6144x128 : Shape := ⟨2, ![6144, 128]⟩
abbrev S128x256 : Shape := ⟨2, ![128, 256]⟩
abbrev S128x128 : Shape := ⟨2, ![128, 128]⟩
abbrev S256x128 : Shape := ⟨2, ![256, 128]⟩
abbrev S128x64 : Shape := ⟨2, ![128, 64]⟩
abbrev S256x64 : Shape := ⟨2, ![256, 64]⟩
abbrev S1x1x128x256 : Shape := ⟨4, ![1, 1, 128, 256]⟩
abbrev S128 : Shape := ⟨1, ![128]⟩
abbrev S128x1 : Shape := ⟨2, ![128, 1]⟩

abbrev nBuf : Space → Nat
  | .hbm => 6
  | .vmem => 20
  | .smem => 0
  | _ => 0

abbrev bufTy : (tb : Table) → Fin (tcTables nBuf tb) → BufTy
  | .hbm, ⟨0, _⟩ => ⟨S1x8192x8192, .f32⟩
  | .hbm, ⟨1, _⟩ => ⟨S3x8x128x256, .f32⟩
  | .hbm, ⟨2, _⟩ => ⟨S8192x8192, .f32⟩
  | .hbm, ⟨3, _⟩ => ⟨S8192x512, .f32⟩
  | .hbm, ⟨4, _⟩ => ⟨S8192x512, .f32⟩
  | .hbm, ⟨5, _⟩ => ⟨S8192x512, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S3x2x128x256, .f32⟩
  | .local _ .vmem, ⟨9, _⟩ => ⟨S3x2x128x256, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .bf16⟩
  | .local _ .vmem, ⟨15, _⟩ => ⟨S2048x128, .bf16⟩
  | .local _ .vmem, ⟨16, _⟩ => ⟨S4096x128, .f32⟩
  | .local _ .vmem, ⟨17, _⟩ => ⟨S4096x128, .f32⟩
  | .local _ .vmem, ⟨18, _⟩ => ⟨S6144x128, .f32⟩
  | .local _ .vmem, ⟨19, _⟩ => ⟨S6144x128, .f32⟩
  | _, _ => ⟨S1x8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x2x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Dw3Kernel.lean ====
abbrev S8192x512 : Shape := ⟨2, ![8192, 512]⟩
abbrev S8192x1024 : Shape := ⟨2, ![8192, 1024]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 12
  | .vmem => 18
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S1024x1024, .f32⟩
  | .hbm, ⟨7, _⟩ => ⟨S1024x1024, .bf16⟩
  | .hbm, ⟨8, _⟩ => ⟨S512x1024, .f32⟩
  | .hbm, ⟨9, _⟩ => ⟨S512x1024, .bf16⟩
  | .hbm, ⟨10, _⟩ => ⟨S1024x1024, .f32⟩
  | .hbm, ⟨11, _⟩ => ⟨S1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .f32⟩
  | .local _ .vmem, ⟨13, _⟩ => ⟨S1024x1024, .bf16⟩
  | .local _ .vmem, ⟨14, _⟩ => ⟨S512x1024, .f32⟩
  | .local _ .vmem, ⟨15, _⟩ => ⟨S512x1024, .bf16⟩
  | .local _ .vmem, ⟨16, _⟩ => ⟨S1024x1024, .f32⟩
  | .local _ .vmem, ⟨17, _⟩ => ⟨S1024x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v24 : BitVec 1 := Scalar.cmpi .eq arg0 c15_i32
  let v25 : BitVec 32 := Scalar.extui v24
  let c0_i32_26 : BitVec 32 := 0#32
  let v26 : BitVec 1 := Scalar.cmpi .ne v25 c0_i32_26
  v26

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Dw3ReferenceIdeal.lean ====
abbrev S8192x512 : Shape := ⟨2, ![8192, 512]⟩
abbrev S8192x1024 : Shape := ⟨2, ![8192, 1024]⟩
abbrev S_ : Shape := ⟨0, ![]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 30
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x512, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S1024x1024, .f32⟩
  | .hbm, ⟨14, _⟩ => ⟨S_, .f32⟩
  | .hbm, ⟨15, _⟩ => ⟨S512x1024, .f32⟩
  | .hbm, ⟨16, _⟩ => ⟨S_, .f32⟩
  | .hbm, ⟨17, _⟩ => ⟨S1024x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S1024x1024, .f32⟩
  | .hbm, ⟨22, _⟩ => ⟨S1024x1024, .f32⟩
  | .hbm, ⟨23, _⟩ => ⟨S1024x512, .f32⟩
  | .hbm, ⟨24, _⟩ => ⟨S512x1024, .f32⟩
  | .hbm, ⟨25, _⟩ => ⟨S1024x1024, .f32⟩
  | .hbm, ⟨26, _⟩ => ⟨S1024x1024, .f32⟩
  | .hbm, ⟨27, _⟩ => ⟨S1024x1024, .bf16⟩
  | .hbm, ⟨28, _⟩ => ⟨S512x1024, .bf16⟩
  | .hbm, ⟨29, _⟩ => ⟨S1024x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== DwinKernel.lean ====
abbrev S1x8192x1024 : Shape := ⟨3, ![1, 8192, 1024]⟩
abbrev S1x8192x8192 : Shape := ⟨3, ![1, 8192, 8192]⟩
abbrev S8192x8192 : Shape := ⟨2, ![8192, 8192]⟩
abbrev S8192x512 : Shape := ⟨2, ![8192, 512]⟩
abbrev S8192x1024 : Shape := ⟨2, ![8192, 1024]⟩
abbrev S1024x8192 : Shape := ⟨2, ![1024, 8192]⟩
abbrev S8192x4096 : Shape := ⟨2, ![8192, 4096]⟩
abbrev S8192x2048 : Shape := ⟨2, ![8192, 2048]⟩
abbrev S4x1024x2048 : Shape := ⟨3, ![4, 1024, 2048]⟩
abbrev S1024x512 : Shape := ⟨2, ![1024, 512]⟩
abbrev S512x512 : Shape := ⟨2, ![512, 512]⟩
abbrev S512x2048 : Shape := ⟨2, ![512, 2048]⟩
abbrev S1x1024x2048 : Shape := ⟨3, ![1, 1024, 2048]⟩
abbrev S1x1024x512 : Shape := ⟨3, ![1, 1024, 512]⟩
abbrev S1024x2048 : Shape := ⟨2, ![1024, 2048]⟩

abbrev nBuf : Space → Nat
  | .hbm => 15
  | .vmem => 18
  | .smem => 0
  | _ => 0

abbrev bufTy : (tb : Table) → Fin (tcTables nBuf tb) → BufTy
  | .hbm, ⟨0, _⟩ => ⟨S1x8192x1024, .f32⟩
  | .hbm, ⟨1, _⟩ => ⟨S1x8192x8192, .f32⟩
  | .hbm, ⟨2, _⟩ => ⟨S8192x8192, .f32⟩
  | .hbm, ⟨3, _⟩ => ⟨S8192x8192, .bf16⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S8192x512, .bf16⟩
  | .hbm, ⟨8, _⟩ => ⟨S8192x1024, .f32⟩
  | .hbm, ⟨9, _⟩ => ⟨S1024x8192, .f32⟩
  | .hbm, ⟨10, _⟩ => ⟨S1024x8192, .bf16⟩
  | .hbm, ⟨11, _⟩ => ⟨S8192x4096, .bf16⟩
  | .hbm, ⟨12, _⟩ => ⟨S8192x2048, .bf16⟩
  | .hbm, ⟨13, _⟩ => ⟨S4x1024x2048, .f32⟩
  | .hbm, ⟨14, _⟩ => ⟨S4x1024x2048, .bf16⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | .local _ .vmem, ⟨14, _⟩ => ⟨S1x1024x2048, .f32⟩
  | .local _ .vmem, ⟨15, _⟩ => ⟨S1x1024x2048, .f32⟩
  | .local _ .vmem, ⟨16, _⟩ => ⟨S1x1024x2048, .bf16⟩
  | .local _ .vmem, ⟨17, _⟩ => ⟨S1x1024x2048, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11_0 : Ref sig .tc := ⟨.hbm, 13, rfl⟩
abbrev main_v11_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_cond3 (i : grid0.Coords) : BitVec 1 :=
  let arg0 : BitVec 32 := BitVec.ofNat 32 (i 0).val
  let c1_i32 : BitVec 32 := 1#32
  let v8 : BitVec 1 := Scalar.cmpi .eq arg0 c1_i32
  let c2_i32 : BitVec 32 := 2#32
  let v9 : BitVec 1 := Scalar.cmpi .eq arg0 c2_i32
  let v10 : BitVec 1 := Scalar.ori v8 v9
  let v11 : BitVec 32 := Scalar.extui v10
  let c0_i32_4 : BitVec 32 := 0#32
  let v12 : BitVec 1 := Scalar.cmpi .ne v11 c0_i32_4
  v12

def k0_cond4 (i : grid0.Coords) : BitVec 1 :=
  let arg0 : BitVec 32 := BitVec.ofNat 32 (i 0).val
  let c3_i32 : BitVec 32 := 3#32
  let v13 : BitVec 1 := Scalar.cmpi .eq arg0 c3_i32
  let v14 : BitVec 32 := Scalar.extui v13
  let c0_i32_5 : BitVec 32 := 0#32
  let v15 : BitVec 1 := Scalar.cmpi .ne v14 c0_i32_5
  v15

def k0_cond5 (i : grid0.Coords) : BitVec 1 :=
  let arg1 : BitVec 32 := BitVec.ofNat 32 (i 1).val
  let c15_i32 : BitVec 32 := 15#32
  let v16 : BitVec 1 := Scalar.cmpi .eq arg1 c15_i32
  let v17 : BitVec 32 := Scalar.extui v16
  let c0_i32_6 : BitVec 32 := 0#32
  let v18 : BitVec 1 := Scalar.cmpi .ne v17 c0_i32_6
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c2_i32 : BitVec 32 := 2#32
  let v1 : BitVec 1 := Scalar.cmpi .eq arg0 c2_i32
  let v2 : BitVec 1 := Scalar.ori v0 v1
  let c0_i32 : BitVec 32 := 0#32
  let v3 : BitVec 32 := Scalar.select v2 arg1 c0_i32
  let c2_i32_0 : BitVec 32 := 2#32
  let v4 : BitVec 1 := Scalar.cmpi .eq arg0 c2_i32_0
  let c1_i32_1 : BitVec 32 := 1#32
  let c0_i32_2 : BitVec 32 := 0#32
  let v5 : BitVec 32 := Scalar.select v4 c1_i32_1 c0_i32_2
  let c0_i32_3 : BitVec 32 := 0#32
  ![v3.toNat, v5.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== DwinReferenceIdeal.lean ====
abbrev S1x8192x1024 : Shape := ⟨3, ![1, 8192, 1024]⟩
abbrev S1x8192x8192 : Shape := ⟨3, ![1, 8192, 8192]⟩
abbrev S_ : Shape := ⟨0, ![]⟩
abbrev S1024x8192 : Shape := ⟨2, ![1024, 8192]⟩
abbrev S8192x1024 : Shape := ⟨2, ![8192, 1024]⟩
abbrev S8192x8192 : Shape := ⟨2, ![8192, 8192]⟩
abbrev S1024x4x2048 : Shape := ⟨3, ![1024, 4, 2048]⟩
abbrev S4x1024x2048 : Shape := ⟨3, ![4, 1024, 2048]⟩

abbrev nBuf : Space → Nat
  | .hbm => 12
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x8192, .f32⟩
  | .hbm, ⟨2, _⟩ => ⟨S_, .f32⟩
  | .hbm, ⟨3, _⟩ => ⟨S1024x8192, .f32⟩
  | .hbm, ⟨4, _⟩ => ⟨S8192x1024, .f32⟩
  | .hbm, ⟨5, _⟩ => ⟨S8192x8192, .f32⟩
  | .hbm, ⟨6, _⟩ => ⟨S8192x8192, .f32⟩
  | .hbm, ⟨7, _⟩ => ⟨S8192x1024, .f32⟩
  | .hbm, ⟨8, _⟩ => ⟨S1024x8192, .f32⟩
  | .hbm, ⟨9, _⟩ => ⟨S1024x4x2048, .f32⟩
  | .hbm, ⟨10, _⟩ => ⟨S4x1024x2048, .f32⟩
  | .hbm, ⟨11, _⟩ => ⟨S4x1024x2048, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== AdaKernel.lean ====
abbrev S8x1024 : Shape := ⟨2, ![8, 1024]⟩
abbrev S8x768 : Shape := ⟨2, ![8, 768]⟩
abbrev S1x1024x768 : Shape := ⟨3, ![1, 1024, 768]⟩
abbrev S_ : Shape := ⟨0, ![]⟩
abbrev S1024x8 : Shape := ⟨2, ![1024, 8]⟩
abbrev S1024x768 : Shape := ⟨2, ![1024, 768]⟩
abbrev S256x8 : Shape := ⟨2, ![256, 8]⟩
abbrev S256x768 : Shape := ⟨2, ![256, 768]⟩
abbrev S256x1 : Shape := ⟨2, ![256, 1]⟩
abbrev S1x768 : Shape := ⟨2, ![1, 768]⟩

abbrev nBuf : Space → Nat
  | .hbm => 22
  | .vmem => 17
  | .smem => 0
  | _ => 0

abbrev bufTy : (tb : Table) → Fin (tcTables nBuf tb) → BufTy
  | .hbm, ⟨0, _⟩ => ⟨S8x1024, .f32⟩
  | .hbm, ⟨1, _⟩ => ⟨S8x768, .f32⟩
  | .hbm, ⟨2, _⟩ => ⟨S1x1024x768, .f32⟩
  | .hbm, ⟨3, _⟩ => ⟨S1x1024x768, .f32⟩
  | .hbm, ⟨4, _⟩ => ⟨S1x1024x768, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S1024x8, .f32⟩
  | .hbm, ⟨15, _⟩ => ⟨S1024x768, .f32⟩
  | .hbm, ⟨16, _⟩ => ⟨S1024x768, .f32⟩
  | .hbm, ⟨17, _⟩ => ⟨S1024x768, .f32⟩
  | .hbm, ⟨18, _⟩ => ⟨S1024x768, .f32⟩
  | .hbm, ⟨19, _⟩ => ⟨S1024x768, .f32⟩
  | .hbm, ⟨20, _⟩ => ⟨S1024x768, .f32⟩
  | .hbm, ⟨21, _⟩ => ⟨S1024x768, .f32⟩
  | .local _ .vmem, ⟨0, _⟩ => ⟨S256x8, .f32⟩
  | .local _ .vmem, ⟨1, _⟩ => ⟨S256x8, .f32⟩
  | .local _ .vmem, ⟨2, _⟩ => ⟨S8x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | .local _ .vmem, ⟨16, _⟩ => ⟨S256x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdaReferenceIdeal.lean ====
abbrev S8x1024 : Shape := ⟨2, ![8, 1024]⟩
abbrev S8x768 : Shape := ⟨2, ![8, 768]⟩
abbrev S1x1024x768 : Shape := ⟨3, ![1, 1024, 768]⟩
abbrev S1024x768 : Shape := ⟨2, ![1024, 768]⟩
abbrev S_ : Shape := ⟨0, ![]⟩
abbrev S768x1024 : Shape := ⟨2, ![768, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x768, .f32⟩
  | .hbm, ⟨2, _⟩ => ⟨S1x1024x768, .f32⟩
  | .hbm, ⟨3, _⟩ => ⟨S1x1024x768, .f32⟩
  | .hbm, ⟨4, _⟩ => ⟨S1x1024x768, .f32⟩
  | .hbm, ⟨5, _⟩ => ⟨S1024x768, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x768, .f32⟩
  | .hbm, ⟨16, _⟩ => ⟨S768x1024, .f32⟩
  | .hbm, ⟨17, _⟩ => ⟨S1024x768, .f32⟩
  | .hbm, ⟨18, _⟩ => ⟨S1024x768, .f32⟩
  | .hbm, ⟨19, _⟩ => ⟨S1024x768, .f32⟩
  | .hbm, ⟨20, _⟩ => ⟨S1024x768, .f32⟩
  | .hbm, ⟨21, _⟩ => ⟨S_, .f32⟩
  | .hbm, ⟨22, _⟩ => ⟨S1024x768, .f32⟩
  | .hbm, ⟨23, _⟩ => ⟨S1024x768, .f32⟩
  | .hbm, ⟨24, _⟩ => ⟨S_, .f32⟩
  | .hbm, ⟨25, _⟩ => ⟨S1024x768, .f32⟩
  | .hbm, ⟨26, _⟩ => ⟨S1024x768, .f32⟩
  | .hbm, ⟨27, _⟩ => ⟨S1024x768, .f32⟩
  | .hbm, ⟨28, _⟩ => ⟨S_, .f32⟩
  | .hbm, ⟨29, _⟩ => ⟨S1024x768, .f32⟩
  | .hbm, ⟨30, _⟩ => ⟨S1024x768, .f32⟩
  | .hbm, ⟨31, _⟩ => ⟨S1024x768, .f32⟩
  | .hbm, ⟨32, _⟩ => ⟨S_, .f32⟩
  | .hbm, ⟨33, _⟩ => ⟨S1024x768, .f32⟩
  | .hbm, ⟨34, _⟩ => ⟨S1024x768, .f32⟩
  | .hbm, ⟨35, _⟩ => ⟨S1024x768, .f32⟩
  | .hbm, ⟨36, _⟩ => ⟨S_, .f32⟩
  | .hbm, ⟨37, _⟩ => ⟨S1024x768, .f32⟩
  | .hbm, ⟨38, _⟩ => ⟨S1024x768, .f32⟩
  | .hbm, ⟨39, _⟩ => ⟨S_, .f32⟩
  | .hbm, ⟨40, _⟩ => ⟨S1024x768, .f32⟩
  | .hbm, ⟨41, _⟩ => ⟨S1024x768, .f32⟩
  | .hbm, ⟨42, _⟩ => ⟨S1024x768, .f32⟩
  | .hbm, ⟨43, _⟩ => ⟨S_, .f32⟩
  | .hbm, ⟨44, _⟩ => ⟨S1024x768, .f32⟩
  | .hbm, ⟨45, _⟩ => ⟨S1024x768, .f32⟩
  | .hbm, ⟨46, _⟩ => ⟨S1024x768, .f32⟩
  | .hbm, ⟨47, _⟩ => ⟨S_, .f32⟩
  | .hbm, ⟨48, _⟩ => ⟨S1024x768, .f32⟩
  | .hbm, ⟨49, _⟩ => ⟨S1024x768, .f32⟩
  | .hbm, ⟨50, _⟩ => ⟨S1024x768, .f32⟩
  | .hbm, ⟨51, _⟩ => ⟨S_, .f32⟩
  | .hbm, ⟨52, _⟩ => ⟨S1024x768, .f32⟩
  | .hbm, ⟨53, _⟩ => ⟨S1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩

abbrev nD : Nat := 1
abbrev τ : Topo := Topo.v7x

variable {F : FTy → Type} [FloatOps F]
-- ==== AdamwKernel.lean ====
abbrev S1x1024x2048 : Shape := ⟨3, ![1, 1024, 2048]⟩
abbrev S1024x2048 : Shape := ⟨2, ![1024, 2048]⟩
abbrev S128x2048 : Shape := ⟨2, ![128, 2048]⟩

abbrev nBuf : Space → Nat
  | .hbm => 11
  | .vmem => 16
  | .smem => 0
  | _ => 0

abbrev bufTy : (tb : Table) → Fin (tcTables nBuf tb) → BufTy
  | .hbm, ⟨0, _⟩ => ⟨S1x1024x2048, .f32⟩
  | .hbm, ⟨1, _⟩ => ⟨S1024x2048, .f32⟩
  | .hbm, ⟨2, _⟩ => ⟨S1x1024x2048, .f32⟩
  | .hbm, ⟨3, _⟩ => ⟨S1x1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S1024x2048, .f32⟩
  | .hbm, ⟨10, _⟩ => ⟨S1024x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S1x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwReferenceIdeal.lean ====
abbrev S1x1024x2048 : Shape := ⟨3, ![1, 1024, 2048]⟩
abbrev S1024x2048 : Shape := ⟨2, ![1024, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x2048, .f32⟩
  | .hbm, ⟨1, _⟩ => ⟨S1024x2048, .f32⟩
  | .hbm, ⟨2, _⟩ => ⟨S1x1024x2048, .f32⟩
  | .hbm, ⟨3, _⟩ => ⟨S1x1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S_, .f32⟩
  | .hbm, ⟨8, _⟩ => ⟨S1024x2048, .f32⟩
  | .hbm, ⟨9, _⟩ => ⟨S1024x2048, .f32⟩
  | .hbm, ⟨10, _⟩ => ⟨S_, .f32⟩
  | .hbm, ⟨11, _⟩ => ⟨S1024x2048, .f32⟩
  | .hbm, ⟨12, _⟩ => ⟨S1024x2048, .f32⟩
  | .hbm, ⟨13, _⟩ => ⟨S1024x2048, .f32⟩
  | .hbm, ⟨14, _⟩ => ⟨S_, .f32⟩
  | .hbm, ⟨15, _⟩ => ⟨S1024x2048, .f32⟩
  | .hbm, ⟨16, _⟩ => ⟨S1024x2048, .f32⟩
  | .hbm, ⟨17, _⟩ => ⟨S1024x2048, .f32⟩
  | .hbm, ⟨18, _⟩ => ⟨S_, .f32⟩
  | .hbm, ⟨19, _⟩ => ⟨S1024x2048, .f32⟩
  | .hbm, ⟨20, _⟩ => ⟨S1024x2048, .f32⟩
  | .hbm, ⟨21, _⟩ => ⟨S1024x2048, .f32⟩
  | .hbm, ⟨22, _⟩ => ⟨S_, .f32⟩
  | .hbm, ⟨23, _⟩ => ⟨S1024x2048, .f32⟩
  | .hbm, ⟨24, _⟩ => ⟨S1024x2048, .f32⟩
  | .hbm, ⟨25, _⟩ => ⟨S_, .f32⟩
  | .hbm, ⟨26, _⟩ => ⟨S1024x2048, .f32⟩
  | .hbm, ⟨27, _⟩ => ⟨S1024x2048, .f32⟩
  | .hbm, ⟨28, _⟩ => ⟨S1024x2048, .f32⟩
  | .hbm, ⟨29, _⟩ => ⟨S_, .f32⟩
  | .hbm, ⟨30, _⟩ => ⟨S1024x2048, .f32⟩
  | .hbm, ⟨31, _⟩ => ⟨S1024x2048, .f32⟩
  | .hbm, ⟨32, _⟩ => ⟨S1024x2048, .f32⟩
  | .hbm, ⟨33, _⟩ => ⟨S_, .f32⟩
  | .hbm, ⟨34, _⟩ => ⟨S1024x2048, .f32⟩
  | .hbm, ⟨35, _⟩ => ⟨S1024x2048, .f32⟩
  | .hbm, ⟨36, _⟩ => ⟨S1024x2048, .f32⟩
  | .hbm, ⟨37, _⟩ => ⟨S_, .f32⟩
  | .hbm, ⟨38, _⟩ => ⟨S1024x2048, .f32⟩
  | .hbm, ⟨39, _⟩ => ⟨S1024x2048, .f32⟩
  | _, _ => ⟨S1x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Sum8Kernel.lean ====
abbrev S8x16x1024 : Shape := ⟨3, ![8, 16, 1024]⟩
abbrev S16x1024 : Shape := ⟨2, ![16, 1024]⟩
abbrev S1x16x1024 : Shape := ⟨3, ![1, 16, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x16x1024, .f32⟩
  | .hbm, ⟨1, _⟩ => ⟨S16x1024, .f32⟩
  | .local _ .vmem, ⟨0, _⟩ => ⟨S8x16x1024, .f32⟩
  | .local _ .vmem, ⟨1, _⟩ => ⟨S16x1024, .f32⟩
  | _, _ => ⟨S8x16x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Sum8ReferenceIdeal.lean ====
abbrev S8x16x1024 : Shape := ⟨3, ![8, 16, 1024]⟩
abbrev S_ : Shape := ⟨0, ![]⟩
abbrev S16x1024 : Shape := ⟨2, ![16, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S_, .f32⟩
  | .hbm, ⟨2, _⟩ => ⟨S16x1024, .f32⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== ManyKernel.lean ====
abbrev S1x512x256 : Shape := ⟨3, ![1, 512, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 33
  | .vmem => 24
  | .smem => 0
  | _ => 0

abbrev bufTy : (tb : Table) → Fin (tcTables nBuf tb) → BufTy
  | .hbm, ⟨0, _⟩ => ⟨S1x512x256, .f32⟩
  | .hbm, ⟨1, _⟩ => ⟨S512x256, .f32⟩
  | .hbm, ⟨2, _⟩ => ⟨S1x512x256, .f32⟩
  | .hbm, ⟨3, _⟩ => ⟨S1x512x256, .f32⟩
  | .hbm, ⟨4, _⟩ => ⟨S1x256x1024, .f32⟩
  | .hbm, ⟨5, _⟩ => ⟨S256x1024, .f32⟩
  | .hbm, ⟨6, _⟩ => ⟨S1x256x1024, .f32⟩
  | .hbm, ⟨7, _⟩ => ⟨S1x256x1024, .f32⟩
  | .hbm, ⟨8, _⟩ => ⟨S1x256x1024, .f32⟩
  | .hbm, ⟨9, _⟩ => ⟨S256x1024, .f32⟩
  | .hbm, ⟨10, _⟩ => ⟨S1x256x1024, .f32⟩
  | .hbm, ⟨11, _⟩ => ⟨S1x256x1024, .f32⟩
  | .hbm, ⟨12, _⟩ => ⟨S512x256, .f32⟩
  | .hbm, ⟨13, _⟩ => ⟨S512x256, .f32⟩
  | .hbm, ⟨14, _⟩ => ⟨S512x256, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S512x256, .f32⟩
  | .hbm, ⟨22, _⟩ => ⟨S512x256, .f32⟩
  | .hbm, ⟨23, _⟩ => ⟨S512x256, .f32⟩
  | .hbm, ⟨24, _⟩ => ⟨S512x256, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S256x1024, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | _, _ => ⟨S1x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev main_v9_2 : Ref sig .tc := ⟨.hbm, 23, rfl⟩
abbrev main_v9_3 : Ref sig .tc := ⟨.hbm, 24, rfl⟩
abbrev main_v9_4 : Ref sig .tc := ⟨.hbm, 25, rfl⟩
abbrev main_v9_5 : Ref sig .tc := ⟨.hbm, 26, rfl⟩
abbrev main_v9_6 : Ref sig .tc := ⟨.hbm, 27, rfl⟩
abbrev main_v9_7 : Ref sig .tc := ⟨.hbm, 28, rfl⟩
abbrev main_v9_8 : Ref sig .tc := ⟨.hbm, 29, rfl⟩
abbrev main_v9_9 : Ref sig .tc := ⟨.hbm, 30, rfl⟩
abbrev main_v9_10 : Ref sig .tc := ⟨.hbm, 31, rfl⟩
abbrev main_v9_11 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := .none

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S512x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S512x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S512x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S512x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S256x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S256x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S256x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S256x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S256x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S256x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S256x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S256x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
-- ==== ManyReferenceIdeal.lean ====
abbrev S1x512x256 : Shape := ⟨3, ![1, 512, 256]⟩
abbrev S512x256 : Shape := ⟨2, ![512, 256]⟩
abbrev S1x256x1024 : Shape := ⟨3, ![1, 256, 1024]⟩
abbrev S256x1024 : Shape := ⟨2, ![256, 1024]⟩
abbrev S_ : Shape := ⟨0, ![]⟩

abbrev nBuf : Space → Nat
  | .hbm => 120
  | .vmem => 0
  | .smem => 0
  | _ => 0

abbrev bufTy : (tb : Table) → Fin (tcTables nBuf tb) → BufTy
  | .hbm, ⟨0, _⟩ => ⟨S1x512x256, .f32⟩
  | .hbm, ⟨1, _⟩ => ⟨S512x256, .f32⟩
  | .hbm, ⟨2, _⟩ => ⟨S1x512x256, .f32⟩
  | .hbm, ⟨3, _⟩ => ⟨S1x512x256, .f32⟩
  | .hbm, ⟨4, _⟩ => ⟨S1x256x1024, .f32⟩
  | .hbm, ⟨5, _⟩ => ⟨S256x1024, .f32⟩
  | .hbm, ⟨6, _⟩ => ⟨S1x256x1024, .f32⟩
  | .hbm, ⟨7, _⟩ => ⟨S1x256x1024, .f32⟩
  | .hbm, ⟨8, _⟩ => ⟨S1x256x1024, .f32⟩
  | .hbm, ⟨9, _⟩ => ⟨S256x1024, .f32⟩
  | .hbm, ⟨10, _⟩ => ⟨S1x256x1024, .f32⟩
  | .hbm, ⟨11, _⟩ => ⟨S1x256x1024, .f32⟩
  | .hbm, ⟨12, _⟩ => ⟨S512x256, .f32⟩
  | .hbm, ⟨13, _⟩ => ⟨S512x256, .f32⟩
  | .hbm, ⟨14, _⟩ => ⟨S512x256, .f32⟩
  | .hbm, ⟨15, _⟩ => ⟨S_, .f32⟩
  | .hbm, ⟨16, _⟩ => ⟨S512x256, .f32⟩
  | .hbm, ⟨17, _⟩ => ⟨S512x256, .f32⟩
  | .hbm, ⟨18, _⟩ => ⟨S_, .f32⟩
  | .hbm, ⟨19, _⟩ => ⟨S512x256, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S_, .f32⟩
  | .hbm, ⟨27, _⟩ => ⟨S512x256, .f32⟩
  | .hbm, ⟨28, _⟩ => ⟨S512x256, .f32⟩
  | .hbm, ⟨29, _⟩ => ⟨S512x256, .f32⟩
  | .hbm, ⟨30, _⟩ => ⟨S_, .f32⟩
  | .hbm, ⟨31, _⟩ => ⟨S512x256, .f32⟩
  | .hbm, ⟨32, _⟩ => ⟨S512x256, .f32⟩
  | .hbm, ⟨33, _⟩ => ⟨S_, .f32⟩
  | .hbm, ⟨34, _⟩ => ⟨S512x256, .f32⟩
  | .hbm, ⟨35, _⟩ => ⟨S512x256, .f32⟩
  | .hbm, ⟨36, _⟩ => ⟨S512x256, .f32⟩
  | .hbm, ⟨37, _⟩ => ⟨S_, .f32⟩
  | .hbm, ⟨38, _⟩ => ⟨S512x256, .f32⟩
  | .hbm, ⟨39, _⟩ => ⟨S512x256, .f32⟩
  | .hbm, ⟨40, _⟩ => ⟨S512x256, .f32⟩
  | .hbm, ⟨41, _⟩ => ⟨S_, .f32⟩
  | .hbm, ⟨42, _⟩ => ⟨S512x256, .f32⟩
  | .hbm, ⟨43, _⟩ => ⟨S512x256, .f32⟩
  | .hbm, ⟨44, _⟩ => ⟨S512x256, .f32⟩
  | .hbm, ⟨45, _⟩ => ⟨S_, .f32⟩
  | .hbm, ⟨46, _⟩ => ⟨S512x256, .f32⟩
  | .hbm, ⟨47, _⟩ => ⟨S512x256, .f32⟩
  | .hbm, ⟨48, _⟩ => ⟨S256x1024, .f32⟩
  | .hbm, ⟨49, _⟩ => ⟨S256x1024, .f32⟩
  | .hbm, ⟨50, _⟩ => ⟨S256x1024, .f32⟩
  | .hbm, ⟨51, _⟩ => ⟨S_, .f32⟩
  | .hbm, ⟨52, _⟩ => ⟨S256x1024, .f32⟩
  | .hbm, ⟨53, _⟩ => ⟨S256x1024, .f32⟩
  | .hbm, ⟨54, _⟩ => ⟨S_, .f32⟩
  | .hbm, ⟨55, _⟩ => ⟨S256x1024, .f32⟩
  | .hbm, ⟨56, _⟩ => ⟨S256x1024, .f32⟩
  | .hbm, ⟨57, _⟩ => ⟨S256x1024, .f32⟩
  | .hbm, ⟨58, _⟩ => ⟨S_, .f32⟩
  | .hbm, ⟨59, _⟩ => ⟨S256x1024, .f32⟩
  | .hbm, ⟨60, _⟩ => ⟨S256x1024, .f32⟩
  | .hbm, ⟨61, _⟩ => ⟨S256x1024, .f32⟩
  | .hbm, ⟨62, _⟩ => ⟨S_, .f32⟩
  | .hbm, ⟨63, _⟩ => ⟨S256x1024, .f32⟩
  | .hbm, ⟨64, _⟩ => ⟨S256x1024, .f32⟩
  | .hbm, ⟨65, _⟩ => ⟨S256x1024, .f32⟩
  | .hbm, ⟨66, _⟩ => ⟨S_, .f32⟩
  | .hbm, ⟨67, _⟩ => ⟨S256x1024, .f32⟩
  | .hbm, ⟨68, _⟩ => ⟨S256x1024, .f32⟩
  | .hbm, ⟨69, _⟩ => ⟨S_, .f32⟩
  | .hbm, ⟨70, _⟩ => ⟨S256x1024, .f32⟩
  | .hbm, ⟨71, _⟩ => ⟨S256x1024, .f32⟩
  | .hbm, ⟨72, _⟩ => ⟨S256x1024, .f32⟩
  | .hbm, ⟨73, _⟩ => ⟨S_, .f32⟩
  | .hbm, ⟨74, _⟩ => ⟨S256x1024, .f32⟩
  | .hbm, ⟨75, _⟩ => ⟨S256x1024, .f32⟩
  | .hbm, ⟨76, _⟩ => ⟨S256x1024, .f32⟩
  | .hbm, ⟨77, _⟩ => ⟨S_, .f32⟩
  | .hbm, ⟨78, _⟩ => ⟨S256x1024, .f32⟩
  | .hbm, ⟨79, _⟩ => ⟨S256x1024, .f32⟩
  | .hbm, ⟨80, _⟩ => ⟨S256x1024, .f32⟩
  | .hbm, ⟨81, _⟩ => ⟨S_, .f32⟩
  | .hbm, ⟨82, _⟩ => ⟨S256x1024, .f32⟩
  | .hbm, ⟨83, _⟩ => ⟨S256x1024, .f32⟩
  | .hbm, ⟨84, _⟩ => ⟨S256x1024, .f32⟩
  | .hbm, ⟨85, _⟩ => ⟨S256x1024, .f32⟩
  | .hbm, ⟨86, _⟩ => ⟨S256x1024, .f32⟩
  | .hbm, ⟨87, _⟩ => ⟨S_, .f32⟩
  | .hbm, ⟨88, _⟩ => ⟨S256x1024, .f32⟩
  | .hbm, ⟨89, _⟩ => ⟨S256x1024, .f32⟩
  | .hbm, ⟨90, _⟩ => ⟨S_, .f32⟩
  | .hbm, ⟨91, _⟩ => ⟨S256x1024, .f32⟩
  | .hbm, ⟨92, _⟩ => ⟨S256x1024, .f32⟩
  | .hbm, ⟨93, _⟩ => ⟨S256x1024, .f32⟩
  | .hbm, ⟨94, _⟩ => ⟨S_, .f32⟩
  | .hbm, ⟨95, _⟩ => ⟨S256x1024, .f32⟩
  | .hbm, ⟨96, _⟩ => ⟨S256x1024, .f32⟩
  | .hbm, ⟨97, _⟩ => ⟨S256x1024, .f32⟩
  | .hbm, ⟨98, _⟩ => ⟨S_, .f32⟩
  | .hbm, ⟨99, _⟩ => ⟨S256x1024, .f32⟩
  | .hbm, ⟨100, _⟩ => ⟨S256x1024, .f32⟩
  | .hbm, ⟨101, _⟩ => ⟨S256x1024, .f32⟩
  | .hbm, ⟨102, _⟩ => ⟨S_, .f32⟩
  | .hbm, ⟨103, _⟩ => ⟨S256x1024, .f32⟩
  | .hbm, ⟨104, _⟩ => ⟨S256x1024, .f32⟩
  | .hbm, ⟨105, _⟩ => ⟨S_, .f32⟩
  | .hbm, ⟨106, _⟩ => ⟨S256x1024, .f32⟩
  | .hbm, ⟨107, _⟩ => ⟨S256x1024, .f32⟩
  | .hbm, ⟨108, _⟩ => ⟨S256x1024, .f32⟩
  | .hbm, ⟨109, _⟩ => ⟨S_, .f32⟩
  | .hbm, ⟨110, _⟩ => ⟨S256x1024, .f32⟩
  | .hbm, ⟨111, _⟩ => ⟨S256x1024, .f32⟩
  | .hbm, ⟨112, _⟩ => ⟨S256x1024, .f32⟩
  | .hbm, ⟨113, _⟩ => ⟨S_, .f32⟩
  | .hbm, ⟨114, _⟩ => ⟨S256x1024, .f32⟩
  | .hbm, ⟨115, _⟩ => ⟨S256x1024, .f32⟩
  | .hbm, ⟨116, _⟩ => ⟨S256x1024, .f32⟩
  | .hbm, ⟨117, _⟩ => ⟨S_, .f32⟩
  | .hbm, ⟨118, _⟩ => ⟨S256x1024, .f32⟩
  | .hbm, ⟨119, _⟩ => ⟨S256x1024, .f32⟩
  | _, _ => ⟨S1x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_cst_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_6 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_7 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_8 : Ref sig .tc := ⟨.hbm, 51, rfl⟩
abbrev main_v30 : Ref sig .tc := ⟨.hbm, 52, rfl⟩
abbrev main_v31 : Ref sig .tc := ⟨.hbm, 53, rfl⟩
abbrev main_cst_9 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_10 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_11 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_12 : Ref sig .tc := ⟨.hbm, 66, rfl⟩
abbrev main_v41 : Ref sig .tc := ⟨.hbm, 67, rfl⟩
abbrev main_v42 : Ref sig .tc := ⟨.hbm, 68, rfl⟩
abbrev main_cst_13 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_14 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_15 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_16 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_17 : Ref sig .tc := ⟨.hbm, 87, rfl⟩
abbrev main_v57 : Ref sig .tc := ⟨.hbm, 88, rfl⟩
abbrev main_v58 : Ref sig .tc := ⟨.hbm, 89, rfl⟩
abbrev main_cst_18 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_19 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_20 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_21 : Ref sig .tc := ⟨.hbm, 102, rfl⟩
abbrev main_v68 : Ref sig .tc := ⟨.hbm, 103, rfl⟩
abbrev main_v69 : Ref sig .tc := ⟨.hbm, 104, rfl⟩
abbrev main_cst_22 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_23 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_24 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_25 : Ref sig .tc := ⟨.hbm, 117, rfl⟩
abbrev main_v79 : Ref sig .tc := ⟨.hbm, 118, rfl⟩
abbrev main_v80 : Ref sig .tc := ⟨.hbm, 119, rfl⟩

abbrev nD : Nat := 1
abbrev τ : Topo := Topo.v7x

variable {F : FTy → Type} [FloatOps F]
-- ==== HalfKernel.lean ====
abbrev S4x1024x2048 : Shape := ⟨3, ![4, 1024, 2048]⟩
abbrev S4x512x2048 : Shape := ⟨3, ![4, 512, 2048]⟩
abbrev S1x512x2048 : Shape := ⟨3, ![1, 512, 2048]⟩

abbrev nBuf : Space → Nat
  | .hbm => 4
  | .vmem => 8
  | .smem => 0
  | _ => 0

abbrev bufTy : (tb : Table) → Fin (tcTables nBuf tb) → BufTy
  | .hbm, ⟨0, _⟩ => ⟨S4x1024x2048, .f32⟩
  | .hbm, ⟨1, _⟩ => ⟨S4x512x2048, .bf16⟩
  | .hbm, ⟨2, _⟩ => ⟨S4x512x2048, .f32⟩
  | .hbm, ⟨3, _⟩ => ⟨S4x512x2048, .bf16⟩
  | .local _ .vmem, ⟨0, _⟩ => ⟨S1x512x2048, .f32⟩
  | .local _ .vmem, ⟨1, _⟩ => ⟨S1x512x2048, .f32⟩
  | .local _ .vmem, ⟨2, _⟩ => ⟨S1x512x2048, .bf16⟩
  | .local _ .vmem, ⟨3, _⟩ => ⟨S1x512x2048, .bf16⟩
  | .local _ .vmem, ⟨4, _⟩ => ⟨S1x512x2048, .f32⟩
  | .local _ .vmem, ⟨5, _⟩ => ⟨S1x512x2048, .f32⟩
  | .local _ .vmem, ⟨6, _⟩ => ⟨S1x512x2048, .bf16⟩
  | .local _ .vmem, ⟨7, _⟩ => ⟨S1x512x2048, .bf16⟩
  | _, _ => ⟨S4x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== HalfReferenceIdeal.lean ====
abbrev S4x1024x2048 : Shape := ⟨3, ![4, 1024, 2048]⟩
abbrev S4x512x2048 : Shape := ⟨3, ![4, 512, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4x1024x2048, .f32⟩
  | .hbm, ⟨1, _⟩ => ⟨S4x512x2048, .bf16⟩
  | .hbm, ⟨2, _⟩ => ⟨S4x512x2048, .f32⟩
  | .hbm, ⟨3, _⟩ => ⟨S4x512x2048, .f32⟩
  | .hbm, ⟨4, _⟩ => ⟨S4x512x2048, .f32⟩
  | .hbm, ⟨5, _⟩ => ⟨S4x512x2048, .bf16⟩
  | _, _ => ⟨S4x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== CastKernel.lean ====
abbrev S1x1024x2048 : Shape := ⟨3, ![1, 1024, 2048]⟩
abbrev S1024x2048 : Shape := ⟨2, ![1024, 2048]⟩
abbrev S1024x8192 : Shape := ⟨2, ![1024, 8192]⟩
abbrev S512x2048 : Shape := ⟨2, ![512, 2048]⟩

abbrev nBuf : Space → Nat
  | .hbm => 4
  | .vmem => 6
  | .smem => 0
  | _ => 0

abbrev bufTy : (tb : Table) → Fin (tcTables nBuf tb) → BufTy
  | .hbm, ⟨0, _⟩ => ⟨S1x1024x2048, .f32⟩
  | .hbm, ⟨1, _⟩ => ⟨S1024x2048, .f32⟩
  | .hbm, ⟨2, _⟩ => ⟨S1024x8192, .bf16⟩
  | .hbm, ⟨3, _⟩ => ⟨S1024x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | _, _ => ⟨S1x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== CastReferenceIdeal.lean ====
abbrev S1x1024x2048 : Shape := ⟨3, ![1, 1024, 2048]⟩
abbrev S1024x2048 : Shape := ⟨2, ![1024, 2048]⟩

abbrev nBuf : Space → Nat
  | .hbm => 3
  | .vmem => 0
  | .smem => 0
  | _ => 0

abbrev bufTy : (tb : Table) → Fin (tcTables nBuf tb) → BufTy
  | .hbm, ⟨0, _⟩ => ⟨S1x1024x2048, .f32⟩
  | .hbm, ⟨1, _⟩ => ⟨S1024x2048, .f32⟩
  | .hbm, ⟨2, _⟩ => ⟨S1024x2048, .bf16⟩
  | _, _ => ⟨S1x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Proof.DhBlock.lean ====
module

public import proofs.«01_k».proof.Proof.Gen.DhKernelIdeal.Value
public import Idealize.ShloMosaic.Lib.Pipeline.Value
public import Idealize.ShloMosaic.Lib.WritesUnit
public import Idealize.ShloMosaic.Lib.Pipeline.ReadBack
public import Idealize.ShloMosaic.Lib.Pointwise

@[expose] public section

set_option maxRecDepth 16384

noncomputable section

/-! One block of the kernel that multiplies the gathered gradients by the input projection and goes back through the
modulated norm: what it writes of `grad_x`, and what it adds to the three rows of the accumulator. -/

namespace Cert.DhKernelIdeal.Block

open Cert.DhKernelIdeal Cert.DhKernelIdeal.Gen Idealize.ShloMosaic Idealize.ShloMosaic.TcCoe Idealize.SL.Sem

theorem hz : (![0, 0] : Fin 2 → Nat) = fun _ => 0 := funext fun a => by fin_cases a <;> rfl

section Opened

variable {F : FTy → Type} [FloatOps F]

/-- The block's product: the six slabs of the gradient times their columns of the weight. -/
def dhOf (x0 : Vec F S512x512 .bf16) (x1 : Vec F S512x512 .bf16) (x2 : Vec F S512x512 .bf16) (x3 : Vec F S512x512 .bf16) (x4 : Vec F S512x4096 .bf16) (x5 : Vec F S512x2048 .bf16) (x6 : Vec F S1024x8192 .bf16) : FVec F S512x1024 .f32 :=
  k0_pay6
    (k0_pay4 x0 (View.ld x6 (Rect.unit (s := S1024x8192) ![0, 0] S1024x512.size inb_S1024x8192_S1024x512_0_0)) x1 (View.ld x6 (Rect.unit (s := S1024x8192) ![0, 512] S1024x512.size inb_S1024x8192_S1024x512_0_512))
      x2 (View.ld x6 (Rect.unit (s := S1024x8192) ![0, 1024] S1024x512.size inb_S1024x8192_S1024x512_0_1024)) x3 (View.ld x6 (Rect.unit (s := S1024x8192) ![0, 1536] S1024x512.size inb_S1024x8192_S1024x512_0_1536)))
    (k0_pay5 x4 (View.ld x6 (Rect.unit (s := S1024x8192) ![0, 2048] S1024x4096.size inb_S1024x8192_S1024x4096_0_2048)))
    x5 (View.ld x6 (Rect.unit (s := S1024x8192) ![0, 6144] S1024x2048.size inb_S1024x8192_S1024x2048_0_6144))

/-- What the block writes of `grad_x`. -/
def gxOf (x0 : Vec F S512x512 .bf16) (x1 : Vec F S512x512 .bf16) (x2 : Vec F S512x512 .bf16) (x3 : Vec F S512x512 .bf16) (x4 : Vec F S512x4096 .bf16) (x5 : Vec F S512x2048 .bf16) (x6 : Vec F S1024x8192 .bf16) (x7 : Vec F S512x1024 .f32) (x8 : Vec F S512x1024 .f32) (x9 : Vec F S8x1024 .f32) : FVec F S512x1024 .f32 :=
  k0_pay2 (dhOf x0 x1 x2 x3 x4 x5 x6) (k0_pay7 x7) (k0_pay8 x7)
    (View.ld x9 (Rect.unit (s := S8x1024) ![0, 0] S1x1024.size inb_S8x1024_S1x1024_0_0)) x8

/-- The block's three added rows, over what the accumulator held. -/
def row0 (x0 : Vec F S512x512 .bf16) (x1 : Vec F S512x512 .bf16) (x2 : Vec F S512x512 .bf16) (x3 : Vec F S512x512 .bf16) (x4 : Vec F S512x4096 .bf16) (x5 : Vec F S512x2048 .bf16) (x6 : Vec F S1024x8192 .bf16) (a : Vec F S1x1024 .f32) : FVec F S1x1024 .f32 :=
  k0_pay10
    (k0_pay4 x0 (View.ld x6 (Rect.unit (s := S1024x8192) ![0, 0] S1024x512.size inb_S1024x8192_S1024x512_0_0)) x1 (View.ld x6 (Rect.unit (s := S1024x8192) ![0, 512] S1024x512.size inb_S1024x8192_S1024x512_0_512))
      x2 (View.ld x6 (Rect.unit (s := S1024x8192) ![0, 1024] S1024x512.size inb_S1024x8192_S1024x512_0_1024)) x3 (View.ld x6 (Rect.unit (s := S1024x8192) ![0, 1536] S1024x512.size inb_S1024x8192_S1024x512_0_1536)))
    (k0_pay5 x4 (View.ld x6 (Rect.unit (s := S1024x8192) ![0, 2048] S1024x4096.size inb_S1024x8192_S1024x4096_0_2048)))
    x5 (View.ld x6 (Rect.unit (s := S1024x8192) ![0, 6144] S1024x2048.size inb_S1024x8192_S1024x2048_0_6144)) a

@[inherit_doc row0]
def row1 (x0 : Vec F S512x512 .bf16) (x1 : Vec F S512x512 .bf16) (x2 : Vec F S512x512 .bf16) (x3 : Vec F S512x512 .bf16) (x4 : Vec F S512x4096 .bf16) (x5 : Vec F S512x2048 .bf16) (x6 : Vec F S1024x8192 .bf16) (x7 : Vec F S512x1024 .f32) (x9 : Vec F S8x1024 .f32) (a : Vec F S1x1024 .f32) : FVec F S1x1024 .f32 :=
  k0_pay11
    (k0_pay4 x0 (View.ld x6 (Rect.unit (s := S1024x8192) ![0, 0] S1024x512.size inb_S1024x8192_S1024x512_0_0)) x1 (View.ld x6 (Rect.unit (s := S1024x8192) ![0, 512] S1024x512.size inb_S1024x8192_S1024x512_0_512))
      x2 (View.ld x6 (Rect.unit (s := S1024x8192) ![0, 1024] S1024x512.size inb_S1024x8192_S1024x512_0_1024)) x3 (View.ld x6 (Rect.unit (s := S1024x8192) ![0, 1536] S1024x512.size inb_S1024x8192_S1024x512_0_1536)))
    (k0_pay5 x4 (View.ld x6 (Rect.unit (s := S1024x8192) ![0, 2048] S1024x4096.size inb_S1024x8192_S1024x4096_0_2048)))
    x5 (View.ld x6 (Rect.unit (s := S1024x8192) ![0, 6144] S1024x2048.size inb_S1024x8192_S1024x2048_0_6144))
    x7 a (View.ld x9 (Rect.unit (s := S8x1024) ![1, 0] S1x1024.size inb_S8x1024_S1x1024_1_0))

@[inherit_doc row0]
def row2 (x0 : Vec F S512x512 .bf16) (x1 : Vec F S512x512 .bf16) (x2 : Vec F S512x512 .bf16) (x3 : Vec F S512x512 .bf16) (x4 : Vec F S512x4096 .bf16) (x5 : Vec F S512x2048 .bf16) (x6 : Vec F S1024x8192 .bf16) (x7 : Vec F S512x1024 .f32) (x9 : Vec F S8x1024 .f32) (a : Vec F S1x1024 .f32) : FVec F S1x1024 .f32 :=
  k0_pay1 (dhOf x0 x1 x2 x3 x4 x5 x6) (k0_pay9 x7) a (View.ld x9 (Rect.unit (s := S8x1024) ![2, 0] S1x1024.size inb_S8x1024_S1x1024_2_0))

/-- A block of the accumulator with its first three rows overwritten. -/
def put (xo : Vec F S8x1024 .f32) (w0 w1 w2 : Vec F S1x1024 .f32) : Vec F S8x1024 .f32 := fun y =>
  if (y 0).val = 2 then w2 (ix2 (0 : Fin 1) (y 1)) else if (y 0).val = 1 then w1 (ix2 (0 : Fin 1) (y 1))
  else if (y 0).val = 0 then w0 (ix2 (0 : Fin 1) (y 1)) else xo y

/-- The three one-row stores read back over what the buffer held before them. -/
theorem read_rows {κ : Kind} {sp : Space} (v : View sig κ sp S8x1024 .f32) (f : v.ty.Contents (Elt F)) (w0 w1 w2 : Vec F S1x1024 .f32)
    (L : List (View.Piece (Elt F) S8x1024 .f32)) :
    v.read (Elt F) (v.writes (Elt F) f ((⟨Rect.unit (s := S8x1024) ![2, 0] S1x1024.size inb_S8x1024_S1x1024_2_0, w2⟩ : View.Piece (Elt F) S8x1024 .f32)
      :: (⟨Rect.unit (s := S8x1024) ![1, 0] S1x1024.size inb_S8x1024_S1x1024_1_0, w1⟩ : View.Piece (Elt F) S8x1024 .f32)
      :: (⟨Rect.unit (s := S8x1024) ![0, 0] S1x1024.size inb_S8x1024_S1x1024_0_0, w0⟩ : View.Piece (Elt F) S8x1024 .f32) :: L))
      = put (v.read (Elt F) (v.writes (Elt F) f L)) w0 w1 w2 := by
  funext y
  unfold put
  by_cases e2 : (y 0).val = 2
  · rw [if_pos e2]
    exact View.read_writes_cons_rows_of_mem (d := ![8, 1024]) v f _ w2 _ y (ix2 (0 : Fin 1) (y 1)) rfl e2 rfl
  rw [if_neg e2, View.read_writes_cons_unit_of_not_mem v f inb_S8x1024_S1x1024_2_0 w2 _ y rfl (0 : Fin 2) (by show (y 0).val < 2 ∨ 2 + 1 ≤ (y 0).val; omega)]
  by_cases e1 : (y 0).val = 1
  · rw [if_pos e1]
    exact View.read_writes_cons_rows_of_mem (d := ![8, 1024]) v f _ w1 _ y (ix2 (0 : Fin 1) (y 1)) rfl e1 rfl
  rw [if_neg e1, View.read_writes_cons_unit_of_not_mem v f inb_S8x1024_S1x1024_1_0 w1 _ y rfl (0 : Fin 2) (by show (y 0).val < 1 ∨ 1 + 1 ≤ (y 0).val; omega)]
  by_cases e0 : (y 0).val = 0
  · rw [if_pos e0]
    exact View.read_writes_cons_rows_of_mem (d := ![8, 1024]) v f _ w0 _ y (ix2 (0 : Fin 1) (y 1)) rfl e0 rfl
  rw [if_neg e0, View.read_writes_cons_unit_of_not_mem v f inb_S8x1024_S1x1024_0_0 w0 _ y rfl (0 : Fin 2) (by show (y 0).val < 0 ∨ 0 + 1 ≤ (y 0).val; omega)]

/-- One point's step of the accumulator. -/
def step (x0 : Vec F S512x512 .bf16) (x1 : Vec F S512x512 .bf16) (x2 : Vec F S512x512 .bf16) (x3 : Vec F S512x512 .bf16) (x4 : Vec F S512x4096 .bf16) (x5 : Vec F S512x2048 .bf16) (x6 : Vec F S1024x8192 .bf16) (x7 : Vec F S512x1024 .f32) (x9 : Vec F S8x1024 .f32) (xo : Vec F S8x1024 .f32) : Vec F S8x1024 .f32 :=
  put xo (row0 x0 x1 x2 x3 x4 x5 x6 (View.ld xo (Rect.unit (s := S8x1024) ![0, 0] S1x1024.size inb_S8x1024_S1x1024_0_0))) (row1 x0 x1 x2 x3 x4 x5 x6 x7 x9 (View.ld xo (Rect.unit (s := S8x1024) ![1, 0] S1x1024.size inb_S8x1024_S1x1024_1_0))) (row2 x0 x1 x2 x3 x4 x5 x6 x7 x9 (View.ld xo (Rect.unit (s := S8x1024) ![2, 0] S1x1024.size inb_S8x1024_S1x1024_2_0)))

variable (c : Dev nD) (i : grid0.Coords) (a1 : Memref sig .tc .vmem S512x512 .bf16) (h1 : a1.IsWhole) (a2 : Memref sig .tc .vmem S512x512 .bf16) (h2 : a2.IsWhole) (a3 : Memref sig .tc .vmem S512x512 .bf16) (h3 : a3.IsWhole) (a4 : Memref sig .tc .vmem S512x512 .bf16) (h4 : a4.IsWhole) (a5 : Memref sig .tc .vmem S512x4096 .bf16) (h5 : a5.IsWhole) (a6 : Memref sig .tc .vmem S512x2048 .bf16) (h6 : a6.IsWhole) (a7 : Memref sig .tc .vmem S1024x8192 .bf16) (h7 : a7.IsWhole) (a8 : Memref sig .tc .vmem S512x1024 .f32) (h8 : a8.IsWhole) (a9 : Memref sig .tc .vmem S512x1024 .f32) (h9 : a9.IsWhole) (a10 : Memref sig .tc .vmem S8x1024 .f32) (h10 : a10.IsWhole) (a11 : Memref sig .tc .vmem S512x1024 .f32) (h11 : a11.IsWhole) (a12 : Memref sig .tc .vmem S8x1024 .f32) (h12 : a12.IsWhole)
  (x0 : Vec F S512x512 .bf16) (x1 : Vec F S512x512 .bf16) (x2 : Vec F S512x512 .bf16) (x3 : Vec F S512x512 .bf16) (x4 : Vec F S512x4096 .bf16) (x5 : Vec F S512x2048 .bf16) (x6 : Vec F S1024x8192 .bf16) (x7 : Vec F S512x1024 .f32) (x8 : Vec F S512x1024 .f32) (x9 : Vec F S8x1024 .f32) (xo : Vec F S8x1024 .f32)

theorem gx_A (hc : cond0_0 i) : out0_A_10 c i a1 h1 a2 h2 a3 h3 a4 h4 a5 h5 a6 h6 a7 h7 a8 h8 a9 h9 a10 h10 a11 h11 a12 h12 hc x0 x1 x2 x3 x4 x5 x6 x7 x8 x9 = gxOf x0 x1 x2 x3 x4 x5 x6 x7 x8 x9 := by
  unfold out0_A_10
  rw [View.read_writes_eq_canon _ _ _ (cover0_A_10 c i a1 h1 a2 h2 a3 h3 a4 h4 a5 h5 a6 h6 a7 h7 a8 h8 a9 h9 a10 h10 a11 h11 a12 h12 hc x0 x1 x2 x3 x4 x5 x6 x7 x8 x9)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S1024x8192) hz, View.ld_unit_zero (S := S512x1024) hz, View.ld_unit_zero (S := S512x2048) hz, View.ld_unit_zero (S := S512x4096) hz, View.ld_unit_zero (S := S512x512) hz, View.ld_unit_zero (S := S8x1024) hz]
  rfl

theorem acc_A (hc : cond0_0 i) : out0_A_11 c i a1 h1 a2 h2 a3 h3 a4 h4 a5 h5 a6 h6 a7 h7 a8 h8 a9 h9 a10 h10 a11 h11 a12 h12 hc x0 x1 x2 x3 x4 x5 x6 x7 x8 x9 = step x0 x1 x2 x3 x4 x5 x6 x7 x9 k0_pay3 := by
  unfold out0_A_11
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S1024x8192) hz, View.ld_unit_zero (S := S512x1024) hz, View.ld_unit_zero (S := S512x2048) hz, View.ld_unit_zero (S := S512x4096) hz, View.ld_unit_zero (S := S512x512) hz, View.ld_unit_zero (S := S8x1024) hz]
  simp (disch := first | decide +kernel | (intro a; fin_cases a <;> rfl)) only [↓View.readCov_skip, View.readCov_fill]
  rw [read_rows]
  rw [View.read_writes_junk_eq_canon, View.canon_unit_zero hz]
  rfl

theorem gx_B (hc : ¬cond0_0 i) : out0_B_10 c i a1 h1 a2 h2 a3 h3 a4 h4 a5 h5 a6 h6 a7 h7 a8 h8 a9 h9 a10 h10 a11 h11 a12 h12 hc x0 x1 x2 x3 x4 x5 x6 x7 x8 x9 xo = gxOf x0 x1 x2 x3 x4 x5 x6 x7 x8 x9 := by
  unfold out0_B_10
  rw [View.read_writes_eq_canon _ _ _ (cover0_B_10 c i a1 h1 a2 h2 a3 h3 a4 h4 a5 h5 a6 h6 a7 h7 a8 h8 a9 h9 a10 h10 a11 h11 a12 h12 hc x0 x1 x2 x3 x4 x5 x6 x7 x8 x9 xo)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S1024x8192) hz, View.ld_unit_zero (S := S512x1024) hz, View.ld_unit_zero (S := S512x2048) hz, View.ld_unit_zero (S := S512x4096) hz, View.ld_unit_zero (S := S512x512) hz, View.ld_unit_zero (S := S8x1024) hz]
  rfl

theorem acc_B (hc : ¬cond0_0 i) : out0_B_11 c i a1 h1 a2 h2 a3 h3 a4 h4 a5 h5 a6 h6 a7 h7 a8 h8 a9 h9 a10 h10 a11 h11 a12 h12 hc x0 x1 x2 x3 x4 x5 x6 x7 x8 x9 xo = step x0 x1 x2 x3 x4 x5 x6 x7 x9 xo := by
  unfold out0_B_11
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S1024x8192) hz, View.ld_unit_zero (S := S512x1024) hz, View.ld_unit_zero (S := S512x2048) hz, View.ld_unit_zero (S := S512x4096) hz, View.ld_unit_zero (S := S512x512) hz, View.ld_unit_zero (S := S8x1024) hz]
  rw [read_rows]
  show put (a12.view.read (Elt F) (h12.unread xo)) _ _ _ = _
  rw [h12.read_unread]
  rfl

end Opened

end Cert.DhKernelIdeal.Block
end
-- ==== Proof.Arrays.lean ====
module

public import Idealize.ShloMosaic.Lib.Pointwise

@[expose] public section

/-! Reading lemmas that hold for arrays of any size: a leading axis of one element dropped or added. -/

namespace Cert.Arrays

open Idealize.ShloMosaic

variable {α : Type} {a b : ℕ}

/-- Dropping a leading axis of one element keeps the other two coordinates. -/
theorem drop_lead (x : (⟨3, ![1, a, b]⟩ : Shape).Idx → α) (h : (⟨3, ![1, a, b]⟩ : Shape).ShapeCasts ⟨2, ![a, b]⟩)
    (r : Fin a) (l : Fin b) : shapeCast ⟨2, ![a, b]⟩ x h (ix2 r l) = x (ix3 (0 : Fin 1) r l) := by
  rw [Pointwise.shapeCast_apply]
  refine congrArg x (Shape.reshapeEquiv_eq_of_vals _ _ _ (r.val * b + l.val) (r.val * b + l.val) ?_ ?_ rfl)
  · rw [rowMajor_val3 _ (a * b) b rfl rfl]
    show 0 * (a * b) + r.val * b + l.val = _
    omega
  · rw [rowMajor_val2 _ b rfl]
    rfl

/-- Every index of a two-axis array is a pair. -/
theorem exists_pair (y : (⟨2, ![a, b]⟩ : Shape).Idx) : ∃ (r : Fin a) (l : Fin b), y = ix2 r l :=
  ⟨y 0, y 1, funext fun i => by fin_cases i <;> rfl⟩

/-- An array read at two indices with the same coordinates. -/
theorem same_pair (x : (⟨2, ![a, b]⟩ : Shape).Idx → α) (i j : (⟨2, ![a, b]⟩ : Shape).Idx)
    (h0 : (i 0).val = (j 0).val) (h1 : (i 1).val = (j 1).val) : x i = x j :=
  congrArg x (funext fun k => Fin.ext (match k with | ⟨0, _⟩ => h0 | ⟨1, _⟩ => h1))

/-- A sum over two leading axes of one element each is the element itself. -/
@[pointwise] theorem sum_lead_two {n : ℕ} (h : (⟨3, ![1, 1, n]⟩ : Shape).ReducesTo [0, 1] ⟨1, ![n]⟩)
    (v : (⟨3, ![1, 1, n]⟩ : Shape).Idx → EReal) (c : EReal) (l : Fin n) :
    Ideal.hostReduceAdd h v c (ix1 l) = c + v (ix3 (0 : Fin 1) (0 : Fin 1) l) := by
  refine congrArg (c + ·) ?_
  have e : (Finset.univ.filter fun i => h.drop i = ix1 l) = {ix3 (0 : Fin 1) (0 : Fin 1) l} := by
    ext i
    simp only [Finset.mem_filter, Finset.mem_univ, true_and, Finset.mem_singleton]
    constructor
    · intro hi
      have h2 : (i 2).val = l.val := congrArg Fin.val (congrFun hi 0)
      funext a
      fin_cases a
      · exact Subsingleton.elim (α := Fin 1) _ _
      · exact Subsingleton.elim (α := Fin 1) _ _
      · exact Fin.ext h2
    · rintro rfl
      funext a
      fin_cases a
      rfl
  rw [e, Finset.sum_singleton]

/-- A sum over a first and a last axis of one element each is the element itself. -/
@[pointwise] theorem sum_outer_two {n : ℕ} (h : (⟨3, ![1, n, 1]⟩ : Shape).ReducesTo [0, 2] ⟨1, ![n]⟩)
    (v : (⟨3, ![1, n, 1]⟩ : Shape).Idx → EReal) (c : EReal) (l : Fin n) :
    Ideal.hostReduceAdd h v c (ix1 l) = c + v (ix3 (0 : Fin 1) l (0 : Fin 1)) := by
  refine congrArg (c + ·) ?_
  have e : (Finset.univ.filter fun i => h.drop i = ix1 l) = {ix3 (0 : Fin 1) l (0 : Fin 1)} := by
    ext i
    simp only [Finset.mem_filter, Finset.mem_univ, true_and, Finset.mem_singleton]
    constructor
    · intro hi
      have h2 : (i 1).val = l.val := congrArg Fin.val (congrFun hi 0)
      funext a
      fin_cases a
      · exact Subsingleton.elim (α := Fin 1) _ _
      · exact Fin.ext h2
      · exact Subsingleton.elim (α := Fin 1) _ _
    · rintro rfl
      funext a
      fin_cases a
      rfl
  rw [e, Finset.sum_singleton]

end Cert.Arrays
-- ==== Proof.DhHost.lean ====
module

public import proofs.«01_k».proof.Proof.DhBlock
public import proofs.«01_k».proof.Proof.Arrays

@[expose] public section

set_option maxRecDepth 16384

noncomputable section

/-! The arrays the region of the kernel finds, as functions of the arguments, and the block of each that one grid
point reads. -/

namespace Cert.DhKernelIdeal.Host

open Cert.DhKernelIdeal Cert.DhKernelIdeal.Gen Idealize.ShloMosaic Idealize.ShloMosaic.TcCoe Idealize.SL.Sem

variable (m : (ℓ : Loc nD τ sig) → Buf (Elt Ideal) ℓ) (c : Dev nD)

/-- The arguments, read at plain indices. -/
def X (r : Fin 8192) (l : Fin 1024) : EReal := (m ((c : Thread nD τ).loc main_arg0) : Vec Ideal S1x8192x1024 .f32) (ix3 (0 : Fin 1) r l)
@[inherit_doc X]
def NG (l : Fin 1024) : EReal := (m ((c : Thread nD τ).loc main_arg1) : Vec Ideal S1x1024 .f32) (ix2 (0 : Fin 1) l)
@[inherit_doc X]
def SC (l : Fin 1024) : EReal := (m ((c : Thread nD τ).loc main_arg2) : Vec Ideal S1x1024 .f32) (ix2 (0 : Fin 1) l)
@[inherit_doc X]
def W (l : Fin 1024) (k : Fin 8192) : EReal := (m ((c : Thread nD τ).loc main_arg4) : Vec Ideal S1x1024x8192 .f32) (ix3 (0 : Fin 1) l k)
@[inherit_doc X]
def DP (r : Fin 8192) (k : Fin 8192) : EReal := (m ((c : Thread nD τ).loc main_arg5) : Vec Ideal S1x8192x8192 .f32) (ix3 (0 : Fin 1) r k)
@[inherit_doc X]
def DX2 (r : Fin 8192) (l : Fin 1024) : EReal := (m ((c : Thread nD τ).loc main_arg6) : Vec Ideal S1x8192x1024 .f32) (ix3 (0 : Fin 1) r l)

theorem one_word : Ideal.ofBits FTy.f32 0x3F800000#32 = 1 := by
  simp [Ideal.ofBits, Ideal.ieee, -EReal.coe_mul]; norm_num

theorem V_v7 (r : Fin 8192) (k : Fin 512) : (V m c main_v7 : Vec Ideal S8192x512 .bf16) (ix2 r k) = DP m c r ⟨0 + k.val, by omega⟩ := by
  have e : (V m c main_v7 : Vec Ideal S8192x512 .bf16) = extractStridedSlice S8192x512 ![0, 0] (truncf (F := Ideal) (s := S8192x8192) (φ := .f32) .bf16 (shapeCast S8192x8192 (m ((c : Thread nD τ).loc main_arg5)) shapeCasts_S1x8192x8192_S8192x8192) bitsLt_bf16_f32) slices_S8192x8192_S8192x512_0_0 := by
    unfold_abbrev_sides
    after_results
    rfl
  rw [e]
  unfold DP
  rw [← Cert.Arrays.drop_lead (m ((c : Thread nD τ).loc main_arg5) : Vec Ideal S1x8192x8192 .f32) shapeCasts_S1x8192x8192_S8192x8192]
  refine congrArg (shapeCast S8192x8192 (m ((c : Thread nD τ).loc main_arg5) : Vec Ideal S1x8192x8192 .f32) shapeCasts_S1x8192x8192_S8192x8192) (funext fun a => Fin.ext ?_)
  match a with
  | ⟨0, _⟩ => show 0 + r.val = r.val; omega
  | ⟨1, _⟩ => rfl

theorem blk0 (t : Fin cfg0.N) (r : Fin 512) (k : Fin 512) :
    (iblk m c 0 t : Vec Ideal S512x512 .bf16) (ix2 r k) = DP m c ⟨t.val * 512 + r.val, by have := lt_of_lt_of_eq t.isLt N_0; omega⟩ ⟨0 + k.val, by omega⟩ := by
  refine Eq.trans ?_ (V_v7 m c _ k)
  unfold iblk
  rw [View.read_apply]
  refine congrArg (V m c main_v7) (funext fun a => Fin.ext ?_)
  have hi : ∀ t : Fin cfg0.N, win0_0.index t 0 = t.val ∧ win0_0.index t 1 = 0 :=
    (by decide +kernel : ∀ t : Fin grid0.N, win0_0.index t 0 = t.val ∧ win0_0.index t 1 = 0)
  match a with
  | ⟨0, _⟩ => show win0_0.index t 0 * 512 + 1 * r.val = t.val * 512 + r.val; rw [(hi t).1]; omega
  | ⟨1, _⟩ => show win0_0.index t 1 * 512 + 1 * k.val = k.val; rw [(hi t).2]; omega

theorem V_v8 (r : Fin 8192) (k : Fin 512) : (V m c main_v8 : Vec Ideal S8192x512 .bf16) (ix2 r k) = DP m c r ⟨512 + k.val, by omega⟩ := by
  have e : (V m c main_v8 : Vec Ideal S8192x512 .bf16) = extractStridedSlice S8192x512 ![0, 512] (truncf (F := Ideal) (s := S8192x8192) (φ := .f32) .bf16 (shapeCast S8192x8192 (m ((c : Thread nD τ).loc main_arg5)) shapeCasts_S1x8192x8192_S8192x8192) bitsLt_bf16_f32) slices_S8192x8192_S8192x512_0_512 := by
    unfold_abbrev_sides
    after_results
    rfl
  rw [e]
  unfold DP
  rw [← Cert.Arrays.drop_lead (m ((c : Thread nD τ).loc main_arg5) : Vec Ideal S1x8192x8192 .f32) shapeCasts_S1x8192x8192_S8192x8192]
  refine congrArg (shapeCast S8192x8192 (m ((c : Thread nD τ).loc main_arg5) : Vec Ideal S1x8192x8192 .f32) shapeCasts_S1x8192x8192_S8192x8192) (funext fun a => Fin.ext ?_)
  match a with
  | ⟨0, _⟩ => show 0 + r.val = r.val; omega
  | ⟨1, _⟩ => rfl

theorem blk1 (t : Fin cfg0.N) (r : Fin 512) (k : Fin 512) :
    (iblk m c 1 t : Vec Ideal S512x512 .bf16) (ix2 r k) = DP m c ⟨t.val * 512 + r.val, by have := lt_of_lt_of_eq t.isLt N_0; omega⟩ ⟨512 + k.val, by omega⟩ := by
  refine Eq.trans ?_ (V_v8 m c _ k)
  unfold iblk
  rw [View.read_apply]
  refine congrArg (V m c main_v8) (funext fun a => Fin.ext ?_)
  have hi : ∀ t : Fin cfg0.N, win0_1.index t 0 = t.val ∧ win0_1.index t 1 = 0 :=
    (by decide +kernel : ∀ t : Fin grid0.N, win0_1.index t 0 = t.val ∧ win0_1.index t 1 = 0)
  match a with
  | ⟨0, _⟩ => show win0_1.index t 0 * 512 + 1 * r.val = t.val * 512 + r.val; rw [(hi t).1]; omega
  | ⟨1, _⟩ => show win0_1.index t 1 * 512 + 1 * k.val = k.val; rw [(hi t).2]; omega

theorem V_v9 (r : Fin 8192) (k : Fin 512) : (V m c main_v9 : Vec Ideal S8192x512 .bf16) (ix2 r k) = DP m c r ⟨1024 + k.val, by omega⟩ := by
  have e : (V m c main_v9 : Vec Ideal S8192x512 .bf16) = extractStridedSlice S8192x512 ![0, 1024] (truncf (F := Ideal) (s := S8192x8192) (φ := .f32) .bf16 (shapeCast S8192x8192 (m ((c : Thread nD τ).loc main_arg5)) shapeCasts_S1x8192x8192_S8192x8192) bitsLt_bf16_f32) slices_S8192x8192_S8192x512_0_1024 := by
    unfold_abbrev_sides
    after_results
    rfl
  rw [e]
  unfold DP
  rw [← Cert.Arrays.drop_lead (m ((c : Thread nD τ).loc main_arg5) : Vec Ideal S1x8192x8192 .f32) shapeCasts_S1x8192x8192_S8192x8192]
  refine congrArg (shapeCast S8192x8192 (m ((c : Thread nD τ).loc main_arg5) : Vec Ideal S1x8192x8192 .f32) shapeCasts_S1x8192x8192_S8192x8192) (funext fun a => Fin.ext ?_)
  match a with
  | ⟨0, _⟩ => show 0 + r.val = r.val; omega
  | ⟨1, _⟩ => rfl

theorem blk2 (t : Fin cfg0.N) (r : Fin 512) (k : Fin 512) :
    (iblk m c 2 t : Vec Ideal S512x512 .bf16) (ix2 r k) = DP m c ⟨t.val * 512 + r.val, by have := lt_of_lt_of_eq t.isLt N_0; omega⟩ ⟨1024 + k.val, by omega⟩ := by
  refine Eq.trans ?_ (V_v9 m c _ k)
  unfold iblk
  rw [View.read_apply]
  refine congrArg (V m c main_v9) (funext fun a => Fin.ext ?_)
  have hi : ∀ t : Fin cfg0.N, win0_2.index t 0 = t.val ∧ win0_2.index t 1 = 0 :=
    (by decide +kernel : ∀ t : Fin grid0.N, win0_2.index t 0 = t.val ∧ win0_2.index t 1 = 0)
  match a with
  | ⟨0, _⟩ => show win0_2.index t 0 * 512 + 1 * r.val = t.val * 512 + r.val; rw [(hi t).1]; omega
  | ⟨1, _⟩ => show win0_2.index t 1 * 512 + 1 * k.val = k.val; rw [(hi t).2]; omega

theorem V_v10 (r : Fin 8192) (k : Fin 512) : (V m c main_v10 : Vec Ideal S8192x512 .bf16) (ix2 r k) = DP m c r ⟨1536 + k.val, by omega⟩ := by
  have e : (V m c main_v10 : Vec Ideal S8192x512 .bf16) = extractStridedSlice S8192x512 ![0, 1536] (truncf (F := Ideal) (s := S8192x8192) (φ := .f32) .bf16 (shapeCast S8192x8192 (m ((c : Thread nD τ).loc main_arg5)) shapeCasts_S1x8192x8192_S8192x8192) bitsLt_bf16_f32) slices_S8192x8192_S8192x512_0_1536 := by
    unfold_abbrev_sides
    after_results
    rfl
  rw [e]
  unfold DP
  rw [← Cert.Arrays.drop_lead (m ((c : Thread nD τ).loc main_arg5) : Vec Ideal S1x8192x8192 .f32) shapeCasts_S1x8192x8192_S8192x8192]
  refine congrArg (shapeCast S8192x8192 (m ((c : Thread nD τ).loc main_arg5) : Vec Ideal S1x8192x8192 .f32) shapeCasts_S1x8192x8192_S8192x8192) (funext fun a => Fin.ext ?_)
  match a with
  | ⟨0, _⟩ => show 0 + r.val = r.val; omega
  | ⟨1, _⟩ => rfl

theorem blk3 (t : Fin cfg0.N) (r : Fin 512) (k : Fin 512) :
    (iblk m c 3 t : Vec Ideal S512x512 .bf16) (ix2 r k) = DP m c ⟨t.val * 512 + r.val, by have := lt_of_lt_of_eq t.isLt N_0; omega⟩ ⟨1536 + k.val, by omega⟩ := by
  refine Eq.trans ?_ (V_v10 m c _ k)
  unfold iblk
  rw [View.read_apply]
  refine congrArg (V m c main_v10) (funext fun a => Fin.ext ?_)
  have hi : ∀ t : Fin cfg0.N, win0_3.index t 0 = t.val ∧ win0_3.index t 1 = 0 :=
    (by decide +kernel : ∀ t : Fin grid0.N, win0_3.index t 0 = t.val ∧ win0_3.index t 1 = 0)
  match a with
  | ⟨0, _⟩ => show win0_3.index t 0 * 512 + 1 * r.val = t.val * 512 + r.val; rw [(hi t).1]; omega
  | ⟨1, _⟩ => show win0_3.index t 1 * 512 + 1 * k.val = k.val; rw [(hi t).2]; omega

theorem V_v11 (r : Fin 8192) (k : Fin 4096) : (V m c main_v11 : Vec Ideal S8192x4096 .bf16) (ix2 r k) = DP m c r ⟨2048 + k.val, by omega⟩ := by
  have e : (V m c main_v11 : Vec Ideal S8192x4096 .bf16) = extractStridedSlice S8192x4096 ![0, 2048] (truncf (F := Ideal) (s := S8192x8192) (φ := .f32) .bf16 (shapeCast S8192x8192 (m ((c : Thread nD τ).loc main_arg5)) shapeCasts_S1x8192x8192_S8192x8192) bitsLt_bf16_f32) slices_S8192x8192_S8192x4096_0_2048 := by
    unfold_abbrev_sides
    after_results
    rfl
  rw [e]
  unfold DP
  rw [← Cert.Arrays.drop_lead (m ((c : Thread nD τ).loc main_arg5) : Vec Ideal S1x8192x8192 .f32) shapeCasts_S1x8192x8192_S8192x8192]
  refine congrArg (shapeCast S8192x8192 (m ((c : Thread nD τ).loc main_arg5) : Vec Ideal S1x8192x8192 .f32) shapeCasts_S1x8192x8192_S8192x8192) (funext fun a => Fin.ext ?_)
  match a with
  | ⟨0, _⟩ => show 0 + r.val = r.val; omega
  | ⟨1, _⟩ => rfl

theorem blk4 (t : Fin cfg0.N) (r : Fin 512) (k : Fin 4096) :
    (iblk m c 4 t : Vec Ideal S512x4096 .bf16) (ix2 r k) = DP m c ⟨t.val * 512 + r.val, by have := lt_of_lt_of_eq t.isLt N_0; omega⟩ ⟨2048 + k.val, by omega⟩ := by
  refine Eq.trans ?_ (V_v11 m c _ k)
  unfold iblk
  rw [View.read_apply]
  refine congrArg (V m c main_v11) (funext fun a => Fin.ext ?_)
  have hi : ∀ t : Fin cfg0.N, win0_4.index t 0 = t.val ∧ win0_4.index t 1 = 0 :=
    (by decide +kernel : ∀ t : Fin grid0.N, win0_4.index t 0 = t.val ∧ win0_4.index t 1 = 0)
  match a with
  | ⟨0, _⟩ => show win0_4.index t 0 * 512 + 1 * r.val = t.val * 512 + r.val; rw [(hi t).1]; omega
  | ⟨1, _⟩ => show win0_4.index t 1 * 4096 + 1 * k.val = k.val; rw [(hi t).2]; omega

theorem V_v12 (r : Fin 8192) (k : Fin 2048) : (V m c main_v12 : Vec Ideal S8192x2048 .bf16) (ix2 r k) = DP m c r ⟨6144 + k.val, by omega⟩ := by
  have e : (V m c main_v12 : Vec Ideal S8192x2048 .bf16) = extractStridedSlice S8192x2048 ![0, 6144] (truncf (F := Ideal) (s := S8192x8192) (φ := .f32) .bf16 (shapeCast S8192x8192 (m ((c : Thread nD τ).loc main_arg5)) shapeCasts_S1x8192x8192_S8192x8192) bitsLt_bf16_f32) slices_S8192x8192_S8192x2048_0_6144 := by
    unfold_abbrev_sides
    after_results
    rfl
  rw [e]
  unfold DP
  rw [← Cert.Arrays.drop_lead (m ((c : Thread nD τ).loc main_arg5) : Vec Ideal S1x8192x8192 .f32) shapeCasts_S1x8192x8192_S8192x8192]
  refine congrArg (shapeCast S8192x8192 (m ((c : Thread nD τ).loc main_arg5) : Vec Ideal S1x8192x8192 .f32) shapeCasts_S1x8192x8192_S8192x8192) (funext fun a => Fin.ext ?_)
  match a with
  | ⟨0, _⟩ => show 0 + r.val = r.val; omega
  | ⟨1, _⟩ => rfl

theorem blk5 (t : Fin cfg0.N) (r : Fin 512) (k : Fin 2048) :
    (iblk m c 5 t : Vec Ideal S512x2048 .bf16) (ix2 r k) = DP m c ⟨t.val * 512 + r.val, by have := lt_of_lt_of_eq t.isLt N_0; omega⟩ ⟨6144 + k.val, by omega⟩ := by
  refine Eq.trans ?_ (V_v12 m c _ k)
  unfold iblk
  rw [View.read_apply]
  refine congrArg (V m c main_v12) (funext fun a => Fin.ext ?_)
  have hi : ∀ t : Fin cfg0.N, win0_5.index t 0 = t.val ∧ win0_5.index t 1 = 0 :=
    (by decide +kernel : ∀ t : Fin grid0.N, win0_5.index t 0 = t.val ∧ win0_5.index t 1 = 0)
  match a with
  | ⟨0, _⟩ => show win0_5.index t 0 * 512 + 1 * r.val = t.val * 512 + r.val; rw [(hi t).1]; omega
  | ⟨1, _⟩ => show win0_5.index t 1 * 2048 + 1 * k.val = k.val; rw [(hi t).2]; omega

theorem V_v14 (l : Fin 1024) (k : Fin 8192) : (V m c main_v14 : Vec Ideal S1024x8192 .bf16) (ix2 l k) = W m c l k := by
  have e : (V m c main_v14 : Vec Ideal S1024x8192 .bf16) = truncf (F := Ideal) (s := S1024x8192) (φ := .f32) .bf16 (shapeCast S1024x8192 (m ((c : Thread nD τ).loc main_arg4)) shapeCasts_S1x1024x8192_S1024x8192) bitsLt_bf16_f32 := by
    unfold_abbrev_sides
    after_results
    rfl
  rw [e]
  exact Cert.Arrays.drop_lead (m ((c : Thread nD τ).loc main_arg4) : Vec Ideal S1x1024x8192 .f32) shapeCasts_S1x1024x8192_S1024x8192 l k

theorem blk6 (t : Fin cfg0.N) (r : Fin 1024) (k : Fin 8192) :
    (iblk m c 6 t : Vec Ideal S1024x8192 .bf16) (ix2 r k) = W m c r k := by
  refine Eq.trans ?_ (V_v14 m c r k)
  unfold iblk
  rw [View.read_apply]
  refine congrArg (V m c main_v14) (funext fun a => Fin.ext ?_)
  have hi : ∀ t : Fin cfg0.N, win0_6.index t 0 = 0 ∧ win0_6.index t 1 = 0 :=
    (by decide +kernel : ∀ t : Fin grid0.N, win0_6.index t 0 = 0 ∧ win0_6.index t 1 = 0)
  match a with
  | ⟨0, _⟩ => show win0_6.index t 0 * 1024 + 1 * r.val = r.val; rw [(hi t).1]; omega
  | ⟨1, _⟩ => show win0_6.index t 1 * 8192 + 1 * k.val = k.val; rw [(hi t).2]; omega

theorem V_v15 (r : Fin 8192) (l : Fin 1024) : (V m c main_v15 : Vec Ideal S8192x1024 .f32) (ix2 r l) = X m c r l := by
  have e : (V m c main_v15 : Vec Ideal S8192x1024 .f32) = shapeCast S8192x1024 (m ((c : Thread nD τ).loc main_arg0)) shapeCasts_S1x8192x1024_S8192x1024 := by
    unfold_abbrev_sides
    after_results
    rfl
  rw [e]
  exact Cert.Arrays.drop_lead (m ((c : Thread nD τ).loc main_arg0) : Vec Ideal S1x8192x1024 .f32) shapeCasts_S1x8192x1024_S8192x1024 r l

theorem blk7 (t : Fin cfg0.N) (r : Fin 512) (k : Fin 1024) :
    (iblk m c 7 t : Vec Ideal S512x1024 .f32) (ix2 r k) = X m c ⟨t.val * 512 + r.val, by have := lt_of_lt_of_eq t.isLt N_0; omega⟩ k := by
  refine Eq.trans ?_ (V_v15 m c _ k)
  unfold iblk
  rw [View.read_apply]
  refine congrArg (V m c main_v15) (funext fun a => Fin.ext ?_)
  have hi : ∀ t : Fin cfg0.N, win0_7.index t 0 = t.val ∧ win0_7.index t 1 = 0 :=
    (by decide +kernel : ∀ t : Fin grid0.N, win0_7.index t 0 = t.val ∧ win0_7.index t 1 = 0)
  match a with
  | ⟨0, _⟩ => show win0_7.index t 0 * 512 + 1 * r.val = t.val * 512 + r.val; rw [(hi t).1]; omega
  | ⟨1, _⟩ => show win0_7.index t 1 * 1024 + 1 * k.val = k.val; rw [(hi t).2]; omega

theorem V_v16 (r : Fin 8192) (l : Fin 1024) : (V m c main_v16 : Vec Ideal S8192x1024 .f32) (ix2 r l) = DX2 m c r l := by
  have e : (V m c main_v16 : Vec Ideal S8192x1024 .f32) = shapeCast S8192x1024 (m ((c : Thread nD τ).loc main_arg6)) shapeCasts_S1x8192x1024_S8192x1024 := by
    unfold_abbrev_sides
    after_results
    rfl
  rw [e]
  exact Cert.Arrays.drop_lead (m ((c : Thread nD τ).loc main_arg6) : Vec Ideal S1x8192x1024 .f32) shapeCasts_S1x8192x1024_S8192x1024 r l

theorem blk8 (t : Fin cfg0.N) (r : Fin 512) (k : Fin 1024) :
    (iblk m c 8 t : Vec Ideal S512x1024 .f32) (ix2 r k) = DX2 m c ⟨t.val * 512 + r.val, by have := lt_of_lt_of_eq t.isLt N_0; omega⟩ k := by
  refine Eq.trans ?_ (V_v16 m c _ k)
  unfold iblk
  rw [View.read_apply]
  refine congrArg (V m c main_v16) (funext fun a => Fin.ext ?_)
  have hi : ∀ t : Fin cfg0.N, win0_8.index t 0 = t.val ∧ win0_8.index t 1 = 0 :=
    (by decide +kernel : ∀ t : Fin grid0.N, win0_8.index t 0 = t.val ∧ win0_8.index t 1 = 0)
  match a with
  | ⟨0, _⟩ => show win0_8.index t 0 * 512 + 1 * r.val = t.val * 512 + r.val; rw [(hi t).1]; omega
  | ⟨1, _⟩ => show win0_8.index t 1 * 1024 + 1 * k.val = k.val; rw [(hi t).2]; omega

/-- The rows of the vectors the body multiplies by. -/
def VEC (r : Fin 8) (l : Fin 1024) : EReal :=
  if r.val = 0 then NG m c l * (1 + SC m c l) else if r.val = 1 then NG m c l else if r.val = 2 then 1 + SC m c l else 0

theorem V_v18 (r : Fin 8) (l : Fin 1024) : (V m c main_v18 : Vec Ideal S8x1024 .f32) (ix2 r l) = VEC m c r l := by
  have e : (V m c main_v18 : Vec Ideal S8x1024 .f32) = concatenate S8x1024 0
      [⟨S1x1024, (mulf (F := Ideal) (s := S1x1024) (φ := .f32) (m ((c : Thread nD τ).loc main_arg1)) (addf (F := Ideal) (s := S1x1024) (φ := .f32) (broadcastInDim S1x1024 ![] bcast_S_S1x1024 (constant (F := Ideal) S_ .f32 0x3F800000#32)) (m ((c : Thread nD τ).loc main_arg2))))⟩,
       ⟨S1x1024, (m ((c : Thread nD τ).loc main_arg1))⟩,
       ⟨S1x1024, (addf (F := Ideal) (s := S1x1024) (φ := .f32) (broadcastInDim S1x1024 ![] bcast_S_S1x1024 (constant (F := Ideal) S_ .f32 0x3F800000#32)) (m ((c : Thread nD τ).loc main_arg2)))⟩,
       ⟨S5x1024, broadcastInDim S5x1024 ![] bcast_S_S5x1024 (constant (F := Ideal) S_ .f32 0x00000000#32)⟩] concatenates_S1x1024_S1x1024_S1x1024_S5x1024_S8x1024_d0 := by
    unfold_abbrev_sides
    after_results
    rfl
  rw [e]
  unfold VEC NG SC
  generalize (m ((c : Thread nD τ).loc main_arg1) : Vec Ideal S1x1024 .f32) = A
  generalize (m ((c : Thread nD τ).loc main_arg2) : Vec Ideal S1x1024 .f32) = B
  fin_cases r <;> pointwise [one_word]

theorem blk9 (t : Fin cfg0.N) (r : Fin 8) (k : Fin 1024) :
    (iblk m c 9 t : Vec Ideal S8x1024 .f32) (ix2 r k) = VEC m c r k := by
  refine Eq.trans ?_ (V_v18 m c r k)
  unfold iblk
  rw [View.read_apply]
  refine congrArg (V m c main_v18) (funext fun a => Fin.ext ?_)
  have hi : ∀ t : Fin cfg0.N, win0_9.index t 0 = 0 ∧ win0_9.index t 1 = 0 :=
    (by decide +kernel : ∀ t : Fin grid0.N, win0_9.index t 0 = 0 ∧ win0_9.index t 1 = 0)
  match a with
  | ⟨0, _⟩ => show win0_9.index t 0 * 8 + 1 * r.val = r.val; rw [(hi t).1]; omega
  | ⟨1, _⟩ => show win0_9.index t 1 * 1024 + 1 * k.val = k.val; rw [(hi t).2]; omega

end Cert.DhKernelIdeal.Host
end
-- ==== Proof.DhValue.lean ====
module

public import proofs.«01_k».proof.Proof.DhHost

@[expose] public section

set_option maxRecDepth 16384

noncomputable section

/-! What the kernel leaves in its two result arrays: `grad_x` row by row, and the three rows summed over all positions. -/

namespace Cert.DhKernelIdeal.Value

open Cert.DhKernelIdeal Cert.DhKernelIdeal.Gen Cert.DhKernelIdeal.Block Cert.DhKernelIdeal.Host Idealize.ShloMosaic Idealize.ShloMosaic.TcCoe Idealize.SL.Sem
open Idealize.ShloMosaic.Pipeline (Dat)

/-- A sum of 8192 terms cut at the six slabs. -/
theorem sum_slabs (f : Fin 8192 → EReal) : (∑ k, f k)
    = (∑ k : Fin 512, f ⟨k.val, by omega⟩) + (∑ k : Fin 512, f ⟨512 + k.val, by omega⟩) + (∑ k : Fin 512, f ⟨1024 + k.val, by omega⟩)
      + (∑ k : Fin 512, f ⟨1536 + k.val, by omega⟩) + (∑ k : Fin 4096, f ⟨2048 + k.val, by omega⟩) + (∑ k : Fin 2048, f ⟨6144 + k.val, by omega⟩) := by
  have e : ∀ (n o : ℕ) (h : o + n ≤ 8192), (∑ k : Fin n, f ⟨o + k.val, by omega⟩) = ∑ k ∈ Finset.range n, (fun i => if h : i < 8192 then f ⟨i, h⟩ else 0) (o + k) := by
    intro n o h
    rw [Finset.sum_range]
    refine Finset.sum_congr rfl fun k _ => ?_
    dsimp only
    rw [dif_pos (by omega)]
  have e0 := e 512 0 (by omega)
  have e8 := e 8192 0 (by omega)
  simp only [Nat.zero_add] at e0 e8
  rw [e0, e 512 512 (by omega), e 512 1024 (by omega), e 512 1536 (by omega), e 4096 2048 (by omega), e 2048 6144 (by omega), e8]
  rw [← Finset.sum_range_add, ← Finset.sum_range_add _ 1024 512, ← Finset.sum_range_add _ 1536 512, ← Finset.sum_range_add _ 2048 4096,
    ← Finset.sum_range_add _ 6144 2048]

variable (m : (ℓ : Loc nD τ sig) → Buf (Elt Ideal) ℓ) (ρ : Dev nD → PrngReg) (c : Dev nD)

/-- The gradient with respect to the modulated norm's output. -/
def dh (r : Fin 8192) (l : Fin 1024) : EReal := ∑ k : Fin 8192, DP m c r k * W m c l k

/-- One over the root mean square of a row. -/
def rs (r : Fin 8192) : EReal :=
  Ideal.rsqrt (Ideal.div (∑ k, X m c r k * X m c r k) (Ideal.ofBits FTy.f32 0x44800000#32) + Ideal.ofBits FTy.f32 0x358637BD#32)

/-- `grad_x`. -/
def GX (r : Fin 8192) (l : Fin 1024) : EReal :=
  DX2 m c r l + rs m c r * (dh m c r l * VEC m c 0 l)
    - X m c r l * (rs m c r * rs m c r * rs m c r
        * Ideal.div (∑ k, dh m c r k * VEC m c 0 k * X m c r k) (Ideal.ofBits FTy.f32 0x44800000#32))

/-- What position `r` adds to row `j` of the accumulator. -/
def term (j : Fin 8) (r : Fin 8192) (l : Fin 1024) : EReal :=
  if j.val = 0 then dh m c r l else if j.val = 1 then dh m c r l * (X m c r l * rs m c r) * VEC m c 1 l
  else if j.val = 2 then dh m c r l * (X m c r l * rs m c r) * VEC m c 2 l else 0

/-- Position `r` of the block that grid point `t` works on. -/
abbrev pos (t : Fin cfg0.N) (r : Fin 512) : Fin 8192 := ⟨t.val * 512 + r.val, by have := lt_of_lt_of_eq t.isLt N_0; omega⟩

theorem dh_block (t : Fin cfg0.N) (r : Fin 512) (l : Fin 1024) :
    dhOf (F := Ideal) (iblk m c 0 t) (iblk m c 1 t) (iblk m c 2 t) (iblk m c 3 t) (iblk m c 4 t) (iblk m c 5 t) (iblk m c 6 t) (ix2 r l)
      = dh m c (pos t r) l := by
  unfold dh
  rw [sum_slabs]
  pointwise [dhOf, k0_pay4, k0_pay5, k0_pay6]
  simp only [blk0, blk1, blk2, blk3, blk4, blk5, blk6]
  rfl

theorem gx_block (t : Fin cfg0.N) (r : Fin 512) (l : Fin 1024) :
    gxOf (F := Ideal) (iblk m c 0 t) (iblk m c 1 t) (iblk m c 2 t) (iblk m c 3 t) (iblk m c 4 t) (iblk m c 5 t) (iblk m c 6 t) (iblk m c 7 t)
      (iblk m c 8 t) (iblk m c 9 t) (ix2 r l) = GX m c (pos t r) l := by
  unfold GX rs
  pointwise [gxOf, k0_pay2, k0_pay7, k0_pay8]
  simp only [dh_block, blk7, blk8, blk9]

theorem step_block (t : Fin cfg0.N) (xo : Vec Ideal S8x1024 .f32) (j : Fin 8) (l : Fin 1024) :
    step (F := Ideal) (iblk m c 0 t) (iblk m c 1 t) (iblk m c 2 t) (iblk m c 3 t) (iblk m c 4 t) (iblk m c 5 t) (iblk m c 6 t) (iblk m c 7 t)
      (iblk m c 9 t) xo (ix2 j l) = xo (ix2 j l) + ∑ r : Fin 512, term m c j (pos t r) l := by
  unfold step put term
  show (if j.val = 2 then row2 (F := Ideal) _ _ _ _ _ _ _ _ _ _ (ix2 (0 : Fin 1) l)
    else if j.val = 1 then row1 (F := Ideal) _ _ _ _ _ _ _ _ _ _ (ix2 (0 : Fin 1) l)
    else if j.val = 0 then row0 (F := Ideal) _ _ _ _ _ _ _ _ (ix2 (0 : Fin 1) l) else xo (ix2 j l)) = _
  by_cases e2 : j.val = 2
  · obtain rfl : j = 2 := Fin.ext e2
    simp only [row2, k0_pay1]
    pointwise [k0_pay9, k0_pay7, k0_pay8]
    simp only [dh_block, blk7, blk9]
    rfl
  by_cases e1 : j.val = 1
  · obtain rfl : j = 1 := Fin.ext e1
    simp only [row1, k0_pay11]
    pointwise [k0_pay9, k0_pay7, k0_pay8]
    refine (congrArg _ (Finset.sum_congr rfl fun r _ => ?_) : _ = (xo (ix2 1 l) : EReal) + _)
    rw [blk9]
    simp only [blk7]
    exact congrArg (· * _ * _) (dh_block m c t r l)
  by_cases e0 : j.val = 0
  · obtain rfl : j = 0 := Fin.ext e0
    simp only [row0, k0_pay10]
    pointwise []
    exact congrArg _ (Finset.sum_congr rfl fun r _ => dh_block m c t r l)
  simp only [if_neg e2, if_neg e1, if_neg e0, Finset.sum_const_zero, add_zero]

/-- Row `j` of the accumulator after the first `n` positions. -/
def part (n : ℕ) (j : Fin 8) (l : Fin 1024) : EReal :=
  ∑ i ∈ Finset.range n, if h : i < 8192 then term m c j ⟨i, h⟩ l else 0

theorem part_step (t : Fin cfg0.N) (j : Fin 8) (l : Fin 1024) :
    part m c (t.val * 512) j l + ∑ r : Fin 512, term m c j (pos t r) l = part m c ((t.val + 1) * 512) j l := by
  have ht := lt_of_lt_of_eq t.isLt N_0
  unfold part
  rw [Nat.succ_mul, Finset.sum_range_add, Finset.sum_range (n := 512)]
  refine congrArg _ (Finset.sum_congr rfl fun r _ => ?_)
  rw [dif_pos (by omega)]

theorem part_all (j : Fin 8) (l : Fin 1024) : part m c 8192 j l = ∑ r : Fin 8192, term m c j r l := by
  unfold part
  rw [Finset.sum_range]
  exact Finset.sum_congr rfl fun r _ => dif_pos r.isLt

theorem outsAt_gx (t : Fin cfg0.N) : (outsAt0 m c t.val t.isLt).1 = gxOf (F := Ideal) (iblk m c 0 t) (iblk m c 1 t) (iblk m c 2 t) (iblk m c 3 t)
    (iblk m c 4 t) (iblk m c 5 t) (iblk m c 6 t) (iblk m c 7 t) (iblk m c 8 t) (iblk m c 9 t) := by
  by_cases h : t.val % 16 = 0
  · rw [outsAt0_A m c t h]
    dsimp only
    rw [gx_A]
  · rw [outsAt0_B m c t h]
    dsimp only
    rw [gx_B]

theorem outsAt_acc (j : Fin 8) (l : Fin 1024) : ∀ (n : ℕ) (h : n < cfg0.N), (outsAt0 m c n h).2 (ix2 j l) = part m c ((n + 1) * 512) j l
  | 0, h => by
    rw [outsAt0_A m c ⟨0, h⟩ rfl]
    dsimp only
    rw [acc_A, step_block, ← part_step m c ⟨0, h⟩]
    refine congrArg (· + _) ?_
    pointwise [k0_pay3]
    show _ = part m c (0 * 512) j l
    unfold part
    rw [Nat.zero_mul, Finset.sum_range_zero]
  | n + 1, h => by
    have hN : cfg0.N = 16 := N_0
    have hB : ¬(⟨n + 1, h⟩ : Fin cfg0.N).val % 16 = 0 := by dsimp only; omega
    rw [outsAt0_B m c ⟨n + 1, h⟩ hB]
    dsimp only
    rw [acc_B, step_block, ← part_step m c ⟨n + 1, h⟩]
    exact congrArg (· + _) (outsAt_acc j l n (Nat.lt_of_succ_lt h))

/-- The first result array. -/
def gxArr : Vec Ideal S8192x1024 .f32 := fun y => GX m c (y 0) (y 1)

/-- The second result array. -/
def accArr : Vec Ideal S8x1024 .f32 := fun y => ∑ r : Fin 8192, term m c (y 0) r (y 1)

theorem idx10 : ∀ t : Fin cfg0.N, win0_10.index t 0 = t.val ∧ win0_10.index t 1 = 0 :=
  (by decide +kernel : ∀ t : Fin grid0.N, win0_10.index t 0 = t.val ∧ win0_10.index t 1 = 0)

theorem final_gx : (dats m 0 c).arrAt 10 cfg0.N = gxArr m c := by
  refine (dats m 0 c).arrAt_eq_of_cover 10 (gxArr m c) (fun t _ => ?_) fun i => ?_
  · rw [flushed10, outsAt_gx]
    funext y
    rw [View.read_apply]
    have key : ∀ (y : S512x1024.Idx) (z : S8192x1024.Idx), (z 0).val = t.val * 512 + (y 0).val → (z 1).val = (y 1).val →
        gxOf (F := Ideal) (iblk m c 0 t) (iblk m c 1 t) (iblk m c 2 t) (iblk m c 3 t) (iblk m c 4 t) (iblk m c 5 t) (iblk m c 6 t)
          (iblk m c 7 t) (iblk m c 8 t) (iblk m c 9 t) y = gxArr m c z := by
      intro y z h0 h1
      obtain ⟨r, l, rfl⟩ := Cert.Arrays.exists_pair (a := 512) (b := 1024) y
      rw [gx_block]
      exact congrArg₂ (GX m c) (Fin.ext h0.symm) (Fin.ext h1.symm)
    refine key y _ ?_ ?_
    · show win0_10.index t 0 * 512 + 1 * (y 0).val = _
      rw [(idx10 t).1]; omega
    · show win0_10.index t 1 * 1024 + 1 * (y 1).val = _
      rw [(idx10 t).2]; omega
  · have h0 : (i 0 : Nat) < 8192 := (i 0).isLt
    have h1 : (i 1 : Nat) < 1024 := (i 1).isLt
    have ht : (i 0 : Nat) / 512 < cfg0.N := by rw [show cfg0.N = 16 from N_0]; omega
    refine ⟨⟨(i 0 : Nat) / 512, ht⟩, flush0_10 _, ?_⟩
    show i ∈ ((View.whole main_v19_0).slice (win0_10.rect ⟨(i 0 : Nat) / 512, ht⟩)).set
    rw [View.set_slice_whole, Rect.mem_set_unit]
    intro a
    match a with
    | ⟨0, _⟩ =>
      show win0_10.index ⟨(i 0 : Nat) / 512, ht⟩ 0 * 512 ≤ (i 0 : Nat) ∧ (i 0 : Nat) < win0_10.index ⟨(i 0 : Nat) / 512, ht⟩ 0 * 512 + 512
      rw [(idx10 _).1]; dsimp only; omega
    | ⟨1, _⟩ =>
      show win0_10.index ⟨(i 0 : Nat) / 512, ht⟩ 1 * 1024 ≤ (i 1 : Nat) ∧ (i 1 : Nat) < win0_10.index ⟨(i 0 : Nat) / 512, ht⟩ 1 * 1024 + 1024
      rw [(idx10 _).2]; omega

theorem idx11 : ∀ t : Fin cfg0.N, win0_11.index t 0 = 0 ∧ win0_11.index t 1 = 0 :=
  (by decide +kernel : ∀ t : Fin grid0.N, win0_11.index t 0 = 0 ∧ win0_11.index t 1 = 0)

theorem final_acc : (dats m 0 c).arrAt 11 cfg0.N = accArr m c := by
  have hN : cfg0.N = 16 := N_0
  refine (dats m 0 c).arrAt_eq_of_cover 11 (accArr m c) (fun t hf => ?_) fun i => ?_
  · have h3 : t.val = 15 := by have := (flush0_11 t).mp hf; have := t.isLt; omega
    rw [flushed11]
    funext y
    rw [View.read_apply]
    have key : ∀ y z : S8x1024.Idx, (z 0).val = (y 0).val → (z 1).val = (y 1).val → (outsAt0 m c t.val t.isLt).2 y = accArr m c z := by
      intro y z h0 h1
      obtain rfl : z = y := funext fun a => Fin.ext (by fin_cases a <;> assumption)
      obtain ⟨j, l, rfl⟩ := Cert.Arrays.exists_pair (a := 8) (b := 1024) z
      rw [outsAt_acc m c j l, h3]
      exact part_all m c j l
    refine key y _ ?_ ?_
    · show win0_11.index t 0 * 8 + 1 * (y 0).val = _
      rw [(idx11 t).1]; omega
    · show win0_11.index t 1 * 1024 + 1 * (y 1).val = _
      rw [(idx11 t).2]; omega
  · have h0 : (i 0 : Nat) < 8 := (i 0).isLt
    have h1 : (i 1 : Nat) < 1024 := (i 1).isLt
    have ht : 15 < cfg0.N := by omega
    refine ⟨⟨15, ht⟩, (flush0_11 _).mpr rfl, ?_⟩
    show i ∈ ((View.whole main_v19_1).slice (win0_11.rect ⟨15, ht⟩)).set
    rw [View.set_slice_whole, Rect.mem_set_unit]
    intro a
    match a with
    | ⟨0, _⟩ => show win0_11.index ⟨15, ht⟩ 0 * 8 ≤ (i 0 : Nat) ∧ (i 0 : Nat) < win0_11.index ⟨15, ht⟩ 0 * 8 + 8; rw [(idx11 _).1]; omega
    | ⟨1, _⟩ => show win0_11.index ⟨15, ht⟩ 1 * 1024 ≤ (i 1 : Nat) ∧ (i 1 : Nat) < win0_11.index ⟨15, ht⟩ 1 * 1024 + 1024; rw [(idx11 _).2]; omega

end Cert.DhKernelIdeal.Value
end
-- ==== Proof.DhRef.lean ====
module

public import proofs.«01_k».proof.Proof.Gen.DhReferenceIdeal.Read
public import proofs.«01_k».proof.Proof.Arrays

@[expose] public section

set_option maxRecDepth 16384

noncomputable section

namespace Cert.DhReferenceIdeal.Ref

open Cert.DhReferenceIdeal Cert.DhReferenceIdeal.Read Idealize.ShloMosaic Idealize.ShloMosaic.TcCoe Idealize.SL.Sem

variable (x0 : Vec Ideal S1x8192x1024 .f32) (x1 x2 : Vec Ideal S1x1024 .f32) (x4 : Vec Ideal S1x1024x8192 .f32) (x5 : Vec Ideal S1x8192x8192 .f32) (x6 : Vec Ideal S1x8192x1024 .f32)

/-- The reciprocal root mean square of row `r`. -/
def rs (r : Fin 8192) : EReal :=
  Ideal.rsqrt (Ideal.div (∑ k : Fin 1024, x0 (ix3 0 r k) * x0 (ix3 0 r k)) (Ideal.ofBits .f32 0x44800000#32) + Ideal.ofBits .f32 0x358637BD#32)

/-- The derivative of the reciprocal root at row `r`. -/
def drs (r : Fin 8192) : EReal :=
  Ideal.ofBits .f32 0xBF000000#32 * Ideal.div (rs x0 r) (Ideal.div (∑ k : Fin 1024, x0 (ix3 0 r k) * x0 (ix3 0 r k)) (Ideal.ofBits .f32 0x44800000#32) + Ideal.ofBits .f32 0x358637BD#32)

theorem v8 (r : Fin 8192) : val_main_v8 (F := Ideal) x0 (ix3 (0 : Fin 1) r (0 : Fin 1)) = rs x0 r := by
  unfold rs
  pointwise [val_main_v8, val_main_v7, val_main_v6, val_main_v5, val_main_v4, val_main_v3, val_main_v2, val_main_v1, val_main_cst, val_main_cst_0, val_main_cst_1]

theorem v11 (r : Fin 8192) : val_main_v11 (F := Ideal) x0 (ix3 (0 : Fin 1) r (0 : Fin 1)) = drs x0 r := by
  unfold drs rs
  pointwise [val_main_v11, val_main_v10, val_main_v9, val_main_v8, val_main_v7, val_main_v6, val_main_v5, val_main_v4, val_main_v3, val_main_v2, val_main_v1, val_main_cst, val_main_cst_0, val_main_cst_1, val_main_cst_2]

theorem v25 (l : Fin 1024) (k : Fin 8192) : val_main_v25 (F := Ideal) x4 (ix2 l k) = x4 (ix3 (0 : Fin 1) l k) :=
  Cert.Arrays.drop_lead x4 _ l k

theorem v27 (r : Fin 8192) (l : Fin 1024) : val_main_v27 (F := Ideal) x4 x5 (ix3 (0 : Fin 1) r l) = ∑ k : Fin 8192, x5 (ix3 (0 : Fin 1) r k) * x4 (ix3 (0 : Fin 1) l k) := by
  pointwise [val_main_v27]
  simp only [v25]

/-- The product's gradient at row `r`, column `l`. -/
def dh (r : Fin 8192) (l : Fin 1024) : EReal := ∑ k : Fin 8192, x5 (ix3 (0 : Fin 1) r k) * x4 (ix3 (0 : Fin 1) l k)

theorem v31 (l : Fin 1024) : val_main_v31 (F := Ideal) x4 x5 (ix2 (0 : Fin 1) l) = ∑ r : Fin 8192, dh x4 x5 r l := by
  pointwise [val_main_v31, val_main_v30, val_main_v29, val_main_v28, val_main_cst_4, val_main_cst_5]
  simp only [v27, dh]

theorem v38 (l : Fin 1024) : val_main_v38 (F := Ideal) x0 x1 x4 x5 (ix2 (0 : Fin 1) l) = ∑ r : Fin 8192, x0 (ix3 0 r l) * rs x0 r * x1 (ix2 0 l) * dh x4 x5 r l := by
  pointwise [val_main_v38, val_main_v37, val_main_v34, val_main_v33, val_main_v32, val_main_v16, val_main_v15, val_main_v14, val_main_v0, val_main_v13, val_main_v12, val_main_cst_6, val_main_cst_7]
  simp only [v27, v8, dh]

theorem v61 (l : Fin 1024) : val_main_v61 (F := Ideal) x0 x2 x4 x5 (ix2 (0 : Fin 1) l) = ∑ r : Fin 8192, x0 (ix3 0 r l) * rs x0 r * (dh x4 x5 r l * (1 + x2 (ix2 0 l))) := by
  pointwise [val_main_v61, val_main_v44, val_main_v41, val_main_v40, val_main_v39, val_main_v36, val_main_v35, val_main_v19, val_main_v18, val_main_v17, val_main_v13, val_main_v12, val_main_cst_3, val_main_cst_8, val_main_cst_9]
  simp only [v27, v8, dh]

theorem v43 (r : Fin 8192) (l : Fin 1024) : val_main_v43 (F := Ideal) x1 x2 x4 x5 (ix3 (0 : Fin 1) r l) = dh x4 x5 r l * (1 + x2 (ix2 0 l)) * x1 (ix2 0 l) := by
  pointwise [val_main_v43, val_main_v42, val_main_v14, val_main_v0, val_main_v36, val_main_v35, val_main_v19, val_main_v18, val_main_v17, val_main_cst_3]
  simp only [v27, dh]

/-- The gradient's part along row `r`, before the row's own values. -/
def along (r : Fin 8192) : EReal :=
  Ideal.div ((∑ k : Fin 1024, x0 (ix3 0 r k) * (dh x4 x5 r k * (1 + x2 (ix2 0 k)) * x1 (ix2 0 k))) * drs x0 r) (Ideal.ofBits .f32 0x44800000#32)

theorem v56 (r : Fin 8192) (l : Fin 1024) : val_main_v56 (F := Ideal) x0 x1 x2 x4 x5 (ix3 (0 : Fin 1) r l) = along x0 x1 x2 x4 x5 r := by
  pointwise [val_main_v56, val_main_v55, val_main_v54, val_main_v53, val_main_v52, val_main_v51, val_main_v47, val_main_v46, val_main_v45, val_main_cst_10, val_main_cst_11, val_main_cst_12]
  simp only [v43, v11, along]

theorem v62 (r : Fin 8192) (l : Fin 1024) : val_main_v62 (F := Ideal) x0 x1 x2 x4 x5 x6 (ix2 r l) =
    x6 (ix3 0 r l) + dh x4 x5 r l * (1 + x2 (ix2 0 l)) * x1 (ix2 0 l) * rs x0 r + x0 (ix3 0 r l) * along x0 x1 x2 x4 x5 r
      + along x0 x1 x2 x4 x5 r * x0 (ix3 0 r l) := by
  refine (Cert.Arrays.drop_lead _ _ r l).trans ?_
  pointwise [val_main_v60, val_main_v59, val_main_v58, val_main_v57, val_main_v50, val_main_v49, val_main_v48]
  simp only [v43, v8, v56]

theorem v64 (j : Fin 8) (l : Fin 1024) : val_main_v64 (F := Ideal) x0 x1 x2 x4 x5 (ix2 j l) =
    match j with
    | 0 => val_main_v31 (F := Ideal) x4 x5 (ix2 (0 : Fin 1) l)
    | 1 => val_main_v38 (F := Ideal) x0 x1 x4 x5 (ix2 (0 : Fin 1) l)
    | 2 => val_main_v61 (F := Ideal) x0 x2 x4 x5 (ix2 (0 : Fin 1) l)
    | _ => 0 := by
  fin_cases j
  all_goals pointwise [val_main_v64, val_main_v63, val_main_cst_13]

end Cert.DhReferenceIdeal.Ref
end
-- ==== Proof.Finite.lean ====
module

public import Idealize.ShloMosaic.Lib.Pointwise
public import Idealize.ShloMosaic.Lib.ReduceAll

@[expose] public section

/-! What "every element is finite" gives: each element of the array is a real number. -/

noncomputable section

namespace Cert.Finite

open Idealize.ShloMosaic

/-- An extended real whose absolute value is below infinity is real. -/
theorem real_of_abs_lt (x : EReal) (h : max x (-x) < ⊤) : ∃ a : ℝ, x = a := by
  induction x with
  | bot => simp at h
  | top => simp at h
  | coe a => exact ⟨a, rfl⟩

theorem inf_word : Ideal.ofBits FTy.f32 0x7F800000#32 = ⊤ := by
  simp [Ideal.ofBits, Ideal.ieee]

/-- The test "all absolute values below infinity" that came out true makes every element real. -/
theorem real_of_all {s t : Shape} [Subsingleton t.Idx] {u : Shape} {axes : List (Fin s.rank)} (x : FVec Ideal s .f32) (dims : Fin u.rank → Fin s.rank)
    (hb : u.BroadcastsInDim s dims) (h : s.ReducesTo axes t) (hu : 0 < t.numel) (init : t.Idx → BitVec 1) (j : t.Idx)
    (e : Host.reduce IntOp.andi (cmpf .olt (Host.absf x) (broadcastInDim s dims hb (constant (F := Ideal) u .f32 0x7F800000#32))) init h hu j = 1#1)
    (i : s.Idx) : ∃ a : ℝ, x i = a := by
  have h1 := Host.reduce_andi_all _ _ h hu j e i
  refine real_of_abs_lt _ ?_
  have h2 : Ideal.cmp .olt (max (x i) (-(x i))) (Ideal.ofBits FTy.f32 0x7F800000#32) = 1#1 := h1
  rw [inf_word] at h2
  by_contra hn
  have : Ideal.cmp .olt (max (x i) (-(x i))) ⊤ = 0#1 := by
    unfold Ideal.cmp
    simp only [decide_eq_false hn]
    rfl
  rw [this] at h2
  exact absurd h2 (by decide)

/-- Two tests joined by `and` that came out true were both true. -/
theorem both {s : Shape} (a b : IVec s 1) (j : s.Idx) (e : andi a b j = 1#1) : a j = 1#1 ∧ b j = 1#1 :=
  IntOp.andi_eq_one.1 e

/-- A finite sum of reals is real. -/
theorem coe_sum {n : ℕ} (f : Fin n → ℝ) : (∑ k, (f k : EReal)) = ((∑ k, f k : ℝ) : EReal) := by
  induction n with
  | zero => simp
  | succ n ih => rw [Fin.sum_univ_succ, Fin.sum_univ_succ, ih, EReal.coe_add]

end Cert.Finite
end
-- ==== Proof.Norm.lean ====
module

public import proofs.«01_k».proof.Proof.Finite

@[expose] public section

/-! The gradient of a row's root-mean-square normalisation, written two ways. -/

noncomputable section

namespace Cert.Norm

open Idealize.ShloMosaic

theorem width_word : Ideal.ofBits FTy.f32 0x44800000#32 = ((1024 : ℝ) : EReal) := by
  simp [Ideal.ofBits, Ideal.ieee, -EReal.coe_mul]; norm_num

theorem half_word : Ideal.ofBits FTy.f32 0xBF000000#32 = ((-(1 / 2) : ℝ) : EReal) := by
  simp [Ideal.ofBits, Ideal.ieee, -EReal.coe_mul]; norm_num

/-- The small number added to the mean square is a positive real. -/
theorem eps_word : ∃ e : ℝ, 0 < e ∧ Ideal.ofBits FTy.f32 0x358637BD#32 = (e : EReal) := by
  refine ⟨_, ?_, by simp only [Ideal.ofBits, Ideal.ieee]; rfl⟩
  rw [if_neg (by decide)]
  positivity

/-- The mean square of a row plus the small number. -/
def ms (x : Fin 1024 → EReal) : EReal :=
  Ideal.div (∑ k, x k * x k) (Ideal.ofBits .f32 0x44800000#32) + Ideal.ofBits .f32 0x358637BD#32

/-- The mean square plus the small number, of a row of reals: a positive real. -/
theorem ms_real (x : Fin 1024 → EReal) (hx : ∀ k, ∃ a : ℝ, x k = a) : ∃ a : ℝ, 0 < a ∧ ms x = a := by
  choose f hf using hx
  obtain ⟨e, he, ee⟩ := eps_word
  refine ⟨(∑ k, f k * f k) * (1 / 1024) + e, ?_, ?_⟩
  · have : 0 ≤ ∑ k, f k * f k := Finset.sum_nonneg fun k _ => mul_self_nonneg _
    positivity
  · unfold ms
    rw [width_word, ee, Ideal.div_coe (by norm_num), EReal.coe_add, EReal.coe_mul, ← Cert.Finite.coe_sum]
    simp only [hf, EReal.coe_mul]

/-- The reciprocal root of a positive real. -/
theorem rsqrt_pos (a : ℝ) (h : 0 < a) : Ideal.rsqrt (a : EReal) = (((Real.sqrt a)⁻¹ : ℝ) : EReal) := by
  rw [Ideal.rsqrt_coe, if_neg (not_lt.2 h.le), if_neg h.ne']

/-- The two ways of writing the gradient through the normalisation: subtracting the row's own direction at the third
    power of the reciprocal root, and adding the derivative of the reciprocal root twice. -/
theorem back (x v : Fin 1024 → EReal) (hx : ∀ k, ∃ a : ℝ, x k = a) (hv : ∀ k, ∃ a : ℝ, v k = a) (d : EReal) (l : Fin 1024) :
    d + Ideal.rsqrt (ms x) * v l
        - x l * (Ideal.rsqrt (ms x) * Ideal.rsqrt (ms x) * Ideal.rsqrt (ms x) * Ideal.div (∑ k, v k * x k) (Ideal.ofBits .f32 0x44800000#32))
      = d + v l * Ideal.rsqrt (ms x)
        + x l * Ideal.div ((∑ k, x k * v k) * (Ideal.ofBits .f32 0xBF000000#32 * Ideal.div (Ideal.rsqrt (ms x)) (ms x))) (Ideal.ofBits .f32 0x44800000#32)
        + Ideal.div ((∑ k, x k * v k) * (Ideal.ofBits .f32 0xBF000000#32 * Ideal.div (Ideal.rsqrt (ms x)) (ms x))) (Ideal.ofBits .f32 0x44800000#32) * x l := by
  obtain ⟨a, ha, ea⟩ := ms_real x hx
  choose f hf using hx
  choose g hg using hv
  obtain rfl : x = fun k => (f k : EReal) := funext hf
  obtain rfl : v = fun k => (g k : EReal) := funext hg
  rw [ea, rsqrt_pos a ha, width_word, half_word]
  simp only [Ideal.div_coe ha.ne', Ideal.div_coe (show (1024 : ℝ) ≠ 0 by norm_num), ← EReal.coe_mul, Cert.Finite.coe_sum, sub_eq_add_neg, ← EReal.coe_neg, add_assoc, ← EReal.coe_add]
  refine congrArg (fun z : ℝ => d + (z : EReal)) ?_
  have hs : (Real.sqrt a)⁻¹ * (Real.sqrt a)⁻¹ = 1 / a := by
    rw [← mul_inv, Real.mul_self_sqrt ha.le, one_div]
  have hc : ∑ k, g k * f k = ∑ k, f k * g k := Finset.sum_congr rfl fun k _ => mul_comm _ _
  rw [hs, hc]
  ring

end Cert.Norm
end
-- ==== Proof.DhEq.lean ====
module

public import proofs.«01_k».proof.Defs
public import proofs.«01_k».proof.Proof.Gen.Pre_dh_finite
public import proofs.«01_k».proof.Proof.DhValue
public import proofs.«01_k».proof.Proof.DhRef
public import proofs.«01_k».proof.Proof.Norm

@[expose] public section

set_option maxRecDepth 16384

/-! The kernel's two arrays are the reference's, on finite arguments. -/

noncomputable section

namespace Cert.DhEq

open Idealize.ShloMosaic Idealize.ShloMosaic.TcCoe Idealize.SL.Sem
open Cert.DhKernelIdeal.Host Cert.DhKernelIdeal.Value

variable (m : (ℓ : Loc Cert.DhKernelIdeal.nD Cert.DhKernelIdeal.τ Cert.DhKernelIdeal.sig) → Buf (Elt Ideal) ℓ) (c : Dev Cert.DhKernelIdeal.nD)

/-- The arguments whose finiteness is asked for are real everywhere. -/
theorem reals (h : Cert.Pre_DhKernelIdeal_dh_finite (hPre_dh_finite := Cert.Pre_dh_finite.Gen.facts) m) :
    (∀ r l, ∃ a : ℝ, X m c r l = a) ∧ (∀ l, ∃ a : ℝ, NG m c l = a) ∧ (∀ l, ∃ a : ℝ, SC m c l = a) ∧ (∀ l k, ∃ a : ℝ, W m c l k = a)
      ∧ (∀ r k, ∃ a : ℝ, DP m c r k = a) := by
  have : Subsingleton Cert.Pre_dh_finite.S_.Idx := ⟨fun a b => funext fun i => i.elim0⟩
  have e := congrFun (h c) (fun i => i.elim0)
  unfold Cert.Pre_dh_finite.fn Cert.Pre_dh_finite.fn_part1 at e
  dsimp only at e
  obtain ⟨e, h5⟩ := Cert.Finite.both _ _ _ e
  obtain ⟨e, h4⟩ := Cert.Finite.both _ _ _ e
  obtain ⟨e, h2⟩ := Cert.Finite.both _ _ _ e
  obtain ⟨h0, h1⟩ := Cert.Finite.both _ _ _ e
  exact ⟨fun r l => Cert.Finite.real_of_all _ _ _ _ _ _ _ h0 _, fun l => Cert.Finite.real_of_all _ _ _ _ _ _ _ h1 _,
    fun l => Cert.Finite.real_of_all _ _ _ _ _ _ _ h2 _, fun l k => Cert.Finite.real_of_all _ _ _ _ _ _ _ h4 _,
    fun r k => Cert.Finite.real_of_all _ _ _ _ _ _ _ h5 _⟩

/-- The product's gradient is real. -/
theorem dh_real (h : Cert.Pre_DhKernelIdeal_dh_finite (hPre_dh_finite := Cert.Pre_dh_finite.Gen.facts) m) (r : Fin 8192) (l : Fin 1024) :
    ∃ a : ℝ, dh m c r l = a := by
  obtain ⟨-, -, -, hw, hd⟩ := reals m c h
  choose f hf using fun k => hd r k
  choose g hg using fun k => hw l k
  refine ⟨∑ k, f k * g k, ?_⟩
  rw [← Cert.Finite.coe_sum]
  unfold dh
  simp only [hf, hg, EReal.coe_mul]

/-- The argument array number 0. -/
abbrev x0 : Vec Ideal Cert.DhReferenceIdeal.S1x8192x1024 .f32 := m ((c : Thread Cert.DhKernelIdeal.nD Cert.DhKernelIdeal.τ).loc Cert.DhKernelIdeal.main_arg0)
/-- The argument array number 1. -/
abbrev x1 : Vec Ideal Cert.DhReferenceIdeal.S1x1024 .f32 := m ((c : Thread Cert.DhKernelIdeal.nD Cert.DhKernelIdeal.τ).loc Cert.DhKernelIdeal.main_arg1)
/-- The argument array number 2. -/
abbrev x2 : Vec Ideal Cert.DhReferenceIdeal.S1x1024 .f32 := m ((c : Thread Cert.DhKernelIdeal.nD Cert.DhKernelIdeal.τ).loc Cert.DhKernelIdeal.main_arg2)
/-- The argument array number 4. -/
abbrev x4 : Vec Ideal Cert.DhReferenceIdeal.S1x1024x8192 .f32 := m ((c : Thread Cert.DhKernelIdeal.nD Cert.DhKernelIdeal.τ).loc Cert.DhKernelIdeal.main_arg4)
/-- The argument array number 5. -/
abbrev x5 : Vec Ideal Cert.DhReferenceIdeal.S1x8192x8192 .f32 := m ((c : Thread Cert.DhKernelIdeal.nD Cert.DhKernelIdeal.τ).loc Cert.DhKernelIdeal.main_arg5)
/-- The argument array number 6. -/
abbrev x6 : Vec Ideal Cert.DhReferenceIdeal.S1x8192x1024 .f32 := m ((c : Thread Cert.DhKernelIdeal.nD Cert.DhKernelIdeal.τ).loc Cert.DhKernelIdeal.main_arg6)

theorem gx_eq (h : Cert.Pre_DhKernelIdeal_dh_finite (hPre_dh_finite := Cert.Pre_dh_finite.Gen.facts) m) :
    Cert.DhReferenceIdeal.Read.val_main_v62 (F := Ideal) (x0 m c) (x1 m c) (x2 m c) (x4 m c) (x5 m c) (x6 m c) = gxArr m c := by
  funext y
  obtain ⟨r, l, rfl⟩ := Cert.Arrays.exists_pair (a := 8192) (b := 1024) y
  obtain ⟨hx, hn, hs, -, -⟩ := reals m c h
  have hv : ∀ k, ∃ a : ℝ, dh m c r k * VEC m c 0 k = a := fun k => by
    obtain ⟨p, hp⟩ := dh_real m c h r k
    obtain ⟨q, hq⟩ := hn k
    obtain ⟨s, hs⟩ := hs k
    refine ⟨p * (q * (1 + s)), ?_⟩
    show dh m c r k * (NG m c k * (1 + SC m c k)) = _
    rw [hp, hq, hs]
    simp only [EReal.coe_mul, EReal.coe_add, EReal.coe_one]
  have hb := Cert.Norm.back (fun k => X m c r k) (fun k => dh m c r k * VEC m c 0 k) (fun k => hx r k) hv (DX2 m c r l) l
  refine (Cert.DhReferenceIdeal.Ref.v62 _ _ _ _ _ _ r l).trans ?_
  show _ = GX m c r l
  refine Eq.trans ?_ hb.symm
  have ev : ∀ k, dh m c r k * VEC m c 0 k = dh m c r k * (1 + SC m c k) * NG m c k := fun k => by
    show dh m c r k * (NG m c k * (1 + SC m c k)) = _
    rw [mul_assoc, mul_comm (NG m c k)]
  simp only [ev]
  rfl

theorem acc_eq : Cert.DhReferenceIdeal.Read.val_main_v64 (F := Ideal) (x0 m c) (x1 m c) (x2 m c) (x4 m c) (x5 m c) = accArr m c := by
  funext y
  obtain ⟨j, l, rfl⟩ := Cert.Arrays.exists_pair (a := 8) (b := 1024) y
  refine (Cert.DhReferenceIdeal.Ref.v64 _ _ _ _ _ j l).trans ?_
  show _ = ∑ r, term m c j r l
  by_cases e0 : j = 0
  · subst e0
    exact (Cert.DhReferenceIdeal.Ref.v31 _ _ l)
  by_cases e1 : j = 1
  · subst e1
    refine (Cert.DhReferenceIdeal.Ref.v38 _ _ _ _ l).trans (Finset.sum_congr rfl fun r _ => ?_)
    show X m c r l * rs m c r * NG m c l * dh m c r l = dh m c r l * (X m c r l * rs m c r) * NG m c l
    ac_rfl
  by_cases e2 : j = 2
  · subst e2
    refine (Cert.DhReferenceIdeal.Ref.v61 _ _ _ _ l).trans (Finset.sum_congr rfl fun r _ => ?_)
    show X m c r l * rs m c r * (dh m c r l * (1 + SC m c l)) = dh m c r l * (X m c r l * rs m c r) * (1 + SC m c l)
    ac_rfl
  have h0 : ¬j.val = 0 := fun e => e0 (Fin.ext e)
  have h1 : ¬j.val = 1 := fun e => e1 (Fin.ext e)
  have h2 : ¬j.val = 2 := fun e => e2 (Fin.ext e)
  simp only [term, if_neg h0, if_neg h1, if_neg h2, Finset.sum_const_zero]

end Cert.DhEq
end
-- ==== Proof.RowBlocks.lean ====
module

public import proofs.«01_k».proof.Proof.Arrays

@[expose] public section

noncomputable section

/-! Arrays cut into blocks of whole rows. -/

namespace Cert.RowBlocks

open Idealize.ShloMosaic

/-- Where a block's index lies in the array, when the block's index map is `![n, 0]`. -/
theorem at_row (h w : ℕ) {n : ℕ} (f : Fin 2 → ℕ) (e : f = ![n, 0]) (r k : ℕ) : f 0 * h + 1 * r = n * h + r ∧ f 1 * w + 1 * k = k := by
  subst e
  exact ⟨by show n * h + 1 * r = _; omega, by show 0 * w + 1 * k = _; omega⟩

/-- An array from its value at a row and a column. -/
def arr {a b : ℕ} {α : Type} (f : Fin a → Fin b → α) (i : (⟨2, ![a, b]⟩ : Shape).Idx) : α := f (i 0) (i 1)

/-- A block that holds the values of `f` from row `n * h` on holds the array's. -/
theorem in_arr {a b h n : ℕ} {α : Type} (u : (⟨2, ![h, b]⟩ : Shape).Idx → α) (f : Fin a → Fin b → α)
    (e : ∀ (r : Fin h) (k : Fin b) (z : Fin a), z.val = n * h + r.val → u (ix2 r k) = f z k)
    (y : (⟨2, ![h, b]⟩ : Shape).Idx) (z : (⟨2, ![a, b]⟩ : Shape).Idx) (h0 : (z 0).val = n * h + (y 0).val) (h1 : (z 1).val = (y 1).val) : u y = arr f z := by
  obtain ⟨r, k, rfl⟩ := Cert.Arrays.exists_pair (a := h) (b := b) y
  exact (e r k (z 0) h0).trans (congrArg (f (z 0)) (Fin.ext h1.symm))

/-- An array read through a block that is the whole array. -/
theorem read_whole {a b : ℕ} {α : Type} (x : (⟨2, ![a, b]⟩ : Shape).Idx → α) (e : (⟨2, ![a, b]⟩ : Shape).Idx → (⟨2, ![a, b]⟩ : Shape).Idx)
    (f : Fin 2 → ℕ) (hf : ∀ i, f i = 0) (h0 : ∀ y, (e y 0).val = f 0 * a + 1 * (y 0).val) (h1 : ∀ y, (e y 1).val = f 1 * b + 1 * (y 1).val)
    (y : (⟨2, ![a, b]⟩ : Shape).Idx) : x (e y) = x y :=
  Cert.Arrays.same_pair x _ _ (by rw [h0, hf]; omega) (by rw [h1, hf]; omega)

/-- A sum over 8192 positions, added up 512 positions at a time. -/
theorem sum_blocks (f : Fin 8192 → EReal) (p : (n : ℕ) → n < 16 → EReal) (h0 : p 0 (by omega) = 0 + ∑ r : Fin 512, f ⟨r.val, by omega⟩)
    (hs : ∀ (n : ℕ) (h : n + 1 < 16), p (n + 1) h = p n (by omega) + ∑ r : Fin 512, f ⟨(n + 1) * 512 + r.val, by omega⟩) (n : ℕ) (hn : n < 16) (e15 : n = 15) : p n hn = ∑ r, f r := by
  have e : ∀ (n : ℕ) (h : n < 16), p n h = ∑ i ∈ Finset.range ((n + 1) * 512), if h : i < 8192 then f ⟨i, h⟩ else 0 := by
    intro n
    induction n with
    | zero =>
      intro _
      rw [h0, zero_add, Finset.sum_range]
      exact Finset.sum_congr rfl fun r _ => by rw [dif_pos (show r.val < 8192 by have := r.isLt; omega)]
    | succ n e =>
      intro h
      rw [hs n h, e (by omega), Nat.succ_mul (n + 1) 512, Finset.sum_range_add, Finset.sum_range (n := 512)]
      exact congrArg _ (Finset.sum_congr rfl fun r _ => by rw [dif_pos (show (n + 1) * 512 + r.val < 8192 by have := r.isLt; omega)])
  subst e15
  rw [e 15 hn, Finset.sum_range]
  exact Finset.sum_congr rfl fun r _ => dif_pos r.isLt

end Cert.RowBlocks
end
-- ==== Proof.ManyEq.lean ====
module

public import proofs.«01_k».proof.Proof.Gen.ManyKernelIdeal.Value
public import proofs.«01_k».proof.Proof.Gen.ManyReferenceIdeal.Read
public import proofs.«01_k».proof.Proof.RowBlocks
public import Idealize.ShloMosaic.Lib.Pipeline.ValueKit.Tiles
public import Idealize.ShloMosaic.Lib.Pipeline.ValueKit.Partial

@[expose] public section

set_option maxRecDepth 16384

noncomputable section

/-! The optimiser's step over the three square weights in one call, each weight whole. -/

namespace Cert.ManyKernelIdeal.Value

open Cert.ManyKernelIdeal Cert.ManyKernelIdeal.Gen Idealize.ShloMosaic Idealize.ShloMosaic.TcCoe Idealize.SL.Sem
open Cert.RowBlocks (read_whole)
open Cert.ManyReferenceIdeal.Read

section

variable (w : Vec Ideal S1x512x256 .f32) (g : Vec Ideal S512x256 .f32) (p q : Vec Ideal S1x512x256 .f32)

/-- The stored step of the first weight is the reference's. -/
theorem a_m : k0_pay1 (F := Ideal) g (shapeCast S512x256 p shapeCasts_S1x512x256_S512x256) = val_main_v7 (F := Ideal) g p := by
  unfold k0_pay1
  rw [shapeCast_self]
  rfl

@[inherit_doc a_m]
theorem a_v : k0_pay2 (F := Ideal) g (shapeCast S512x256 q shapeCasts_S1x512x256_S512x256) = val_main_v13 (F := Ideal) g q := by
  unfold k0_pay2
  rw [shapeCast_self]
  rfl

@[inherit_doc a_m]
theorem a_d : k0_pay3 (F := Ideal) g (shapeCast S512x256 w shapeCasts_S1x512x256_S512x256) (shapeCast S512x256 p shapeCasts_S1x512x256_S512x256)
    (shapeCast S512x256 q shapeCasts_S1x512x256_S512x256) = val_main_v26 (F := Ideal) w g p q := by
  unfold k0_pay3
  rw [a_m, a_v, shapeCast_self]
  rfl

end

section

variable (w : Vec Ideal S1x256x1024 .f32) (g : Vec Ideal S256x1024 .f32) (p q : Vec Ideal S1x256x1024 .f32)

/-- The stored step of the second weight is the reference's. -/
theorem b_m : k0_pay4 (F := Ideal) g (shapeCast S256x1024 p shapeCasts_S1x256x1024_S256x1024) = val_main_v34 (F := Ideal) g p := by
  unfold k0_pay4
  rw [shapeCast_self]
  rfl

@[inherit_doc b_m]
theorem b_v : k0_pay5 (F := Ideal) g (shapeCast S256x1024 q shapeCasts_S1x256x1024_S256x1024) = val_main_v40 (F := Ideal) g q := by
  unfold k0_pay5
  rw [shapeCast_self]
  rfl

@[inherit_doc b_m]
theorem b_d : k0_pay6 (F := Ideal) g (shapeCast S256x1024 w shapeCasts_S1x256x1024_S256x1024) (shapeCast S256x1024 p shapeCasts_S1x256x1024_S256x1024)
    (shapeCast S256x1024 q shapeCasts_S1x256x1024_S256x1024) = val_main_v53 (F := Ideal) w g p q := by
  unfold k0_pay6
  rw [b_m, b_v, shapeCast_self]
  rfl

/-- The third weight has the second's shape, and its step is the same. -/
theorem c_m : k0_pay7 (F := Ideal) g (shapeCast S256x1024 p shapeCasts_S1x256x1024_S256x1024) = val_main_v61 (F := Ideal) g p := b_m g p

@[inherit_doc c_m]
theorem c_v : k0_pay8 (F := Ideal) g (shapeCast S256x1024 q shapeCasts_S1x256x1024_S256x1024) = val_main_v67 (F := Ideal) g q := b_v g q

@[inherit_doc c_m]
theorem c_d : k0_pay9 (F := Ideal) g (shapeCast S256x1024 w shapeCasts_S1x256x1024_S256x1024) (shapeCast S256x1024 p shapeCasts_S1x256x1024_S256x1024)
    (shapeCast S256x1024 q shapeCasts_S1x256x1024_S256x1024) = val_main_v80 (F := Ideal) w g p q := b_d w g p q

end

variable (m : (ℓ : Loc nD τ sig) → Buf (Elt Ideal) ℓ) (c : Dev nD)

/-- An argument as the program finds it. -/
abbrev arg (b : Ref sig .tc) : Buf (Elt Ideal) ((c : Thread nD τ).loc b) := m ((c : Thread nD τ).loc b)

theorem hz : (![0, 0] : Fin 2 → Nat) = fun _ => 0 := funext fun a => by fin_cases a <;> rfl

theorem blk0 (t : Fin cfg0.N) : (iblk m c 0 t : Vec Ideal S512x256 .f32) = shapeCast S512x256 (arg m c main_arg0) shapeCasts_S1x512x256_S512x256 := by
  have e : (V m c main_v0 : Vec Ideal S512x256 .f32) = shapeCast S512x256 (arg m c main_arg0) shapeCasts_S1x512x256_S512x256 := by
    unfold_abbrev_sides
    after_results
    rfl
  exact (funext (read_whole (V m c main_v0) (win0_0.blk t).view.emb (win0_0.index t) (fun _ => rfl) (fun _ => rfl) fun _ => rfl)).trans e

theorem blk1 (t : Fin cfg0.N) : (iblk m c 1 t : Vec Ideal S512x256 .f32) = arg m c main_arg1 :=
  (funext (read_whole (V m c main_arg1) (win0_1.blk t).view.emb (win0_1.index t) (fun _ => rfl) (fun _ => rfl) fun _ => rfl)).trans (V_main_arg1 m c)

theorem blk2 (t : Fin cfg0.N) : (iblk m c 2 t : Vec Ideal S512x256 .f32) = shapeCast S512x256 (arg m c main_arg2) shapeCasts_S1x512x256_S512x256 := by
  have e : (V m c main_v1 : Vec Ideal S512x256 .f32) = shapeCast S512x256 (arg m c main_arg2) shapeCasts_S1x512x256_S512x256 := by
    unfold_abbrev_sides
    after_results
    rfl
  exact (funext (read_whole (V m c main_v1) (win0_2.blk t).view.emb (win0_2.index t) (fun _ => rfl) (fun _ => rfl) fun _ => rfl)).trans e

theorem blk3 (t : Fin cfg0.N) : (iblk m c 3 t : Vec Ideal S512x256 .f32) = shapeCast S512x256 (arg m c main_arg3) shapeCasts_S1x512x256_S512x256 := by
  have e : (V m c main_v2 : Vec Ideal S512x256 .f32) = shapeCast S512x256 (arg m c main_arg3) shapeCasts_S1x512x256_S512x256 := by
    unfold_abbrev_sides
    after_results
    rfl
  exact (funext (read_whole (V m c main_v2) (win0_3.blk t).view.emb (win0_3.index t) (fun _ => rfl) (fun _ => rfl) fun _ => rfl)).trans e

theorem blk4 (t : Fin cfg0.N) : (iblk m c 4 t : Vec Ideal S256x1024 .f32) = shapeCast S256x1024 (arg m c main_arg4) shapeCasts_S1x256x1024_S256x1024 := by
  have e : (V m c main_v3 : Vec Ideal S256x1024 .f32) = shapeCast S256x1024 (arg m c main_arg4) shapeCasts_S1x256x1024_S256x1024 := by
    unfold_abbrev_sides
    after_results
    rfl
  exact (funext (read_whole (V m c main_v3) (win0_4.blk t).view.emb (win0_4.index t) (fun _ => rfl) (fun _ => rfl) fun _ => rfl)).trans e

theorem blk5 (t : Fin cfg0.N) : (iblk m c 5 t : Vec Ideal S256x1024 .f32) = arg m c main_arg5 :=
  (funext (read_whole (V m c main_arg5) (win0_5.blk t).view.emb (win0_5.index t) (fun _ => rfl) (fun _ => rfl) fun _ => rfl)).trans (V_main_arg5 m c)

theorem blk6 (t : Fin cfg0.N) : (iblk m c 6 t : Vec Ideal S256x1024 .f32) = shapeCast S256x1024 (arg m c main_arg6) shapeCasts_S1x256x1024_S256x1024 := by
  have e : (V m c main_v4 : Vec Ideal S256x1024 .f32) = shapeCast S256x1024 (arg m c main_arg6) shapeCasts_S1x256x1024_S256x1024 := by
    unfold_abbrev_sides
    after_results
    rfl
  exact (funext (read_whole (V m c main_v4) (win0_6.blk t).view.emb (win0_6.index t) (fun _ => rfl) (fun _ => rfl) fun _ => rfl)).trans e

theorem blk7 (t : Fin cfg0.N) : (iblk m c 7 t : Vec Ideal S256x1024 .f32) = shapeCast S256x1024 (arg m c main_arg7) shapeCasts_S1x256x1024_S256x1024 := by
  have e : (V m c main_v5 : Vec Ideal S256x1024 .f32) = shapeCast S256x1024 (arg m c main_arg7) shapeCasts_S1x256x1024_S256x1024 := by
    unfold_abbrev_sides
    after_results
    rfl
  exact (funext (read_whole (V m c main_v5) (win0_7.blk t).view.emb (win0_7.index t) (fun _ => rfl) (fun _ => rfl) fun _ => rfl)).trans e

theorem blk8 (t : Fin cfg0.N) : (iblk m c 8 t : Vec Ideal S256x1024 .f32) = shapeCast S256x1024 (arg m c main_arg8) shapeCasts_S1x256x1024_S256x1024 := by
  have e : (V m c main_v6 : Vec Ideal S256x1024 .f32) = shapeCast S256x1024 (arg m c main_arg8) shapeCasts_S1x256x1024_S256x1024 := by
    unfold_abbrev_sides
    after_results
    rfl
  exact (funext (read_whole (V m c main_v6) (win0_8.blk t).view.emb (win0_8.index t) (fun _ => rfl) (fun _ => rfl) fun _ => rfl)).trans e

theorem blk9 (t : Fin cfg0.N) : (iblk m c 9 t : Vec Ideal S256x1024 .f32) = arg m c main_arg9 :=
  (funext (read_whole (V m c main_arg9) (win0_9.blk t).view.emb (win0_9.index t) (fun _ => rfl) (fun _ => rfl) fun _ => rfl)).trans (V_main_arg9 m c)

theorem blk10 (t : Fin cfg0.N) : (iblk m c 10 t : Vec Ideal S256x1024 .f32) = shapeCast S256x1024 (arg m c main_arg10) shapeCasts_S1x256x1024_S256x1024 := by
  have e : (V m c main_v7 : Vec Ideal S256x1024 .f32) = shapeCast S256x1024 (arg m c main_arg10) shapeCasts_S1x256x1024_S256x1024 := by
    unfold_abbrev_sides
    after_results
    rfl
  exact (funext (read_whole (V m c main_v7) (win0_10.blk t).view.emb (win0_10.index t) (fun _ => rfl) (fun _ => rfl) fun _ => rfl)).trans e

theorem blk11 (t : Fin cfg0.N) : (iblk m c 11 t : Vec Ideal S256x1024 .f32) = shapeCast S256x1024 (arg m c main_arg11) shapeCasts_S1x256x1024_S256x1024 := by
  have e : (V m c main_v8 : Vec Ideal S256x1024 .f32) = shapeCast S256x1024 (arg m c main_arg11) shapeCasts_S1x256x1024_S256x1024 := by
    unfold_abbrev_sides
    after_results
    rfl
  exact (funext (read_whole (V m c main_v8) (win0_11.blk t).view.emb (win0_11.index t) (fun _ => rfl) (fun _ => rfl) fun _ => rfl)).trans e

theorem final12 : (dats m 0 c).arrAt 12 cfg0.N = arg m c main_arg1 := by
  refine (dats m 0 c).arrAt_eq_of_covers 12 _ (by decide +kernel) fun t hf y => ?_
  blk_simp
  rw [after0_12]
  refine Eq.trans ?_ (read_whole (a := 512) (b := 256) _ (win0_12.blk t).view.emb (win0_12.index t) (fun _ => rfl) (fun _ => rfl) (fun _ => rfl) y).symm
  unfold out0_12
  rw [View.canon_unit_zero hz]
  rw [blk1]
  exact congrFun (View.ld_unit_zero (S := S512x256) hz _ _) y

theorem final13 : (dats m 0 c).arrAt 13 cfg0.N = val_main_v26 (F := Ideal) (arg m c main_arg0) (arg m c main_arg1) (arg m c main_arg2) (arg m c main_arg3) := by
  refine (dats m 0 c).arrAt_eq_of_covers 13 _ (by decide +kernel) fun t hf y => ?_
  blk_simp
  rw [after0_13]
  refine Eq.trans ?_ (read_whole (a := 512) (b := 256) _ (win0_13.blk t).view.emb (win0_13.index t) (fun _ => rfl) (fun _ => rfl) (fun _ => rfl) y).symm
  unfold out0_13
  rw [View.canon_unit_zero hz]
  simp only [View.ld_unit_zero (S := S512x256) hz]
  rw [blk1, blk0, blk2, blk3, a_d]

theorem final14 : (dats m 0 c).arrAt 14 cfg0.N = val_main_v7 (F := Ideal) (arg m c main_arg1) (arg m c main_arg2) := by
  refine (dats m 0 c).arrAt_eq_of_covers 14 _ (by decide +kernel) fun t hf y => ?_
  blk_simp
  rw [after0_14]
  refine Eq.trans ?_ (read_whole (a := 512) (b := 256) _ (win0_14.blk t).view.emb (win0_14.index t) (fun _ => rfl) (fun _ => rfl) (fun _ => rfl) y).symm
  unfold out0_14
  rw [View.canon_unit_zero hz]
  simp only [View.ld_unit_zero (S := S512x256) hz]
  rw [blk1, blk2, a_m]

theorem final15 : (dats m 0 c).arrAt 15 cfg0.N = val_main_v13 (F := Ideal) (arg m c main_arg1) (arg m c main_arg3) := by
  refine (dats m 0 c).arrAt_eq_of_covers 15 _ (by decide +kernel) fun t hf y => ?_
  blk_simp
  rw [after0_15]
  refine Eq.trans ?_ (read_whole (a := 512) (b := 256) _ (win0_15.blk t).view.emb (win0_15.index t) (fun _ => rfl) (fun _ => rfl) (fun _ => rfl) y).symm
  unfold out0_15
  rw [View.canon_unit_zero hz]
  simp only [View.ld_unit_zero (S := S512x256) hz]
  rw [blk1, blk3, a_v]

theorem final16 : (dats m 0 c).arrAt 16 cfg0.N = arg m c main_arg5 := by
  refine (dats m 0 c).arrAt_eq_of_covers 16 _ (by decide +kernel) fun t hf y => ?_
  blk_simp
  rw [after0_16]
  refine Eq.trans ?_ (read_whole (a := 256) (b := 1024) _ (win0_16.blk t).view.emb (win0_16.index t) (fun _ => rfl) (fun _ => rfl) (fun _ => rfl) y).symm
  unfold out0_16
  rw [View.canon_unit_zero hz]
  rw [blk5]
  exact congrFun (View.ld_unit_zero (S := S256x1024) hz _ _) y

theorem final17 : (dats m 0 c).arrAt 17 cfg0.N = val_main_v53 (F := Ideal) (arg m c main_arg4) (arg m c main_arg5) (arg m c main_arg6) (arg m c main_arg7) := by
  refine (dats m 0 c).arrAt_eq_of_covers 17 _ (by decide +kernel) fun t hf y => ?_
  blk_simp
  rw [after0_17]
  refine Eq.trans ?_ (read_whole (a := 256) (b := 1024) _ (win0_17.blk t).view.emb (win0_17.index t) (fun _ => rfl) (fun _ => rfl) (fun _ => rfl) y).symm
  unfold out0_17
  rw [View.canon_unit_zero hz]
  simp only [View.ld_unit_zero (S := S256x1024) hz]
  rw [blk5, blk4, blk6, blk7, b_d]

theorem final18 : (dats m 0 c).arrAt 18 cfg0.N = val_main_v34 (F := Ideal) (arg m c main_arg5) (arg m c main_arg6) := by
  refine (dats m 0 c).arrAt_eq_of_covers 18 _ (by decide +kernel) fun t hf y => ?_
  blk_simp
  rw [after0_18]
  refine Eq.trans ?_ (read_whole (a := 256) (b := 1024) _ (win0_18.blk t).view.emb (win0_18.index t) (fun _ => rfl) (fun _ => rfl) (fun _ => rfl) y).symm
  unfold out0_18
  rw [View.canon_unit_zero hz]
  simp only [View.ld_unit_zero (S := S256x1024) hz]
  rw [blk5, blk6, b_m]

theorem final19 : (dats m 0 c).arrAt 19 cfg0.N = val_main_v40 (F := Ideal) (arg m c main_arg5) (arg m c main_arg7) := by
  refine (dats m 0 c).arrAt_eq_of_covers 19 _ (by decide +kernel) fun t hf y => ?_
  blk_simp
  rw [after0_19]
  refine Eq.trans ?_ (read_whole (a := 256) (b := 1024) _ (win0_19.blk t).view.emb (win0_19.index t) (fun _ => rfl) (fun _ => rfl) (fun _ => rfl) y).symm
  unfold out0_19
  rw [View.canon_unit_zero hz]
  simp only [View.ld_unit_zero (S := S256x1024) hz]
  rw [blk5, blk7, b_v]

theorem final20 : (dats m 0 c).arrAt 20 cfg0.N = arg m c main_arg9 := by
  refine (dats m 0 c).arrAt_eq_of_covers 20 _ (by decide +kernel) fun t hf y => ?_
  blk_simp
  rw [after0_20]
  refine Eq.trans ?_ (read_whole (a := 256) (b := 1024) _ (win0_20.blk t).view.emb (win0_20.index t) (fun _ => rfl) (fun _ => rfl) (fun _ => rfl) y).symm
  unfold out0_20
  rw [View.canon_unit_zero hz]
  rw [blk9]
  exact congrFun (View.ld_unit_zero (S := S256x1024) hz _ _) y

theorem final21 : (dats m 0 c).arrAt 21 cfg0.N = val_main_v80 (F := Ideal) (arg m c main_arg8) (arg m c main_arg9) (arg m c main_arg10) (arg m c main_arg11) := by
  refine (dats m 0 c).arrAt_eq_of_covers 21 _ (by decide +kernel) fun t hf y => ?_
  blk_simp
  rw [after0_21]
  refine Eq.trans ?_ (read_whole (a := 256) (b := 1024) _ (win0_21.blk t).view.emb (win0_21.index t) (fun _ => rfl) (fun _ => rfl) (fun _ => rfl) y).symm
  unfold out0_21
  rw [View.canon_unit_zero hz]
  simp only [View.ld_unit_zero (S := S256x1024) hz]
  rw [blk9, blk8, blk10, blk11, c_d]

theorem final22 : (dats m 0 c).arrAt 22 cfg0.N = val_main_v61 (F := Ideal) (arg m c main_arg9) (arg m c main_arg10) := by
  refine (dats m 0 c).arrAt_eq_of_covers 22 _ (by decide +kernel) fun t hf y => ?_
  blk_simp
  rw [after0_22]
  refine Eq.trans ?_ (read_whole (a := 256) (b := 1024) _ (win0_22.blk t).view.emb (win0_22.index t) (fun _ => rfl) (fun _ => rfl) (fun _ => rfl) y).symm
  unfold out0_22
  rw [View.canon_unit_zero hz]
  simp only [View.ld_unit_zero (S := S256x1024) hz]
  rw [blk9, blk10, c_m]

theorem final23 : (dats m 0 c).arrAt 23 cfg0.N = val_main_v67 (F := Ideal) (arg m c main_arg9) (arg m c main_arg11) := by
  refine (dats m 0 c).arrAt_eq_of_covers 23 _ (by decide +kernel) fun t hf y => ?_
  blk_simp
  rw [after0_23]
  refine Eq.trans ?_ (read_whole (a := 256) (b := 1024) _ (win0_23.blk t).view.emb (win0_23.index t) (fun _ => rfl) (fun _ => rfl) (fun _ => rfl) y).symm
  unfold out0_23
  rw [View.canon_unit_zero hz]
  simp only [View.ld_unit_zero (S := S256x1024) hz]
  rw [blk9, blk11, c_v]

end Cert.ManyKernelIdeal.Value
end
-- ==== Proof.HalfEq.lean ====
module

public import proofs.«01_k».proof.Proof.Gen.HalfKernelIdeal.Value
public import proofs.«01_k».proof.Proof.Gen.HalfReferenceIdeal.Read
public import Idealize.ShloMosaic.Lib.Pointwise

@[expose] public section

noncomputable section

/-! The sum of one device's half of a gradient and its neighbour's, received in bf16. -/

namespace Cert.HalfKernelIdeal.Value

open Cert.HalfKernelIdeal Cert.HalfKernelIdeal.Gen Idealize.ShloMosaic Idealize.ShloMosaic.TcCoe Idealize.SL.Sem
open Cert.HalfReferenceIdeal.Read

variable (x : Vec Ideal S4x1024x2048 .f32) (y : Vec Ideal S4x512x2048 .bf16)

/-- The first half's index in the whole. -/
theorem half_index (i : S4x512x2048.Idx) : idx_main_v0 i = inIdx2_0 i := by
  funext a
  match a with
  | ⟨0, _⟩ => exact Fin.ext (by show _ = (i 0).val; simp [idx_main_v0])
  | ⟨1, _⟩ => exact Fin.ext (by show _ = (i 1).val + 0; simp [idx_main_v0])
  | ⟨2, _⟩ => exact Fin.ext (by show _ = (i 2).val; simp [idx_main_v0])

theorem ref2 : val_main_v2 (F := Ideal) x y = G2 (F := Ideal) x y := by
  funext i
  rw [val_main_v2_apply, val_main_v0_apply, val_main_v1_apply, half_index]

theorem ref3 : val_main_v3 (F := Ideal) x y = G3 (F := Ideal) x y := by
  funext i
  rw [val_main_v3_apply, ref2]

end Cert.HalfKernelIdeal.Value
end
-- ==== Proof.CastEq.lean ====
module

public import proofs.«01_k».proof.Proof.Gen.CastKernelIdeal.Value
public import proofs.«01_k».proof.Proof.Gen.CastReferenceIdeal.Read
public import proofs.«01_k».proof.Proof.RowBlocks
public import Idealize.ShloMosaic.Lib.Pipeline.ValueKit.Tiles
public import Idealize.ShloMosaic.Lib.Pipeline.ValueKit.Partial

@[expose] public section

noncomputable section

/-! One device's columns of a weight, cast for the gather 512 rows at a time. -/

namespace Cert.CastKernelIdeal.Value

open Cert.CastKernelIdeal Cert.CastKernelIdeal.Gen Idealize.ShloMosaic Idealize.ShloMosaic.TcCoe Idealize.SL.Sem
open Cert.RowBlocks (at_row arr in_arr)

theorem pay (x : Vec Ideal S512x2048 .f32) (i : S512x2048.Idx) : k0_pay1 (F := Ideal) x i = x i := by
  unfold k0_pay1
  rw [shapeCast_self]
  rfl

variable (m : (ℓ : Loc nD τ sig) → Buf (Elt Ideal) ℓ) (c : Dev nD)

/-- The weight as the program finds it. -/
abbrev W (r : Fin 1024) (k : Fin 2048) : EReal := (m ((c : Thread nD τ).loc main_arg0) : Vec Ideal S1x1024x2048 .f32) (ix3 0 r k)

theorem hz : (![0, 0] : Fin 2 → Nat) = fun _ => 0 := funext fun a => by fin_cases a <;> rfl

theorem idx : ∀ t : Fin cfg0.N, win0_0.index t = ![t.val, 0] ∧ win0_2.index t = ![t.val, 0] :=
  (by decide +kernel : ∀ t : Fin grid0.N, win0_0.index t = ![t.val, 0] ∧ win0_2.index t = ![t.val, 0])

theorem blk0 (t : Fin cfg0.N) (r : Fin 512) (k : Fin 2048) (z : Fin 1024) (hr : z.val = t.val * 512 + r.val) :
    (iblk m c 0 t : Vec Ideal S512x2048 .f32) (ix2 r k) = W m c z k := by
  have e : (V m c main_v0 : Vec Ideal S1024x2048 .f32) = shapeCast S1024x2048 (m ((c : Thread nD τ).loc main_arg0)) shapeCasts_S1x1024x2048_S1024x2048 := by
    unfold_abbrev_sides
    after_results
    rfl
  refine Eq.trans ?_ ((congrFun e _).trans (Cert.Arrays.drop_lead _ shapeCasts_S1x1024x2048_S1024x2048 z k))
  unfold iblk
  rw [View.read_apply]
  have h := at_row 512 2048 _ (idx t).1 r.val k.val
  exact Cert.Arrays.same_pair (V m c main_v0) _ (ix2 z k) (h.1.trans hr.symm) h.2

theorem final2 : (dats m 0 c).arrAt 2 cfg0.N = arr (W m c) := by
  refine (dats m 0 c).arrAt_eq_of_covers 2 _ (by decide +kernel) fun t hf y => ?_
  blk_simp
  rw [after0_2]
  have h := at_row 512 2048 _ (idx t).2 (y 0).val (y 1).val
  refine in_arr _ _ (fun r k z hr => ?_) y _ h.1 h.2
  unfold out0_2
  rw [View.canon_unit_zero hz]
  refine Eq.trans ?_ (blk0 m c t r k z hr)
  exact (pay _ _).trans (congrFun (View.ld_unit_zero (S := S512x2048) hz _ _) _)

theorem ref1 (w : Vec Ideal S1x1024x2048 .f32) : Cert.CastReferenceIdeal.Read.val_main_v1 (F := Ideal) w = arr fun r k => w (ix3 0 r k) := by
  funext i
  obtain ⟨r, k, rfl⟩ := Cert.Arrays.exists_pair (a := 1024) (b := 2048) i
  exact Cert.Arrays.drop_lead w shapeCasts_S1x1024x2048_S1024x2048 r k

end Cert.CastKernelIdeal.Value
end
-- ==== Proof.Dw3Eq.lean ====
module

public import proofs.«01_k».proof.Proof.Gen.Dw3KernelIdeal.Value
public import proofs.«01_k».proof.Proof.Gen.Dw3ReferenceIdeal.Read
public import proofs.«01_k».proof.Proof.RowBlocks
public import Idealize.ShloMosaic.Lib.Pipeline.ValueKit.Tiles
public import Idealize.ShloMosaic.Lib.Pipeline.ValueKit.Partial
public import Idealize.ShloMosaic.Lib.Pipeline.ReadBack

@[expose] public section

set_option maxRecDepth 16384

noncomputable section

/-! Three gradients of weights: products over the positions, added up 512 positions at a time. -/

namespace Cert.Dw3KernelIdeal.Value

open Cert.Dw3KernelIdeal Cert.Dw3KernelIdeal.Gen Idealize.ShloMosaic Idealize.ShloMosaic.TcCoe Idealize.SL.Sem
open Cert.RowBlocks (at_row arr in_arr)

theorem hz : (![0, 0] : Fin 2 → Nat) = fun _ => 0 := funext fun a => by fin_cases a <;> rfl

theorem pay7 (v : Vec Ideal S1024x1024 .f32) (x y : Vec Ideal S512x1024 .bf16) (i j : Fin 1024) :
    k0_pay7 (F := Ideal) v x y (ix2 i j) = v (ix2 i j) + ∑ r : Fin 512, x (ix2 r i) * y (ix2 r j) := by
  pointwise [k0_pay7]

theorem pay8 (v : Vec Ideal S512x1024 .f32) (x : Vec Ideal S512x512 .bf16) (y : Vec Ideal S512x1024 .bf16) (i : Fin 512) (j : Fin 1024) :
    k0_pay8 (F := Ideal) v x y (ix2 i j) = v (ix2 i j) + ∑ r : Fin 512, x (ix2 r i) * y (ix2 r j) := by
  pointwise [k0_pay8]

variable (m : (ℓ : Loc nD τ sig) → Buf (Elt Ideal) ℓ) (c : Dev nD)

theorem first (t : Fin cfg0.N) (h0 : t.val % 16 = 0) (h1 : ¬t.val % 16 = 15) :
    (outsAt0 m c t.val t.isLt).1 = k0_pay7 k0_pay4 (iblk m c 0 t) (iblk m c 1 t)
      ∧ (outsAt0 m c t.val t.isLt).2.2.1 = k0_pay8 k0_pay5 (iblk m c 2 t) (iblk m c 3 t)
      ∧ (outsAt0 m c t.val t.isLt).2.2.2.2.1 = k0_pay9 k0_pay6 (iblk m c 4 t) (iblk m c 5 t) := by
  rw [outsAt0_A m c t h0 h1]
  dsimp only
  unfold out0_A_6 out0_A_8 out0_A_10 kernelRun0_A
  dsimp only
  sl_unfold_words
  simp only [View.read_writes_junk_eq_canon, View.canon_cons_unit_zero (S := S1024x1024) hz, View.canon_cons_unit_zero (S := S512x1024) hz, View.readCov_unit_zero (S := S1024x1024) _ hz, View.readCov_unit_zero (S := S512x1024) _ hz, View.readAt_eq_ld, (hs0_0 t).read_unread, (hs0_1 t).read_unread, (hs0_2 t).read_unread, (hs0_3 t).read_unread, (hs0_4 t).read_unread, (hs0_5 t).read_unread,
    View.ld_unit_zero (S := S512x1024) hz, View.ld_unit_zero (S := S1024x1024) hz, View.ld_unit_zero (S := S512x512) hz]
  trivial

theorem next (t : Fin cfg0.N) (h0 : ¬t.val % 16 = 0) :
    (outsAt0 m c t.val t.isLt).1 = k0_pay7 (outsAt0 m c (t.val - 1) (Nat.lt_of_le_of_lt (Nat.sub_le _ _) t.isLt)).1 (iblk m c 0 t) (iblk m c 1 t)
      ∧ (outsAt0 m c t.val t.isLt).2.2.1 = k0_pay8 (outsAt0 m c (t.val - 1) (Nat.lt_of_le_of_lt (Nat.sub_le _ _) t.isLt)).2.2.1 (iblk m c 2 t) (iblk m c 3 t)
      ∧ (outsAt0 m c t.val t.isLt).2.2.2.2.1 = k0_pay9 (outsAt0 m c (t.val - 1) (Nat.lt_of_le_of_lt (Nat.sub_le _ _) t.isLt)).2.2.2.2.1 (iblk m c 4 t) (iblk m c 5 t) := by
  by_cases h1 : t.val % 16 = 15
  · rw [outsAt0_C m c t h0 h1]
    dsimp only
    unfold out0_C_6 out0_C_8 out0_C_10 kernelRun0_C
    dsimp only
    sl_unfold_words
    simp only [View.read_writes_junk_eq_canon, View.canon_cons_unit_zero (S := S1024x1024) hz, View.canon_cons_unit_zero (S := S512x1024) hz, View.readCov_unit_zero (S := S1024x1024) _ hz, View.readCov_unit_zero (S := S512x1024) _ hz, View.readAt_eq_ld, (hs0_0 t).read_unread, (hs0_1 t).read_unread, (hs0_2 t).read_unread, (hs0_3 t).read_unread, (hs0_4 t).read_unread, (hs0_5 t).read_unread, (hs0_6 t).read_unread, (hs0_8 t).read_unread, (hs0_10 t).read_unread,
      View.ld_unit_zero (S := S512x1024) hz, View.ld_unit_zero (S := S1024x1024) hz, View.ld_unit_zero (S := S512x512) hz]
    trivial
  · rw [outsAt0_B m c t h0 h1]
    dsimp only
    unfold out0_B_6 out0_B_8 out0_B_10 kernelRun0_B
    dsimp only
    sl_unfold_words
    simp only [View.read_writes_junk_eq_canon, View.canon_cons_unit_zero (S := S1024x1024) hz, View.canon_cons_unit_zero (S := S512x1024) hz, View.readCov_unit_zero (S := S1024x1024) _ hz, View.readCov_unit_zero (S := S512x1024) _ hz, View.readAt_eq_ld, (hs0_0 t).read_unread, (hs0_1 t).read_unread, (hs0_2 t).read_unread, (hs0_3 t).read_unread, (hs0_4 t).read_unread, (hs0_5 t).read_unread, (hs0_6 t).read_unread, (hs0_8 t).read_unread, (hs0_10 t).read_unread,
      View.ld_unit_zero (S := S512x1024) hz, View.ld_unit_zero (S := S1024x1024) hz, View.ld_unit_zero (S := S512x512) hz]
    trivial

theorem last (t : Fin cfg0.N) (h0 : ¬t.val % 16 = 0) (h1 : t.val % 16 = 15) :
    (outsAt0 m c t.val t.isLt).2.1 = k0_pay1 (outsAt0 m c t.val t.isLt).1
      ∧ (outsAt0 m c t.val t.isLt).2.2.2.1 = k0_pay2 (outsAt0 m c t.val t.isLt).2.2.1
      ∧ (outsAt0 m c t.val t.isLt).2.2.2.2.2 = k0_pay3 (outsAt0 m c t.val t.isLt).2.2.2.2.1 := by
  obtain ⟨e6, e8, e10⟩ := next m c t h0
  rw [e6, e8, e10, outsAt0_C m c t h0 h1]
  dsimp only
  unfold out0_C_7 out0_C_9 out0_C_11 kernelRun0_C
  dsimp only
  sl_unfold_words
  simp only [View.read_writes_junk_eq_canon, View.canon_cons_unit_zero (S := S1024x1024) hz, View.canon_cons_unit_zero (S := S512x1024) hz, View.readCov_unit_zero (S := S1024x1024) _ hz, View.readCov_unit_zero (S := S512x1024) _ hz, View.readAt_eq_ld, (hs0_0 t).read_unread, (hs0_1 t).read_unread, (hs0_2 t).read_unread, (hs0_3 t).read_unread, (hs0_4 t).read_unread, (hs0_5 t).read_unread, (hs0_6 t).read_unread, (hs0_8 t).read_unread, (hs0_10 t).read_unread,
    View.ld_unit_zero (S := S512x1024) hz, View.ld_unit_zero (S := S1024x1024) hz, View.ld_unit_zero (S := S512x512) hz]
  trivial

/-- The positions' blocks move along their arrays; the results' blocks are the whole arrays. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![0, 0] ∧ win0_7.index t = ![0, 0] ∧ win0_8.index t = ![0, 0] ∧ win0_9.index t = ![0, 0] ∧ win0_10.index t = ![0, 0] ∧ win0_11.index t = ![0, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![0, 0] ∧ win0_7.index t = ![0, 0] ∧ win0_8.index t = ![0, 0] ∧ win0_9.index t = ![0, 0] ∧ win0_10.index t = ![0, 0] ∧ win0_11.index t = ![0, 0])

/-- The arguments as the call finds them. -/
abbrev A0 : Vec Ideal S8192x512 .bf16 := m ((c : Thread nD τ).loc main_arg0)
@[inherit_doc A0] abbrev A1 : Vec Ideal S8192x1024 .bf16 := m ((c : Thread nD τ).loc main_arg1)
@[inherit_doc A0] abbrev A2 : Vec Ideal S8192x1024 .bf16 := m ((c : Thread nD τ).loc main_arg2)
@[inherit_doc A0] abbrev A3 : Vec Ideal S8192x1024 .bf16 := m ((c : Thread nD τ).loc main_arg3)
@[inherit_doc A0] abbrev A4 : Vec Ideal S8192x1024 .bf16 := m ((c : Thread nD τ).loc main_arg4)
@[inherit_doc A0] abbrev A5 : Vec Ideal S8192x1024 .bf16 := m ((c : Thread nD τ).loc main_arg5)

theorem blk0 (t : Fin cfg0.N) (r : Fin 512) (k : Fin 1024) (z : Fin 8192) (hr : z.val = t.val * 512 + r.val) : (iblk m c 0 t : Vec Ideal S512x1024 .bf16) (ix2 r k) = A4 m c (ix2 z k) := by
  refine Eq.trans ?_ (congrFun (V_main_arg4 m c) (ix2 z k))
  unfold iblk
  rw [View.read_apply]
  have h := at_row 512 1024 _ (idx t).1 r.val k.val
  exact Cert.Arrays.same_pair (V m c main_arg4) _ (ix2 z k) (h.1.trans hr.symm) h.2

theorem blk1 (t : Fin cfg0.N) (r : Fin 512) (k : Fin 1024) (z : Fin 8192) (hr : z.val = t.val * 512 + r.val) : (iblk m c 1 t : Vec Ideal S512x1024 .bf16) (ix2 r k) = A5 m c (ix2 z k) := by
  refine Eq.trans ?_ (congrFun (V_main_arg5 m c) (ix2 z k))
  unfold iblk
  rw [View.read_apply]
  have h := at_row 512 1024 _ (idx t).2.1 r.val k.val
  exact Cert.Arrays.same_pair (V m c main_arg5) _ (ix2 z k) (h.1.trans hr.symm) h.2

theorem blk2 (t : Fin cfg0.N) (r : Fin 512) (k : Fin 512) (z : Fin 8192) (hr : z.val = t.val * 512 + r.val) : (iblk m c 2 t : Vec Ideal S512x512 .bf16) (ix2 r k) = A0 m c (ix2 z k) := by
  refine Eq.trans ?_ (congrFun (V_main_arg0 m c) (ix2 z k))
  unfold iblk
  rw [View.read_apply]
  have h := at_row 512 512 _ (idx t).2.2.1 r.val k.val
  exact Cert.Arrays.same_pair (V m c main_arg0) _ (ix2 z k) (h.1.trans hr.symm) h.2

theorem blk3 (t : Fin cfg0.N) (r : Fin 512) (k : Fin 1024) (z : Fin 8192) (hr : z.val = t.val * 512 + r.val) : (iblk m c 3 t : Vec Ideal S512x1024 .bf16) (ix2 r k) = A1 m c (ix2 z k) := by
  refine Eq.trans ?_ (congrFun (V_main_arg1 m c) (ix2 z k))
  unfold iblk
  rw [View.read_apply]
  have h := at_row 512 1024 _ (idx t).2.2.2.1 r.val k.val
  exact Cert.Arrays.same_pair (V m c main_arg1) _ (ix2 z k) (h.1.trans hr.symm) h.2

theorem blk4 (t : Fin cfg0.N) (r : Fin 512) (k : Fin 1024) (z : Fin 8192) (hr : z.val = t.val * 512 + r.val) : (iblk m c 4 t : Vec Ideal S512x1024 .bf16) (ix2 r k) = A2 m c (ix2 z k) := by
  refine Eq.trans ?_ (congrFun (V_main_arg2 m c) (ix2 z k))
  unfold iblk
  rw [View.read_apply]
  have h := at_row 512 1024 _ (idx t).2.2.2.2.1 r.val k.val
  exact Cert.Arrays.same_pair (V m c main_arg2) _ (ix2 z k) (h.1.trans hr.symm) h.2

theorem blk5 (t : Fin cfg0.N) (r : Fin 512) (k : Fin 1024) (z : Fin 8192) (hr : z.val = t.val * 512 + r.val) : (iblk m c 5 t : Vec Ideal S512x1024 .bf16) (ix2 r k) = A3 m c (ix2 z k) := by
  refine Eq.trans ?_ (congrFun (V_main_arg3 m c) (ix2 z k))
  unfold iblk
  rw [View.read_apply]
  have h := at_row 512 1024 _ (idx t).2.2.2.2.2.1 r.val k.val
  exact Cert.Arrays.same_pair (V m c main_arg3) _ (ix2 z k) (h.1.trans hr.symm) h.2

theorem sum0 (t : Fin cfg0.N) (ht : t.val = 15) (i : Fin 1024) (j : Fin 1024) :
    (outsAt0 m c t.val t.isLt).1 (ix2 i j) = ∑ r : Fin 8192, A4 m c (ix2 r i) * A5 m c (ix2 r j) := by
  have hN : cfg0.N = 16 := N_0
  refine Cert.RowBlocks.sum_blocks (fun r => A4 m c (ix2 r i) * A5 m c (ix2 r j)) (fun n h => (outsAt0 m c n (by omega)).1 (ix2 i j)) ?_ (fun n h => ?_) t.val (hN ▸ t.isLt) ht
  · refine (congrFun (first m c ⟨0, by omega⟩ rfl (by dsimp only; omega)).1 (ix2 i j)).trans ((pay7 _ _ _ i j).trans ?_)
    refine congrArg₂ (fun a b : EReal => a + b) (by pointwise [k0_pay4]) (Finset.sum_congr rfl fun r _ => ?_)
    rw [blk0 m c ⟨0, by omega⟩ r i ⟨r.val, by omega⟩ (by simp), blk1 m c ⟨0, by omega⟩ r j ⟨r.val, by omega⟩ (by simp)]
  · refine (congrFun (next m c ⟨n + 1, by omega⟩ (by dsimp only; omega)).1 (ix2 i j)).trans ((pay7 _ _ _ i j).trans ?_)
    refine congrArg₂ (fun a b : EReal => a + b) rfl (Finset.sum_congr rfl fun r _ => ?_)
    rw [blk0 m c ⟨n + 1, by omega⟩ r i ⟨(n + 1) * 512 + r.val, by omega⟩ rfl, blk1 m c ⟨n + 1, by omega⟩ r j ⟨(n + 1) * 512 + r.val, by omega⟩ rfl]

theorem sum1 (t : Fin cfg0.N) (ht : t.val = 15) (i : Fin 512) (j : Fin 1024) :
    (outsAt0 m c t.val t.isLt).2.2.1 (ix2 i j) = ∑ r : Fin 8192, A0 m c (ix2 r i) * A1 m c (ix2 r j) := by
  have hN : cfg0.N = 16 := N_0
  refine Cert.RowBlocks.sum_blocks (fun r => A0 m c (ix2 r i) * A1 m c (ix2 r j)) (fun n h => (outsAt0 m c n (by omega)).2.2.1 (ix2 i j)) ?_ (fun n h => ?_) t.val (hN ▸ t.isLt) ht
  · refine (congrFun (first m c ⟨0, by omega⟩ rfl (by dsimp only; omega)).2.1 (ix2 i j)).trans ((pay8 _ _ _ i j).trans ?_)
    refine congrArg₂ (fun a b : EReal => a + b) (by pointwise [k0_pay5]) (Finset.sum_congr rfl fun r _ => ?_)
    rw [blk2 m c ⟨0, by omega⟩ r i ⟨r.val, by omega⟩ (by simp), blk3 m c ⟨0, by omega⟩ r j ⟨r.val, by omega⟩ (by simp)]
  · refine (congrFun (next m c ⟨n + 1, by omega⟩ (by dsimp only; omega)).2.1 (ix2 i j)).trans ((pay8 _ _ _ i j).trans ?_)
    refine congrArg₂ (fun a b : EReal => a + b) rfl (Finset.sum_congr rfl fun r _ => ?_)
    rw [blk2 m c ⟨n + 1, by omega⟩ r i ⟨(n + 1) * 512 + r.val, by omega⟩ rfl, blk3 m c ⟨n + 1, by omega⟩ r j ⟨(n + 1) * 512 + r.val, by omega⟩ rfl]

theorem sum2 (t : Fin cfg0.N) (ht : t.val = 15) (i : Fin 1024) (j : Fin 1024) :
    (outsAt0 m c t.val t.isLt).2.2.2.2.1 (ix2 i j) = ∑ r : Fin 8192, A2 m c (ix2 r i) * A3 m c (ix2 r j) := by
  have hN : cfg0.N = 16 := N_0
  refine Cert.RowBlocks.sum_blocks (fun r => A2 m c (ix2 r i) * A3 m c (ix2 r j)) (fun n h => (outsAt0 m c n (by omega)).2.2.2.2.1 (ix2 i j)) ?_ (fun n h => ?_) t.val (hN ▸ t.isLt) ht
  · refine (congrFun (first m c ⟨0, by omega⟩ rfl (by dsimp only; omega)).2.2 (ix2 i j)).trans ((pay7 _ _ _ i j).trans ?_)
    refine congrArg₂ (fun a b : EReal => a + b) (by pointwise [k0_pay6]) (Finset.sum_congr rfl fun r _ => ?_)
    rw [blk4 m c ⟨0, by omega⟩ r i ⟨r.val, by omega⟩ (by simp), blk5 m c ⟨0, by omega⟩ r j ⟨r.val, by omega⟩ (by simp)]
  · refine (congrFun (next m c ⟨n + 1, by omega⟩ (by dsimp only; omega)).2.2 (ix2 i j)).trans ((pay7 _ _ _ i j).trans ?_)
    refine congrArg₂ (fun a b : EReal => a + b) rfl (Finset.sum_congr rfl fun r _ => ?_)
    rw [blk4 m c ⟨n + 1, by omega⟩ r i ⟨(n + 1) * 512 + r.val, by omega⟩ rfl, blk5 m c ⟨n + 1, by omega⟩ r j ⟨(n + 1) * 512 + r.val, by omega⟩ rfl]

/-- The sum over the positions of the products of column `i` of `x` and column `j` of `y`. -/
def tsum {a b : ℕ} (x : Vec Ideal ⟨2, ![8192, a]⟩ .bf16) (y : Vec Ideal ⟨2, ![8192, b]⟩ .bf16) (i : Fin a) (j : Fin b) : EReal := ∑ r : Fin 8192, x (ix2 r i) * y (ix2 r j)

theorem final6 : (dats m 0 c).arrAt 6 cfg0.N = arr (tsum (A4 m c) (A5 m c)) := by
  refine (dats m 0 c).arrAt_eq_of_covers 6 _ (by decide +kernel) fun t hf y => ?_
  have h3 : t.val = 15 := by have hN : cfg0.N = 16 := N_0; have := (flush0_6 t).mp hf; have := t.isLt; omega
  blk_simp
  rw [after0_6]
  have h := at_row 1024 1024 _ (idx t).2.2.2.2.2.2.1 (y 0).val (y 1).val
  refine in_arr _ _ (fun r k z hr => ?_) y _ h.1 h.2
  obtain rfl : z = r := Fin.ext (by omega)
  exact sum0 m c t h3 z k

theorem final7 : (dats m 0 c).arrAt 7 cfg0.N = arr (tsum (A4 m c) (A5 m c)) := by
  refine (dats m 0 c).arrAt_eq_of_covers 7 _ (by decide +kernel) fun t hf y => ?_
  have h3 : t.val = 15 := by have hN : cfg0.N = 16 := N_0; have := (flush0_7 t).mp hf; have := t.isLt; omega
  blk_simp
  rw [after0_7]
  have h := at_row 1024 1024 _ (idx t).2.2.2.2.2.2.2.1 (y 0).val (y 1).val
  refine in_arr _ _ (fun r k z hr => ?_) y _ h.1 h.2
  obtain rfl : z = r := Fin.ext (by omega)
  refine (congrFun (last m c t (by omega) (by omega)).1 (ix2 z k)).trans (Eq.trans ?_ (sum0 m c t h3 z k))
  pointwise [k0_pay1]

theorem final8 : (dats m 0 c).arrAt 8 cfg0.N = arr (tsum (A0 m c) (A1 m c)) := by
  refine (dats m 0 c).arrAt_eq_of_covers 8 _ (by decide +kernel) fun t hf y => ?_
  have h3 : t.val = 15 := by have hN : cfg0.N = 16 := N_0; have := (flush0_8 t).mp hf; have := t.isLt; omega
  blk_simp
  rw [after0_8]
  have h := at_row 512 1024 _ (idx t).2.2.2.2.2.2.2.2.1 (y 0).val (y 1).val
  refine in_arr _ _ (fun r k z hr => ?_) y _ h.1 h.2
  obtain rfl : z = r := Fin.ext (by omega)
  exact sum1 m c t h3 z k

theorem final9 : (dats m 0 c).arrAt 9 cfg0.N = arr (tsum (A0 m c) (A1 m c)) := by
  refine (dats m 0 c).arrAt_eq_of_covers 9 _ (by decide +kernel) fun t hf y => ?_
  have h3 : t.val = 15 := by have hN : cfg0.N = 16 := N_0; have := (flush0_9 t).mp hf; have := t.isLt; omega
  blk_simp
  rw [after0_9]
  have h := at_row 512 1024 _ (idx t).2.2.2.2.2.2.2.2.2.1 (y 0).val (y 1).val
  refine in_arr _ _ (fun r k z hr => ?_) y _ h.1 h.2
  obtain rfl : z = r := Fin.ext (by omega)
  refine (congrFun (last m c t (by omega) (by omega)).2.1 (ix2 z k)).trans (Eq.trans ?_ (sum1 m c t h3 z k))
  pointwise [k0_pay2]

theorem final10 : (dats m 0 c).arrAt 10 cfg0.N = arr (tsum (A2 m c) (A3 m c)) := by
  refine (dats m 0 c).arrAt_eq_of_covers 10 _ (by decide +kernel) fun t hf y => ?_
  have h3 : t.val = 15 := by have hN : cfg0.N = 16 := N_0; have := (flush0_10 t).mp hf; have := t.isLt; omega
  blk_simp
  rw [after0_10]
  have h := at_row 1024 1024 _ (idx t).2.2.2.2.2.2.2.2.2.2.1 (y 0).val (y 1).val
  refine in_arr _ _ (fun r k z hr => ?_) y _ h.1 h.2
  obtain rfl : z = r := Fin.ext (by omega)
  exact sum2 m c t h3 z k

theorem final11 : (dats m 0 c).arrAt 11 cfg0.N = arr (tsum (A2 m c) (A3 m c)) := by
  refine (dats m 0 c).arrAt_eq_of_covers 11 _ (by decide +kernel) fun t hf y => ?_
  have h3 : t.val = 15 := by have hN : cfg0.N = 16 := N_0; have := (flush0_11 t).mp hf; have := t.isLt; omega
  blk_simp
  rw [after0_11]
  have h := at_row 1024 1024 _ (idx t).2.2.2.2.2.2.2.2.2.2.2 (y 0).val (y 1).val
  refine in_arr _ _ (fun r k z hr => ?_) y _ h.1 h.2
  obtain rfl : z = r := Fin.ext (by omega)
  refine (congrFun (last m c t (by omega) (by omega)).2.2 (ix2 z k)).trans (Eq.trans ?_ (sum2 m c t h3 z k))
  pointwise [k0_pay3]

open Cert.Dw3ReferenceIdeal.Read

theorem ref17 (x4 : Vec Ideal S8192x1024 .bf16) (x5 : Vec Ideal S8192x1024 .bf16) : val_main_v17 (F := Ideal) x4 x5 = arr (tsum x4 x5) := by
  funext y
  obtain ⟨i, j, rfl⟩ := Cert.Arrays.exists_pair y
  rw [val_main_v17_apply, val_main_v16_apply]
  show (_ : EReal) = ∑ r : Fin 8192, x4 (ix2 r i) * x5 (ix2 r j)
  refine Finset.sum_congr rfl fun r _ => ?_
  rw [val_main_v4_apply, val_main_v5_apply]
  exact (mul_comm (G := EReal) _ _).trans (congrArg₂ (fun a b : EReal => a * b) (Cert.Arrays.same_pair x4 _ (ix2 r i) rfl rfl) (Cert.Arrays.same_pair x5 _ (ix2 r j) rfl rfl))

theorem ref18 (x4 : Vec Ideal S8192x1024 .bf16) (x5 : Vec Ideal S8192x1024 .bf16) : val_main_v18 (F := Ideal) x4 x5 = arr (tsum x4 x5) := by
  refine Eq.trans ?_ (ref17 x4 x5)
  funext y
  exact val_main_v18_apply x4 x5 y

theorem ref15 (x0 : Vec Ideal S8192x512 .bf16) (x1 : Vec Ideal S8192x1024 .bf16) : val_main_v15 (F := Ideal) x0 x1 = arr (tsum x0 x1) := by
  funext y
  obtain ⟨i, j, rfl⟩ := Cert.Arrays.exists_pair y
  rw [val_main_v15_apply, val_main_v14_apply]
  show (_ : EReal) = ∑ r : Fin 8192, x0 (ix2 r i) * x1 (ix2 r j)
  refine Finset.sum_congr rfl fun r _ => ?_
  rw [val_main_v0_apply, val_main_v1_apply]
  exact (mul_comm (G := EReal) _ _).trans (congrArg₂ (fun a b : EReal => a * b) (Cert.Arrays.same_pair x0 _ (ix2 r i) rfl rfl) (Cert.Arrays.same_pair x1 _ (ix2 r j) rfl rfl))

theorem ref19 (x0 : Vec Ideal S8192x512 .bf16) (x1 : Vec Ideal S8192x1024 .bf16) : val_main_v19 (F := Ideal) x0 x1 = arr (tsum x0 x1) := by
  refine Eq.trans ?_ (ref15 x0 x1)
  funext y
  exact val_main_v19_apply x0 x1 y

theorem ref13 (x2 : Vec Ideal S8192x1024 .bf16) (x3 : Vec Ideal S8192x1024 .bf16) : val_main_v13 (F := Ideal) x2 x3 = arr (tsum x2 x3) := by
  funext y
  obtain ⟨i, j, rfl⟩ := Cert.Arrays.exists_pair y
  rw [val_main_v13_apply, val_main_v12_apply]
  show (_ : EReal) = ∑ r : Fin 8192, x2 (ix2 r i) * x3 (ix2 r j)
  refine Finset.sum_congr rfl fun r _ => ?_
  rw [val_main_v2_apply, val_main_v3_apply]
  exact (mul_comm (G := EReal) _ _).trans (congrArg₂ (fun a b : EReal => a * b) (Cert.Arrays.same_pair x2 _ (ix2 r i) rfl rfl) (Cert.Arrays.same_pair x3 _ (ix2 r j) rfl rfl))

theorem ref20 (x2 : Vec Ideal S8192x1024 .bf16) (x3 : Vec Ideal S8192x1024 .bf16) : val_main_v20 (F := Ideal) x2 x3 = arr (tsum x2 x3) := by
  refine Eq.trans ?_ (ref13 x2 x3)
  funext y
  exact val_main_v20_apply x2 x3 y

end Cert.Dw3KernelIdeal.Value
end
-- ==== Proof.DwinEq.lean ====
module

public import proofs.«01_k».proof.Proof.Gen.DwinKernelIdeal.Value
public import proofs.«01_k».proof.Proof.Gen.DwinReferenceIdeal.Read
public import proofs.«01_k».proof.Proof.RowBlocks
public import Idealize.ShloMosaic.Lib.Pipeline.ValueKit.Tiles
public import Idealize.ShloMosaic.Lib.Pipeline.ValueKit.Partial
public import Idealize.ShloMosaic.Lib.Pipeline.ReadBack

@[expose] public section

set_option maxRecDepth 16384

noncomputable section

/-! The gradient of the projection's weights: products over the positions, added up 512 positions at a time, one quarter of the columns after another. -/

namespace Cert.DwinKernelIdeal.Value

open Cert.DwinKernelIdeal Cert.DwinKernelIdeal.Gen Idealize.ShloMosaic Idealize.ShloMosaic.TcCoe Idealize.SL.Sem

variable (m : (ℓ : Loc nD τ sig) → Buf (Elt Ideal) ℓ) (c : Dev nD)

theorem hz2 : (![0, 0] : Fin 2 → ℕ) = fun _ => 0 := by decide
theorem hz : (![0, 0, 0] : Fin 3 → ℕ) = fun _ => 0 := by decide

/-- An index of an array with one leading element. -/
theorem exists_cols {a b : ℕ} (y : (⟨3, ![1, a, b]⟩ : Shape).Idx) : ∃ (i : Fin a) (j : Fin b), y = ix3 (0 : Fin 1) i j :=
  ⟨y 1, y 2, funext fun k => by
    fin_cases k
    · exact Subsingleton.elim (α := Fin 1) _ _
    · rfl
    · rfl⟩

theorem wide (x : Vec Ideal S1024x512 .bf16) (v : Vec Ideal S1x1024x2048 .f32) (y : Vec Ideal S512x2048 .bf16) (i : Fin 1024) (j : Fin 2048) :
    k0_pay4 x v y (ix3 0 i j) = v (ix3 0 i j) + ∑ r : Fin 512, x (ix2 i r) * y (ix2 r j) := by
  pointwise [k0_pay4, k0_pay2]

theorem narrow (x : Vec Ideal S1024x512 .bf16) (v : Vec Ideal S1x1024x512 .f32) (y : Vec Ideal S512x512 .bf16) (i : Fin 1024) (j : Fin 512) :
    k0_pay3 x v y (ix3 0 i j) = v (ix3 0 i j) + ∑ r : Fin 512, x (ix2 i r) * y (ix2 r j) := by
  pointwise [k0_pay3, k0_pay2]

theorem in_strip (o : ℕ) (inb : ∀ a, (![0, 0, o] : Fin 3 → ℕ) a + (![1, 1024, 512] : Fin 3 → ℕ) a ≤ S1x1024x2048.size a) (i : Fin 1024) (j : Fin 2048) (h : o ≤ j.val) (h' : j.val < o + 512) :
    (ix3 0 i j : S1x1024x2048.Idx) ∈ (Rect.unit (s := S1x1024x2048) ![0, 0, o] ![1, 1024, 512] inb).set := by
  rw [Rect.mem_set_unit]
  intro a
  match a with
  | ⟨0, _⟩ => exact ⟨Nat.le_refl 0, Nat.one_pos⟩
  | ⟨1, _⟩ => exact ⟨Nat.zero_le _, by show i.val < 0 + 1024; omega⟩
  | ⟨2, _⟩ => exact ⟨h, h'⟩

/-- A strip of 512 columns holds the sums of its columns. -/
theorem at_strip (x : Vec Ideal S1024x512 .bf16) (v : Vec Ideal S1x1024x2048 .f32) (y : Vec Ideal S512x512 .bf16) (d : Fin 512 → Fin 2048 → EReal) (o : ℕ)
    (inb : ∀ a, (![0, 0, o] : Fin 3 → ℕ) a + (![1, 1024, 512] : Fin 3 → ℕ) a ≤ S1x1024x2048.size a)
    (pay : Vec Ideal S1x1024x512 .f32 → Vec Ideal S512x512 .bf16 → Vec Ideal S1x1024x512 .f32)
    (h : ∀ (r k : Fin 512) (z : Fin 2048), z.val = o + k.val → y (ix2 r k) = d r z)
    (e : ∀ v y (i : Fin 1024) (j : Fin 512), pay v y (ix3 0 i j) = v (ix3 0 i j) + ∑ r : Fin 512, x (ix2 i r) * y (ix2 r j)) (q : S1x1024x512.Idx) :
    pay (View.ld v (Rect.unit (s := S1x1024x2048) ![0, 0, o] ![1, 1024, 512] inb)) y q
      = (fun y : S1x1024x2048.Idx => (v y + ∑ r : Fin 512, x (ix2 (y 1) r) * d r (y 2) : EReal)) ((Rect.unit (s := S1x1024x2048) ![0, 0, o] ![1, 1024, 512] inb).emb q) := by
  obtain ⟨i, j, rfl⟩ : ∃ (i : Fin 1024) (j : Fin 512), q = ix3 0 i j := exists_cols q
  refine (e _ _ i j).trans (congrArg₂ (fun a b : EReal => a + b) rfl (Finset.sum_congr rfl fun r _ => ?_))
  refine congrArg₂ (fun a b : EReal => a * b) (Cert.Arrays.same_pair x _ _ ?_ rfl) (h r j _ ?_)
  · show i.val = 0 + 1 * i.val
    omega
  · show o + 1 * j.val = _
    omega

/-- The first quarter's four strips of 512 columns, stored one after another over earlier stores. -/
theorem strips (x : Vec Ideal S1024x512 .bf16) (v : Vec Ideal S1x1024x2048 .f32) (y0 y1 y2 y3 : Vec Ideal S512x512 .bf16)
    (L : List (View.Piece (Elt Ideal) S1x1024x2048 .f32)) (d : Fin 512 → Fin 2048 → EReal)
    (h0 : ∀ (r k : Fin 512) (z : Fin 2048), z.val = 0 + k.val → y0 (ix2 r k) = d r z) (h1 : ∀ (r k : Fin 512) (z : Fin 2048), z.val = 512 + k.val → y1 (ix2 r k) = d r z)
    (h2 : ∀ (r k : Fin 512) (z : Fin 2048), z.val = 1024 + k.val → y2 (ix2 r k) = d r z) (h3 : ∀ (r k : Fin 512) (z : Fin 2048), z.val = 1536 + k.val → y3 (ix2 r k) = d r z)
    (i : Fin 1024) (j : Fin 2048) :
    View.canon (([⟨Rect.unit (s := S1x1024x2048) ![0, 0, 1536] ![1, 1024, 512] inb_S1x1024x2048_S1x1024x512_0_0_1536, k0_pay3 x (View.ld v (Rect.unit (s := S1x1024x2048) ![0, 0, 1536] ![1, 1024, 512] inb_S1x1024x2048_S1x1024x512_0_0_1536)) y3⟩,
        ⟨Rect.unit (s := S1x1024x2048) ![0, 0, 1024] ![1, 1024, 512] inb_S1x1024x2048_S1x1024x512_0_0_1024, k0_pay9 (k0_pay2 x) (View.ld v (Rect.unit (s := S1x1024x2048) ![0, 0, 1024] ![1, 1024, 512] inb_S1x1024x2048_S1x1024x512_0_0_1024)) y2⟩,
        ⟨Rect.unit (s := S1x1024x2048) ![0, 0, 512] ![1, 1024, 512] inb_S1x1024x2048_S1x1024x512_0_0_512, k0_pay8 (k0_pay2 x) (View.ld v (Rect.unit (s := S1x1024x2048) ![0, 0, 512] ![1, 1024, 512] inb_S1x1024x2048_S1x1024x512_0_0_512)) y1⟩,
        ⟨Rect.unit (s := S1x1024x2048) ![0, 0, 0] ![1, 1024, 512] inb_S1x1024x2048_S1x1024x512_0_0_0, k0_pay7 (k0_pay2 x) (View.ld v (Rect.unit (s := S1x1024x2048) ![0, 0, 0] ![1, 1024, 512] inb_S1x1024x2048_S1x1024x512_0_0_0)) y0⟩] : List (View.Piece (Elt Ideal) S1x1024x2048 .f32)) ++ L) (ix3 0 i j)
      = v (ix3 0 i j) + ∑ r : Fin 512, x (ix2 i r) * d r j := by
  refine View.canon_append_of_piecesOf (fun y : S1x1024x2048.Idx => (v y + ∑ r : Fin 512, x (ix2 (y 1) r) * d r (y 2) : EReal)) L _ ?_ (ix3 0 i j) ?_
  · refine ⟨?_, ?_, ?_, ?_, trivial⟩
    · exact at_strip x v y3 d 1536 inb_S1x1024x2048_S1x1024x512_0_0_1536 (k0_pay3 x) h3 fun v y i j => narrow x v y i j
    · exact at_strip x v y2 d 1024 inb_S1x1024x2048_S1x1024x512_0_0_1024 (k0_pay9 (k0_pay2 x)) h2 fun v y i j => narrow x v y i j
    · exact at_strip x v y1 d 512 inb_S1x1024x2048_S1x1024x512_0_0_512 (k0_pay8 (k0_pay2 x)) h1 fun v y i j => narrow x v y i j
    · exact at_strip x v y0 d 0 inb_S1x1024x2048_S1x1024x512_0_0_0 (k0_pay7 (k0_pay2 x)) h0 fun v y i j => narrow x v y i j
  · have hj : j.val < 2048 := j.isLt
    have hi : i.val < 1024 := i.isLt
    by_cases g1 : j.val < 512
    · exact ⟨_, List.mem_cons_of_mem _ (List.mem_cons_of_mem _ (List.mem_cons_of_mem _ List.mem_cons_self)), in_strip 0 inb_S1x1024x2048_S1x1024x512_0_0_0 i j (by omega) (by omega)⟩
    by_cases g2 : j.val < 1024
    · exact ⟨_, List.mem_cons_of_mem _ (List.mem_cons_of_mem _ List.mem_cons_self), in_strip 512 inb_S1x1024x2048_S1x1024x512_0_0_512 i j (by omega) (by omega)⟩
    by_cases g3 : j.val < 1536
    · exact ⟨_, List.mem_cons_of_mem _ List.mem_cons_self, in_strip 1024 inb_S1x1024x2048_S1x1024x512_0_0_1024 i j (by omega) (by omega)⟩
    · exact ⟨_, List.mem_cons_self, in_strip 1536 inb_S1x1024x2048_S1x1024x512_0_0_1536 i j (by omega) (by omega)⟩

/-- The two operands as the call finds them. -/
abbrev H : Vec Ideal S1024x8192 .bf16 := V m c main_v8
@[inherit_doc H] abbrev E : Vec Ideal S8192x8192 .bf16 := V m c main_v1

/-- What point `t` adds at row `i` and column `j` of its block. -/
def add (t : Fin cfg0.N) (i : Fin 1024) (j : Fin 2048) : EReal :=
  ∑ r : Fin 512, H m c (ix2 i ⟨t.val % 16 * 512 + r.val, by omega⟩)
    * E m c (ix2 ⟨t.val % 16 * 512 + r.val, by omega⟩ ⟨t.val / 16 * 2048 + j.val, by have : t.val < 64 := lt_of_lt_of_eq t.isLt N_0; omega⟩)

/-- The blocks' places in their arrays. -/
theorem idx : ∀ t : Fin cfg0.N, win0_0.index t = ![0, t.val % 16] ∧ (t.val < 16 → win0_1.index t = ![t.val % 16, 0]) ∧ (t.val < 16 → win0_2.index t = ![t.val % 16, 0]) ∧ (t.val < 16 → win0_3.index t = ![t.val % 16, 0]) ∧ (t.val < 16 → win0_4.index t = ![t.val % 16, 0]) ∧ (16 ≤ t.val → t.val < 48 → win0_5.index t = ![t.val % 16, t.val / 16 - 1]) ∧ (48 ≤ t.val → win0_6.index t = ![t.val % 16, 0]) ∧ win0_7.index t = ![t.val / 16, 0, 0] ∧ win0_8.index t = ![t.val / 16, 0, 0] :=
  (by decide +kernel : ∀ t : Fin grid0.N, win0_0.index t = ![0, t.val % 16] ∧ (t.val < 16 → win0_1.index t = ![t.val % 16, 0]) ∧ (t.val < 16 → win0_2.index t = ![t.val % 16, 0]) ∧ (t.val < 16 → win0_3.index t = ![t.val % 16, 0]) ∧ (t.val < 16 → win0_4.index t = ![t.val % 16, 0]) ∧ (16 ≤ t.val → t.val < 48 → win0_5.index t = ![t.val % 16, t.val / 16 - 1]) ∧ (48 ≤ t.val → win0_6.index t = ![t.val % 16, 0]) ∧ win0_7.index t = ![t.val / 16, 0, 0] ∧ win0_8.index t = ![t.val / 16, 0, 0])

theorem block (h w p q : ℕ) (f : Fin 2 → ℕ) (e : f = ![p, q]) (r k : ℕ) : f 0 * h + 1 * r = p * h + r ∧ f 1 * w + 1 * k = q * w + k := by
  subst e
  exact ⟨by show p * h + 1 * r = _; omega, by show q * w + 1 * k = _; omega⟩

theorem blk0 (t : Fin cfg0.N) (i : Fin 1024) (r : Fin 512) (z : Fin 8192) (hz : z.val = t.val % 16 * 512 + r.val) : (iblk m c 0 t : Vec Ideal S1024x512 .bf16) (ix2 i r) = H m c (ix2 i z) := by
  unfold iblk
  rw [View.read_apply]
  have h := block 1024 512 _ _ _ (idx t).1 i.val r.val
  exact Cert.Arrays.same_pair (V m c main_v8) _ (ix2 i z) (by rw [Nat.zero_mul, Nat.zero_add] at h; exact h.1) (h.2.trans hz.symm)

theorem blk1 (t : Fin cfg0.N) (ht : t.val < 16) (r : Fin 512) (k : Fin 512) (z z' : Fin 8192) (hz : z.val = t.val % 16 * 512 + r.val) (hz' : z'.val = 0 + k.val) :
    (iblk m c 1 t : Vec Ideal S512x512 .bf16) (ix2 r k) = E m c (ix2 z z') := by
  have hN : t.val < 64 := lt_of_lt_of_eq t.isLt N_0
  have e : (V m c main_v2 : Vec Ideal S8192x512 .bf16) = extractStridedSlice S8192x512 ![0, 0] (V m c main_v1 : Vec Ideal S8192x8192 .bf16) slices_S8192x8192_S8192x512_0_0 := by
    unfold_abbrev_sides
    after_results
    rfl
  unfold iblk
  rw [View.read_apply]
  have h := block 512 512 _ _ _ ((idx t).2.1 ht) r.val k.val
  refine (Cert.Arrays.same_pair (V m c main_v2 : Vec Ideal S8192x512 .bf16) _ (ix2 z (⟨z'.val - 0, by omega⟩ : Fin 512)) (h.1.trans hz.symm) (h.2.trans ?_)).trans ?_
  · show 0 * 512 + k.val = z'.val - 0
    omega
  · rw [e]
    exact Cert.Arrays.same_pair (V m c main_v1 : Vec Ideal S8192x8192 .bf16) _ (ix2 z z') (by show 0 + z.val = z.val; omega) (by show 0 + (z'.val - 0) = z'.val; omega)

theorem blk2 (t : Fin cfg0.N) (ht : t.val < 16) (r : Fin 512) (k : Fin 512) (z z' : Fin 8192) (hz : z.val = t.val % 16 * 512 + r.val) (hz' : z'.val = 512 + k.val) :
    (iblk m c 2 t : Vec Ideal S512x512 .bf16) (ix2 r k) = E m c (ix2 z z') := by
  have hN : t.val < 64 := lt_of_lt_of_eq t.isLt N_0
  have e : (V m c main_v3 : Vec Ideal S8192x512 .bf16) = extractStridedSlice S8192x512 ![0, 512] (V m c main_v1 : Vec Ideal S8192x8192 .bf16) slices_S8192x8192_S8192x512_0_512 := by
    unfold_abbrev_sides
    after_results
    rfl
  unfold iblk
  rw [View.read_apply]
  have h := block 512 512 _ _ _ ((idx t).2.2.1 ht) r.val k.val
  refine (Cert.Arrays.same_pair (V m c main_v3 : Vec Ideal S8192x512 .bf16) _ (ix2 z (⟨z'.val - 512, by omega⟩ : Fin 512)) (h.1.trans hz.symm) (h.2.trans ?_)).trans ?_
  · show 0 * 512 + k.val = z'.val - 512
    omega
  · rw [e]
    exact Cert.Arrays.same_pair (V m c main_v1 : Vec Ideal S8192x8192 .bf16) _ (ix2 z z') (by show 0 + z.val = z.val; omega) (by show 512 + (z'.val - 512) = z'.val; omega)

theorem blk3 (t : Fin cfg0.N) (ht : t.val < 16) (r : Fin 512) (k : Fin 512) (z z' : Fin 8192) (hz : z.val = t.val % 16 * 512 + r.val) (hz' : z'.val = 1024 + k.val) :
    (iblk m c 3 t : Vec Ideal S512x512 .bf16) (ix2 r k) = E m c (ix2 z z') := by
  have hN : t.val < 64 := lt_of_lt_of_eq t.isLt N_0
  have e : (V m c main_v4 : Vec Ideal S8192x512 .bf16) = extractStridedSlice S8192x512 ![0, 1024] (V m c main_v1 : Vec Ideal S8192x8192 .bf16) slices_S8192x8192_S8192x512_0_1024 := by
    unfold_abbrev_sides
    after_results
    rfl
  unfold iblk
  rw [View.read_apply]
  have h := block 512 512 _ _ _ ((idx t).2.2.2.1 ht) r.val k.val
  refine (Cert.Arrays.same_pair (V m c main_v4 : Vec Ideal S8192x512 .bf16) _ (ix2 z (⟨z'.val - 1024, by omega⟩ : Fin 512)) (h.1.trans hz.symm) (h.2.trans ?_)).trans ?_
  · show 0 * 512 + k.val = z'.val - 1024
    omega
  · rw [e]
    exact Cert.Arrays.same_pair (V m c main_v1 : Vec Ideal S8192x8192 .bf16) _ (ix2 z z') (by show 0 + z.val = z.val; omega) (by show 1024 + (z'.val - 1024) = z'.val; omega)

theorem blk4 (t : Fin cfg0.N) (ht : t.val < 16) (r : Fin 512) (k : Fin 512) (z z' : Fin 8192) (hz : z.val = t.val % 16 * 512 + r.val) (hz' : z'.val = 1536 + k.val) :
    (iblk m c 4 t : Vec Ideal S512x512 .bf16) (ix2 r k) = E m c (ix2 z z') := by
  have hN : t.val < 64 := lt_of_lt_of_eq t.isLt N_0
  have e : (V m c main_v5 : Vec Ideal S8192x512 .bf16) = extractStridedSlice S8192x512 ![0, 1536] (V m c main_v1 : Vec Ideal S8192x8192 .bf16) slices_S8192x8192_S8192x512_0_1536 := by
    unfold_abbrev_sides
    after_results
    rfl
  unfold iblk
  rw [View.read_apply]
  have h := block 512 512 _ _ _ ((idx t).2.2.2.2.1 ht) r.val k.val
  refine (Cert.Arrays.same_pair (V m c main_v5 : Vec Ideal S8192x512 .bf16) _ (ix2 z (⟨z'.val - 1536, by omega⟩ : Fin 512)) (h.1.trans hz.symm) (h.2.trans ?_)).trans ?_
  · show 0 * 512 + k.val = z'.val - 1536
    omega
  · rw [e]
    exact Cert.Arrays.same_pair (V m c main_v1 : Vec Ideal S8192x8192 .bf16) _ (ix2 z z') (by show 0 + z.val = z.val; omega) (by show 1536 + (z'.val - 1536) = z'.val; omega)

theorem blk5 (t : Fin cfg0.N) (ht : 16 ≤ t.val) (ht' : t.val < 48) (r : Fin 512) (k : Fin 2048) (z z' : Fin 8192) (hz : z.val = t.val % 16 * 512 + r.val) (hz' : z'.val = t.val / 16 * 2048 + k.val) :
    (iblk m c 5 t : Vec Ideal S512x2048 .bf16) (ix2 r k) = E m c (ix2 z z') := by
  have hN : t.val < 64 := lt_of_lt_of_eq t.isLt N_0
  have e : (V m c main_v9 : Vec Ideal S8192x4096 .bf16) = extractStridedSlice S8192x4096 ![0, 2048] (V m c main_v1 : Vec Ideal S8192x8192 .bf16) slices_S8192x8192_S8192x4096_0_2048 := by
    unfold_abbrev_sides
    after_results
    rfl
  unfold iblk
  rw [View.read_apply]
  have h := block 512 2048 _ _ _ ((idx t).2.2.2.2.2.1 ht ht') r.val k.val
  refine (Cert.Arrays.same_pair (V m c main_v9 : Vec Ideal S8192x4096 .bf16) _ (ix2 z (⟨z'.val - 2048, by omega⟩ : Fin 4096)) (h.1.trans hz.symm) (h.2.trans ?_)).trans ?_
  · show (t.val / 16 - 1) * 2048 + k.val = z'.val - 2048
    omega
  · rw [e]
    exact Cert.Arrays.same_pair (V m c main_v1 : Vec Ideal S8192x8192 .bf16) _ (ix2 z z') (by show 0 + z.val = z.val; omega) (by show 2048 + (z'.val - 2048) = z'.val; omega)

theorem blk6 (t : Fin cfg0.N) (ht : 48 ≤ t.val) (r : Fin 512) (k : Fin 2048) (z z' : Fin 8192) (hz : z.val = t.val % 16 * 512 + r.val) (hz' : z'.val = t.val / 16 * 2048 + k.val) :
    (iblk m c 6 t : Vec Ideal S512x2048 .bf16) (ix2 r k) = E m c (ix2 z z') := by
  have hN : t.val < 64 := lt_of_lt_of_eq t.isLt N_0
  have e : (V m c main_v10 : Vec Ideal S8192x2048 .bf16) = extractStridedSlice S8192x2048 ![0, 6144] (V m c main_v1 : Vec Ideal S8192x8192 .bf16) slices_S8192x8192_S8192x2048_0_6144 := by
    unfold_abbrev_sides
    after_results
    rfl
  unfold iblk
  rw [View.read_apply]
  have h := block 512 2048 _ _ _ ((idx t).2.2.2.2.2.2.1 ht) r.val k.val
  refine (Cert.Arrays.same_pair (V m c main_v10 : Vec Ideal S8192x2048 .bf16) _ (ix2 z (⟨z'.val - 6144, by omega⟩ : Fin 2048)) (h.1.trans hz.symm) (h.2.trans ?_)).trans ?_
  · show 0 * 2048 + k.val = z'.val - 6144
    omega
  · rw [e]
    exact Cert.Arrays.same_pair (V m c main_v1 : Vec Ideal S8192x8192 .bf16) _ (ix2 z z') (by show 0 + z.val = z.val; omega) (by show 6144 + (z'.val - 6144) = z'.val; omega)

theorem next (t : Fin cfg0.N) (h0 : ¬t.val % 16 = 0) (i : Fin 1024) (j : Fin 2048) :
    (outsAt0 m c t.val t.isLt).1 (ix3 0 i j) = (outsAt0 m c (t.val - 1) (Nat.lt_of_le_of_lt (Nat.sub_le _ _) t.isLt)).1 (ix3 0 i j) + add m c t i j := by
  have hN : t.val < 64 := lt_of_lt_of_eq t.isLt N_0
  by_cases h1 : t.val < 16
  · by_cases h4 : t.val % 16 = 15
    · rw [outsAt0_C m c t h0 h1 (by omega) (by omega) h4]
      dsimp only
      unfold out0_C_7 kernelRun0_C
      dsimp only
      sl_unfold_words
      simp only [View.read_writes_junk_eq_canon, View.readAt_eq_ld, (hs0_0 t).read_unread, (hs0_1 t).read_unread, (hs0_2 t).read_unread, (hs0_3 t).read_unread, (hs0_4 t).read_unread, (hs0_7 t).read_unread, View.ld_unit_zero (S := S512x512) hz2, View.ld_unit_zero (S := S1024x512) hz2]
      refine (strips (iblk m c 0 t) (outsAt0 m c (t.val - 1) (Nat.lt_of_le_of_lt (Nat.sub_le _ _) t.isLt)).1 (iblk m c 1 t) (iblk m c 2 t) (iblk m c 3 t) (iblk m c 4 t) [] (fun r z => E m c (ix2 ⟨t.val % 16 * 512 + r.val, by omega⟩ ⟨t.val / 16 * 2048 + z.val, by omega⟩))
        (fun r k z hz => blk1 m c t h1 r k _ _ rfl (by show t.val / 16 * 2048 + z.val = _; omega)) (fun r k z hz => blk2 m c t h1 r k _ _ rfl (by show t.val / 16 * 2048 + z.val = _; omega))
        (fun r k z hz => blk3 m c t h1 r k _ _ rfl (by show t.val / 16 * 2048 + z.val = _; omega)) (fun r k z hz => blk4 m c t h1 r k _ _ rfl (by show t.val / 16 * 2048 + z.val = _; omega)) i j).trans ?_
      exact congrArg _ (Finset.sum_congr rfl fun r _ => congrArg₂ (fun a b : EReal => a * b) (blk0 m c t i r _ rfl) rfl)
    · rw [outsAt0_B m c t h0 h1 (by omega) (by omega) h4]
      dsimp only
      unfold out0_B_7 kernelRun0_B
      dsimp only
      sl_unfold_words
      simp only [View.read_writes_junk_eq_canon, View.readAt_eq_ld, (hs0_0 t).read_unread, (hs0_1 t).read_unread, (hs0_2 t).read_unread, (hs0_3 t).read_unread, (hs0_4 t).read_unread, (hs0_7 t).read_unread, View.ld_unit_zero (S := S512x512) hz2, View.ld_unit_zero (S := S1024x512) hz2]
      refine (strips (iblk m c 0 t) (outsAt0 m c (t.val - 1) (Nat.lt_of_le_of_lt (Nat.sub_le _ _) t.isLt)).1 (iblk m c 1 t) (iblk m c 2 t) (iblk m c 3 t) (iblk m c 4 t) [] (fun r z => E m c (ix2 ⟨t.val % 16 * 512 + r.val, by omega⟩ ⟨t.val / 16 * 2048 + z.val, by omega⟩))
        (fun r k z hz => blk1 m c t h1 r k _ _ rfl (by show t.val / 16 * 2048 + z.val = _; omega)) (fun r k z hz => blk2 m c t h1 r k _ _ rfl (by show t.val / 16 * 2048 + z.val = _; omega))
        (fun r k z hz => blk3 m c t h1 r k _ _ rfl (by show t.val / 16 * 2048 + z.val = _; omega)) (fun r k z hz => blk4 m c t h1 r k _ _ rfl (by show t.val / 16 * 2048 + z.val = _; omega)) i j).trans ?_
      exact congrArg _ (Finset.sum_congr rfl fun r _ => congrArg₂ (fun a b : EReal => a * b) (blk0 m c t i r _ rfl) rfl)
  · by_cases h3 : 48 ≤ t.val
    · by_cases h4 : t.val % 16 = 15
      · rw [outsAt0_I m c t h0 h1 (by omega) h3 h4]
        dsimp only
        unfold out0_I_7 kernelRun0_I
        dsimp only
        sl_unfold_words
        simp only [View.read_writes_junk_eq_canon, View.canon_cons_unit_zero (S := S1x1024x2048) hz, View.readAt_eq_ld, (hs0_0 t).read_unread, (hs0_6 t).read_unread, (hs0_7 t).read_unread, View.ld_unit_zero (S := S1x1024x2048) hz, View.ld_unit_zero (S := S1024x512) hz2, View.ld_unit_zero (S := S512x2048) hz2]
        exact (wide _ _ _ i j).trans (congrArg _ (Finset.sum_congr rfl fun r _ => congrArg₂ (fun a b : EReal => a * b) (blk0 m c t i r _ rfl) (blk6 m c t h3 r j _ _ rfl rfl)))
      · rw [outsAt0_H m c t h0 h1 (by omega) h3 h4]
        dsimp only
        unfold out0_H_7 kernelRun0_H
        dsimp only
        sl_unfold_words
        simp only [View.read_writes_junk_eq_canon, View.canon_cons_unit_zero (S := S1x1024x2048) hz, View.readAt_eq_ld, (hs0_0 t).read_unread, (hs0_6 t).read_unread, (hs0_7 t).read_unread, View.ld_unit_zero (S := S1x1024x2048) hz, View.ld_unit_zero (S := S1024x512) hz2, View.ld_unit_zero (S := S512x2048) hz2]
        exact (wide _ _ _ i j).trans (congrArg _ (Finset.sum_congr rfl fun r _ => congrArg₂ (fun a b : EReal => a * b) (blk0 m c t i r _ rfl) (blk6 m c t h3 r j _ _ rfl rfl)))
    · by_cases h4 : t.val % 16 = 15
      · rw [outsAt0_F m c t h0 h1 (by omega) h3 h4]
        dsimp only
        unfold out0_F_7 kernelRun0_F
        dsimp only
        sl_unfold_words
        simp only [View.read_writes_junk_eq_canon, View.canon_cons_unit_zero (S := S1x1024x2048) hz, View.readAt_eq_ld, (hs0_0 t).read_unread, (hs0_5 t).read_unread, (hs0_7 t).read_unread, View.ld_unit_zero (S := S1x1024x2048) hz, View.ld_unit_zero (S := S1024x512) hz2, View.ld_unit_zero (S := S512x2048) hz2]
        exact (wide _ _ _ i j).trans (congrArg _ (Finset.sum_congr rfl fun r _ => congrArg₂ (fun a b : EReal => a * b) (blk0 m c t i r _ rfl) (blk5 m c t (by omega) (by omega) r j _ _ rfl rfl)))
      · rw [outsAt0_E m c t h0 h1 (by omega) h3 h4]
        dsimp only
        unfold out0_E_7 kernelRun0_E
        dsimp only
        sl_unfold_words
        simp only [View.read_writes_junk_eq_canon, View.canon_cons_unit_zero (S := S1x1024x2048) hz, View.readAt_eq_ld, (hs0_0 t).read_unread, (hs0_5 t).read_unread, (hs0_7 t).read_unread, View.ld_unit_zero (S := S1x1024x2048) hz, View.ld_unit_zero (S := S1024x512) hz2, View.ld_unit_zero (S := S512x2048) hz2]
        exact (wide _ _ _ i j).trans (congrArg _ (Finset.sum_congr rfl fun r _ => congrArg₂ (fun a b : EReal => a * b) (blk0 m c t i r _ rfl) (blk5 m c t (by omega) (by omega) r j _ _ rfl rfl)))

theorem first (t : Fin cfg0.N) (h0 : t.val % 16 = 0) (i : Fin 1024) (j : Fin 2048) :
    (outsAt0 m c t.val t.isLt).1 (ix3 0 i j) = 0 + add m c t i j := by
  have hN : t.val < 64 := lt_of_lt_of_eq t.isLt N_0
  have e : (k0_pay1 (F := Ideal)) (ix3 0 i j) = (0 : EReal) := by pointwise [k0_pay1]
  refine Eq.trans ?_ (congrArg (fun a : EReal => a + add m c t i j) e)
  by_cases h1 : t.val < 16
  · rw [outsAt0_A m c t h0 h1 (by omega) (by omega) (by omega)]
    dsimp only
    unfold out0_A_7 kernelRun0_A
    dsimp only
    sl_unfold_words
    simp only [View.read_writes_junk_eq_canon, View.readAt_eq_ld, (hs0_0 t).read_unread, (hs0_1 t).read_unread, (hs0_2 t).read_unread, (hs0_3 t).read_unread, (hs0_4 t).read_unread, View.ld_unit_zero (S := S512x512) hz2, View.ld_unit_zero (S := S1024x512) hz2]
    simp (disch := first | decide +kernel | (intro a; fin_cases a <;> rfl)) only [↓View.readCov_skip, View.readCov_fill]
    refine (strips (iblk m c 0 t) (k0_pay1 (F := Ideal)) (iblk m c 1 t) (iblk m c 2 t) (iblk m c 3 t) (iblk m c 4 t) [_] (fun r z => E m c (ix2 ⟨t.val % 16 * 512 + r.val, by omega⟩ ⟨t.val / 16 * 2048 + z.val, by omega⟩))
      (fun r k z hz => blk1 m c t h1 r k _ _ rfl (by show t.val / 16 * 2048 + z.val = _; omega)) (fun r k z hz => blk2 m c t h1 r k _ _ rfl (by show t.val / 16 * 2048 + z.val = _; omega))
      (fun r k z hz => blk3 m c t h1 r k _ _ rfl (by show t.val / 16 * 2048 + z.val = _; omega)) (fun r k z hz => blk4 m c t h1 r k _ _ rfl (by show t.val / 16 * 2048 + z.val = _; omega)) i j).trans ?_
    exact congrArg _ (Finset.sum_congr rfl fun r _ => congrArg₂ (fun a b : EReal => a * b) (blk0 m c t i r _ rfl) rfl)
  · by_cases h3 : 48 ≤ t.val
    · rw [outsAt0_G m c t h0 h1 (by omega) h3 (by omega)]
      dsimp only
      unfold out0_G_7 kernelRun0_G
      dsimp only
      sl_unfold_words
      simp only [View.read_writes_junk_eq_canon, View.canon_cons_unit_zero (S := S1x1024x2048) hz, View.readCov_unit_zero (S := S1x1024x2048) _ hz, View.readAt_eq_ld, (hs0_0 t).read_unread, (hs0_6 t).read_unread, View.ld_unit_zero (S := S1x1024x2048) hz, View.ld_unit_zero (S := S1024x512) hz2, View.ld_unit_zero (S := S512x2048) hz2]
      exact (wide _ _ _ i j).trans (congrArg _ (Finset.sum_congr rfl fun r _ => congrArg₂ (fun a b : EReal => a * b) (blk0 m c t i r _ rfl) (blk6 m c t h3 r j _ _ rfl rfl)))
    · rw [outsAt0_D m c t h0 h1 (by omega) h3 (by omega)]
      dsimp only
      unfold out0_D_7 kernelRun0_D
      dsimp only
      sl_unfold_words
      simp only [View.read_writes_junk_eq_canon, View.canon_cons_unit_zero (S := S1x1024x2048) hz, View.readCov_unit_zero (S := S1x1024x2048) _ hz, View.readAt_eq_ld, (hs0_0 t).read_unread, (hs0_5 t).read_unread, View.ld_unit_zero (S := S1x1024x2048) hz, View.ld_unit_zero (S := S1024x512) hz2, View.ld_unit_zero (S := S512x2048) hz2]
      exact (wide _ _ _ i j).trans (congrArg _ (Finset.sum_congr rfl fun r _ => congrArg₂ (fun a b : EReal => a * b) (blk0 m c t i r _ rfl) (blk5 m c t (by omega) (by omega) r j _ _ rfl rfl)))

theorem total (b : ℕ) (hb : b < 4) (t : Fin cfg0.N) (ht : t.val = b * 16 + 15) (i : Fin 1024) (j : Fin 2048) :
    (outsAt0 m c t.val t.isLt).1 (ix3 0 i j) = ∑ r : Fin 8192, H m c (ix2 i r) * E m c (ix2 r ⟨b * 2048 + j.val, by omega⟩) := by
  have hN : cfg0.N = 64 := N_0
  have key := Cert.RowBlocks.sum_blocks (fun r => H m c (ix2 i r) * E m c (ix2 r ⟨b * 2048 + j.val, by omega⟩)) (fun n h => (outsAt0 m c (b * 16 + n) (by omega)).1 (ix3 0 i j)) ?_ (fun n h => ?_) 15 (by omega) rfl
  · exact (congrArg (fun t : Fin cfg0.N => (outsAt0 m c t.val t.isLt).1 (ix3 0 i j)) (Fin.ext ht : t = ⟨b * 16 + 15, by omega⟩)).trans key
  · refine (first m c ⟨b * 16 + 0, by omega⟩ (by dsimp only; omega) i j).trans (congrArg _ (Finset.sum_congr rfl fun r _ => ?_))
    exact congrArg₂ (fun a b : EReal => a * b) (Cert.Arrays.same_pair (H m c) _ _ rfl (by show (b * 16 + 0) % 16 * 512 + r.val = r.val; omega))
      (Cert.Arrays.same_pair (E m c) _ _ (by show (b * 16 + 0) % 16 * 512 + r.val = r.val; omega) (by show (b * 16 + 0) / 16 * 2048 + j.val = b * 2048 + j.val; omega))
  · refine (next m c ⟨b * 16 + (n + 1), by omega⟩ (by dsimp only; omega) i j).trans (congrArg _ (Finset.sum_congr rfl fun r _ => ?_))
    exact congrArg₂ (fun a b : EReal => a * b) (Cert.Arrays.same_pair (H m c) _ _ rfl (by show (b * 16 + (n + 1)) % 16 * 512 + r.val = (n + 1) * 512 + r.val; omega))
      (Cert.Arrays.same_pair (E m c) _ _ (by show (b * 16 + (n + 1)) % 16 * 512 + r.val = (n + 1) * 512 + r.val; omega) (by show (b * 16 + (n + 1)) / 16 * 2048 + j.val = b * 2048 + j.val; omega))

/-- The narrowed result is written from the sums at a quarter's last point. -/
theorem last (t : Fin cfg0.N) (h4 : t.val % 16 = 15) : (outsAt0 m c t.val t.isLt).2 = k0_pay6 (outsAt0 m c t.val t.isLt).1 := by
  have hN : t.val < 64 := lt_of_lt_of_eq t.isLt N_0
  have h0 : ¬t.val % 16 = 0 := by omega
  by_cases h1 : t.val < 16
  · rw [outsAt0_C m c t h0 h1 (by omega) (by omega) h4]
    dsimp only
    unfold out0_C_7 out0_C_8 kernelRun0_C
    dsimp only
    sl_unfold_words
    simp only [View.read_writes_junk_eq_canon, View.canon_cons_unit_zero (S := S1x1024x2048) hz, View.readAt_eq_ld, (hs0_0 t).read_unread, (hs0_1 t).read_unread, (hs0_2 t).read_unread, (hs0_3 t).read_unread, (hs0_4 t).read_unread, (hs0_7 t).read_unread, View.ld_unit_zero (S := S512x512) hz2, View.ld_unit_zero (S := S1024x512) hz2]
    exact congrArg k0_pay6 ((View.readCov_eq_canon' _ _ _).trans (View.ld_unit_zero (S := S1x1024x2048) hz _ _))
  · by_cases h3 : 48 ≤ t.val
    · rw [outsAt0_I m c t h0 h1 (by omega) h3 h4]
      dsimp only
      unfold out0_I_7 out0_I_8 kernelRun0_I
      dsimp only
      sl_unfold_words
      simp only [View.read_writes_junk_eq_canon, View.canon_cons_unit_zero (S := S1x1024x2048) hz, View.readCov_unit_zero (S := S1x1024x2048) _ hz]
    · rw [outsAt0_F m c t h0 h1 (by omega) h3 h4]
      dsimp only
      unfold out0_F_7 out0_F_8 kernelRun0_F
      dsimp only
      sl_unfold_words
      simp only [View.read_writes_junk_eq_canon, View.canon_cons_unit_zero (S := S1x1024x2048) hz, View.readCov_unit_zero (S := S1x1024x2048) _ hz]

/-- The arguments as the call finds them. -/
abbrev A0 : Vec Ideal S1x8192x1024 .f32 := m ((c : Thread nD τ).loc main_arg0)
@[inherit_doc A0] abbrev A1 : Vec Ideal S1x8192x8192 .f32 := m ((c : Thread nD τ).loc main_arg1)

/-- The gradient, one quarter of the columns after another. -/
def grad (x : Vec Ideal S1x8192x1024 .f32) (y : Vec Ideal S1x8192x8192 .f32) (q : S4x1024x2048.Idx) : EReal :=
  ∑ r : Fin 8192, x (ix3 0 r (q 1)) * y (ix3 0 r ⟨(q 0).val * 2048 + (q 2).val, by have h : (q 0).val < 4 := (q 0).isLt; have h' : (q 2).val < 2048 := (q 2).isLt; omega⟩)

theorem H_apply (i : Fin 1024) (r : Fin 8192) : H m c (ix2 i r) = A0 m c (ix3 0 r i) := by
  have e : (V m c main_v8 : Vec Ideal S1024x8192 .bf16) = truncf (F := Ideal) (φ := .f32) .bf16 (transpose S1024x8192 [1, 0] (shapeCast S8192x1024 (A0 m c) shapeCasts_S1x8192x1024_S8192x1024) transposes_S8192x1024_S1024x8192_1_0) bitsLt_bf16_f32 := by
    unfold_abbrev_sides
    after_results
    rfl
  show (V m c main_v8 : Vec Ideal S1024x8192 .bf16) (ix2 i r) = _
  rw [e]
  pointwise []

theorem E_apply (r j : Fin 8192) : E m c (ix2 r j) = A1 m c (ix3 0 r j) := by
  have e : (V m c main_v1 : Vec Ideal S8192x8192 .bf16) = truncf (F := Ideal) (φ := .f32) .bf16 (shapeCast S8192x8192 (A1 m c) shapeCasts_S1x8192x8192_S8192x8192) bitsLt_bf16_f32 := by
    unfold_abbrev_sides
    after_results
    rfl
  show (V m c main_v1 : Vec Ideal S8192x8192 .bf16) (ix2 r j) = _
  rw [e]
  pointwise []

theorem total_grad (t : Fin cfg0.N) (h4 : t.val % 16 = 15) (y : S1x1024x2048.Idx) (z : S4x1024x2048.Idx) (h0 : (z 0).val = t.val / 16) (h1 : (z 1).val = (y 1).val) (h2 : (z 2).val = (y 2).val) :
    (outsAt0 m c t.val t.isLt).1 y = grad (A0 m c) (A1 m c) z := by
  have hN : t.val < 64 := lt_of_lt_of_eq t.isLt N_0
  obtain ⟨i, j, rfl⟩ : ∃ (i : Fin 1024) (j : Fin 2048), y = ix3 0 i j := exists_cols y
  rw [total m c (t.val / 16) (by omega) t (by omega) i j]
  unfold grad
  refine Finset.sum_congr rfl fun r _ => ?_
  rw [H_apply, E_apply]
  have e1 : z 1 = i := Fin.ext h1
  have e2 : (⟨(z 0).val * 2048 + (z 2).val, by have h : (z 0).val < 4 := (z 0).isLt; have h' : (z 2).val < 2048 := (z 2).isLt; omega⟩ : Fin 8192) = ⟨t.val / 16 * 2048 + j.val, by omega⟩ := Fin.ext (by show (z 0).val * 2048 + (z 2).val = t.val / 16 * 2048 + j.val; rw [h0, h2]; rfl)
  rw [e2]
  exact congrArg (fun k : Fin 1024 => (A0 m c (ix3 0 r k) * A1 m c (ix3 0 r ⟨t.val / 16 * 2048 + j.val, by omega⟩) : EReal)) e1.symm

theorem block3 (n : ℕ) (f : Fin 3 → ℕ) (e : f = ![n, 0, 0]) (b r k : ℕ) (hb : b < 1) : f 0 * 1 + 1 * b = n ∧ f 1 * 1024 + 1 * r = r ∧ f 2 * 2048 + 1 * k = k := by
  subst e
  exact ⟨by show n * 1 + 1 * b = _; omega, by show 0 * 1024 + 1 * r = _; omega, by show 0 * 2048 + 1 * k = _; omega⟩

theorem narrowed (v : Vec Ideal S1x1024x2048 .f32) (y : S1x1024x2048.Idx) : (k0_pay6 v : Vec Ideal S1x1024x2048 .bf16) y = v y := by
  obtain ⟨i, j, rfl⟩ := exists_cols (a := 1024) (b := 2048) y
  pointwise [k0_pay6]

theorem final7 : (dats m 0 c).arrAt 7 cfg0.N = grad (A0 m c) (A1 m c) := by
  refine (dats m 0 c).arrAt_eq_of_covers 7 _ (by decide +kernel) fun t hf y => ?_
  have h4 : t.val % 16 = 15 := (flush0_7 t).mp hf
  blk_simp
  rw [after0_7]
  have h := block3 _ _ (idx t).2.2.2.2.2.2.2.1 (y 0).val (y 1).val (y 2).val (y 0).isLt
  exact total_grad m c t h4 y _ h.1 h.2.1 h.2.2

theorem final8 : (dats m 0 c).arrAt 8 cfg0.N = grad (A0 m c) (A1 m c) := by
  refine (dats m 0 c).arrAt_eq_of_covers 8 _ (by decide +kernel) fun t hf y => ?_
  have h4 : t.val % 16 = 15 := (flush0_8 t).mp hf
  blk_simp
  rw [after0_8, last m c t h4]
  have h := block3 _ _ (idx t).2.2.2.2.2.2.2.2 (y 0).val (y 1).val (y 2).val (y 0).isLt
  refine Eq.trans ?_ (total_grad m c t h4 y _ h.1 h.2.1 h.2.2)
  exact narrowed _ y

open Cert.DwinReferenceIdeal.Read

theorem ref7 (x : Vec Ideal S1x8192x1024 .f32) (y : Vec Ideal S1x8192x8192 .f32) : val_main_v7 (F := Ideal) x y = grad x y := by
  funext q
  have h0 : (q 0).val < 4 := (q 0).isLt
  have h1 : (q 1).val < 1024 := (q 1).isLt
  have h2 : (q 2).val < 2048 := (q 2).isLt
  rw [val_main_v7_apply, val_main_v6_apply, val_main_v5_apply, val_main_v4_apply]
  unfold grad
  refine Finset.sum_congr rfl fun r _ => ?_
  have hr : r.val < 8192 := r.isLt
  rw [val_main_v3_apply, val_main_v1_apply]
  refine (mul_comm (G := EReal) _ _).trans (congrArg₂ (fun a b : EReal => a * b) (congrArg x (funext fun a => Fin.ext ?_)) (congrArg y (funext fun a => Fin.ext ?_)))
  · match a with
    | ⟨0, _⟩ => rfl
    | ⟨1, _⟩ => show (r.val * 1024 + (((q 1).val * 4 + (q 0).val) * 2048 + (q 2).val) / 8192) / 1024 % 8192 = r.val; omega
    | ⟨2, _⟩ => show (r.val * 1024 + (((q 1).val * 4 + (q 0).val) * 2048 + (q 2).val) / 8192) % 1024 = (q 1).val; omega
  · match a with
    | ⟨0, _⟩ => rfl
    | ⟨1, _⟩ => show (r.val * 8192 + (((q 1).val * 4 + (q 0).val) * 2048 + (q 2).val) % 8192) / 8192 % 8192 = r.val; omega
    | ⟨2, _⟩ => show (r.val * 8192 + (((q 1).val * 4 + (q 0).val) * 2048 + (q 2).val) % 8192) % 8192 = (q 0).val * 2048 + (q 2).val; omega

theorem ref8 (x : Vec Ideal S1x8192x1024 .f32) (y : Vec Ideal S1x8192x8192 .f32) : val_main_v8 (F := Ideal) x y = grad x y := by
  refine Eq.trans ?_ (ref7 x y)
  funext q
  exact val_main_v8_apply x y q

end Cert.DwinKernelIdeal.Value
end
-- ==== Proof.Adam.lean ====
module

public import Idealize.ShloMosaic.Lib.Pointwise

@[expose] public section

noncomputable section

/-! The optimiser's step on one number: both moments and the update, with the step's constants as their float words. -/

namespace Cert.Adam

open Idealize.ShloMosaic

/-- A constant of the step. -/
abbrev word (b : BitVec 32) : EReal := Ideal.ofBits FTy.f32 b

/-- The first moment after a gradient `g`. -/
def mom1 (g m : EReal) : EReal := word 0x3F666666#32 * m + word 0x3DCCCCCD#32 * g

/-- The second moment after a gradient `g`. -/
def mom2 (g v : EReal) : EReal := word 0x3F7FBE77#32 * v + word 0x3A83126F#32 * (g * g)

/-- The update of a weight `w`. -/
def delta (w g m v : EReal) : EReal :=
  word 0xBA83126F#32 * (Ideal.div (Ideal.div (mom1 g m) (word 0x3F26BD02#32))
    (Ideal.sqrt (Ideal.div (mom2 g v) (word 0x3C231ACC#32)) + word 0x322BCC77#32) + word 0x3C23D70A#32 * w)

end Cert.Adam
end
-- ==== Proof.MergeBlock.lean ====
module

public import proofs.«01_k».proof.Proof.Gen.MergeKernelIdeal.Value
public import Idealize.ShloMosaic.Lib.Pipeline.Value
public import Idealize.ShloMosaic.Lib.WritesUnit
public import Idealize.ShloMosaic.Lib.Pipeline.ReadBack
public import Idealize.ShloMosaic.Lib.Pointwise

@[expose] public section

set_option maxRecDepth 16384

noncomputable section

/-! One block of the kernel that merges the two branches, takes the loss and goes back through all of it: what it writes
of each of its twelve results. -/

namespace Cert.MergeKernelIdeal.Block

open Cert.MergeKernelIdeal Cert.MergeKernelIdeal.Gen Idealize.ShloMosaic Idealize.ShloMosaic.TcCoe Idealize.SL.Sem

theorem hz : (![0, 0] : Fin 2 → Nat) = fun _ => 0 := funext fun a => by fin_cases a <;> rfl

/-- The twelve blocks one grid point reads: the gated branch, the recurrent branch, the two merge gates before their
sigmoid, the residual rows, the targets, the vectors, the branch before its gate, the gate before its activation, and the
three weights. -/
structure In (F : FTy → Type) [FloatOps F] where
  oa : Vec F S256x512 .bf16
  ob : Vec F S256x1024 .bf16
  ga : Vec F S256x1024 .f32
  gb : Vec F S256x1024 .f32
  x : Vec F S256x1024 .f32
  tgt : Vec F S256x1024 .f32
  v : Vec F S8x1024 .f32
  att : Vec F S256x512 .f32
  za : Vec F S256x512 .f32
  wa : Vec F S512x1024 .bf16
  wb : Vec F S1024x1024 .bf16
  wo : Vec F S1024x1024 .bf16

section Opened

variable {F : FTy → Type} [FloatOps F] (b : In F)

namespace In

def gate : FVec F S1x1024 .f32 := k0_pay3 (View.ld b.v (Rect.unit (s := S8x1024) ![0, 0] S1x1024.size inb_S8x1024_S1x1024_0_0))
def fg : FVec F S1x1024 .f32 := k0_pay4 (View.ld b.v (Rect.unit (s := S8x1024) ![1, 0] S1x1024.size inb_S8x1024_S1x1024_1_0))
def ya : FVec F S256x1024 .f32 := k0_pay5 b.oa b.wa
def yb : FVec F S256x1024 .f32 := k0_pay6 b.ob b.wb
def sa : FVec F S256x1024 .f32 := k0_pay7 b.ga
def hb : FVec F S256x1024 .f32 := k0_pay8 b.gb
def sb : FVec F S256x1024 .f32 := k0_pay9 b.hb
def y : FVec F S256x1024 .bf16 := k0_pay10 b.ya b.yb b.sa b.hb
def u : FVec F S256x1024 .f32 := k0_pay11 b.ya b.yb b.sa b.hb b.wo
def x2 : FVec F S256x1024 .f32 := k0_pay12 b.gate b.ya b.yb b.sa b.hb b.wo b.x
def r : FVec F S256x1 .f32 := k0_pay13 b.gate b.ya b.yb b.sa b.hb b.wo b.x
def err : FVec F S256x1024 .f32 := k0_pay14 b.gate b.fg b.ya b.yb b.sa b.hb b.wo b.x b.tgt
def dx2 : FVec F S256x1024 .f32 := k0_pay17 b.fg b.x2 b.r b.err
def du : FVec F S256x1024 .bf16 := k0_pay20 b.gate b.fg b.x2 b.r b.err
def dya : FVec F S256x1024 .bf16 := k0_pay22 b.sa b.du b.wo
def dyb : FVec F S256x1024 .bf16 := k0_pay23 b.sb b.du b.wo
def dga : FVec F S256x1024 .bf16 := k0_pay24 b.ya b.sa b.du b.wo
def dgb : FVec F S256x1024 .bf16 := k0_pay25 b.yb b.sb b.du b.wo
def doa : FVec F S256x512 .f32 := k0_pay26 b.sa b.du b.wo b.wa
def dob : FVec F S256x1024 .f32 := k0_pay27 b.sb b.du b.wo b.wb
def half : F .f32 := Scalar.ofBits .f32 0x3F000000#32
def dat : FVec F S256x512 .f32 := k0_pay31 b.doa (k0_pay28 b.za) half
def dza : FVec F S256x512 .bf16 := k0_pay32 b.doa (k0_pay28 b.za) half b.att
def dsum : FVec F S256x512 .f32 := k0_pay33 b.doa (k0_pay28 b.za) half b.att

/-- The two halves of the gates' gradient side by side. -/
def dg : Vec F S256x2048 .bf16 := fun i =>
  if h : (i 1).val < 1024 then b.dga (ix2 (i 0) ⟨(i 1).val, h⟩)
  else b.dgb (ix2 (i 0) ⟨(i 1).val - 1024, by have := (i 1).isLt; change (i 1).val < 2048 at this; omega⟩)

/-- One point's step of the two accumulated rows. -/
def acc (a : Vec F S8x1024 .f32) : Vec F S8x1024 .f32 := fun i =>
  if (i 0).val = 1 then k0_pay19 b.x2 b.r b.err (View.ld a (Rect.unit (s := S8x1024) ![1, 0] S1x1024.size inb_S8x1024_S1x1024_1_0)) (ix2 (0 : Fin 1) (i 1))
  else if (i 0).val = 0 then k0_pay18 b.fg b.u b.x2 b.r b.err (View.ld a (Rect.unit (s := S8x1024) ![0, 0] S1x1024.size inb_S8x1024_S1x1024_0_0)) (ix2 (0 : Fin 1) (i 1))
  else a i

/-- One point's step of the loss. -/
def ls (a : Vec F S8x128 .f32) : Vec F S8x128 .f32 := k0_pay15 b.gate b.fg b.ya b.yb b.sa b.hb b.wo b.x b.tgt a

end In

/-- The two one-row stores read back over what the buffer held before them. -/
theorem read_rows {κ : Kind} {sp : Space} (v : View sig κ sp S8x1024 .f32) (f : v.ty.Contents (Elt F)) (w0 w1 : Vec F S1x1024 .f32)
    (L : List (View.Piece (Elt F) S8x1024 .f32)) :
    v.read (Elt F) (v.writes (Elt F) f ((⟨Rect.unit (s := S8x1024) ![1, 0] S1x1024.size inb_S8x1024_S1x1024_1_0, w1⟩ : View.Piece (Elt F) S8x1024 .f32)
      :: (⟨Rect.unit (s := S8x1024) ![0, 0] S1x1024.size inb_S8x1024_S1x1024_0_0, w0⟩ : View.Piece (Elt F) S8x1024 .f32) :: L))
      = fun y => if (y 0).val = 1 then w1 (ix2 (0 : Fin 1) (y 1)) else if (y 0).val = 0 then w0 (ix2 (0 : Fin 1) (y 1))
          else v.read (Elt F) (v.writes (Elt F) f L) y := by
  funext y
  by_cases e1 : (y 0).val = 1
  · rw [if_pos e1]
    exact View.read_writes_cons_rows_of_mem (d := ![8, 1024]) v f _ w1 _ y (ix2 (0 : Fin 1) (y 1)) rfl e1 rfl
  rw [if_neg e1, View.read_writes_cons_unit_of_not_mem v f inb_S8x1024_S1x1024_1_0 w1 _ y rfl (0 : Fin 2) (by show (y 0).val < 1 ∨ 1 + 1 ≤ (y 0).val; omega)]
  by_cases e0 : (y 0).val = 0
  · rw [if_pos e0]
    exact View.read_writes_cons_rows_of_mem (d := ![8, 1024]) v f _ w0 _ y (ix2 (0 : Fin 1) (y 1)) rfl e0 rfl
  rw [if_neg e0, View.read_writes_cons_unit_of_not_mem v f inb_S8x1024_S1x1024_0_0 w0 _ y rfl (0 : Fin 2) (by show (y 0).val < 0 ∨ 0 + 1 ≤ (y 0).val; omega)]

/-- The two half-width stores read back. -/
theorem read_halves {κ : Kind} {sp : Space} (v : View sig κ sp S256x2048 .bf16) (f : v.ty.Contents (Elt F)) (w0 w1 : Vec F S256x1024 .bf16) :
    v.read (Elt F) (v.writes (Elt F) f [(⟨Rect.unit (s := S256x2048) ![0, 1024] S256x1024.size inb_S256x2048_S256x1024_0_1024, w1⟩ : View.Piece (Elt F) S256x2048 .bf16),
      (⟨Rect.unit (s := S256x2048) ![0, 0] S256x1024.size inb_S256x2048_S256x1024_0_0, w0⟩ : View.Piece (Elt F) S256x2048 .bf16)])
      = fun i => if h : (i 1).val < 1024 then w0 (ix2 (i 0) ⟨(i 1).val, h⟩)
          else w1 (ix2 (i 0) ⟨(i 1).val - 1024, by have := (i 1).isLt; change (i 1).val < 2048 at this; omega⟩) := by
  funext y
  have hy : (y 1).val < 2048 := (y 1).isLt
  by_cases e : (y 1).val < 1024
  · rw [dif_pos e, View.read_writes_cons_unit_of_not_mem v f inb_S256x2048_S256x1024_0_1024 w1 _ y rfl (1 : Fin 2) (by show (y 1).val < 1024 ∨ _; omega)]
    refine View.read_writes_cons_unit_of_mem v f inb_S256x2048_S256x1024_0_0 w0 _ y (ix2 (y 0) ⟨(y 1).val, e⟩) rfl fun a => ?_
    match a with
    | ⟨0, _⟩ => show (y 0).val = 0 + (y 0).val; omega
    | ⟨1, _⟩ => show (y 1).val = 0 + (y 1).val; omega
  · rw [dif_neg e]
    refine View.read_writes_cons_unit_of_mem v f inb_S256x2048_S256x1024_0_1024 w1 _ y (ix2 (y 0) ⟨(y 1).val - 1024, by omega⟩) rfl fun a => ?_
    match a with
    | ⟨0, _⟩ => show (y 0).val = 0 + (y 0).val; omega
    | ⟨1, _⟩ => show (y 1).val = 1024 + ((y 1).val - 1024); omega

variable (m : (ℓ : Loc nD τ sig) → Buf (Elt F) ℓ) (c : Dev nD)

/-- The blocks that grid point `t` reads. -/
def at' (t : Fin cfg0.N) : In F :=
  ⟨iblk m c 0 t, iblk m c 1 t, iblk m c 2 t, iblk m c 3 t, iblk m c 4 t, iblk m c 5 t, iblk m c 6 t, iblk m c 7 t, iblk m c 8 t,
    iblk m c 9 t, iblk m c 10 t, iblk m c 11 t⟩

set_option maxHeartbeats 1000000 in
theorem outs_A (t : Fin cfg0.N) (h : t.val % 32 = 0) : outsAt0 m c t.val t.isLt =
    ((at' m c t).y, (at' m c t).dx2, (at' m c t).du, (at' m c t).dya, (at' m c t).dyb, (at' m c t).dg, (at' m c t).dat, (at' m c t).dsum,
      (at' m c t).dza, (at' m c t).dob, (at' m c t).acc k0_pay1, (at' m c t).ls k0_pay2) := by
  rw [outsAt0_A m c t h]
  unfold out0_A_12 out0_A_13 out0_A_14 out0_A_15 out0_A_16 out0_A_17 out0_A_18 out0_A_19 out0_A_20 out0_A_21 out0_A_22 out0_A_23
  unfold kernelRun0_A
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread, (hs0_9 t).read_unread, (hs0_10 t).read_unread,
    (hs0_11 t).read_unread, View.ld_unit_zero (S := S256x512) hz, View.ld_unit_zero (S := S256x1024) hz,
    View.ld_unit_zero (S := S512x1024) hz, View.ld_unit_zero (S := S1024x1024) hz,
    View.ld_unit_zero (S := S8x1024) hz, View.ld_unit_zero (S := S8x128) hz]
  simp (disch := first | decide +kernel | (intro a; fin_cases a <;> rfl)) only [↓View.readCov_skip, View.readCov_fill]
  rw [read_rows, read_halves]
  simp only [View.read_writes_junk_eq_canon, View.canon_cons_unit_zero (S := S256x512) hz, View.canon_cons_unit_zero (S := S256x1024) hz,
    View.canon_cons_unit_zero (S := S8x1024) hz, View.canon_cons_unit_zero (S := S8x128) hz, View.ld_unit_zero (S := S8x128) hz]
  delta In.dg In.acc
  simp only [In.gate, In.fg, In.ya, In.yb, In.sa, In.hb, In.sb, In.y, In.u, In.x2, In.r, In.err, In.dx2, In.du, In.dya, In.dyb, In.dga, In.dgb, In.doa, In.dob, In.half, In.dat, In.dza, In.dsum, In.ls, at']

set_option maxHeartbeats 1000000 in
/-- A later point adds to what the accumulated results held before it. -/
theorem outs_B (t : Fin cfg0.N) (h : ¬t.val % 32 = 0) : outsAt0 m c t.val t.isLt =
    ((at' m c t).y, (at' m c t).dx2, (at' m c t).du, (at' m c t).dya, (at' m c t).dyb, (at' m c t).dg, (at' m c t).dat, (at' m c t).dsum,
      (at' m c t).dza, (at' m c t).dob,
      (at' m c t).acc (outsAt0 m c (t.val - 1) (by omega)).2.2.2.2.2.2.2.2.2.2.1,
      (at' m c t).ls (outsAt0 m c (t.val - 1) (by omega)).2.2.2.2.2.2.2.2.2.2.2) := by
  rw [outsAt0_B m c t h]
  unfold out0_B_12 out0_B_13 out0_B_14 out0_B_15 out0_B_16 out0_B_17 out0_B_18 out0_B_19 out0_B_20 out0_B_21 out0_B_22 out0_B_23
  unfold kernelRun0_B
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread, (hs0_9 t).read_unread, (hs0_10 t).read_unread,
    (hs0_11 t).read_unread, View.ld_unit_zero (S := S256x512) hz, View.ld_unit_zero (S := S256x1024) hz,
    View.ld_unit_zero (S := S512x1024) hz, View.ld_unit_zero (S := S1024x1024) hz,
    View.ld_unit_zero (S := S8x1024) hz, View.ld_unit_zero (S := S8x128) hz]
  rw [read_rows, read_halves]
  simp only [View.read_writes_junk_eq_canon, View.canon_cons_unit_zero (S := S256x512) hz, View.canon_cons_unit_zero (S := S256x1024) hz,
    View.canon_cons_unit_zero (S := S8x1024) hz, View.canon_cons_unit_zero (S := S8x128) hz, View.ld_unit_zero (S := S8x128) hz, (hs0_22 t).read_unread, (hs0_23 t).read_unread, View.writes_nil]
  delta In.dg In.acc
  simp only [In.gate, In.fg, In.ya, In.yb, In.sa, In.hb, In.sb, In.y, In.u, In.x2, In.r, In.err, In.dx2, In.du, In.dya, In.dyb, In.dga, In.dgb, In.doa, In.dob, In.half, In.dat, In.dza, In.dsum, In.ls, at']

end Opened

end Cert.MergeKernelIdeal.Block
end
-- ==== Proof.MergeHost.lean ====
module

public import proofs.«01_k».proof.Proof.MergeBlock
public import proofs.«01_k».proof.Proof.Arrays

@[expose] public section

set_option maxRecDepth 16384

noncomputable section

/-! The arrays the region of the merge kernel finds, as functions of the arguments, and the block of each that one grid
point reads. -/

namespace Cert.MergeKernelIdeal.Host

open Cert.MergeKernelIdeal Cert.MergeKernelIdeal.Gen Cert.MergeKernelIdeal.Block Idealize.ShloMosaic Idealize.ShloMosaic.TcCoe Idealize.SL.Sem

variable (m : (ℓ : Loc nD τ sig) → Buf (Elt Ideal) ℓ) (c : Dev nD)

/-- The arguments, read at plain indices. -/
def OA (r : Fin 8192) (l : Fin 512) : EReal := (m ((c : Thread nD τ).loc main_arg0) : Vec Ideal S1x8192x512 .f32) (ix3 (0 : Fin 1) r l)
@[inherit_doc OA]
def OB (r : Fin 8192) (l : Fin 1024) : EReal := (m ((c : Thread nD τ).loc main_arg1) : Vec Ideal S1x8192x1024 .f32) (ix3 (0 : Fin 1) r l)
@[inherit_doc OA]
def PJ (r : Fin 8192) (l : Fin 8192) : EReal := (m ((c : Thread nD τ).loc main_arg2) : Vec Ideal S1x8192x8192 .f32) (ix3 (0 : Fin 1) r l)
@[inherit_doc OA]
def X (r : Fin 8192) (l : Fin 1024) : EReal := (m ((c : Thread nD τ).loc main_arg3) : Vec Ideal S1x8192x1024 .f32) (ix3 (0 : Fin 1) r l)
@[inherit_doc OA]
def GT (l : Fin 1024) : EReal := (m ((c : Thread nD τ).loc main_arg4) : Vec Ideal S1x1024 .f32) (ix2 (0 : Fin 1) l)
@[inherit_doc OA]
def FG (l : Fin 1024) : EReal := (m ((c : Thread nD τ).loc main_arg5) : Vec Ideal S1024 .f32) (ix1 l)
@[inherit_doc OA]
def WA (r : Fin 512) (l : Fin 1024) : EReal := (m ((c : Thread nD τ).loc main_arg6) : Vec Ideal S1x512x1024 .f32) (ix3 (0 : Fin 1) r l)
@[inherit_doc OA]
def WB (r : Fin 1024) (l : Fin 1024) : EReal := (m ((c : Thread nD τ).loc main_arg7) : Vec Ideal S1x1024x1024 .f32) (ix3 (0 : Fin 1) r l)
@[inherit_doc OA]
def WO (r : Fin 1024) (l : Fin 1024) : EReal := (m ((c : Thread nD τ).loc main_arg8) : Vec Ideal S1x1024x1024 .f32) (ix3 (0 : Fin 1) r l)
@[inherit_doc OA]
def TG (r : Fin 8192) (l : Fin 1024) : EReal := (m ((c : Thread nD τ).loc main_arg9) : Vec Ideal S1x8192x1024 .f32) (ix3 (0 : Fin 1) r l)

/-- The logistic function as the host spells it. -/
def sg (x : EReal) : EReal := Ideal.div (Ideal.ofBits FTy.f32 0x3F800000#32) (Ideal.ofBits FTy.f32 0x3F800000#32 + Ideal.exp (-x))

/-- The columns of the projection that one part of it takes. -/
abbrev col (o : ℕ) {n : ℕ} (h : o + n ≤ 8192) (l : Fin n) : Fin 8192 := ⟨o + l.val, by omega⟩

/-- Position `r` of the block that grid point `t` works on. -/
abbrev pos (t : Fin cfg0.N) (r : Fin 256) : Fin 8192 := ⟨t.val * 256 + r.val, by have := lt_of_lt_of_eq t.isLt N_0; omega⟩

theorem V_v0 (r : Fin 8192) (l : Fin 8192) : (V m c main_v0 : Vec Ideal S8192x8192 .f32) (ix2 r l) = PJ m c r l :=
  Cert.Arrays.drop_lead (m ((c : Thread nD τ).loc main_arg2) : Vec Ideal S1x8192x8192 .f32) shapeCasts_S1x8192x8192_S8192x8192 r l

/-- The host's gate of one attention output. -/
theorem gated (A B : Vec Ideal S8192x512 .f32) (r : Fin 8192) (l : Fin 512) :
    (truncf (F := Ideal) (s := S8192x512) (φ := .f32) .bf16
      (mulf (F := Ideal) (s := S8192x512) (φ := .f32) A
        (mulf (F := Ideal) (s := S8192x512) (φ := .f32) B
          (Host.divf (F := Ideal) (s := S8192x512) (φ := .f32) (broadcastInDim S8192x512 ![] bcast_S_S8192x512 (constant (F := Ideal) S_ .f32 0x3F800000#32))
            (addf (F := Ideal) (s := S8192x512) (φ := .f32) (broadcastInDim S8192x512 ![] bcast_S_S8192x512 (constant (F := Ideal) S_ .f32 0x3F800000#32))
              (Host.exp (F := Ideal) (s := S8192x512) (φ := .f32) (Host.negf (F := Ideal) (s := S8192x512) (φ := .f32) B))))))
      bitsLt_bf16_f32 : Vec Ideal S8192x512 .bf16) (ix2 r l) = A (ix2 r l) * (B (ix2 r l) * sg (B (ix2 r l))) := rfl

theorem V_v5 (r : Fin 8192) (l : Fin 512) : (V m c main_v5 : Vec Ideal S8192x512 .bf16) (ix2 r l)
    = OA m c r l * (PJ m c r (col 1536 (by omega) l) * sg (PJ m c r (col 1536 (by omega) l))) := by
  have p : extractStridedSlice S8192x512 ![0, 1536] (V m c main_v0 : Vec Ideal S8192x8192 .f32) slices_S8192x8192_S8192x512_0_1536 (ix2 r l)
      = PJ m c r (col 1536 (by omega) l) := by
    rw [← V_v0]
    refine congrArg (V m c main_v0 : Vec Ideal S8192x8192 .f32) (funext fun a => Fin.ext ?_)
    match a with
    | ⟨0, _⟩ => show 0 + r.val = r.val; omega
    | ⟨1, _⟩ => rfl
  have q := Cert.Arrays.drop_lead (m ((c : Thread nD τ).loc main_arg0) : Vec Ideal S1x8192x512 .f32) shapeCasts_S1x8192x512_S8192x512 r l
  refine Eq.trans (congrFun ?_ (ix2 r l)) ((gated (shapeCast S8192x512 (m ((c : Thread nD τ).loc main_arg0) : Vec Ideal S1x8192x512 .f32) shapeCasts_S1x8192x512_S8192x512)
    (extractStridedSlice S8192x512 ![0, 1536] (V m c main_v0 : Vec Ideal S8192x8192 .f32) slices_S8192x8192_S8192x512_0_1536) r l).trans ?_)
  · unfold_abbrev_sides
    rfl
  · rw [p, q]
    rfl

theorem V_v10 (r : Fin 8192) (l : Fin 1024) : (V m c main_v10 : Vec Ideal S8192x1024 .bf16) (ix2 r l) = OB m c r l :=
  Cert.Arrays.drop_lead (m ((c : Thread nD τ).loc main_arg1) : Vec Ideal S1x8192x1024 .f32) shapeCasts_S1x8192x1024_S8192x1024 r l

theorem V_v11 (r : Fin 8192) (l : Fin 1024) : (V m c main_v11 : Vec Ideal S8192x1024 .f32) (ix2 r l) = X m c r l :=
  Cert.Arrays.drop_lead (m ((c : Thread nD τ).loc main_arg3) : Vec Ideal S1x8192x1024 .f32) shapeCasts_S1x8192x1024_S8192x1024 r l

theorem V_v12 (r : Fin 8192) (l : Fin 1024) : (V m c main_v12 : Vec Ideal S8192x1024 .f32) (ix2 r l) = TG m c r l :=
  Cert.Arrays.drop_lead (m ((c : Thread nD τ).loc main_arg9) : Vec Ideal S1x8192x1024 .f32) shapeCasts_S1x8192x1024_S8192x1024 r l

theorem V_v13 (r : Fin 8192) (l : Fin 512) : (V m c main_v13 : Vec Ideal S8192x512 .f32) (ix2 r l) = OA m c r l :=
  Cert.Arrays.drop_lead (m ((c : Thread nD τ).loc main_arg0) : Vec Ideal S1x8192x512 .f32) shapeCasts_S1x8192x512_S8192x512 r l

theorem V_v15 (r : Fin 512) (l : Fin 1024) : (V m c main_v15 : Vec Ideal S512x1024 .bf16) (ix2 r l) = WA m c r l :=
  Cert.Arrays.drop_lead (m ((c : Thread nD τ).loc main_arg6) : Vec Ideal S1x512x1024 .f32) shapeCasts_S1x512x1024_S512x1024 r l

theorem V_v17 (r : Fin 1024) (l : Fin 1024) : (V m c main_v17 : Vec Ideal S1024x1024 .bf16) (ix2 r l) = WB m c r l :=
  Cert.Arrays.drop_lead (m ((c : Thread nD τ).loc main_arg7) : Vec Ideal S1x1024x1024 .f32) shapeCasts_S1x1024x1024_S1024x1024 r l

theorem V_v19 (r : Fin 1024) (l : Fin 1024) : (V m c main_v19 : Vec Ideal S1024x1024 .bf16) (ix2 r l) = WO m c r l :=
  Cert.Arrays.drop_lead (m ((c : Thread nD τ).loc main_arg8) : Vec Ideal S1x1024x1024 .f32) shapeCasts_S1x1024x1024_S1024x1024 r l

/-- The rows of the vectors the body multiplies by: the gate, the last norm's gain, and nothing. -/
def VEC (r : Fin 8) (l : Fin 1024) : EReal := if r.val = 0 then GT m c l else if r.val = 1 then FG m c l else 0

theorem V_v8 (r : Fin 8) (l : Fin 1024) : (V m c main_v8 : Vec Ideal S8x1024 .f32) (ix2 r l) = VEC m c r l := by
  have e : (V m c main_v8 : Vec Ideal S8x1024 .f32) = concatenate S8x1024 0
      [⟨S1x1024, (m ((c : Thread nD τ).loc main_arg4))⟩,
       ⟨S1x1024, broadcastInDim S1x1024 ![1] bcast_S1024_S1x1024_1 (m ((c : Thread nD τ).loc main_arg5) : Vec Ideal S1024 .f32)⟩,
       ⟨S6x1024, broadcastInDim S6x1024 ![] bcast_S_S6x1024 (constant (F := Ideal) S_ .f32 0x00000000#32)⟩] concatenates_S1x1024_S1x1024_S6x1024_S8x1024_d0 := by
    unfold_abbrev_sides
    rfl
  rw [e]
  unfold VEC GT FG
  generalize (m ((c : Thread nD τ).loc main_arg4) : Vec Ideal S1x1024 .f32) = A
  generalize (m ((c : Thread nD τ).loc main_arg5) : Vec Ideal S1024 .f32) = B
  fin_cases r <;> pointwise []

/-- Which block of its array each operand's window shows at a grid point. -/
theorem places : ∀ t : Fin cfg0.N,
    win0_0.index t 0 = t.val ∧ win0_0.index t 1 = 0 ∧
    win0_1.index t 0 = t.val ∧ win0_1.index t 1 = 0 ∧
    win0_2.index t 0 = t.val ∧ win0_2.index t 1 = 6 ∧
    win0_3.index t 0 = t.val ∧ win0_3.index t 1 = 7 ∧
    win0_4.index t 0 = t.val ∧ win0_4.index t 1 = 0 ∧
    win0_5.index t 0 = t.val ∧ win0_5.index t 1 = 0 ∧
    win0_6.index t 0 = 0 ∧ win0_6.index t 1 = 0 ∧
    win0_7.index t 0 = t.val ∧ win0_7.index t 1 = 0 ∧
    win0_8.index t 0 = t.val ∧ win0_8.index t 1 = 3 ∧
    win0_9.index t 0 = 0 ∧ win0_9.index t 1 = 0 ∧
    win0_10.index t 0 = 0 ∧ win0_10.index t 1 = 0 ∧
    win0_11.index t 0 = 0 ∧ win0_11.index t 1 = 0 :=
  by decide +kernel

theorem at_oa (t : Fin cfg0.N) (r : Fin 256) (l : Fin 512) : (at' m c t).oa (ix2 r l) = OA m c (pos t r) l * (PJ m c (pos t r) (col 1536 (by omega) l) * sg (PJ m c (pos t r) (col 1536 (by omega) l))) := by
  obtain ⟨hr, hc, _⟩ := places t
  refine Eq.trans ?_ (V_v5 m c _ _)
  show (iblk m c 0 t : Vec Ideal S256x512 .bf16) (ix2 r l) = _
  unfold iblk
  rw [View.read_apply]
  refine Cert.Arrays.same_pair (V m c main_v5 : Vec Ideal S8192x512 .bf16) _ _ ?_ ?_
  · show win0_0.index t 0 * 256 + 1 * r.val = t.val * 256 + r.val; rw [hr]; omega
  · show win0_0.index t 1 * 512 + 1 * l.val = l.val; rw [hc]; omega

theorem at_ob (t : Fin cfg0.N) (r : Fin 256) (l : Fin 1024) : (at' m c t).ob (ix2 r l) = OB m c (pos t r) l := by
  obtain ⟨_, _, hr, hc, _⟩ := places t
  refine Eq.trans ?_ (V_v10 m c _ _)
  show (iblk m c 1 t : Vec Ideal S256x1024 .bf16) (ix2 r l) = _
  unfold iblk
  rw [View.read_apply]
  refine Cert.Arrays.same_pair (V m c main_v10 : Vec Ideal S8192x1024 .bf16) _ _ ?_ ?_
  · show win0_1.index t 0 * 256 + 1 * r.val = t.val * 256 + r.val; rw [hr]; omega
  · show win0_1.index t 1 * 1024 + 1 * l.val = l.val; rw [hc]; omega

theorem at_ga (t : Fin cfg0.N) (r : Fin 256) (l : Fin 1024) : (at' m c t).ga (ix2 r l) = PJ m c (pos t r) (col 6144 (by omega) l) := by
  obtain ⟨_, _, _, _, hr, hc, _⟩ := places t
  refine Eq.trans ?_ (V_v0 m c _ _)
  show (iblk m c 2 t : Vec Ideal S256x1024 .f32) (ix2 r l) = _
  unfold iblk
  rw [View.read_apply]
  refine Cert.Arrays.same_pair (V m c main_v0 : Vec Ideal S8192x8192 .f32) _ _ ?_ ?_
  · show win0_2.index t 0 * 256 + 1 * r.val = t.val * 256 + r.val; rw [hr]; omega
  · show win0_2.index t 1 * 1024 + 1 * l.val = 6144 + l.val; rw [hc]; omega

theorem at_gb (t : Fin cfg0.N) (r : Fin 256) (l : Fin 1024) : (at' m c t).gb (ix2 r l) = PJ m c (pos t r) (col 7168 (by omega) l) := by
  obtain ⟨_, _, _, _, _, _, hr, hc, _⟩ := places t
  refine Eq.trans ?_ (V_v0 m c _ _)
  show (iblk m c 3 t : Vec Ideal S256x1024 .f32) (ix2 r l) = _
  unfold iblk
  rw [View.read_apply]
  refine Cert.Arrays.same_pair (V m c main_v0 : Vec Ideal S8192x8192 .f32) _ _ ?_ ?_
  · show win0_3.index t 0 * 256 + 1 * r.val = t.val * 256 + r.val; rw [hr]; omega
  · show win0_3.index t 1 * 1024 + 1 * l.val = 7168 + l.val; rw [hc]; omega

theorem at_x (t : Fin cfg0.N) (r : Fin 256) (l : Fin 1024) : (at' m c t).x (ix2 r l) = X m c (pos t r) l := by
  obtain ⟨_, _, _, _, _, _, _, _, hr, hc, _⟩ := places t
  refine Eq.trans ?_ (V_v11 m c _ _)
  show (iblk m c 4 t : Vec Ideal S256x1024 .f32) (ix2 r l) = _
  unfold iblk
  rw [View.read_apply]
  refine Cert.Arrays.same_pair (V m c main_v11 : Vec Ideal S8192x1024 .f32) _ _ ?_ ?_
  · show win0_4.index t 0 * 256 + 1 * r.val = t.val * 256 + r.val; rw [hr]; omega
  · show win0_4.index t 1 * 1024 + 1 * l.val = l.val; rw [hc]; omega

theorem at_tgt (t : Fin cfg0.N) (r : Fin 256) (l : Fin 1024) : (at' m c t).tgt (ix2 r l) = TG m c (pos t r) l := by
  obtain ⟨_, _, _, _, _, _, _, _, _, _, hr, hc, _⟩ := places t
  refine Eq.trans ?_ (V_v12 m c _ _)
  show (iblk m c 5 t : Vec Ideal S256x1024 .f32) (ix2 r l) = _
  unfold iblk
  rw [View.read_apply]
  refine Cert.Arrays.same_pair (V m c main_v12 : Vec Ideal S8192x1024 .f32) _ _ ?_ ?_
  · show win0_5.index t 0 * 256 + 1 * r.val = t.val * 256 + r.val; rw [hr]; omega
  · show win0_5.index t 1 * 1024 + 1 * l.val = l.val; rw [hc]; omega

theorem at_v (t : Fin cfg0.N) (r : Fin 8) (l : Fin 1024) : (at' m c t).v (ix2 r l) = VEC m c r l := by
  obtain ⟨_, _, _, _, _, _, _, _, _, _, _, _, hr, hc, _⟩ := places t
  refine Eq.trans ?_ (V_v8 m c _ _)
  show (iblk m c 6 t : Vec Ideal S8x1024 .f32) (ix2 r l) = _
  unfold iblk
  rw [View.read_apply]
  refine Cert.Arrays.same_pair (V m c main_v8 : Vec Ideal S8x1024 .f32) _ _ ?_ ?_
  · show win0_6.index t 0 * 8 + 1 * r.val = r.val; rw [hr]; omega
  · show win0_6.index t 1 * 1024 + 1 * l.val = l.val; rw [hc]; omega

theorem at_att (t : Fin cfg0.N) (r : Fin 256) (l : Fin 512) : (at' m c t).att (ix2 r l) = OA m c (pos t r) l := by
  obtain ⟨_, _, _, _, _, _, _, _, _, _, _, _, _, _, hr, hc, _⟩ := places t
  refine Eq.trans ?_ (V_v13 m c _ _)
  show (iblk m c 7 t : Vec Ideal S256x512 .f32) (ix2 r l) = _
  unfold iblk
  rw [View.read_apply]
  refine Cert.Arrays.same_pair (V m c main_v13 : Vec Ideal S8192x512 .f32) _ _ ?_ ?_
  · show win0_7.index t 0 * 256 + 1 * r.val = t.val * 256 + r.val; rw [hr]; omega
  · show win0_7.index t 1 * 512 + 1 * l.val = l.val; rw [hc]; omega

theorem at_za (t : Fin cfg0.N) (r : Fin 256) (l : Fin 512) : (at' m c t).za (ix2 r l) = PJ m c (pos t r) (col 1536 (by omega) l) := by
  obtain ⟨_, _, _, _, _, _, _, _, _, _, _, _, _, _, _, _, hr, hc, _⟩ := places t
  refine Eq.trans ?_ (V_v0 m c _ _)
  show (iblk m c 8 t : Vec Ideal S256x512 .f32) (ix2 r l) = _
  unfold iblk
  rw [View.read_apply]
  refine Cert.Arrays.same_pair (V m c main_v0 : Vec Ideal S8192x8192 .f32) _ _ ?_ ?_
  · show win0_8.index t 0 * 256 + 1 * r.val = t.val * 256 + r.val; rw [hr]; omega
  · show win0_8.index t 1 * 512 + 1 * l.val = 1536 + l.val; rw [hc]; omega

theorem at_wa (t : Fin cfg0.N) (r : Fin 512) (l : Fin 1024) : (at' m c t).wa (ix2 r l) = WA m c r l := by
  obtain ⟨_, _, _, _, _, _, _, _, _, _, _, _, _, _, _, _, _, _, hr, hc, _⟩ := places t
  refine Eq.trans ?_ (V_v15 m c _ _)
  show (iblk m c 9 t : Vec Ideal S512x1024 .bf16) (ix2 r l) = _
  unfold iblk
  rw [View.read_apply]
  refine Cert.Arrays.same_pair (V m c main_v15 : Vec Ideal S512x1024 .bf16) _ _ ?_ ?_
  · show win0_9.index t 0 * 512 + 1 * r.val = r.val; rw [hr]; omega
  · show win0_9.index t 1 * 1024 + 1 * l.val = l.val; rw [hc]; omega

theorem at_wb (t : Fin cfg0.N) (r : Fin 1024) (l : Fin 1024) : (at' m c t).wb (ix2 r l) = WB m c r l := by
  obtain ⟨_, _, _, _, _, _, _, _, _, _, _, _, _, _, _, _, _, _, _, _, hr, hc, _⟩ := places t
  refine Eq.trans ?_ (V_v17 m c _ _)
  show (iblk m c 10 t : Vec Ideal S1024x1024 .bf16) (ix2 r l) = _
  unfold iblk
  rw [View.read_apply]
  refine Cert.Arrays.same_pair (V m c main_v17 : Vec Ideal S1024x1024 .bf16) _ _ ?_ ?_
  · show win0_10.index t 0 * 1024 + 1 * r.val = r.val; rw [hr]; omega
  · show win0_10.index t 1 * 1024 + 1 * l.val = l.val; rw [hc]; omega

theorem at_wo (t : Fin cfg0.N) (r : Fin 1024) (l : Fin 1024) : (at' m c t).wo (ix2 r l) = WO m c r l := by
  obtain ⟨_, _, _, _, _, _, _, _, _, _, _, _, _, _, _, _, _, _, _, _, _, _, hr, hc⟩ := places t
  refine Eq.trans ?_ (V_v19 m c _ _)
  show (iblk m c 11 t : Vec Ideal S1024x1024 .bf16) (ix2 r l) = _
  unfold iblk
  rw [View.read_apply]
  refine Cert.Arrays.same_pair (V m c main_v19 : Vec Ideal S1024x1024 .bf16) _ _ ?_ ?_
  · show win0_11.index t 0 * 1024 + 1 * r.val = r.val; rw [hr]; omega
  · show win0_11.index t 1 * 1024 + 1 * l.val = l.val; rw [hc]; omega

end Cert.MergeKernelIdeal.Host
end
-- ==== Proof.MergeValue.lean ====
module

public import proofs.«01_k».proof.Proof.MergeHost

@[expose] public section

set_option maxRecDepth 16384

noncomputable section

/-! What the merge kernel's body computes at one position, and the block of each result that one grid point writes. -/

namespace Cert.MergeKernelIdeal.Value

open Cert.MergeKernelIdeal Cert.MergeKernelIdeal.Gen Cert.MergeKernelIdeal.Block Cert.MergeKernelIdeal.Host Idealize.ShloMosaic Idealize.ShloMosaic.TcCoe Idealize.SL.Sem

variable (m : (ℓ : Loc nD τ sig) → Buf (Elt Ideal) ℓ) (c : Dev nD)

/-- One half, one, and the widths, as the words the body holds. -/
abbrev hw : EReal := Ideal.ofBits FTy.f32 0x3F000000#32
@[inherit_doc hw]
abbrev ow : EReal := Ideal.ofBits FTy.f32 0x3F800000#32
@[inherit_doc hw]
abbrev ww : EReal := Ideal.ofBits FTy.f32 0x44800000#32
@[inherit_doc hw]
abbrev iw : EReal := Ideal.ofBits FTy.f32 0x3A800000#32

/-- The logistic function as the body spells it. -/
def th (x : EReal) : EReal := hw * Ideal.tanh (hw * x) + hw

/-- The attention branch, gated. -/
def ya (r : Fin 8192) (l : Fin 1024) : EReal :=
  ∑ k : Fin 512, OA m c r k * (PJ m c r (col 1536 (by omega) k) * sg (PJ m c r (col 1536 (by omega) k))) * WA m c k l
/-- The recurrent branch. -/
def yb (r : Fin 8192) (l : Fin 1024) : EReal := ∑ k : Fin 1024, OB m c r k * WB m c k l
/-- The two merging gates. -/
def sa (r : Fin 8192) (l : Fin 1024) : EReal := th (PJ m c r (col 6144 (by omega) l))
@[inherit_doc sa]
def sb (r : Fin 8192) (l : Fin 1024) : EReal := th (PJ m c r (col 7168 (by omega) l))
/-- The merged branches. -/
def y (r : Fin 8192) (l : Fin 1024) : EReal := sa m c r l * ya m c r l + sb m c r l * yb m c r l
/-- The merged branches after the output product. -/
def u (r : Fin 8192) (l : Fin 1024) : EReal := ∑ k : Fin 1024, y m c r k * WO m c k l
/-- The layer's output. -/
def x2 (r : Fin 8192) (l : Fin 1024) : EReal := X m c r l + GT m c l * u m c r l
/-- One over the root mean square of the layer's output. -/
def rs (r : Fin 8192) : EReal :=
  Ideal.rsqrt (Ideal.div (∑ k, x2 m c r k * x2 m c r k) ww + Ideal.ofBits FTy.f32 0x358637BD#32)
/-- What the last norm's output misses the target by. -/
def err (r : Fin 8192) (l : Fin 1024) : EReal := x2 m c r l * rs m c r * FG m c l - TG m c r l
/-- The loss's gradient at the last norm's output. -/
def dout (r : Fin 8192) (l : Fin 1024) : EReal := err m c r l * iw
/-- The gradient at the layer's output. -/
def dx2 (r : Fin 8192) (l : Fin 1024) : EReal :=
  rs m c r * (dout m c r l * FG m c l)
    - x2 m c r l * (rs m c r * rs m c r * rs m c r * Ideal.div (∑ k, dout m c r k * FG m c k * x2 m c r k) ww)
/-- The gradient at the output product. -/
def du (r : Fin 8192) (l : Fin 1024) : EReal := dx2 m c r l * GT m c l
/-- The gradient at the merged branches. -/
def dy (r : Fin 8192) (l : Fin 1024) : EReal := ∑ k : Fin 1024, du m c r k * WO m c l k
/-- The gradients at the two branches. -/
def dya (r : Fin 8192) (l : Fin 1024) : EReal := dy m c r l * sa m c r l
@[inherit_doc dya]
def dyb (r : Fin 8192) (l : Fin 1024) : EReal := dy m c r l * sb m c r l
/-- The gradients at the two merging gates' arguments. -/
def dga (r : Fin 8192) (l : Fin 1024) : EReal := dy m c r l * ya m c r l * sa m c r l * (ow - sa m c r l)
@[inherit_doc dga]
def dgb (r : Fin 8192) (l : Fin 1024) : EReal := dy m c r l * yb m c r l * sb m c r l * (ow - sb m c r l)
/-- The gradient at the gated attention output. -/
def doa (r : Fin 8192) (l : Fin 512) : EReal := ∑ k : Fin 1024, dya m c r k * WA m c l k
/-- The gradient at the recurrence's output. -/
def dob (r : Fin 8192) (l : Fin 1024) : EReal := ∑ k : Fin 1024, dyb m c r k * WB m c l k
/-- The attention gate's argument. -/
def z (r : Fin 8192) (l : Fin 512) : EReal := PJ m c r (col 1536 (by omega) l)
/-- The gradient at the attention's output. -/
def dat (r : Fin 8192) (l : Fin 512) : EReal := doa m c r l * (z m c r l * th (z m c r l))
/-- The gradient at the attention gate's argument. -/
def dza (r : Fin 8192) (l : Fin 512) : EReal :=
  doa m c r l * OA m c r l * (th (z m c r l) * (ow + z m c r l * (ow - th (z m c r l))))

/-- The two gates' gradients side by side. -/
def dg (r : Fin 8192) (l : Fin 2048) : EReal :=
  if h : l.val < 1024 then dga m c r ⟨l.val, h⟩ else dgb m c r ⟨l.val - 1024, by omega⟩
/-- One where two columns belong to the same head. -/
def mask (k l : Fin 512) : EReal := if k.val / 64 = l.val / 64 then 1 else 0
/-- The sum over a head of the attention's output times its gradient, in two passes: rounded, and what the rounding lost. -/
def dsum (r : Fin 8192) (l : Fin 512) : EReal :=
  ∑ k : Fin 512, dat m c r k * OA m c r k * mask k l + ∑ k : Fin 512, (dat m c r k * OA m c r k - dat m c r k * OA m c r k) * mask k l
/-- What position `r` adds to row `j` of the accumulated gradients. -/
def term (j : Fin 8) (r : Fin 8192) (l : Fin 1024) : EReal :=
  if j.val = 1 then dout m c r l * x2 m c r l * rs m c r else if j.val = 0 then dx2 m c r l * u m c r l else 0
/-- What position `r` adds to the loss. -/
def miss (r : Fin 8192) : EReal := ∑ k : Fin 1024, err m c r k * err m c r k

section Blocks

variable (t : Fin cfg0.N) (r : Fin 256)

theorem gate_block (l : Fin 1024) : (at' m c t).gate (ix2 (0 : Fin 1) l) = GT m c l := by
  unfold In.gate
  pointwise [k0_pay3]
  rw [at_v]
  rfl
theorem fg_block (l : Fin 1024) : (at' m c t).fg (ix2 (0 : Fin 1) l) = FG m c l := by
  unfold In.fg
  pointwise [k0_pay4]
  rw [at_v]
  rfl
theorem ya_block (l : Fin 1024) : (at' m c t).ya (ix2 r l) = ya m c (pos t r) l := by
  unfold In.ya ya
  pointwise [k0_pay5]
  simp only [at_oa, at_wa]
theorem yb_block (l : Fin 1024) : (at' m c t).yb (ix2 r l) = yb m c (pos t r) l := by
  unfold In.yb yb
  pointwise [k0_pay6]
  simp only [at_ob, at_wb]
theorem sa_block (l : Fin 1024) : (at' m c t).sa (ix2 r l) = sa m c (pos t r) l := by
  unfold In.sa sa th
  pointwise [k0_pay7]
  simp only [at_ga]
theorem sb_block (l : Fin 1024) : (at' m c t).sb (ix2 r l) = sb m c (pos t r) l := by
  unfold In.sb In.hb sb th
  pointwise [k0_pay9, k0_pay8]
  simp only [at_gb]
theorem y_block (l : Fin 1024) : (at' m c t).y (ix2 r l) = y m c (pos t r) l := by
  unfold In.y y
  pointwise [k0_pay10]
  rw [sa_block, ya_block, yb_block]
  have h : k0_pay9 (F := Ideal) (at' m c t).hb (ix2 r l) = sb m c (pos t r) l := sb_block m c t r l
  rw [h]
theorem u_block (l : Fin 1024) : (at' m c t).u (ix2 r l) = u m c (pos t r) l := by
  unfold In.u u
  pointwise [k0_pay11]
  simp only [at_wo]
  exact Finset.sum_congr rfl fun k _ => congrArg (· * _) (y_block m c t r k)
theorem x2_block (l : Fin 1024) : (at' m c t).x2 (ix2 r l) = x2 m c (pos t r) l := by
  unfold In.x2 x2
  pointwise [k0_pay12]
  rw [at_x, gate_block]
  exact congrArg (fun s : EReal => _ + _ * s) (u_block m c t r l)
theorem r_block : (at' m c t).r (ix2 r (0 : Fin 1)) = rs m c (pos t r) := by
  unfold In.r rs
  pointwise [k0_pay13]
  exact congrArg (fun s : EReal => Ideal.rsqrt (Ideal.div s _ + _)) (Finset.sum_congr rfl fun k _ => congrArg (fun s : EReal => s * s) (x2_block m c t r k))
theorem err_block (l : Fin 1024) : (at' m c t).err (ix2 r l) = err m c (pos t r) l := by
  unfold In.err err
  pointwise [k0_pay14]
  rw [at_tgt, fg_block]
  exact congrArg₂ (fun s s' : EReal => s * s' * _ - _) (x2_block m c t r l) (r_block m c t r)
theorem dx2_block (l : Fin 1024) : (at' m c t).dx2 (ix2 r l) = dx2 m c (pos t r) l := by
  unfold In.dx2 dx2 dout
  pointwise [k0_pay17, k0_pay16]
  simp only [fg_block, x2_block, r_block, err_block]
theorem du_block (l : Fin 1024) : (at' m c t).du (ix2 r l) = du m c (pos t r) l := by
  unfold In.du du
  pointwise [k0_pay20]
  rw [gate_block]
  exact congrArg (· * _) (dx2_block m c t r l)
theorem dy_block (l : Fin 1024) : k0_pay21 (F := Ideal) (at' m c t).du (at' m c t).wo (ix2 r l) = dy m c (pos t r) l := by
  unfold dy
  pointwise [k0_pay21]
  simp only [du_block, at_wo]
theorem dya_block (l : Fin 1024) : (at' m c t).dya (ix2 r l) = dya m c (pos t r) l := by
  unfold In.dya dya
  pointwise [k0_pay22]
  rw [dy_block, sa_block]
theorem dyb_block (l : Fin 1024) : (at' m c t).dyb (ix2 r l) = dyb m c (pos t r) l := by
  unfold In.dyb dyb
  pointwise [k0_pay23]
  rw [dy_block, sb_block]
theorem dga_block (l : Fin 1024) : (at' m c t).dga (ix2 r l) = dga m c (pos t r) l := by
  unfold In.dga dga
  pointwise [k0_pay24]
  rw [dy_block, sa_block, ya_block]
theorem dgb_block (l : Fin 1024) : (at' m c t).dgb (ix2 r l) = dgb m c (pos t r) l := by
  unfold In.dgb dgb
  pointwise [k0_pay25]
  rw [dy_block, sb_block, yb_block]
theorem doa_block (l : Fin 512) : (at' m c t).doa (ix2 r l) = doa m c (pos t r) l := by
  unfold In.doa doa
  pointwise [k0_pay26]
  simp only [at_wa]
  exact Finset.sum_congr rfl fun k _ => congrArg (· * _) (dya_block m c t r k)
theorem dob_block (l : Fin 1024) : (at' m c t).dob (ix2 r l) = dob m c (pos t r) l := by
  unfold In.dob dob
  pointwise [k0_pay27]
  simp only [at_wb]
  exact Finset.sum_congr rfl fun k _ => congrArg (· * _) (dyb_block m c t r k)
theorem dat_block (l : Fin 512) : (at' m c t).dat (ix2 r l) = dat m c (pos t r) l := by
  unfold In.dat dat In.half th z
  pointwise [k0_pay31, k0_pay29, k0_pay28]
  rw [doa_block, at_za]
theorem dza_block (l : Fin 512) : (at' m c t).dza (ix2 r l) = dza m c (pos t r) l := by
  unfold In.dza dza In.half th z
  pointwise [k0_pay32, k0_pay30, k0_pay29, k0_pay28]
  rw [doa_block, at_za, at_att]
theorem dg_block (l : Fin 2048) : (at' m c t).dg (ix2 r l) = dg m c (pos t r) l := by
  unfold In.dg dg
  show (if h : l.val < 1024 then (at' m c t).dga (ix2 r ⟨l.val, h⟩) else (at' m c t).dgb (ix2 r ⟨l.val - 1024, _⟩)) = _
  simp only [dga_block, dgb_block]

/-- The body's test whether two of the 512 columns belong to the same head of 64. -/
theorem same_head (k l : Fin 512) : FloatOps.sitofp (F := Ideal) FTy.f32 (BitVec.setWidth 32
      (IntOp.cmpi CmpIPredicate.eq (IntOp.divsi ArithUnit.vector (BitVec.ofNat 32 k.val) 64#32) (IntOp.divsi ArithUnit.vector (BitVec.ofNat 32 l.val) 64#32)))
    = mask k l := by
  have h : ∀ k : Fin 512, IntOp.divsi ArithUnit.vector (BitVec.ofNat 32 k.val) 64#32 = BitVec.ofNat 32 (k.val / 64) := by decide +kernel
  rw [h, h]
  unfold mask
  by_cases e : k.val / 64 = l.val / 64
  · rw [if_pos e, e]
    simp only [IntOp.cmpi, beq_self_eq_true]
    show ((((1#32 : BitVec 32).toInt : ℤ) : ℝ) : EReal) = 1
    simp
  · rw [if_neg e]
    have : BitVec.ofNat 32 (k.val / 64) ≠ BitVec.ofNat 32 (l.val / 64) := fun q => e (by
      have q := congrArg BitVec.toNat q
      simp only [BitVec.toNat_ofNat] at q
      omega)
    simp only [IntOp.cmpi, beq_eq_false_iff_ne.2 this]
    show ((((0#32 : BitVec 32).toInt : ℤ) : ℝ) : EReal) = 0
    simp

theorem dsum_block (l : Fin 512) : (at' m c t).dsum (ix2 r l) = dsum m c (pos t r) l := by
  unfold In.dsum dsum
  pointwise [k0_pay33, k0_pay30]
  simp only [same_head, at_att]
  have h : ∀ k : Fin 512, k0_pay31 (F := Ideal) (at' m c t).doa (k0_pay28 (at' m c t).za) In.half (ix2 r k) = dat m c (pos t r) k := fun k => dat_block m c t r k
  simp only [h]

theorem acc_block (a : Vec Ideal S8x1024 .f32) (j : Fin 8) (l : Fin 1024) :
    (at' m c t).acc a (ix2 j l) = a (ix2 j l) + ∑ r : Fin 256, term m c j (pos t r) l := by
  unfold In.acc term
  show (if j.val = 1 then k0_pay19 (F := Ideal) _ _ _ _ (ix2 (0 : Fin 1) l)
    else if j.val = 0 then k0_pay18 (F := Ideal) _ _ _ _ _ _ (ix2 (0 : Fin 1) l) else a (ix2 j l)) = _
  by_cases e1 : j.val = 1
  · obtain rfl : j = 1 := Fin.ext e1
    rw [if_pos e1]
    unfold dout
    pointwise [k0_pay19, k0_pay16]
    simp only [x2_block, r_block, err_block]
  by_cases e0 : j.val = 0
  · obtain rfl : j = 0 := Fin.ext e0
    rw [if_neg e1, if_pos e0]
    pointwise [k0_pay18]
    have h : ∀ r : Fin 256, k0_pay17 (F := Ideal) (at' m c t).fg (at' m c t).x2 (at' m c t).r (at' m c t).err (ix2 r l) = dx2 m c (pos t r) l := fun r => dx2_block m c t r l
    simp only [h, u_block]
  simp only [if_neg e1, if_neg e0, Finset.sum_const_zero, add_zero]

theorem ls_block (a : Vec Ideal S8x128 .f32) (j : Fin 8) (l : Fin 128) :
    (at' m c t).ls a (ix2 j l) = a (ix2 j l) + ∑ r : Fin 256, miss m c (pos t r) := by
  unfold In.ls
  pointwise [k0_pay15]
  have h : ∀ (r : Fin 256) (k : Fin 1024), k0_pay14 (F := Ideal) (at' m c t).gate (at' m c t).fg (at' m c t).ya (at' m c t).yb (at' m c t).sa (at' m c t).hb
      (at' m c t).wo (at' m c t).x (at' m c t).tgt (ix2 r k) = err m c (pos t r) k := fun r k => err_block m c t r k
  simp only [h]
  rfl

end Blocks

end Cert.MergeKernelIdeal.Value
end
-- ==== Proof.MergeMath.lean ====
module

public import proofs.«01_k».proof.Proof.MergeValue
public import proofs.«01_k».proof.Proof.Norm

@[expose] public section

noncomputable section

/-! Facts about single extended reals: which expressions are real, and the two spellings of the logistic function and of
the loss's scale. -/

namespace Cert.Reals

open Idealize.ShloMosaic

/-- The extended real `x` is a real number. -/
abbrev R (x : EReal) : Prop := ∃ a : ℝ, x = a

variable {x y : EReal}

theorem mul (hx : R x) (hy : R y) : R (x * y) := by
  obtain ⟨a, rfl⟩ := hx
  obtain ⟨b, rfl⟩ := hy
  exact ⟨a * b, (EReal.coe_mul a b).symm⟩

theorem add (hx : R x) (hy : R y) : R (x + y) := by
  obtain ⟨a, rfl⟩ := hx
  obtain ⟨b, rfl⟩ := hy
  exact ⟨a + b, (EReal.coe_add a b).symm⟩

theorem sub (hx : R x) (hy : R y) : R (x - y) := by
  obtain ⟨a, rfl⟩ := hx
  obtain ⟨b, rfl⟩ := hy
  exact ⟨a - b, (EReal.coe_sub a b).symm⟩

theorem sum {n : ℕ} {f : Fin n → EReal} (h : ∀ k, R (f k)) : R (∑ k, f k) := by
  choose g hg using h
  exact ⟨∑ k, g k, by rw [← Cert.Finite.coe_sum]; exact Finset.sum_congr rfl fun k _ => hg k⟩

theorem logistic (x : EReal) : R (Ideal.logistic x) := by
  induction x with
  | bot => exact ⟨0, by simp⟩
  | top => exact ⟨1, by simp⟩
  | coe a => exact ⟨_, Ideal.logistic_coe a⟩

/-- A real minus itself vanishes. -/
theorem sub_self (hx : R x) : x - x = 0 := by
  obtain ⟨a, rfl⟩ := hx
  rw [← EReal.coe_sub, _root_.sub_self, EReal.coe_zero]

/-- Division by the width of a row. -/
theorem mean (hx : R x) : R (Ideal.div x (Ideal.ofBits .f32 0x44800000#32)) := by
  rw [Cert.Norm.width_word, Ideal.div_coe (by norm_num)]
  exact mul hx ⟨_, rfl⟩

theorem one_word : Ideal.ofBits FTy.f32 0x3F800000#32 = 1 := by
  simp [Ideal.ofBits, Ideal.ieee, -EReal.coe_mul]; norm_num

theorem half_word : Ideal.ofBits FTy.f32 0x3F000000#32 = ((1 / 2 : ℝ) : EReal) := by
  simp [Ideal.ofBits, Ideal.ieee, -EReal.coe_mul]; norm_num

theorem two_word : Ideal.ofBits FTy.f32 0x40000000#32 = ((2 : ℝ) : EReal) := by
  simp [Ideal.ofBits, Ideal.ieee, -EReal.coe_mul]; norm_num

theorem inv_word : Ideal.ofBits FTy.f32 0x3A800000#32 = ((1 / 1024 : ℝ) : EReal) := by
  simp [Ideal.ofBits, Ideal.ieee, -EReal.coe_mul]; norm_num

theorem twice_word : Ideal.ofBits FTy.f32 0x45000000#32 = ((2048 : ℝ) : EReal) := by
  simp [Ideal.ofBits, Ideal.ieee, -EReal.coe_mul]; norm_num

/-- The logistic function through the hyperbolic tangent of half the argument, on the reals. -/
theorem half_tanh (a : ℝ) : 1 / 2 * Real.tanh (1 / 2 * a) + 1 / 2 = (1 + Real.exp (-a))⁻¹ := by
  have e : Real.exp (-a) = Real.exp (-(1 / 2 * a)) * Real.exp (-(1 / 2 * a)) := by rw [← Real.exp_add]; congr 1; ring
  generalize 1 / 2 * a = b at e ⊢
  have p := Real.exp_pos b
  have q := Real.exp_pos (-b)
  have o : Real.exp b * Real.exp (-b) = 1 := by rw [← Real.exp_add]; simp
  rw [Real.tanh_eq_sinh_div_cosh, Real.sinh_eq, Real.cosh_eq, e]
  field_simp
  linear_combination (2 * Real.exp (-b)) * o

open Cert.MergeKernelIdeal.Host Cert.MergeKernelIdeal.Value

theorem sg_eq (x : EReal) : sg x = Ideal.logistic x := by
  unfold sg Ideal.logistic
  rw [one_word]

theorem th_eq (x : EReal) : th x = Ideal.logistic x := by
  unfold th hw
  rw [half_word]
  induction x with
  | bot =>
    rw [EReal.coe_mul_bot_of_pos (by norm_num), Ideal.tanh_bot, Ideal.logistic_bot, ← EReal.coe_one, ← EReal.coe_neg, ← EReal.coe_mul, ← EReal.coe_add]
    norm_num
  | top =>
    rw [EReal.coe_mul_top_of_pos (by norm_num), Ideal.tanh_top, Ideal.logistic_top, mul_one, ← EReal.coe_add]
    norm_num
  | coe a =>
    rw [← EReal.coe_mul, Ideal.tanh_coe, ← EReal.coe_mul, ← EReal.coe_add, half_tanh, Ideal.logistic_coe]

theorem sg_th (x : EReal) : sg x = th x := (sg_eq x).trans (th_eq x).symm

theorem th_real (x : EReal) : R (th x) := th_eq x ▸ logistic x

/-- Half of twice a value over the width, as the mean's gradient gives it, is the value over the width. -/
theorem scale (e : EReal) : Ideal.div hw ww * (Ideal.ofBits FTy.f32 0x40000000#32 * e) = e * iw := by
  unfold hw ww iw
  rw [half_word, two_word, inv_word, Cert.Norm.width_word, Ideal.div_coe (by norm_num), ← EReal.coe_mul, ← mul_assoc, ← EReal.coe_mul, mul_comm]
  norm_num

/-- Twice the width times half the sum of the means is the sum of the sums. -/
theorem loss {n : ℕ} (f : Fin n → EReal) (h : ∀ k, R (f k)) :
    Ideal.ofBits FTy.f32 0x45000000#32 * (hw * ∑ k, Ideal.div (f k) ww) = ∑ k, f k := by
  choose g hg using h
  obtain rfl : f = fun k => (g k : EReal) := funext hg
  unfold hw ww
  rw [half_word, twice_word, Cert.Norm.width_word]
  simp only [Ideal.div_coe (show (1024 : ℝ) ≠ 0 by norm_num), ← EReal.coe_mul, Cert.Finite.coe_sum]
  refine congrArg (fun z : ℝ => (z : EReal)) ?_
  rw [← Finset.sum_mul]
  ring

/-- The gradient of `z * s` along `z`, factored and added up. -/
theorem swish {d z s : EReal} (hd : R d) (hz : R z) (hs : R s) : d * s + z * d * (s * (ow - s)) = d * (s * (ow + z * (ow - s))) := by
  obtain ⟨d, rfl⟩ := hd
  obtain ⟨z, rfl⟩ := hz
  obtain ⟨s, rfl⟩ := hs
  unfold ow
  rw [one_word, ← EReal.coe_one]
  simp only [← EReal.coe_sub, ← EReal.coe_mul, ← EReal.coe_add]
  refine congrArg (fun z : ℝ => (z : EReal)) ?_
  ring

end Cert.Reals

namespace Cert.MergeKernelIdeal.Value

open Cert.MergeKernelIdeal.Host Cert.Reals Idealize.ShloMosaic Idealize.SL.Sem

variable (m : (ℓ : Loc nD τ sig) → Buf (Elt Ideal) ℓ) (c : Dev nD)

/-- Every argument the kernel reads through a product is real; of the projection only the attention gate's columns. -/
structure Finite : Prop where
  oa : ∀ r l, R (OA m c r l)
  ob : ∀ r l, R (OB m c r l)
  pz : ∀ r l, R (z m c r l)
  x : ∀ r l, R (X m c r l)
  gt : ∀ l, R (GT m c l)
  fg : ∀ l, R (FG m c l)
  wa : ∀ r l, R (WA m c r l)
  wb : ∀ r l, R (WB m c r l)
  wo : ∀ r l, R (WO m c r l)
  tg : ∀ r l, R (TG m c r l)

variable {m c} (f : Finite m c) (r : Fin 8192)
include f

theorem ya_real (l : Fin 1024) : R (ya m c r l) :=
  sum fun k => mul (mul (f.oa r k) (mul (f.pz r k) (sg_eq _ ▸ logistic _))) (f.wa k l)
theorem yb_real (l : Fin 1024) : R (yb m c r l) := sum fun k => mul (f.ob r k) (f.wb k l)
theorem y_real (l : Fin 1024) : R (y m c r l) := add (mul (th_real _) (ya_real f r l)) (mul (th_real _) (yb_real f r l))
theorem u_real (l : Fin 1024) : R (u m c r l) := sum fun k => mul (y_real f r k) (f.wo k l)
theorem x2_real (l : Fin 1024) : R (x2 m c r l) := add (f.x r l) (mul (f.gt l) (u_real f r l))
theorem rs_real : R (rs m c r) := by
  obtain ⟨a, ha, e⟩ := Cert.Norm.ms_real (x2 m c r) (x2_real f r)
  refine ⟨(Real.sqrt a)⁻¹, Eq.trans ?_ (Cert.Norm.rsqrt_pos a ha)⟩
  rw [← e]
  rfl
theorem err_real (l : Fin 1024) : R (err m c r l) := sub (mul (mul (x2_real f r l) (rs_real f r)) (f.fg l)) (f.tg r l)
theorem miss_real : R (miss m c r) := sum fun k => mul (err_real f r k) (err_real f r k)
theorem dout_real (l : Fin 1024) : R (dout m c r l) := mul (err_real f r l) ⟨_, inv_word⟩
theorem dx2_real (l : Fin 1024) : R (dx2 m c r l) :=
  sub (mul (rs_real f r) (mul (dout_real f r l) (f.fg l)))
    (mul (x2_real f r l) (mul (mul (mul (rs_real f r) (rs_real f r)) (rs_real f r))
      (mean (sum fun k => mul (mul (dout_real f r k) (f.fg k)) (x2_real f r k)))))
theorem du_real (l : Fin 1024) : R (du m c r l) := mul (dx2_real f r l) (f.gt l)
theorem dy_real (l : Fin 1024) : R (dy m c r l) := sum fun k => mul (du_real f r k) (f.wo l k)
theorem dya_real (l : Fin 1024) : R (dya m c r l) := mul (dy_real f r l) (th_real _)
theorem doa_real (l : Fin 512) : R (doa m c r l) := sum fun k => mul (dya_real f r k) (f.wa l k)
theorem dat_real (l : Fin 512) : R (dat m c r l) := mul (doa_real f r l) (mul (f.pz r l) (th_real _))

/-- The sum over a head's columns, picked out of the sum over all columns by the mask, with nothing lost to rounding. -/
theorem dsum_eq (l : Fin 512) : dsum m c r l =
    ∑ j : Fin 64, dat m c r ⟨l.val / 64 * 64 + j.val, by omega⟩ * OA m c r ⟨l.val / 64 * 64 + j.val, by omega⟩ := by
  unfold dsum
  have e : ∀ k, (dat m c r k * OA m c r k - dat m c r k * OA m c r k) * mask k l = 0 := fun k => by
    rw [Cert.Reals.sub_self (mul (dat_real f r k) (f.oa r k)), zero_mul]
  simp only [e, Finset.sum_const_zero, add_zero]
  simp only [mask, mul_ite, mul_one, mul_zero]
  rw [← Finset.sum_filter]
  symm
  refine Finset.sum_bij (fun (j : Fin 64) _ => (⟨l.val / 64 * 64 + j.val, by omega⟩ : Fin 512)) (fun j _ => ?_) (fun a _ b _ h => ?_) (fun k hk => ?_) (fun _ _ => rfl)
  · rw [Finset.mem_filter]
    refine ⟨Finset.mem_univ _, ?_⟩
    show (l.val / 64 * 64 + j.val) / 64 = l.val / 64
    omega
  · have := congrArg Fin.val h
    exact Fin.ext (by simp only at this; omega)
  · rw [Finset.mem_filter] at hk
    have h := hk.2
    exact ⟨⟨k.val - l.val / 64 * 64, by omega⟩, Finset.mem_univ _, Fin.ext (by simp only; omega)⟩

end Cert.MergeKernelIdeal.Value
end
-- ==== Proof.AdaEq.lean ====
module

public import proofs.«01_k».proof.Proof.Gen.AdaKernelIdeal.Value
public import proofs.«01_k».proof.Proof.Gen.AdaReferenceIdeal.Read
public import proofs.«01_k».proof.Proof.RowBlocks
public import proofs.«01_k».proof.Proof.Adam
public import proofs.«01_k».proof.Proof.MergeMath
public import Idealize.ShloMosaic.Lib.Pipeline.ValueKit.Tiles
public import Idealize.ShloMosaic.Lib.Pipeline.ValueKit.Partial

@[expose] public section

set_option maxRecDepth 16384

noncomputable section

/-! The modulation's weight: its gradient from the activation and the cotangent, and the optimiser's step, 256 rows at a time. -/

namespace Cert.AdaKernelIdeal.Value

open Cert.AdaKernelIdeal Cert.AdaKernelIdeal.Gen Idealize.ShloMosaic Idealize.ShloMosaic.TcCoe Idealize.SL.Sem
open Cert.Adam (mom1 mom2 delta)
open Cert.MergeKernelIdeal.Host (sg)
open Cert.RowBlocks (at_row arr in_arr)

/-- The products of the eight rows, added in their order. -/
def dot8 (f g : Fin 8 → EReal) : EReal := f 0 * g 0 + f 1 * g 1 + f 2 * g 2 + f 3 * g 3 + f 4 * g 4 + f 5 * g 5 + f 6 * g 6 + f 7 * g 7

theorem pay2 (a0 : Vec Ideal S256x1 .f32) (b0 : Vec Ideal S1x768 .f32) (a1 : Vec Ideal S256x1 .f32) (b1 : Vec Ideal S1x768 .f32) (a2 : Vec Ideal S256x1 .f32) (b2 : Vec Ideal S1x768 .f32)
    (a3 : Vec Ideal S256x1 .f32) (b3 : Vec Ideal S1x768 .f32) (a4 : Vec Ideal S256x1 .f32) (b4 : Vec Ideal S1x768 .f32) (r : Fin 256) (k : Fin 768) :
    k0_pay2 (F := Ideal) a0 b0 a1 b1 a2 b2 a3 b3 a4 b4 (ix2 r k)
      = (a0 (ix2 r 0) * b0 (ix2 0 k) + a1 (ix2 r 0) * b1 (ix2 0 k) + a2 (ix2 r 0) * b2 (ix2 0 k) + a3 (ix2 r 0) * b3 (ix2 0 k) + a4 (ix2 r 0) * b4 (ix2 0 k) : EReal) := by
  pointwise [k0_pay2]

theorem pay4 (u : Vec Ideal S256x768 .f32) (a0 : Vec Ideal S256x1 .f32) (b0 : Vec Ideal S1x768 .f32) (a1 : Vec Ideal S256x1 .f32) (b1 : Vec Ideal S1x768 .f32)
    (a2 : Vec Ideal S256x1 .f32) (b2 : Vec Ideal S1x768 .f32) (r : Fin 256) (k : Fin 768) :
    k0_pay4 (F := Ideal) u (k0_pay3 a0) b0 a1 b1 a2 b2 (ix2 r k)
      = (u (ix2 r k) + a0 (ix2 r 0) * b0 (ix2 0 k) + a1 (ix2 r 0) * b1 (ix2 0 k) + a2 (ix2 r 0) * b2 (ix2 0 k) : EReal) := by
  pointwise [k0_pay4, k0_pay3]

/-- A column of the activation's block. -/
theorem col (x : Vec Ideal S256x8 .f32) (o : ℕ) (inb) (i : Fin 8) (h : i.val = o) (r : Fin 256) :
    View.ld x (Rect.unit (s := S256x8) ![0, o] S256x1.size inb) (ix2 r (0 : Fin 1)) = x (ix2 r i) :=
  View.ld_unit_apply_of x _ _ _ _ (ix2 r i) fun a => match a with
    | ⟨0, _⟩ => by show r.val = 0 + r.val; omega
    | ⟨1, _⟩ => by show i.val = o + 0; omega

/-- A row of the cotangent. -/
theorem row (x : Vec Ideal S8x768 .f32) (o : ℕ) (inb) (i : Fin 8) (h : i.val = o) (k : Fin 768) :
    View.ld x (Rect.unit (s := S8x768) ![o, 0] S1x768.size inb) (ix2 (0 : Fin 1) k) = x (ix2 i k) :=
  View.ld_unit_apply_of x _ _ _ _ (ix2 i k) fun a => match a with
    | ⟨0, _⟩ => by show i.val = o + 0; omega
    | ⟨1, _⟩ => by show k.val = 0 + k.val; omega

/-- The gradient's block. -/
def grad (s : Vec Ideal S256x8 .f32) (d : Vec Ideal S8x768 .f32) (w p q : Vec Ideal S256x768 .f32) : Vec Ideal S256x768 .f32 :=
  k0_pay4 (k0_pay8 s d w p q) (k0_pay9 s d w p q) (View.ld d r0_11) (View.ld s r0_12) (View.ld d r0_13) (View.ld s r0_14) (View.ld d r0_15)

theorem grad_at (s : Vec Ideal S256x8 .f32) (d : Vec Ideal S8x768 .f32) (w p q : Vec Ideal S256x768 .f32) (r : Fin 256) (k : Fin 768) :
    grad s d w p q (ix2 r k) = dot8 (fun i => s (ix2 r i)) fun i => d (ix2 i k) := by
  refine (pay4 _ _ _ _ _ _ _ r k).trans ?_
  unfold dot8 k0_pay8
  rw [pay2, col s 0 _ 0 rfl, row d 0 _ 0 rfl, col s 1 _ 1 rfl, row d 1 _ 1 rfl, col s 2 _ 2 rfl, row d 2 _ 2 rfl, col s 3 _ 3 rfl, row d 3 _ 3 rfl,
    col s 4 _ 4 rfl, row d 4 _ 4 rfl, col s 5 _ 5 rfl, row d 5 _ 5 rfl, col s 6 _ 6 rfl, row d 6 _ 6 rfl, col s 7 _ 7 rfl, row d 7 _ 7 rfl]

theorem hz : (![0, 0] : Fin 2 → Nat) = fun _ => 0 := funext fun a => by fin_cases a <;> rfl

theorem mom1_at (s : Vec Ideal S256x8 .f32) (d : Vec Ideal S8x768 .f32) (w p q : Vec Ideal S256x768 .f32) (r : Fin 256) (k : Fin 768) :
    k0_pay10 s d w p q (ix2 r k) = mom1 (grad s d w p q (ix2 r k)) (p (ix2 r k)) := by
  have h : k0_pay10 s d w p q (ix2 r k) = mom1 (grad s d w p q (ix2 r k)) (View.ld p r0_16 (ix2 r k)) := by
    unfold mom1 grad
    pointwise [k0_pay10, k0_pay6]
  rw [h, View.ld_unit_zero (S := S256x768) hz]

theorem mom2_at (s : Vec Ideal S256x8 .f32) (d : Vec Ideal S8x768 .f32) (w p q : Vec Ideal S256x768 .f32) (r : Fin 256) (k : Fin 768) :
    k0_pay11 s d w p q (ix2 r k) = mom2 (grad s d w p q (ix2 r k)) (q (ix2 r k)) := by
  have h : k0_pay11 s d w p q (ix2 r k) = mom2 (grad s d w p q (ix2 r k)) (View.ld q r0_16 (ix2 r k)) := by
    unfold mom2 grad
    pointwise [k0_pay11, k0_pay7]
  rw [h, View.ld_unit_zero (S := S256x768) hz]

theorem delta_at (s : Vec Ideal S256x8 .f32) (d : Vec Ideal S8x768 .f32) (w p q : Vec Ideal S256x768 .f32) (r : Fin 256) (k : Fin 768) :
    k0_pay1 (k0_pay5 (View.ld w r0_16)) (k0_pay10 s d w p q) (k0_pay11 s d w p q) (Scalar.ofBits .f32 0x3F26BD02#32) (ix2 r k)
      = delta (w (ix2 r k)) (grad s d w p q (ix2 r k)) (p (ix2 r k)) (q (ix2 r k)) := by
  unfold delta
  rw [← mom1_at, ← mom2_at, View.ld_unit_zero (S := S256x768) hz]
  pointwise [k0_pay1, k0_pay5]

variable (m : (ℓ : Loc nD τ sig) → Buf (Elt Ideal) ℓ) (c : Dev nD)

/-- The activation at device row `i`, column `r`. -/
def act (x : Vec Ideal S8x1024 .f32) (i : Fin 8) (r : Fin 1024) : EReal := x (ix2 i r) * sg (x (ix2 i r))

/-- The gradient over the arguments. -/
def gr (x : Vec Ideal S8x1024 .f32) (d : Vec Ideal S8x768 .f32) (r : Fin 1024) (k : Fin 768) : EReal :=
  dot8 (fun i => act x i r) fun i => d (ix2 i k)

/-- The weight, the gradient and the moments as the call finds them. -/
abbrev W (r : Fin 1024) (k : Fin 768) : EReal := (m ((c : Thread nD τ).loc main_arg2) : Vec Ideal S1x1024x768 .f32) (ix3 0 r k)
@[inherit_doc W]
abbrev G : Fin 1024 → Fin 768 → EReal := fun r k => gr (m ((c : Thread nD τ).loc main_arg0)) (m ((c : Thread nD τ).loc main_arg1)) r k
@[inherit_doc W]
abbrev M : Fin 1024 → Fin 768 → EReal := fun r k => (m ((c : Thread nD τ).loc main_arg3) : Vec Ideal S1x1024x768 .f32) (ix3 0 r k)
@[inherit_doc W]
abbrev U : Fin 1024 → Fin 768 → EReal := fun r k => (m ((c : Thread nD τ).loc main_arg4) : Vec Ideal S1x1024x768 .f32) (ix3 0 r k)

/-- All windows but the cotangent's move together, 256 rows at each point. -/
theorem idx : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, win0_0.index t = ![t.val, 0] ∧ win0_1.index t = ![0, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0])

variable (t : Fin cfg0.N) (r : Fin 256) (k : Fin 768) (z : Fin 1024) (hr : z.val = t.val * 256 + r.val)

theorem blk1 (i : Fin 8) : (iblk m c 1 t : Vec Ideal S8x768 .f32) (ix2 i k) = (m ((c : Thread nD τ).loc main_arg1) : Vec Ideal S8x768 .f32) (ix2 i k) := by
  refine Eq.trans ?_ (congrFun (V_main_arg1 m c) (ix2 i k))
  unfold iblk
  rw [View.read_apply]
  have h := at_row 8 768 _ (idx t).2.1 i.val k.val
  exact Cert.Arrays.same_pair (V m c main_arg1) _ (ix2 i k) (h.1.trans (by show 0 * 8 + i.val = i.val; omega)) h.2

include hr

theorem blk0 (i : Fin 8) : (iblk m c 0 t : Vec Ideal S256x8 .f32) (ix2 r i) = act (m ((c : Thread nD τ).loc main_arg0)) i z := by
  have e : ∃ x : Vec Ideal S8x1024 .f32, x = m ((c : Thread nD τ).loc main_arg0) ∧ (V m c main_v7 : Vec Ideal S1024x8 .f32)
      = transpose S1024x8 [1, 0] (mulf (F := Ideal) x (Host.divf (F := Ideal) (broadcastInDim S8x1024 ![] bcast_S_S8x1024 (constant S_ .f32 0x3F800000#32))
          (addf (F := Ideal) (broadcastInDim S8x1024 ![] bcast_S_S8x1024 (constant S_ .f32 0x3F800000#32)) (Host.exp (F := Ideal) (Host.negf (F := Ideal) x))))) transposes_S8x1024_S1024x8_1_0 := by
    refine ⟨_, rfl, ?_⟩
    unfold_abbrev_sides
    after_results
  obtain ⟨x, hx, e⟩ := e
  have h := at_row 256 8 _ (idx t).1 r.val i.val
  have hb : (iblk m c 0 t : Vec Ideal S256x8 .f32) (ix2 r i) = (V m c main_v7 : Vec Ideal S1024x8 .f32) (ix2 z i) := by
    unfold iblk
    rw [View.read_apply]
    exact Cert.Arrays.same_pair (V m c main_v7) _ (ix2 z i) (h.1.trans hr.symm) h.2
  rw [hb, e, ← hx]
  unfold act sg
  pointwise

theorem blk2 : (iblk m c 2 t : Vec Ideal S256x768 .f32) (ix2 r k) = W m c z k := by
  have e : (V m c main_v8 : Vec Ideal S1024x768 .f32) = shapeCast S1024x768 (m ((c : Thread nD τ).loc main_arg2)) shapeCasts_S1x1024x768_S1024x768 := by
    unfold_abbrev_sides
    after_results
    rfl
  refine Eq.trans ?_ ((congrFun e _).trans (Cert.Arrays.drop_lead _ shapeCasts_S1x1024x768_S1024x768 z k))
  unfold iblk
  rw [View.read_apply]
  have h := at_row 256 768 _ (idx t).2.2.1 r.val k.val
  exact Cert.Arrays.same_pair (V m c main_v8) _ (ix2 z k) (h.1.trans hr.symm) h.2

theorem blk3 : (iblk m c 3 t : Vec Ideal S256x768 .f32) (ix2 r k) = M m c z k := by
  have e : (V m c main_v9 : Vec Ideal S1024x768 .f32) = shapeCast S1024x768 (m ((c : Thread nD τ).loc main_arg3)) shapeCasts_S1x1024x768_S1024x768 := by
    unfold_abbrev_sides
    after_results
    rfl
  refine Eq.trans ?_ ((congrFun e _).trans (Cert.Arrays.drop_lead _ shapeCasts_S1x1024x768_S1024x768 z k))
  unfold iblk
  rw [View.read_apply]
  have h := at_row 256 768 _ (idx t).2.2.2.1 r.val k.val
  exact Cert.Arrays.same_pair (V m c main_v9) _ (ix2 z k) (h.1.trans hr.symm) h.2

theorem blk4 : (iblk m c 4 t : Vec Ideal S256x768 .f32) (ix2 r k) = U m c z k := by
  have e : (V m c main_v10 : Vec Ideal S1024x768 .f32) = shapeCast S1024x768 (m ((c : Thread nD τ).loc main_arg4)) shapeCasts_S1x1024x768_S1024x768 := by
    unfold_abbrev_sides
    after_results
    rfl
  refine Eq.trans ?_ ((congrFun e _).trans (Cert.Arrays.drop_lead _ shapeCasts_S1x1024x768_S1024x768 z k))
  unfold iblk
  rw [View.read_apply]
  have h := at_row 256 768 _ (idx t).2.2.2.2.1 r.val k.val
  exact Cert.Arrays.same_pair (V m c main_v10) _ (ix2 z k) (h.1.trans hr.symm) h.2

theorem blkg : grad (iblk m c 0 t) (iblk m c 1 t) (iblk m c 2 t) (iblk m c 3 t) (iblk m c 4 t) (ix2 r k) = G m c z k := by
  refine (grad_at _ _ _ _ _ r k).trans ?_
  refine congrArg₂ dot8 (funext fun i => ?_) (funext fun i => blk1 m c t k i)
  exact blk0 m c t r z hr i

omit hr

theorem final5 : (dats m 0 c).arrAt 5 cfg0.N = arr (G m c) := by
  refine (dats m 0 c).arrAt_eq_of_covers 5 _ (by decide +kernel) fun t hf y => ?_
  blk_simp
  rw [after0_5]
  have h := at_row 256 768 _ (idx t).2.2.2.2.2.1 (y 0).val (y 1).val
  refine in_arr _ _ (fun r k z hr => ?_) y _ h.1 h.2
  unfold out0_5
  rw [View.canon_unit_zero hz]
  exact blkg m c t r k z hr

theorem final6 : (dats m 0 c).arrAt 6 cfg0.N = arr fun r k => delta (W m c r k) (G m c r k) (M m c r k) (U m c r k) := by
  refine (dats m 0 c).arrAt_eq_of_covers 6 _ (by decide +kernel) fun t hf y => ?_
  blk_simp
  rw [after0_6]
  have h := at_row 256 768 _ (idx t).2.2.2.2.2.2.1 (y 0).val (y 1).val
  refine in_arr _ _ (fun r k z hr => ?_) y _ h.1 h.2
  unfold out0_6
  rw [View.canon_unit_zero hz]
  refine (delta_at _ _ _ _ _ r k).trans ?_
  rw [blkg m c t r k z hr, blk2 m c t r k z hr, blk3 m c t r k z hr, blk4 m c t r k z hr]

theorem final7 : (dats m 0 c).arrAt 7 cfg0.N = arr fun r k => mom1 (G m c r k) (M m c r k) := by
  refine (dats m 0 c).arrAt_eq_of_covers 7 _ (by decide +kernel) fun t hf y => ?_
  blk_simp
  rw [after0_7]
  have h := at_row 256 768 _ (idx t).2.2.2.2.2.2.2.1 (y 0).val (y 1).val
  refine in_arr _ _ (fun r k z hr => ?_) y _ h.1 h.2
  unfold out0_7
  rw [View.canon_unit_zero hz]
  refine (mom1_at _ _ _ _ _ r k).trans ?_
  rw [blkg m c t r k z hr, blk3 m c t r k z hr]

theorem final8 : (dats m 0 c).arrAt 8 cfg0.N = arr fun r k => mom2 (G m c r k) (U m c r k) := by
  refine (dats m 0 c).arrAt_eq_of_covers 8 _ (by decide +kernel) fun t hf y => ?_
  blk_simp
  rw [after0_8]
  have h := at_row 256 768 _ (idx t).2.2.2.2.2.2.2.2 (y 0).val (y 1).val
  refine in_arr _ _ (fun r k z hr => ?_) y _ h.1 h.2
  unfold out0_8
  rw [View.canon_unit_zero hz]
  refine (mom2_at _ _ _ _ _ r k).trans ?_
  rw [blkg m c t r k z hr, blk4 m c t r k z hr]

section

open Cert.AdaReferenceIdeal.Read

variable (x : Vec Ideal S8x1024 .f32) (d : Vec Ideal S8x768 .f32) (w p q : Vec Ideal S1x1024x768 .f32)

theorem ref_act (i : Fin 8) (r : Fin 1024) : val_main_v1 (F := Ideal) x (ix2 i r) = act x i r := by
  unfold act sg
  pointwise [val_main_v1, val_main_call0_v5, val_main_call0_v4, val_main_call0_v3, val_main_call0_v2, val_main_call0_v1, val_main_call0_v0, val_main_call0_cst, val_main_call0_cst_0]

theorem ref_g : val_main_v4 (F := Ideal) x d = arr (gr x d) := by
  funext i
  obtain ⟨r, k, rfl⟩ := Cert.Arrays.exists_pair (a := 1024) (b := 768) i
  show _ = gr x d r k
  have h : val_main_v4 (F := Ideal) x d (ix2 r k) = ∑ i : Fin 8, d (ix2 i k) * val_main_v1 (F := Ideal) x (ix2 i r) := by
    pointwise [val_main_v4, val_main_v3]
  have h' : ∀ i : Fin 8, d (ix2 i k) * val_main_v1 (F := Ideal) x (ix2 i r) = act x i r * d (ix2 i k) := fun i => by
    rw [ref_act]
    exact mul_comm (G := EReal) _ _
  rw [h, Fin.sum_univ_eight]
  simp only [h']
  rfl

/-- The moments and the update after a gradient kept whole. -/
theorem mom1_host (g : Vec Ideal S1024x768 .f32) (r : Fin 1024) (k : Fin 768) :
    (addf (F := Ideal) (φ := .f32) (val_main_v9 (F := Ideal) p) (mulf (F := Ideal) (φ := .f32) (val_main_v10 (F := Ideal)) g) : Vec Ideal S1024x768 .f32) (ix2 r k) = mom1 (g (ix2 r k)) (p (ix3 0 r k)) := by
  rw [← Cert.Arrays.drop_lead p shapeCasts_S1x1024x768_S1024x768 r k]
  rfl

@[inherit_doc mom1_host]
theorem mom2_host (g : Vec Ideal S1024x768 .f32) (r : Fin 1024) (k : Fin 768) :
    (addf (F := Ideal) (φ := .f32) (val_main_v14 (F := Ideal) q) (mulf (F := Ideal) (φ := .f32) (val_main_v16 (F := Ideal)) (mulf (F := Ideal) (φ := .f32) g g)) : Vec Ideal S1024x768 .f32) (ix2 r k) = mom2 (g (ix2 r k)) (q (ix3 0 r k)) := by
  rw [← Cert.Arrays.drop_lead q shapeCasts_S1x1024x768_S1024x768 r k]
  rfl

@[inherit_doc mom1_host]
theorem delta_host (g h : Vec Ideal S1024x768 .f32) (a b : EReal) (r : Fin 1024) (k : Fin 768) (e : g (ix2 r k) = mom1 a b) (f : EReal) (e' : h (ix2 r k) = mom2 a f) :
    (mulf (F := Ideal) (φ := .f32) (val_main_v30 (F := Ideal)) (addf (F := Ideal) (φ := .f32) (Host.divf (F := Ideal) (φ := .f32) (Host.divf (F := Ideal) (φ := .f32) g (val_main_v19 (F := Ideal)))
      (addf (F := Ideal) (φ := .f32) (Host.sqrt (F := Ideal) (φ := .f32) (Host.divf (F := Ideal) (φ := .f32) h (val_main_v21 (F := Ideal)))) (val_main_v24 (F := Ideal))))
      (val_main_v28 (F := Ideal) w)) : Vec Ideal S1024x768 .f32) (ix2 r k) = delta (w (ix3 0 r k)) a b f := by
  unfold delta
  rw [← Cert.Arrays.drop_lead w shapeCasts_S1x1024x768_S1024x768 r k, ← e, ← e']
  rfl

theorem ref_m : val_main_v12 (F := Ideal) x d p = arr fun r k => mom1 (gr x d r k) (p (ix3 0 r k)) := by
  funext i
  obtain ⟨r, k, rfl⟩ := Cert.Arrays.exists_pair (a := 1024) (b := 768) i
  exact (mom1_host p _ r k).trans (congrArg (mom1 · _) (congrFun (ref_g x d) (ix2 r k)))

theorem ref_v : val_main_v18 (F := Ideal) x d q = arr fun r k => mom2 (gr x d r k) (q (ix3 0 r k)) := by
  funext i
  obtain ⟨r, k, rfl⟩ := Cert.Arrays.exists_pair (a := 1024) (b := 768) i
  exact (mom2_host q _ r k).trans (congrArg (mom2 · _) (congrFun (ref_g x d) (ix2 r k)))

theorem ref_d : val_main_v31 (F := Ideal) x d w p q = arr fun r k => delta (w (ix3 0 r k)) (gr x d r k) (p (ix3 0 r k)) (q (ix3 0 r k)) := by
  funext i
  obtain ⟨r, k, rfl⟩ := Cert.Arrays.exists_pair (a := 1024) (b := 768) i
  exact delta_host w _ _ _ _ r k (congrFun (ref_m x d p) (ix2 r k)) _ (congrFun (ref_v x d q) (ix2 r k))

end

end Cert.AdaKernelIdeal.Value
end
-- ==== Proof.AdamwEq.lean ====
module

public import proofs.«01_k».proof.Proof.Gen.AdamwKernelIdeal.Value
public import proofs.«01_k».proof.Proof.Gen.AdamwReferenceIdeal.Read
public import proofs.«01_k».proof.Proof.RowBlocks
public import proofs.«01_k».proof.Proof.Adam
public import Idealize.ShloMosaic.Lib.Pipeline.ValueKit.Tiles
public import Idealize.ShloMosaic.Lib.Pipeline.ValueKit.Partial

@[expose] public section

set_option maxRecDepth 16384

noncomputable section

/-! The optimiser's step over a weight, 128 rows at a time. -/

namespace Cert.AdamwKernelIdeal.Value

open Cert.AdamwKernelIdeal Cert.AdamwKernelIdeal.Gen Idealize.ShloMosaic Idealize.ShloMosaic.TcCoe Idealize.SL.Sem
open Cert.Adam (mom1 mom2 delta)
open Cert.RowBlocks (at_row arr in_arr)

theorem pay1 (g m : Vec Ideal S128x2048 .f32) (r : Fin 128) (k : Fin 2048) :
    k0_pay1 (F := Ideal) g m (ix2 r k) = mom1 (g (ix2 r k)) (m (ix2 r k)) := by
  unfold mom1
  pointwise [k0_pay1]

theorem pay2 (g v : Vec Ideal S128x2048 .f32) (r : Fin 128) (k : Fin 2048) :
    k0_pay2 (F := Ideal) g v (ix2 r k) = mom2 (g (ix2 r k)) (v (ix2 r k)) := by
  unfold mom2
  pointwise [k0_pay2]

theorem pay3 (g w m v : Vec Ideal S128x2048 .f32) (r : Fin 128) (k : Fin 2048) :
    k0_pay3 (F := Ideal) g w m v (ix2 r k) = delta (w (ix2 r k)) (g (ix2 r k)) (m (ix2 r k)) (v (ix2 r k)) := by
  unfold delta
  rw [← pay1, ← pay2]
  pointwise [k0_pay3]

variable (m : (ℓ : Loc nD τ sig) → Buf (Elt Ideal) ℓ) (c : Dev nD)

/-- The weight, the gradient and the moments as the call finds them. -/
abbrev W (r : Fin 1024) (k : Fin 2048) : EReal := (m ((c : Thread nD τ).loc main_arg0) : Vec Ideal S1x1024x2048 .f32) (ix3 0 r k)
@[inherit_doc W]
abbrev G : Fin 1024 → Fin 2048 → EReal := fun r k => (m ((c : Thread nD τ).loc main_arg1) : Vec Ideal S1024x2048 .f32) (ix2 r k)
@[inherit_doc W]
abbrev M : Fin 1024 → Fin 2048 → EReal := fun r k => (m ((c : Thread nD τ).loc main_arg2) : Vec Ideal S1x1024x2048 .f32) (ix3 0 r k)
@[inherit_doc W]
abbrev U : Fin 1024 → Fin 2048 → EReal := fun r k => (m ((c : Thread nD τ).loc main_arg3) : Vec Ideal S1x1024x2048 .f32) (ix3 0 r k)

theorem hz : (![0, 0] : Fin 2 → Nat) = fun _ => 0 := funext fun a => by fin_cases a <;> rfl

/-- All windows move together, 128 rows at each point. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0])

variable (t : Fin cfg0.N) (r : Fin 128) (k : Fin 2048) (z : Fin 1024) (hr : z.val = t.val * 128 + r.val)
include hr

theorem blk0 : (iblk m c 0 t : Vec Ideal S128x2048 .f32) (ix2 r k) = W m c z k := by
  have e : (V m c main_v0 : Vec Ideal S1024x2048 .f32) = shapeCast S1024x2048 (m ((c : Thread nD τ).loc main_arg0)) shapeCasts_S1x1024x2048_S1024x2048 := by
    unfold_abbrev_sides
    after_results
    rfl
  refine Eq.trans ?_ ((congrFun e _).trans (Cert.Arrays.drop_lead _ shapeCasts_S1x1024x2048_S1024x2048 z k))
  unfold iblk
  rw [View.read_apply]
  have h := at_row 128 2048 _ (idx t).1 r.val k.val
  exact Cert.Arrays.same_pair (V m c main_v0) _ (ix2 z k) (h.1.trans hr.symm) h.2

theorem blk1 : (iblk m c 1 t : Vec Ideal S128x2048 .f32) (ix2 r k) = G m c z k := by
  refine Eq.trans ?_ (congrFun (V_main_arg1 m c) (ix2 z k))
  unfold iblk
  rw [View.read_apply]
  have h := at_row 128 2048 _ (idx t).2.1 r.val k.val
  exact Cert.Arrays.same_pair (V m c main_arg1) _ (ix2 z k) (h.1.trans hr.symm) h.2

theorem blk2 : (iblk m c 2 t : Vec Ideal S128x2048 .f32) (ix2 r k) = M m c z k := by
  have e : (V m c main_v1 : Vec Ideal S1024x2048 .f32) = shapeCast S1024x2048 (m ((c : Thread nD τ).loc main_arg2)) shapeCasts_S1x1024x2048_S1024x2048 := by
    unfold_abbrev_sides
    after_results
    rfl
  refine Eq.trans ?_ ((congrFun e _).trans (Cert.Arrays.drop_lead _ shapeCasts_S1x1024x2048_S1024x2048 z k))
  unfold iblk
  rw [View.read_apply]
  have h := at_row 128 2048 _ (idx t).2.2.1 r.val k.val
  exact Cert.Arrays.same_pair (V m c main_v1) _ (ix2 z k) (h.1.trans hr.symm) h.2

theorem blk3 : (iblk m c 3 t : Vec Ideal S128x2048 .f32) (ix2 r k) = U m c z k := by
  have e : (V m c main_v2 : Vec Ideal S1024x2048 .f32) = shapeCast S1024x2048 (m ((c : Thread nD τ).loc main_arg3)) shapeCasts_S1x1024x2048_S1024x2048 := by
    unfold_abbrev_sides
    after_results
    rfl
  refine Eq.trans ?_ ((congrFun e _).trans (Cert.Arrays.drop_lead _ shapeCasts_S1x1024x2048_S1024x2048 z k))
  unfold iblk
  rw [View.read_apply]
  have h := at_row 128 2048 _ (idx t).2.2.2.1 r.val k.val
  exact Cert.Arrays.same_pair (V m c main_v2) _ (ix2 z k) (h.1.trans hr.symm) h.2

omit hr

theorem final4 : (dats m 0 c).arrAt 4 cfg0.N = arr (G m c) := by
  refine (dats m 0 c).arrAt_eq_of_covers 4 _ (by decide +kernel) fun t hf y => ?_
  blk_simp
  rw [after0_4]
  have h := at_row 128 2048 _ (idx t).2.2.2.2.1 (y 0).val (y 1).val
  refine in_arr _ _ (fun r k z hr => ?_) y _ h.1 h.2
  unfold out0_4
  rw [View.canon_unit_zero hz]
  refine Eq.trans ?_ (blk1 m c t r k z hr)
  exact congrFun (View.ld_unit_zero (S := S128x2048) hz _ _) _

theorem final5 : (dats m 0 c).arrAt 5 cfg0.N = arr fun r k => delta (W m c r k) (G m c r k) (M m c r k) (U m c r k) := by
  refine (dats m 0 c).arrAt_eq_of_covers 5 _ (by decide +kernel) fun t hf y => ?_
  blk_simp
  rw [after0_5]
  have h := at_row 128 2048 _ (idx t).2.2.2.2.2.1 (y 0).val (y 1).val
  refine in_arr _ _ (fun r k z hr => ?_) y _ h.1 h.2
  unfold out0_5
  rw [View.canon_unit_zero hz]
  simp only [View.ld_unit_zero (S := S128x2048) hz]
  rw [pay3, blk0 m c t r k z hr, blk1 m c t r k z hr, blk2 m c t r k z hr, blk3 m c t r k z hr]

theorem final6 : (dats m 0 c).arrAt 6 cfg0.N = arr fun r k => mom1 (G m c r k) (M m c r k) := by
  refine (dats m 0 c).arrAt_eq_of_covers 6 _ (by decide +kernel) fun t hf y => ?_
  blk_simp
  rw [after0_6]
  have h := at_row 128 2048 _ (idx t).2.2.2.2.2.2.1 (y 0).val (y 1).val
  refine in_arr _ _ (fun r k z hr => ?_) y _ h.1 h.2
  unfold out0_6
  rw [View.canon_unit_zero hz]
  simp only [View.ld_unit_zero (S := S128x2048) hz]
  rw [pay1, blk1 m c t r k z hr, blk2 m c t r k z hr]

theorem final7 : (dats m 0 c).arrAt 7 cfg0.N = arr fun r k => mom2 (G m c r k) (U m c r k) := by
  refine (dats m 0 c).arrAt_eq_of_covers 7 _ (by decide +kernel) fun t hf y => ?_
  blk_simp
  rw [after0_7]
  have h := at_row 128 2048 _ (idx t).2.2.2.2.2.2.2 (y 0).val (y 1).val
  refine in_arr _ _ (fun r k z hr => ?_) y _ h.1 h.2
  unfold out0_7
  rw [View.canon_unit_zero hz]
  simp only [View.ld_unit_zero (S := S128x2048) hz]
  rw [pay2, blk1 m c t r k z hr, blk3 m c t r k z hr]

section

open Cert.AdamwReferenceIdeal.Read

variable (w : Vec Ideal S1x1024x2048 .f32) (g : Vec Ideal S1024x2048 .f32) (p q : Vec Ideal S1x1024x2048 .f32)

theorem ref_g : g = arr fun r k => g (ix2 r k) := by
  funext i
  obtain ⟨r, k, rfl⟩ := Cert.Arrays.exists_pair (a := 1024) (b := 2048) i
  rfl

theorem ref_m : val_main_v7 (F := Ideal) g p = arr fun r k => mom1 (g (ix2 r k)) (p (ix3 0 r k)) := by
  funext i
  obtain ⟨r, k, rfl⟩ := Cert.Arrays.exists_pair (a := 1024) (b := 2048) i
  show _ = mom1 (g (ix2 r k)) (p (ix3 0 r k))
  rw [← Cert.Arrays.drop_lead p shapeCasts_S1x1024x2048_S1024x2048 r k]
  rfl

theorem ref_v : val_main_v13 (F := Ideal) g q = arr fun r k => mom2 (g (ix2 r k)) (q (ix3 0 r k)) := by
  funext i
  obtain ⟨r, k, rfl⟩ := Cert.Arrays.exists_pair (a := 1024) (b := 2048) i
  show _ = mom2 (g (ix2 r k)) (q (ix3 0 r k))
  rw [← Cert.Arrays.drop_lead q shapeCasts_S1x1024x2048_S1024x2048 r k]
  rfl

theorem ref_d : val_main_v26 (F := Ideal) w g p q = arr fun r k => delta (w (ix3 0 r k)) (g (ix2 r k)) (p (ix3 0 r k)) (q (ix3 0 r k)) := by
  funext i
  obtain ⟨r, k, rfl⟩ := Cert.Arrays.exists_pair (a := 1024) (b := 2048) i
  show _ = delta (w (ix3 0 r k)) (g (ix2 r k)) (p (ix3 0 r k)) (q (ix3 0 r k))
  have hp : mom1 (g (ix2 r k)) (p (ix3 0 r k)) = val_main_v7 (F := Ideal) g p (ix2 r k) := (congrFun (ref_m g p) (ix2 r k)).symm
  have hq : mom2 (g (ix2 r k)) (q (ix3 0 r k)) = val_main_v13 (F := Ideal) g q (ix2 r k) := (congrFun (ref_v g q) (ix2 r k)).symm
  unfold delta
  rw [← Cert.Arrays.drop_lead w shapeCasts_S1x1024x2048_S1024x2048 r k, hp, hq]
  rfl

end

end Cert.AdamwKernelIdeal.Value
end
-- ==== Proof.Sum8Eq.lean ====
module

public import proofs.«01_k».proof.Proof.Gen.Sum8KernelIdeal.Value
public import proofs.«01_k».proof.Proof.Gen.Sum8ReferenceIdeal.Read
public import proofs.«01_k».proof.Proof.Arrays
public import Idealize.ShloMosaic.Lib.Pipeline.ValueKit.Tiles

@[expose] public section

noncomputable section

/-! The sum over the eight devices' packed gradients: the kernel adds them one after the other, the reference sums the leading axis. -/

namespace Cert.Sum8KernelIdeal.Value

open Cert.Sum8KernelIdeal Cert.Sum8KernelIdeal.Gen Idealize.ShloMosaic Idealize.ShloMosaic.TcCoe Idealize.SL.Sem
open Cert.Sum8ReferenceIdeal.Read

/-- One device's slab, read at an index of the sum. -/
theorem slab (a : Vec Ideal S8x16x1024 .f32) (o : ℕ) (inb) (k : Fin 8) (h : k.val = o) (r : Fin 16) (l : Fin 1024) :
    View.ld a (Rect.unit (s := S8x16x1024) ![o, 0, 0] S1x16x1024.size inb) (ix3 (0 : Fin 1) r l) = a (ix3 k r l) :=
  View.ld_unit_apply_of a _ _ _ _ (ix3 k r l) fun x => match x with
    | ⟨0, _⟩ => by show k.val = o + 0; omega
    | ⟨1, _⟩ => by show r.val = 0 + r.val; omega
    | ⟨2, _⟩ => by show l.val = 0 + l.val; omega

theorem pay (p0 p1 p2 p3 p4 p5 p6 p7 : Vec Ideal S1x16x1024 .f32) (r : Fin 16) (l : Fin 1024) :
    k0_pay1 (F := Ideal) p0 p1 p2 p3 p4 p5 p6 p7 (ix2 r l)
      = (p0 (ix3 0 r l) + p1 (ix3 0 r l) + p2 (ix3 0 r l) + p3 (ix3 0 r l) + p4 (ix3 0 r l) + p5 (ix3 0 r l) + p6 (ix3 0 r l) + p7 (ix3 0 r l) : EReal) := by
  unfold k0_pay1
  refine congrArg₂ (fun a b : EReal => a + b) ?_ (Cert.Arrays.drop_lead p7 _ r l)
  refine congrArg₂ (fun a b : EReal => a + b) ?_ (Cert.Arrays.drop_lead p6 _ r l)
  refine congrArg₂ (fun a b : EReal => a + b) ?_ (Cert.Arrays.drop_lead p5 _ r l)
  refine congrArg₂ (fun a b : EReal => a + b) ?_ (Cert.Arrays.drop_lead p4 _ r l)
  refine congrArg₂ (fun a b : EReal => a + b) ?_ (Cert.Arrays.drop_lead p3 _ r l)
  refine congrArg₂ (fun a b : EReal => a + b) ?_ (Cert.Arrays.drop_lead p2 _ r l)
  exact congrArg₂ (fun a b : EReal => a + b) (Cert.Arrays.drop_lead p0 _ r l) (Cert.Arrays.drop_lead p1 _ r l)

theorem ref_eq (a : Vec Ideal S8x16x1024 .f32) : val_main_v0 (F := Ideal) a = G1 a := by
  funext i
  obtain ⟨r, l, rfl⟩ := Cert.Arrays.exists_pair (a := 16) (b := 1024) i
  have h : val_main_v0 (F := Ideal) a (ix2 r l) = ∑ k : Fin 8, a (ix3 k r l) := by
    pointwise [val_main_v0, val_main_cst]
  rw [h, G1, pay, slab a 0 _ 0 rfl, slab a 1 _ 1 rfl, slab a 2 _ 2 rfl, slab a 3 _ 3 rfl, slab a 4 _ 4 rfl, slab a 5 _ 5 rfl, slab a 6 _ 6 rfl,
    slab a 7 _ 7 rfl, Fin.sum_univ_eight]

end Cert.Sum8KernelIdeal.Value
end
-- ==== Proof.MergeArrays.lean ====
module

public import proofs.«01_k».proof.Proof.MergeValue
public import proofs.«01_k».proof.Proof.Gen.MergeKernelIdeal.Value

@[expose] public section

set_option maxRecDepth 16384

noncomputable section

/-! What the merge kernel leaves in its twelve result arrays. -/

namespace Cert.MergeKernelIdeal.Value

open Cert.MergeKernelIdeal Cert.MergeKernelIdeal.Gen Cert.MergeKernelIdeal.Block Cert.MergeKernelIdeal.Host Idealize.ShloMosaic Idealize.ShloMosaic.TcCoe Idealize.SL.Sem
open Idealize.ShloMosaic.Pipeline (Dat)

variable (m : (ℓ : Loc nD τ sig) → Buf (Elt Ideal) ℓ) (c : Dev nD)

/-- The first `n` positions' share of a sum over all positions. -/
def part (f : Fin 8192 → EReal) (n : ℕ) : EReal := ∑ i ∈ Finset.range n, if h : i < 8192 then f ⟨i, h⟩ else 0

/-- The rows summed over all positions. -/
def rowsum (j : Fin 8) (l : Fin 1024) : EReal := ∑ r, term m c j r l
/-- The squared misses summed over all positions, the same number everywhere. -/
def total (_ : Fin 8) (_ : Fin 128) : EReal := ∑ r, miss m c r

theorem part_step (f : Fin 8192 → EReal) (t : Fin cfg0.N) :
    part f (t.val * 256) + ∑ r : Fin 256, f (pos t r) = part f ((t.val + 1) * 256) := by
  have ht := lt_of_lt_of_eq t.isLt N_0
  unfold part
  rw [Nat.succ_mul, Finset.sum_range_add, Finset.sum_range (n := 256)]
  refine congrArg _ (Finset.sum_congr rfl fun r _ => ?_)
  rw [dif_pos (by omega)]

theorem part_all (f : Fin 8192 → EReal) : part f 8192 = ∑ r : Fin 8192, f r := by
  unfold part
  rw [Finset.sum_range]
  exact Finset.sum_congr rfl fun r _ => dif_pos r.isLt

/-- The ten results that a grid point writes whole, whichever point it is. -/
theorem outs_rows (t : Fin cfg0.N) :
    (outsAt0 m c t.val t.isLt).1 = (at' m c t).y ∧
    (outsAt0 m c t.val t.isLt).2.1 = (at' m c t).dx2 ∧
    (outsAt0 m c t.val t.isLt).2.2.1 = (at' m c t).du ∧
    (outsAt0 m c t.val t.isLt).2.2.2.1 = (at' m c t).dya ∧
    (outsAt0 m c t.val t.isLt).2.2.2.2.1 = (at' m c t).dyb ∧
    (outsAt0 m c t.val t.isLt).2.2.2.2.2.1 = (at' m c t).dg ∧
    (outsAt0 m c t.val t.isLt).2.2.2.2.2.2.1 = (at' m c t).dat ∧
    (outsAt0 m c t.val t.isLt).2.2.2.2.2.2.2.1 = (at' m c t).dsum ∧
    (outsAt0 m c t.val t.isLt).2.2.2.2.2.2.2.2.1 = (at' m c t).dza ∧
    (outsAt0 m c t.val t.isLt).2.2.2.2.2.2.2.2.2.1 = (at' m c t).dob := by
  by_cases h : t.val % 32 = 0
  · rw [outs_A m c t h]
    exact ⟨rfl, rfl, rfl, rfl, rfl, rfl, rfl, rfl, rfl, rfl⟩
  · rw [outs_B m c t h]
    exact ⟨rfl, rfl, rfl, rfl, rfl, rfl, rfl, rfl, rfl, rfl⟩

/-- The two accumulated results after grid point `n`. -/
theorem outs_sums : ∀ (n : ℕ) (h : n < cfg0.N),
    (∀ (j : Fin 8) (l : Fin 1024), (outsAt0 m c n h).2.2.2.2.2.2.2.2.2.2.1 (ix2 j l) = part (fun r => term m c j r l) ((n + 1) * 256)) ∧
    ∀ (j : Fin 8) (l : Fin 128), (outsAt0 m c n h).2.2.2.2.2.2.2.2.2.2.2 (ix2 j l) = part (miss m c) ((n + 1) * 256)
  | 0, h => by
    have e := outs_A m c ⟨0, h⟩ rfl
    dsimp only at e
    rw [e]
    dsimp only
    refine ⟨fun j l => ?_, fun j l => ?_⟩
    · rw [acc_block, ← part_step _ ⟨0, h⟩]
      refine congrArg (· + _) ?_
      pointwise [k0_pay1]
      show _ = part _ (0 * 256)
      unfold part
      rw [Nat.zero_mul, Finset.sum_range_zero]
    · rw [ls_block, ← part_step _ ⟨0, h⟩]
      refine congrArg (· + _) ?_
      pointwise [k0_pay2]
      show _ = part _ (0 * 256)
      unfold part
      rw [Nat.zero_mul, Finset.sum_range_zero]
  | n + 1, h => by
    have hN : cfg0.N = 32 := N_0
    have hB : ¬(⟨n + 1, h⟩ : Fin cfg0.N).val % 32 = 0 := by dsimp only; omega
    have ih := outs_sums n (Nat.lt_of_succ_lt h)
    have e := outs_B m c ⟨n + 1, h⟩ hB
    dsimp only at e
    rw [e]
    dsimp only
    refine ⟨fun j l => ?_, fun j l => ?_⟩
    · rw [acc_block, ← part_step _ ⟨n + 1, h⟩]
      exact congrArg (· + _) (ih.1 j l)
    · rw [ls_block, ← part_step _ ⟨n + 1, h⟩]
      exact congrArg (· + _) (ih.2 j l)

/-- An array given by its rows and columns. -/
def arr {a b : ℕ} (f : Fin a → Fin b → EReal) : (⟨2, ![a, b]⟩ : Shape).Idx → EReal := fun y => f (y 0) (y 1)

/-- A block that holds the rows of one grid point agrees with the array of all rows. -/
theorem rows_agree {w : ℕ} (f : Fin 8192 → Fin w → EReal) (b : (⟨2, ![256, w]⟩ : Shape).Idx → EReal) (t : Fin cfg0.N)
    (hb : ∀ r l, b (ix2 r l) = f (pos t r) l) (y : (⟨2, ![256, w]⟩ : Shape).Idx) (z : (⟨2, ![8192, w]⟩ : Shape).Idx)
    (h0 : (z 0).val = t.val * 256 + (y 0).val) (h1 : (z 1).val = (y 1).val) : b y = arr f z := by
  obtain ⟨r, l, rfl⟩ := Cert.Arrays.exists_pair (a := 256) (b := w) y
  rw [hb]
  exact congrArg₂ f (Fin.ext h0.symm) (Fin.ext h1.symm)

/-- A block that holds a whole array. -/
theorem whole_agrees {a w : ℕ} (f : Fin a → Fin w → EReal) (b : (⟨2, ![a, w]⟩ : Shape).Idx → EReal)
    (hb : ∀ r l, b (ix2 r l) = f r l) (y z : (⟨2, ![a, w]⟩ : Shape).Idx)
    (h0 : (z 0).val = (y 0).val) (h1 : (z 1).val = (y 1).val) : b y = arr f z := by
  obtain ⟨r, l, rfl⟩ := Cert.Arrays.exists_pair (a := a) (b := w) y
  rw [hb]
  exact congrArg₂ f (Fin.ext h0.symm) (Fin.ext h1.symm)

/-- Two coordinates that each lie between their bounds. -/
theorem within (i o s : Fin 2 → ℕ) (h0 : o 0 ≤ i 0 ∧ i 0 < o 0 + s 0) (h1 : o 1 ≤ i 1 ∧ i 1 < o 1 + s 1) (a : Fin 2) :
    o a ≤ i a ∧ i a < o a + s a := match a with | 0 => h0 | 1 => h1

/-- The grid point that works on a row. -/
abbrev owner (i : ℕ) (h : i < 8192) : Fin cfg0.N := ⟨i / 256, by rw [show cfg0.N = 32 from N_0]; omega⟩

/-- Which block of its array each result's window shows at a grid point. -/
theorem out_places : ∀ t : Fin cfg0.N,
    (win0_12.index t 0 = t.val ∧ win0_12.index t 1 = 0) ∧
    (win0_13.index t 0 = t.val ∧ win0_13.index t 1 = 0) ∧
    (win0_14.index t 0 = t.val ∧ win0_14.index t 1 = 0) ∧
    (win0_15.index t 0 = t.val ∧ win0_15.index t 1 = 0) ∧
    (win0_16.index t 0 = t.val ∧ win0_16.index t 1 = 0) ∧
    (win0_17.index t 0 = t.val ∧ win0_17.index t 1 = 0) ∧
    (win0_18.index t 0 = t.val ∧ win0_18.index t 1 = 0) ∧
    (win0_19.index t 0 = t.val ∧ win0_19.index t 1 = 0) ∧
    (win0_20.index t 0 = t.val ∧ win0_20.index t 1 = 0) ∧
    (win0_21.index t 0 = t.val ∧ win0_21.index t 1 = 0) ∧
    (win0_22.index t 0 = 0 ∧ win0_22.index t 1 = 0) ∧
    (win0_23.index t 0 = 0 ∧ win0_23.index t 1 = 0) := by
  decide +kernel

theorem final_y : (dats m 0 c).arrAt 12 cfg0.N = (arr (y m c) : Vec Ideal S8192x1024 .bf16) := by
  have p := fun t => (out_places t).1
  refine (dats m 0 c).arrAt_eq_of_cover 12 (arr (y m c)) (fun t _ => ?_) fun i => ⟨owner (i 0).val (i 0).isLt, flush0_12 _, ?_⟩
  · rw [flushed12, (outs_rows m c t).1]
    funext w
    rw [View.read_apply]
    refine rows_agree (y m c) _ t (fun r l => y_block m c t r l) w _ ?_ ?_
    · show win0_12.index t 0 * 256 + 1 * (w 0).val = _; rw [(p t).1]; omega
    · show win0_12.index t 1 * 1024 + 1 * (w 1).val = _; rw [(p t).2]; omega
  · show i ∈ ((View.whole main_v20_0).slice (win0_12.rect (owner (i 0).val (i 0).isLt))).set
    rw [View.set_slice_whole, Rect.mem_set_unit]
    have h1 : (i 1 : Nat) < 1024 := (i 1).isLt
    refine within _ _ _ ?_ ?_
    · show win0_12.index _ 0 * 256 ≤ (i 0 : Nat) ∧ (i 0 : Nat) < win0_12.index _ 0 * 256 + 256; rw [(p _).1]; dsimp only; omega
    · show win0_12.index _ 1 * 1024 ≤ (i 1 : Nat) ∧ (i 1 : Nat) < win0_12.index _ 1 * 1024 + 1024; rw [(p _).2]; omega

theorem final_dx2 : (dats m 0 c).arrAt 13 cfg0.N = (arr (dx2 m c) : Vec Ideal S8192x1024 .f32) := by
  have p := fun t => (out_places t).2.1
  refine (dats m 0 c).arrAt_eq_of_cover 13 (arr (dx2 m c)) (fun t _ => ?_) fun i => ⟨owner (i 0).val (i 0).isLt, flush0_13 _, ?_⟩
  · rw [flushed13, (outs_rows m c t).2.1]
    funext w
    rw [View.read_apply]
    refine rows_agree (dx2 m c) _ t (fun r l => dx2_block m c t r l) w _ ?_ ?_
    · show win0_13.index t 0 * 256 + 1 * (w 0).val = _; rw [(p t).1]; omega
    · show win0_13.index t 1 * 1024 + 1 * (w 1).val = _; rw [(p t).2]; omega
  · show i ∈ ((View.whole main_v20_1).slice (win0_13.rect (owner (i 0).val (i 0).isLt))).set
    rw [View.set_slice_whole, Rect.mem_set_unit]
    have h1 : (i 1 : Nat) < 1024 := (i 1).isLt
    refine within _ _ _ ?_ ?_
    · show win0_13.index _ 0 * 256 ≤ (i 0 : Nat) ∧ (i 0 : Nat) < win0_13.index _ 0 * 256 + 256; rw [(p _).1]; dsimp only; omega
    · show win0_13.index _ 1 * 1024 ≤ (i 1 : Nat) ∧ (i 1 : Nat) < win0_13.index _ 1 * 1024 + 1024; rw [(p _).2]; omega

theorem final_du : (dats m 0 c).arrAt 14 cfg0.N = (arr (du m c) : Vec Ideal S8192x1024 .bf16) := by
  have p := fun t => (out_places t).2.2.1
  refine (dats m 0 c).arrAt_eq_of_cover 14 (arr (du m c)) (fun t _ => ?_) fun i => ⟨owner (i 0).val (i 0).isLt, flush0_14 _, ?_⟩
  · rw [flushed14, (outs_rows m c t).2.2.1]
    funext w
    rw [View.read_apply]
    refine rows_agree (du m c) _ t (fun r l => du_block m c t r l) w _ ?_ ?_
    · show win0_14.index t 0 * 256 + 1 * (w 0).val = _; rw [(p t).1]; omega
    · show win0_14.index t 1 * 1024 + 1 * (w 1).val = _; rw [(p t).2]; omega
  · show i ∈ ((View.whole main_v20_2).slice (win0_14.rect (owner (i 0).val (i 0).isLt))).set
    rw [View.set_slice_whole, Rect.mem_set_unit]
    have h1 : (i 1 : Nat) < 1024 := (i 1).isLt
    refine within _ _ _ ?_ ?_
    · show win0_14.index _ 0 * 256 ≤ (i 0 : Nat) ∧ (i 0 : Nat) < win0_14.index _ 0 * 256 + 256; rw [(p _).1]; dsimp only; omega
    · show win0_14.index _ 1 * 1024 ≤ (i 1 : Nat) ∧ (i 1 : Nat) < win0_14.index _ 1 * 1024 + 1024; rw [(p _).2]; omega

theorem final_dya : (dats m 0 c).arrAt 15 cfg0.N = (arr (dya m c) : Vec Ideal S8192x1024 .bf16) := by
  have p := fun t => (out_places t).2.2.2.1
  refine (dats m 0 c).arrAt_eq_of_cover 15 (arr (dya m c)) (fun t _ => ?_) fun i => ⟨owner (i 0).val (i 0).isLt, flush0_15 _, ?_⟩
  · rw [flushed15, (outs_rows m c t).2.2.2.1]
    funext w
    rw [View.read_apply]
    refine rows_agree (dya m c) _ t (fun r l => dya_block m c t r l) w _ ?_ ?_
    · show win0_15.index t 0 * 256 + 1 * (w 0).val = _; rw [(p t).1]; omega
    · show win0_15.index t 1 * 1024 + 1 * (w 1).val = _; rw [(p t).2]; omega
  · show i ∈ ((View.whole main_v20_3).slice (win0_15.rect (owner (i 0).val (i 0).isLt))).set
    rw [View.set_slice_whole, Rect.mem_set_unit]
    have h1 : (i 1 : Nat) < 1024 := (i 1).isLt
    refine within _ _ _ ?_ ?_
    · show win0_15.index _ 0 * 256 ≤ (i 0 : Nat) ∧ (i 0 : Nat) < win0_15.index _ 0 * 256 + 256; rw [(p _).1]; dsimp only; omega
    · show win0_15.index _ 1 * 1024 ≤ (i 1 : Nat) ∧ (i 1 : Nat) < win0_15.index _ 1 * 1024 + 1024; rw [(p _).2]; omega

theorem final_dyb : (dats m 0 c).arrAt 16 cfg0.N = (arr (dyb m c) : Vec Ideal S8192x1024 .bf16) := by
  have p := fun t => (out_places t).2.2.2.2.1
  refine (dats m 0 c).arrAt_eq_of_cover 16 (arr (dyb m c)) (fun t _ => ?_) fun i => ⟨owner (i 0).val (i 0).isLt, flush0_16 _, ?_⟩
  · rw [flushed16, (outs_rows m c t).2.2.2.2.1]
    funext w
    rw [View.read_apply]
    refine rows_agree (dyb m c) _ t (fun r l => dyb_block m c t r l) w _ ?_ ?_
    · show win0_16.index t 0 * 256 + 1 * (w 0).val = _; rw [(p t).1]; omega
    · show win0_16.index t 1 * 1024 + 1 * (w 1).val = _; rw [(p t).2]; omega
  · show i ∈ ((View.whole main_v20_4).slice (win0_16.rect (owner (i 0).val (i 0).isLt))).set
    rw [View.set_slice_whole, Rect.mem_set_unit]
    have h1 : (i 1 : Nat) < 1024 := (i 1).isLt
    refine within _ _ _ ?_ ?_
    · show win0_16.index _ 0 * 256 ≤ (i 0 : Nat) ∧ (i 0 : Nat) < win0_16.index _ 0 * 256 + 256; rw [(p _).1]; dsimp only; omega
    · show win0_16.index _ 1 * 1024 ≤ (i 1 : Nat) ∧ (i 1 : Nat) < win0_16.index _ 1 * 1024 + 1024; rw [(p _).2]; omega

theorem final_dg : (dats m 0 c).arrAt 17 cfg0.N = (arr (dg m c) : Vec Ideal S8192x2048 .bf16) := by
  have p := fun t => (out_places t).2.2.2.2.2.1
  refine (dats m 0 c).arrAt_eq_of_cover 17 (arr (dg m c)) (fun t _ => ?_) fun i => ⟨owner (i 0).val (i 0).isLt, flush0_17 _, ?_⟩
  · rw [flushed17, (outs_rows m c t).2.2.2.2.2.1]
    funext w
    rw [View.read_apply]
    refine rows_agree (dg m c) _ t (fun r l => dg_block m c t r l) w _ ?_ ?_
    · show win0_17.index t 0 * 256 + 1 * (w 0).val = _; rw [(p t).1]; omega
    · show win0_17.index t 1 * 2048 + 1 * (w 1).val = _; rw [(p t).2]; omega
  · show i ∈ ((View.whole main_v20_5).slice (win0_17.rect (owner (i 0).val (i 0).isLt))).set
    rw [View.set_slice_whole, Rect.mem_set_unit]
    have h1 : (i 1 : Nat) < 2048 := (i 1).isLt
    refine within _ _ _ ?_ ?_
    · show win0_17.index _ 0 * 256 ≤ (i 0 : Nat) ∧ (i 0 : Nat) < win0_17.index _ 0 * 256 + 256; rw [(p _).1]; dsimp only; omega
    · show win0_17.index _ 1 * 2048 ≤ (i 1 : Nat) ∧ (i 1 : Nat) < win0_17.index _ 1 * 2048 + 2048; rw [(p _).2]; omega

theorem final_dat : (dats m 0 c).arrAt 18 cfg0.N = (arr (dat m c) : Vec Ideal S8192x512 .f32) := by
  have p := fun t => (out_places t).2.2.2.2.2.2.1
  refine (dats m 0 c).arrAt_eq_of_cover 18 (arr (dat m c)) (fun t _ => ?_) fun i => ⟨owner (i 0).val (i 0).isLt, flush0_18 _, ?_⟩
  · rw [flushed18, (outs_rows m c t).2.2.2.2.2.2.1]
    funext w
    rw [View.read_apply]
    refine rows_agree (dat m c) _ t (fun r l => dat_block m c t r l) w _ ?_ ?_
    · show win0_18.index t 0 * 256 + 1 * (w 0).val = _; rw [(p t).1]; omega
    · show win0_18.index t 1 * 512 + 1 * (w 1).val = _; rw [(p t).2]; omega
  · show i ∈ ((View.whole main_v20_6).slice (win0_18.rect (owner (i 0).val (i 0).isLt))).set
    rw [View.set_slice_whole, Rect.mem_set_unit]
    have h1 : (i 1 : Nat) < 512 := (i 1).isLt
    refine within _ _ _ ?_ ?_
    · show win0_18.index _ 0 * 256 ≤ (i 0 : Nat) ∧ (i 0 : Nat) < win0_18.index _ 0 * 256 + 256; rw [(p _).1]; dsimp only; omega
    · show win0_18.index _ 1 * 512 ≤ (i 1 : Nat) ∧ (i 1 : Nat) < win0_18.index _ 1 * 512 + 512; rw [(p _).2]; omega

theorem final_dsum : (dats m 0 c).arrAt 19 cfg0.N = (arr (dsum m c) : Vec Ideal S8192x512 .f32) := by
  have p := fun t => (out_places t).2.2.2.2.2.2.2.1
  refine (dats m 0 c).arrAt_eq_of_cover 19 (arr (dsum m c)) (fun t _ => ?_) fun i => ⟨owner (i 0).val (i 0).isLt, flush0_19 _, ?_⟩
  · rw [flushed19, (outs_rows m c t).2.2.2.2.2.2.2.1]
    funext w
    rw [View.read_apply]
    refine rows_agree (dsum m c) _ t (fun r l => dsum_block m c t r l) w _ ?_ ?_
    · show win0_19.index t 0 * 256 + 1 * (w 0).val = _; rw [(p t).1]; omega
    · show win0_19.index t 1 * 512 + 1 * (w 1).val = _; rw [(p t).2]; omega
  · show i ∈ ((View.whole main_v20_7).slice (win0_19.rect (owner (i 0).val (i 0).isLt))).set
    rw [View.set_slice_whole, Rect.mem_set_unit]
    have h1 : (i 1 : Nat) < 512 := (i 1).isLt
    refine within _ _ _ ?_ ?_
    · show win0_19.index _ 0 * 256 ≤ (i 0 : Nat) ∧ (i 0 : Nat) < win0_19.index _ 0 * 256 + 256; rw [(p _).1]; dsimp only; omega
    · show win0_19.index _ 1 * 512 ≤ (i 1 : Nat) ∧ (i 1 : Nat) < win0_19.index _ 1 * 512 + 512; rw [(p _).2]; omega

theorem final_dza : (dats m 0 c).arrAt 20 cfg0.N = (arr (dza m c) : Vec Ideal S8192x512 .bf16) := by
  have p := fun t => (out_places t).2.2.2.2.2.2.2.2.1
  refine (dats m 0 c).arrAt_eq_of_cover 20 (arr (dza m c)) (fun t _ => ?_) fun i => ⟨owner (i 0).val (i 0).isLt, flush0_20 _, ?_⟩
  · rw [flushed20, (outs_rows m c t).2.2.2.2.2.2.2.2.1]
    funext w
    rw [View.read_apply]
    refine rows_agree (dza m c) _ t (fun r l => dza_block m c t r l) w _ ?_ ?_
    · show win0_20.index t 0 * 256 + 1 * (w 0).val = _; rw [(p t).1]; omega
    · show win0_20.index t 1 * 512 + 1 * (w 1).val = _; rw [(p t).2]; omega
  · show i ∈ ((View.whole main_v20_8).slice (win0_20.rect (owner (i 0).val (i 0).isLt))).set
    rw [View.set_slice_whole, Rect.mem_set_unit]
    have h1 : (i 1 : Nat) < 512 := (i 1).isLt
    refine within _ _ _ ?_ ?_
    · show win0_20.index _ 0 * 256 ≤ (i 0 : Nat) ∧ (i 0 : Nat) < win0_20.index _ 0 * 256 + 256; rw [(p _).1]; dsimp only; omega
    · show win0_20.index _ 1 * 512 ≤ (i 1 : Nat) ∧ (i 1 : Nat) < win0_20.index _ 1 * 512 + 512; rw [(p _).2]; omega

theorem final_dob : (dats m 0 c).arrAt 21 cfg0.N = (arr (dob m c) : Vec Ideal S8192x1024 .f32) := by
  have p := fun t => (out_places t).2.2.2.2.2.2.2.2.2.1
  refine (dats m 0 c).arrAt_eq_of_cover 21 (arr (dob m c)) (fun t _ => ?_) fun i => ⟨owner (i 0).val (i 0).isLt, flush0_21 _, ?_⟩
  · rw [flushed21, (outs_rows m c t).2.2.2.2.2.2.2.2.2]
    funext w
    rw [View.read_apply]
    refine rows_agree (dob m c) _ t (fun r l => dob_block m c t r l) w _ ?_ ?_
    · show win0_21.index t 0 * 256 + 1 * (w 0).val = _; rw [(p t).1]; omega
    · show win0_21.index t 1 * 1024 + 1 * (w 1).val = _; rw [(p t).2]; omega
  · show i ∈ ((View.whole main_v20_9).slice (win0_21.rect (owner (i 0).val (i 0).isLt))).set
    rw [View.set_slice_whole, Rect.mem_set_unit]
    have h1 : (i 1 : Nat) < 1024 := (i 1).isLt
    refine within _ _ _ ?_ ?_
    · show win0_21.index _ 0 * 256 ≤ (i 0 : Nat) ∧ (i 0 : Nat) < win0_21.index _ 0 * 256 + 256; rw [(p _).1]; dsimp only; omega
    · show win0_21.index _ 1 * 1024 ≤ (i 1 : Nat) ∧ (i 1 : Nat) < win0_21.index _ 1 * 1024 + 1024; rw [(p _).2]; omega

theorem final_acc : (dats m 0 c).arrAt 22 cfg0.N = (arr (rowsum m c) : Vec Ideal S8x1024 .f32) := by
  have ht : 31 < cfg0.N := by rw [show cfg0.N = 32 from N_0]; omega
  have p := fun t => (out_places t).2.2.2.2.2.2.2.2.2.2.1
  refine (dats m 0 c).arrAt_eq_of_cover 22 (arr (rowsum m c)) (fun t hf => ?_)
    fun i => ⟨⟨31, ht⟩, (flush0_22 _).mpr rfl, ?_⟩
  · have h3 : t.val = 31 := by have hN : cfg0.N = 32 := N_0; have := (flush0_22 t).mp hf; have := t.isLt; omega
    rw [flushed22]
    funext w
    rw [View.read_apply]
    refine whole_agrees (rowsum m c) _ (fun j l => ((outs_sums m c t.val t.isLt).1 j l).trans (by rw [h3]; exact part_all _)) w _ ?_ ?_
    · show win0_22.index t 0 * 8 + 1 * (w 0).val = _; rw [(p t).1]; omega
    · show win0_22.index t 1 * 1024 + 1 * (w 1).val = _; rw [(p t).2]; omega
  · show i ∈ ((View.whole main_v20_10).slice (win0_22.rect ⟨31, ht⟩)).set
    rw [View.set_slice_whole, Rect.mem_set_unit]
    have h0 : (i 0 : Nat) < 8 := (i 0).isLt
    have h1 : (i 1 : Nat) < 1024 := (i 1).isLt
    refine within _ _ _ ?_ ?_
    · show win0_22.index _ 0 * 8 ≤ (i 0 : Nat) ∧ (i 0 : Nat) < win0_22.index _ 0 * 8 + 8; rw [(p _).1]; omega
    · show win0_22.index _ 1 * 1024 ≤ (i 1 : Nat) ∧ (i 1 : Nat) < win0_22.index _ 1 * 1024 + 1024; rw [(p _).2]; omega

theorem final_ls : (dats m 0 c).arrAt 23 cfg0.N = (arr (total m c) : Vec Ideal S8x128 .f32) := by
  have ht : 31 < cfg0.N := by rw [show cfg0.N = 32 from N_0]; omega
  have p := fun t => (out_places t).2.2.2.2.2.2.2.2.2.2.2
  refine (dats m 0 c).arrAt_eq_of_cover 23 (arr (total m c)) (fun t hf => ?_)
    fun i => ⟨⟨31, ht⟩, (flush0_23 _).mpr rfl, ?_⟩
  · have h3 : t.val = 31 := by have hN : cfg0.N = 32 := N_0; have := (flush0_23 t).mp hf; have := t.isLt; omega
    rw [flushed23]
    funext w
    rw [View.read_apply]
    refine whole_agrees (total m c) _ (fun j l => ((outs_sums m c t.val t.isLt).2 j l).trans (by rw [h3]; exact part_all _)) w _ ?_ ?_
    · show win0_23.index t 0 * 8 + 1 * (w 0).val = _; rw [(p t).1]; omega
    · show win0_23.index t 1 * 128 + 1 * (w 1).val = _; rw [(p t).2]; omega
  · show i ∈ ((View.whole main_v20_11).slice (win0_23.rect ⟨31, ht⟩)).set
    rw [View.set_slice_whole, Rect.mem_set_unit]
    have h0 : (i 0 : Nat) < 8 := (i 0).isLt
    have h1 : (i 1 : Nat) < 128 := (i 1).isLt
    refine within _ _ _ ?_ ?_
    · show win0_23.index _ 0 * 8 ≤ (i 0 : Nat) ∧ (i 0 : Nat) < win0_23.index _ 0 * 8 + 8; rw [(p _).1]; omega
    · show win0_23.index _ 1 * 128 ≤ (i 1 : Nat) ∧ (i 1 : Nat) < win0_23.index _ 1 * 128 + 128; rw [(p _).2]; omega

end Cert.MergeKernelIdeal.Value
end
-- ==== Proof.MergeRef.lean ====
module

public import proofs.«01_k».proof.Proof.Gen.MergeReferenceIdeal.Read
public import proofs.«01_k».proof.Proof.MergeMath

@[expose] public section

set_option maxRecDepth 16384

noncomputable section

/-! What the merge reference computes at one position, in the kernel's terms where the two agree on all arguments. -/

namespace Cert.MergeReferenceIdeal.Ref

open Cert.MergeReferenceIdeal Cert.MergeReferenceIdeal.Read Idealize.ShloMosaic Idealize.ShloMosaic.TcCoe Idealize.SL.Sem
open Cert.MergeKernelIdeal.Host Cert.MergeKernelIdeal.Value

variable (m : (ℓ : Loc Cert.MergeKernelIdeal.nD Cert.MergeKernelIdeal.τ Cert.MergeKernelIdeal.sig) → Buf (Elt Ideal) ℓ) (c : Dev Cert.MergeKernelIdeal.nD)
variable (x0 : Vec Ideal S1x8192x512 .f32) (x1 : Vec Ideal S1x8192x1024 .f32) (x2 : Vec Ideal S1x8192x8192 .f32) (x3 : Vec Ideal S1x8192x1024 .f32)
  (x4 : Vec Ideal S1x1024 .f32) (x5 : Vec Ideal S1024 .f32) (x6 : Vec Ideal S1x512x1024 .f32) (x7 x8 : Vec Ideal S1x1024x1024 .f32) (x9 : Vec Ideal S1x8192x1024 .f32)

/-- The reference's arguments are the kernel's. -/
structure Same : Prop where
  h0 : ∀ r l, x0 (ix3 (0 : Fin 1) r l) = OA m c r l
  h1 : ∀ r l, x1 (ix3 (0 : Fin 1) r l) = OB m c r l
  h2 : ∀ r l, x2 (ix3 (0 : Fin 1) r l) = PJ m c r l
  h3 : ∀ r l, x3 (ix3 (0 : Fin 1) r l) = X m c r l
  h4 : ∀ l, x4 (ix2 (0 : Fin 1) l) = GT m c l
  h5 : ∀ l, x5 (ix1 l) = FG m c l
  h6 : ∀ r l, x6 (ix3 (0 : Fin 1) r l) = WA m c r l
  h7 : ∀ r l, x7 (ix3 (0 : Fin 1) r l) = WB m c r l
  h8 : ∀ r l, x8 (ix3 (0 : Fin 1) r l) = WO m c r l
  h9 : ∀ r l, x9 (ix3 (0 : Fin 1) r l) = TG m c r l

variable {m c x0 x1 x2 x3 x4 x5 x6 x7 x8 x9}
variable (s : Same m c x0 x1 x2 x3 x4 x5 x6 x7 x8 x9) (r : Fin 8192)
include s

theorem v3 (l : Fin 512) : val_main_v3 (F := Ideal) x2 (ix3 (0 : Fin 1) r l) = z m c r l := by
  pointwise [val_main_v3]
  simp only [s.h2]
  rfl
theorem v11_2 (l : Fin 512) : val_main_v11_2 (F := Ideal) x2 (ix3 (0 : Fin 1) r l) = th (z m c r l) := by
  rw [← Cert.Reals.sg_th, ← v3 s]
  unfold sg
  pointwise [val_main_v11_2, val_main_call0_v4, val_main_call0_v3, val_main_call0_v2, val_main_call0_v1, val_main_call0_v0, val_main_call0_cst, val_main_call0_cst_0, val_main_v3]
theorem v11_0 (l : Fin 512) : val_main_v11_0 (F := Ideal) x2 (ix3 (0 : Fin 1) r l) = z m c r l * th (z m c r l) := by
  pointwise [val_main_v11_0]
  rw [v3 s, v11_2 s]
theorem v11_1 (l : Fin 512) : val_main_v11_1 (F := Ideal) x2 (ix3 (0 : Fin 1) r l) = th (z m c r l) * (ow - th (z m c r l)) := by
  pointwise [val_main_v11_1, val_main_call0_v7, val_main_call0_v6, val_main_call0_cst_1]
  rw [v11_2 s]
theorem v13 (k : Fin 512) (l : Fin 1024) : val_main_v13 (F := Ideal) x6 (ix2 k l) = WA m c k l :=
  (Cert.Arrays.drop_lead x6 _ k l).trans (s.h6 k l)
theorem v16 (k : Fin 1024) (l : Fin 1024) : val_main_v16 (F := Ideal) x7 (ix2 k l) = WB m c k l :=
  (Cert.Arrays.drop_lead x7 _ k l).trans (s.h7 k l)
theorem v41 (k : Fin 1024) (l : Fin 1024) : val_main_v41 (F := Ideal) x8 (ix2 k l) = WO m c k l :=
  (Cert.Arrays.drop_lead x8 _ k l).trans (s.h8 k l)
theorem v15 (l : Fin 1024) : val_main_v15 (F := Ideal) x0 x2 x6 (ix3 (0 : Fin 1) r l) = ya m c r l := by
  unfold ya
  pointwise [val_main_v15, val_main_v14, val_main_v12, val_main_v10, val_main_cst]
  simp only [v13 s, v11_0 s, s.h0, Cert.Reals.sg_th]
  rfl
theorem v18 (l : Fin 1024) : val_main_v18 (F := Ideal) x1 x7 (ix3 (0 : Fin 1) r l) = yb m c r l := by
  unfold yb
  pointwise [val_main_v18, val_main_v17, val_main_v10, val_main_cst]
  simp only [v16 s, s.h1]
theorem v24 (l : Fin 1024) : val_main_v24 (F := Ideal) x2 (ix3 (0 : Fin 1) r l) = sa m c r l := by
  unfold sa
  rw [← Cert.Reals.sg_th, ← s.h2]
  unfold sg
  pointwise [val_main_v24, val_main_v23, val_main_v22, val_main_v21, val_main_v20, val_main_v19, val_main_v8, val_main_cst_0, val_main_cst_1]
theorem v34 (l : Fin 1024) : val_main_v34 (F := Ideal) x2 (ix3 (0 : Fin 1) r l) = sb m c r l := by
  unfold sb
  rw [← Cert.Reals.sg_th, ← s.h2]
  unfold sg
  pointwise [val_main_v34, val_main_v33, val_main_v32, val_main_v31, val_main_v30, val_main_v29, val_main_v9, val_main_cst_3, val_main_cst_4]
theorem v27 (l : Fin 1024) : val_main_v27 (F := Ideal) x2 (ix3 (0 : Fin 1) r l) = sa m c r l * (ow - sa m c r l) := by
  pointwise [val_main_v27, val_main_v26, val_main_v25, val_main_cst_2]
  rw [v24 s]
theorem v37 (l : Fin 1024) : val_main_v37 (F := Ideal) x2 (ix3 (0 : Fin 1) r l) = sb m c r l * (ow - sb m c r l) := by
  pointwise [val_main_v37, val_main_v36, val_main_v35, val_main_cst_5]
  rw [v34 s]
theorem v39 (l : Fin 1024) : val_main_v39 (F := Ideal) x0 x1 x2 x6 x7 (ix3 (0 : Fin 1) r l) = y m c r l := by
  unfold y
  pointwise [val_main_v39, val_main_v28, val_main_v38]
  rw [v24 s, v34 s, v15 s, v18 s]
theorem v43 (l : Fin 1024) : val_main_v43 (F := Ideal) x0 x1 x2 x6 x7 x8 (ix3 (0 : Fin 1) r l) = u m c r l := by
  unfold u
  pointwise [val_main_v43, val_main_v42, val_main_v10, val_main_cst]
  simp only [v39 s, v41 s]
theorem v46 (l : Fin 1024) : val_main_v46 (F := Ideal) x0 x1 x2 x3 x4 x6 x7 x8 (ix3 (0 : Fin 1) r l) = Cert.MergeKernelIdeal.Value.x2 m c r l := by
  unfold Cert.MergeKernelIdeal.Value.x2
  pointwise [val_main_v46, val_main_v45, val_main_v44, val_main_v40]
  rw [s.h3, s.h4, v43 s]
theorem v53 : val_main_v53 (F := Ideal) x0 x1 x2 x3 x4 x6 x7 x8 (ix3 (0 : Fin 1) r (0 : Fin 1)) = Cert.Norm.ms (Cert.MergeKernelIdeal.Value.x2 m c r) := by
  unfold Cert.Norm.ms
  pointwise [val_main_v53, val_main_v52, val_main_v51, val_main_v50, val_main_v49, val_main_v48, val_main_v47, val_main_cst_6, val_main_cst_7, val_main_cst_8]
  simp only [v46 s]
theorem v54 : val_main_v54 (F := Ideal) x0 x1 x2 x3 x4 x6 x7 x8 (ix3 (0 : Fin 1) r (0 : Fin 1)) = rs m c r := by
  pointwise [val_main_v54]
  rw [v53 s]
  rfl
/-- The derivative of the reciprocal root at row `r`. -/
def drs (m : (ℓ : Loc Cert.MergeKernelIdeal.nD Cert.MergeKernelIdeal.τ Cert.MergeKernelIdeal.sig) → Buf (Elt Ideal) ℓ) (c : Dev Cert.MergeKernelIdeal.nD) (r : Fin 8192) : EReal :=
  Ideal.ofBits .f32 0xBF000000#32 * Ideal.div (rs m c r) (Cert.Norm.ms (Cert.MergeKernelIdeal.Value.x2 m c r))
theorem v57 : val_main_v57 (F := Ideal) x0 x1 x2 x3 x4 x6 x7 x8 (ix3 (0 : Fin 1) r (0 : Fin 1)) = drs m c r := by
  unfold drs
  pointwise [val_main_v57, val_main_v56, val_main_v55, val_main_cst_9]
  rw [v54 s, v53 s]
theorem v59 (l : Fin 1024) : val_main_v59 (F := Ideal) x0 x1 x2 x3 x4 x6 x7 x8 (ix3 (0 : Fin 1) r l) = Cert.MergeKernelIdeal.Value.x2 m c r l * rs m c r := by
  pointwise [val_main_v59, val_main_v58]
  rw [v46 s, v54 s]
theorem v63 (l : Fin 1024) : val_main_v63 (F := Ideal) x0 x1 x2 x3 x4 x5 x6 x7 x8 x9 (ix3 (0 : Fin 1) r l) = err m c r l := by
  unfold err
  pointwise [val_main_v63, val_main_v62, val_main_v61, val_main_v60]
  rw [v59 s, s.h5, s.h9]
theorem v77 (l : Fin 1024) : val_main_v77 (F := Ideal) x0 x1 x2 x3 x4 x5 x6 x7 x8 x9 (ix3 (0 : Fin 1) r l) = dout m c r l := by
  unfold dout
  pointwise [val_main_v77, val_main_v76, val_main_v75, val_main_v74, val_main_v73, val_main_v72, val_main_v66, val_main_v65, val_main_cst_10, val_main_cst_15, val_main_cst_16, val_main_cst_17]
  rw [v63 s]
  exact Cert.Reals.scale _
theorem v67 : val_main_v67 (F := Ideal) x0 x1 x2 x3 x4 x5 x6 x7 x8 x9 (ix2 (0 : Fin 1) r) = miss m c r := by
  unfold miss
  pointwise [val_main_v67, val_main_v64, val_main_cst_11]
  simp only [v63 s]
theorem v83 (l : Fin 1024) : val_main_v83 (F := Ideal) x0 x1 x2 x3 x4 x5 x6 x7 x8 x9 (ix1 l) = ∑ r, term m c 1 r l := by
  unfold term
  pointwise [val_main_v83, val_main_v80, val_main_v79, val_main_v78, val_main_cst_18, val_main_cst_19]
  simp only [v59 s, v77 s]
  refine Finset.sum_congr rfl fun r _ => ?_
  show _ = dout m c r l * _ * _
  ac_rfl
theorem v82 (l : Fin 1024) : val_main_v82 (F := Ideal) x0 x1 x2 x3 x4 x5 x6 x7 x8 x9 (ix3 (0 : Fin 1) r l) = dout m c r l * FG m c l := by
  pointwise [val_main_v82, val_main_v81, val_main_v60]
  rw [v77 s, s.h5]
theorem v94 (l : Fin 1024) : val_main_v94 (F := Ideal) x0 x1 x2 x3 x4 x5 x6 x7 x8 x9 (ix3 (0 : Fin 1) r l) =
    Ideal.div ((∑ k, Cert.MergeKernelIdeal.Value.x2 m c r k * (dout m c r k * FG m c k)) * drs m c r) ww := by
  pointwise [val_main_v94, val_main_v93, val_main_v92, val_main_v91, val_main_v90, val_main_v89, val_main_v86, val_main_v85, val_main_v84, val_main_cst_20, val_main_cst_21, val_main_cst_22]
  simp only [v46 s, v82 s, v57 s]
theorem v145 (f : Finite m c) (j : Fin 8) (l : Fin 128) : val_main_v145 (F := Ideal) x0 x1 x2 x3 x4 x5 x6 x7 x8 x9 (ix2 j l) = ∑ r, miss m c r := by
  refine Eq.trans ?_ (Cert.Reals.loss _ (miss_real f))
  pointwise [val_main_v145, val_main_v144, val_main_v71, val_main_v70, val_main_v69, val_main_v68, val_main_cst_12, val_main_cst_13, val_main_cst_14, val_main_cst_27]
  rw [Fintype.sum_unique]
  exact congrArg (fun t => _ * (_ * t)) (Finset.sum_congr rfl fun k _ => congrArg (Ideal.div · ww) (v67 s k))
variable (f : Finite m c)
include f
theorem v98 (l : Fin 1024) : val_main_v98 (F := Ideal) x0 x1 x2 x3 x4 x5 x6 x7 x8 x9 (ix3 (0 : Fin 1) r l) = dx2 m c r l := by
  have hb := Cert.Norm.back (Cert.MergeKernelIdeal.Value.x2 m c r) (fun k => dout m c r k * FG m c k) (x2_real f r)
    (fun k => Cert.Reals.mul (dout_real f r k) (f.fg k)) 0 l
  simp only [zero_add] at hb
  refine Eq.trans ?_ hb.symm
  pointwise [val_main_v98, val_main_v97, val_main_v96, val_main_v95, val_main_v88, val_main_v87]
  rw [v46 s, v54 s, v82 s, v94 s]
  rfl
theorem v100 (l : Fin 1024) : val_main_v100 (F := Ideal) x0 x1 x2 x3 x4 x5 x6 x7 x8 x9 (ix3 (0 : Fin 1) r l) = du m c r l := by
  unfold du
  pointwise [val_main_v100, val_main_v99, val_main_v40]
  rw [s.h4, v98 s r f, mul_comm]
theorem v106 (l : Fin 1024) : val_main_v106 (F := Ideal) x0 x1 x2 x3 x4 x5 x6 x7 x8 x9 (ix2 (0 : Fin 1) l) = ∑ r, term m c 0 r l := by
  unfold term
  pointwise [val_main_v106, val_main_v105, val_main_v103, val_main_v102, val_main_v101, val_main_cst_23, val_main_cst_24]
  simp only [v98 s _ f, v43 s]
theorem v104 (l : Fin 1024) : val_main_v104 (F := Ideal) x0 x1 x2 x3 x4 x5 x6 x7 x8 x9 (ix3 (0 : Fin 1) r l) = dy m c r l := by
  unfold dy
  pointwise [val_main_v104]
  simp only [v100 s r f, v41 s]
theorem v107 (l : Fin 1024) : val_main_v107 (F := Ideal) x0 x1 x2 x3 x4 x5 x6 x7 x8 x9 (ix3 (0 : Fin 1) r l) = dyb m c r l := by
  unfold dyb
  pointwise [val_main_v107]
  rw [v34 s, v104 s r f, mul_comm]
theorem v110 (l : Fin 1024) : val_main_v110 (F := Ideal) x0 x1 x2 x3 x4 x5 x6 x7 x8 x9 (ix3 (0 : Fin 1) r l) = dya m c r l := by
  unfold dya
  pointwise [val_main_v110]
  rw [v24 s, v104 s r f, mul_comm]
theorem v109 (l : Fin 1024) : val_main_v109 (F := Ideal) x0 x1 x2 x3 x4 x5 x6 x7 x8 x9 (ix3 (0 : Fin 1) r l) = dgb m c r l := by
  pointwise [val_main_v109, val_main_v108]
  unfold dgb
  rw [v104 s r f, v18 s, v37 s, mul_assoc _ (sb m c r l)]
theorem v112 (l : Fin 1024) : val_main_v112 (F := Ideal) x0 x1 x2 x3 x4 x5 x6 x7 x8 x9 (ix3 (0 : Fin 1) r l) = dga m c r l := by
  pointwise [val_main_v112, val_main_v111]
  unfold dga
  rw [v104 s r f, v15 s, v27 s, mul_assoc _ (sa m c r l)]
theorem v113 (l : Fin 1024) : val_main_v113 (F := Ideal) x0 x1 x2 x3 x4 x5 x6 x7 x8 x9 (ix3 (0 : Fin 1) r l) = dob m c r l := by
  unfold dob
  pointwise [val_main_v113]
  simp only [v107 s r f, v16 s]
theorem v114 (l : Fin 512) : val_main_v114 (F := Ideal) x0 x1 x2 x3 x4 x5 x6 x7 x8 x9 (ix3 (0 : Fin 1) r l) = doa m c r l := by
  unfold doa
  pointwise [val_main_v114]
  simp only [v110 s r f, v13 s]
theorem v115 (l : Fin 512) : val_main_v115 (F := Ideal) x0 x1 x2 x3 x4 x5 x6 x7 x8 x9 (ix3 (0 : Fin 1) r l) = doa m c r l * OA m c r l := by
  pointwise [val_main_v115]
  rw [s.h0, v114 s r f, mul_comm]
theorem v116 (l : Fin 512) : val_main_v116 (F := Ideal) x0 x1 x2 x3 x4 x5 x6 x7 x8 x9 (ix3 (0 : Fin 1) r l) = dat m c r l := by
  unfold dat
  pointwise [val_main_v116]
  rw [v114 s r f, v11_0 s]
theorem v117 (l : Fin 512) : val_main_v117 (F := Ideal) x0 x1 x2 x3 x4 x5 x6 x7 x8 x9 (ix3 (0 : Fin 1) r l) = dza m c r l := by
  pointwise [val_main_v117, val_main_call1_v2, val_main_call1_v1, val_main_call1_v0]
  rw [v115 s r f, v11_2 s, v11_1 s, v3 s]
  exact Cert.Reals.swish (Cert.Reals.mul (doa_real f r l) (f.oa r l)) (f.pz r l) (Cert.Reals.th_real _)
theorem v118 (l : Fin 512) : val_main_v118 (F := Ideal) x0 x1 x2 x3 x4 x5 x6 x7 x8 x9 (ix3 (0 : Fin 1) r l) = dat m c r l * OA m c r l := by
  pointwise [val_main_v118]
  rw [v116 s r f, s.h0]
theorem v123 (l : Fin 512) : val_main_v123 (F := Ideal) x0 x1 x2 x3 x4 x5 x6 x7 x8 x9 (ix3 (0 : Fin 1) r l) = dsum m c r l := by
  rw [dsum_eq f]
  refine (val_main_v123_apply _ _ _ _ _ _ _ _ _ _ _).trans ?_
  have hr := r.isLt
  have hl := l.isLt
  have e : idx_main_v123 (ix3 (0 : Fin 1) r l) = ix4 (0 : Fin 1) r (⟨l.val / 64, by omega⟩ : Fin 8) (⟨l.val % 64, by omega⟩ : Fin 64) :=
    funext fun a => Fin.ext (match a with
      | ⟨0, _⟩ => rfl
      | ⟨1, _⟩ => by show ((0 * 8192 + r.val) * 512 + l.val) / 512 % 8192 = r.val; omega
      | ⟨2, _⟩ => by show ((0 * 8192 + r.val) * 512 + l.val) / 64 % 8 = l.val / 64; omega
      | ⟨3, _⟩ => by show ((0 * 8192 + r.val) * 512 + l.val) % 64 = l.val % 64; omega)
  rw [e]
  pointwise [val_main_v122, val_main_v121, val_main_v120, val_main_cst_25]
  refine Finset.sum_congr rfl fun j _ => ?_
  have hj := j.isLt
  refine (val_main_v119_apply _ _ _ _ _ _ _ _ _ _ _).trans (Eq.trans (congrArg _ ?_) (v118 s r f ⟨l.val / 64 * 64 + j.val, by omega⟩))
  exact funext fun a => Fin.ext (match a with
      | ⟨0, _⟩ => rfl
      | ⟨1, _⟩ => by show (((0 * 8192 + r.val) * 8 + l.val / 64) * 64 + j.val) / 512 % 8192 = r.val; omega
      | ⟨2, _⟩ => by show (((0 * 8192 + r.val) * 8 + l.val / 64) * 64 + j.val) % 512 = l.val / 64 * 64 + j.val; omega)
theorem v133 (l : Fin 2048) : val_main_v133 (F := Ideal) x0 x1 x2 x3 x4 x5 x6 x7 x8 x9 (ix3 (0 : Fin 1) r l) = dg m c r l := by
  unfold dg
  pointwise [val_main_v133]
  by_cases h : l.val < 1024
  · simp only [h, reduceDIte, v112 s r f]
  · simp only [h, reduceDIte, v109 s r f]
theorem v143 (j : Fin 8) (l : Fin 1024) : val_main_v143 (F := Ideal) x0 x1 x2 x3 x4 x5 x6 x7 x8 x9 (ix2 j l) = ∑ r, term m c j r l := by
  fin_cases j
  · refine Eq.trans ?_ (v106 s f l)
    pointwise [val_main_v143]
  · refine Eq.trans ?_ (v83 s l)
    pointwise [val_main_v143, val_main_v141]
  all_goals
    pointwise [val_main_v143, val_main_v142, val_main_cst_26]
    exact (Finset.sum_eq_zero fun r _ => rfl).symm
end Cert.MergeReferenceIdeal.Ref
end
-- ==== Proof.MergeEq.lean ====
module

public import proofs.«01_k».proof.Defs
public import proofs.«01_k».proof.Proof.Gen.Pre_merge_finite
public import proofs.«01_k».proof.Proof.MergeArrays
public import proofs.«01_k».proof.Proof.MergeRef

@[expose] public section

set_option maxRecDepth 16384

/-! The merge kernel's twelve arrays are the reference's, on finite arguments. -/

noncomputable section

namespace Cert.MergeReferenceIdeal.Ref

open Cert.MergeReferenceIdeal Cert.MergeReferenceIdeal.Read Idealize.ShloMosaic Idealize.ShloMosaic.TcCoe Idealize.SL.Sem
open Cert.MergeKernelIdeal.Host Cert.MergeKernelIdeal.Value

variable {m : (ℓ : Loc Cert.MergeKernelIdeal.nD Cert.MergeKernelIdeal.τ Cert.MergeKernelIdeal.sig) → Buf (Elt Ideal) ℓ} {c : Dev Cert.MergeKernelIdeal.nD}

/-- The arguments whose finiteness is asked for are real everywhere. -/
theorem reals (h : Cert.Pre_MergeKernelIdeal_merge_finite (hPre_merge_finite := Cert.Pre_merge_finite.Gen.facts) m) : Finite m c := by
  have : Subsingleton Cert.Pre_merge_finite.S_.Idx := ⟨fun a b => funext fun i => i.elim0⟩
  have e := congrFun (h c) (fun i => i.elim0)
  unfold Cert.Pre_merge_finite.fn Cert.Pre_merge_finite.fn_part1 Cert.Pre_merge_finite.fn_part2 at e
  dsimp only at e
  obtain ⟨e, h9⟩ := Cert.Finite.both _ _ _ e
  obtain ⟨e, h8⟩ := Cert.Finite.both _ _ _ e
  obtain ⟨e, h7⟩ := Cert.Finite.both _ _ _ e
  obtain ⟨e, h6⟩ := Cert.Finite.both _ _ _ e
  obtain ⟨e, h5⟩ := Cert.Finite.both _ _ _ e
  obtain ⟨e, h4⟩ := Cert.Finite.both _ _ _ e
  obtain ⟨e, h3⟩ := Cert.Finite.both _ _ _ e
  obtain ⟨e, h2⟩ := Cert.Finite.both _ _ _ e
  obtain ⟨h0, h1⟩ := Cert.Finite.both _ _ _ e
  refine ⟨fun r l => Cert.Finite.real_of_all _ _ _ _ _ _ _ h0 _, fun r l => Cert.Finite.real_of_all _ _ _ _ _ _ _ h1 _, fun r l => ?_,
    fun r l => Cert.Finite.real_of_all _ _ _ _ _ _ _ h3 _, fun l => Cert.Finite.real_of_all _ _ _ _ _ _ _ h4 _,
    fun l => Cert.Finite.real_of_all _ _ _ _ _ _ _ h5 _, fun r l => Cert.Finite.real_of_all _ _ _ _ _ _ _ h6 _,
    fun r l => Cert.Finite.real_of_all _ _ _ _ _ _ _ h7 _, fun r l => Cert.Finite.real_of_all _ _ _ _ _ _ _ h8 _,
    fun r l => Cert.Finite.real_of_all _ _ _ _ _ _ _ h9 _⟩
  obtain ⟨a, ha⟩ := Cert.Finite.real_of_all _ _ _ _ _ _ _ h2 (ix3 (0 : Fin 1) r l)
  refine ⟨a, Eq.trans ?_ ha⟩
  symm
  pointwise
  rfl

variable {x0 : Vec Ideal S1x8192x512 .f32} {x1 : Vec Ideal S1x8192x1024 .f32} {x2 : Vec Ideal S1x8192x8192 .f32} {x3 : Vec Ideal S1x8192x1024 .f32}
  {x4 : Vec Ideal S1x1024 .f32} {x5 : Vec Ideal S1024 .f32} {x6 : Vec Ideal S1x512x1024 .f32} {x7 x8 : Vec Ideal S1x1024x1024 .f32} {x9 : Vec Ideal S1x8192x1024 .f32}
variable (s : Same m c x0 x1 x2 x3 x4 x5 x6 x7 x8 x9)
include s

theorem v125 : val_main_v125 (F := Ideal) x0 x1 x2 x6 x7 = arr (y m c) := by
  funext i
  obtain ⟨r, l, rfl⟩ := Cert.Arrays.exists_pair (a := 8192) (b := 1024) i
  exact (Cert.Arrays.drop_lead _ _ r l).trans (v39 s r l)
theorem v126 (f : Finite m c) : val_main_v126 (F := Ideal) x0 x1 x2 x3 x4 x5 x6 x7 x8 x9 = arr (dx2 m c) := by
  funext i
  obtain ⟨r, l, rfl⟩ := Cert.Arrays.exists_pair (a := 8192) (b := 1024) i
  exact (Cert.Arrays.drop_lead _ _ r l).trans (v98 s r f l)
theorem v128 (f : Finite m c) : val_main_v128 (F := Ideal) x0 x1 x2 x3 x4 x5 x6 x7 x8 x9 = arr (du m c) := by
  funext i
  obtain ⟨r, l, rfl⟩ := Cert.Arrays.exists_pair (a := 8192) (b := 1024) i
  exact (Cert.Arrays.drop_lead _ _ r l).trans (v100 s r f l)
theorem v130 (f : Finite m c) : val_main_v130 (F := Ideal) x0 x1 x2 x3 x4 x5 x6 x7 x8 x9 = arr (dya m c) := by
  funext i
  obtain ⟨r, l, rfl⟩ := Cert.Arrays.exists_pair (a := 8192) (b := 1024) i
  exact (Cert.Arrays.drop_lead _ _ r l).trans (v110 s r f l)
theorem v132 (f : Finite m c) : val_main_v132 (F := Ideal) x0 x1 x2 x3 x4 x5 x6 x7 x8 x9 = arr (dyb m c) := by
  funext i
  obtain ⟨r, l, rfl⟩ := Cert.Arrays.exists_pair (a := 8192) (b := 1024) i
  exact (Cert.Arrays.drop_lead _ _ r l).trans (v107 s r f l)
theorem v135 (f : Finite m c) : val_main_v135 (F := Ideal) x0 x1 x2 x3 x4 x5 x6 x7 x8 x9 = arr (dg m c) := by
  funext i
  obtain ⟨r, l, rfl⟩ := Cert.Arrays.exists_pair (a := 8192) (b := 2048) i
  exact (Cert.Arrays.drop_lead _ _ r l).trans (v133 s r f l)
theorem v136 (f : Finite m c) : val_main_v136 (F := Ideal) x0 x1 x2 x3 x4 x5 x6 x7 x8 x9 = arr (dat m c) := by
  funext i
  obtain ⟨r, l, rfl⟩ := Cert.Arrays.exists_pair (a := 8192) (b := 512) i
  exact (Cert.Arrays.drop_lead _ _ r l).trans (v116 s r f l)
theorem v137 (f : Finite m c) : val_main_v137 (F := Ideal) x0 x1 x2 x3 x4 x5 x6 x7 x8 x9 = arr (dsum m c) := by
  funext i
  obtain ⟨r, l, rfl⟩ := Cert.Arrays.exists_pair (a := 8192) (b := 512) i
  exact (Cert.Arrays.drop_lead _ _ r l).trans (v123 s r f l)
theorem v139 (f : Finite m c) : val_main_v139 (F := Ideal) x0 x1 x2 x3 x4 x5 x6 x7 x8 x9 = arr (dza m c) := by
  funext i
  obtain ⟨r, l, rfl⟩ := Cert.Arrays.exists_pair (a := 8192) (b := 512) i
  exact (Cert.Arrays.drop_lead _ _ r l).trans (v117 s r f l)
theorem v140 (f : Finite m c) : val_main_v140 (F := Ideal) x0 x1 x2 x3 x4 x5 x6 x7 x8 x9 = arr (dob m c) := by
  funext i
  obtain ⟨r, l, rfl⟩ := Cert.Arrays.exists_pair (a := 8192) (b := 1024) i
  exact (Cert.Arrays.drop_lead _ _ r l).trans (v113 s r f l)
theorem v143_arr (f : Finite m c) : val_main_v143 (F := Ideal) x0 x1 x2 x3 x4 x5 x6 x7 x8 x9 = arr (rowsum m c) := by
  funext i
  obtain ⟨j, l, rfl⟩ := Cert.Arrays.exists_pair (a := 8) (b := 1024) i
  exact v143 s f j l
theorem v145_arr (f : Finite m c) : val_main_v145 (F := Ideal) x0 x1 x2 x3 x4 x5 x6 x7 x8 x9 = arr (total m c) := by
  funext i
  obtain ⟨j, l, rfl⟩ := Cert.Arrays.exists_pair (a := 8) (b := 128) i
  exact v145 s f j l

end Cert.MergeReferenceIdeal.Ref
end
-- ==== Proof.HgrnBlock.lean ====
module

public import proofs.«01_k».proof.Proof.Gen.HgrnFwdIdeal.Value
public import Idealize.ShloMosaic.Lib.Pipeline.Value
public import Idealize.ShloMosaic.Lib.WritesUnit
public import Idealize.ShloMosaic.Lib.Pipeline.ReadBack
public import Idealize.ShloMosaic.Lib.Pointwise

@[expose] public section

set_option maxRecDepth 16384

noncomputable section

/-! One block of the recurrence's forward kernel: eight chunks of 64 rows, each over eight heads, as one function of the
chunk and the head. -/

namespace Cert.HgrnFwdIdeal.Block

open Cert.HgrnFwdIdeal Cert.HgrnFwdIdeal.Gen Idealize.ShloMosaic Idealize.ShloMosaic.TcCoe Idealize.SL.Sem

variable {F : FTy → Type} [FloatOps F]

theorem inb (n h : Fin 8) : ∀ a, (![64 * n.val, 128 * h.val] : Fin 2 → ℕ) a + S64x128.size a ≤ S512x1024.size a := fun a => by
  fin_cases a
  · show 64 * n.val + 64 ≤ 512
    omega
  · show 128 * h.val + 128 ≤ 1024
    omega

theorem inbState (h : Fin 8) : ∀ a, (![128 * h.val, 0] : Fin 2 → ℕ) a + S128x128.size a ≤ S1024x128.size a := fun a => by
  fin_cases a
  · show 128 * h.val + 128 ≤ 1024
    omega
  · exact Nat.le_refl _

theorem inbGain (h : Fin 8) : ∀ a, (![0, 128 * h.val] : Fin 2 → ℕ) a + S1x128.size a ≤ S1x1024.size a := fun a => by
  fin_cases a
  · exact Nat.le_refl _
  · show 128 * h.val + 128 ≤ 1024
    omega

theorem inbChunk (n : Fin 8) : ∀ a, (![n.val, 0, 0] : Fin 3 → ℕ) a + (![1, 1024, 128] : Fin 3 → ℕ) a ≤ S8x1024x128.size a := fun a => by
  fin_cases a
  · show n.val + 1 ≤ 8
    omega
  · exact Nat.le_refl _
  · exact Nat.le_refl _

theorem cutRow (h : Fin 8) : S1x1024.Slices ![0, 128 * h.val] S1x128 := by revert h; decide

theorem cutCols (h : Fin 8) : S64x1024.Slices ![0, 128 * h.val] S64x128 := by revert h; decide

/-- What one point loads of its six blocks: of each chunk and head, the queries, the decay inputs, the values and the
gates; the lower bounds; of each head, the gain. -/
structure In (F : FTy → Type) [FloatOps F] where
  q : Fin 8 → Fin 8 → Vec F S64x128 .f32
  f : Fin 8 → Fin 8 → Vec F S64x128 .f32
  v : Fin 8 → Fin 8 → Vec F S64x128 .f32
  z : Fin 8 → Fin 8 → Vec F S64x128 .f32
  lb : Vec F S1x1024 .f32
  gn : Fin 8 → Vec F S1x128 .f32

def rows (x : Vec F S64x128 .f32) : FVec F S64x128 .f32 := shapeCast S64x128 x shapeCasts_S64x128_S64x128

/-- The sigmoid, by the hyperbolic tangent. -/
def sg (x : FVec F S64x128 .f32) : FVec F S64x128 .f32 :=
  addf (mulf (broadcast S64x128 (Scalar.ofBits .f32 0x3F000000#32)) (tanh (mulf (broadcast S64x128 (Scalar.ofBits .f32 0x3F000000#32)) x)))
    (broadcast S64x128 (Scalar.ofBits .f32 0x3F000000#32))

variable (b : In F)

/-- A head's lower bounds. -/
def low (h : Fin 8) : FVec F S1x128 .f32 :=
  extractStridedSlice S1x128 ![0, 128 * h.val] (shapeCast S1x1024 b.lb shapeCasts_S1x1024_S1x1024 : FVec F S1x1024 .f32) (cutRow h)

/-- A chunk's decay factors of a head. -/
def fac (n h : Fin 8) : FVec F S64x128 .f32 :=
  addf (broadcastTo S64x128 (low b h) broadcasts_S1x128_S64x128)
    (mulf (broadcastTo S64x128 (subf (broadcast S1x128 (Scalar.ofBits .f32 0x3F800000#32)) (low b h)) broadcasts_S1x128_S64x128)
      (sg (rows (b.f n h))))

def key (n h : Fin 8) : FVec F S64x128 .f32 := subf (broadcast S64x128 (Scalar.ofBits .f32 0x3F800000#32)) (fac b n h)

def que (n h : Fin 8) : FVec F S64x128 .f32 := mulf (rows (b.q n h)) (sg (rows (b.q n h)))

def lg (n h : Fin 8) : FVec F S64x128 .f32 := log (fac b n h)

/-- The logarithms of the decay factors, the heads side by side. -/
def lgs (n : Fin 8) : FVec F S64x1024 .f32 :=
  concatenate S64x1024 1 [⟨S64x128, lg b n 0⟩, ⟨S64x128, lg b n 1⟩, ⟨S64x128, lg b n 2⟩, ⟨S64x128, lg b n 3⟩,
    ⟨S64x128, lg b n 4⟩, ⟨S64x128, lg b n 5⟩, ⟨S64x128, lg b n 6⟩, ⟨S64x128, lg b n 7⟩]
    concatenates_S64x128_S64x128_S64x128_S64x128_S64x128_S64x128_S64x128_S64x128_S64x1024_d1

def hi (n : Fin 8) : FVec F S64x1024 .bf16 := truncf .bf16 (lgs b n) bitsLt_bf16_f32

def lo (n : Fin 8) : FVec F S64x1024 .bf16 := truncf .bf16 (subf (lgs b n) (extf .f32 (hi b n) bitsLt_bf16_f32)) bitsLt_bf16_f32

/-- The sums of the logarithms down a chunk. -/
def cum (n : Fin 8) : FVec F S64x1024 .f32 :=
  addf (matmul dot_S64x64_S64x1024_S64x1024_1_0_0_1_n_n none k0_pay4 (hi b n) (constant S64x1024 .f32 0x00000000#32))
    (matmul dot_S64x64_S64x1024_S64x1024_1_0_0_1_n_n none k0_pay4 (lo b n) (constant S64x1024 .f32 0x00000000#32))

def last (n : Fin 8) : FVec F S1x1024 .f32 := extractStridedSlice S1x1024 ![63, 0] (cum b n) slices_S64x1024_o63_0_S1x1024

def mid (n : Fin 8) : FVec F S1x1024 .f32 := extractStridedSlice S1x1024 ![31, 0] (cum b n) slices_S64x1024_o31_0_S1x1024

/-- A head's part of a row of the sums, down the chunk's rows. -/
def spread (h : Fin 8) (x : FVec F S1x1024 .f32) : FVec F S64x128 .f32 :=
  broadcastTo S64x128 (extractStridedSlice S1x128 ![0, 128 * h.val] x (cutRow h)) broadcasts_S1x128_S64x128

def dif (n h : Fin 8) : FVec F S64x128 .f32 :=
  subf (extractStridedSlice S64x128 ![0, 128 * h.val] (cum b n) (cutCols h)) (spread h (mid b n))

def qs (n h : Fin 8) : FVec F S64x128 .f32 := mulf (que b n h) (exp (dif b n h))

def ks (n h : Fin 8) : FVec F S64x128 .f32 :=
  mulf (key b n h) (exp (subf (broadcast S64x128 (Scalar.ofBits .f32 0x00000000#32)) (dif b n h)))

def qe (n h : Fin 8) : FVec F S64x128 .f32 := mulf (qs b n h) (spread h (exp (mid b n)))

def kd (n h : Fin 8) : FVec F S64x128 .f32 := mulf (ks b n h) (spread h (exp (subf (last b n) (mid b n))))

def vb (n h : Fin 8) : FVec F S64x128 .bf16 := truncf .bf16 (rows (b.v n h)) bitsLt_bf16_f32

/-- The products of a chunk's queries and keys, those of later keys left out. -/
def att (n h : Fin 8) : FVec F S64x64 .bf16 :=
  truncf .bf16 (select k0_pay3 (matmul dot_S64x128_S64x128_S64x64_1_1_0_0_n_n none (truncf .bf16 (qs b n h) bitsLt_bf16_f32)
    (truncf .bf16 (ks b n h) bitsLt_bf16_f32) (constant S64x64 .f32 0x00000000#32))
    (broadcast S64x64 (Scalar.ofBits .f32 0x00000000#32))) bitsLt_bf16_f32

/-- A chunk's result of a head, from the state before the chunk. -/
def res (n h : Fin 8) (s : Vec F S128x128 .f32) : FVec F S64x128 .f32 :=
  addf (matmul dot_S64x128_S128x128_S64x128_1_1_0_0_n_n none (truncf .bf16 (qe b n h) bitsLt_bf16_f32)
      (truncf .bf16 (s : FVec F S128x128 .f32) bitsLt_bf16_f32) (constant S64x128 .f32 0x00000000#32))
    (matmul dot_S64x64_S64x128_S64x128_1_0_0_1_n_n none (att b n h) (vb b n h) (constant S64x128 .f32 0x00000000#32))

/-- The state after a chunk. -/
def next (n h : Fin 8) (s : Vec F S128x128 .f32) : FVec F S128x128 .f32 :=
  shapeCast S128x128 (addf (mulf (s : FVec F S128x128 .f32)
      (broadcastTo S128x128 (extractStridedSlice S1x128 ![0, 128 * h.val] (exp (last b n)) (cutRow h)) broadcasts_S1x128_S128x128))
    (matmul dot_S64x128_S64x128_S128x128_0_0_1_1_n_n none (vb b n h) (truncf .bf16 (kd b n h) bitsLt_bf16_f32)
      (constant S128x128 .f32 0x00000000#32)) : FVec F S128x128 .f32) shapeCasts_S128x128_S128x128

/-- A result scaled by its root mean square, gained and gated. -/
def gated (n h : Fin 8) (o : FVec F S64x128 .f32) : FVec F S64x128 .bf16 :=
  truncf .bf16 (mulf (mulf (mulf o (broadcastTo S64x128 (rsqrt (addf (divf (shapeCast S64x1
      (multiReduction .add [1] S64 (mulf o o) 0x00000000#32 reduces_S64x128_S64 (.inl rfl) rfl) shapeCasts_S64_S64x1)
      (broadcast S64x1 (Scalar.ofBits .f32 0x43000000#32))) (broadcast S64x1 (Scalar.ofBits .f32 0x358637BD#32))))
      broadcasts_S64x1_S64x128)) (broadcastTo S64x128 (b.gn h : FVec F S1x128 .f32) broadcasts_S1x128_S64x128))
    (mulf (rows (b.z n h)) (sg (rows (b.z n h))))) bitsLt_bf16_f32

/-! The pieces the body stores, the last first. -/

/-- The head's part of the carried state. -/
abbrev stateRect (h : Fin 8) : Rect S1024x128 := Rect.unit ![128 * h.val, 0] S128x128.size (inbState h)

abbrev cell (n h : Fin 8) : Rect S512x1024 := Rect.unit ![64 * n.val, 128 * h.val] S64x128.size (inb n h)

abbrev whole : Rect S1024x128 := Rect.unit ![0, 0] S1024x128.size (fun a => by fin_cases a <;> exact Nat.le_refl _)

/-- The new states of the heads, stored one after the other. -/
abbrev stores (n : Fin 8) (s : Fin 8 → Vec F S128x128 .f32) : List (View.Piece (Elt F) S1024x128 .f32) :=
  View.tilePieces S128x128.size (fun h : Fin 8 => ![128 * h.val, 0]) inbState (fun h => next b n h (s h)) 8 (Nat.le_refl _)

variable (sc : View sig .tc .vmem S1024x128 .f32) (L0 : List (View.Piece (Elt F) S1024x128 .f32)) (s0 : Fin 8 → Vec F S128x128 .f32)

/-- The pieces of the carried state stored before a chunk, over the ones stored before the block, and each head's state as
it is loaded then. -/
def stored : (n : ℕ) → n ≤ 8 → List (View.Piece (Elt F) S1024x128 .f32) × (Fin 8 → Vec F S128x128 .f32)
  | 0, _ => (L0, s0)
  | n + 1, hn =>
    (stores b ⟨n, hn⟩ (stored n (Nat.le_of_succ_le hn)).2 ++ (stored n (Nat.le_of_succ_le hn)).1,
      fun h => sc.readCov (stores b ⟨n, hn⟩ (stored n (Nat.le_of_succ_le hn)).2 ++ (stored n (Nat.le_of_succ_le hn)).1)
        (stateRect h).toLoadRect)

/-- The whole carried state as it is loaded before a chunk. -/
def before (w : Vec F S1024x128 .f32) : (n : ℕ) → n ≤ 8 → Vec F S1024x128 .f32
  | 0, _ => w
  | n + 1, hn => sc.readCov (stored b sc L0 s0 (n + 1) hn).1 whole.toLoadRect

/-- The pieces of the results stored before a chunk. -/
def results {e : EltTy} (o : (n h : Fin 8) → S64x128.Idx → Elt F e) : (n : ℕ) → n ≤ 8 → List (View.Piece (Elt F) S512x1024 e)
  | 0, _ => []
  | n + 1, hn =>
    View.tilePieces (s := S512x1024) S64x128.size (fun h : Fin 8 => ![64 * n, 128 * h.val]) (inb ⟨n, hn⟩) (fun h => o ⟨n, hn⟩ h) 8 (Nat.le_refl _)
      ++ results o n (Nat.le_of_succ_le hn)

/-- The pieces of the states stored, one of each chunk. -/
def snaps (w : Fin 8 → Vec F S1024x128 .f32) : List (View.Piece (Elt F) S8x1024x128 .f32) :=
  View.tilePieces (![1, 1024, 128] : Fin 3 → ℕ) (fun n : Fin 8 => ![n.val, 0, 0]) inbChunk
    (fun n => shapeCast S1x1024x128 (w n : FVec F S1024x128 .f32) shapeCasts_S1024x128_S1x1024x128) 8 (Nat.le_refl _)

/-! What the pieces leave. -/

/-- A head's state before a chunk. -/
def state : (n : ℕ) → n ≤ 8 → Fin 8 → Vec F S128x128 .f32
  | 0, _ => s0
  | n + 1, hn => fun h => next b ⟨n, hn⟩ h (state n (Nat.le_of_succ_le hn) h)

theorem read_stores {κ : Kind} {sp : Space} {sg' : RefSig} (v : View sg' κ sp S1024x128 .f32) (f : v.ty.Contents (Elt F)) (n : Fin 8)
    (s : Fin 8 → Vec F S128x128 .f32) (h : Fin 8) (x : S128x128.Idx) (y : S1024x128.Idx)
    (hx : ∀ a : Fin 2, (y a).val = (![128 * h.val, 0] : Fin 2 → ℕ) a + (x a).val) :
    v.read (Elt F) (v.writes (Elt F) f (stores b n s)) y = next b n h (s h) x :=
  View.read_tilePieces v f S128x128.size _ inbState _ 8 (Nat.le_refl _) y h h.isLt x hx (0 : Fin 2) fun h' hh => by
    have h0 := hx 0
    have h1 : (x 0).val < 128 := (x 0).isLt
    have h2 : (h' : ℕ) ≠ h := fun e => hh (Fin.ext e)
    show (y 0).val < 128 * h'.val ∨ 128 * h'.val + 128 ≤ (y 0).val
    change (y 0).val = 128 * h.val + (x 0).val at h0
    omega

theorem stored_state (n : ℕ) (hn : n ≤ 8) : (stored b sc L0 s0 n hn).2 = state b s0 n hn := by
  induction n with
  | zero => rfl
  | succ n ih =>
    funext h x
    show sc.readCov (stores b ⟨n, hn⟩ _ ++ _) (stateRect h).toLoadRect x = next b ⟨n, hn⟩ h _ x
    rw [View.readCov_eq_canon', ← View.read_writes_junk_eq_canon sc, View.writes_append, ← ih (Nat.le_of_succ_le hn)]
    refine read_stores b sc _ ⟨n, hn⟩ _ h x _ fun a => ?_
    show (![128 * h.val, 0] : Fin 2 → ℕ) a + 1 * (x a).val = _
    rw [Nat.one_mul]

theorem read_stored {κ : Kind} {sp : Space} {sg' : RefSig} (v : View sg' κ sp S1024x128 .f32) (f : v.ty.Contents (Elt F)) (n : ℕ) (hn : n + 1 ≤ 8)
    (h : Fin 8) (x : S128x128.Idx) (y : S1024x128.Idx) (hx : ∀ a : Fin 2, (y a).val = (![128 * h.val, 0] : Fin 2 → ℕ) a + (x a).val) :
    v.read (Elt F) (v.writes (Elt F) f (stored b sc L0 s0 (n + 1) hn).1) y = state b s0 (n + 1) hn h x := by
  show v.read (Elt F) (v.writes (Elt F) f (_ ++ _)) y = next b ⟨n, hn⟩ h _ x
  rw [View.writes_append, stored_state]
  exact read_stores b v _ ⟨n, hn⟩ _ h x y hx

theorem before_state (w : Vec F S1024x128 .f32) (hw : ∀ (h : Fin 8) (x : S128x128.Idx) (y : S1024x128.Idx),
      (∀ a : Fin 2, (y a).val = (![128 * h.val, 0] : Fin 2 → ℕ) a + (x a).val) → w y = s0 h x)
    (n : ℕ) (hn : n ≤ 8) (h : Fin 8) (x : S128x128.Idx) (y : S1024x128.Idx)
    (hx : ∀ a : Fin 2, (y a).val = (![128 * h.val, 0] : Fin 2 → ℕ) a + (x a).val) :
    before b sc L0 s0 w n hn y = state b s0 n hn h x := by
  cases n with
  | zero => exact hw h x y hx
  | succ n =>
    show sc.readCov _ whole.toLoadRect y = _
    rw [View.readCov_eq_canon', ← View.read_writes_junk_eq_canon sc]
    refine read_stored b sc L0 s0 sc _ n hn h x _ fun a => ?_
    rw [← hx a]
    show (![0, 0] : Fin 2 → ℕ) a + 1 * (y a).val = _
    fin_cases a <;> simp

theorem read_results {κ : Kind} {sp : Space} {sg' : RefSig} {e : EltTy} (v : View sg' κ sp S512x1024 e) (f : v.ty.Contents (Elt F))
    (o : (n h : Fin 8) → S64x128.Idx → Elt F e) (n : Fin 8) (k : ℕ) (hk : k ≤ 8) (h : Fin 8) (x : S64x128.Idx) (y : S512x1024.Idx)
    (hx : ∀ a : Fin 2, (y a).val = (![64 * n.val, 128 * h.val] : Fin 2 → ℕ) a + (x a).val) (hlt : n.val < k) :
    v.read (Elt F) (v.writes (Elt F) f (results o k hk)) y = o n h x := by
  have h0 := hx 0
  have h1 := hx 1
  have h2 : (x 0).val < 64 := (x 0).isLt
  have h3 : (x 1).val < 128 := (x 1).isLt
  change (y 0).val = 64 * n.val + (x 0).val at h0
  change (y 1).val = 128 * h.val + (x 1).val at h1
  induction k with
  | zero => exact absurd hlt (Nat.not_lt_zero _)
  | succ k ih =>
    rw [results, View.writes_append]
    by_cases he : n.val = k
    · obtain rfl : n = ⟨k, hk⟩ := Fin.ext he
      refine View.read_tilePieces v _ S64x128.size _ (inb ⟨k, hk⟩) (fun h => o ⟨k, hk⟩ h) 8 (Nat.le_refl _) y h h.isLt x hx (1 : Fin 2) fun h' hh => ?_
      have h4 : (h' : ℕ) ≠ h := fun e => hh (Fin.ext e)
      show (y 1).val < 128 * h'.val ∨ 128 * h'.val + 128 ≤ (y 1).val
      omega
    · rw [View.read_tilePieces_miss v _ S64x128.size _ (inb ⟨k, hk⟩) _ 8 (Nat.le_refl _) y (0 : Fin 2) fun h' _ => ?_]
      · exact ih (Nat.le_of_succ_le hk) (by omega)
      · show (y 0).val < 64 * k ∨ 64 * k + 64 ≤ (y 0).val
        omega

theorem read_snaps {κ : Kind} {sp : Space} {sg' : RefSig} (v : View sg' κ sp S8x1024x128 .f32) (f : v.ty.Contents (Elt F))
    (w : Fin 8 → Vec F S1024x128 .f32) (n : Fin 8) (r : Fin 1024) (l : Fin 128) :
    v.read (Elt F) (v.writes (Elt F) f (snaps w)) (ix3 n r l) = w n (ix2 r l) := by
  unfold snaps
  rw [View.read_tilePieces v f (![1, 1024, 128] : Fin 3 → ℕ) _ inbChunk _ 8 (Nat.le_refl _) (ix3 n r l) n n.isLt
    (ix3 (0 : Fin 1) r l) (fun a => by fin_cases a <;> simp) (0 : Fin 3) (fun n' hh => by
      have h2 : (n' : ℕ) ≠ n := fun e => hh (Fin.ext e)
      show n.val < n'.val ∨ n'.val + 1 ≤ n.val
      omega)]
  show (shapeCast S1x1024x128 (w n : FVec F S1024x128 .f32) shapeCasts_S1024x128_S1x1024x128) (ix3 (0 : Fin 1) r l) = _
  pointwise

/-! The loads of a point from the blocks it reads. -/

/-- The loads from the six blocks. -/
def In.of (x0 x1 x2 x3 : Vec F S512x1024 .f32) (x4 x5 : Vec F S1x1024 .f32) : In F where
  q n h := View.ld x0 (cell n h)
  f n h := View.ld x1 (cell n h)
  v n h := View.ld x2 (cell n h)
  z n h := View.ld x3 (cell n h)
  lb := x4
  gn h := View.ld x5 (Rect.unit ![0, 128 * h.val] S1x128.size (inbGain h))

end Cert.HgrnFwdIdeal.Block

end
-- ==== Proof.HgrnRun.lean ====
module

public import proofs.«01_k».proof.Proof.HgrnBlock

@[expose] public section

set_option maxRecDepth 16384

noncomputable section

/-! The stores of one point's run are the pieces of the chunks and heads, so what the point leaves is the chunks' results. -/

namespace Cert.HgrnFwdIdeal.Block

open Cert.HgrnFwdIdeal Cert.HgrnFwdIdeal.Gen Idealize.ShloMosaic Idealize.ShloMosaic.TcCoe Idealize.ShloMosaic.Tactic Idealize.SL.Sem

variable {F : FTy → Type} [FloatOps F]

/-- A carried state by heads. -/
def split (w : Vec F S1024x128 .f32) (h : Fin 8) : Vec F S128x128 .f32 := View.ld w (stateRect h)

theorem split_apply (w : Vec F S1024x128 .f32) (h : Fin 8) (x : S128x128.Idx) (y : S1024x128.Idx)
    (hx : ∀ a : Fin 2, (y a).val = (![128 * h.val, 0] : Fin 2 → ℕ) a + (x a).val) : w y = split w h x := by
  show w y = w ((stateRect h).idx x)
  congr 1
  funext a
  refine Fin.ext ((hx a).trans ?_)
  show _ = (![128 * h.val, 0] : Fin 2 → ℕ) a + 1 * (x a).val
  rw [Nat.one_mul]

/-- A point leaves, from the state it starts from, its chunks' results, the gated ones, the states before its chunks and
the state after them. -/
structure Leaves (b : In F) (w : Vec F S1024x128 .f32) (o : Vec F S512x1024 .f32) (g : Vec F S512x1024 .bf16) (s : Vec F S8x1024x128 .f32)
    (t : Vec F S1024x128 .f32) : Prop where
  res : ∀ (n h : Fin 8) (x : S64x128.Idx) (y : S512x1024.Idx), (∀ a : Fin 2, (y a).val = (![64 * n.val, 128 * h.val] : Fin 2 → ℕ) a + (x a).val) →
    o y = res b n h (state b (split w) n.val n.isLt.le h) x
  gated : ∀ (n h : Fin 8) (x : S64x128.Idx) (y : S512x1024.Idx), (∀ a : Fin 2, (y a).val = (![64 * n.val, 128 * h.val] : Fin 2 → ℕ) a + (x a).val) →
    g y = gated b n h (Block.res b n h (state b (split w) n.val n.isLt.le h)) x
  snaps : ∀ (n h : Fin 8) (x : S128x128.Idx) (r : Fin 1024) (l : Fin 128),
    (∀ a : Fin 2, (ix2 r l a).val = (![128 * h.val, 0] : Fin 2 → ℕ) a + (x a).val) → s (ix3 n r l) = state b (split w) n.val n.isLt.le h x
  carried : ∀ (h : Fin 8) (x : S128x128.Idx) (y : S1024x128.Idx), (∀ a : Fin 2, (y a).val = (![128 * h.val, 0] : Fin 2 → ℕ) a + (x a).val) →
    t y = state b (split w) 8 (Nat.le_refl _) h x

theorem whole_idx (y : S1024x128.Idx) : whole.toLoadRect.idx y = y := by
  funext a
  refine Fin.ext ?_
  show (![0, 0] : Fin 2 → ℕ) a + 1 * (y a).val = (y a).val
  fin_cases a <;> simp

variable (c : Dev nD) (i : grid0.Coords)
  (arg1 : Memref sig .tc .vmem S512x1024 .f32) (harg1 : arg1.IsWhole)
  (arg2 : Memref sig .tc .vmem S512x1024 .f32) (harg2 : arg2.IsWhole)
  (arg3 : Memref sig .tc .vmem S512x1024 .f32) (harg3 : arg3.IsWhole)
  (arg4 : Memref sig .tc .vmem S512x1024 .f32) (harg4 : arg4.IsWhole)
  (arg5 : Memref sig .tc .vmem S1x1024 .f32) (harg5 : arg5.IsWhole)
  (arg6 : Memref sig .tc .vmem S1x1024 .f32) (harg6 : arg6.IsWhole)
  (arg7 : Memref sig .tc .vmem S512x1024 .f32) (harg7 : arg7.IsWhole)
  (arg8 : Memref sig .tc .vmem S512x1024 .bf16) (harg8 : arg8.IsWhole)
  (arg9 : Memref sig .tc .vmem S8x1024x128 .f32) (harg9 : arg9.IsWhole)
  (arg10 : Memref sig .tc .vmem S1024x128 .f32) (harg10 : arg10.IsWhole)
  (x0 x1 x2 x3 : Vec F S512x1024 .f32) (x4 x5 : Vec F S1x1024 .f32)

/-- The loads of a point from the blocks its buffers hold. -/
def loads : In F where
  q n h := arg1.view.readAt (Elt F) (cell n h).toLoadRect (harg1.unread x0)
  f n h := arg2.view.readAt (Elt F) (cell n h).toLoadRect (harg2.unread x1)
  v n h := arg3.view.readAt (Elt F) (cell n h).toLoadRect (harg3.unread x2)
  z n h := arg4.view.readAt (Elt F) (cell n h).toLoadRect (harg4.unread x3)
  lb := arg5.view.readAt (Elt F) (Rect.unit ![0, 0] S1x1024.size (fun a => by fin_cases a <;> exact Nat.le_refl _)).toLoadRect (harg5.unread x4)
  gn h := arg6.view.readAt (Elt F) (Rect.unit ![0, 128 * h.val] S1x128.size (inbGain h) : Rect S1x1024).toLoadRect (harg6.unread x5)

theorem loads_eq : loads arg1 harg1 arg2 harg2 arg3 harg3 arg4 harg4 arg5 harg5 arg6 harg6 x0 x1 x2 x3 x4 x5 = In.of x0 x1 x2 x3 x4 x5 := by
  unfold loads In.of
  have h5 : arg5.view.readAt (Elt F) (Rect.unit ![0, 0] S1x1024.size (fun a => by fin_cases a <;> exact Nat.le_refl _)).toLoadRect
      (harg5.unread x4) = x4 := by
    funext y
    rw [View.readAt_apply, harg5.read_unread]
    congr 1
    funext a
    refine Fin.ext ?_
    show (![0, 0] : Fin 2 → ℕ) a + 1 * (y a).val = (y a).val
    fin_cases a <;> simp
  simp only [View.readAt_eq_ld, harg1.read_unread, harg2.read_unread, harg3.read_unread, harg4.read_unread, harg6.read_unread]
  congr 1

/-- A head's state as a later point loads it from what the point before left. -/
def startB (w : Vec F S1024x128 .f32) : Fin 8 → Vec F S128x128 .f32 :=
  fun h => arg10.view.readAt (Elt F) (stateRect h).toLoadRect (harg10.unread w)

theorem startB_eq (w : Vec F S1024x128 .f32) : startB arg10 harg10 w = split w := by
  unfold startB split
  simp only [View.readAt_eq_ld, harg10.read_unread]

theorem res_B (hc0 : ¬cond0_0 i) (w : Vec F S1024x128 .f32) :
    (kernelRun0_B c i arg1 harg1 arg2 harg2 arg3 harg3 arg4 harg4 arg5 harg5 arg6 harg6 arg7 harg7 arg8 harg8 arg9 harg9 arg10 harg10 hc0 x0 x1 x2 x3 x4 x5 w).1 = results (fun n h => res (loads arg1 harg1 arg2 harg2 arg3 harg3 arg4 harg4 arg5 harg5 arg6 harg6 x0 x1 x2 x3 x4 x5) n h ((stored (loads arg1 harg1 arg2 harg2 arg3 harg3 arg4 harg4 arg5 harg5 arg6 harg6 x0 x1 x2 x3 x4 x5) arg10.view [] (startB arg10 harg10 w) n.val n.isLt.le).2 h)) 8 (Nat.le_refl _) := by
  sl_kernel_rfl

theorem gated_B (hc0 : ¬cond0_0 i) (w : Vec F S1024x128 .f32) :
    (kernelRun0_B c i arg1 harg1 arg2 harg2 arg3 harg3 arg4 harg4 arg5 harg5 arg6 harg6 arg7 harg7 arg8 harg8 arg9 harg9 arg10 harg10 hc0 x0 x1 x2 x3 x4 x5 w).2.1
      = results (fun n h => gated (loads arg1 harg1 arg2 harg2 arg3 harg3 arg4 harg4 arg5 harg5 arg6 harg6 x0 x1 x2 x3 x4 x5) n h (res (loads arg1 harg1 arg2 harg2 arg3 harg3 arg4 harg4 arg5 harg5 arg6 harg6 x0 x1 x2 x3 x4 x5) n h ((stored (loads arg1 harg1 arg2 harg2 arg3 harg3 arg4 harg4 arg5 harg5 arg6 harg6 x0 x1 x2 x3 x4 x5) arg10.view [] (startB arg10 harg10 w) n.val n.isLt.le).2 h))) 8 (Nat.le_refl _) := by
  sl_kernel_rfl

theorem snaps_B (hc0 : ¬cond0_0 i) (w : Vec F S1024x128 .f32) :
    (kernelRun0_B c i arg1 harg1 arg2 harg2 arg3 harg3 arg4 harg4 arg5 harg5 arg6 harg6 arg7 harg7 arg8 harg8 arg9 harg9 arg10 harg10 hc0 x0 x1 x2 x3 x4 x5 w).2.2.1
      = snaps (fun n => before (loads arg1 harg1 arg2 harg2 arg3 harg3 arg4 harg4 arg5 harg5 arg6 harg6 x0 x1 x2 x3 x4 x5) arg10.view [] (startB arg10 harg10 w) (arg10.view.readAt (Elt F) whole.toLoadRect (harg10.unread w)) n.val n.isLt.le) := by
  sl_kernel_rfl

theorem carried_B (hc0 : ¬cond0_0 i) (w : Vec F S1024x128 .f32) :
    (kernelRun0_B c i arg1 harg1 arg2 harg2 arg3 harg3 arg4 harg4 arg5 harg5 arg6 harg6 arg7 harg7 arg8 harg8 arg9 harg9 arg10 harg10 hc0 x0 x1 x2 x3 x4 x5 w).2.2.2.1 = (stored (loads arg1 harg1 arg2 harg2 arg3 harg3 arg4 harg4 arg5 harg5 arg6 harg6 x0 x1 x2 x3 x4 x5) arg10.view [] (startB arg10 harg10 w) 8 (Nat.le_refl _)).1 := by
  sl_kernel_rfl

theorem leaves_B (hc0 : ¬cond0_0 i) (w : Vec F S1024x128 .f32) :
    Leaves (In.of x0 x1 x2 x3 x4 x5) w
      (out0_B_6 c i arg1 harg1 arg2 harg2 arg3 harg3 arg4 harg4 arg5 harg5 arg6 harg6 arg7 harg7 arg8 harg8 arg9 harg9 arg10 harg10 hc0 x0 x1 x2 x3 x4 x5 w)
      (out0_B_7 c i arg1 harg1 arg2 harg2 arg3 harg3 arg4 harg4 arg5 harg5 arg6 harg6 arg7 harg7 arg8 harg8 arg9 harg9 arg10 harg10 hc0 x0 x1 x2 x3 x4 x5 w)
      (out0_B_8 c i arg1 harg1 arg2 harg2 arg3 harg3 arg4 harg4 arg5 harg5 arg6 harg6 arg7 harg7 arg8 harg8 arg9 harg9 arg10 harg10 hc0 x0 x1 x2 x3 x4 x5 w)
      (sout0_B_0 c i arg1 harg1 arg2 harg2 arg3 harg3 arg4 harg4 arg5 harg5 arg6 harg6 arg7 harg7 arg8 harg8 arg9 harg9 arg10 harg10 hc0 x0 x1 x2 x3 x4 x5 w) where
  res n h x y hx := by
    unfold out0_B_6
    rw [res_B, read_results _ _ _ n 8 (Nat.le_refl _) h x y hx n.isLt, stored_state, loads_eq, startB_eq]
  gated n h x y hx := by
    unfold out0_B_7
    rw [gated_B, read_results _ _ _ n 8 (Nat.le_refl _) h x y hx n.isLt]
    beta_reduce
    rw [stored_state, loads_eq, startB_eq]
  snaps n h x r l hx := by
    unfold out0_B_8
    rw [snaps_B, read_snaps, loads_eq, startB_eq]
    exact before_state _ _ _ _ _ (fun h x y hx => (by rw [View.readAt_apply, harg10.read_unread, whole_idx]; exact split_apply _ h x y hx)) _ _ h x _ hx
  carried h x y hx := by
    unfold sout0_B_0
    rw [carried_B, read_stored _ _ _ _ _ _ _ _ h x y hx, loads_eq, startB_eq]

/-- The first point stores zeroes first. -/
abbrev fill : List (View.Piece (Elt F) S1024x128 .f32) := [⟨whole, k0_pay2⟩]

/-- What a load reads of a store of the whole. -/
theorem readCov_whole (v : View sig .tc .vmem S1024x128 .f32) (Z : Vec F S1024x128 .f32) (r : Rect S1024x128) :
    v.readCov [⟨whole, Z⟩] r.toLoadRect = View.ld Z r := by
  refine View.readCov_fill v (off := ![0, 0]) _ Z [] r fun a => ?_
  fin_cases a <;> rfl

/-- A head's state as the first point loads it. -/
def startA : Fin 8 → Vec F S128x128 .f32 := fun h => arg10.view.readCov (fill (F := F)) (stateRect h).toLoadRect

theorem startA_eq : startA (F := F) arg10 = split k0_pay2 := by
  funext h
  exact readCov_whole arg10.view _ (stateRect h)

theorem res_A (hc0 : cond0_0 i) :
    (kernelRun0_A c i arg1 harg1 arg2 harg2 arg3 harg3 arg4 harg4 arg5 harg5 arg6 harg6 arg7 harg7 arg8 harg8 arg9 harg9 arg10 harg10 hc0 x0 x1 x2 x3 x4 x5).1 = results (fun n h => res (loads arg1 harg1 arg2 harg2 arg3 harg3 arg4 harg4 arg5 harg5 arg6 harg6 x0 x1 x2 x3 x4 x5) n h ((stored (loads arg1 harg1 arg2 harg2 arg3 harg3 arg4 harg4 arg5 harg5 arg6 harg6 x0 x1 x2 x3 x4 x5) arg10.view fill (startA arg10) n.val n.isLt.le).2 h)) 8 (Nat.le_refl _) := by
  sl_kernel_rfl

theorem gated_A (hc0 : cond0_0 i) :
    (kernelRun0_A c i arg1 harg1 arg2 harg2 arg3 harg3 arg4 harg4 arg5 harg5 arg6 harg6 arg7 harg7 arg8 harg8 arg9 harg9 arg10 harg10 hc0 x0 x1 x2 x3 x4 x5).2.1
      = results (fun n h => gated (loads arg1 harg1 arg2 harg2 arg3 harg3 arg4 harg4 arg5 harg5 arg6 harg6 x0 x1 x2 x3 x4 x5) n h (res (loads arg1 harg1 arg2 harg2 arg3 harg3 arg4 harg4 arg5 harg5 arg6 harg6 x0 x1 x2 x3 x4 x5) n h ((stored (loads arg1 harg1 arg2 harg2 arg3 harg3 arg4 harg4 arg5 harg5 arg6 harg6 x0 x1 x2 x3 x4 x5) arg10.view fill (startA arg10) n.val n.isLt.le).2 h))) 8 (Nat.le_refl _) := by
  sl_kernel_rfl

theorem snaps_A (hc0 : cond0_0 i) :
    (kernelRun0_A c i arg1 harg1 arg2 harg2 arg3 harg3 arg4 harg4 arg5 harg5 arg6 harg6 arg7 harg7 arg8 harg8 arg9 harg9 arg10 harg10 hc0 x0 x1 x2 x3 x4 x5).2.2.1
      = snaps (fun n => before (loads arg1 harg1 arg2 harg2 arg3 harg3 arg4 harg4 arg5 harg5 arg6 harg6 x0 x1 x2 x3 x4 x5) arg10.view fill (startA arg10) (arg10.view.readCov (fill (F := F)) whole.toLoadRect) n.val n.isLt.le) := by
  sl_kernel_rfl

theorem carried_A (hc0 : cond0_0 i) :
    (kernelRun0_A c i arg1 harg1 arg2 harg2 arg3 harg3 arg4 harg4 arg5 harg5 arg6 harg6 arg7 harg7 arg8 harg8 arg9 harg9 arg10 harg10 hc0 x0 x1 x2 x3 x4 x5).2.2.2.1 = (stored (loads arg1 harg1 arg2 harg2 arg3 harg3 arg4 harg4 arg5 harg5 arg6 harg6 x0 x1 x2 x3 x4 x5) arg10.view fill (startA arg10) 8 (Nat.le_refl _)).1 := by
  sl_kernel_rfl

theorem leaves_A (hc0 : cond0_0 i) :
    Leaves (In.of x0 x1 x2 x3 x4 x5) k0_pay2
      (out0_A_6 c i arg1 harg1 arg2 harg2 arg3 harg3 arg4 harg4 arg5 harg5 arg6 harg6 arg7 harg7 arg8 harg8 arg9 harg9 arg10 harg10 hc0 x0 x1 x2 x3 x4 x5)
      (out0_A_7 c i arg1 harg1 arg2 harg2 arg3 harg3 arg4 harg4 arg5 harg5 arg6 harg6 arg7 harg7 arg8 harg8 arg9 harg9 arg10 harg10 hc0 x0 x1 x2 x3 x4 x5)
      (out0_A_8 c i arg1 harg1 arg2 harg2 arg3 harg3 arg4 harg4 arg5 harg5 arg6 harg6 arg7 harg7 arg8 harg8 arg9 harg9 arg10 harg10 hc0 x0 x1 x2 x3 x4 x5)
      (sout0_A_0 c i arg1 harg1 arg2 harg2 arg3 harg3 arg4 harg4 arg5 harg5 arg6 harg6 arg7 harg7 arg8 harg8 arg9 harg9 arg10 harg10 hc0 x0 x1 x2 x3 x4 x5) where
  res n h x y hx := by
    unfold out0_A_6
    rw [res_A, read_results _ _ _ n 8 (Nat.le_refl _) h x y hx n.isLt, stored_state, loads_eq, startA_eq]
  gated n h x y hx := by
    unfold out0_A_7
    rw [gated_A, read_results _ _ _ n 8 (Nat.le_refl _) h x y hx n.isLt]
    beta_reduce
    rw [stored_state, loads_eq, startA_eq]
  snaps n h x r l hx := by
    unfold out0_A_8
    rw [snaps_A, read_snaps, loads_eq, startA_eq]
    exact before_state _ _ _ _ _ (fun h x y hx => (by rw [readCov_whole]; exact (congrArg k0_pay2 (whole_idx y)).trans (split_apply _ h x y hx))) _ _ h x _ hx
  carried h x y hx := by
    unfold sout0_A_0
    rw [carried_A, read_stored _ _ _ _ _ _ _ _ h x y hx, loads_eq, startA_eq]

end Cert.HgrnFwdIdeal.Block

end
-- ==== Proof.HgrnPoint.lean ====
module

public import proofs.«01_k».proof.Proof.HgrnRun
public import proofs.«01_k».proof.Proof.Arrays

@[expose] public section

set_option maxRecDepth 16384

noncomputable section

/-! What one chunk of one head computes, at one position. -/

namespace Cert.HgrnFwdIdeal.Point

open Cert.HgrnFwdIdeal Cert.HgrnFwdIdeal.Gen Cert.HgrnFwdIdeal.Block Idealize.ShloMosaic Idealize.ShloMosaic.TcCoe Idealize.SL.Sem

/-- One half and one, as the words the body holds. -/
abbrev hw : EReal := Ideal.ofBits FTy.f32 0x3F000000#32
@[inherit_doc hw]
abbrev ow : EReal := Ideal.ofBits FTy.f32 0x3F800000#32

/-- The logistic function as the body spells it. -/
def th (x : EReal) : EReal := hw * Ideal.tanh (hw * x) + hw

/-- A column of a head among the heads side by side. -/
abbrev at128 (h : Fin 8) (k : Fin 128) : Fin 1024 := ⟨128 * h.val + k.val, by omega⟩

variable (b : In Ideal) (n h : Fin 8)

/-- A chunk's decay factors, at a position. -/
def fa (s : Fin 64) (k : Fin 128) : EReal :=
  b.lb (ix2 (0 : Fin 1) (at128 h k)) + (ow - b.lb (ix2 (0 : Fin 1) (at128 h k))) * th (b.f n h (ix2 s k))

theorem low_at (k : Fin 128) : low b h (ix2 (0 : Fin 1) k) = b.lb (ix2 (0 : Fin 1) (at128 h k)) := by
  unfold low
  pointwise []

theorem fac_at (s : Fin 64) (k : Fin 128) : fac b n h (ix2 s k) = fa b n h s k := by
  unfold fac fa
  pointwise [Block.sg, rows, low_at, th]

theorem lg_at (s : Fin 64) (k : Fin 128) : lg b n h (ix2 s k) = Ideal.log (fa b n h s k) := by
  unfold lg
  pointwise [fac_at]

set_option maxHeartbeats 1000000 in
theorem lgs_at (s : Fin 64) (k : Fin 128) : lgs b n (ix2 s (at128 h k)) = Ideal.log (fa b n h s k) := by
  rw [← lg_at]
  unfold lgs
  generalize lg b n = L
  have hk := k.isLt
  fin_cases h <;> pointwise [] <;> split_ifs <;> first
    | omega
    | exact congrArg (L _) (congrArg (ix2 s) (Fin.ext (by dsimp only; omega)))

theorem later (t s : Fin 64) : IntOp.cmpi .sge (BitVec.ofNat 32 t.val) (BitVec.ofNat 32 s.val) = BitVec.ofBool (decide (s ≤ t)) := by
  revert t s
  decide +kernel

theorem mask_at (t s : Fin 64) : k0_pay3 (ix2 t s) = BitVec.ofBool (decide (s ≤ t)) := by
  unfold k0_pay3
  pointwise [later]

theorem tri_at (t s : Fin 64) : (k0_pay4 (F := Ideal)) (ix2 t s) = if s ≤ t then 1 else 0 := by
  unfold k0_pay4 k0_pay3
  pointwise [later]
  by_cases e : s ≤ t
  · rw [if_pos e, decide_eq_true e]
    show (((BitVec.setWidth 32 (BitVec.ofBool true)).toInt : ℝ) : EReal) = 1
    rw [show (BitVec.setWidth 32 (BitVec.ofBool true)).toInt = 1 by decide]
    norm_num
  · rw [if_neg e, decide_eq_false e]
    show ((BitVec.toInt _ : ℝ) : EReal) = 0
    norm_num

/-- A chunk's sums of the logarithms, as the products give them. -/
def bb (t : Fin 64) (k : Fin 128) : EReal :=
  (∑ s : Fin 64, (if s ≤ t then 1 else 0) * Ideal.log (fa b n h s k))
    + ∑ s : Fin 64, (if s ≤ t then 1 else 0) * (Ideal.log (fa b n h s k) - Ideal.log (fa b n h s k))

theorem cum_at (t : Fin 64) (k : Fin 128) : cum b n (ix2 t (at128 h k)) = bb b n h t k := by
  unfold cum bb
  pointwise [hi, lo, lgs_at, tri_at]

theorem spread_last (s : Fin 64) (k : Fin 128) (x : FVec Ideal S1x1024 .f32) :
    spread h x (ix2 s k) = x (ix2 (0 : Fin 1) (at128 h k)) := by
  unfold spread
  pointwise []

theorem mid_at (k : Fin 128) : mid b n (ix2 (0 : Fin 1) (at128 h k)) = bb b n h 31 k := by
  unfold mid
  pointwise [cum_at]

theorem last_at (k : Fin 128) : last b n (ix2 (0 : Fin 1) (at128 h k)) = bb b n h 63 k := by
  unfold last
  pointwise [cum_at]

theorem dif_at (t : Fin 64) (k : Fin 128) : dif b n h (ix2 t k) = bb b n h t k - bb b n h 31 k := by
  unfold dif
  pointwise [spread_last, mid_at, cum_at]

/-- The gated queries and the keys. -/
def qq (t : Fin 64) (k : Fin 128) : EReal := b.q n h (ix2 t k) * th (b.q n h (ix2 t k))
@[inherit_doc qq]
def kk (t : Fin 64) (k : Fin 128) : EReal := ow - fa b n h t k

theorem qs_at (t : Fin 64) (k : Fin 128) : qs b n h (ix2 t k) = qq b n h t k * Ideal.exp (bb b n h t k - bb b n h 31 k) := by
  unfold qs que qq th
  pointwise [Block.sg, rows, dif_at]

theorem ks_at (t : Fin 64) (k : Fin 128) : ks b n h (ix2 t k) = kk b n h t k * Ideal.exp (0 - (bb b n h t k - bb b n h 31 k)) := by
  unfold ks key kk
  pointwise [dif_at, fac_at]

theorem qe_at (t : Fin 64) (k : Fin 128) : qe b n h (ix2 t k)
    = qq b n h t k * Ideal.exp (bb b n h t k - bb b n h 31 k) * Ideal.exp (bb b n h 31 k) := by
  unfold qe
  pointwise [qs_at, spread_last, mid_at]

theorem kd_at (t : Fin 64) (k : Fin 128) : kd b n h (ix2 t k)
    = kk b n h t k * Ideal.exp (0 - (bb b n h t k - bb b n h 31 k)) * Ideal.exp (bb b n h 63 k - bb b n h 31 k) := by
  unfold kd
  pointwise [ks_at, spread_last, mid_at, last_at]

/-- The products of a chunk's queries and keys, those of later keys left out. -/
def aa (t s : Fin 64) : EReal :=
  if s ≤ t then ∑ k : Fin 128, qq b n h t k * Ideal.exp (bb b n h t k - bb b n h 31 k)
    * (kk b n h s k * Ideal.exp (0 - (bb b n h s k - bb b n h 31 k))) else 0

theorem att_at (t s : Fin 64) : att b n h (ix2 t s) = aa b n h t s := by
  unfold att aa
  pointwise [qs_at, ks_at, mask_at]

/-- A chunk's result and the state after it. -/
theorem res_at (s : Vec Ideal S128x128 .f32) (t : Fin 64) (j : Fin 128) : res b n h s (ix2 t j)
    = (∑ k : Fin 128, qq b n h t k * Ideal.exp (bb b n h t k - bb b n h 31 k) * Ideal.exp (bb b n h 31 k) * s (ix2 j k))
      + ∑ u : Fin 64, aa b n h t u * b.v n h (ix2 u j) := by
  unfold res vb
  pointwise [qe_at, att_at, rows]

@[inherit_doc res_at]
theorem next_at (s : Vec Ideal S128x128 .f32) (j k : Fin 128) : next b n h s (ix2 j k)
    = s (ix2 j k) * Ideal.exp (bb b n h 63 k)
      + ∑ u : Fin 64, b.v n h (ix2 u j)
        * (kk b n h u k * Ideal.exp (0 - (bb b n h u k - bb b n h 31 k)) * Ideal.exp (bb b n h 63 k - bb b n h 31 k)) := by
  unfold next vb
  pointwise [kd_at, last_at, rows]

/-- A gated result. -/
theorem gated_at (o : FVec Ideal S64x128 .f32) (t : Fin 64) (j : Fin 128) : gated b n h o (ix2 t j)
    = o (ix2 t j) * Ideal.rsqrt (Ideal.div (∑ k : Fin 128, o (ix2 t k) * o (ix2 t k)) (Ideal.ofBits FTy.f32 0x43000000#32)
        + Ideal.ofBits FTy.f32 0x358637BD#32) * b.gn h (ix2 (0 : Fin 1) j)
      * (b.z n h (ix2 t j) * th (b.z n h (ix2 t j))) := by
  unfold gated th
  pointwise [Block.sg, rows]

end Cert.HgrnFwdIdeal.Point

end
-- ==== Proof.HgrnValue.lean ====
module

public import proofs.«01_k».proof.Proof.HgrnPoint
public import proofs.«01_k».proof.Proof.Gen.HgrnFwdIdeal.Value

@[expose] public section

set_option maxRecDepth 16384

noncomputable section

/-! What the recurrence's forward kernel leaves in its three result arrays. -/

namespace Cert.HgrnFwdIdeal.Arr

open Cert.HgrnFwdIdeal Cert.HgrnFwdIdeal.Gen Cert.HgrnFwdIdeal.Value Cert.HgrnFwdIdeal.Block Cert.HgrnFwdIdeal.Point Idealize.ShloMosaic Idealize.ShloMosaic.TcCoe Idealize.SL.Sem
open Idealize.ShloMosaic.Pipeline (Dat)

variable (m : (ℓ : Loc nD τ sig) → Buf (Elt Ideal) ℓ) (c : Dev nD)

/-- The arguments, read at plain indices. -/
def PJ (r : Fin 8192) (l : Fin 8192) : EReal := (m ((c : Thread nD τ).loc main_arg0) : Vec Ideal S1x8192x8192 .f32) (ix3 (0 : Fin 1) r l)
@[inherit_doc PJ]
def LB (h : Fin 8) (k : Fin 128) : EReal := (m ((c : Thread nD τ).loc main_arg1) : Vec Ideal S8x128 .f32) (ix2 h k)
@[inherit_doc PJ]
def GN (k : Fin 128) : EReal := (m ((c : Thread nD τ).loc main_arg2) : Vec Ideal S1x128 .f32) (ix2 (0 : Fin 1) k)

/-- Row `s` of a chunk, and a column of a head in one part of the projection. -/
abbrev row (N : ℕ) (s : Fin 64) : Fin 8192 := ⟨(64 * N + s.val) % 8192, Nat.mod_lt _ (by omega)⟩
@[inherit_doc row]
abbrev col (o : ℕ) (ho : o ≤ 7168) (h : Fin 8) (k : Fin 128) : Fin 8192 := ⟨o + (128 * h.val + k.val), by omega⟩

theorem V_v0 (r : Fin 8192) (l : Fin 8192) : (V m c main_v0 : Vec Ideal S8192x8192 .f32) (ix2 r l) = PJ m c r l :=
  Cert.Arrays.drop_lead (m ((c : Thread nD τ).loc main_arg0) : Vec Ideal S1x8192x8192 .f32) shapeCasts_S1x8192x8192_S8192x8192 r l

/-- The two vectors that the host lays out over the heads. -/
theorem flat (A : FVec Ideal S8x128 .f32) (h : Fin 8) (k : Fin 128) :
    (shapeCast S1x1024 A shapeCasts_S8x128_S1x1024 : FVec Ideal S1x1024 .f32) (ix2 (0 : Fin 1) (at128 h k)) = A (ix2 h k) := by
  pointwise []
  exact congrArg A (congrArg₂ ix2 (Fin.ext (by dsimp only; omega)) (Fin.ext (by dsimp only; omega)))

@[inherit_doc flat]
theorem tiled (A : FVec Ideal S1x128 .f32) (h : Fin 8) (k : Fin 128) :
    (shapeCast S1x1024 (broadcastInDim S1x1x8x128 ![0, 1, 2, 3] bcast_S1x1x1x128_S1x1x8x128_0_1_2_3
          (shapeCast S1x1x1x128 A shapeCasts_S1x128_S1x1x1x128 : FVec Ideal S1x1x1x128 .f32)
          : FVec Ideal S1x1x8x128 .f32) shapeCasts_S1x1x8x128_S1x1024 : FVec Ideal S1x1024 .f32) (ix2 (0 : Fin 1) (at128 h k))
      = A (ix2 (0 : Fin 1) k) := by
  pointwise []
  exact congrArg A (congrArg (ix2 _) (Fin.ext (by dsimp only; omega)))

theorem V_v1 (h : Fin 8) (k : Fin 128) : (V m c main_v1 : Vec Ideal S1x1024 .f32) (ix2 (0 : Fin 1) (at128 h k)) = LB m c h k :=
  Eq.trans (congrFun (by unfold_abbrev_sides; rfl) _)
    (flat (m ((c : Thread nD τ).loc main_arg1) : Vec Ideal S8x128 .f32) h k)

theorem V_v4 (h : Fin 8) (k : Fin 128) : (V m c main_v4 : Vec Ideal S1x1024 .f32) (ix2 (0 : Fin 1) (at128 h k)) = GN m c k :=
  Eq.trans (congrFun (by unfold_abbrev_sides; rfl) _)
    (tiled (m ((c : Thread nD τ).loc main_arg2) : Vec Ideal S1x128 .f32) h k)

/-- Which block of its array each window shows at a grid point. -/
theorem places : ∀ t : Fin cfg0.N,
    (win0_0.index t 0 = t.val ∧ win0_0.index t 1 = 2) ∧ (win0_1.index t 0 = t.val ∧ win0_1.index t 1 = 3) ∧
    (win0_2.index t 0 = t.val ∧ win0_2.index t 1 = 4) ∧ (win0_3.index t 0 = t.val ∧ win0_3.index t 1 = 5) ∧
    (win0_4.index t 0 = 0 ∧ win0_4.index t 1 = 0) ∧ (win0_5.index t 0 = 0 ∧ win0_5.index t 1 = 0) ∧
    (win0_6.index t 0 = t.val ∧ win0_6.index t 1 = 0) ∧ (win0_7.index t 0 = t.val ∧ win0_7.index t 1 = 0) ∧
    (win0_8.index t 0 = t.val ∧ win0_8.index t 1 = 0 ∧ win0_8.index t 2 = 0) := by
  decide +kernel

/-- What one part of the projection is in a chunk, for a head. -/
def part (o : ℕ) (ho : o ≤ 7168) (N : ℕ) (h : Fin 8) : Vec Ideal S64x128 .f32 := fun y => PJ m c (row N (y 0)) (col o ho h (y 1))

/-- What grid point `t` loads. -/
def IN (t : ℕ) : In Ideal where
  q n h := part m c 2048 (by omega) (8 * t + n.val) h
  f n h := part m c 3072 (by omega) (8 * t + n.val) h
  v n h := part m c 4096 (by omega) (8 * t + n.val) h
  z n h := part m c 5120 (by omega) (8 * t + n.val) h
  lb := V m c main_v1
  gn h := fun y => GN m c (y 1)

theorem lt16 (t : Fin cfg0.N) : t.val < 16 := lt_of_lt_of_eq t.isLt N_0

section
variable (t : Fin cfg0.N) (n h : Fin 8)

theorem at_q : View.ld (iblk m c 0 t : Vec Ideal S512x1024 .f32) (cell n h) = part m c 2048 (by omega) (8 * t.val + n.val) h := by
  have ht := lt16 t
  obtain ⟨p0, p1⟩ := (places t).1
  funext y
  have h0 : (y 0).val < 64 := (y 0).isLt
  refine Eq.trans ?_ (V_v0 m c (row (8 * t.val + n.val) (y 0)) (col 2048 (by omega) h (y 1)))
  show (iblk m c 0 t : Vec Ideal S512x1024 .f32) _ = _
  unfold iblk
  rw [View.read_apply]
  refine Cert.Arrays.same_pair (V m c main_v0 : Vec Ideal S8192x8192 .f32) _ _ ?_ ?_
  · show win0_0.index t 0 * 512 + 1 * (64 * n.val + 1 * (y 0).val) = (64 * (8 * t.val + n.val) + (y 0).val) % 8192
    rw [p0]
    omega
  · show win0_0.index t 1 * 1024 + 1 * (128 * h.val + 1 * (y 1).val) = 2048 + (128 * h.val + (y 1).val)
    rw [p1]
    omega

theorem at_f : View.ld (iblk m c 1 t : Vec Ideal S512x1024 .f32) (cell n h) = part m c 3072 (by omega) (8 * t.val + n.val) h := by
  have ht := lt16 t
  obtain ⟨p0, p1⟩ := (places t).2.1
  funext y
  have h0 : (y 0).val < 64 := (y 0).isLt
  refine Eq.trans ?_ (V_v0 m c (row (8 * t.val + n.val) (y 0)) (col 3072 (by omega) h (y 1)))
  show (iblk m c 1 t : Vec Ideal S512x1024 .f32) _ = _
  unfold iblk
  rw [View.read_apply]
  refine Cert.Arrays.same_pair (V m c main_v0 : Vec Ideal S8192x8192 .f32) _ _ ?_ ?_
  · show win0_1.index t 0 * 512 + 1 * (64 * n.val + 1 * (y 0).val) = (64 * (8 * t.val + n.val) + (y 0).val) % 8192
    rw [p0]
    omega
  · show win0_1.index t 1 * 1024 + 1 * (128 * h.val + 1 * (y 1).val) = 3072 + (128 * h.val + (y 1).val)
    rw [p1]
    omega

theorem at_v : View.ld (iblk m c 2 t : Vec Ideal S512x1024 .f32) (cell n h) = part m c 4096 (by omega) (8 * t.val + n.val) h := by
  have ht := lt16 t
  obtain ⟨p0, p1⟩ := (places t).2.2.1
  funext y
  have h0 : (y 0).val < 64 := (y 0).isLt
  refine Eq.trans ?_ (V_v0 m c (row (8 * t.val + n.val) (y 0)) (col 4096 (by omega) h (y 1)))
  show (iblk m c 2 t : Vec Ideal S512x1024 .f32) _ = _
  unfold iblk
  rw [View.read_apply]
  refine Cert.Arrays.same_pair (V m c main_v0 : Vec Ideal S8192x8192 .f32) _ _ ?_ ?_
  · show win0_2.index t 0 * 512 + 1 * (64 * n.val + 1 * (y 0).val) = (64 * (8 * t.val + n.val) + (y 0).val) % 8192
    rw [p0]
    omega
  · show win0_2.index t 1 * 1024 + 1 * (128 * h.val + 1 * (y 1).val) = 4096 + (128 * h.val + (y 1).val)
    rw [p1]
    omega

theorem at_z : View.ld (iblk m c 3 t : Vec Ideal S512x1024 .f32) (cell n h) = part m c 5120 (by omega) (8 * t.val + n.val) h := by
  have ht := lt16 t
  obtain ⟨p0, p1⟩ := (places t).2.2.2.1
  funext y
  have h0 : (y 0).val < 64 := (y 0).isLt
  refine Eq.trans ?_ (V_v0 m c (row (8 * t.val + n.val) (y 0)) (col 5120 (by omega) h (y 1)))
  show (iblk m c 3 t : Vec Ideal S512x1024 .f32) _ = _
  unfold iblk
  rw [View.read_apply]
  refine Cert.Arrays.same_pair (V m c main_v0 : Vec Ideal S8192x8192 .f32) _ _ ?_ ?_
  · show win0_3.index t 0 * 512 + 1 * (64 * n.val + 1 * (y 0).val) = (64 * (8 * t.val + n.val) + (y 0).val) % 8192
    rw [p0]
    omega
  · show win0_3.index t 1 * 1024 + 1 * (128 * h.val + 1 * (y 1).val) = 5120 + (128 * h.val + (y 1).val)
    rw [p1]
    omega

theorem at_lb : (iblk m c 4 t : Vec Ideal S1x1024 .f32) = V m c main_v1 := by
  obtain ⟨p0, p1⟩ := (places t).2.2.2.2.1
  funext y
  unfold iblk
  rw [View.read_apply]
  refine Cert.Arrays.same_pair (V m c main_v1 : Vec Ideal S1x1024 .f32) _ _ ?_ ?_
  · show win0_4.index t 0 * 1 + 1 * (y 0).val = (y 0).val
    rw [p0]
    omega
  · show win0_4.index t 1 * 1024 + 1 * (y 1).val = (y 1).val
    rw [p1]
    omega

theorem at_gn : View.ld (iblk m c 5 t : Vec Ideal S1x1024 .f32) (Rect.unit ![0, 128 * h.val] S1x128.size (inbGain h))
    = fun y => GN m c (y 1) := by
  obtain ⟨p0, p1⟩ := (places t).2.2.2.2.2.1
  funext y
  have h0 : (y 0).val < 1 := (y 0).isLt
  refine Eq.trans ?_ (V_v4 m c h (y 1))
  show (iblk m c 5 t : Vec Ideal S1x1024 .f32) _ = _
  unfold iblk
  rw [View.read_apply]
  refine Cert.Arrays.same_pair (V m c main_v4 : Vec Ideal S1x1024 .f32) _ _ ?_ ?_
  · show win0_5.index t 0 * 1 + 1 * (0 + 1 * (y 0).val) = 0
    rw [p0]
    omega
  · show win0_5.index t 1 * 1024 + 1 * (128 * h.val + 1 * (y 1).val) = 128 * h.val + (y 1).val
    rw [p1]
    omega
end

theorem same {a b : In Ideal} (q : ∀ n h, a.q n h = b.q n h) (f : ∀ n h, a.f n h = b.f n h) (v : ∀ n h, a.v n h = b.v n h)
    (z : ∀ n h, a.z n h = b.z n h) (l : a.lb = b.lb) (g : ∀ h, a.gn h = b.gn h) : a = b := by
  obtain ⟨aq, af, av, az, al, ag⟩ := a
  obtain ⟨bq, bf, bv, bz, bl, bg⟩ := b
  obtain rfl : aq = bq := funext fun n => funext fun h => q n h
  obtain rfl : af = bf := funext fun n => funext fun h => f n h
  obtain rfl : av = bv := funext fun n => funext fun h => v n h
  obtain rfl : az = bz := funext fun n => funext fun h => z n h
  obtain rfl : al = bl := l
  obtain rfl : ag = bg := funext g
  rfl

theorem at_point (t : Fin cfg0.N) :
    In.of (iblk m c 0 t) (iblk m c 1 t) (iblk m c 2 t) (iblk m c 3 t) (iblk m c 4 t) (iblk m c 5 t) = IN m c t.val :=
  same (at_q m c t) (at_f m c t) (at_v m c t) (at_z m c t) (at_lb m c t) (at_gn m c t)

/-- A chunk's place among a grid point's eight. -/
abbrev off (N : ℕ) : Fin 8 := ⟨N % 8, Nat.mod_lt _ (by omega)⟩

/-- A head's state before chunk `N`. -/
def SK (m : (ℓ : Loc nD τ sig) → Buf (Elt Ideal) ℓ) (c : Dev nD) : ℕ → Fin 8 → Vec Ideal S128x128 .f32
  | 0 => split (k0_pay2 (F := Ideal))
  | N + 1 => fun h => next (IN m c (N / 8)) (off N) h (SK m c N h)

theorem state_SK (t : ℕ) (n : ℕ) (hn : n ≤ 8) (h : Fin 8) : state (IN m c t) (SK m c (8 * t)) n hn h = SK m c (8 * t + n) h := by
  induction n with
  | zero => rfl
  | succ n ih =>
    show next (IN m c t) ⟨n, hn⟩ h (state (IN m c t) (SK m c (8 * t)) n _ h) = next (IN m c ((8 * t + n) / 8)) (off (8 * t + n)) h (SK m c (8 * t + n) h)
    rw [ih (Nat.le_of_succ_le hn), show (8 * t + n) / 8 = t by omega, show off (8 * t + n) = ⟨n, hn⟩ from Fin.ext (by dsimp only; omega)]

/-- The first grid point starts from nothing. -/
theorem first (t : Fin cfg0.N) (h : t.val % 16 = 0) :
    Leaves (IN m c t.val) (k0_pay2 (F := Ideal)) (outsAt0 m c t.val t.isLt).1 (outsAt0 m c t.val t.isLt).2.1
      (outsAt0 m c t.val t.isLt).2.2.1 (outsAt0 m c t.val t.isLt).2.2.2 := by
  rw [outsAt0_A m c t h, ← at_point m c t]
  dsimp only
  exact leaves_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) ((hcond0_0 t).mpr h)

/-- A later grid point starts from what the one before it left. -/
theorem later (t : Fin cfg0.N) (h : ¬t.val % 16 = 0) :
    Leaves (IN m c t.val) (outsAt0 m c (t.val - 1) (Nat.lt_of_le_of_lt (Nat.sub_le _ _) t.isLt)).2.2.2 (outsAt0 m c t.val t.isLt).1 (outsAt0 m c t.val t.isLt).2.1
      (outsAt0 m c t.val t.isLt).2.2.1 (outsAt0 m c t.val t.isLt).2.2.2 := by
  rw [outsAt0_B m c t h, ← at_point m c t]
  dsimp only
  exact leaves_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (fun h' => h ((hcond0_0 t).mp h')) _

/-- The results of a grid point, and the state it carries on. -/
theorem leaves (t : ℕ) (ht : t < cfg0.N) : ∃ w : Vec Ideal S1024x128 .f32, split w = SK m c (8 * t) ∧
    Leaves (IN m c t) w (outsAt0 m c t ht).1 (outsAt0 m c t ht).2.1 (outsAt0 m c t ht).2.2.1 (outsAt0 m c t ht).2.2.2 := by
  have hN : cfg0.N = 16 := N_0
  induction t with
  | zero => exact ⟨k0_pay2 (F := Ideal), rfl, first m c ⟨0, ht⟩ rfl⟩
  | succ t ih =>
    obtain ⟨w, hw, L⟩ := ih (Nat.lt_of_succ_lt ht)
    refine ⟨(outsAt0 m c t (Nat.lt_of_succ_lt ht)).2.2.2, ?_, later m c ⟨t + 1, ht⟩ (by dsimp only; omega)⟩
    funext h x
    refine Eq.trans (L.carried h x _ fun a => ?_) ?_
    · show (![128 * h.val, 0] : Fin 2 → ℕ) a + 1 * (x a).val = _
      rw [Nat.one_mul]
    · rw [hw, state_SK]
      rfl

/-- An index of a block from its two coordinates. -/
theorem offset (o x y : Fin 2 → ℕ) (h0 : y 0 = o 0 + x 0) (h1 : y 1 = o 1 + x 1) (a : Fin 2) :
    y a = o a + x a := match a with | 0 => h0 | 1 => h1

theorem within (i o s : Fin 2 → ℕ) (h0 : o 0 ≤ i 0 ∧ i 0 < o 0 + s 0) (h1 : o 1 ≤ i 1 ∧ i 1 < o 1 + s 1) (a : Fin 2) :
    o a ≤ i a ∧ i a < o a + s a := match a with | 0 => h0 | 1 => h1

/-- The grid point that works on a row. -/
abbrev owner (i : ℕ) (h : i < 8192) : Fin cfg0.N := ⟨i / 512, by rw [show cfg0.N = 16 from N_0]; omega⟩

/-- The recurrence's result. -/
def O (y : S8192x1024.Idx) : EReal :=
  res (IN m c ((y 0).val / 64 / 8)) (off ((y 0).val / 64)) ⟨(y 1).val / 128, by have : (y 1).val < 1024 := (y 1).isLt; omega⟩ (SK m c ((y 0).val / 64) ⟨(y 1).val / 128, by have : (y 1).val < 1024 := (y 1).isLt; omega⟩)
    (ix2 ⟨(y 0).val % 64, Nat.mod_lt _ (by omega)⟩ ⟨(y 1).val % 128, Nat.mod_lt _ (by omega)⟩)

theorem O_at (t : ℕ) (n h : Fin 8) (x : S64x128.Idx) (y : S8192x1024.Idx) (h0 : (y 0).val = 64 * (8 * t + n.val) + (x 0).val)
    (h1 : (y 1).val = 128 * h.val + (x 1).val) : O m c y = res (IN m c t) n h (SK m c (8 * t + n.val) h) x := by
  have a0 : (x 0).val < 64 := (x 0).isLt
  have a1 : (x 1).val < 128 := (x 1).isLt
  obtain ⟨x0, x1, rfl⟩ := Cert.Arrays.exists_pair (a := 64) (b := 128) x
  change (y 0).val = 64 * (8 * t + n.val) + x0.val at h0
  change (y 1).val = 128 * h.val + x1.val at h1
  have e1 : (y 0).val / 64 = 8 * t + n.val := by omega
  have e2 : (8 * t + n.val) / 8 = t := by omega
  have e3 : off (8 * t + n.val) = n := Fin.ext (by dsimp only; omega)
  have e4 : ∀ q : (y 1).val / 128 < 8, (⟨(y 1).val / 128, q⟩ : Fin 8) = h := fun q => Fin.ext (by dsimp only; omega)
  have e5 : ∀ q : (y 0).val % 64 < 64, (⟨(y 0).val % 64, q⟩ : Fin 64) = x0 := fun q => Fin.ext (by dsimp only; omega)
  have e6 : ∀ q : (y 1).val % 128 < 128, (⟨(y 1).val % 128, q⟩ : Fin 128) = x1 := fun q => Fin.ext (by dsimp only; omega)
  unfold O
  rw [e1, e2, e3, e4, e5, e6]

/-- The gated result. -/
def G (y : S8192x1024.Idx) : EReal :=
  gated (IN m c ((y 0).val / 64 / 8)) (off ((y 0).val / 64)) ⟨(y 1).val / 128, by have : (y 1).val < 1024 := (y 1).isLt; omega⟩ (res (IN m c ((y 0).val / 64 / 8)) (off ((y 0).val / 64)) ⟨(y 1).val / 128, by have : (y 1).val < 1024 := (y 1).isLt; omega⟩ (SK m c ((y 0).val / 64) ⟨(y 1).val / 128, by have : (y 1).val < 1024 := (y 1).isLt; omega⟩))
    (ix2 ⟨(y 0).val % 64, Nat.mod_lt _ (by omega)⟩ ⟨(y 1).val % 128, Nat.mod_lt _ (by omega)⟩)

theorem G_at (t : ℕ) (n h : Fin 8) (x : S64x128.Idx) (y : S8192x1024.Idx) (h0 : (y 0).val = 64 * (8 * t + n.val) + (x 0).val)
    (h1 : (y 1).val = 128 * h.val + (x 1).val) : G m c y = gated (IN m c t) n h (res (IN m c t) n h (SK m c (8 * t + n.val) h)) x := by
  have a0 : (x 0).val < 64 := (x 0).isLt
  have a1 : (x 1).val < 128 := (x 1).isLt
  obtain ⟨x0, x1, rfl⟩ := Cert.Arrays.exists_pair (a := 64) (b := 128) x
  change (y 0).val = 64 * (8 * t + n.val) + x0.val at h0
  change (y 1).val = 128 * h.val + x1.val at h1
  have e1 : (y 0).val / 64 = 8 * t + n.val := by omega
  have e2 : (8 * t + n.val) / 8 = t := by omega
  have e3 : off (8 * t + n.val) = n := Fin.ext (by dsimp only; omega)
  have e4 : ∀ q : (y 1).val / 128 < 8, (⟨(y 1).val / 128, q⟩ : Fin 8) = h := fun q => Fin.ext (by dsimp only; omega)
  have e5 : ∀ q : (y 0).val % 64 < 64, (⟨(y 0).val % 64, q⟩ : Fin 64) = x0 := fun q => Fin.ext (by dsimp only; omega)
  have e6 : ∀ q : (y 1).val % 128 < 128, (⟨(y 1).val % 128, q⟩ : Fin 128) = x1 := fun q => Fin.ext (by dsimp only; omega)
  unfold G
  rw [e1, e2, e3, e4, e5, e6]

theorem final_O : (dats m 0 c).arrAt 6 cfg0.N = (O m c : Vec Ideal S8192x1024 .f32) := by
  have p := fun t => (places t).2.2.2.2.2.2.1
  refine (dats m 0 c).arrAt_eq_of_cover 6 (O m c) (fun t _ => ?_) fun i => ⟨owner (i 0).val (i 0).isLt, flush0_6 _, ?_⟩
  · rw [flushed6]
    obtain ⟨w, hw, L⟩ := leaves m c t.val t.isLt
    funext y
    rw [View.read_apply]
    have h0 : (y 0).val < 512 := (y 0).isLt
    have h1 : (y 1).val < 1024 := (y 1).isLt
    refine Eq.trans (L.res ⟨(y 0).val / 64, by omega⟩ ⟨(y 1).val / 128, by omega⟩ (ix2 ⟨(y 0).val % 64, by omega⟩ ⟨(y 1).val % 128, by omega⟩) y
      (offset ![64 * ((y 0).val / 64), 128 * ((y 1).val / 128)] (fun a => (ix2 (⟨(y 0).val % 64, by omega⟩ : Fin 64) (⟨(y 1).val % 128, by omega⟩ : Fin 128) a).val)
        (fun a => (y a).val) (by show (y 0).val = 64 * ((y 0).val / 64) + (y 0).val % 64; omega)
        (by show (y 1).val = 128 * ((y 1).val / 128) + (y 1).val % 128; omega))) ?_
    rw [hw, state_SK]
    refine (O_at m c t.val _ _ _ _ ?_ ?_).symm
    · show win0_6.index t 0 * 512 + 1 * (y 0).val = 64 * (8 * t.val + (y 0).val / 64) + (y 0).val % 64
      rw [(p t).1]
      omega
    · show win0_6.index t 1 * 1024 + 1 * (y 1).val = 128 * ((y 1).val / 128) + (y 1).val % 128
      rw [(p t).2]
      omega
  · show i ∈ ((View.whole main_v5_0).slice (win0_6.rect (owner (i 0).val (i 0).isLt))).set
    rw [View.set_slice_whole, Rect.mem_set_unit]
    have h1 : (i 1 : Nat) < 1024 := (i 1).isLt
    refine within _ _ _ ?_ ?_
    · show win0_6.index _ 0 * 512 ≤ (i 0 : Nat) ∧ (i 0 : Nat) < win0_6.index _ 0 * 512 + 512
      rw [(p _).1]
      dsimp only
      omega
    · show win0_6.index _ 1 * 1024 ≤ (i 1 : Nat) ∧ (i 1 : Nat) < win0_6.index _ 1 * 1024 + 1024
      rw [(p _).2]
      omega

theorem final_G : (dats m 0 c).arrAt 7 cfg0.N = (G m c : Vec Ideal S8192x1024 .bf16) := by
  have p := fun t => (places t).2.2.2.2.2.2.2.1
  refine (dats m 0 c).arrAt_eq_of_cover 7 (G m c) (fun t _ => ?_) fun i => ⟨owner (i 0).val (i 0).isLt, flush0_7 _, ?_⟩
  · rw [flushed7]
    obtain ⟨w, hw, L⟩ := leaves m c t.val t.isLt
    funext y
    rw [View.read_apply]
    have h0 : (y 0).val < 512 := (y 0).isLt
    have h1 : (y 1).val < 1024 := (y 1).isLt
    refine Eq.trans (L.gated ⟨(y 0).val / 64, by omega⟩ ⟨(y 1).val / 128, by omega⟩ (ix2 ⟨(y 0).val % 64, by omega⟩ ⟨(y 1).val % 128, by omega⟩) y
      (offset ![64 * ((y 0).val / 64), 128 * ((y 1).val / 128)] (fun a => (ix2 (⟨(y 0).val % 64, by omega⟩ : Fin 64) (⟨(y 1).val % 128, by omega⟩ : Fin 128) a).val)
        (fun a => (y a).val) (by show (y 0).val = 64 * ((y 0).val / 64) + (y 0).val % 64; omega)
        (by show (y 1).val = 128 * ((y 1).val / 128) + (y 1).val % 128; omega))) ?_
    rw [hw, state_SK]
    refine (G_at m c t.val _ _ _ _ ?_ ?_).symm
    · show win0_7.index t 0 * 512 + 1 * (y 0).val = 64 * (8 * t.val + (y 0).val / 64) + (y 0).val % 64
      rw [(p t).1]
      omega
    · show win0_7.index t 1 * 1024 + 1 * (y 1).val = 128 * ((y 1).val / 128) + (y 1).val % 128
      rw [(p t).2]
      omega
  · show i ∈ ((View.whole main_v5_1).slice (win0_7.rect (owner (i 0).val (i 0).isLt))).set
    rw [View.set_slice_whole, Rect.mem_set_unit]
    have h1 : (i 1 : Nat) < 1024 := (i 1).isLt
    refine within _ _ _ ?_ ?_
    · show win0_7.index _ 0 * 512 ≤ (i 0 : Nat) ∧ (i 0 : Nat) < win0_7.index _ 0 * 512 + 512
      rw [(p _).1]
      dsimp only
      omega
    · show win0_7.index _ 1 * 1024 ≤ (i 1 : Nat) ∧ (i 1 : Nat) < win0_7.index _ 1 * 1024 + 1024
      rw [(p _).2]
      omega

/-- The grid point that works on a chunk. -/
abbrev eight (i : ℕ) (h : i < 128) : Fin cfg0.N := ⟨i / 8, by rw [show cfg0.N = 16 from N_0]; omega⟩

/-- The states before each chunk. -/
def T (y : S128x1024x128.Idx) : EReal :=
  SK m c (y 0).val ⟨(y 1).val / 128, by have : (y 1).val < 1024 := (y 1).isLt; omega⟩ (ix2 ⟨(y 1).val % 128, Nat.mod_lt _ (by omega)⟩ (y 2))

theorem final_T : (dats m 0 c).arrAt 8 cfg0.N = (T m c : Vec Ideal S128x1024x128 .f32) := by
  have p := fun t => (places t).2.2.2.2.2.2.2.2
  refine (dats m 0 c).arrAt_eq_of_cover 8 (T m c) (fun t _ => ?_) fun i => ⟨eight (i 0).val (i 0).isLt, flush0_8 _, ?_⟩
  · rw [flushed8]
    obtain ⟨w, hw, L⟩ := leaves m c t.val t.isLt
    funext y
    rw [View.read_apply]
    have h0 : (y 0).val < 8 := (y 0).isLt
    have h1 : (y 1).val < 1024 := (y 1).isLt
    have h2 : (y 2).val < 128 := (y 2).isLt
    obtain ⟨y0, y1, y2, rfl⟩ : ∃ (a : Fin 8) (b : Fin 1024) (d : Fin 128), y = ix3 a b d :=
      ⟨y 0, y 1, y 2, funext fun a => match a with | ⟨0, _⟩ => rfl | ⟨1, _⟩ => rfl | ⟨2, _⟩ => rfl⟩
    refine Eq.trans (L.snaps y0 ⟨y1.val / 128, by omega⟩ (ix2 ⟨y1.val % 128, by omega⟩ y2) y1 y2
      (offset ![128 * (y1.val / 128), 0] (fun a => (ix2 (⟨y1.val % 128, by omega⟩ : Fin 128) y2 a).val) (fun a => (ix2 y1 y2 a).val) (by show y1.val = 128 * (y1.val / 128) + y1.val % 128; omega) (by show y2.val = 0 + y2.val; omega))) ?_
    rw [hw, state_SK]
    have e0 : win0_8.index t 0 * 8 + 1 * y0.val = 8 * t.val + y0.val := by rw [(p t).1]; omega
    have e1 : win0_8.index t 1 * 1024 + 1 * y1.val = y1.val := by rw [(p t).2.1]; omega
    have e2 : win0_8.index t 2 * 128 + 1 * y2.val = y2.val := by rw [(p t).2.2]; omega
    have T_at : ∀ z : S128x1024x128.Idx, (z 0).val = 8 * t.val + y0.val → (z 1).val = y1.val → (z 2).val = y2.val →
        T m c z = SK m c (8 * t.val + y0.val) ⟨y1.val / 128, by omega⟩ (ix2 ⟨y1.val % 128, by omega⟩ y2) := fun z z0 z1 z2 => by
      unfold T
      congr 1
      · exact Fin.ext (congrArg (· / 128) z1)
      · exact congrArg₂ ix2 (Fin.ext (congrArg (· % 128) z1)) (Fin.ext z2)
    exact (T_at _ e0 e1 e2).symm
  · show i ∈ ((View.whole main_v5_2).slice (win0_8.rect (eight (i 0).val (i 0).isLt))).set
    rw [View.set_slice_whole, Rect.mem_set_unit]
    have h1 : (i 1 : Nat) < 1024 := (i 1).isLt
    have h2 : (i 2 : Nat) < 128 := (i 2).isLt
    intro a
    match a with
    | ⟨0, _⟩ =>
      show win0_8.index _ 0 * 8 ≤ (i 0 : Nat) ∧ (i 0 : Nat) < win0_8.index _ 0 * 8 + 8
      rw [(p _).1]
      dsimp only
      omega
    | ⟨1, _⟩ =>
      show win0_8.index _ 1 * 1024 ≤ (i 1 : Nat) ∧ (i 1 : Nat) < win0_8.index _ 1 * 1024 + 1024
      rw [(p _).2.1]
      omega
    | ⟨2, _⟩ =>
      show win0_8.index _ 2 * 128 ≤ (i 2 : Nat) ∧ (i 2 : Nat) < win0_8.index _ 2 * 128 + 128
      rw [(p _).2.2]
      omega

end Cert.HgrnFwdIdeal.Arr

end
-- ==== Proof.HgrnTrip.lean ====
module

public import proofs.«01_k».proof.Proof.Gen.HgrnFwdReferenceIdeal.Run
public import proofs.«01_k».proof.Proof.Arrays
public import Idealize.ShloMosaic.Lib.Pipeline.Value
public import Idealize.ShloMosaic.Lib.DynamicIndex
public import Idealize.ShloMosaic.Lib.WordCmp
public import Idealize.ShloMosaic.Lib.Pointwise
public import Idealize.ShloMosaic.Lib.Tactic.CleanTypes

@[expose] public section

set_option maxRecDepth 16384

noncomputable section

/-! One trip of the reference's scan over the chunks, at one position of each carried array. -/

namespace Cert.HgrnFwdReferenceIdeal.Trip

open Cert.HgrnFwdReferenceIdeal Cert.HgrnFwdReferenceIdeal.Gen Cert.HgrnFwdReferenceIdeal.Value Idealize.ShloMosaic Idealize.ShloMosaic.TcCoe Idealize.ShloMosaic.StableHlo Idealize.SL.Sem

/-! A running sum down the rows of a chunk. -/

theorem fold_add {α : Type} (e : α → EReal) (l : List α) (v : EReal) : l.foldl (fun r n => r + e n) v = v + (l.map e).sum := by
  induction l generalizing v with
  | nil => exact (add_zero v).symm
  | cons a l ih =>
    rw [List.foldl_cons, ih, List.map_cons, List.sum_cons, add_assoc]

/-- Where a window of 64 rows that ends at row `t` meets the array. -/
theorem window_sum (g : Fin 64 → EReal) (t : Fin 64) :
    (∑ u : Fin 64, if h : 63 ≤ t.val + u.val ∧ t.val + u.val - 63 < 64 then g ⟨t.val + u.val - 63, h.2⟩ else 0)
      = ∑ s : Fin 64, if s ≤ t then g s else 0 := by
  have ht := t.isLt
  refine Eq.trans ?_ (Finset.sum_filter (fun s => s ≤ t) g)
  refine Eq.trans (b := ∑ u ∈ Finset.univ.filter (fun u : Fin 64 => 63 ≤ t.val + u.val ∧ t.val + u.val - 63 < 64),
      if h : 63 ≤ t.val + u.val ∧ t.val + u.val - 63 < 64 then g ⟨t.val + u.val - 63, h.2⟩ else 0) ?_ ?_
  · refine (Finset.sum_filter_of_ne fun u _ hu => ?_).symm
    by_contra hn
    exact hu (dif_neg hn)
  · refine Finset.sum_nbij' (fun u => ⟨(t.val + u.val - 63) % 64, Nat.mod_lt _ (by omega)⟩)
      (fun s => ⟨(s.val + 63 - t.val) % 64, Nat.mod_lt _ (by omega)⟩) ?_ ?_ ?_ ?_ ?_
    · intro u hu
      have := u.isLt
      rw [Finset.mem_filter] at hu ⊢
      refine ⟨Finset.mem_univ _, ?_⟩
      show (t.val + u.val - 63) % 64 ≤ t.val
      omega
    · intro s hs
      have := s.isLt
      rw [Finset.mem_filter] at hs ⊢
      have h1 : s.val ≤ t.val := hs.2
      refine ⟨Finset.mem_univ _, ?_⟩
      show 63 ≤ t.val + (s.val + 63 - t.val) % 64 ∧ t.val + (s.val + 63 - t.val) % 64 - 63 < 64
      omega
    · intro u hu
      have := u.isLt
      rw [Finset.mem_filter] at hu
      have h1 := hu.2
      refine Fin.ext ?_
      show ((t.val + u.val - 63) % 64 + 63 - t.val) % 64 = u.val
      omega
    · intro s hs
      have := s.isLt
      rw [Finset.mem_filter] at hs
      have h1 : s.val ≤ t.val := hs.2
      refine Fin.ext ?_
      show (t.val + (s.val + 63 - t.val) % 64 - 63) % 64 = s.val
      omega
    · intro u hu
      rw [Finset.mem_filter] at hu
      rw [dif_pos hu.2]
      exact congrArg g (Fin.ext (by show _ = (t.val + u.val - 63) % 64; rw [Nat.mod_eq_of_lt hu.2.2]))

/-- The windows' shape, whose only extent is 64 rows. -/
abbrev Win : Shape := ⟨4, ![1, 1, 64, 1]⟩

theorem win_sum (f : Win.Idx → EReal) : ∑ w, f w = ∑ u : Fin 64, f (ix4 (0 : Fin 1) (0 : Fin 1) u (0 : Fin 1)) := by
  refine (Finset.sum_nbij' (fun u : Fin 64 => (ix4 (0 : Fin 1) (0 : Fin 1) u (0 : Fin 1) : Win.Idx)) (fun w => w 2) (fun _ _ => Finset.mem_univ _)
    (fun _ _ => Finset.mem_univ _) (fun _ _ => rfl) (fun w _ => ?_) (fun _ _ => rfl)).symm
  funext a
  match a with
  | ⟨0, _⟩ => exact Subsingleton.elim (α := Fin 1) _ _
  | ⟨1, _⟩ => exact Subsingleton.elim (α := Fin 1) _ _
  | ⟨2, _⟩ => rfl
  | ⟨3, _⟩ => exact Subsingleton.elim (α := Fin 1) _ _

theorem running (x : FVec Ideal S1x8x64x128 .f32) (init : FVec Ideal S_ .f32) (hi : init = fun _ => (0 : EReal)) (h : Fin 8) (t : Fin 64) (k : Fin 128) :
    Host.reduceWindowAdd ![1, 1, 64, 1] ![1, 1, 1, 1] ![0, 0, 63, 0] ![0, 0, 0, 0] x init
        reduceWindows_S1x8x64x128_S1x8x64x128_w1s1p0_0_w1s1p0_0_w64s1p63_0_w1s1p0_0 h_S_ (ix4 (0 : Fin 1) h t k)
      = ∑ s : Fin 64, if s ≤ t then x (ix4 (0 : Fin 1) h s k) else 0 := by
  subst hi
  show Ideal.hostReduceWindowAdd ![1, 1, 64, 1] ![1, 1, 1, 1] ![0, 0, 63, 0] ![0, 0, 0, 0]
    reduceWindows_S1x8x64x128_S1x8x64x128_w1s1p0_0_w1s1p0_0_w64s1p63_0_w1s1p0_0 x (0 : EReal) (ix4 (0 : Fin 1) h t k) = _
  unfold Ideal.hostReduceWindowAdd Host.reduceWindow
  dsimp only
  rw [fold_add, zero_add, ← Fin.sum_univ_def]
  let p : Win.Idx → Fin 4 → ℕ := fun w a => ((ix4 (0 : Fin 1) h t k : S1x8x64x128.Idx) a).val * (![1, 1, 1, 1] : Fin 4 → ℕ) a + (w a).val
  refine Eq.trans (Equiv.sum_comp (Shape.rowMajor Win).symm fun w : Win.Idx =>
    @dite EReal (∀ a : Fin 4, (![0, 0, 63, 0] : Fin 4 → ℕ) a ≤ p w a ∧ p w a - (![0, 0, 63, 0] : Fin 4 → ℕ) a < S1x8x64x128.size a)
      (Nat.decidableForallFin _)
      (fun hin => x (fun a => ⟨p w a - (![0, 0, 63, 0] : Fin 4 → ℕ) a, (hin a).2⟩)) (fun _ => 0)) ?_
  rw [win_sum, ← window_sum]
  refine Finset.sum_congr rfl fun u _ => ?_
  have hu := u.isLt
  by_cases hp : 63 ≤ t.val + u.val ∧ t.val + u.val - 63 < 64
  · rw [dif_pos hp, dif_pos (fun a => by
      have h8 := h.isLt
      have hk := k.isLt
      match a with
      | ⟨0, _⟩ => exact ⟨Nat.zero_le _, by show 0 * 1 + 0 - 0 < 1; omega⟩
      | ⟨1, _⟩ => exact ⟨Nat.zero_le _, by show h.val * 1 + 0 - 0 < 8; omega⟩
      | ⟨2, _⟩ =>
        show 63 ≤ t.val * 1 + u.val ∧ t.val * 1 + u.val - 63 < 64
        rw [Nat.mul_one]
        exact hp
      | ⟨3, _⟩ => exact ⟨Nat.zero_le _, by show k.val * 1 + 0 - 0 < 128; omega⟩)]
    refine congrArg x (funext fun a => Fin.ext ?_)
    match a with
    | ⟨0, _⟩ => rfl
    | ⟨1, _⟩ => show h.val * 1 + 0 - 0 = h.val; omega
    | ⟨2, _⟩ => show t.val * 1 + u.val - 63 = t.val + u.val - 63; omega
    | ⟨3, _⟩ => show k.val * 1 + 0 - 0 = k.val; omega
  · rw [dif_neg hp, dif_neg (fun q => hp (by
      have h2 := q 2
      change 63 ≤ t.val * 1 + u.val ∧ t.val * 1 + u.val - 63 < 64 at h2
      rw [Nat.mul_one] at h2
      exact h2))]

/-! The rows of one chunk. -/

theorem slot (N : Fin 128) : S128x1x8x64x128.Slices ![N.val, 0, 0, 0, 0] S1x1x8x64x128 :=
  ⟨rfl, fun a => by
    have := N.isLt
    match a with
    | ⟨0, _⟩ => show N.val + 1 ≤ 128; omega
    | ⟨1, _⟩ => exact Nat.le_refl _
    | ⟨2, _⟩ => exact Nat.le_refl _
    | ⟨3, _⟩ => exact Nat.le_refl _
    | ⟨4, _⟩ => exact Nat.le_refl _⟩

theorem slot' (N : Fin 128) : S128x1x8x128x128.Slices ![N.val, 0, 0, 0, 0] S1x1x8x128x128 :=
  ⟨rfl, fun a => by
    have := N.isLt
    match a with
    | ⟨0, _⟩ => show N.val + 1 ≤ 128; omega
    | ⟨1, _⟩ => exact Nat.le_refl _
    | ⟨2, _⟩ => exact Nat.le_refl _
    | ⟨3, _⟩ => exact Nat.le_refl _
    | ⟨4, _⟩ => exact Nat.le_refl _⟩

/-- The counter's value. -/
abbrev num (N : ℕ) : IVec S_ 32 := fun _ => BitVec.ofNat 32 N

theorem start_at (N : Fin 128) (a : Fin 5) :
    ((![num N.val, constantI S_ 32 0#32, constantI S_ 32 0#32, constantI S_ 32 0#32, constantI S_ 32 0#32] : Fin 5 → IVec S_ 32) a
      (Shape.Idx.first h_S_)).toInt = (((![N.val, 0, 0, 0, 0] : Fin 5 → ℕ) a : ℕ) : Int) := by
  have := N.isLt
  match a with
  | ⟨0, _⟩ => exact toInt_ofNat_of_lt (by omega)
  | ⟨1, _⟩ => rfl
  | ⟨2, _⟩ => rfl
  | ⟨3, _⟩ => rfl
  | ⟨4, _⟩ => rfl

theorem cut (A : FVec Ideal S128x1x8x64x128 .f32) (N : Fin 128) (start : Fin 5 → Int) (hs : ∀ a, start a = (((![N.val, 0, 0, 0, 0] : Fin 5 → ℕ) a : ℕ) : Int))
    (h : Fin 8) (s : Fin 64) (k : Fin 128) :
    (shapeCast S1x8x64x128 (Host.dynamicSlice S1x1x8x64x128 A start sliceFits_S128x1x8x64x128_S1x1x8x64x128 : FVec Ideal S1x1x8x64x128 .f32)
      shapeCasts_S1x1x8x64x128_S1x8x64x128 : FVec Ideal S1x8x64x128 .f32) (ix4 (0 : Fin 1) h s k) = A (ix5 N (0 : Fin 1) h s k) := by
  rw [WordCmp.dynamicSlice_eq_extract S1x1x8x64x128 A start sliceFits_S128x1x8x64x128_S1x1x8x64x128 ![N.val, 0, 0, 0, 0] (slot N) hs]
  pointwise []

/-! The carried arrays. -/

variable (V : Valuation τ sig (Elt Ideal)) (N : Fin 128)

abbrev Q : FVec Ideal S128x1x8x64x128 .f32 := V (Proc.devRef .tc main_v37_0)
abbrev K : FVec Ideal S128x1x8x64x128 .f32 := V (Proc.devRef .tc main_v37_1)
abbrev W : FVec Ideal S128x1x8x64x128 .f32 := V (Proc.devRef .tc main_v37_2)
abbrev L : FVec Ideal S128x1x8x64x128 .f32 := V (Proc.devRef .tc main_v37_3)
abbrev MM : IVec S64x64 1 := V (Proc.devRef .tc main_v37_4)
abbrev C : IVec S_ 32 := V (Proc.devRef .tc main_v37_5)
abbrev S : FVec Ideal S1x8x128x128 .f32 := V (Proc.devRef .tc main_v37_6)
abbrev OO : FVec Ideal S128x1x8x64x128 .f32 := V (Proc.devRef .tc main_v37_7)
abbrev SS : FVec Ideal S128x1x8x128x128 .f32 := V (Proc.devRef .tc main_v37_8)

/-- A chunk's running sums of the logarithms. -/
def cs (A : FVec Ideal S128x1x8x64x128 .f32) (h : Fin 8) (t : Fin 64) (k : Fin 128) : EReal :=
  ∑ s : Fin 64, if s ≤ t then A (ix5 N (0 : Fin 1) h s k) else 0

theorem begins (hc : C V = num N.val) (a : Fin 5) :
    ((![C V, constantI S_ 32 0#32, constantI S_ 32 0#32, constantI S_ 32 0#32, constantI S_ 32 0#32] : Fin 5 → IVec S_ 32) a
      (Shape.Idx.first h_S_)).toInt = (((![N.val, 0, 0, 0, 0] : Fin 5 → ℕ) a : ℕ) : Int) := by
  rw [hc]
  exact start_at N a

theorem q_at (hc : C V = num N.val) (h : Fin 8) (s : Fin 64) (k : Fin 128) :
    (res_main_while0b_v64 V : FVec Ideal S1x8x64x128 .f32) (ix4 (0 : Fin 1) h s k) = Q V (ix5 N (0 : Fin 1) h s k) :=
  cut (Q V) N _ (begins V N hc) h s k

theorem k_at (hc : C V = num N.val) (h : Fin 8) (s : Fin 64) (k : Fin 128) :
    (res_main_while0b_v65 V : FVec Ideal S1x8x64x128 .f32) (ix4 (0 : Fin 1) h s k) = K V (ix5 N (0 : Fin 1) h s k) :=
  cut (K V) N _ (begins V N hc) h s k

theorem w_at (hc : C V = num N.val) (h : Fin 8) (s : Fin 64) (k : Fin 128) :
    (res_main_while0b_v66 V : FVec Ideal S1x8x64x128 .f32) (ix4 (0 : Fin 1) h s k) = W V (ix5 N (0 : Fin 1) h s k) :=
  cut (W V) N _ (begins V N hc) h s k

theorem nothing : (broadcastInDim S_ ![] bcast_S_S_ (constant (F := Ideal) S_ .f32 0x00000000#32) : FVec Ideal S_ .f32) = fun _ => (0 : EReal) := by
  funext i
  pointwise []

theorem l_at (hc : C V = num N.val) (h : Fin 8) (t : Fin 64) (k : Fin 128) :
    (res_main_while0b_v68 V : FVec Ideal S1x8x64x128 .f32) (ix4 (0 : Fin 1) h t k) = cs N (L V) h t k := by
  unfold res_main_while0b_v68
  refine (running _ _ nothing h t k).trans ?_
  refine Finset.sum_congr rfl fun s _ => if_congr Iff.rfl ?_ rfl
  exact cut (L V) N _ (begins V N hc) h s k

theorem end_at (hc : C V = num N.val) (h : Fin 8) (k : Fin 128) :
    (res_main_while0b_v88 V : FVec Ideal S1x8x1x128 .f32) (ix4 (0 : Fin 1) h (0 : Fin 1) k) = cs N (L V) h 63 k := by
  rw [← l_at V N hc]
  unfold res_main_while0b_v88
  clean_types
  pointwise []

theorem state_at (hc : C V = num N.val) (h : Fin 8) (k j : Fin 128) :
    (step_main_v37_6 V : FVec Ideal S1x8x128x128 .f32) (ix4 (0 : Fin 1) h k j)
      = Ideal.exp (cs N (L V) h 63 k) * S V (ix4 (0 : Fin 1) h k j)
        + ∑ s : Fin 64, K V (ix5 N (0 : Fin 1) h s k) * Ideal.exp (cs N (L V) h 63 k - cs N (L V) h s k) * W V (ix5 N (0 : Fin 1) h s j) := by
  unfold step_main_v37_6
  rw [id_eq]
  clean_types
  pointwise [k_at V N hc, w_at V N hc, l_at V N hc, end_at V N hc]

/-- A chunk's result at a position. -/
def out (h : Fin 8) (t : Fin 64) (j : Fin 128) : EReal :=
  (∑ k : Fin 128, Q V (ix5 N (0 : Fin 1) h t k) * Ideal.exp (cs N (L V) h t k) * S V (ix4 (0 : Fin 1) h k j))
    + ∑ s : Fin 64, (∑ k : Fin 128, Q V (ix5 N (0 : Fin 1) h t k) * K V (ix5 N (0 : Fin 1) h s k)
        * Ideal.exp (Scalar.select (MM V (ix2 t s)) (cs N (L V) h t k - cs N (L V) h s k) (Ideal.ofBits FTy.f32 0xFF800000#32))) * W V (ix5 N (0 : Fin 1) h s j)

theorem put (A : FVec Ideal S128x1x8x64x128 .f32) (u : FVec Ideal S1x1x8x64x128 .f32) (start : Fin 5 → Int)
    (hs : ∀ a, start a = (((![N.val, 0, 0, 0, 0] : Fin 5 → ℕ) a : ℕ) : Int)) (P : Fin 128) (h : Fin 8) (s : Fin 64) (k : Fin 128) :
    Host.dynamicUpdateSlice A u start updateFits_S128x1x8x64x128_S1x1x8x64x128 (ix5 P (0 : Fin 1) h s k)
      = if P = N then u (ix5 (0 : Fin 1) (0 : Fin 1) h s k) else A (ix5 P (0 : Fin 1) h s k) := by
  rw [WordCmp.dynamicUpdateSlice_eq_update A u start updateFits_S128x1x8x64x128_S1x1x8x64x128 ![N.val, 0, 0, 0, 0] (slot N) hs]
  pointwise []
  by_cases e : P = N
  · subst e
    rw [if_pos rfl, dif_pos ⟨le_rfl, Nat.lt_succ_self _⟩]
    exact congrArg (fun i : Fin 1 => u (ix5 i (0 : Fin 1) h s k)) (Subsingleton.elim _ _)
  · rw [if_neg e, dif_neg (fun q => e (Fin.ext (by omega)))]

theorem put' (A : FVec Ideal S128x1x8x128x128 .f32) (u : FVec Ideal S1x1x8x128x128 .f32) (start : Fin 5 → Int)
    (hs : ∀ a, start a = (((![N.val, 0, 0, 0, 0] : Fin 5 → ℕ) a : ℕ) : Int)) (P : Fin 128) (h : Fin 8) (j k : Fin 128) :
    Host.dynamicUpdateSlice A u start updateFits_S128x1x8x128x128_S1x1x8x128x128 (ix5 P (0 : Fin 1) h j k)
      = if P = N then u (ix5 (0 : Fin 1) (0 : Fin 1) h j k) else A (ix5 P (0 : Fin 1) h j k) := by
  rw [WordCmp.dynamicUpdateSlice_eq_update A u start updateFits_S128x1x8x128x128_S1x1x8x128x128 ![N.val, 0, 0, 0, 0] (slot' N) hs]
  pointwise []
  by_cases e : P = N
  · subst e
    rw [if_pos rfl, dif_pos ⟨le_rfl, Nat.lt_succ_self _⟩]
    exact congrArg (fun i : Fin 1 => u (ix5 i (0 : Fin 1) h j k)) (Subsingleton.elim _ _)
  · rw [if_neg e, dif_neg (fun q => e (Fin.ext (by omega)))]

theorem states_at (hc : C V = num N.val) (P : Fin 128) (h : Fin 8) (k j : Fin 128) :
    (step_main_v37_8 V : FVec Ideal S128x1x8x128x128 .f32) (ix5 P (0 : Fin 1) h k j)
      = if P = N then S V (ix4 (0 : Fin 1) h k j) else SS V (ix5 P (0 : Fin 1) h k j) := by
  unfold step_main_v37_8
  rw [id_eq]
  refine (put' N (SS V) _ _ (begins V N hc) P h k j).trans (if_congr Iff.rfl ?_ rfl)
  clean_types
  pointwise []

theorem count_at (hc : C V = num N.val) : (step_main_v37_5 V : IVec S_ 32) = num (N.val + 1) := by
  unfold step_main_v37_5
  rw [id_eq]
  funext i
  show IntOp.addi (C V i) 1#32 = _
  rw [hc]
  show BitVec.ofNat 32 N.val + BitVec.ofNat 32 1 = _
  exact BitVec.ofNat_add_ofNat ..

theorem outs_at (hc : C V = num N.val) (P : Fin 128) (h : Fin 8) (t : Fin 64) (j : Fin 128) :
    (step_main_v37_7 V : FVec Ideal S128x1x8x64x128 .f32) (ix5 P (0 : Fin 1) h t j)
      = if P = N then out V N h t j else OO V (ix5 P (0 : Fin 1) h t j) := by
  unfold step_main_v37_7
  rw [id_eq]
  refine (put N (OO V) _ _ (begins V N hc) P h t j).trans (if_congr Iff.rfl ?_ rfl)
  unfold out
  clean_types
  pointwise [q_at V N hc, k_at V N hc, w_at V N hc, l_at V N hc]
  rfl

end Cert.HgrnFwdReferenceIdeal.Trip

end
-- ==== Proof.HgrnRef.lean ====
module

public import proofs.«01_k».proof.Proof.HgrnTrip
public import proofs.«01_k».proof.Proof.MergeMath
public import Idealize.ShloMosaic.Lib.StableHlo.ReadAt

@[expose] public section

set_option maxRecDepth 65536

noncomputable section

/-! The reference's arrays: what the scan starts from, what it leaves, and the results. -/

namespace Cert.HgrnFwdReferenceIdeal.Arr

open Cert.HgrnFwdReferenceIdeal Cert.HgrnFwdReferenceIdeal.Gen Cert.HgrnFwdReferenceIdeal.Value Cert.HgrnFwdReferenceIdeal.Trip Idealize.ShloMosaic Idealize.ShloMosaic.TcCoe Idealize.ShloMosaic.StableHlo Idealize.SL.Sem

/-- The logistic function as the host spells it. -/
def sg (x : EReal) : EReal := Ideal.div 1 (1 + Ideal.exp (-x))

variable (m : (ℓ : Loc nD τ sig) → Buf (Elt Ideal) ℓ) (c : Dev nD)

/-- The arguments, read at plain indices. -/
def PJ (r : Fin 8192) (l : Fin 8192) : EReal := (m ((c.tc : Thread nD τ).loc main_arg0) : Vec Ideal S1x8192x8192 .f32) (ix3 (0 : Fin 1) r l)
@[inherit_doc PJ]
def LB (h : Fin 8) (k : Fin 128) : EReal := (m ((c.tc : Thread nD τ).loc main_arg1) : Vec Ideal S8x128 .f32) (ix2 h k)
@[inherit_doc PJ]
def GN (k : Fin 128) : EReal := (m ((c.tc : Thread nD τ).loc main_arg2) : Vec Ideal S1x128 .f32) (ix2 (0 : Fin 1) k)

/-- Row `s` of a chunk, and a column of a head in one part of the projection. -/
abbrev row (N : Fin 128) (s : Fin 64) : Fin 8192 := ⟨64 * N.val + s.val, by omega⟩
@[inherit_doc row]
abbrev col (o : ℕ) (ho : o ≤ 7168) (h : Fin 8) (k : Fin 128) : Fin 8192 := ⟨o + (128 * h.val + k.val), by omega⟩

/-- The contents the scan starts from. -/
abbrev E0 : Valuation τ sig (Elt Ideal) := entryContents preI m c

/-- The decay factors. -/
def fa (N : Fin 128) (h : Fin 8) (s : Fin 64) (k : Fin 128) : EReal :=
  LB m c h k + (1 - LB m c h k) * sg (PJ m c (row N s) (col 3072 (by omega) h k))

/-! The arrays that the scan runs over, of the arguments. -/

section Arrays

variable (P : FVec Ideal S1x8192x8192 .f32) (B : FVec Ideal S8x128 .f32)

/-- A value per position and head, chunk by chunk. -/
def lay (x : FVec Ideal S1x8192x8x128 .f32) : FVec Ideal S128x1x8x64x128 .f32 :=
  transpose S128x1x8x64x128 [1, 0, 3, 2, 4] (shapeCast S1x128x64x8x128 x shapeCasts_S1x8192x8x128_S1x128x64x8x128 : FVec Ideal S1x128x64x8x128 .f32)
    transposes_S1x128x64x8x128_S128x1x8x64x128_1_0_3_2_4

/-- The logistic function of an array. -/
def sgs (x : FVec Ideal S1x8192x8x128 .f32) : FVec Ideal S1x8192x8x128 .f32 :=
  Host.divf (broadcastInDim S1x8192x8x128 ![] bcast_S_S1x8192x8x128 (constant (F := Ideal) S_ .f32 0x3F800000#32))
    (addf (broadcastInDim S1x8192x8x128 ![] bcast_S_S1x8192x8x128 (constant (F := Ideal) S_ .f32 0x3F800000#32)) (Host.exp (Host.negf x)))

/-- The three parts of the projection, head by head. -/
def pq : FVec Ideal S1x8192x8x128 .f32 :=
  shapeCast S1x8192x8x128 (extractStridedSlice S1x8192x1024 ![0, 0, 2048] P slices_S1x8192x8192_S1x8192x1024_0_0_2048 : FVec Ideal S1x8192x1024 .f32) shapeCasts_S1x8192x1024_S1x8192x8x128
@[inherit_doc pq]
def pf : FVec Ideal S1x8192x8x128 .f32 :=
  shapeCast S1x8192x8x128 (extractStridedSlice S1x8192x1024 ![0, 0, 3072] P slices_S1x8192x8192_S1x8192x1024_0_0_3072 : FVec Ideal S1x8192x1024 .f32) shapeCasts_S1x8192x1024_S1x8192x8x128
@[inherit_doc pq]
def pv : FVec Ideal S1x8192x8x128 .f32 :=
  shapeCast S1x8192x8x128 (extractStridedSlice S1x8192x1024 ![0, 0, 4096] P slices_S1x8192x8192_S1x8192x1024_0_0_4096 : FVec Ideal S1x8192x1024 .f32) shapeCasts_S1x8192x1024_S1x8192x8x128

/-- The decay factors as an array. -/
def fas : FVec Ideal S1x8192x8x128 .f32 :=
  addf (broadcastInDim S1x8192x8x128 ![0, 1, 2, 3] bcast_S1x1x8x128_S1x8192x8x128_0_1_2_3 (broadcastInDim S1x1x8x128 ![2, 3] bcast_S8x128_S1x1x8x128_2_3 B))
    (mulf (broadcastInDim S1x8192x8x128 ![0, 1, 2, 3] bcast_S1x1x8x128_S1x8192x8x128_0_1_2_3 (broadcastInDim S1x1x8x128 ![2, 3] bcast_S8x128_S1x1x8x128_2_3
      (subf (broadcastInDim S8x128 ![] bcast_S_S8x128 (constant (F := Ideal) S_ .f32 0x3F800000#32)) B))) (sgs (pf P)))

theorem lay_at (x : FVec Ideal S1x8192x8x128 .f32) (N : Fin 128) (h : Fin 8) (s : Fin 64) (k : Fin 128) :
    lay x (ix5 N (0 : Fin 1) h s k) = x (ix4 (0 : Fin 1) (row N s) h k) := by
  unfold lay
  pointwise []
  exact congrArg (fun r => x (ix4 (0 : Fin 1) r h k)) (Fin.ext (by dsimp only; omega))

theorem sgs_at (x : FVec Ideal S1x8192x8x128 .f32) (r : Fin 8192) (h : Fin 8) (k : Fin 128) :
    sgs x (ix4 (0 : Fin 1) r h k) = sg (x (ix4 (0 : Fin 1) r h k)) := by
  unfold sgs sg
  pointwise []

theorem pq_at (r : Fin 8192) (h : Fin 8) (k : Fin 128) : pq P (ix4 (0 : Fin 1) r h k) = P (ix3 (0 : Fin 1) r (col 2048 (by omega) h k)) := by
  unfold pq
  pointwise []
  exact congrArg (fun l => P (ix3 (0 : Fin 1) r l)) (Fin.ext (by dsimp only; omega))

theorem pf_at (r : Fin 8192) (h : Fin 8) (k : Fin 128) : pf P (ix4 (0 : Fin 1) r h k) = P (ix3 (0 : Fin 1) r (col 3072 (by omega) h k)) := by
  unfold pf
  pointwise []
  exact congrArg (fun l => P (ix3 (0 : Fin 1) r l)) (Fin.ext (by dsimp only; omega))

theorem pv_at (r : Fin 8192) (h : Fin 8) (k : Fin 128) : pv P (ix4 (0 : Fin 1) r h k) = P (ix3 (0 : Fin 1) r (col 4096 (by omega) h k)) := by
  unfold pv
  pointwise []
  exact congrArg (fun l => P (ix3 (0 : Fin 1) r l)) (Fin.ext (by dsimp only; omega))

theorem fas_at (r : Fin 8192) (h : Fin 8) (k : Fin 128) : fas P B (ix4 (0 : Fin 1) r h k)
    = B (ix2 h k) + (1 - B (ix2 h k)) * sg (P (ix3 (0 : Fin 1) r (col 3072 (by omega) h k))) := by
  unfold fas
  pointwise [sgs_at, pf_at]

end Arrays

abbrev AP : FVec Ideal S1x8192x8192 .f32 := m ((c.tc : Thread nD τ).loc main_arg0)
abbrev AB : FVec Ideal S8x128 .f32 := m ((c.tc : Thread nD τ).loc main_arg1)

theorem Q_arr : Q (E0 m c) = lay (mulf (pq (AP m c)) (sgs (pq (AP m c)))) := by
  unfold Q E0
  simp only [entryContents, afterL_cons, afterL_nil]
  after_reads_simp
  rfl

theorem K_arr : K (E0 m c) = lay (subf (broadcastInDim S1x8192x8x128 ![] bcast_S_S1x8192x8x128 (constant (F := Ideal) S_ .f32 0x3F800000#32)) (fas (AP m c) (AB m c))) := by
  unfold K E0
  simp only [entryContents, afterL_cons, afterL_nil]
  after_reads_simp
  rfl

theorem W_arr : W (E0 m c) = lay (pv (AP m c)) := by
  unfold W E0
  simp only [entryContents, afterL_cons, afterL_nil]
  after_reads_simp
  rfl

theorem L_arr : L (E0 m c) = lay (Host.log (fas (AP m c) (AB m c))) := by
  unfold L E0
  simp only [entryContents, afterL_cons, afterL_nil]
  after_reads_simp
  rfl

theorem Q_entry (N : Fin 128) (h : Fin 8) (s : Fin 64) (k : Fin 128) : Q (E0 m c) (ix5 N (0 : Fin 1) h s k)
    = PJ m c (row N s) (col 2048 (by omega) h k) * sg (PJ m c (row N s) (col 2048 (by omega) h k)) := by
  rw [Q_arr, lay_at]
  show pq (AP m c) _ * sgs (pq (AP m c)) _ = _
  rw [sgs_at, pq_at]
  rfl

theorem K_entry (N : Fin 128) (h : Fin 8) (s : Fin 64) (k : Fin 128) : K (E0 m c) (ix5 N (0 : Fin 1) h s k) = 1 - fa m c N h s k := by
  rw [K_arr, lay_at]
  show Ideal.ofBits FTy.f32 0x3F800000#32 - fas (AP m c) (AB m c) _ = _
  rw [fas_at, Cert.Reals.one_word]
  rfl

theorem W_entry (N : Fin 128) (h : Fin 8) (s : Fin 64) (k : Fin 128) : W (E0 m c) (ix5 N (0 : Fin 1) h s k) = PJ m c (row N s) (col 4096 (by omega) h k) := by
  rw [W_arr, lay_at, pv_at]
  rfl

theorem L_entry (N : Fin 128) (h : Fin 8) (s : Fin 64) (k : Fin 128) : L (E0 m c) (ix5 N (0 : Fin 1) h s k) = Ideal.log (fa m c N h s k) := by
  rw [L_arr, lay_at]
  show Ideal.log (fas (AP m c) (AB m c) _) = _
  rw [fas_at]
  rfl

theorem S_entry (h : Fin 8) (k j : Fin 128) : S (E0 m c) (ix4 (0 : Fin 1) h k j) = 0 := by
  unfold S E0
  simp only [entryContents, afterL_cons, afterL_nil]
  after_reads_simp
  simp -implicitDefEqProofs only [TRef.toBuf, TRef.ofBuf, cast_cast, cast_eq, id_eq]
  clean_types
  pointwise []

theorem C_entry : C (E0 m c) = num 0 := ctr_entry m c

theorem later (t s : Fin 64) : IntOp.cmpi .sge (BitVec.ofNat 32 t.val) (BitVec.ofNat 32 s.val) = BitVec.ofBool (decide (s ≤ t)) := by
  revert t s
  decide +kernel

theorem M_entry (t s : Fin 64) : MM (E0 m c) (ix2 t s) = BitVec.ofBool (decide (s ≤ t)) := by
  unfold MM E0
  simp only [entryContents, afterL_cons, afterL_nil]
  after_reads_simp
  simp -implicitDefEqProofs only [TRef.toBuf, TRef.ofBuf, cast_cast, cast_eq, id_eq]
  clean_types
  pointwise []
  show Scalar.select (IntOp.cmpi CmpIPredicate.sge (BitVec.ofNat 32 t.val + 0#32) (BitVec.ofNat 32 s.val)) 1#1 0#1 = _
  rw [BitVec.add_zero, later]
  cases decide (s ≤ t) <;> rfl

/-! What the scan carries and leaves. -/

/-- A chunk's running sums. -/
def cu (N : Fin 128) (h : Fin 8) (t : Fin 64) (k : Fin 128) : EReal := ∑ s : Fin 64, if s ≤ t then Ideal.log (fa m c N h s k) else 0

/-- The values and the gated queries of a chunk. -/
def vv (N : Fin 128) (h : Fin 8) (s : Fin 64) (j : Fin 128) : EReal := PJ m c (row N s) (col 4096 (by omega) h j)
@[inherit_doc vv]
def qq (N : Fin 128) (h : Fin 8) (s : Fin 64) (k : Fin 128) : EReal :=
  PJ m c (row N s) (col 2048 (by omega) h k) * sg (PJ m c (row N s) (col 2048 (by omega) h k))

/-- A chunk's number. -/
abbrev nn (N : ℕ) : Fin 128 := ⟨N % 128, Nat.mod_lt _ (by omega)⟩

/-- The state before chunk `N`: a head's rows are the keys, its columns the values. -/
def SR (m : (ℓ : Loc nD τ sig) → Buf (Elt Ideal) ℓ) (c : Dev nD) : ℕ → Fin 8 → Fin 128 → Fin 128 → EReal
  | 0, _, _, _ => 0
  | N + 1, h, k, j => Ideal.exp (cu m c (nn N) h 63 k) * SR m c N h k j
      + ∑ s : Fin 64, (1 - fa m c (nn N) h s k) * Ideal.exp (cu m c (nn N) h 63 k - cu m c (nn N) h s k) * vv m c (nn N) h s j

/-- What chunk `N` gives. -/
def OR (N : Fin 128) (h : Fin 8) (t : Fin 64) (j : Fin 128) : EReal :=
  (∑ k : Fin 128, qq m c N h t k * Ideal.exp (cu m c N h t k) * SR m c N.val h k j)
    + ∑ s : Fin 64, (∑ k : Fin 128, qq m c N h t k * (1 - fa m c N h s k)
        * Ideal.exp (Scalar.select (BitVec.ofBool (decide (s ≤ t))) (cu m c N h t k - cu m c N h s k) (Ideal.ofBits FTy.f32 0xFF800000#32))) * vv m c N h s j

/-- What holds before trip `n`. -/
structure Inv (n : ℕ) (V : Valuation τ sig (Elt Ideal)) : Prop where
  ctr : C V = num n
  q : Q V = Q (E0 m c)
  k : K V = K (E0 m c)
  w : W V = W (E0 m c)
  l : L V = L (E0 m c)
  mm : MM V = MM (E0 m c)
  s : ∀ h k j, S V (ix4 (0 : Fin 1) h k j) = SR m c n h k j
  oo : ∀ (P : Fin 128), P.val < n → ∀ h t j, OO V (ix5 P (0 : Fin 1) h t j) = OR m c P h t j
  ss : ∀ (P : Fin 128), P.val < n → ∀ h k j, SS V (ix5 P (0 : Fin 1) h k j) = SR m c P.val h k j

theorem cs_eq (N : Fin 128) (h : Fin 8) (t : Fin 64) (k : Fin 128) : cs N (L (E0 m c)) h t k = cu m c N h t k :=
  Finset.sum_congr rfl fun s _ => by rw [L_entry]

section Held

variable {n : ℕ} {V : Valuation τ sig (Elt Ideal)} (i : Inv m c n V)
include i

theorem held_l (N : Fin 128) (h : Fin 8) (t : Fin 64) (k : Fin 128) : cs N (L V) h t k = cu m c N h t k :=
  (congrArg (fun A => cs N A h t k) i.l).trans (cs_eq m c N h t k)
theorem held_q (N : Fin 128) (h : Fin 8) (s : Fin 64) (k : Fin 128) : Q V (ix5 N (0 : Fin 1) h s k) = qq m c N h s k :=
  (congrFun i.q _).trans (Q_entry m c N h s k)
theorem held_k (N : Fin 128) (h : Fin 8) (s : Fin 64) (k : Fin 128) : K V (ix5 N (0 : Fin 1) h s k) = 1 - fa m c N h s k :=
  (congrFun i.k _).trans (K_entry m c N h s k)
theorem held_w (N : Fin 128) (h : Fin 8) (s : Fin 64) (k : Fin 128) : W V (ix5 N (0 : Fin 1) h s k) = vv m c N h s k :=
  (congrFun i.w _).trans (W_entry m c N h s k)
theorem held_m (t s : Fin 64) : MM V (ix2 t s) = BitVec.ofBool (decide (s ≤ t)) := (congrFun i.mm _).trans (M_entry m c t s)

end Held

theorem out_eq (V : Valuation τ sig (Elt Ideal)) (N : Fin 128) (i : Inv m c N.val V) (h : Fin 8) (t : Fin 64) (j : Fin 128) :
    out V N h t j = OR m c N h t j := by
  unfold out OR
  refine congrArg₂ (· + ·) (Finset.sum_congr rfl fun k _ => ?_) (Finset.sum_congr rfl fun s _ => ?_)
  · rw [held_q m c i, held_l m c i, i.s]
  · refine congrArg₂ (· * ·) (Finset.sum_congr rfl fun k _ => ?_) (held_w m c i N h s j)
    rw [held_q m c i, held_k m c i, held_m m c i, held_l m c i, held_l m c i]

theorem inv_step (V : Valuation τ sig (Elt Ideal)) (n : ℕ) (hn : n < 128) (i : Inv m c n V) : Inv m c (n + 1) (STEP V) where
  ctr := (STEP_main_v37_5 V).trans (count_at V ⟨n, hn⟩ i.ctr)
  q := (STEP_main_v37_0 V).trans i.q
  k := (STEP_main_v37_1 V).trans i.k
  w := (STEP_main_v37_2 V).trans i.w
  l := (STEP_main_v37_3 V).trans i.l
  mm := (STEP_main_v37_4 V).trans i.mm
  s h k j := by
    refine (congrFun (STEP_main_v37_6 V) _).trans ((state_at V ⟨n, hn⟩ i.ctr h k j).trans ?_)
    have e : nn n = ⟨n, hn⟩ := Fin.ext (Nat.mod_eq_of_lt hn)
    rw [SR, e, held_l m c i, i.s]
    refine congrArg₂ (· + ·) rfl (Finset.sum_congr rfl fun s _ => ?_)
    rw [held_k m c i, held_l m c i, held_w m c i]
  oo P hP h t j := by
    refine (congrFun (STEP_main_v37_7 V) _).trans ((outs_at V ⟨n, hn⟩ i.ctr P h t j).trans ?_)
    by_cases e : P = ⟨n, hn⟩
    · subst e
      rw [if_pos rfl]
      exact out_eq m c V ⟨n, hn⟩ i h t j
    · rw [if_neg e]
      exact i.oo P (by have : P.val ≠ n := fun q => e (Fin.ext q); omega) h t j
  ss P hP h k j := by
    refine (congrFun (STEP_main_v37_8 V) _).trans ((states_at V ⟨n, hn⟩ i.ctr P h k j).trans ?_)
    by_cases e : P = ⟨n, hn⟩
    · subst e
      rw [if_pos rfl]
      exact i.s h k j
    · rw [if_neg e]
      exact i.ss P (by have : P.val ≠ n := fun q => e (Fin.ext q); omega) h k j

theorem inv (n : ℕ) (hn : n ≤ 128) : Inv m c n (STEP^[n] (E0 m c)) := by
  induction n with
  | zero => exact ⟨C_entry m c, rfl, rfl, rfl, rfl, rfl, S_entry m c, fun P hP => absurd hP (by omega), fun P hP => absurd hP (by omega)⟩
  | succ n ih =>
    rw [Function.iterate_succ_apply']
    exact inv_step m c _ n (by omega) (ih (by omega))

/-! The results. -/

theorem place (o : FVec Ideal S128x1x8x64x128 .f32) (r : Fin 8192) (h : Fin 8) (k : Fin 128) :
    (shapeCast S1x8192x8x128 (transpose S1x128x64x8x128 [1, 0, 3, 2, 4] o transposes_S128x1x8x64x128_S1x128x64x8x128_1_0_3_2_4 : FVec Ideal S1x128x64x8x128 .f32)
        shapeCasts_S1x128x64x8x128_S1x8192x8x128 : FVec Ideal S1x8192x8x128 .f32) (ix4 (0 : Fin 1) r h k)
      = o (ix5 (⟨r.val / 64, by omega⟩ : Fin 128) (0 : Fin 1) h (⟨r.val % 64, by omega⟩ : Fin 64) k) := by
  pointwise []

/-- A column of a head among the heads side by side. -/
abbrev at128 (h : Fin 8) (k : Fin 128) : Fin 1024 := ⟨128 * h.val + k.val, by omega⟩

variable (V : Valuation τ sig (Elt Ideal))

/-- A result row's chunk and its row there. -/
abbrev ch (r : Fin 8192) : Fin 128 := ⟨r.val / 64, by omega⟩
@[inherit_doc ch]
abbrev rr (r : Fin 8192) : Fin 64 := ⟨r.val % 64, by omega⟩

theorem side (x : FVec Ideal S1x8192x8x128 .f32) (r : Fin 8192) (h : Fin 8) (k : Fin 128) :
    (shapeCast S1x8192x1024 x shapeCasts_S1x8192x8x128_S1x8192x1024 : FVec Ideal S1x8192x1024 .f32) (ix3 (0 : Fin 1) r (at128 h k)) = x (ix4 (0 : Fin 1) r h k) := by
  pointwise []
  exact congrArg x (congrArg₂ (ix4 _ _) (Fin.ext (by dsimp only; omega)) (Fin.ext (by dsimp only; omega)))

theorem side' (x : FVec Ideal S1x8192x8x128 .f32) (r : Fin 8192) (h : Fin 8) (k : Fin 128) :
    (shapeCast S8192x1024 x shapeCasts_S1x8192x8x128_S8192x1024 : FVec Ideal S8192x1024 .f32) (ix2 r (at128 h k)) = x (ix4 (0 : Fin 1) r h k) := by
  pointwise []
  exact congrArg x (congrArg₂ (ix4 _ _) (Fin.ext (by dsimp only; omega)) (Fin.ext (by dsimp only; omega)))

theorem v58_at (r : Fin 8192) (h : Fin 8) (k : Fin 128) :
    (out_main_v58 V : FVec Ideal S8192x1024 .f32) (ix2 r (at128 h k)) = OO V (ix5 (ch r) (0 : Fin 1) h (rr r) k) := by
  unfold out_main_v58
  exact (side' _ r h k).trans (place (OO V) r h k)

theorem turned (x : FVec Ideal S128x1x8x128x128 .f32) (N : Fin 128) (h : Fin 8) (j k : Fin 128) :
    (shapeCast S128x1024x128 (transpose S128x8x128x128 [0, 1, 3, 2] (shapeCast S128x8x128x128 x shapeCasts_S128x1x8x128x128_S128x8x128x128 : FVec Ideal S128x8x128x128 .f32)
        transposes_S128x8x128x128_S128x8x128x128_0_1_3_2 : FVec Ideal S128x8x128x128 .f32) shapeCasts_S128x8x128x128_S128x1024x128 : FVec Ideal S128x1024x128 .f32)
      (ix3 N (at128 h j) k) = x (ix5 N (0 : Fin 1) h k j) := by
  pointwise []
  exact congrArg₂ (fun (a : Fin 8) (b : Fin 128) => x (ix5 N (0 : Fin 1) a k b)) (Fin.ext (by dsimp only; omega)) (Fin.ext (by dsimp only; omega))

theorem v63_at (N : Fin 128) (h : Fin 8) (j k : Fin 128) :
    (out_main_v63 V : FVec Ideal S128x1024x128 .f32) (ix3 N (at128 h j) k) = SS V (ix5 N (0 : Fin 1) h k j) := by
  unfold out_main_v63
  exact turned (SS V) N h j k

/-- The gated and scaled result at a position, of a row's results. -/
def gated (o : Fin 128 → EReal) (g z : EReal) (k : Fin 128) : EReal :=
  o k * Ideal.rsqrt (Ideal.div (∑ l : Fin 128, o l * o l) (Ideal.ofBits FTy.f32 0x43000000#32) + Ideal.ofBits FTy.f32 0x358637BD#32) * g * (z * sg z)

/-- The normalised results, and the gate, as arrays. -/
def normed (o : FVec Ideal S1x8192x8x128 .f32) (g : FVec Ideal S1x128 .f32) : FVec Ideal S1x8192x8x128 .f32 :=
  mulf (mulf o (broadcastInDim S1x8192x8x128 ![0, 1, 2, 3] bcast_S1x8192x8x1_S1x8192x8x128_0_1_2_3 (Host.rsqrt (addf
      (Host.divf (broadcastInDim S1x8192x8x1 ![0, 1, 2] bcast_S1x8192x8_S1x8192x8x1_0_1_2
          (Host.reduceAdd (mulf o o) (constant S_ .f32 0x00000000#32) reducesTo_S1x8192x8x128_S1x8192x8_d3 h_S_))
        (broadcastInDim S1x8192x8x1 ![] bcast_S_S1x8192x8x1 (constant S_ .f32 0x43000000#32)))
      (broadcastInDim S1x8192x8x1 ![] bcast_S_S1x8192x8x1 (constant S_ .f32 0x358637BD#32))))))
    (broadcastInDim S1x8192x8x128 ![0, 1, 2, 3] bcast_S1x1x1x128_S1x8192x8x128_0_1_2_3
      (broadcastInDim S1x1x1x128 ![3] bcast_S128_S1x1x1x128_3 (shapeCast S128 g shapeCasts_S1x128_S128 : FVec Ideal S128 .f32)))
@[inherit_doc normed]
def gates (P : FVec Ideal S1x8192x8192 .f32) : FVec Ideal S1x8192x1024 .f32 :=
  let z : FVec Ideal S1x8192x1024 .f32 := extractStridedSlice S1x8192x1024 ![0, 0, 5120] P slices_S1x8192x8192_S1x8192x1024_0_0_5120
  mulf z (Host.divf (broadcastInDim S1x8192x1024 ![] bcast_S_S1x8192x1024 (constant S_ .f32 0x3F800000#32))
    (addf (broadcastInDim S1x8192x1024 ![] bcast_S_S1x8192x1024 (constant S_ .f32 0x3F800000#32)) (Host.exp (Host.negf z))))

theorem normed_at (o : FVec Ideal S1x8192x8x128 .f32) (g : FVec Ideal S1x128 .f32) (r : Fin 8192) (h : Fin 8) (k : Fin 128) :
    normed o g (ix4 (0 : Fin 1) r h k) = o (ix4 (0 : Fin 1) r h k) * Ideal.rsqrt (Ideal.div (∑ l : Fin 128, o (ix4 (0 : Fin 1) r h l) * o (ix4 (0 : Fin 1) r h l))
      (Ideal.ofBits FTy.f32 0x43000000#32) + Ideal.ofBits FTy.f32 0x358637BD#32) * g (ix2 (0 : Fin 1) k) := by
  unfold normed
  pointwise []

theorem gates_at (P : FVec Ideal S1x8192x8192 .f32) (r : Fin 8192) (h : Fin 8) (k : Fin 128) :
    gates P (ix3 (0 : Fin 1) r (at128 h k)) = P (ix3 (0 : Fin 1) r (col 5120 (by omega) h k)) * sg (P (ix3 (0 : Fin 1) r (col 5120 (by omega) h k))) := by
  unfold gates sg
  pointwise []

theorem joined (x : FVec Ideal S1x8192x8x128 .f32) (z : FVec Ideal S1x8192x1024 .f32) (r : Fin 8192) (h : Fin 8) (k : Fin 128) :
    (truncf .bf16 (shapeCast S8192x1024 (mulf (shapeCast S1x8192x1024 x shapeCasts_S1x8192x8x128_S1x8192x1024) z) shapeCasts_S1x8192x1024_S8192x1024
      : FVec Ideal S8192x1024 .f32) bitsLt_bf16_f32 : FVec Ideal S8192x1024 .bf16) (ix2 r (at128 h k))
      = x (ix4 (0 : Fin 1) r h k) * z (ix3 (0 : Fin 1) r (at128 h k)) := by
  rw [← side x r h k]
  generalize (shapeCast S1x8192x1024 x shapeCasts_S1x8192x8x128_S1x8192x1024 : FVec Ideal S1x8192x1024 .f32) = y
  pointwise []

theorem v60_at (r : Fin 8192) (h : Fin 8) (k : Fin 128) :
    (out_main_v60 V : FVec Ideal S8192x1024 .bf16) (ix2 r (at128 h k))
      = gated (fun k => OO V (ix5 (ch r) (0 : Fin 1) h (rr r) k)) ((V (Proc.devRef .tc main_arg2) : FVec Ideal S1x128 .f32) (ix2 (0 : Fin 1) k))
          ((V (Proc.devRef .tc main_arg0) : FVec Ideal S1x8192x8192 .f32) (ix3 (0 : Fin 1) r (col 5120 (by omega) h k))) k := by
  unfold out_main_v60 gated
  refine (joined (normed _ (V (Proc.devRef .tc main_arg2) : FVec Ideal S1x128 .f32)) (gates (V (Proc.devRef .tc main_arg0) : FVec Ideal S1x8192x8192 .f32)) r h k).trans ?_
  rw [normed_at, gates_at, place (OO V)]
  simp only [place (OO V)]

end Cert.HgrnFwdReferenceIdeal.Arr

end
-- ==== Proof.HgrnEq.lean ====
module

public import proofs.«01_k».proof.Defs
public import proofs.«01_k».proof.Proof.HgrnValue
public import proofs.«01_k».proof.Proof.HgrnRef
public import proofs.«01_k».proof.Proof.Gen.Pre_hgrn_fwd_pre

@[expose] public section

set_option maxRecDepth 16384

noncomputable section

/-! The recurrence's forward kernel and its reference leave the same three arrays. -/

namespace Cert.HgrnEq

open Idealize.ShloMosaic Idealize.ShloMosaic.TcCoe Idealize.SL.Sem Cert.Reals

/-! Sums of logarithms that are all real, or all minus infinity. -/

/-- All values are real, or all are minus infinity. -/
def Even {n : ℕ} (x : Fin n → EReal) : Prop := (∀ s, R (x s)) ∨ ∀ s, x s = ⊥

/-- The running sums. -/
abbrev run (x : Fin 64 → EReal) (t : Fin 64) : EReal := ∑ s : Fin 64, if s ≤ t then x s else 0

theorem run_bot {x : Fin 64 → EReal} (h : ∀ s, x s = ⊥) (t : Fin 64) : run x t = ⊥ := by
  unfold run
  rw [← Finset.add_sum_erase _ _ (Finset.mem_univ t), if_pos le_rfl, h t, EReal.bot_add]

theorem run_even {x : Fin 64 → EReal} (h : Even x) : Even (run x) := by
  rcases h with h | h
  · exact Or.inl fun t => Cert.Reals.sum fun s => by
      by_cases e : s ≤ t
      · rw [if_pos e]; exact h s
      · rw [if_neg e]; exact ⟨0, EReal.coe_zero.symm⟩
  · exact Or.inr (run_bot h)

theorem run_split {x : Fin 64 → EReal} (h : Even x) (t : Fin 64) :
    (∑ s : Fin 64, (if s ≤ t then 1 else 0) * x s) + (∑ s : Fin 64, (if s ≤ t then 1 else 0) * (x s - x s)) = run x t := by
  have e : ∀ y : Fin 64 → EReal, (∑ s : Fin 64, (if s ≤ t then 1 else 0) * y s) = run y t := fun y =>
    Finset.sum_congr rfl fun s _ => by
      by_cases e : s ≤ t
      · rw [if_pos e, if_pos e, one_mul]
      · rw [if_neg e, if_neg e, zero_mul]
  rw [e x, e fun s => x s - x s]
  rcases h with h | h
  · have z : run (fun s => x s - x s) t = 0 := Finset.sum_eq_zero fun s _ => by
      dsimp only
      rw [Cert.Reals.sub_self (h s), ite_self]
    rw [z, add_zero]
  · rw [run_bot h, EReal.bot_add]

/-! Exponentials of differences of three such values. -/

section Three

variable {x : Fin 64 → EReal} (h : Even x) (t u v : Fin 64)
include h

theorem back (q : EReal) : q * Ideal.exp (x t - x u) * Ideal.exp (x u) = q * Ideal.exp (x t) := by
  rw [mul_assoc]
  refine congrArg (q * ·) ?_
  rcases h with h | h
  · obtain ⟨a, ha⟩ := h t
    obtain ⟨b, hb⟩ := h u
    rw [ha, hb, ← EReal.coe_sub, Ideal.exp_coe, Ideal.exp_coe, Ideal.exp_coe, ← EReal.coe_mul, ← Real.exp_add, sub_add_cancel]
  · rw [h t, h u, Ideal.exp_bot, mul_zero]

theorem meet : Ideal.exp (x t - x u) * Ideal.exp (0 - (x v - x u)) = Ideal.exp (x t - x v) := by
  rcases h with h | h
  · obtain ⟨a, ha⟩ := h t
    obtain ⟨b, hb⟩ := h u
    obtain ⟨d, hd⟩ := h v
    rw [ha, hb, hd, ← EReal.coe_zero, ← EReal.coe_sub, ← EReal.coe_sub, ← EReal.coe_sub, ← EReal.coe_sub, Ideal.exp_coe, Ideal.exp_coe,
      Ideal.exp_coe, ← EReal.coe_mul, ← Real.exp_add]
    congr 2
    ring
  · have z : (⊥ : EReal) - ⊥ = ⊥ := by rw [sub_eq_add_neg, EReal.bot_add]
    rw [h t, h u, h v, z, Ideal.exp_bot, zero_mul]

theorem meet' (k : EReal) : k * Ideal.exp (0 - (x v - x u)) * Ideal.exp (x t - x u) = k * Ideal.exp (x t - x v) := by
  rw [mul_assoc, mul_comm (Ideal.exp (0 - _)), meet h]

theorem meet₂ (q k : EReal) : q * Ideal.exp (x t - x u) * (k * Ideal.exp (0 - (x v - x u))) = q * k * Ideal.exp (x t - x v) := by
  rw [mul_mul_mul_comm, meet h]

end Three

/-! The decay factors. -/

/-- With a real gate and a nonnegative bound, the factor's logarithm is real, or minus infinity whatever the gate. -/
theorem factor (l : EReal) (hl : 0 ≤ l) (f : Fin 64 → EReal) (hf : ∀ s, R (f s)) :
    Even fun s => Ideal.log (l + (1 - l) * Ideal.logistic (f s)) := by
  have pos : ∀ a : ℝ, 0 < (1 + Real.exp (-a))⁻¹ ∧ (1 + Real.exp (-a))⁻¹ < 1 := fun a => by
    have p := Real.exp_pos (-a)
    exact ⟨by positivity, inv_lt_one_of_one_lt₀ (by linarith)⟩
  induction l with
  | bot => exact absurd hl (by simp)
  | coe l =>
    left
    intro s
    dsimp only
    obtain ⟨a, ha⟩ := hf s
    have h0 : (0 : ℝ) ≤ l := by exact_mod_cast hl
    obtain ⟨p, q⟩ := pos a
    rw [ha, Ideal.logistic_coe, ← EReal.coe_one, ← EReal.coe_sub, ← EReal.coe_mul, ← EReal.coe_add, Ideal.log_coe, if_neg]
    · exact ⟨_, rfl⟩
    · rw [not_le]
      nlinarith
  | top =>
    right
    intro s
    dsimp only
    obtain ⟨a, ha⟩ := hf s
    rw [ha, Ideal.logistic_coe]
    have z : (1 : EReal) - ⊤ = ⊥ := by rw [sub_eq_add_neg, EReal.neg_top, EReal.add_bot]
    rw [z, EReal.bot_mul_coe_of_pos (pos a).1, EReal.add_bot, Ideal.log_bot]

/-! The two programs, on equal arguments. -/

variable (m : (ℓ : Loc HgrnFwdIdeal.nD HgrnFwdIdeal.τ HgrnFwdIdeal.sig) → Buf (Elt Ideal) ℓ) (c : Dev HgrnFwdIdeal.nD)
variable (m' : (ℓ : Loc HgrnFwdReferenceIdeal.nD HgrnFwdReferenceIdeal.τ HgrnFwdReferenceIdeal.sig) → Buf (Elt Ideal) ℓ)

/-- The arguments are the same, the gates real and the bounds nonnegative. -/
structure Same : Prop where
  pj : ∀ r l, HgrnFwdIdeal.Arr.PJ m c r l = HgrnFwdReferenceIdeal.Arr.PJ m' c r l
  lb : ∀ h k, HgrnFwdIdeal.Arr.LB m c h k = HgrnFwdReferenceIdeal.Arr.LB m' c h k
  gn : ∀ k, HgrnFwdIdeal.Arr.GN m c k = HgrnFwdReferenceIdeal.Arr.GN m' c k
  gate : ∀ (r : Fin 8192) h k, R (HgrnFwdReferenceIdeal.Arr.PJ m' c r (HgrnFwdReferenceIdeal.Arr.col 3072 (by omega) h k))
  bound : ∀ h k, 0 ≤ HgrnFwdReferenceIdeal.Arr.LB m' c h k

open Cert.HgrnFwdIdeal.Arr (IN off SK)
open Cert.HgrnFwdReferenceIdeal.Arr (nn SR OR cu ch rr)

theorem row_eq (N : ℕ) (s : Fin 64) : HgrnFwdIdeal.Arr.row (8 * (N / 8) + (off N).val) s = HgrnFwdReferenceIdeal.Arr.row (nn N) s :=
  Fin.ext (by dsimp only; omega)

theorem one : HgrnFwdIdeal.Point.ow = 1 := Cert.Reals.one_word
theorem th_logistic (x : EReal) : HgrnFwdIdeal.Point.th x = Ideal.logistic x := Cert.Reals.th_eq x
theorem sg_logistic (x : EReal) : HgrnFwdReferenceIdeal.Arr.sg x = Ideal.logistic x := rfl

variable {m c m'}

section

variable (e : Same m c m') (N : ℕ) (h : Fin 8)
include e

theorem part_eq (o : ℕ) (ho : o ≤ 7168) (s : Fin 64) (k : Fin 128) :
    HgrnFwdIdeal.Arr.part m c o ho (8 * (N / 8) + (off N).val) h (ix2 s k)
      = HgrnFwdReferenceIdeal.Arr.PJ m' c (HgrnFwdReferenceIdeal.Arr.row (nn N) s) (HgrnFwdReferenceIdeal.Arr.col o ho h k) := by
  show HgrnFwdIdeal.Arr.PJ m c (HgrnFwdIdeal.Arr.row (8 * (N / 8) + (off N).val) s) _ = _
  rw [row_eq]
  exact e.pj _ _

theorem fa_eq (s : Fin 64) (k : Fin 128) :
    HgrnFwdIdeal.Point.fa (IN m c (N / 8)) (off N) h s k = HgrnFwdReferenceIdeal.Arr.fa m' c (nn N) h s k := by
  unfold HgrnFwdIdeal.Point.fa HgrnFwdReferenceIdeal.Arr.fa
  rw [th_logistic, sg_logistic, ← e.lb, ← part_eq e N h 3072 (by omega) s k, ← HgrnFwdIdeal.Arr.V_v1 m c h k, one]
  rfl

theorem logs (k : Fin 128) : Even fun s => Ideal.log (HgrnFwdReferenceIdeal.Arr.fa m' c (nn N) h s k) :=
  factor _ (e.bound h k) _ fun s => e.gate _ h k

theorem sums (k : Fin 128) : Even fun t => cu m' c (nn N) h t k := run_even (logs e N h k)

theorem bb_eq (t : Fin 64) (k : Fin 128) : HgrnFwdIdeal.Point.bb (IN m c (N / 8)) (off N) h t k = cu m' c (nn N) h t k := by
  refine Eq.trans ?_ (run_split (logs e N h k) t)
  unfold HgrnFwdIdeal.Point.bb
  refine congrArg₂ (· + ·) (Finset.sum_congr rfl fun s _ => ?_) (Finset.sum_congr rfl fun s _ => ?_)
  · rw [fa_eq e]
  · rw [fa_eq e]

theorem qq_eq (t : Fin 64) (k : Fin 128) : HgrnFwdIdeal.Point.qq (IN m c (N / 8)) (off N) h t k = HgrnFwdReferenceIdeal.Arr.qq m' c (nn N) h t k := by
  unfold HgrnFwdIdeal.Point.qq HgrnFwdReferenceIdeal.Arr.qq
  rw [th_logistic, sg_logistic, ← part_eq e N h 2048 (by omega) t k]
  rfl

theorem kk_eq (t : Fin 64) (k : Fin 128) : HgrnFwdIdeal.Point.kk (IN m c (N / 8)) (off N) h t k = 1 - HgrnFwdReferenceIdeal.Arr.fa m' c (nn N) h t k := by
  unfold HgrnFwdIdeal.Point.kk
  rw [fa_eq e, one]

theorem vv_eq (t : Fin 64) (j : Fin 128) : (IN m c (N / 8)).v (off N) h (ix2 t j) = HgrnFwdReferenceIdeal.Arr.vv m' c (nn N) h t j :=
  part_eq e N h 4096 (by omega) t j

theorem zz_eq (t : Fin 64) (j : Fin 128) : (IN m c (N / 8)).z (off N) h (ix2 t j)
    = HgrnFwdReferenceIdeal.Arr.PJ m' c (HgrnFwdReferenceIdeal.Arr.row (nn N) t) (HgrnFwdReferenceIdeal.Arr.col 5120 (by omega) h j) :=
  part_eq e N h 5120 (by omega) t j

end

theorem start (h : Fin 8) (j k : Fin 128) : SK m c 0 h (ix2 j k) = 0 := by
  show HgrnFwdIdeal.Block.split (F := Ideal) (HgrnFwdIdeal.Gen.k0_pay2 (F := Ideal)) h (ix2 j k) = 0
  unfold HgrnFwdIdeal.Block.split HgrnFwdIdeal.Gen.k0_pay2
  pointwise []

/-- The state before every chunk. -/
theorem state_eq (e : Same m c m') (N : ℕ) (h : Fin 8) (j k : Fin 128) : SK m c N h (ix2 j k) = SR m' c N h k j := by
  induction N with
  | zero => exact start h j k
  | succ N ih =>
    show HgrnFwdIdeal.Block.next (IN m c (N / 8)) (off N) h (SK m c N h) (ix2 j k) = _
    rw [HgrnFwdIdeal.Point.next_at, SR, ih, bb_eq e, mul_comm]
    refine congrArg₂ (· + ·) rfl (Finset.sum_congr rfl fun u _ => ?_)
    rw [vv_eq e, kk_eq e, bb_eq e, bb_eq e, meet' (sums e N h k) 63 31 u, mul_comm]

/-- A chunk's result. -/
theorem res_eq (e : Same m c m') (N : Fin 128) (h : Fin 8) (t : Fin 64) (j : Fin 128) :
    HgrnFwdIdeal.Block.res (IN m c (N.val / 8)) (off N.val) h (SK m c N.val h) (ix2 t j) = OR m' c N h t j := by
  have n : nn N.val = N := Fin.ext (Nat.mod_eq_of_lt N.isLt)
  rw [HgrnFwdIdeal.Point.res_at]
  unfold OR
  refine congrArg₂ (· + ·) (Finset.sum_congr rfl fun k _ => ?_) (Finset.sum_congr rfl fun s _ => congrArg₂ (· * ·) ?_ ?_)
  · rw [state_eq e, qq_eq e, bb_eq e, bb_eq e, back (sums e N.val h k) t 31, n]
  · unfold HgrnFwdIdeal.Point.aa
    by_cases q : s ≤ t
    · rw [if_pos q, decide_eq_true q]
      refine Finset.sum_congr rfl fun k _ => ?_
      rw [qq_eq e, kk_eq e, bb_eq e, bb_eq e, bb_eq e, meet₂ (sums e N.val h k) t 31 s, n]
      rfl
    · rw [if_neg q, decide_eq_false q]
      refine (Finset.sum_eq_zero fun k _ => ?_).symm
      show _ * Ideal.exp (Ideal.ofBits FTy.f32 0xFF800000#32) = 0
      rw [show Ideal.ofBits FTy.f32 0xFF800000#32 = ⊥ by simp [Ideal.ofBits, Ideal.ieee], Ideal.exp_bot, mul_zero]
  · rw [vv_eq e, n]

/-- A chunk's gated result. -/
theorem gated_eq (e : Same m c m') (N : Fin 128) (h : Fin 8) (t : Fin 64) (j : Fin 128) :
    HgrnFwdIdeal.Block.gated (IN m c (N.val / 8)) (off N.val) h (HgrnFwdIdeal.Block.res (IN m c (N.val / 8)) (off N.val) h (SK m c N.val h)) (ix2 t j)
      = HgrnFwdReferenceIdeal.Arr.gated (OR m' c N h t) (HgrnFwdReferenceIdeal.Arr.GN m' c j)
          (HgrnFwdReferenceIdeal.Arr.PJ m' c (HgrnFwdReferenceIdeal.Arr.row N t) (HgrnFwdReferenceIdeal.Arr.col 5120 (by omega) h j)) j := by
  have n : nn N.val = N := Fin.ext (Nat.mod_eq_of_lt N.isLt)
  rw [HgrnFwdIdeal.Point.gated_at]
  unfold HgrnFwdReferenceIdeal.Arr.gated
  rw [res_eq e, zz_eq e, n, th_logistic, sg_logistic, ← e.gn j]
  refine congrArg (fun z => OR m' c N h t j * Ideal.rsqrt (Ideal.div z _ + _) * _ * _) (Finset.sum_congr rfl fun k _ => ?_)
  rw [res_eq e]

/-! The three arrays. -/

theorem O_eq (e : Same m c m') :
    (HgrnFwdReferenceIdeal.Value.out_main_v58 (HgrnFwdReferenceIdeal.Value.STEP^[128] (HgrnFwdReferenceIdeal.Arr.E0 m' c)) : FVec Ideal HgrnFwdReferenceIdeal.S8192x1024 .f32)
      = HgrnFwdIdeal.Arr.O m c := by
  funext y
  obtain ⟨r, l, rfl⟩ := Cert.Arrays.exists_pair (a := 8192) (b := 1024) y
  have l_eq : l = HgrnFwdReferenceIdeal.Arr.at128 ⟨l.val / 128, by omega⟩ ⟨l.val % 128, by omega⟩ := Fin.ext (by dsimp only; omega)
  refine (congrArg (fun l => HgrnFwdReferenceIdeal.Value.out_main_v58 _ (ix2 r l)) l_eq).trans ?_
  rw [HgrnFwdReferenceIdeal.Arr.v58_at, (HgrnFwdReferenceIdeal.Arr.inv m' c 128 le_rfl).oo (ch r) (ch r).isLt]
  exact (res_eq e (ch r) _ (rr r) _).symm

theorem G_eq (e : Same m c m') :
    (HgrnFwdReferenceIdeal.Value.out_main_v60 (HgrnFwdReferenceIdeal.Value.STEP^[128] (HgrnFwdReferenceIdeal.Arr.E0 m' c)) : FVec Ideal HgrnFwdReferenceIdeal.S8192x1024 .bf16)
      = HgrnFwdIdeal.Arr.G m c := by
  funext y
  obtain ⟨r, l, rfl⟩ := Cert.Arrays.exists_pair (a := 8192) (b := 1024) y
  have l_eq : l = HgrnFwdReferenceIdeal.Arr.at128 ⟨l.val / 128, by omega⟩ ⟨l.val % 128, by omega⟩ := Fin.ext (by dsimp only; omega)
  refine (congrArg (fun l => HgrnFwdReferenceIdeal.Value.out_main_v60 _ (ix2 r l)) l_eq).trans ?_
  refine (HgrnFwdReferenceIdeal.Arr.v60_at _ r _ _).trans (Eq.trans ?_ (gated_eq e (ch r) _ (rr r) _).symm)
  have r_eq : HgrnFwdReferenceIdeal.Arr.row (ch r) (rr r) = r := Fin.ext (by dsimp only; omega)
  rw [r_eq]
  refine congr (congr (congr (congrArg _ (funext fun k => (HgrnFwdReferenceIdeal.Arr.inv m' c 128 le_rfl).oo (ch r) (ch r).isLt _ _ _)) ?_) ?_) rfl
  · exact congrFun (HgrnFwdReferenceIdeal.Value.iter_main_arg2 m' c 128) _
  · exact congrFun (HgrnFwdReferenceIdeal.Value.iter_main_arg0 m' c 128) _

theorem T_eq (e : Same m c m') :
    (HgrnFwdReferenceIdeal.Value.out_main_v63 (HgrnFwdReferenceIdeal.Value.STEP^[128] (HgrnFwdReferenceIdeal.Arr.E0 m' c)) : FVec Ideal HgrnFwdReferenceIdeal.S128x1024x128 .f32)
      = HgrnFwdIdeal.Arr.T m c := by
  funext y
  obtain ⟨N, l, k, rfl⟩ : ∃ (a : Fin 128) (b : Fin 1024) (d : Fin 128), y = ix3 a b d :=
    ⟨y 0, y 1, y 2, funext fun a => match a with | ⟨0, _⟩ => rfl | ⟨1, _⟩ => rfl | ⟨2, _⟩ => rfl⟩
  have l_eq : l = HgrnFwdReferenceIdeal.Arr.at128 ⟨l.val / 128, by omega⟩ ⟨l.val % 128, by omega⟩ := Fin.ext (by dsimp only; omega)
  refine (congrArg (fun l => HgrnFwdReferenceIdeal.Value.out_main_v63 _ (ix3 N l k)) l_eq).trans ?_
  rw [HgrnFwdReferenceIdeal.Arr.v63_at, (HgrnFwdReferenceIdeal.Arr.inv m' c 128 le_rfl).ss N N.isLt]
  exact (state_eq e N.val _ _ k).symm

/-! What the precondition gives. -/

/-- The test "all at least zero" that came out true makes every element nonnegative. -/
theorem nonneg_of_all {s t : Shape} [Subsingleton t.Idx] {u : Shape} {axes : List (Fin s.rank)} (x : FVec Ideal s .f32) (dims : Fin u.rank → Fin s.rank)
    (hb : u.BroadcastsInDim s dims) (h : s.ReducesTo axes t) (hu : 0 < t.numel) (init : t.Idx → BitVec 1) (j : t.Idx)
    (e : Host.reduce IntOp.andi (cmpf .oge x (broadcastInDim s dims hb (constant (F := Ideal) u .f32 0x00000000#32))) init h hu j = 1#1)
    (i : s.Idx) : 0 ≤ x i := by
  have h1 := Host.reduce_andi_all _ _ h hu j e i
  have h2 : Ideal.cmp .oge (x i) (Ideal.ofBits FTy.f32 0x00000000#32) = 1#1 := h1
  rw [show Ideal.ofBits FTy.f32 0x00000000#32 = 0 by simp [Ideal.ofBits, Ideal.ieee]] at h2
  by_contra hn
  have : Ideal.cmp .oge (x i) 0 = 0#1 := by
    unfold Ideal.cmp
    simp only [decide_eq_false hn]
    rfl
  rw [this] at h2
  exact absurd h2 (by decide)

theorem gates_real (h : Cert.Pre_HgrnFwdIdeal_hgrn_fwd_pre (hPre_hgrn_fwd_pre := Cert.Pre_hgrn_fwd_pre.Gen.facts) m) :
    (∀ (r : Fin 8192) h k, R (HgrnFwdIdeal.Arr.PJ m c r (HgrnFwdIdeal.Arr.col 3072 (by omega) h k))) ∧ ∀ h k, 0 ≤ HgrnFwdIdeal.Arr.LB m c h k := by
  have : Subsingleton Cert.Pre_hgrn_fwd_pre.S_.Idx := ⟨fun a b => funext fun i => i.elim0⟩
  have e := congrFun (h c) (fun i => i.elim0)
  unfold Cert.Pre_hgrn_fwd_pre.fn at e
  dsimp only at e
  obtain ⟨h0, h1⟩ := Cert.Finite.both _ _ _ e
  refine ⟨fun r h k => ?_, fun h k => nonneg_of_all _ _ _ _ _ _ _ h1 (ix2 h k)⟩
  obtain ⟨a, ha⟩ := Cert.Finite.real_of_all _ _ _ _ _ _ _ h0 (ix3 (0 : Fin 1) r (HgrnFwdIdeal.Point.at128 h k))
  refine ⟨a, Eq.trans ?_ ha⟩
  unfold HgrnFwdIdeal.Arr.PJ
  generalize (m ((c : Thread HgrnFwdIdeal.nD HgrnFwdIdeal.τ).loc HgrnFwdIdeal.main_arg0)) = A
  refine congrArg (A : Vec Ideal HgrnFwdIdeal.S1x8192x8192 .f32) (funext fun a => ?_)
  match a with
  | ⟨0, _⟩ => rfl
  | ⟨1, _⟩ => exact Fin.ext (by show r.val = 0 + r.val; omega)
  | ⟨2, _⟩ => rfl

variable (m c m') in
/-- Equal memories, and the precondition, give what the comparison asks for. -/
theorem same (h : Cert.Pre_HgrnFwdIdeal_hgrn_fwd_pre (hPre_hgrn_fwd_pre := Cert.Pre_hgrn_fwd_pre.Gen.facts) m)
    (e0 : ∀ i, (m' (((c : Dev HgrnFwdReferenceIdeal.nD).tc : Thread HgrnFwdReferenceIdeal.nD HgrnFwdReferenceIdeal.τ).loc HgrnFwdReferenceIdeal.main_arg0) : Vec Ideal HgrnFwdReferenceIdeal.S1x8192x8192 .f32) i
      = (m ((c : Thread HgrnFwdIdeal.nD HgrnFwdIdeal.τ).loc HgrnFwdIdeal.main_arg0) : Vec Ideal HgrnFwdIdeal.S1x8192x8192 .f32) i)
    (e1 : ∀ i, (m' (((c : Dev HgrnFwdReferenceIdeal.nD).tc : Thread HgrnFwdReferenceIdeal.nD HgrnFwdReferenceIdeal.τ).loc HgrnFwdReferenceIdeal.main_arg1) : Vec Ideal HgrnFwdReferenceIdeal.S8x128 .f32) i
      = (m ((c : Thread HgrnFwdIdeal.nD HgrnFwdIdeal.τ).loc HgrnFwdIdeal.main_arg1) : Vec Ideal HgrnFwdIdeal.S8x128 .f32) i)
    (e2 : ∀ i, (m' (((c : Dev HgrnFwdReferenceIdeal.nD).tc : Thread HgrnFwdReferenceIdeal.nD HgrnFwdReferenceIdeal.τ).loc HgrnFwdReferenceIdeal.main_arg2) : Vec Ideal HgrnFwdReferenceIdeal.S1x128 .f32) i
      = (m ((c : Thread HgrnFwdIdeal.nD HgrnFwdIdeal.τ).loc HgrnFwdIdeal.main_arg2) : Vec Ideal HgrnFwdIdeal.S1x128 .f32) i) :
    Same m c m' := by
  obtain ⟨g, b⟩ := gates_real (c := c) h
  have p : ∀ r l, HgrnFwdIdeal.Arr.PJ m c r l = HgrnFwdReferenceIdeal.Arr.PJ m' c r l := fun r l => (e0 _).symm
  have q : ∀ h k, HgrnFwdIdeal.Arr.LB m c h k = HgrnFwdReferenceIdeal.Arr.LB m' c h k := fun h k => (e1 _).symm
  exact ⟨p, q, fun k => (e2 _).symm, fun r h k => by rw [← p]; exact g r h k, fun h k => by rw [← q]; exact b h k⟩

end Cert.HgrnEq

end
-- ==== Proof.ModEq.lean ====
module

public import proofs.«01_k».proof.Proof.Gen.ModKernelIdeal.Value
public import proofs.«01_k».proof.Proof.Gen.ModReferenceIdeal.Read
public import proofs.«01_k».proof.Proof.Arrays
public import proofs.«01_k».proof.Proof.MergeMath

@[expose] public section

set_option maxRecDepth 16384

noncomputable section

/-! The modulation: the activation of the conditioning row times the device's columns of the weight, and the bias. The
kernel takes the logistic function from the hyperbolic tangent, the reference from the exponential. -/

namespace Cert.ModKernelIdeal.Value

open Cert.ModKernelIdeal Cert.ModKernelIdeal.Gen Idealize.ShloMosaic Idealize.ShloMosaic.TcCoe Idealize.SL.Sem
open Cert.MergeKernelIdeal.Value (th)
open Cert.MergeKernelIdeal.Host (sg)

/-- The value at row `r`, column `k`. -/
def out (x : Vec Ideal S8x1024 .f32) (w : Vec Ideal S1x1024x768 .f32) (b : Vec Ideal S1x768 .f32) (r : Fin 8) (k : Fin 768) : EReal :=
  (∑ l : Fin 1024, x (ix2 r l) * th (x (ix2 r l)) * w (ix3 0 l k)) + b (ix2 0 k)

theorem pay (x : Vec Ideal S8x1024 .f32) (w : Vec Ideal S1024x768 .f32) (b : Vec Ideal S1x768 .f32) (r : Fin 8) (k : Fin 768) :
    k0_pay1 (F := Ideal) x w b (ix2 r k) = (∑ l : Fin 1024, x (ix2 r l) * th (x (ix2 r l)) * w (ix2 l k)) + b (ix2 0 k) := by
  unfold th Cert.MergeKernelIdeal.Value.hw
  pointwise [k0_pay1]

variable (m : (ℓ : Loc nD τ sig) → Buf (Elt Ideal) ℓ) (c : Dev nD)

/-- The value over the arguments as the kernel finds them. -/
def arr : Vec Ideal S8x768 .f32 := fun i =>
  out (m ((c : Thread nD τ).loc main_arg0)) (m ((c : Thread nD τ).loc main_arg1)) (m ((c : Thread nD τ).loc main_arg2)) (i 0) (i 1)

theorem hz : (![0, 0] : Fin 2 → Nat) = fun _ => 0 := funext fun a => by fin_cases a <;> rfl

theorem idx : ∀ t : Fin cfg0.N, (∀ a, win0_0.index t a = 0) ∧ (∀ a, win0_1.index t a = 0) ∧ (∀ a, win0_2.index t a = 0) ∧ ∀ a, win0_3.index t a = 0 :=
  (by decide +kernel : ∀ t : Fin grid0.N, (∀ a, win0_0.index t a = 0) ∧ (∀ a, win0_1.index t a = 0) ∧ (∀ a, win0_2.index t a = 0) ∧ ∀ a, win0_3.index t a = 0)

theorem blk0 (t : Fin cfg0.N) : (iblk m c 0 t : Vec Ideal S8x1024 .f32) = m ((c : Thread nD τ).loc main_arg0) := by
  refine Eq.trans ?_ (V_main_arg0 m c)
  funext y
  unfold iblk
  rw [View.read_apply]
  refine congrArg (V m c main_arg0) (funext fun a => Fin.ext ?_)
  match a with
  | ⟨0, _⟩ => show win0_0.index t 0 * 8 + 1 * (y 0).val = (y 0).val; rw [(idx t).1]; omega
  | ⟨1, _⟩ => show win0_0.index t 1 * 1024 + 1 * (y 1).val = (y 1).val; rw [(idx t).1]; omega

theorem blk1 (t : Fin cfg0.N) (l : Fin 1024) (k : Fin 768) : (iblk m c 1 t : Vec Ideal S1024x768 .f32) (ix2 l k) = (m ((c : Thread nD τ).loc main_arg1) : Vec Ideal S1x1024x768 .f32) (ix3 0 l k) := by
  have e : (V m c main_v0 : Vec Ideal S1024x768 .f32) = shapeCast S1024x768 (m ((c : Thread nD τ).loc main_arg1)) shapeCasts_S1x1024x768_S1024x768 := by
    unfold_abbrev_sides
    after_results
    rfl
  refine Eq.trans ?_ ((congrFun e _).trans (Cert.Arrays.drop_lead _ shapeCasts_S1x1024x768_S1024x768 l k))
  unfold iblk
  rw [View.read_apply]
  refine congrArg (V m c main_v0) (funext fun a => Fin.ext ?_)
  match a with
  | ⟨0, _⟩ => show win0_1.index t 0 * 1024 + 1 * l.val = l.val; rw [(idx t).2.1]; omega
  | ⟨1, _⟩ => show win0_1.index t 1 * 768 + 1 * k.val = k.val; rw [(idx t).2.1]; omega

theorem blk2 (t : Fin cfg0.N) : (iblk m c 2 t : Vec Ideal S1x768 .f32) = m ((c : Thread nD τ).loc main_arg2) := by
  refine Eq.trans ?_ (V_main_arg2 m c)
  funext y
  unfold iblk
  rw [View.read_apply]
  refine congrArg (V m c main_arg2) (funext fun a => Fin.ext ?_)
  match a with
  | ⟨0, _⟩ => show win0_2.index t 0 * 1 + 1 * (y 0).val = (y 0).val; rw [(idx t).2.2.1]; omega
  | ⟨1, _⟩ => show win0_2.index t 1 * 768 + 1 * (y 1).val = (y 1).val; rw [(idx t).2.2.1]; omega

theorem final : (dats m 0 c).arrAt 3 cfg0.N = arr m c := by
  refine (dats m 0 c).arrAt_eq_of_cover 3 (arr m c) (fun t hf => ?_) fun i => ?_
  · rw [flushed3]
    funext y
    rw [View.read_apply]
    have key : ∀ y z : S8x768.Idx, (z 0).val = (y 0).val → (z 1).val = (y 1).val → out0_3 (iblk m c 0 t) (iblk m c 1 t) (iblk m c 2 t) y = arr m c z := by
      intro y z h0 h1
      obtain rfl : z = y := funext fun a => Fin.ext (by fin_cases a <;> assumption)
      obtain ⟨r, k, rfl⟩ := Cert.Arrays.exists_pair (a := 8) (b := 768) z
      unfold out0_3
      rw [View.canon_unit_zero hz]
      simp only [View.ld_unit_zero (S := S8x1024) hz, View.ld_unit_zero (S := S1024x768) hz, View.ld_unit_zero (S := S1x768) hz]
      refine (pay _ _ _ r k).trans ?_
      rw [blk0, blk2]
      exact congrArg₂ (· + ·) (Finset.sum_congr rfl fun l _ => by rw [blk1]; rfl) rfl
    refine key y _ ?_ ?_
    · show win0_3.index t 0 * 8 + 1 * (y 0).val = _
      rw [(idx t).2.2.2]; omega
    · show win0_3.index t 1 * 768 + 1 * (y 1).val = _
      rw [(idx t).2.2.2]; omega
  · have h0 : (i 0 : Nat) < 8 := (i 0).isLt
    have h1 : (i 1 : Nat) < 768 := (i 1).isLt
    have ht : 0 < cfg0.N := by decide
    refine ⟨⟨0, ht⟩, (by decide +kernel : ∀ t : Fin grid0.N, win0_3.flush t = true) _, ?_⟩
    show i ∈ ((View.whole main_v1).slice (win0_3.rect ⟨0, ht⟩)).set
    rw [View.set_slice_whole, Rect.mem_set_unit]
    intro a
    match a with
    | ⟨0, _⟩ => show win0_3.index ⟨0, ht⟩ 0 * 8 ≤ (i 0 : Nat) ∧ (i 0 : Nat) < win0_3.index ⟨0, ht⟩ 0 * 8 + 8; rw [(idx _).2.2.2]; omega
    | ⟨1, _⟩ => show win0_3.index ⟨0, ht⟩ 1 * 768 ≤ (i 1 : Nat) ∧ (i 1 : Nat) < win0_3.index ⟨0, ht⟩ 1 * 768 + 768; rw [(idx _).2.2.2]; omega

section

open Cert.ModReferenceIdeal.Read

theorem ref_silu (x : Vec Ideal S8x1024 .f32) (r : Fin 8) (l : Fin 1024) : val_main_v0 (F := Ideal) x (ix2 r l) = x (ix2 r l) * th (x (ix2 r l)) := by
  rw [← Cert.Reals.sg_th]
  unfold sg
  pointwise [val_main_v0, val_main_call0_v5, val_main_call0_v4, val_main_call0_v3, val_main_call0_v2, val_main_call0_v1, val_main_call0_v0, val_main_call0_cst, val_main_call0_cst_0]

theorem ref_eq (x : Vec Ideal S8x1024 .f32) (w : Vec Ideal S1x1024x768 .f32) (b : Vec Ideal S1x768 .f32) :
    val_main_v6 (F := Ideal) x w b = fun i => out x w b (i 0) (i 1) := by
  funext i
  obtain ⟨r, k, rfl⟩ := Cert.Arrays.exists_pair (a := 8) (b := 768) i
  unfold out
  have h2 : val_main_v2 (F := Ideal) x w (ix2 r k) = ∑ l : Fin 1024, x (ix2 r l) * th (x (ix2 r l)) * w (ix3 0 l k) := by
    pointwise [val_main_v2]
    refine Finset.sum_congr rfl fun l _ => ?_
    rw [ref_silu]
    exact congrArg (_ * ·) (Cert.Arrays.drop_lead w _ l k)
  have h5 : val_main_v5 (F := Ideal) b (ix2 r k) = b (ix2 0 k) := by
    pointwise [val_main_v5, val_main_v4, val_main_v3]
  exact congrArg₂ (· + ·) h2 h5

end

end Cert.ModKernelIdeal.Value
end
-- ==== Proof.ProjRun.lean ====
module

public import proofs.«01_k».proof.Proof.Gen.ProjKernelIdeal.Frame
public import proofs.«01_k».proof.Proof.Arrays
public import Idealize.ShloMosaic.Lib.Pipeline.ValueKit.Partial

@[expose] public section

set_option maxRecDepth 16384

noncomputable section

/-! The run of the projection's two calls: every result ends at the contents the last boundary of the program names. -/

namespace Cert.ProjKernelIdeal.Value

open Cert.ProjKernelIdeal Cert.ProjKernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable (m : (ℓ : Loc nD τ sig) → Buf (Elt Ideal) ℓ) (ρ : Dev nD → PrngReg)

set_option backward.isDefEq.respectTransparency.types false in
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W4 m ρ c b) := by
  refine Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj)) (hu₀ := ?own)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩) (hinit := ?start)
    (QY := fun c s => ∀ b ∈ Pipeline.ucRefs τ sig, s.mem (((c : Thread nD τ)).1, b) = W4 m ρ c b) (hfin := ?last)
    (hQ := fun _ h _ => h)
  case own =>
    iintro Hu; imodintro
    isplitl [Hu]
    · iapply (show (ownU (initOf (Pipeline.cells cfgs cellOf_inj) (Pipeline.launchToks cfgs cellOf_inj)) : sProp (MT nD τ sig Unit (Elt Ideal) ℕ (UR sig nD τ) ℕ))
          ⊢ BI.own (emb₁ (initOf (Pipeline.cells cfgs cellOf_inj) (Pipeline.launchToks cfgs cellOf_inj))) from .rfl)
      iexact Hu
    iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
    iempintro
  case start =>
    refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hh, -, HO, -, Hp, -⟩, -⟩
    imodintro
    isplitl [Hh]; · iexact Hh
    isplitl [Hp]; · iexists _; iexact Hp
    iexists ∅; iexact HO
  case last =>
    intro c s
    iintro ⟨⟨Hh, -⟩, HSI⟩
    unfold StableHlo.held
    imodintro
    iapply (pointsTo_read_all (Pipeline.ucRefs τ sig) (fun b => (((c : Thread nD τ)).1, b)) (W4 m ρ c) s)
    isplitl [Hh] <;> iassumption

end Cert.ProjKernelIdeal.Value
end
-- ==== Proof.ProjHost.lean ====
module

public import proofs.«01_k».proof.Proof.Gen.ProjKernelIdeal.Frame
public import proofs.«01_k».proof.Proof.DhHost
public import proofs.«01_k».proof.Proof.DhRef
public import proofs.«01_k».proof.Proof.Arrays
public import Idealize.ShloMosaic.Lib.Pipeline.ValueKit.Partial
public import Idealize.ShloMosaic.Lib.Pipeline.ValueKit.Acc

@[expose] public section

set_option maxRecDepth 16384

noncomputable section

/-! The input projection: the normalized rows, scaled and shifted, and their product with the weight. The first call
writes the rows, their transpose and the product's first 2048 columns; the second call the other columns. -/

namespace Cert.ProjKernelIdeal.Value

open Cert.ProjKernelIdeal Cert.ProjKernelIdeal.Gen Idealize.ShloMosaic Idealize.ShloMosaic.TcCoe Idealize.ShloMosaic.Tactic Idealize.SL.Sem
open Cert.DhReferenceIdeal.Ref (rs)

/-- The row of the normalized, scaled and shifted input. -/
def hv (x : Vec Ideal S1x8192x1024 .f32) (g sc sh : Vec Ideal S1x1024 .f32) (r : Fin 8192) (l : Fin 1024) : EReal :=
  x (ix3 0 r l) * rs x r * (g (ix2 0 l) * (1 + sc (ix2 0 l))) + sh (ix2 0 l)

/-- Its product with the weight. -/
def pv (x : Vec Ideal S1x8192x1024 .f32) (g sc sh : Vec Ideal S1x1024 .f32) (w : Vec Ideal S1x1024x8192 .f32) (r k : Fin 8192) : EReal :=
  ∑ l : Fin 1024, hv x g sc sh r l * w (ix3 0 l k)

theorem pay1 (x : Vec Ideal S512x1024 .f32) (a b : Vec Ideal S1x1024 .f32) (r : Fin 512) (l : Fin 1024) :
    k0_pay1 (F := Ideal) x a b (ix2 r l) = x (ix2 r l) * Ideal.rsqrt (Ideal.div (∑ k : Fin 1024, x (ix2 r k) * x (ix2 r k)) (Ideal.ofBits .f32 0x44800000#32) + Ideal.ofBits .f32 0x358637BD#32) * a (ix2 0 l) + b (ix2 0 l) := by
  pointwise [k0_pay1]

theorem pay2 (x : Vec Ideal S512x1024 .f32) (a b : Vec Ideal S1x1024 .f32) (r : Fin 512) (l : Fin 1024) :
    k0_pay2 (F := Ideal) x a b (ix2 r l) = k0_pay1 (F := Ideal) x a b (ix2 r l) := rfl

theorem pay3 (x : Vec Ideal S512x1024 .f32) (a b : Vec Ideal S1x1024 .f32) (r : Fin 512) (l : Fin 1024) :
    k0_pay3 (F := Ideal) x a b (ix2 l r) = k0_pay1 (F := Ideal) x a b (ix2 r l) := by
  delta k0_pay3
  generalize k0_pay1 (F := Ideal) x a b = y
  pointwise []

theorem pay4 (x : Vec Ideal S512x1024 .f32) (a b : Vec Ideal S1x1024 .f32) (w : Vec Ideal S1024x2048 .bf16) (r : Fin 512) (k : Fin 2048) :
    k0_pay4 (F := Ideal) x a b w (ix2 r k) = ∑ l : Fin 1024, k0_pay1 (F := Ideal) x a b (ix2 r l) * w (ix2 l k) := by
  delta k0_pay4 k0_pay2
  generalize k0_pay1 (F := Ideal) x a b = y
  pointwise []

theorem rest1 (h : Vec Ideal S512x1024 .bf16) (w : Vec Ideal S1024x2048 .bf16) (r : Fin 512) (k : Fin 2048) :
    k1_pay1 (F := Ideal) h w (ix2 r k) = ∑ l : Fin 1024, h (ix2 r l) * w (ix2 l k) := by
  pointwise [k1_pay1]

variable (m : (ℓ : Loc nD τ sig) → Buf (Elt Ideal) ℓ) (ρ : Dev nD → PrngReg) (c : Dev nD)

/-- The five arguments. -/
def X : Vec Ideal S1x8192x1024 .f32 := m ((c : Thread nD τ).loc main_arg0)
@[inherit_doc X]
def NG : Vec Ideal S1x1024 .f32 := m ((c : Thread nD τ).loc main_arg1)
@[inherit_doc X]
def SC : Vec Ideal S1x1024 .f32 := m ((c : Thread nD τ).loc main_arg2)
@[inherit_doc X]
def SH : Vec Ideal S1x1024 .f32 := m ((c : Thread nD τ).loc main_arg3)
@[inherit_doc X]
def W : Vec Ideal S1x1024x8192 .f32 := m ((c : Thread nD τ).loc main_arg4)

theorem V_v7 (r : Fin 8192) (l : Fin 1024) : (V1 m ρ c main_v7 : Vec Ideal S8192x1024 .f32) (ix2 r l) = X m c (ix3 0 r l) := by
  have e : (V1 m ρ c main_v7 : Vec Ideal S8192x1024 .f32) = shapeCast S8192x1024 (X m c) shapeCasts_S1x8192x1024_S8192x1024 := by
    unfold_abbrev_sides
    after_results
    rfl
  exact (congrFun e _).trans (Cert.Arrays.drop_lead _ _ r l)

theorem V_v6 (l : Fin 1024) (k : Fin 8192) : (V1 m ρ c main_v6 : Vec Ideal S1024x8192 .bf16) (ix2 l k) = W m c (ix3 0 l k) := by
  have e : (V1 m ρ c main_v6 : Vec Ideal S1024x8192 .bf16) = truncf (F := Ideal) (s := S1024x8192) (φ := .f32) .bf16 (shapeCast S1024x8192 (W m c) shapeCasts_S1x1024x8192_S1024x8192) bitsLt_bf16_f32 := by
    unfold_abbrev_sides
    after_results
    rfl
  exact (congrFun e _).trans (Cert.Arrays.drop_lead _ _ l k)

theorem V_v8 (l : Fin 1024) (k : Fin 2048) : (V1 m ρ c main_v8 : Vec Ideal S1024x2048 .bf16) (ix2 l k) = W m c (ix3 0 l ⟨k.val, by omega⟩) := by
  have e : (V1 m ρ c main_v8 : Vec Ideal S1024x2048 .bf16) = extractStridedSlice S1024x2048 ![0, 0] (truncf (F := Ideal) (s := S1024x8192) (φ := .f32) .bf16 (shapeCast S1024x8192 (W m c) shapeCasts_S1x1024x8192_S1024x8192) bitsLt_bf16_f32) slices_S1024x8192_S1024x2048_0_0 := by
    unfold_abbrev_sides
    after_results
    rfl
  rw [e]
  refine Eq.trans ?_ (Cert.Arrays.drop_lead (W m c) shapeCasts_S1x1024x8192_S1024x8192 l ⟨k.val, by omega⟩)
  generalize shapeCast S1024x8192 (W m c) shapeCasts_S1x1024x8192_S1024x8192 = y
  pointwise []

/-- The two rows of the scale and the shift. -/
theorem V_v4 (l : Fin 1024) : (V1 m ρ c main_v4 : Vec Ideal S8x1024 .f32) (ix2 0 l) = NG m c (ix2 0 l) * (1 + SC m c (ix2 0 l))
    ∧ (V1 m ρ c main_v4 : Vec Ideal S8x1024 .f32) (ix2 1 l) = SH m c (ix2 0 l) := by
  have e : (V1 m ρ c main_v4 : Vec Ideal S8x1024 .f32) = concatenate S8x1024 0
      [⟨S1x1024, mulf (F := Ideal) (s := S1x1024) (φ := .f32) (NG m c) (addf (F := Ideal) (s := S1x1024) (φ := .f32) (broadcastInDim S1x1024 ![] bcast_S_S1x1024 (constant (F := Ideal) S_ .f32 0x3F800000#32)) (SC m c))⟩,
       ⟨S1x1024, SH m c⟩,
       ⟨S6x1024, broadcastInDim S6x1024 ![] bcast_S_S6x1024 (constant (F := Ideal) S_ .f32 0x00000000#32)⟩] concatenates_S1x1024_S1x1024_S6x1024_S8x1024_d0 := by
    unfold_abbrev_sides
    after_results
    rfl
  rw [e]
  generalize NG m c = A
  generalize SC m c = B
  generalize SH m c = C
  constructor <;> pointwise [Cert.DhKernelIdeal.Host.one_word]

end Cert.ProjKernelIdeal.Value
end
-- ==== Proof.ProjValue.lean ====
module

public import proofs.«01_k».proof.Proof.ProjHost
public import Idealize.ShloMosaic.Lib.Pipeline.ValueKit.Tiles

@[expose] public section

set_option maxRecDepth 16384

noncomputable section

/-! What each of the two calls leaves in its results. -/

namespace Cert.ProjKernelIdeal.Value

open Cert.ProjKernelIdeal Cert.ProjKernelIdeal.Gen Idealize.ShloMosaic Idealize.ShloMosaic.TcCoe Idealize.ShloMosaic.Tactic Idealize.SL.Sem
open Cert.DhReferenceIdeal.Ref (rs)

variable (m : (ℓ : Loc nD τ sig) → Buf (Elt Ideal) ℓ) (ρ : Dev nD → PrngReg) (c : Dev nD)

theorem hz : (![0, 0] : Fin 2 → Nat) = fun _ => 0 := funext fun a => by fin_cases a <;> rfl

/-- The rows and the product over the arguments as the program finds them. -/
def H (r : Fin 8192) (l : Fin 1024) : EReal := hv (X m c) (NG m c) (SC m c) (SH m c) r l
@[inherit_doc H]
def P (r k : Fin 8192) : EReal := pv (X m c) (NG m c) (SC m c) (SH m c) (W m c) r k

theorem idx0 : ∀ t : Fin cfg0.N, (win0_0.index t = ![t.val, 0]) ∧ (win0_1.index t = ![0, 0]) ∧ (win0_2.index t = ![0, 0])
    ∧ (win0_3.index t = ![t.val, 0]) ∧ (win0_4.index t = ![t.val, 0]) ∧ win0_5.index t = ![0, t.val] :=
  (by decide +kernel : ∀ t : Fin grid0.N, (win0_0.index t = ![t.val, 0]) ∧ (win0_1.index t = ![0, 0]) ∧ (win0_2.index t = ![0, 0])
    ∧ (win0_3.index t = ![t.val, 0]) ∧ (win0_4.index t = ![t.val, 0]) ∧ win0_5.index t = ![0, t.val])

theorem b0 (t : Fin cfg0.N) (r : Fin 512) (l : Fin 1024) (z : Fin 8192) (hr : z.val = t.val * 512 + r.val) :
    (iblk0 (V1 m ρ) c 0 t : Vec Ideal S512x1024 .f32) (ix2 r l) = X m c (ix3 0 z l) := by
  refine Eq.trans ?_ (V_v7 m ρ c z l)
  unfold iblk0
  rw [View.read_apply]
  refine Cert.Arrays.same_pair (V1 m ρ c main_v7) _ (ix2 z l) ?_ ?_
  · show win0_0.index t 0 * 512 + 1 * r.val = z.val
    rw [(idx0 t).1, hr]; show t.val * 512 + _ = _; omega
  · show win0_0.index t 1 * 1024 + 1 * l.val = l.val
    rw [(idx0 t).1]; show 0 * 1024 + _ = _; omega

theorem b1 (t : Fin cfg0.N) (r : Fin 8) (l : Fin 1024) :
    (iblk0 (V1 m ρ) c 1 t : Vec Ideal S8x1024 .f32) (ix2 r l) = (V1 m ρ c main_v4 : Vec Ideal S8x1024 .f32) (ix2 r l) := by
  unfold iblk0
  rw [View.read_apply]
  refine Cert.Arrays.same_pair (V1 m ρ c main_v4) _ (ix2 r l) ?_ ?_
  · show win0_1.index t 0 * 8 + 1 * r.val = r.val
    rw [(idx0 t).2.1]; show 0 * 8 + _ = _; omega
  · show win0_1.index t 1 * 1024 + 1 * l.val = l.val
    rw [(idx0 t).2.1]; show 0 * 1024 + _ = _; omega

theorem b2 (t : Fin cfg0.N) (l : Fin 1024) (k : Fin 2048) :
    (iblk0 (V1 m ρ) c 2 t : Vec Ideal S1024x2048 .bf16) (ix2 l k) = W m c (ix3 0 l ⟨k.val, by omega⟩) := by
  refine Eq.trans ?_ (V_v8 m ρ c l k)
  unfold iblk0
  rw [View.read_apply]
  refine Cert.Arrays.same_pair (V1 m ρ c main_v8) _ (ix2 l k) ?_ ?_
  · show win0_2.index t 0 * 1024 + 1 * l.val = l.val
    rw [(idx0 t).2.2.1]; show 0 * 1024 + _ = _; omega
  · show win0_2.index t 1 * 2048 + 1 * k.val = k.val
    rw [(idx0 t).2.2.1]; show 0 * 2048 + _ = _; omega

/-- The two rows the body takes from the block of eight. -/
theorem rows (t : Fin cfg0.N) (l : Fin 1024) :
    View.ld (iblk0 (V1 m ρ) c 1 t : Vec Ideal S8x1024 .f32) r0_1 (ix2 (0 : Fin 1) l) = NG m c (ix2 0 l) * (1 + SC m c (ix2 0 l))
    ∧ View.ld (iblk0 (V1 m ρ) c 1 t : Vec Ideal S8x1024 .f32) r0_2 (ix2 (0 : Fin 1) l) = SH m c (ix2 0 l) := by
  refine ⟨Eq.trans ?_ ((b1 m ρ c t 0 l).trans (V_v4 m ρ c l).1), Eq.trans ?_ ((b1 m ρ c t 1 l).trans (V_v4 m ρ c l).2)⟩
  · refine View.ld_unit_apply_of (iblk0 (V1 m ρ) c 1 t : Vec Ideal S8x1024 .f32) _ _ _ _ (ix2 0 l) fun a => ?_
    match a with
    | ⟨0, _⟩ => rfl
    | ⟨1, _⟩ => show l.val = 0 + l.val; omega
  · refine View.ld_unit_apply_of (iblk0 (V1 m ρ) c 1 t : Vec Ideal S8x1024 .f32) _ _ _ _ (ix2 1 l) fun a => ?_
    match a with
    | ⟨0, _⟩ => rfl
    | ⟨1, _⟩ => show l.val = 0 + l.val; omega

/-- One point's rows. -/
theorem point (t : Fin cfg0.N) (r : Fin 512) (l : Fin 1024) (z : Fin 8192) (hr : z.val = t.val * 512 + r.val) :
    k0_pay1 (F := Ideal) (iblk0 (V1 m ρ) c 0 t : Vec Ideal S512x1024 .f32) (View.ld (iblk0 (V1 m ρ) c 1 t : Vec Ideal S8x1024 .f32) r0_1)
      (View.ld (iblk0 (V1 m ρ) c 1 t : Vec Ideal S8x1024 .f32) r0_2) (ix2 r l) = H m c z l := by
  rw [pay1]
  unfold H hv rs
  refine congrArg₂ (· + ·) (congrArg₂ (· * ·) (congrArg₂ (· * ·) (b0 m ρ c t r l z hr) ?_) (rows m ρ c t l).1) (rows m ρ c t l).2
  refine congrArg (fun s => Ideal.rsqrt (Ideal.div s _ + _)) (Finset.sum_congr rfl fun k _ => ?_)
  rw [b0 m ρ c t r k z hr]

theorem final4 : (dat0 (V1 m ρ) c).arrAt 4 cfg0.N = fun i : S8192x1024.Idx => H m c (i 0) (i 1) := by
  refine (dat0 (V1 m ρ) c).arrAt_eq_of_covers 4 _ (by decide +kernel) fun t hf y => ?_
  blk_simp
  rw [after0_4]
  have key : ∀ (y : S512x1024.Idx) (z : S8192x1024.Idx), (z 0).val = t.val * 512 + (y 0).val → (z 1).val = (y 1).val →
      out0_4 (iblk0 (V1 m ρ) c 0 t) (iblk0 (V1 m ρ) c 1 t) (iblk0 (V1 m ρ) c 2 t) y = H m c (z 0) (z 1) := by
    intro y z h0 h1
    obtain ⟨r, l, rfl⟩ := Cert.Arrays.exists_pair (a := 512) (b := 1024) y
    unfold out0_4
    rw [View.canon_unit_zero hz]
    simp only [View.ld_unit_zero (S := S512x1024) hz]
    rw [pay2]
    refine (point m ρ c t r l (z 0) h0).trans ?_
    exact congrArg (H m c (z 0)) (Fin.ext h1.symm)
  refine key y _ ?_ ?_
  · show win0_4.index t 0 * 512 + 1 * (y 0).val = _
    rw [(idx0 t).2.2.2.2.1]; show t.val * 512 + _ = _; omega
  · show win0_4.index t 1 * 1024 + 1 * (y 1).val = _
    rw [(idx0 t).2.2.2.2.1]; show 0 * 1024 + _ = _; omega

theorem final5 : (dat0 (V1 m ρ) c).arrAt 5 cfg0.N = fun i : S1024x8192.Idx => H m c (i 1) (i 0) := by
  refine (dat0 (V1 m ρ) c).arrAt_eq_of_covers 5 _ (by decide +kernel) fun t hf y => ?_
  blk_simp
  rw [after0_5]
  have key : ∀ (y : S1024x512.Idx) (z : S1024x8192.Idx), (z 0).val = (y 0).val → (z 1).val = t.val * 512 + (y 1).val →
      out0_5 (iblk0 (V1 m ρ) c 0 t) (iblk0 (V1 m ρ) c 1 t) (iblk0 (V1 m ρ) c 2 t) y = H m c (z 1) (z 0) := by
    intro y z h0 h1
    obtain ⟨l, r, rfl⟩ := Cert.Arrays.exists_pair (a := 1024) (b := 512) y
    unfold out0_5
    rw [View.canon_unit_zero hz]
    simp only [View.ld_unit_zero (S := S512x1024) hz]
    rw [pay3]
    refine (point m ρ c t r l (z 1) h1).trans ?_
    exact congrArg (H m c (z 1)) (Fin.ext h0.symm)
  refine key y _ ?_ ?_
  · show win0_5.index t 0 * 1024 + 1 * (y 0).val = _
    rw [(idx0 t).2.2.2.2.2]; show 0 * 1024 + _ = _; omega
  · show win0_5.index t 1 * 512 + 1 * (y 1).val = _
    rw [(idx0 t).2.2.2.2.2]; show t.val * 512 + _ = _; omega

/-- The product's first 2048 columns, from the first call. -/
theorem final3 (i : S8192x8192.Idx) (hi : (i 1).val / 2048 = 0) : (dat0 (V1 m ρ) c).arrAt 3 cfg0.N i = P m c (i 0) (i 1) := by
  refine ((dat0 (V1 m ρ) c).arrAt_apply_of_coversWhere 3 (fun i : S8192x8192.Idx => P m c (i 0) (i 1))
    (P := fun i : S8192x8192.Idx => (i 1).val / 2048 = 0) (fun β => β (1 : Fin 2) = 0) (by decide +kernel)
    (fun t hf y => ?_) (fun j => Iff.rfl) i).trans (if_pos hi)
  blk_simp
  rw [after0_3]
  have key : ∀ (y : S512x2048.Idx) (z : S8192x8192.Idx), (z 0).val = t.val * 512 + (y 0).val → (z 1).val = (y 1).val →
      out0_3 (iblk0 (V1 m ρ) c 0 t) (iblk0 (V1 m ρ) c 1 t) (iblk0 (V1 m ρ) c 2 t) y = P m c (z 0) (z 1) := by
    intro y z h0 h1
    obtain ⟨r, k, rfl⟩ := Cert.Arrays.exists_pair (a := 512) (b := 2048) y
    unfold out0_3
    rw [View.canon_unit_zero hz]
    simp only [View.ld_unit_zero (S := S512x1024) hz, View.ld_unit_zero (S := S1024x2048) hz]
    rw [pay4]
    unfold P pv
    refine Finset.sum_congr rfl fun l _ => congrArg₂ (· * ·) (point m ρ c t r l (z 0) h0) ((b2 m ρ c t l k).trans ?_)
    exact congrArg (fun k : Fin 8192 => W m c (ix3 0 l k)) (Fin.ext h1.symm : (⟨k.val, by omega⟩ : Fin 8192) = z 1)
  refine key y _ ?_ ?_
  · show win0_3.index t 0 * 512 + 1 * (y 0).val = _
    rw [(idx0 t).2.2.2.1]; show t.val * 512 + _ = _; omega
  · show win0_3.index t 1 * 2048 + 1 * (y 1).val = _
    rw [(idx0 t).2.2.2.1]; show 0 * 2048 + _ = _; omega

/-! ## The second call -/

theorem V_h (r : Fin 8192) (l : Fin 1024) : (V3 m ρ c main_v9_1 : Vec Ideal S8192x1024 .bf16) (ix2 r l) = H m c r l :=
  congrFun ((W3_of m ρ c main_v9_1 (by decide)).trans ((W2_arr m ρ c 4).trans (final4 m ρ c))) (ix2 r l)

theorem V_w (l : Fin 1024) (k : Fin 8192) : (V3 m ρ c main_v6 : Vec Ideal S1024x8192 .bf16) (ix2 l k) = W m c (ix3 0 l k) :=
  (congrFun ((W3_of m ρ c main_v6 (by decide)).trans (W2_of m ρ c main_v6 (by decide))) (ix2 l k)).trans (V_v6 m ρ c l k)

theorem V_p : (V3 m ρ c main_v10 : Vec Ideal S8192x8192 .f32) = (dat0 (V1 m ρ) c).arrAt 3 cfg0.N := by
  refine Eq.trans ?_ (W2_arr m ρ c 3)
  show StableHlo.after hostOps1 (W2 m ρ c) (Proc.devRef .tc main_v10) = _
  after_results
  rfl

theorem idx1 : ∀ t : Fin cfg1.N, (win1_0.index t = ![t.val % 16, 0]) ∧ (win1_1.index t = ![0, 1 + t.val / 16])
    ∧ win1_2.index t = ![t.val % 16, 1 + t.val / 16] :=
  (by decide +kernel : ∀ t : Fin grid1.N, (win1_0.index t = ![t.val % 16, 0]) ∧ (win1_1.index t = ![0, 1 + t.val / 16])
    ∧ win1_2.index t = ![t.val % 16, 1 + t.val / 16])

theorem s0 (t : Fin cfg1.N) (r : Fin 512) (l : Fin 1024) (z : Fin 8192) (hr : z.val = t.val % 16 * 512 + r.val) :
    (iblk1 (V3 m ρ) c 0 t : Vec Ideal S512x1024 .bf16) (ix2 r l) = H m c z l := by
  refine Eq.trans ?_ (V_h m ρ c z l)
  unfold iblk1
  rw [View.read_apply]
  refine Cert.Arrays.same_pair (V3 m ρ c main_v9_1) _ (ix2 z l) ?_ ?_
  · show win1_0.index t 0 * 512 + 1 * r.val = z.val
    rw [(idx1 t).1, hr]; show t.val % 16 * 512 + _ = _; omega
  · show win1_0.index t 1 * 1024 + 1 * l.val = l.val
    rw [(idx1 t).1]; show 0 * 1024 + _ = _; omega

theorem s1 (t : Fin cfg1.N) (l : Fin 1024) (k : Fin 2048) (z : Fin 8192) (hk : z.val = (1 + t.val / 16) * 2048 + k.val) :
    (iblk1 (V3 m ρ) c 1 t : Vec Ideal S1024x2048 .bf16) (ix2 l k) = W m c (ix3 0 l z) := by
  refine Eq.trans ?_ (V_w m ρ c l z)
  unfold iblk1
  rw [View.read_apply]
  refine Cert.Arrays.same_pair (V3 m ρ c main_v6) _ (ix2 l z) ?_ ?_
  · show win1_1.index t 0 * 1024 + 1 * l.val = l.val
    rw [(idx1 t).2.1]; show 0 * 1024 + _ = _; omega
  · show win1_1.index t 1 * 2048 + 1 * k.val = z.val
    rw [(idx1 t).2.1, hk]; show (1 + t.val / 16) * 2048 + _ = _; omega

theorem outs (t : Fin cfg1.N) : outsAt1 (V3 m ρ) c t = k1_pay1 (F := Ideal) (iblk1 (V3 m ρ) c 0 t) (iblk1 (V3 m ρ) c 1 t) := by
  unfold outsAt1 out1_A_2
  rw [View.read_writes_eq_canon _ _ _ (cover1_A_2 c _ _ _ _ _ _ _ _ _)]
  unfold kernelRun1_A
  dsimp only
  sl_unfold_words
  rw [View.canon_unit_zero hz]
  simp only [View.readAt_eq_ld, (hs1_0 t).read_unread, (hs1_1 t).read_unread, View.ld_unit_zero (S := S512x1024) hz, View.ld_unit_zero (S := S1024x2048) hz]

/-- The product, whole. -/
theorem product : (dat1 (V3 m ρ) c).arrAt 2 cfg1.N = fun i : S8192x8192.Idx => P m c (i 0) (i 1) := by
  refine (dat1 (V3 m ρ) c).arrAt_eq_of_coversWhere_of_agree 2 _ (fun β => ¬β (1 : Fin 2) = 0) (by decide +kernel) (fun t hf y => ?_) fun j hj => ?_
  · blk_simp
    rw [after1_2, outs]
    have key : ∀ (y : S512x2048.Idx) (z : S8192x8192.Idx), (z 0).val = t.val % 16 * 512 + (y 0).val → (z 1).val = (1 + t.val / 16) * 2048 + (y 1).val →
        k1_pay1 (F := Ideal) (iblk1 (V3 m ρ) c 0 t) (iblk1 (V3 m ρ) c 1 t) y = P m c (z 0) (z 1) := by
      intro y z h0 h1
      obtain ⟨r, k, rfl⟩ := Cert.Arrays.exists_pair (a := 512) (b := 2048) y
      refine (rest1 _ _ r k).trans ?_
      unfold P pv
      exact Finset.sum_congr rfl fun l _ => congrArg₂ (fun a b : EReal => a * b) (s0 m ρ c t r l (z 0) h0) (s1 m ρ c t l k (z 1) h1)
    refine key y _ ?_ ?_
    · show win1_2.index t 0 * 512 + 1 * (y 0).val = _
      rw [(idx1 t).2.2]; show t.val % 16 * 512 + _ = _; omega
    · show win1_2.index t 1 * 2048 + 1 * (y 1).val = _
      rw [(idx1 t).2.2]; show (1 + t.val / 16) * 2048 + _ = _; omega
  · rw [A_eq1]
    exact (congrFun (V_p m ρ c) _).trans (final3 m ρ c _ (Decidable.of_not_not hj))

end Cert.ProjKernelIdeal.Value
end
-- ==== Proof.ProjEq.lean ====
module

public import proofs.«01_k».proof.Proof.ProjRun
public import proofs.«01_k».proof.Proof.ProjValue
public import proofs.«01_k».proof.Proof.Gen.ProjReferenceIdeal.Read

@[expose] public section

set_option maxRecDepth 16384

noncomputable section

/-! The input projection: what the run leaves in the three results, and the same values from the reference. -/

namespace Cert.ProjKernelIdeal.Value

open Cert.ProjKernelIdeal Cert.ProjKernelIdeal.Gen Idealize.ShloMosaic Idealize.ShloMosaic.TcCoe Idealize.SL.Sem
open Cert.DhReferenceIdeal.Ref (rs)

variable (m : (ℓ : Loc nD τ sig) → Buf (Elt Ideal) ℓ) (ρ : Dev nD → PrngReg)

/-- The product, the rows and their transpose. -/
def prod (c : Dev nD) : Vec Ideal S8192x8192 .f32 := fun i => P m c (i 0) (i 1)
@[inherit_doc prod]
def rows8 (c : Dev nD) : Vec Ideal S8192x1024 .bf16 := fun i => H m c (i 0) (i 1)
@[inherit_doc prod]
def turned (c : Dev nD) : Vec Ideal S1024x8192 .bf16 := fun i => H m c (i 1) (i 0)

theorem run : θ_run defs (onTc (τ := τ) (main (F := Ideal))) ⟨m, fun _ => 0, ρ⟩ (fun r => ∀ c : Dev nD,
      r.2.mem ((c.tc : Thread nD τ).loc main_v10) = prod m c
      ∧ r.2.mem ((c.tc : Thread nD τ).loc main_v9_1) = rows8 m c
      ∧ r.2.mem ((c.tc : Thread nD τ).loc main_v9_2) = turned m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun _ h c =>
    ⟨(h c _ (mem_uc main_v10 (by decide))).trans ((W4_arr m ρ c 2).trans (product m ρ c)),
     (h c _ (mem_uc main_v9_1 (by decide))).trans ((W4_of m ρ c main_v9_1 (by decide)).trans
       ((W3_of m ρ c main_v9_1 (by decide)).trans ((W2_arr m ρ c 4).trans (final4 m ρ c)))),
     (h c _ (mem_uc main_v9_2 (by decide))).trans ((W4_of m ρ c main_v9_2 (by decide)).trans
       ((W3_of m ρ c main_v9_2 (by decide)).trans ((W2_arr m ρ c 5).trans (final5 m ρ c)))),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

section

open Cert.ProjReferenceIdeal.Read

variable (x : Vec Ideal S1x8192x1024 .f32) (g sc sh : Vec Ideal S1x1024 .f32) (w : Vec Ideal S1x1024x8192 .f32)

theorem ref_rs (r : Fin 8192) : val_main_v7 (F := Ideal) x (ix3 (0 : Fin 1) r (0 : Fin 1)) = rs x r := by
  unfold rs
  pointwise [val_main_v7, val_main_v6, val_main_v5, val_main_v4, val_main_v3, val_main_v2, val_main_v1, val_main_v0, val_main_cst, val_main_cst_0, val_main_cst_1]

theorem ref_row (r : Fin 8192) (l : Fin 1024) : val_main_v20 (F := Ideal) x g sc sh (ix3 (0 : Fin 1) r l) = hv x g sc sh r l := by
  unfold hv
  rw [← ref_rs, ← mul_assoc]
  pointwise [val_main_v20, val_main_v19, val_main_v18, val_main_v17, val_main_v16, val_main_v15, val_main_v14, val_main_v13, val_main_v12, val_main_v11, val_main_v10, val_main_v9, val_main_v8, val_main_cst_2, Cert.DhKernelIdeal.Host.one_word]

theorem ref_rows : val_main_v27 (F := Ideal) x g sc sh = fun i => hv x g sc sh (i 0) (i 1) := by
  funext i
  obtain ⟨r, l, rfl⟩ := Cert.Arrays.exists_pair (a := 8192) (b := 1024) i
  exact (Cert.Arrays.drop_lead (val_main_v20 (F := Ideal) x g sc sh) _ r l).trans (ref_row x g sc sh r l)

theorem ref_turned : val_main_v30 (F := Ideal) x g sc sh = fun i => hv x g sc sh (i 1) (i 0) := by
  funext i
  obtain ⟨l, r, rfl⟩ := Cert.Arrays.exists_pair (a := 1024) (b := 8192) i
  refine Eq.trans ?_ ((Cert.Arrays.drop_lead (val_main_v20 (F := Ideal) x g sc sh) shapeCasts_S1x8192x1024_S8192x1024 r l).trans (ref_row x g sc sh r l))
  delta val_main_v30 val_main_v29 val_main_v28
  generalize shapeCast _ (val_main_v20 (F := Ideal) x g sc sh) _ = y
  pointwise []

theorem ref_prod : val_main_v25 (F := Ideal) x g sc sh w = fun i => pv x g sc sh w (i 0) (i 1) := by
  funext i
  obtain ⟨r, k, rfl⟩ := Cert.Arrays.exists_pair (a := 8192) (b := 8192) i
  refine (Cert.Arrays.drop_lead (val_main_v24 (F := Ideal) x g sc sh w) _ r k).trans ?_
  have h : val_main_v24 (F := Ideal) x g sc sh w (ix3 (0 : Fin 1) r k) = ∑ l : Fin 1024, val_main_v21 (F := Ideal) x g sc sh (ix2 r l) * val_main_v22 (F := Ideal) w (ix2 l k) := by
    pointwise [val_main_v24, val_main_v23]
  rw [h]
  unfold pv
  exact Finset.sum_congr rfl fun l _ => congrArg₂ (fun a b : EReal => a * b)
    ((Cert.Arrays.drop_lead (val_main_v20 (F := Ideal) x g sc sh) _ r l).trans (ref_row x g sc sh r l)) (Cert.Arrays.drop_lead w _ l k)

end

end Cert.ProjKernelIdeal.Value
end
-- ==== Proof.lean ====
module

public import proofs.«01_k».proof.Defs
public import proofs.«01_k».proof.Proof.Gen.DhKernel
public import proofs.«01_k».proof.Proof.Gen.DhKernel.Skeleton
public import proofs.«01_k».proof.Proof.Gen.DhKernel.Launch
public import proofs.«01_k».proof.Proof.Gen.DhKernel.Points
public import proofs.«01_k».proof.Proof.Gen.DhKernel.Frame
public import proofs.«01_k».proof.Proof.Gen.DhKernelIdeal
public import proofs.«01_k».proof.Proof.Gen.DhKernelIdeal.Skeleton
public import proofs.«01_k».proof.Proof.Gen.DhKernelIdeal.Launch
public import proofs.«01_k».proof.Proof.Gen.DhKernelIdeal.Points
public import proofs.«01_k».proof.Proof.Gen.DhKernelIdeal.Frame
public import proofs.«01_k».proof.Proof.Gen.DhReferenceIdeal
public import proofs.«01_k».proof.Proof.Gen.DhKernelIdeal.Value
public import proofs.«01_k».proof.Proof.Gen.DhReferenceIdeal.Run
public import proofs.«01_k».proof.Proof.Gen.DhReferenceIdeal.Read
public import proofs.«01_k».proof.Proof.Gen.Pre_dh_finite
public import proofs.«01_k».proof.Proof.Gen.MergeKernel
public import proofs.«01_k».proof.Proof.Gen.MergeKernel.Skeleton
public import proofs.«01_k».proof.Proof.Gen.MergeKernel.Launch
public import proofs.«01_k».proof.Proof.Gen.MergeKernel.Points
public import proofs.«01_k».proof.Proof.Gen.MergeKernel.Frame
public import proofs.«01_k».proof.Proof.Gen.MergeKernelIdeal
public import proofs.«01_k».proof.Proof.Gen.MergeKernelIdeal.Skeleton
public import proofs.«01_k».proof.Proof.Gen.MergeKernelIdeal.Launch
public import proofs.«01_k».proof.Proof.Gen.MergeKernelIdeal.Points
public import proofs.«01_k».proof.Proof.Gen.MergeKernelIdeal.Frame
public import proofs.«01_k».proof.Proof.Gen.MergeKernelIdeal.Value
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.Pre_merge_finite
public import proofs.«01_k».proof.Proof.Gen.HgrnFwd
public import proofs.«01_k».proof.Proof.Gen.HgrnFwd.Skeleton
public import proofs.«01_k».proof.Proof.Gen.HgrnFwd.Launch
public import proofs.«01_k».proof.Proof.Gen.HgrnFwd.Points
public import proofs.«01_k».proof.Proof.Gen.HgrnFwd.Frame
public import proofs.«01_k».proof.Proof.Gen.HgrnFwdIdeal
public import proofs.«01_k».proof.Proof.Gen.HgrnFwdIdeal.Skeleton
public import proofs.«01_k».proof.Proof.Gen.HgrnFwdIdeal.Launch
public import proofs.«01_k».proof.Proof.Gen.HgrnFwdIdeal.Points
public import proofs.«01_k».proof.Proof.Gen.HgrnFwdIdeal.Frame
public import proofs.«01_k».proof.Proof.Gen.HgrnFwdIdeal.Value
public import proofs.«01_k».proof.Proof.Gen.HgrnFwdReferenceIdeal
public import proofs.«01_k».proof.Proof.Gen.Pre_hgrn_fwd_pre
public import proofs.«01_k».proof.Proof.Gen.HgrnFwdReferenceIdeal.Run
public import proofs.«01_k».proof.Proof.Gen.HgrnBwd
public import proofs.«01_k».proof.Proof.Gen.HgrnBwd.Frame
public import proofs.«01_k».proof.Proof.Gen.HgrnBwdIdeal
public import proofs.«01_k».proof.Proof.Gen.HgrnBwdIdeal.Frame
public import proofs.«01_k».proof.Proof.Gen.ModKernel
public import proofs.«01_k».proof.Proof.Gen.ModKernel.Frame
public import proofs.«01_k».proof.Proof.Gen.ModKernelIdeal
public import proofs.«01_k».proof.Proof.Gen.ModKernelIdeal.Frame
public import proofs.«01_k».proof.Proof.Gen.ModKernelIdeal.Value
public import proofs.«01_k».proof.Proof.Gen.ModReferenceIdeal
public import proofs.«01_k».proof.Proof.Gen.ModReferenceIdeal.Run
public import proofs.«01_k».proof.Proof.Gen.ModReferenceIdeal.Read
public import proofs.«01_k».proof.Proof.Gen.ProjKernel
public import proofs.«01_k».proof.Proof.Gen.ProjKernel.Frame
public import proofs.«01_k».proof.Proof.Gen.ProjKernelIdeal
public import proofs.«01_k».proof.Proof.Gen.ProjKernelIdeal.Frame
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.Gen.AttnFwd
public import proofs.«01_k».proof.Proof.Gen.AttnFwd.Frame
public import proofs.«01_k».proof.Proof.Gen.AttnFwdIdeal
public import proofs.«01_k».proof.Proof.Gen.AttnFwdIdeal.Frame
public import proofs.«01_k».proof.Proof.Gen.Dw3Kernel
public import proofs.«01_k».proof.Proof.Gen.Dw3Kernel.Frame
public import proofs.«01_k».proof.Proof.Gen.Dw3KernelIdeal
public import proofs.«01_k».proof.Proof.Gen.Dw3KernelIdeal.Frame
public import proofs.«01_k».proof.Proof.Gen.Dw3KernelIdeal.Value
public import proofs.«01_k».proof.Proof.Gen.Dw3ReferenceIdeal
public import proofs.«01_k».proof.Proof.Gen.Dw3ReferenceIdeal.Run
public import proofs.«01_k».proof.Proof.Gen.Dw3ReferenceIdeal.Read
public import proofs.«01_k».proof.Proof.Gen.DwinKernel
public import proofs.«01_k».proof.Proof.Gen.DwinKernel.Frame
public import proofs.«01_k».proof.Proof.Gen.DwinKernelIdeal
public import proofs.«01_k».proof.Proof.Gen.DwinKernelIdeal.Frame
public import proofs.«01_k».proof.Proof.Gen.DwinKernelIdeal.Value
public import proofs.«01_k».proof.Proof.Gen.DwinReferenceIdeal
public import proofs.«01_k».proof.Proof.Gen.DwinReferenceIdeal.Run
public import proofs.«01_k».proof.Proof.Gen.DwinReferenceIdeal.Read
public import proofs.«01_k».proof.Proof.Gen.AdaKernel
public import proofs.«01_k».proof.Proof.Gen.AdaKernel.Frame
public import proofs.«01_k».proof.Proof.Gen.AdaKernelIdeal
public import proofs.«01_k».proof.Proof.Gen.AdaKernelIdeal.Frame
public import proofs.«01_k».proof.Proof.Gen.AdaKernelIdeal.Value
public import proofs.«01_k».proof.Proof.Gen.AdaReferenceIdeal
public import proofs.«01_k».proof.Proof.Gen.AdaReferenceIdeal.Run
public import proofs.«01_k».proof.Proof.Gen.AdaReferenceIdeal.Read
public import proofs.«01_k».proof.Proof.Gen.AdamwKernel
public import proofs.«01_k».proof.Proof.Gen.AdamwKernel.Frame
public import proofs.«01_k».proof.Proof.Gen.AdamwKernelIdeal
public import proofs.«01_k».proof.Proof.Gen.AdamwKernelIdeal.Frame
public import proofs.«01_k».proof.Proof.Gen.AdamwKernelIdeal.Value
public import proofs.«01_k».proof.Proof.Gen.AdamwReferenceIdeal
public import proofs.«01_k».proof.Proof.Gen.AdamwReferenceIdeal.Run
public import proofs.«01_k».proof.Proof.Gen.AdamwReferenceIdeal.Read
public import proofs.«01_k».proof.Proof.Gen.Sum8Kernel
public import proofs.«01_k».proof.Proof.Gen.Sum8Kernel.Frame
public import proofs.«01_k».proof.Proof.Gen.Sum8KernelIdeal
public import proofs.«01_k».proof.Proof.Gen.Sum8KernelIdeal.Frame
public import proofs.«01_k».proof.Proof.Gen.Sum8KernelIdeal.Value
public import proofs.«01_k».proof.Proof.Gen.Sum8ReferenceIdeal
public import proofs.«01_k».proof.Proof.Gen.Sum8ReferenceIdeal.Run
public import proofs.«01_k».proof.Proof.Gen.Sum8ReferenceIdeal.Read
public import proofs.«01_k».proof.Proof.Gen.ManyKernel
public import proofs.«01_k».proof.Proof.Gen.ManyKernel.Frame
public import proofs.«01_k».proof.Proof.Gen.ManyKernelIdeal
public import proofs.«01_k».proof.Proof.Gen.ManyKernelIdeal.Frame
public import proofs.«01_k».proof.Proof.Gen.ManyKernelIdeal.Value
public import proofs.«01_k».proof.Proof.Gen.ManyReferenceIdeal
public import proofs.«01_k».proof.Proof.Gen.ManyReferenceIdeal.Run
public import proofs.«01_k».proof.Proof.Gen.ManyReferenceIdeal.Read
public import proofs.«01_k».proof.Proof.Gen.HalfKernel
public import proofs.«01_k».proof.Proof.Gen.HalfKernel.Frame
public import proofs.«01_k».proof.Proof.Gen.HalfKernelIdeal
public import proofs.«01_k».proof.Proof.Gen.HalfKernelIdeal.Frame
public import proofs.«01_k».proof.Proof.Gen.HalfKernelIdeal.Value
public import proofs.«01_k».proof.Proof.Gen.HalfReferenceIdeal
public import proofs.«01_k».proof.Proof.Gen.HalfReferenceIdeal.Run
public import proofs.«01_k».proof.Proof.Gen.HalfReferenceIdeal.Read
public import proofs.«01_k».proof.Proof.Gen.CastKernel
public import proofs.«01_k».proof.Proof.Gen.CastKernel.Frame
public import proofs.«01_k».proof.Proof.Gen.CastKernelIdeal
public import proofs.«01_k».proof.Proof.Gen.CastKernelIdeal.Frame
public import proofs.«01_k».proof.Proof.Gen.CastKernelIdeal.Value
public import proofs.«01_k».proof.Proof.Gen.CastReferenceIdeal
public import proofs.«01_k».proof.Proof.Gen.CastReferenceIdeal.Run
public import proofs.«01_k».proof.Proof.Gen.CastReferenceIdeal.Read
public import proofs.«01_k».proof.Proof.DhEq
public import proofs.«01_k».proof.Proof.ManyEq
public import proofs.«01_k».proof.Proof.HalfEq
public import proofs.«01_k».proof.Proof.CastEq
public import proofs.«01_k».proof.Proof.Dw3Eq
public import proofs.«01_k».proof.Proof.DwinEq
public import proofs.«01_k».proof.Proof.AdaEq
public import proofs.«01_k».proof.Proof.AdamwEq
public import proofs.«01_k».proof.Proof.Sum8Eq
public import proofs.«01_k».proof.Proof.MergeEq
public import proofs.«01_k».proof.Proof.HgrnEq
public import proofs.«01_k».proof.Proof.ModEq
public import proofs.«01_k».proof.Proof.ProjEq
public import Idealize.ShloMosaic.Adequacy
public import Idealize.ShloMosaic.Init

@[expose] public section

noncomputable section

namespace Cert.Proof

open Idealize.ShloMosaic Idealize.SL.Sem Cert.DhKernel

theorem dh_reference_frame : Cert.quiescent_DhReferenceIdeal (hDhReferenceIdeal := Cert.DhReferenceIdeal.Gen.facts) := fun m g _ =>
  (θ_run Cert.DhReferenceIdeal.defs _ _).mono (fun r h => ⟨fun c => (h c).2.2, sem_eq_zero_of_no_sems (by decide) r.2⟩)
    (Cert.DhReferenceIdeal.Value.run (F := Ideal) m g)

theorem dh_value : Cert.algebraic_DhKernelIdeal_DhReferenceIdeal_pre_dh_finite (hDhKernelIdeal := Cert.DhKernelIdeal.Gen.facts)
    (hDhReferenceIdeal := Cert.DhReferenceIdeal.Gen.facts) (hPre_dh_finite := Cert.Pre_dh_finite.Gen.facts) := by
  intro m g m' g' hp ha
  refine ⟨fun c => Cert.DhKernelIdeal.Value.gxArr m c, fun c => Cert.DhKernelIdeal.Value.accArr m c, ?_, ?_⟩
  · refine (θ_run _ _ _).mono (fun r h c => ?_) (Cert.DhKernelIdeal.Value.run_blocks m g)
    obtain ⟨h0, h1, hk⟩ := h c
    exact ⟨h0.trans (Cert.DhKernelIdeal.Value.final_gx m c), h1.trans (Cert.DhKernelIdeal.Value.final_acc m c), hk⟩
  · refine (θ_run _ _ _).mono (fun r h c => ?_) (Cert.DhReferenceIdeal.Value.run m' g')
    obtain ⟨h0, h1, hk⟩ := h c
    obtain ⟨e0, e1, e2, e3, e4, e5, e6⟩ := ha c
    refine ⟨h0.trans ?_, h1.trans ?_, hk⟩
    · rw [Cert.DhReferenceIdeal.Read.val_main_v62_eq, e0, e1, e2, e4, e5, e6]
      exact Cert.DhEq.gx_eq m c hp
    · refine (Cert.DhReferenceIdeal.Read.val_main_v64_eq _ _ _ _ _).trans ?_
      rw [e0, e1, e2, e4, e5]
      exact Cert.DhEq.acc_eq m c

theorem merge_reference_frame : Cert.quiescent_MergeReferenceIdeal (hMergeReferenceIdeal := Cert.MergeReferenceIdeal.Gen.facts) := fun m g _ =>
  (θ_run Cert.MergeReferenceIdeal.defs _ _).mono (fun r h => ⟨fun c => (h c).2.2.2.2.2.2.2.2.2.2.2.2, sem_eq_zero_of_no_sems (by decide) r.2⟩)
    (Cert.MergeReferenceIdeal.Value.run (F := Ideal) m g)

theorem merge_value : Cert.algebraic_MergeKernelIdeal_MergeReferenceIdeal_pre_merge_finite (hMergeKernelIdeal := Cert.MergeKernelIdeal.Gen.facts)
    (hMergeReferenceIdeal := Cert.MergeReferenceIdeal.Gen.facts) (hPre_merge_finite := Cert.Pre_merge_finite.Gen.facts) := by
  intro m g m' g' hp ha
  refine ⟨fun c => Cert.MergeKernelIdeal.Value.arr (Cert.MergeKernelIdeal.Value.y m c), fun c => Cert.MergeKernelIdeal.Value.arr (Cert.MergeKernelIdeal.Value.dx2 m c), fun c => Cert.MergeKernelIdeal.Value.arr (Cert.MergeKernelIdeal.Value.du m c), fun c => Cert.MergeKernelIdeal.Value.arr (Cert.MergeKernelIdeal.Value.dya m c), fun c => Cert.MergeKernelIdeal.Value.arr (Cert.MergeKernelIdeal.Value.dyb m c), fun c => Cert.MergeKernelIdeal.Value.arr (Cert.MergeKernelIdeal.Value.dg m c), fun c => Cert.MergeKernelIdeal.Value.arr (Cert.MergeKernelIdeal.Value.dat m c), fun c => Cert.MergeKernelIdeal.Value.arr (Cert.MergeKernelIdeal.Value.dsum m c), fun c => Cert.MergeKernelIdeal.Value.arr (Cert.MergeKernelIdeal.Value.dza m c), fun c => Cert.MergeKernelIdeal.Value.arr (Cert.MergeKernelIdeal.Value.dob m c), fun c => Cert.MergeKernelIdeal.Value.arr (Cert.MergeKernelIdeal.Value.rowsum m c), fun c => Cert.MergeKernelIdeal.Value.arr (Cert.MergeKernelIdeal.Value.total m c), ?_, ?_⟩
  · refine (θ_run _ _ _).mono (fun r h c => ?_) (Cert.MergeKernelIdeal.Value.run_blocks m g)
    obtain ⟨h0, h1, h2, h3, h4, h5, h6, h7, h8, h9, h10, h11, hk⟩ := h c
    exact ⟨h0.trans (Cert.MergeKernelIdeal.Value.final_y m c), h1.trans (Cert.MergeKernelIdeal.Value.final_dx2 m c), h2.trans (Cert.MergeKernelIdeal.Value.final_du m c), h3.trans (Cert.MergeKernelIdeal.Value.final_dya m c), h4.trans (Cert.MergeKernelIdeal.Value.final_dyb m c), h5.trans (Cert.MergeKernelIdeal.Value.final_dg m c), h6.trans (Cert.MergeKernelIdeal.Value.final_dat m c), h7.trans (Cert.MergeKernelIdeal.Value.final_dsum m c), h8.trans (Cert.MergeKernelIdeal.Value.final_dza m c), h9.trans (Cert.MergeKernelIdeal.Value.final_dob m c), h10.trans (Cert.MergeKernelIdeal.Value.final_acc m c), h11.trans (Cert.MergeKernelIdeal.Value.final_ls m c), hk⟩
  · refine (θ_run _ _ _).mono (fun r h c => ?_) (Cert.MergeReferenceIdeal.Value.run m' g')
    obtain ⟨h0, h1, h2, h3, h4, h5, h6, h7, h8, h9, h10, h11, hk⟩ := h c
    obtain ⟨e0, e1, e2, e3, e4, e5, e6, e7, e8, e9⟩ := ha c
    have f : Cert.MergeKernelIdeal.Value.Finite m c := Cert.MergeReferenceIdeal.Ref.reals hp
    have s : Cert.MergeReferenceIdeal.Ref.Same m c
        (m' ((c.tc : Thread Cert.MergeReferenceIdeal.nD Cert.MergeReferenceIdeal.τ).loc Cert.MergeReferenceIdeal.main_arg0))
        (m' ((c.tc : Thread Cert.MergeReferenceIdeal.nD Cert.MergeReferenceIdeal.τ).loc Cert.MergeReferenceIdeal.main_arg1))
        (m' ((c.tc : Thread Cert.MergeReferenceIdeal.nD Cert.MergeReferenceIdeal.τ).loc Cert.MergeReferenceIdeal.main_arg2))
        (m' ((c.tc : Thread Cert.MergeReferenceIdeal.nD Cert.MergeReferenceIdeal.τ).loc Cert.MergeReferenceIdeal.main_arg3))
        (m' ((c.tc : Thread Cert.MergeReferenceIdeal.nD Cert.MergeReferenceIdeal.τ).loc Cert.MergeReferenceIdeal.main_arg4))
        (m' ((c.tc : Thread Cert.MergeReferenceIdeal.nD Cert.MergeReferenceIdeal.τ).loc Cert.MergeReferenceIdeal.main_arg5))
        (m' ((c.tc : Thread Cert.MergeReferenceIdeal.nD Cert.MergeReferenceIdeal.τ).loc Cert.MergeReferenceIdeal.main_arg6))
        (m' ((c.tc : Thread Cert.MergeReferenceIdeal.nD Cert.MergeReferenceIdeal.τ).loc Cert.MergeReferenceIdeal.main_arg7))
        (m' ((c.tc : Thread Cert.MergeReferenceIdeal.nD Cert.MergeReferenceIdeal.τ).loc Cert.MergeReferenceIdeal.main_arg8))
        (m' ((c.tc : Thread Cert.MergeReferenceIdeal.nD Cert.MergeReferenceIdeal.τ).loc Cert.MergeReferenceIdeal.main_arg9)) :=
      ⟨fun r l => congrFun e0 _, fun r l => congrFun e1 _, fun r l => congrFun e2 _, fun r l => congrFun e3 _, fun l => congrFun e4 _, fun l => congrFun e5 _, fun r l => congrFun e6 _, fun r l => congrFun e7 _, fun r l => congrFun e8 _, fun r l => congrFun e9 _⟩
    exact ⟨h0.trans ((Cert.MergeReferenceIdeal.Read.val_main_v125_eq _).trans (Cert.MergeReferenceIdeal.Ref.v125 s)), h1.trans ((Cert.MergeReferenceIdeal.Read.val_main_v126_eq _).trans (Cert.MergeReferenceIdeal.Ref.v126 s f)), h2.trans ((Cert.MergeReferenceIdeal.Read.val_main_v128_eq _).trans (Cert.MergeReferenceIdeal.Ref.v128 s f)), h3.trans ((Cert.MergeReferenceIdeal.Read.val_main_v130_eq _).trans (Cert.MergeReferenceIdeal.Ref.v130 s f)), h4.trans ((Cert.MergeReferenceIdeal.Read.val_main_v132_eq _).trans (Cert.MergeReferenceIdeal.Ref.v132 s f)), h5.trans ((Cert.MergeReferenceIdeal.Read.val_main_v135_eq _).trans (Cert.MergeReferenceIdeal.Ref.v135 s f)), h6.trans ((Cert.MergeReferenceIdeal.Read.val_main_v136_eq _).trans (Cert.MergeReferenceIdeal.Ref.v136 s f)), h7.trans ((Cert.MergeReferenceIdeal.Read.val_main_v137_eq _).trans (Cert.MergeReferenceIdeal.Ref.v137 s f)), h8.trans ((Cert.MergeReferenceIdeal.Read.val_main_v139_eq _).trans (Cert.MergeReferenceIdeal.Ref.v139 s f)), h9.trans ((Cert.MergeReferenceIdeal.Read.val_main_v140_eq _).trans (Cert.MergeReferenceIdeal.Ref.v140 s f)), h10.trans ((Cert.MergeReferenceIdeal.Read.val_main_v143_eq _).trans (Cert.MergeReferenceIdeal.Ref.v143_arr s f)), h11.trans ((Cert.MergeReferenceIdeal.Read.val_main_v145_eq _).trans (Cert.MergeReferenceIdeal.Ref.v145_arr s f)), hk⟩

theorem hgrn_reference_frame : Cert.quiescent_HgrnFwdReferenceIdeal (hHgrnFwdReferenceIdeal := Cert.HgrnFwdReferenceIdeal.Gen.facts) := fun m g _ =>
  (θ_run Cert.HgrnFwdReferenceIdeal.defs _ _).mono (fun r h => ⟨fun c => (h c).2.2.2, sem_eq_zero_of_no_sems (by decide) r.2⟩)
    (Cert.HgrnFwdReferenceIdeal.Value.run (F := Ideal) m g)

theorem hgrn_value : Cert.algebraic_HgrnFwdIdeal_HgrnFwdReferenceIdeal_pre_hgrn_fwd_pre (hHgrnFwdIdeal := Cert.HgrnFwdIdeal.Gen.facts)
    (hHgrnFwdReferenceIdeal := Cert.HgrnFwdReferenceIdeal.Gen.facts) (hPre_hgrn_fwd_pre := Cert.Pre_hgrn_fwd_pre.Gen.facts) := by
  intro m g m' g' hp ha
  refine ⟨fun c => Cert.HgrnFwdIdeal.Arr.O m c, fun c => Cert.HgrnFwdIdeal.Arr.G m c, fun c => Cert.HgrnFwdIdeal.Arr.T m c, ?_, ?_⟩
  · refine (θ_run _ _ _).mono (fun r h c => ?_) (Cert.HgrnFwdIdeal.Value.run_blocks m g)
    obtain ⟨h0, h1, h2, hk⟩ := h c
    exact ⟨h0.trans (Cert.HgrnFwdIdeal.Arr.final_O m c), h1.trans (Cert.HgrnFwdIdeal.Arr.final_G m c), h2.trans (Cert.HgrnFwdIdeal.Arr.final_T m c), hk⟩
  · refine (θ_run _ _ _).mono (fun r h c => ?_) (Cert.HgrnFwdReferenceIdeal.Value.run m' g')
    obtain ⟨h0, h1, h2, hk⟩ := h c
    obtain ⟨e0, e1, e2⟩ := ha c
    have e : Cert.HgrnEq.Same m c m' := Cert.HgrnEq.same m c m' hp (fun i => congrFun e0 i) (fun i => congrFun e1 i) fun i => congrFun e2 i
    exact ⟨h0.trans (Cert.HgrnEq.O_eq e), h1.trans (Cert.HgrnEq.G_eq e), h2.trans (Cert.HgrnEq.T_eq e), hk⟩

theorem mod_reference_frame : Cert.quiescent_ModReferenceIdeal (hModReferenceIdeal := Cert.ModReferenceIdeal.Gen.facts) := fun m g _ =>
  (θ_run Cert.ModReferenceIdeal.defs _ _).mono (fun r h => ⟨fun c => (h c).2, sem_eq_zero_of_no_sems (by decide) r.2⟩)
    (Cert.ModReferenceIdeal.Value.run (F := Ideal) m g)

theorem mod_value : Cert.algebraic_ModKernelIdeal_ModReferenceIdeal (hModKernelIdeal := Cert.ModKernelIdeal.Gen.facts)
    (hModReferenceIdeal := Cert.ModReferenceIdeal.Gen.facts) := by
  intro m g m' g' _ ha
  refine ⟨fun c => Cert.ModKernelIdeal.Value.arr m c, ?_, ?_⟩
  · exact (θ_run _ _ _).mono (fun r h c => ⟨(h c).1.trans (Cert.ModKernelIdeal.Value.final m c), (h c).2⟩) (Cert.ModKernelIdeal.Value.run_blocks m g)
  · refine (θ_run _ _ _).mono (fun r h c => ?_) (Cert.ModReferenceIdeal.Value.run m' g')
    obtain ⟨h0, hk⟩ := h c
    obtain ⟨e0, e1, e2⟩ := ha c
    refine ⟨h0.trans ((Cert.ModReferenceIdeal.Read.val_main_v6_eq _ _ _).trans ?_), hk⟩
    rw [e0, e1, e2]
    exact Cert.ModKernelIdeal.Value.ref_eq _ _ _

theorem proj_reference_frame : Cert.quiescent_ProjReferenceIdeal (hProjReferenceIdeal := Cert.ProjReferenceIdeal.Gen.facts) := fun m g _ =>
  (θ_run Cert.ProjReferenceIdeal.defs _ _).mono (fun r h => ⟨fun c => (h c).2.2.2, sem_eq_zero_of_no_sems (by decide) r.2⟩)
    (Cert.ProjReferenceIdeal.Value.run (F := Ideal) m g)

theorem proj_value : Cert.algebraic_ProjKernelIdeal_ProjReferenceIdeal (hProjKernelIdeal := Cert.ProjKernelIdeal.Gen.facts)
    (hProjReferenceIdeal := Cert.ProjReferenceIdeal.Gen.facts) := by
  intro m g m' g' _ ha
  refine ⟨fun c => Cert.ProjKernelIdeal.Value.prod m c, fun c => Cert.ProjKernelIdeal.Value.rows8 m c,
    fun c => Cert.ProjKernelIdeal.Value.turned m c, Cert.ProjKernelIdeal.Value.run m g, ?_⟩
  refine (θ_run _ _ _).mono (fun r h c => ?_) (Cert.ProjReferenceIdeal.Value.run m' g')
  obtain ⟨h0, h1, h2, hk⟩ := h c
  obtain ⟨e0, e1, e2, e3, e4⟩ := ha c
  refine ⟨h0.trans ?_, h1.trans ?_, h2.trans ?_, hk⟩
  · refine (Cert.ProjReferenceIdeal.Read.val_main_v25_eq _ _ _ _ _).trans ?_
    rw [e0, e1, e2, e3, e4]
    exact Cert.ProjKernelIdeal.Value.ref_prod _ _ _ _ _
  · refine (Cert.ProjReferenceIdeal.Read.val_main_v27_eq _ _ _ _).trans ?_
    rw [e0, e1, e2, e3]
    exact Cert.ProjKernelIdeal.Value.ref_rows _ _ _ _
  · refine (Cert.ProjReferenceIdeal.Read.val_main_v30_eq _ _ _ _).trans ?_
    rw [e0, e1, e2, e3]
    exact Cert.ProjKernelIdeal.Value.ref_turned _ _ _ _

theorem dw3_reference_frame : Cert.quiescent_Dw3ReferenceIdeal (hDw3ReferenceIdeal := Cert.Dw3ReferenceIdeal.Gen.facts) := fun m g _ =>
  (θ_run Cert.Dw3ReferenceIdeal.defs _ _).mono (fun r h => ⟨fun c => (h c).2.2.2.2.2.2, sem_eq_zero_of_no_sems (by decide) r.2⟩)
    (Cert.Dw3ReferenceIdeal.Value.run (F := Ideal) m g)

theorem dw3_value : Cert.algebraic_Dw3KernelIdeal_Dw3ReferenceIdeal (hDw3KernelIdeal := Cert.Dw3KernelIdeal.Gen.facts)
    (hDw3ReferenceIdeal := Cert.Dw3ReferenceIdeal.Gen.facts) := by
  intro m g m' g' _ ha
  refine ⟨fun c => (Cert.Dw3KernelIdeal.Gen.dats m 0 c).arrAt 6 Cert.Dw3KernelIdeal.cfg0.N, fun c => (Cert.Dw3KernelIdeal.Gen.dats m 0 c).arrAt 7 Cert.Dw3KernelIdeal.cfg0.N, fun c => (Cert.Dw3KernelIdeal.Gen.dats m 0 c).arrAt 8 Cert.Dw3KernelIdeal.cfg0.N, fun c => (Cert.Dw3KernelIdeal.Gen.dats m 0 c).arrAt 9 Cert.Dw3KernelIdeal.cfg0.N, fun c => (Cert.Dw3KernelIdeal.Gen.dats m 0 c).arrAt 10 Cert.Dw3KernelIdeal.cfg0.N, fun c => (Cert.Dw3KernelIdeal.Gen.dats m 0 c).arrAt 11 Cert.Dw3KernelIdeal.cfg0.N,
    Cert.Dw3KernelIdeal.Value.run_blocks m g, ?_⟩
  refine (θ_run _ _ _).mono (fun r h c => ?_) (Cert.Dw3ReferenceIdeal.Value.run m' g')
  obtain ⟨h0, h1, h2, h3, h4, h5, hk⟩ := h c
  obtain ⟨e0, e1, e2, e3, e4, e5⟩ := ha c
  refine ⟨h0.trans ?_, h1.trans ?_, h2.trans ?_, h3.trans ?_, h4.trans ?_, h5.trans ?_, hk⟩
  · refine (Cert.Dw3ReferenceIdeal.Read.val_main_v17_eq _ _).trans ?_
    rw [e4, e5]
    exact (Cert.Dw3KernelIdeal.Value.ref17 _ _).trans (Cert.Dw3KernelIdeal.Value.final6 m c).symm
  · refine (Cert.Dw3ReferenceIdeal.Read.val_main_v18_eq _ _).trans ?_
    rw [e4, e5]
    exact (Cert.Dw3KernelIdeal.Value.ref18 _ _).trans (Cert.Dw3KernelIdeal.Value.final7 m c).symm
  · refine (Cert.Dw3ReferenceIdeal.Read.val_main_v15_eq _ _).trans ?_
    rw [e0, e1]
    exact (Cert.Dw3KernelIdeal.Value.ref15 _ _).trans (Cert.Dw3KernelIdeal.Value.final8 m c).symm
  · refine (Cert.Dw3ReferenceIdeal.Read.val_main_v19_eq _ _).trans ?_
    rw [e0, e1]
    exact (Cert.Dw3KernelIdeal.Value.ref19 _ _).trans (Cert.Dw3KernelIdeal.Value.final9 m c).symm
  · refine (Cert.Dw3ReferenceIdeal.Read.val_main_v13_eq _ _).trans ?_
    rw [e2, e3]
    exact (Cert.Dw3KernelIdeal.Value.ref13 _ _).trans (Cert.Dw3KernelIdeal.Value.final10 m c).symm
  · refine (Cert.Dw3ReferenceIdeal.Read.val_main_v20_eq _ _).trans ?_
    rw [e2, e3]
    exact (Cert.Dw3KernelIdeal.Value.ref20 _ _).trans (Cert.Dw3KernelIdeal.Value.final11 m c).symm

theorem dwin_reference_frame : Cert.quiescent_DwinReferenceIdeal (hDwinReferenceIdeal := Cert.DwinReferenceIdeal.Gen.facts) := fun m g _ =>
  (θ_run Cert.DwinReferenceIdeal.defs _ _).mono (fun r h => ⟨fun c => (h c).2.2, sem_eq_zero_of_no_sems (by decide) r.2⟩)
    (Cert.DwinReferenceIdeal.Value.run (F := Ideal) m g)

theorem dwin_value : Cert.algebraic_DwinKernelIdeal_DwinReferenceIdeal (hDwinKernelIdeal := Cert.DwinKernelIdeal.Gen.facts)
    (hDwinReferenceIdeal := Cert.DwinReferenceIdeal.Gen.facts) := by
  intro m g m' g' _ ha
  refine ⟨fun c => (Cert.DwinKernelIdeal.Gen.dats m 0 c).arrAt 7 Cert.DwinKernelIdeal.cfg0.N, fun c => (Cert.DwinKernelIdeal.Gen.dats m 0 c).arrAt 8 Cert.DwinKernelIdeal.cfg0.N,
    Cert.DwinKernelIdeal.Value.run_blocks m g, ?_⟩
  refine (θ_run _ _ _).mono (fun r h c => ?_) (Cert.DwinReferenceIdeal.Value.run m' g')
  obtain ⟨h0, h1, hk⟩ := h c
  obtain ⟨e0, e1⟩ := ha c
  refine ⟨h0.trans ?_, h1.trans ?_, hk⟩
  · refine (Cert.DwinReferenceIdeal.Read.val_main_v7_eq _ _).trans ?_
    rw [e0, e1]
    exact (Cert.DwinKernelIdeal.Value.ref7 _ _).trans (Cert.DwinKernelIdeal.Value.final7 m c).symm
  · refine (Cert.DwinReferenceIdeal.Read.val_main_v8_eq _ _).trans ?_
    rw [e0, e1]
    exact (Cert.DwinKernelIdeal.Value.ref8 _ _).trans (Cert.DwinKernelIdeal.Value.final8 m c).symm

theorem ada_reference_frame : Cert.quiescent_AdaReferenceIdeal (hAdaReferenceIdeal := Cert.AdaReferenceIdeal.Gen.facts) := fun m g _ =>
  (θ_run Cert.AdaReferenceIdeal.defs _ _).mono (fun r h => ⟨fun c => (h c).2.2.2.2, sem_eq_zero_of_no_sems (by decide) r.2⟩)
    (Cert.AdaReferenceIdeal.Value.run (F := Ideal) m g)

theorem ada_value : Cert.algebraic_AdaKernelIdeal_AdaReferenceIdeal (hAdaKernelIdeal := Cert.AdaKernelIdeal.Gen.facts)
    (hAdaReferenceIdeal := Cert.AdaReferenceIdeal.Gen.facts) := by
  intro m g m' g' _ ha
  refine ⟨fun c => (Cert.AdaKernelIdeal.Gen.dats m 0 c).arrAt 5 Cert.AdaKernelIdeal.cfg0.N, fun c => (Cert.AdaKernelIdeal.Gen.dats m 0 c).arrAt 6 Cert.AdaKernelIdeal.cfg0.N, fun c => (Cert.AdaKernelIdeal.Gen.dats m 0 c).arrAt 7 Cert.AdaKernelIdeal.cfg0.N, fun c => (Cert.AdaKernelIdeal.Gen.dats m 0 c).arrAt 8 Cert.AdaKernelIdeal.cfg0.N,
    Cert.AdaKernelIdeal.Value.run_blocks m g, ?_⟩
  refine (θ_run _ _ _).mono (fun r h c => ?_) (Cert.AdaReferenceIdeal.Value.run m' g')
  obtain ⟨h0, h1, h2, h3, hk⟩ := h c
  obtain ⟨e0, e1, e2, e3, e4⟩ := ha c
  refine ⟨h0.trans ?_, h1.trans ?_, h2.trans ?_, h3.trans ?_, hk⟩
  · refine (Cert.AdaReferenceIdeal.Read.val_main_v4_eq _ _).trans ?_
    rw [e0, e1]
    exact (Cert.AdaKernelIdeal.Value.ref_g _ _).trans (Cert.AdaKernelIdeal.Value.final5 m c).symm
  · refine (Cert.AdaReferenceIdeal.Read.val_main_v31_eq _ _ _ _ _).trans ?_
    rw [e0, e1, e2, e3, e4]
    exact (Cert.AdaKernelIdeal.Value.ref_d _ _ _ _ _).trans (Cert.AdaKernelIdeal.Value.final6 m c).symm
  · refine (Cert.AdaReferenceIdeal.Read.val_main_v12_eq _ _ _).trans ?_
    rw [e0, e1, e3]
    exact (Cert.AdaKernelIdeal.Value.ref_m _ _ _).trans (Cert.AdaKernelIdeal.Value.final7 m c).symm
  · refine (Cert.AdaReferenceIdeal.Read.val_main_v18_eq _ _ _).trans ?_
    rw [e0, e1, e4]
    exact (Cert.AdaKernelIdeal.Value.ref_v _ _ _).trans (Cert.AdaKernelIdeal.Value.final8 m c).symm

theorem adamw_reference_frame : Cert.quiescent_AdamwReferenceIdeal (hAdamwReferenceIdeal := Cert.AdamwReferenceIdeal.Gen.facts) := fun m g _ =>
  (θ_run Cert.AdamwReferenceIdeal.defs _ _).mono (fun r h => ⟨fun c => (h c).2.2.2.2, sem_eq_zero_of_no_sems (by decide) r.2⟩)
    (Cert.AdamwReferenceIdeal.Value.run (F := Ideal) m g)

theorem adamw_value : Cert.algebraic_AdamwKernelIdeal_AdamwReferenceIdeal (hAdamwKernelIdeal := Cert.AdamwKernelIdeal.Gen.facts)
    (hAdamwReferenceIdeal := Cert.AdamwReferenceIdeal.Gen.facts) := by
  intro m g m' g' _ ha
  refine ⟨fun c => (Cert.AdamwKernelIdeal.Gen.dats m 0 c).arrAt 4 Cert.AdamwKernelIdeal.cfg0.N, fun c => (Cert.AdamwKernelIdeal.Gen.dats m 0 c).arrAt 5 Cert.AdamwKernelIdeal.cfg0.N, fun c => (Cert.AdamwKernelIdeal.Gen.dats m 0 c).arrAt 6 Cert.AdamwKernelIdeal.cfg0.N, fun c => (Cert.AdamwKernelIdeal.Gen.dats m 0 c).arrAt 7 Cert.AdamwKernelIdeal.cfg0.N,
    Cert.AdamwKernelIdeal.Value.run_blocks m g, ?_⟩
  refine (θ_run _ _ _).mono (fun r h c => ?_) (Cert.AdamwReferenceIdeal.Value.run m' g')
  obtain ⟨h0, h1, h2, h3, hk⟩ := h c
  obtain ⟨e0, e1, e2, e3⟩ := ha c
  refine ⟨h0.trans ?_, h1.trans ?_, h2.trans ?_, h3.trans ?_, hk⟩
  · rw [e1]
    exact (Cert.AdamwKernelIdeal.Value.ref_g _).trans (Cert.AdamwKernelIdeal.Value.final4 m c).symm
  · refine (Cert.AdamwReferenceIdeal.Read.val_main_v26_eq _ _ _ _).trans ?_
    rw [e0, e1, e2, e3]
    exact (Cert.AdamwKernelIdeal.Value.ref_d _ _ _ _).trans (Cert.AdamwKernelIdeal.Value.final5 m c).symm
  · refine (Cert.AdamwReferenceIdeal.Read.val_main_v7_eq _ _).trans ?_
    rw [e1, e2]
    exact (Cert.AdamwKernelIdeal.Value.ref_m _ _).trans (Cert.AdamwKernelIdeal.Value.final6 m c).symm
  · refine (Cert.AdamwReferenceIdeal.Read.val_main_v13_eq _ _).trans ?_
    rw [e1, e3]
    exact (Cert.AdamwKernelIdeal.Value.ref_v _ _).trans (Cert.AdamwKernelIdeal.Value.final7 m c).symm

theorem sum8_reference_frame : Cert.quiescent_Sum8ReferenceIdeal (hSum8ReferenceIdeal := Cert.Sum8ReferenceIdeal.Gen.facts) := fun m g _ =>
  (θ_run Cert.Sum8ReferenceIdeal.defs _ _).mono (fun r h => ⟨fun c => (h c).2, sem_eq_zero_of_no_sems (by decide) r.2⟩)
    (Cert.Sum8ReferenceIdeal.Value.run (F := Ideal) m g)

theorem sum8_value : Cert.algebraic_Sum8KernelIdeal_Sum8ReferenceIdeal (hSum8KernelIdeal := Cert.Sum8KernelIdeal.Gen.facts)
    (hSum8ReferenceIdeal := Cert.Sum8ReferenceIdeal.Gen.facts) := by
  intro m g m' g' _ ha
  refine ⟨fun c => Cert.Sum8KernelIdeal.Value.G1 (m ((c.tc : Thread Cert.Sum8KernelIdeal.nD Cert.Sum8KernelIdeal.τ).loc Cert.Sum8KernelIdeal.main_arg0)), Cert.Sum8KernelIdeal.Value.run m g, ?_⟩
  refine (θ_run _ _ _).mono (fun r h c => ?_) (Cert.Sum8ReferenceIdeal.Value.run m' g')
  obtain ⟨h0, hk⟩ := h c
  obtain e0 := ha c
  refine ⟨h0.trans ?_, hk⟩
  · refine (Cert.Sum8ReferenceIdeal.Read.val_main_v0_eq _).trans ?_
    rw [e0]
    exact (Cert.Sum8KernelIdeal.Value.ref_eq _)

theorem many_reference_frame : Cert.quiescent_ManyReferenceIdeal (hManyReferenceIdeal := Cert.ManyReferenceIdeal.Gen.facts) := fun m g _ =>
  (θ_run Cert.ManyReferenceIdeal.defs _ _).mono (fun r h => ⟨fun c => (h c).2.2.2.2.2.2.2.2.2.2.2.2, sem_eq_zero_of_no_sems (by decide) r.2⟩)
    (Cert.ManyReferenceIdeal.Value.run (F := Ideal) m g)

set_option maxHeartbeats 2000000 in
theorem many_value : Cert.algebraic_ManyKernelIdeal_ManyReferenceIdeal (hManyKernelIdeal := Cert.ManyKernelIdeal.Gen.facts)
    (hManyReferenceIdeal := Cert.ManyReferenceIdeal.Gen.facts) := by
  intro m g m' g' _ ha
  refine ⟨fun c => (Cert.ManyKernelIdeal.Gen.dats m 0 c).arrAt 12 Cert.ManyKernelIdeal.cfg0.N, fun c => (Cert.ManyKernelIdeal.Gen.dats m 0 c).arrAt 13 Cert.ManyKernelIdeal.cfg0.N, fun c => (Cert.ManyKernelIdeal.Gen.dats m 0 c).arrAt 14 Cert.ManyKernelIdeal.cfg0.N, fun c => (Cert.ManyKernelIdeal.Gen.dats m 0 c).arrAt 15 Cert.ManyKernelIdeal.cfg0.N, fun c => (Cert.ManyKernelIdeal.Gen.dats m 0 c).arrAt 16 Cert.ManyKernelIdeal.cfg0.N, fun c => (Cert.ManyKernelIdeal.Gen.dats m 0 c).arrAt 17 Cert.ManyKernelIdeal.cfg0.N, fun c => (Cert.ManyKernelIdeal.Gen.dats m 0 c).arrAt 18 Cert.ManyKernelIdeal.cfg0.N, fun c => (Cert.ManyKernelIdeal.Gen.dats m 0 c).arrAt 19 Cert.ManyKernelIdeal.cfg0.N, fun c => (Cert.ManyKernelIdeal.Gen.dats m 0 c).arrAt 20 Cert.ManyKernelIdeal.cfg0.N, fun c => (Cert.ManyKernelIdeal.Gen.dats m 0 c).arrAt 21 Cert.ManyKernelIdeal.cfg0.N, fun c => (Cert.ManyKernelIdeal.Gen.dats m 0 c).arrAt 22 Cert.ManyKernelIdeal.cfg0.N, fun c => (Cert.ManyKernelIdeal.Gen.dats m 0 c).arrAt 23 Cert.ManyKernelIdeal.cfg0.N,
    Cert.ManyKernelIdeal.Value.run_blocks m g, ?_⟩
  refine (θ_run _ _ _).mono (fun r h c => ?_) (Cert.ManyReferenceIdeal.Value.run m' g')
  obtain ⟨h0, h1, h2, h3, h4, h5, h6, h7, h8, h9, h10, h11, hk⟩ := h c
  obtain ⟨e0, e1, e2, e3, e4, e5, e6, e7, e8, e9, e10, e11⟩ := ha c
  refine ⟨h0.trans ?_, h1.trans ?_, h2.trans ?_, h3.trans ?_, h4.trans ?_, h5.trans ?_, h6.trans ?_, h7.trans ?_, h8.trans ?_, h9.trans ?_, h10.trans ?_, h11.trans ?_, hk⟩
  · rw [e1]
    exact (Cert.ManyKernelIdeal.Value.final12 m c).symm
  · refine (Cert.ManyReferenceIdeal.Read.val_main_v26_eq _ _ _ _).trans ?_
    rw [e0, e1, e2, e3]
    exact (Cert.ManyKernelIdeal.Value.final13 m c).symm
  · refine (Cert.ManyReferenceIdeal.Read.val_main_v7_eq _ _).trans ?_
    rw [e1, e2]
    exact (Cert.ManyKernelIdeal.Value.final14 m c).symm
  · refine (Cert.ManyReferenceIdeal.Read.val_main_v13_eq _ _).trans ?_
    rw [e1, e3]
    exact (Cert.ManyKernelIdeal.Value.final15 m c).symm
  · rw [e5]
    exact (Cert.ManyKernelIdeal.Value.final16 m c).symm
  · refine (Cert.ManyReferenceIdeal.Read.val_main_v53_eq _ _ _ _).trans ?_
    rw [e4, e5, e6, e7]
    exact (Cert.ManyKernelIdeal.Value.final17 m c).symm
  · refine (Cert.ManyReferenceIdeal.Read.val_main_v34_eq _ _).trans ?_
    rw [e5, e6]
    exact (Cert.ManyKernelIdeal.Value.final18 m c).symm
  · refine (Cert.ManyReferenceIdeal.Read.val_main_v40_eq _ _).trans ?_
    rw [e5, e7]
    exact (Cert.ManyKernelIdeal.Value.final19 m c).symm
  · rw [e9]
    exact (Cert.ManyKernelIdeal.Value.final20 m c).symm
  · refine (Cert.ManyReferenceIdeal.Read.val_main_v80_eq _ _ _ _).trans ?_
    rw [e8, e9, e10, e11]
    exact (Cert.ManyKernelIdeal.Value.final21 m c).symm
  · refine (Cert.ManyReferenceIdeal.Read.val_main_v61_eq _ _).trans ?_
    rw [e9, e10]
    exact (Cert.ManyKernelIdeal.Value.final22 m c).symm
  · refine (Cert.ManyReferenceIdeal.Read.val_main_v67_eq _ _).trans ?_
    rw [e9, e11]
    exact (Cert.ManyKernelIdeal.Value.final23 m c).symm

theorem half_reference_frame : Cert.quiescent_HalfReferenceIdeal (hHalfReferenceIdeal := Cert.HalfReferenceIdeal.Gen.facts) := fun m g _ =>
  (θ_run Cert.HalfReferenceIdeal.defs _ _).mono (fun r h => ⟨fun c => (h c).2.2, sem_eq_zero_of_no_sems (by decide) r.2⟩)
    (Cert.HalfReferenceIdeal.Value.run (F := Ideal) m g)

theorem half_value : Cert.algebraic_HalfKernelIdeal_HalfReferenceIdeal (hHalfKernelIdeal := Cert.HalfKernelIdeal.Gen.facts)
    (hHalfReferenceIdeal := Cert.HalfReferenceIdeal.Gen.facts) := by
  intro m g m' g' _ ha
  refine ⟨fun c => Cert.HalfKernelIdeal.Value.G2 (F := Ideal) (m ((c.tc : Thread Cert.HalfKernelIdeal.nD Cert.HalfKernelIdeal.τ).loc Cert.HalfKernelIdeal.main_arg0)) (m ((c.tc : Thread Cert.HalfKernelIdeal.nD Cert.HalfKernelIdeal.τ).loc Cert.HalfKernelIdeal.main_arg1)),
    fun c => Cert.HalfKernelIdeal.Value.G3 (F := Ideal) (m ((c.tc : Thread Cert.HalfKernelIdeal.nD Cert.HalfKernelIdeal.τ).loc Cert.HalfKernelIdeal.main_arg0)) (m ((c.tc : Thread Cert.HalfKernelIdeal.nD Cert.HalfKernelIdeal.τ).loc Cert.HalfKernelIdeal.main_arg1)), Cert.HalfKernelIdeal.Value.run m g, ?_⟩
  refine (θ_run _ _ _).mono (fun r h c => ?_) (Cert.HalfReferenceIdeal.Value.run m' g')
  obtain ⟨h0, h1, hk⟩ := h c
  obtain ⟨e0, e1⟩ := ha c
  refine ⟨h0.trans ?_, h1.trans ?_, hk⟩
  · refine (Cert.HalfReferenceIdeal.Read.val_main_v2_eq _ _).trans ?_
    rw [e0, e1]
    exact (Cert.HalfKernelIdeal.Value.ref2 _ _)
  · refine (Cert.HalfReferenceIdeal.Read.val_main_v3_eq _ _).trans ?_
    rw [e0, e1]
    exact (Cert.HalfKernelIdeal.Value.ref3 _ _)

theorem cast_reference_frame : Cert.quiescent_CastReferenceIdeal (hCastReferenceIdeal := Cert.CastReferenceIdeal.Gen.facts) := fun m g _ =>
  (θ_run Cert.CastReferenceIdeal.defs _ _).mono (fun r h => ⟨fun c => (h c).2, sem_eq_zero_of_no_sems (by decide) r.2⟩)
    (Cert.CastReferenceIdeal.Value.run (F := Ideal) m g)

theorem cast_value : Cert.algebraic_CastKernelIdeal_CastReferenceIdeal (hCastKernelIdeal := Cert.CastKernelIdeal.Gen.facts)
    (hCastReferenceIdeal := Cert.CastReferenceIdeal.Gen.facts) := by
  intro m g m' g' _ ha
  refine ⟨fun c => (Cert.CastKernelIdeal.Gen.dats m 0 c).arrAt 2 Cert.CastKernelIdeal.cfg0.N,
    (θ_run _ _ _).mono (fun r h c => (h c).2) (Cert.CastKernelIdeal.Value.run_blocks m g), ?_⟩
  refine (θ_run _ _ _).mono (fun r h c => ?_) (Cert.CastReferenceIdeal.Value.run m' g')
  obtain ⟨h0, hk⟩ := h c
  obtain e0 := ha c
  refine ⟨h0.trans ?_, hk⟩
  · refine (Cert.CastReferenceIdeal.Read.val_main_v1_eq _).trans ?_
    rw [e0]
    exact (Cert.CastKernelIdeal.Value.ref1 _).trans (Cert.CastKernelIdeal.Value.final2 m c).symm

theorem claim : Cert.Claim := ⟨Cert.DhKernel.Gen.facts, Cert.DhKernelIdeal.Gen.facts, Cert.DhReferenceIdeal.Gen.facts,
  Cert.MergeKernel.Gen.facts, Cert.MergeKernelIdeal.Gen.facts, Cert.MergeReferenceIdeal.Gen.facts,
  Cert.HgrnFwd.Gen.facts, Cert.HgrnFwdIdeal.Gen.facts, Cert.HgrnFwdReferenceIdeal.Gen.facts,
  Cert.HgrnBwd.Gen.facts, Cert.HgrnBwdIdeal.Gen.facts, Cert.ModKernel.Gen.facts, Cert.ModKernelIdeal.Gen.facts, Cert.ModReferenceIdeal.Gen.facts,
  Cert.ProjKernel.Gen.facts, Cert.ProjKernelIdeal.Gen.facts, Cert.ProjReferenceIdeal.Gen.facts, Cert.AttnFwd.Gen.facts, Cert.AttnFwdIdeal.Gen.facts,
  Cert.Dw3Kernel.Gen.facts, Cert.Dw3KernelIdeal.Gen.facts, Cert.Dw3ReferenceIdeal.Gen.facts,
  Cert.DwinKernel.Gen.facts, Cert.DwinKernelIdeal.Gen.facts, Cert.DwinReferenceIdeal.Gen.facts,
  Cert.AdaKernel.Gen.facts, Cert.AdaKernelIdeal.Gen.facts, Cert.AdaReferenceIdeal.Gen.facts,
  Cert.AdamwKernel.Gen.facts, Cert.AdamwKernelIdeal.Gen.facts, Cert.AdamwReferenceIdeal.Gen.facts,
  Cert.Sum8Kernel.Gen.facts, Cert.Sum8KernelIdeal.Gen.facts, Cert.Sum8ReferenceIdeal.Gen.facts,
  Cert.ManyKernel.Gen.facts, Cert.ManyKernelIdeal.Gen.facts, Cert.ManyReferenceIdeal.Gen.facts,
  Cert.HalfKernel.Gen.facts, Cert.HalfKernelIdeal.Gen.facts, Cert.HalfReferenceIdeal.Gen.facts,
  Cert.CastKernel.Gen.facts, Cert.CastKernelIdeal.Gen.facts, Cert.CastReferenceIdeal.Gen.facts,
  Cert.Pre_dh_finite.Gen.facts, Cert.Pre_merge_finite.Gen.facts, Cert.Pre_hgrn_fwd_pre.Gen.facts,
  fun m ρ _ => Cert.DhKernel.Gen.frame m ρ, fun m ρ _ => Cert.DhKernelIdeal.Gen.frame m ρ, fun m ρ _ => Cert.DhKernelIdeal.Gen.frame m ρ,
  dh_reference_frame, fun m ρ _ => dh_reference_frame m ρ trivial,
  fun m ρ _ => Cert.MergeKernel.Gen.frame m ρ, fun m ρ _ => Cert.MergeKernelIdeal.Gen.frame m ρ, fun m ρ _ => Cert.MergeKernelIdeal.Gen.frame m ρ,
  merge_reference_frame, fun m ρ _ => merge_reference_frame m ρ trivial,
  fun m ρ _ => Cert.HgrnFwd.Gen.frame m ρ, fun m ρ _ => Cert.HgrnFwdIdeal.Gen.frame m ρ, fun m ρ _ => Cert.HgrnFwdIdeal.Gen.frame m ρ,
  hgrn_reference_frame, fun m ρ _ => hgrn_reference_frame m ρ trivial,
  fun m ρ _ => Cert.HgrnBwd.Gen.frame m ρ, fun m ρ _ => Cert.HgrnBwdIdeal.Gen.frame m ρ,
  fun m ρ _ => Cert.ModKernel.Gen.frame m ρ, fun m ρ _ => Cert.ModKernelIdeal.Gen.frame m ρ, mod_reference_frame,
  fun m ρ _ => Cert.ProjKernel.Gen.frame m ρ, fun m ρ _ => Cert.ProjKernelIdeal.Gen.frame m ρ, proj_reference_frame,
  fun m ρ _ => Cert.AttnFwd.Gen.frame m ρ, fun m ρ _ => Cert.AttnFwdIdeal.Gen.frame m ρ,
  fun m ρ _ => Cert.Dw3Kernel.Gen.frame m ρ, fun m ρ _ => Cert.Dw3KernelIdeal.Gen.frame m ρ, dw3_reference_frame,
  fun m ρ _ => Cert.DwinKernel.Gen.frame m ρ, fun m ρ _ => Cert.DwinKernelIdeal.Gen.frame m ρ, dwin_reference_frame,
  fun m ρ _ => Cert.AdaKernel.Gen.frame m ρ, fun m ρ _ => Cert.AdaKernelIdeal.Gen.frame m ρ, ada_reference_frame,
  fun m ρ _ => Cert.AdamwKernel.Gen.frame m ρ, fun m ρ _ => Cert.AdamwKernelIdeal.Gen.frame m ρ, adamw_reference_frame,
  fun m ρ _ => Cert.Sum8Kernel.Gen.frame m ρ, fun m ρ _ => Cert.Sum8KernelIdeal.Gen.frame m ρ, sum8_reference_frame,
  fun m ρ _ => Cert.ManyKernel.Gen.frame m ρ, fun m ρ _ => Cert.ManyKernelIdeal.Gen.frame m ρ, many_reference_frame,
  fun m ρ _ => Cert.HalfKernel.Gen.frame m ρ, fun m ρ _ => Cert.HalfKernelIdeal.Gen.frame m ρ, half_reference_frame,
  fun m ρ _ => Cert.CastKernel.Gen.frame m ρ, fun m ρ _ => Cert.CastKernelIdeal.Gen.frame m ρ, cast_reference_frame,
  trivial, dh_value, trivial, merge_value, trivial, hgrn_value, trivial, trivial, mod_value, trivial, proj_value, trivial,
  trivial, dw3_value, trivial, dwin_value, trivial, ada_value, trivial, adamw_value, trivial, sum8_value,
  trivial, many_value, trivial, half_value, trivial, cast_value⟩

end Cert.Proof

end
